-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GradWUp (m : (ℓ : Loc Cert.GradWUp.nD Cert.GradWUp.τ Cert.GradWUp.sig) → Buf (Elt Bits) ℓ) : Prop :=
  True

def Pre_GradWUpIdeal (m : (ℓ : Loc Cert.GradWUpIdeal.nD Cert.GradWUpIdeal.τ Cert.GradWUpIdeal.sig) → Buf (Elt Ideal) ℓ) : Prop :=
  True

def Pre_GradWUpRefIdeal (m : (ℓ : Loc Cert.GradWUpRefIdeal.nD Cert.GradWUpRefIdeal.τ Cert.GradWUpRefIdeal.sig) → Buf (Elt Ideal) ℓ) : Prop :=
  True

def Pre_GradWDown (m : (ℓ : Loc Cert.GradWDown.nD Cert.GradWDown.τ Cert.GradWDown.sig) → Buf (Elt Bits) ℓ) : Prop :=
  True

def Pre_GradWDownIdeal (m : (ℓ : Loc Cert.GradWDownIdeal.nD Cert.GradWDownIdeal.τ Cert.GradWDownIdeal.sig) → Buf (Elt Ideal) ℓ) : Prop :=
  True

def Pre_GradWDownRefIdeal (m : (ℓ : Loc Cert.GradWDownRefIdeal.nD Cert.GradWDownRefIdeal.τ Cert.GradWDownRefIdeal.sig) → Buf (Elt Ideal) ℓ) : Prop :=
  True

def Pre_GradWOut (m : (ℓ : Loc Cert.GradWOut.nD Cert.GradWOut.τ Cert.GradWOut.sig) → Buf (Elt Bits) ℓ) : Prop :=
  True

def Pre_GradWOutIdeal (m : (ℓ : Loc Cert.GradWOutIdeal.nD Cert.GradWOutIdeal.τ Cert.GradWOutIdeal.sig) → Buf (Elt Ideal) ℓ) : Prop :=
  True

def Pre_GradWOutRefIdeal (m : (ℓ : Loc Cert.GradWOutRefIdeal.nD Cert.GradWOutRefIdeal.τ Cert.GradWOutRefIdeal.sig) → Buf (Elt Ideal) ℓ) : Prop :=
  True

def Pre_GradWIn (m : (ℓ : Loc Cert.GradWIn.nD Cert.GradWIn.τ Cert.GradWIn.sig) → Buf (Elt Bits) ℓ) : Prop :=
  True

def Pre_GradWInIdeal (m : (ℓ : Loc Cert.GradWInIdeal.nD Cert.GradWInIdeal.τ Cert.GradWInIdeal.sig) → Buf (Elt Ideal) ℓ) : Prop :=
  True

def Pre_GradWInRefIdeal (m : (ℓ : Loc Cert.GradWInRefIdeal.nD Cert.GradWInRefIdeal.τ Cert.GradWInRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DCat (m : (ℓ : Loc Cert.DCat.nD Cert.DCat.τ Cert.DCat.sig) → Buf (Elt Bits) ℓ) : Prop :=
  True

def Pre_DCatIdeal (m : (ℓ : Loc Cert.DCatIdeal.nD Cert.DCatIdeal.τ Cert.DCatIdeal.sig) → Buf (Elt Ideal) ℓ) : Prop :=
  True

def Pre_DCatRefIdeal (m : (ℓ : Loc Cert.DCatRefIdeal.nD Cert.DCatRefIdeal.τ Cert.DCatRefIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdRefIdeal (m : (ℓ : Loc Cert.ProjBwdRefIdeal.nD Cert.ProjBwdRefIdeal.τ Cert.ProjBwdRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamWUp (m : (ℓ : Loc Cert.AdamWUp.nD Cert.AdamWUp.τ Cert.AdamWUp.sig) → Buf (Elt Bits) ℓ) : Prop :=
  True

def Pre_AdamWUpIdeal (m : (ℓ : Loc Cert.AdamWUpIdeal.nD Cert.AdamWUpIdeal.τ Cert.AdamWUpIdeal.sig) → Buf (Elt Ideal) ℓ) : Prop :=
  True

def Pre_AdamWUpRefIdeal (m : (ℓ : Loc Cert.AdamWUpRefIdeal.nD Cert.AdamWUpRefIdeal.τ Cert.AdamWUpRefIdeal.sig) → Buf (Elt Ideal) ℓ) : Prop :=
  True

def Pre_AdamWDown (m : (ℓ : Loc Cert.AdamWDown.nD Cert.AdamWDown.τ Cert.AdamWDown.sig) → Buf (Elt Bits) ℓ) : Prop :=
  True

def Pre_AdamWDownIdeal (m : (ℓ : Loc Cert.AdamWDownIdeal.nD Cert.AdamWDownIdeal.τ Cert.AdamWDownIdeal.sig) → Buf (Elt Ideal) ℓ) : Prop :=
  True

def Pre_AdamWDownRefIdeal (m : (ℓ : Loc Cert.AdamWDownRefIdeal.nD Cert.AdamWDownRefIdeal.τ Cert.AdamWDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdIdeal_finite [hPre_finite : Cert.Pre_finite.Facts] (m : (ℓ : Loc Cert.ProjFwdIdeal.nD Cert.ProjFwdIdeal.τ Cert.ProjFwdIdeal.sig) → Buf (Elt Ideal) ℓ) : Prop :=
  ∀ c : Dev Cert.ProjFwdIdeal.nD,
    (Cert.Pre_finite.fn (F := Ideal) (m ((c.tc : Thread Cert.ProjFwdIdeal.nD Cert.ProjFwdIdeal.τ).loc Cert.ProjFwdIdeal.main_arg0)) (m ((c.tc : Thread Cert.ProjFwdIdeal.nD Cert.ProjFwdIdeal.τ).loc Cert.ProjFwdIdeal.main_arg1)) (m ((c.tc : Thread Cert.ProjFwdIdeal.nD Cert.ProjFwdIdeal.τ).loc Cert.ProjFwdIdeal.main_arg2)) (m ((c.tc : Thread Cert.ProjFwdIdeal.nD Cert.ProjFwdIdeal.τ).loc Cert.ProjFwdIdeal.main_arg3))).1 = (fun _ => 1#1)
    ∧ (Cert.Pre_finite.fn (F := Ideal) (m ((c.tc : Thread Cert.ProjFwdIdeal.nD Cert.ProjFwdIdeal.τ).loc Cert.ProjFwdIdeal.main_arg0)) (m ((c.tc : Thread Cert.ProjFwdIdeal.nD Cert.ProjFwdIdeal.τ).loc Cert.ProjFwdIdeal.main_arg1)) (m ((c.tc : Thread Cert.ProjFwdIdeal.nD Cert.ProjFwdIdeal.τ).loc Cert.ProjFwdIdeal.main_arg2)) (m ((c.tc : Thread Cert.ProjFwdIdeal.nD Cert.ProjFwdIdeal.τ).loc Cert.ProjFwdIdeal.main_arg3))).2 = (fun _ => 1#1)

def Pre_ProjFwdRefIdeal (m : (ℓ : Loc Cert.ProjFwdRefIdeal.nD Cert.ProjFwdRefIdeal.τ Cert.ProjFwdRefIdeal.sig) → Buf (Elt Ideal) ℓ) : Prop :=
  True

def Pre_ProjFwdRefIdeal_finite [hPre_finite : Cert.Pre_finite.Facts] (m : (ℓ : Loc Cert.ProjFwdRefIdeal.nD Cert.ProjFwdRefIdeal.τ Cert.ProjFwdRefIdeal.sig) → Buf (Elt Ideal) ℓ) : Prop :=
  ∀ c : Dev Cert.ProjFwdRefIdeal.nD,
    (Cert.Pre_finite.fn (F := Ideal) (m ((c.tc : Thread Cert.ProjFwdRefIdeal.nD Cert.ProjFwdRefIdeal.τ).loc Cert.ProjFwdRefIdeal.main_arg0)) (m ((c.tc : Thread Cert.ProjFwdRefIdeal.nD Cert.ProjFwdRefIdeal.τ).loc Cert.ProjFwdRefIdeal.main_arg1)) (m ((c.tc : Thread Cert.ProjFwdRefIdeal.nD Cert.ProjFwdRefIdeal.τ).loc Cert.ProjFwdRefIdeal.main_arg2)) (m ((c.tc : Thread Cert.ProjFwdRefIdeal.nD Cert.ProjFwdRefIdeal.τ).loc Cert.ProjFwdRefIdeal.main_arg3))).1 = (fun _ => 1#1)
    ∧ (Cert.Pre_finite.fn (F := Ideal) (m ((c.tc : Thread Cert.ProjFwdRefIdeal.nD Cert.ProjFwdRefIdeal.τ).loc Cert.ProjFwdRefIdeal.main_arg0)) (m ((c.tc : Thread Cert.ProjFwdRefIdeal.nD Cert.ProjFwdRefIdeal.τ).loc Cert.ProjFwdRefIdeal.main_arg1)) (m ((c.tc : Thread Cert.ProjFwdRefIdeal.nD Cert.ProjFwdRefIdeal.τ).loc Cert.ProjFwdRefIdeal.main_arg2)) (m ((c.tc : Thread Cert.ProjFwdRefIdeal.nD Cert.ProjFwdRefIdeal.τ).loc Cert.ProjFwdRefIdeal.main_arg3))).2 = (fun _ => 1#1)

def Pre_UpFwdAct (m : (ℓ : Loc Cert.UpFwdAct.nD Cert.UpFwdAct.τ Cert.UpFwdAct.sig) → Buf (Elt Bits) ℓ) : Prop :=
  True

def Pre_UpFwdActIdeal (m : (ℓ : Loc Cert.UpFwdActIdeal.nD Cert.UpFwdActIdeal.τ Cert.UpFwdActIdeal.sig) → Buf (Elt Ideal) ℓ) : Prop :=
  True

def Pre_UpFwdActRefIdeal (m : (ℓ : Loc Cert.UpFwdActRefIdeal.nD Cert.UpFwdActRefIdeal.τ Cert.UpFwdActRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite_norm [hPre_finite_norm : Cert.Pre_finite_norm.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite_norm.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).1 = (fun _ => 1#1)
    ∧ (Cert.Pre_finite_norm.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2 = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_finite_norm [hPre_finite_norm : Cert.Pre_finite_norm.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_finite_norm.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))).1 = (fun _ => 1#1)
    ∧ (Cert.Pre_finite_norm.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_GradWUp [hGradWUp : Cert.GradWUp.Facts] : Prop :=
  ∀ (m : (ℓ : Loc Cert.GradWUp.nD Cert.GradWUp.τ Cert.GradWUp.sig) → Buf (Elt Bits) ℓ) (g : Dev Cert.GradWUp.nD → PrngReg), Pre_GradWUp m →
    θ_run (Cert.GradWUp.defs (F := Bits)) (onTc (τ := Cert.GradWUp.τ) (Cert.GradWUp.main (F := Bits))) ⟨m, fun _ => 0, g⟩ (fun r => (∀ c : Dev Cert.GradWUp.nD,
      r.2.mem ((c.tc : Thread Cert.GradWUp.nD Cert.GradWUp.τ).loc Cert.GradWUp.main_arg0) = m ((c.tc : Thread Cert.GradWUp.nD Cert.GradWUp.τ).loc Cert.GradWUp.main_arg0)
      ∧ r.2.mem ((c.tc : Thread Cert.GradWUp.nD Cert.GradWUp.τ).loc Cert.GradWUp.main_arg1) = m ((c.tc : Thread Cert.GradWUp.nD Cert.GradWUp.τ).loc Cert.GradWUp.main_arg1)
      ∧ r.2.mem ((c.tc : Thread Cert.GradWUp.nD Cert.GradWUp.τ).loc Cert.GradWUp.main_arg2) = m ((c.tc : Thread Cert.GradWUp.nD Cert.GradWUp.τ).loc Cert.GradWUp.main_arg2))
      ∧ r.2.sem = fun _ => 0)

def quiescent_GradWUpIdeal [hGradWUpIdeal : Cert.GradWUpIdeal.Facts] : Prop :=
  ∀ (m : (ℓ : Loc Cert.GradWUpIdeal.nD Cert.GradWUpIdeal.τ Cert.GradWUpIdeal.sig) → Buf (Elt Ideal) ℓ) (g : Dev Cert.GradWUpIdeal.nD → PrngReg), Pre_GradWUpIdeal m →
    θ_run (Cert.GradWUpIdeal.defs (F := Ideal)) (onTc (τ := Cert.GradWUpIdeal.τ) (Cert.GradWUpIdeal.main (F := Ideal))) ⟨m, fun _ => 0, g⟩ (fun r => (∀ c : Dev Cert.GradWUpIdeal.nD,
      r.2.mem ((c.tc : Thread Cert.GradWUpIdeal.nD Cert.GradWUpIdeal.τ).loc Cert.GradWUpIdeal.main_arg0) = m ((c.tc : Thread Cert.GradWUpIdeal.nD Cert.GradWUpIdeal.τ).loc Cert.GradWUpIdeal.main_arg0)
      ∧ r.2.mem ((c.tc : Thread Cert.GradWUpIdeal.nD Cert.GradWUpIdeal.τ).loc Cert.GradWUpIdeal.main_arg1) = m ((c.tc : Thread Cert.GradWUpIdeal.nD Cert.GradWUpIdeal.τ).loc Cert.GradWUpIdeal.main_arg1)
      ∧ r.2.mem ((c.tc : Thread Cert.GradWUpIdeal.nD Cert.GradWUpIdeal.τ).loc Cert.GradWUpIdeal.main_arg2) = m ((c.tc : Thread Cert.GradWUpIdeal.nD Cert.GradWUpIdeal.τ).loc Cert.GradWUpIdeal.main_arg2))
      ∧ r.2.sem = fun _ => 0)

def quiescent_GradWUpRefIdeal [hGradWUpRefIdeal : Cert.GradWUpRefIdeal.Facts] : Prop :=
  ∀ (m : (ℓ : Loc Cert.GradWUpRefIdeal.nD Cert.GradWUpRefIdeal.τ Cert.GradWUpRefIdeal.sig) → Buf (Elt Ideal) ℓ) (g : Dev Cert.GradWUpRefIdeal.nD → PrngReg), Pre_GradWUpRefIdeal m →
    θ_run (Cert.GradWUpRefIdeal.defs (F := Ideal)) (onTc (τ := Cert.GradWUpRefIdeal.τ) (Cert.GradWUpRefIdeal.main (F := Ideal))) ⟨m, fun _ => 0, g⟩ (fun r => (∀ c : Dev Cert.GradWUpRefIdeal.nD,
      r.2.mem ((c.tc : Thread Cert.GradWUpRefIdeal.nD Cert.GradWUpRefIdeal.τ).loc Cert.GradWUpRefIdeal.main_arg0) = m ((c.tc : Thread Cert.GradWUpRefIdeal.nD Cert.GradWUpRefIdeal.τ).loc Cert.GradWUpRefIdeal.main_arg0)
      ∧ r.2.mem ((c.tc : Thread Cert.GradWUpRefIdeal.nD Cert.GradWUpRefIdeal.τ).loc Cert.GradWUpRefIdeal.main_arg1) = m ((c.tc : Thread Cert.GradWUpRefIdeal.nD Cert.GradWUpRefIdeal.τ).loc Cert.GradWUpRefIdeal.main_arg1)
      ∧ r.2.mem ((c.tc : Thread Cert.GradWUpRefIdeal.nD Cert.GradWUpRefIdeal.τ).loc Cert.GradWUpRefIdeal.main_arg2) = m ((c.tc : Thread Cert.GradWUpRefIdeal.nD Cert.GradWUpRefIdeal.τ).loc Cert.GradWUpRefIdeal.main_arg2))
      ∧ r.2.sem = fun _ => 0)

def quiescent_GradWDown [hGradWDown : Cert.GradWDown.Facts] : Prop :=
  ∀ (m : (ℓ : Loc Cert.GradWDown.nD Cert.GradWDown.τ Cert.GradWDown.sig) → Buf (Elt Bits) ℓ) (g : Dev Cert.GradWDown.nD → PrngReg), Pre_GradWDown m →
    θ_run (Cert.GradWDown.defs (F := Bits)) (onTc (τ := Cert.GradWDown.τ) (Cert.GradWDown.main (F := Bits))) ⟨m, fun _ => 0, g⟩ (fun r => (∀ c : Dev Cert.GradWDown.nD,
      r.2.mem ((c.tc : Thread Cert.GradWDown.nD Cert.GradWDown.τ).loc Cert.GradWDown.main_arg0) = m ((c.tc : Thread Cert.GradWDown.nD Cert.GradWDown.τ).loc Cert.GradWDown.main_arg0)
      ∧ r.2.mem ((c.tc : Thread Cert.GradWDown.nD Cert.GradWDown.τ).loc Cert.GradWDown.main_arg1) = m ((c.tc : Thread Cert.GradWDown.nD Cert.GradWDown.τ).loc Cert.GradWDown.main_arg1))
      ∧ r.2.sem = fun _ => 0)

def quiescent_GradWDownIdeal [hGradWDownIdeal : Cert.GradWDownIdeal.Facts] : Prop :=
  ∀ (m : (ℓ : Loc Cert.GradWDownIdeal.nD Cert.GradWDownIdeal.τ Cert.GradWDownIdeal.sig) → Buf (Elt Ideal) ℓ) (g : Dev Cert.GradWDownIdeal.nD → PrngReg), Pre_GradWDownIdeal m →
    θ_run (Cert.GradWDownIdeal.defs (F := Ideal)) (onTc (τ := Cert.GradWDownIdeal.τ) (Cert.GradWDownIdeal.main (F := Ideal))) ⟨m, fun _ => 0, g⟩ (fun r => (∀ c : Dev Cert.GradWDownIdeal.nD,
      r.2.mem ((c.tc : Thread Cert.GradWDownIdeal.nD Cert.GradWDownIdeal.τ).loc Cert.GradWDownIdeal.main_arg0) = m ((c.tc : Thread Cert.GradWDownIdeal.nD Cert.GradWDownIdeal.τ).loc Cert.GradWDownIdeal.main_arg0)
      ∧ r.2.mem ((c.tc : Thread Cert.GradWDownIdeal.nD Cert.GradWDownIdeal.τ).loc Cert.GradWDownIdeal.main_arg1) = m ((c.tc : Thread Cert.GradWDownIdeal.nD Cert.GradWDownIdeal.τ).loc Cert.GradWDownIdeal.main_arg1))
      ∧ r.2.sem = fun _ => 0)

def quiescent_GradWDownRefIdeal [hGradWDownRefIdeal : Cert.GradWDownRefIdeal.Facts] : Prop :=
  ∀ (m : (ℓ : Loc Cert.GradWDownRefIdeal.nD Cert.GradWDownRefIdeal.τ Cert.GradWDownRefIdeal.sig) → Buf (Elt Ideal) ℓ) (g : Dev Cert.GradWDownRefIdeal.nD → PrngReg), Pre_GradWDownRefIdeal m →
    θ_run (Cert.GradWDownRefIdeal.defs (F := Ideal)) (onTc (τ := Cert.GradWDownRefIdeal.τ) (Cert.GradWDownRefIdeal.main (F := Ideal))) ⟨m, fun _ => 0, g⟩ (fun r => (∀ c : Dev Cert.GradWDownRefIdeal.nD,
      r.2.mem ((c.tc : Thread Cert.GradWDownRefIdeal.nD Cert.GradWDownRefIdeal.τ).loc Cert.GradWDownRefIdeal.main_arg0) = m ((c.tc : Thread Cert.GradWDownRefIdeal.nD Cert.GradWDownRefIdeal.τ).loc Cert.GradWDownRefIdeal.main_arg0)
      ∧ r.2.mem ((c.tc : Thread Cert.GradWDownRefIdeal.nD Cert.GradWDownRefIdeal.τ).loc Cert.GradWDownRefIdeal.main_arg1) = m ((c.tc : Thread Cert.GradWDownRefIdeal.nD Cert.GradWDownRefIdeal.τ).loc Cert.GradWDownRefIdeal.main_arg1))
      ∧ r.2.sem = fun _ => 0)

def quiescent_GradWOut [hGradWOut : Cert.GradWOut.Facts] : Prop :=
  ∀ (m : (ℓ : Loc Cert.GradWOut.nD Cert.GradWOut.τ Cert.GradWOut.sig) → Buf (Elt Bits) ℓ) (g : Dev Cert.GradWOut.nD → PrngReg), Pre_GradWOut m →
    θ_run (Cert.GradWOut.defs (F := Bits)) (onTc (τ := Cert.GradWOut.τ) (Cert.GradWOut.main (F := Bits))) ⟨m, fun _ => 0, g⟩ (fun r => (∀ c : Dev Cert.GradWOut.nD,
      r.2.mem ((c.tc : Thread Cert.GradWOut.nD Cert.GradWOut.τ).loc Cert.GradWOut.main_arg0) = m ((c.tc : Thread Cert.GradWOut.nD Cert.GradWOut.τ).loc Cert.GradWOut.main_arg0)
      ∧ r.2.mem ((c.tc : Thread Cert.GradWOut.nD Cert.GradWOut.τ).loc Cert.GradWOut.main_arg1) = m ((c.tc : Thread Cert.GradWOut.nD Cert.GradWOut.τ).loc Cert.GradWOut.main_arg1)
      ∧ r.2.mem ((c.tc : Thread Cert.GradWOut.nD Cert.GradWOut.τ).loc Cert.GradWOut.main_arg2) = m ((c.tc : Thread Cert.GradWOut.nD Cert.GradWOut.τ).loc Cert.GradWOut.main_arg2))
      ∧ r.2.sem = fun _ => 0)

def quiescent_GradWOutIdeal [hGradWOutIdeal : Cert.GradWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg), Pre_GradWOutIdeal m →
    θ_run (Cert.GradWOutIdeal.defs (F := Ideal)) (onTc (τ := Cert.GradWOutIdeal.τ) (Cert.GradWOutIdeal.main (F := Ideal))) ⟨m, fun _ => 0, g⟩ (fun r => (∀ c : Dev Cert.GradWOutIdeal.nD,
      r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
      ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1)
      ∧ r.2.mem ((c.tc : Thread Cert.GradWOutIdeal.nD Cert.GradWOutIdeal.τ).loc Cert.GradWOutIdeal.main_arg2) = m ((c.tc : Thread Cert.GradWOutIdeal.nD Cert.GradWOutIdeal.τ).loc Cert.GradWOutIdeal.main_arg2))
      ∧ r.2.sem = fun _ => 0)

def quiescent_GradWOutRefIdeal [hGradWOutRefIdeal : Cert.GradWOutRefIdeal.Facts] : Prop :=
  ∀ (m : (ℓ : Loc Cert.GradWOutRefIdeal.nD Cert.GradWOutRefIdeal.τ Cert.GradWOutRefIdeal.sig) → Buf (Elt Ideal) ℓ) (g : Dev Cert.GradWOutRefIdeal.nD → PrngReg), Pre_GradWOutRefIdeal m →
    θ_run (Cert.GradWOutRefIdeal.defs (F := Ideal)) (onTc (τ := Cert.GradWOutRefIdeal.τ) (Cert.GradWOutRefIdeal.main (F := Ideal))) ⟨m, fun _ => 0, g⟩ (fun r => (∀ c : Dev Cert.GradWOutRefIdeal.nD,
      r.2.mem ((c.tc : Thread Cert.GradWOutRefIdeal.nD Cert.GradWOutRefIdeal.τ).loc Cert.GradWOutRefIdeal.main_arg0) = m ((c.tc : Thread Cert.GradWOutRefIdeal.nD Cert.GradWOutRefIdeal.τ).loc Cert.GradWOutRefIdeal.main_arg0)
      ∧ r.2.mem ((c.tc : Thread Cert.GradWOutRefIdeal.nD Cert.GradWOutRefIdeal.τ).loc Cert.GradWOutRefIdeal.main_arg1) = m ((c.tc : Thread Cert.GradWOutRefIdeal.nD Cert.GradWOutRefIdeal.τ).loc Cert.GradWOutRefIdeal.main_arg1)
      ∧ r.2.mem ((c.tc : Thread Cert.GradWOutRefIdeal.nD Cert.GradWOutRefIdeal.τ).loc Cert.GradWOutRefIdeal.main_arg2) = m ((c.tc : Thread Cert.GradWOutRefIdeal.nD Cert.GradWOutRefIdeal.τ).loc Cert.GradWOutRefIdeal.main_arg2))
      ∧ r.2.sem = fun _ => 0)

def quiescent_GradWIn [hGradWIn : Cert.GradWIn.Facts] : Prop :=
  ∀ (m : (ℓ : Loc Cert.GradWIn.nD Cert.GradWIn.τ Cert.GradWIn.sig) → Buf (Elt Bits) ℓ) (g : Dev Cert.GradWIn.nD → PrngReg), Pre_GradWIn m →
    θ_run (Cert.GradWIn.defs (F := Bits)) (onTc (τ := Cert.GradWIn.τ) (Cert.GradWIn.main (F := Bits))) ⟨m, fun _ => 0, g⟩ (fun r => (∀ c : Dev Cert.GradWIn.nD,
      r.2.mem ((c.tc : Thread Cert.GradWIn.nD Cert.GradWIn.τ).loc Cert.GradWIn.main_arg0) = m ((c.tc : Thread Cert.GradWIn.nD Cert.GradWIn.τ).loc Cert.GradWIn.main_arg0)
      ∧ r.2.mem ((c.tc : Thread Cert.GradWIn.nD Cert.GradWIn.τ).loc Cert.GradWIn.main_arg1) = m ((c.tc : Thread Cert.GradWIn.nD Cert.GradWIn.τ).loc Cert.GradWIn.main_arg1)
      ∧ r.2.mem ((c.tc : Thread Cert.GradWIn.nD Cert.GradWIn.τ).loc Cert.GradWIn.main_arg2) = m ((c.tc : Thread Cert.GradWIn.nD Cert.GradWIn.τ).loc Cert.GradWIn.main_arg2)
      ∧ r.2.mem ((c.tc : Thread Cert.GradWIn.nD Cert.GradWIn.τ).loc Cert.GradWIn.main_arg3) = m ((c.tc : Thread Cert.GradWIn.nD Cert.GradWIn.τ).loc Cert.GradWIn.main_arg3)
      ∧ r.2.mem ((c.tc : Thread Cert.GradWIn.nD Cert.GradWIn.τ).loc Cert.GradWIn.main_arg4) = m ((c.tc : Thread Cert.GradWIn.nD Cert.GradWIn.τ).loc Cert.GradWIn.main_arg4))
      ∧ r.2.sem = fun _ => 0)

def quiescent_GradWInIdeal [hGradWInIdeal : Cert.GradWInIdeal.Facts] : Prop :=
  ∀ (m : (ℓ : Loc Cert.GradWInIdeal.nD Cert.GradWInIdeal.τ Cert.GradWInIdeal.sig) → Buf (Elt Ideal) ℓ) (g : Dev Cert.GradWInIdeal.nD → PrngReg), Pre_GradWInIdeal m →
    θ_run (Cert.GradWInIdeal.defs (F := Ideal)) (onTc (τ := Cert.GradWInIdeal.τ) (Cert.GradWInIdeal.main (F := Ideal))) ⟨m, fun _ => 0, g⟩ (fun r => (∀ c : Dev Cert.GradWInIdeal.nD,
      r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
      ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1)
      ∧ r.2.mem ((c.tc : Thread Cert.GradWInIdeal.nD Cert.GradWInIdeal.τ).loc Cert.GradWInIdeal.main_arg2) = m ((c.tc : Thread Cert.GradWInIdeal.nD Cert.GradWInIdeal.τ).loc Cert.GradWInIdeal.main_arg2)
      ∧ r.2.mem ((c.tc : Thread Cert.GradWInIdeal.nD Cert.GradWInIdeal.τ).loc Cert.GradWInIdeal.main_arg3) = m ((c.tc : Thread Cert.GradWInIdeal.nD Cert.GradWInIdeal.τ).loc Cert.GradWInIdeal.main_arg3)
      ∧ r.2.mem ((c.tc : Thread Cert.GradWInIdeal.nD Cert.GradWInIdeal.τ).loc Cert.GradWInIdeal.main_arg4) = m ((c.tc : Thread Cert.GradWInIdeal.nD Cert.GradWInIdeal.τ).loc Cert.GradWInIdeal.main_arg4))
      ∧ r.2.sem = fun _ => 0)

def quiescent_GradWInRefIdeal [hGradWInRefIdeal : Cert.GradWInRefIdeal.Facts] : Prop :=
  ∀ (m : (ℓ : Loc Cert.GradWInRefIdeal.nD Cert.GradWInRefIdeal.τ Cert.GradWInRefIdeal.sig) → Buf (Elt Ideal) ℓ) (g : Dev Cert.GradWInRefIdeal.nD → PrngReg), Pre_GradWInRefIdeal m →
    θ_run (Cert.GradWInRefIdeal.defs (F := Ideal)) (onTc (τ := Cert.GradWInRefIdeal.τ) (Cert.GradWInRefIdeal.main (F := Ideal))) ⟨m, fun _ => 0, g⟩ (fun r => (∀ c : Dev Cert.GradWInRefIdeal.nD,
      r.2.mem ((c.tc : Thread Cert.GradWInRefIdeal.nD Cert.GradWInRefIdeal.τ).loc Cert.GradWInRefIdeal.main_arg0) = m ((c.tc : Thread Cert.GradWInRefIdeal.nD Cert.GradWInRefIdeal.τ).loc Cert.GradWInRefIdeal.main_arg0)
      ∧ r.2.mem ((c.tc : Thread Cert.GradWInRefIdeal.nD Cert.GradWInRefIdeal.τ).loc Cert.GradWInRefIdeal.main_arg1) = m ((c.tc : Thread Cert.GradWInRefIdeal.nD Cert.GradWInRefIdeal.τ).loc Cert.GradWInRefIdeal.main_arg1)
      ∧ r.2.mem ((c.tc : Thread Cert.GradWInRefIdeal.nD Cert.GradWInRefIdeal.τ).loc Cert.GradWInRefIdeal.main_arg2) = m ((c.tc : Thread Cert.GradWInRefIdeal.nD Cert.GradWInRefIdeal.τ).loc Cert.GradWInRefIdeal.main_arg2)
      ∧ r.2.mem ((c.tc : Thread Cert.GradWInRefIdeal.nD Cert.GradWInRefIdeal.τ).loc Cert.GradWInRefIdeal.main_arg3) = m ((c.tc : Thread Cert.GradWInRefIdeal.nD Cert.GradWInRefIdeal.τ).loc Cert.GradWInRefIdeal.main_arg3)
      ∧ r.2.mem ((c.tc : Thread Cert.GradWInRefIdeal.nD Cert.GradWInRefIdeal.τ).loc Cert.GradWInRefIdeal.main_arg4) = m ((c.tc : Thread Cert.GradWInRefIdeal.nD Cert.GradWInRefIdeal.τ).loc Cert.GradWInRefIdeal.main_arg4))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DCat [hDCat : Cert.DCat.Facts] : Prop :=
  ∀ (m : (ℓ : Loc Cert.DCat.nD Cert.DCat.τ Cert.DCat.sig) → Buf (Elt Bits) ℓ) (g : Dev Cert.DCat.nD → PrngReg), Pre_DCat m →
    θ_run (Cert.DCat.defs (F := Bits)) (onTc (τ := Cert.DCat.τ) (Cert.DCat.main (F := Bits))) ⟨m, fun _ => 0, g⟩ (fun r => (∀ c : Dev Cert.DCat.nD,
      r.2.mem ((c.tc : Thread Cert.DCat.nD Cert.DCat.τ).loc Cert.DCat.main_arg0) = m ((c.tc : Thread Cert.DCat.nD Cert.DCat.τ).loc Cert.DCat.main_arg0)
      ∧ r.2.mem ((c.tc : Thread Cert.DCat.nD Cert.DCat.τ).loc Cert.DCat.main_arg1) = m ((c.tc : Thread Cert.DCat.nD Cert.DCat.τ).loc Cert.DCat.main_arg1))
      ∧ r.2.sem = fun _ => 0)

def quiescent_DCatIdeal [hDCatIdeal : Cert.DCatIdeal.Facts] : Prop :=
  ∀ (m : (ℓ : Loc Cert.DCatIdeal.nD Cert.DCatIdeal.τ Cert.DCatIdeal.sig) → Buf (Elt Ideal) ℓ) (g : Dev Cert.DCatIdeal.nD → PrngReg), Pre_DCatIdeal m →
    θ_run (Cert.DCatIdeal.defs (F := Ideal)) (onTc (τ := Cert.DCatIdeal.τ) (Cert.DCatIdeal.main (F := Ideal))) ⟨m, fun _ => 0, g⟩ (fun r => (∀ c : Dev Cert.DCatIdeal.nD,
      r.2.mem ((c.tc : Thread Cert.DCatIdeal.nD Cert.DCatIdeal.τ).loc Cert.DCatIdeal.main_arg0) = m ((c.tc : Thread Cert.DCatIdeal.nD Cert.DCatIdeal.τ).loc Cert.DCatIdeal.main_arg0)
      ∧ r.2.mem ((c.tc : Thread Cert.DCatIdeal.nD Cert.DCatIdeal.τ).loc Cert.DCatIdeal.main_arg1) = m ((c.tc : Thread Cert.DCatIdeal.nD Cert.DCatIdeal.τ).loc Cert.DCatIdeal.main_arg1))
      ∧ r.2.sem = fun _ => 0)

def quiescent_DCatRefIdeal [hDCatRefIdeal : Cert.DCatRefIdeal.Facts] : Prop :=
  ∀ (m : (ℓ : Loc Cert.DCatRefIdeal.nD Cert.DCatRefIdeal.τ Cert.DCatRefIdeal.sig) → Buf (Elt Ideal) ℓ) (g : Dev Cert.DCatRefIdeal.nD → PrngReg), Pre_DCatRefIdeal m →
    θ_run (Cert.DCatRefIdeal.defs (F := Ideal)) (onTc (τ := Cert.DCatRefIdeal.τ) (Cert.DCatRefIdeal.main (F := Ideal))) ⟨m, fun _ => 0, g⟩ (fun r => (∀ c : Dev Cert.DCatRefIdeal.nD,
      r.2.mem ((c.tc : Thread Cert.DCatRefIdeal.nD Cert.DCatRefIdeal.τ).loc Cert.DCatRefIdeal.main_arg0) = m ((c.tc : Thread Cert.DCatRefIdeal.nD Cert.DCatRefIdeal.τ).loc Cert.DCatRefIdeal.main_arg0)
      ∧ r.2.mem ((c.tc : Thread Cert.DCatRefIdeal.nD Cert.DCatRefIdeal.τ).loc Cert.DCatRefIdeal.main_arg1) = m ((c.tc : Thread Cert.DCatRefIdeal.nD Cert.DCatRefIdeal.τ).loc Cert.DCatRefIdeal.main_arg1))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4)
      ∧ r.2.mem ((c.tc : Thread Cert.ProjBwd.nD Cert.ProjBwd.τ).loc Cert.ProjBwd.main_arg5) = m ((c.tc : Thread Cert.ProjBwd.nD Cert.ProjBwd.τ).loc Cert.ProjBwd.main_arg5)
      ∧ r.2.mem ((c.tc : Thread Cert.ProjBwd.nD Cert.ProjBwd.τ).loc Cert.ProjBwd.main_arg6) = m ((c.tc : Thread Cert.ProjBwd.nD Cert.ProjBwd.τ).loc Cert.ProjBwd.main_arg6)
      ∧ r.2.mem ((c.tc : Thread Cert.ProjBwd.nD Cert.ProjBwd.τ).loc Cert.ProjBwd.main_arg7) = m ((c.tc : Thread Cert.ProjBwd.nD Cert.ProjBwd.τ).loc Cert.ProjBwd.main_arg7))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
      ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7))
      ∧ r.2.sem = fun _ => 0)

def quiescent_ProjBwdRefIdeal [hProjBwdRefIdeal : Cert.ProjBwdRefIdeal.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1)
      ∧ r.2.mem ((c.tc : Thread Cert.ProjBwdRefIdeal.nD Cert.ProjBwdRefIdeal.τ).loc Cert.ProjBwdRefIdeal.main_arg2) = m ((c.tc : Thread Cert.ProjBwdRefIdeal.nD Cert.ProjBwdRefIdeal.τ).loc Cert.ProjBwdRefIdeal.main_arg2)
      ∧ r.2.mem ((c.tc : Thread Cert.ProjBwdRefIdeal.nD Cert.ProjBwdRefIdeal.τ).loc Cert.ProjBwdRefIdeal.main_arg3) = m ((c.tc : Thread Cert.ProjBwdRefIdeal.nD Cert.ProjBwdRefIdeal.τ).loc Cert.ProjBwdRefIdeal.main_arg3)
      ∧ r.2.mem ((c.tc : Thread Cert.ProjBwdRefIdeal.nD Cert.ProjBwdRefIdeal.τ).loc Cert.ProjBwdRefIdeal.main_arg4) = m ((c.tc : Thread Cert.ProjBwdRefIdeal.nD Cert.ProjBwdRefIdeal.τ).loc Cert.ProjBwdRefIdeal.main_arg4)
      ∧ r.2.mem ((c.tc : Thread Cert.ProjBwdRefIdeal.nD Cert.ProjBwdRefIdeal.τ).loc Cert.ProjBwdRefIdeal.main_arg5) = m ((c.tc : Thread Cert.ProjBwdRefIdeal.nD Cert.ProjBwdRefIdeal.τ).loc Cert.ProjBwdRefIdeal.main_arg5)
      ∧ r.2.mem ((c.tc : Thread Cert.ProjBwdRefIdeal.nD Cert.ProjBwdRefIdeal.τ).loc Cert.ProjBwdRefIdeal.main_arg6) = m ((c.tc : Thread Cert.ProjBwdRefIdeal.nD Cert.ProjBwdRefIdeal.τ).loc Cert.ProjBwdRefIdeal.main_arg6)
      ∧ r.2.mem ((c.tc : Thread Cert.ProjBwdRefIdeal.nD Cert.ProjBwdRefIdeal.τ).loc Cert.ProjBwdRefIdeal.main_arg7) = m ((c.tc : Thread Cert.ProjBwdRefIdeal.nD Cert.ProjBwdRefIdeal.τ).loc Cert.ProjBwdRefIdeal.main_arg7))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamWUp [hAdamWUp : Cert.AdamWUp.Facts] : Prop :=
  ∀ (m : (ℓ : Loc Cert.AdamWUp.nD Cert.AdamWUp.τ Cert.AdamWUp.sig) → Buf (Elt Bits) ℓ) (g : Dev Cert.AdamWUp.nD → PrngReg), Pre_AdamWUp m →
    θ_run (Cert.AdamWUp.defs (F := Bits)) (onTc (τ := Cert.AdamWUp.τ) (Cert.AdamWUp.main (F := Bits))) ⟨m, fun _ => 0, g⟩ (fun r => (∀ c : Dev Cert.AdamWUp.nD,
      r.2.mem ((c.tc : Thread Cert.AdamWUp.nD Cert.AdamWUp.τ).loc Cert.AdamWUp.main_arg0) = m ((c.tc : Thread Cert.AdamWUp.nD Cert.AdamWUp.τ).loc Cert.AdamWUp.main_arg0)
      ∧ r.2.mem ((c.tc : Thread Cert.AdamWUp.nD Cert.AdamWUp.τ).loc Cert.AdamWUp.main_arg1) = m ((c.tc : Thread Cert.AdamWUp.nD Cert.AdamWUp.τ).loc Cert.AdamWUp.main_arg1)
      ∧ r.2.mem ((c.tc : Thread Cert.AdamWUp.nD Cert.AdamWUp.τ).loc Cert.AdamWUp.main_arg2) = m ((c.tc : Thread Cert.AdamWUp.nD Cert.AdamWUp.τ).loc Cert.AdamWUp.main_arg2)
      ∧ r.2.mem ((c.tc : Thread Cert.AdamWUp.nD Cert.AdamWUp.τ).loc Cert.AdamWUp.main_arg3) = m ((c.tc : Thread Cert.AdamWUp.nD Cert.AdamWUp.τ).loc Cert.AdamWUp.main_arg3))
      ∧ r.2.sem = fun _ => 0)

def quiescent_AdamWUpIdeal [hAdamWUpIdeal : Cert.AdamWUpIdeal.Facts] : Prop :=
  ∀ (m : (ℓ : Loc Cert.AdamWUpIdeal.nD Cert.AdamWUpIdeal.τ Cert.AdamWUpIdeal.sig) → Buf (Elt Ideal) ℓ) (g : Dev Cert.AdamWUpIdeal.nD → PrngReg), Pre_AdamWUpIdeal m →
    θ_run (Cert.AdamWUpIdeal.defs (F := Ideal)) (onTc (τ := Cert.AdamWUpIdeal.τ) (Cert.AdamWUpIdeal.main (F := Ideal))) ⟨m, fun _ => 0, g⟩ (fun r => (∀ c : Dev Cert.AdamWUpIdeal.nD,
      r.2.mem ((c.tc : Thread Cert.AdamWUpIdeal.nD Cert.AdamWUpIdeal.τ).loc Cert.AdamWUpIdeal.main_arg0) = m ((c.tc : Thread Cert.AdamWUpIdeal.nD Cert.AdamWUpIdeal.τ).loc Cert.AdamWUpIdeal.main_arg0)
      ∧ r.2.mem ((c.tc : Thread Cert.AdamWUpIdeal.nD Cert.AdamWUpIdeal.τ).loc Cert.AdamWUpIdeal.main_arg1) = m ((c.tc : Thread Cert.AdamWUpIdeal.nD Cert.AdamWUpIdeal.τ).loc Cert.AdamWUpIdeal.main_arg1)
      ∧ r.2.mem ((c.tc : Thread Cert.AdamWUpIdeal.nD Cert.AdamWUpIdeal.τ).loc Cert.AdamWUpIdeal.main_arg2) = m ((c.tc : Thread Cert.AdamWUpIdeal.nD Cert.AdamWUpIdeal.τ).loc Cert.AdamWUpIdeal.main_arg2)
      ∧ r.2.mem ((c.tc : Thread Cert.AdamWUpIdeal.nD Cert.AdamWUpIdeal.τ).loc Cert.AdamWUpIdeal.main_arg3) = m ((c.tc : Thread Cert.AdamWUpIdeal.nD Cert.AdamWUpIdeal.τ).loc Cert.AdamWUpIdeal.main_arg3))
      ∧ r.2.sem = fun _ => 0)

def quiescent_AdamWUpRefIdeal [hAdamWUpRefIdeal : Cert.AdamWUpRefIdeal.Facts] : Prop :=
  ∀ (m : (ℓ : Loc Cert.AdamWUpRefIdeal.nD Cert.AdamWUpRefIdeal.τ Cert.AdamWUpRefIdeal.sig) → Buf (Elt Ideal) ℓ) (g : Dev Cert.AdamWUpRefIdeal.nD → PrngReg), Pre_AdamWUpRefIdeal m →
    θ_run (Cert.AdamWUpRefIdeal.defs (F := Ideal)) (onTc (τ := Cert.AdamWUpRefIdeal.τ) (Cert.AdamWUpRefIdeal.main (F := Ideal))) ⟨m, fun _ => 0, g⟩ (fun r => (∀ c : Dev Cert.AdamWUpRefIdeal.nD,
      r.2.mem ((c.tc : Thread Cert.AdamWUpRefIdeal.nD Cert.AdamWUpRefIdeal.τ).loc Cert.AdamWUpRefIdeal.main_arg0) = m ((c.tc : Thread Cert.AdamWUpRefIdeal.nD Cert.AdamWUpRefIdeal.τ).loc Cert.AdamWUpRefIdeal.main_arg0)
      ∧ r.2.mem ((c.tc : Thread Cert.AdamWUpRefIdeal.nD Cert.AdamWUpRefIdeal.τ).loc Cert.AdamWUpRefIdeal.main_arg1) = m ((c.tc : Thread Cert.AdamWUpRefIdeal.nD Cert.AdamWUpRefIdeal.τ).loc Cert.AdamWUpRefIdeal.main_arg1)
      ∧ r.2.mem ((c.tc : Thread Cert.AdamWUpRefIdeal.nD Cert.AdamWUpRefIdeal.τ).loc Cert.AdamWUpRefIdeal.main_arg2) = m ((c.tc : Thread Cert.AdamWUpRefIdeal.nD Cert.AdamWUpRefIdeal.τ).loc Cert.AdamWUpRefIdeal.main_arg2)
      ∧ r.2.mem ((c.tc : Thread Cert.AdamWUpRefIdeal.nD Cert.AdamWUpRefIdeal.τ).loc Cert.AdamWUpRefIdeal.main_arg3) = m ((c.tc : Thread Cert.AdamWUpRefIdeal.nD Cert.AdamWUpRefIdeal.τ).loc Cert.AdamWUpRefIdeal.main_arg3))
      ∧ r.2.sem = fun _ => 0)

def quiescent_AdamWDown [hAdamWDown : Cert.AdamWDown.Facts] : Prop :=
  ∀ (m : (ℓ : Loc Cert.AdamWDown.nD Cert.AdamWDown.τ Cert.AdamWDown.sig) → Buf (Elt Bits) ℓ) (g : Dev Cert.AdamWDown.nD → PrngReg), Pre_AdamWDown m →
    θ_run (Cert.AdamWDown.defs (F := Bits)) (onTc (τ := Cert.AdamWDown.τ) (Cert.AdamWDown.main (F := Bits))) ⟨m, fun _ => 0, g⟩ (fun r => (∀ c : Dev Cert.AdamWDown.nD,
      r.2.mem ((c.tc : Thread Cert.AdamWDown.nD Cert.AdamWDown.τ).loc Cert.AdamWDown.main_arg0) = m ((c.tc : Thread Cert.AdamWDown.nD Cert.AdamWDown.τ).loc Cert.AdamWDown.main_arg0)
      ∧ r.2.mem ((c.tc : Thread Cert.AdamWDown.nD Cert.AdamWDown.τ).loc Cert.AdamWDown.main_arg1) = m ((c.tc : Thread Cert.AdamWDown.nD Cert.AdamWDown.τ).loc Cert.AdamWDown.main_arg1)
      ∧ r.2.mem ((c.tc : Thread Cert.AdamWDown.nD Cert.AdamWDown.τ).loc Cert.AdamWDown.main_arg2) = m ((c.tc : Thread Cert.AdamWDown.nD Cert.AdamWDown.τ).loc Cert.AdamWDown.main_arg2)
      ∧ r.2.mem ((c.tc : Thread Cert.AdamWDown.nD Cert.AdamWDown.τ).loc Cert.AdamWDown.main_arg3) = m ((c.tc : Thread Cert.AdamWDown.nD Cert.AdamWDown.τ).loc Cert.AdamWDown.main_arg3))
      ∧ r.2.sem = fun _ => 0)

def quiescent_AdamWDownIdeal [hAdamWDownIdeal : Cert.AdamWDownIdeal.Facts] : Prop :=
  ∀ (m : (ℓ : Loc Cert.AdamWDownIdeal.nD Cert.AdamWDownIdeal.τ Cert.AdamWDownIdeal.sig) → Buf (Elt Ideal) ℓ) (g : Dev Cert.AdamWDownIdeal.nD → PrngReg), Pre_AdamWDownIdeal m →
    θ_run (Cert.AdamWDownIdeal.defs (F := Ideal)) (onTc (τ := Cert.AdamWDownIdeal.τ) (Cert.AdamWDownIdeal.main (F := Ideal))) ⟨m, fun _ => 0, g⟩ (fun r => (∀ c : Dev Cert.AdamWDownIdeal.nD,
      r.2.mem ((c.tc : Thread Cert.AdamWDownIdeal.nD Cert.AdamWDownIdeal.τ).loc Cert.AdamWDownIdeal.main_arg0) = m ((c.tc : Thread Cert.AdamWDownIdeal.nD Cert.AdamWDownIdeal.τ).loc Cert.AdamWDownIdeal.main_arg0)
      ∧ r.2.mem ((c.tc : Thread Cert.AdamWDownIdeal.nD Cert.AdamWDownIdeal.τ).loc Cert.AdamWDownIdeal.main_arg1) = m ((c.tc : Thread Cert.AdamWDownIdeal.nD Cert.AdamWDownIdeal.τ).loc Cert.AdamWDownIdeal.main_arg1)
      ∧ r.2.mem ((c.tc : Thread Cert.AdamWDownIdeal.nD Cert.AdamWDownIdeal.τ).loc Cert.AdamWDownIdeal.main_arg2) = m ((c.tc : Thread Cert.AdamWDownIdeal.nD Cert.AdamWDownIdeal.τ).loc Cert.AdamWDownIdeal.main_arg2)
      ∧ r.2.mem ((c.tc : Thread Cert.AdamWDownIdeal.nD Cert.AdamWDownIdeal.τ).loc Cert.AdamWDownIdeal.main_arg3) = m ((c.tc : Thread Cert.AdamWDownIdeal.nD Cert.AdamWDownIdeal.τ).loc Cert.AdamWDownIdeal.main_arg3))
      ∧ r.2.sem = fun _ => 0)

def quiescent_AdamWDownRefIdeal [hAdamWDownRefIdeal : Cert.AdamWDownRefIdeal.Facts] : Prop :=
  ∀ (m : (ℓ : Loc Cert.AdamWDownRefIdeal.nD Cert.AdamWDownRefIdeal.τ Cert.AdamWDownRefIdeal.sig) → Buf (Elt Ideal) ℓ) (g : Dev Cert.AdamWDownRefIdeal.nD → PrngReg), Pre_AdamWDownRefIdeal m →
    θ_run (Cert.AdamWDownRefIdeal.defs (F := Ideal)) (onTc (τ := Cert.AdamWDownRefIdeal.τ) (Cert.AdamWDownRefIdeal.main (F := Ideal))) ⟨m, fun _ => 0, g⟩ (fun r => (∀ c : Dev Cert.AdamWDownRefIdeal.nD,
      r.2.mem ((c.tc : Thread Cert.AdamWDownRefIdeal.nD Cert.AdamWDownRefIdeal.τ).loc Cert.AdamWDownRefIdeal.main_arg0) = m ((c.tc : Thread Cert.AdamWDownRefIdeal.nD Cert.AdamWDownRefIdeal.τ).loc Cert.AdamWDownRefIdeal.main_arg0)
      ∧ r.2.mem ((c.tc : Thread Cert.AdamWDownRefIdeal.nD Cert.AdamWDownRefIdeal.τ).loc Cert.AdamWDownRefIdeal.main_arg1) = m ((c.tc : Thread Cert.AdamWDownRefIdeal.nD Cert.AdamWDownRefIdeal.τ).loc Cert.AdamWDownRefIdeal.main_arg1)
      ∧ r.2.mem ((c.tc : Thread Cert.AdamWDownRefIdeal.nD Cert.AdamWDownRefIdeal.τ).loc Cert.AdamWDownRefIdeal.main_arg2) = m ((c.tc : Thread Cert.AdamWDownRefIdeal.nD Cert.AdamWDownRefIdeal.τ).loc Cert.AdamWDownRefIdeal.main_arg2)
      ∧ r.2.mem ((c.tc : Thread Cert.AdamWDownRefIdeal.nD Cert.AdamWDownRefIdeal.τ).loc Cert.AdamWDownRefIdeal.main_arg3) = m ((c.tc : Thread Cert.AdamWDownRefIdeal.nD Cert.AdamWDownRefIdeal.τ).loc Cert.AdamWDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1)
      ∧ r.2.mem ((c.tc : Thread Cert.SumSmall.nD Cert.SumSmall.τ).loc Cert.SumSmall.main_arg2) = m ((c.tc : Thread Cert.SumSmall.nD Cert.SumSmall.τ).loc Cert.SumSmall.main_arg2)
      ∧ r.2.mem ((c.tc : Thread Cert.SumSmall.nD Cert.SumSmall.τ).loc Cert.SumSmall.main_arg3) = m ((c.tc : Thread Cert.SumSmall.nD Cert.SumSmall.τ).loc Cert.SumSmall.main_arg3)
      ∧ r.2.mem ((c.tc : Thread Cert.SumSmall.nD Cert.SumSmall.τ).loc Cert.SumSmall.main_arg4) = m ((c.tc : Thread Cert.SumSmall.nD Cert.SumSmall.τ).loc Cert.SumSmall.main_arg4)
      ∧ r.2.mem ((c.tc : Thread Cert.SumSmall.nD Cert.SumSmall.τ).loc Cert.SumSmall.main_arg5) = m ((c.tc : Thread Cert.SumSmall.nD Cert.SumSmall.τ).loc Cert.SumSmall.main_arg5)
      ∧ r.2.mem ((c.tc : Thread Cert.SumSmall.nD Cert.SumSmall.τ).loc Cert.SumSmall.main_arg6) = m ((c.tc : Thread Cert.SumSmall.nD Cert.SumSmall.τ).loc Cert.SumSmall.main_arg6)
      ∧ r.2.mem ((c.tc : Thread Cert.SumSmall.nD Cert.SumSmall.τ).loc Cert.SumSmall.main_arg7) = m ((c.tc : Thread Cert.SumSmall.nD Cert.SumSmall.τ).loc Cert.SumSmall.main_arg7)
      ∧ r.2.mem ((c.tc : Thread Cert.SumSmall.nD Cert.SumSmall.τ).loc Cert.SumSmall.main_arg8) = m ((c.tc : Thread Cert.SumSmall.nD Cert.SumSmall.τ).loc Cert.SumSmall.main_arg8)
      ∧ r.2.mem ((c.tc : Thread Cert.SumSmall.nD Cert.SumSmall.τ).loc Cert.SumSmall.main_arg9) = m ((c.tc : Thread Cert.SumSmall.nD Cert.SumSmall.τ).loc Cert.SumSmall.main_arg9)
      ∧ r.2.mem ((c.tc : Thread Cert.SumSmall.nD Cert.SumSmall.τ).loc Cert.SumSmall.main_arg10) = m ((c.tc : Thread Cert.SumSmall.nD Cert.SumSmall.τ).loc Cert.SumSmall.main_arg10)
      ∧ r.2.mem ((c.tc : Thread Cert.SumSmall.nD Cert.SumSmall.τ).loc Cert.SumSmall.main_arg11) = m ((c.tc : Thread Cert.SumSmall.nD Cert.SumSmall.τ).loc Cert.SumSmall.main_arg11))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
      ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
      ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3)
      ∧ r.2.mem ((c.tc : Thread Cert.SumSmallIdeal.nD Cert.SumSmallIdeal.τ).loc Cert.SumSmallIdeal.main_arg4) = m ((c.tc : Thread Cert.SumSmallIdeal.nD Cert.SumSmallIdeal.τ).loc Cert.SumSmallIdeal.main_arg4)
      ∧ r.2.mem ((c.tc : Thread Cert.SumSmallIdeal.nD Cert.SumSmallIdeal.τ).loc Cert.SumSmallIdeal.main_arg5) = m ((c.tc : Thread Cert.SumSmallIdeal.nD Cert.SumSmallIdeal.τ).loc Cert.SumSmallIdeal.main_arg5)
      ∧ r.2.mem ((c.tc : Thread Cert.SumSmallIdeal.nD Cert.SumSmallIdeal.τ).loc Cert.SumSmallIdeal.main_arg6) = m ((c.tc : Thread Cert.SumSmallIdeal.nD Cert.SumSmallIdeal.τ).loc Cert.SumSmallIdeal.main_arg6)
      ∧ r.2.mem ((c.tc : Thread Cert.SumSmallIdeal.nD Cert.SumSmallIdeal.τ).loc Cert.SumSmallIdeal.main_arg7) = m ((c.tc : Thread Cert.SumSmallIdeal.nD Cert.SumSmallIdeal.τ).loc Cert.SumSmallIdeal.main_arg7)
      ∧ r.2.mem ((c.tc : Thread Cert.SumSmallIdeal.nD Cert.SumSmallIdeal.τ).loc Cert.SumSmallIdeal.main_arg8) = m ((c.tc : Thread Cert.SumSmallIdeal.nD Cert.SumSmallIdeal.τ).loc Cert.SumSmallIdeal.main_arg8)
      ∧ r.2.mem ((c.tc : Thread Cert.SumSmallIdeal.nD Cert.SumSmallIdeal.τ).loc Cert.SumSmallIdeal.main_arg9) = m ((c.tc : Thread Cert.SumSmallIdeal.nD Cert.SumSmallIdeal.τ).loc Cert.SumSmallIdeal.main_arg9)
      ∧ r.2.mem ((c.tc : Thread Cert.SumSmallIdeal.nD Cert.SumSmallIdeal.τ).loc Cert.SumSmallIdeal.main_arg10) = m ((c.tc : Thread Cert.SumSmallIdeal.nD Cert.SumSmallIdeal.τ).loc Cert.SumSmallIdeal.main_arg10)
      ∧ r.2.mem ((c.tc : Thread Cert.SumSmallIdeal.nD Cert.SumSmallIdeal.τ).loc Cert.SumSmallIdeal.main_arg11) = m ((c.tc : Thread Cert.SumSmallIdeal.nD Cert.SumSmallIdeal.τ).loc Cert.SumSmallIdeal.main_arg11))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0)
      ∧ r.2.mem ((c.tc : Thread Cert.SumSmallRefIdeal.nD Cert.SumSmallRefIdeal.τ).loc Cert.SumSmallRefIdeal.main_arg1) = m ((c.tc : Thread Cert.SumSmallRefIdeal.nD Cert.SumSmallRefIdeal.τ).loc Cert.SumSmallRefIdeal.main_arg1)
      ∧ r.2.mem ((c.tc : Thread Cert.SumSmallRefIdeal.nD Cert.SumSmallRefIdeal.τ).loc Cert.SumSmallRefIdeal.main_arg2) = m ((c.tc : Thread Cert.SumSmallRefIdeal.nD Cert.SumSmallRefIdeal.τ).loc Cert.SumSmallRefIdeal.main_arg2)
      ∧ r.2.mem ((c.tc : Thread Cert.SumSmallRefIdeal.nD Cert.SumSmallRefIdeal.τ).loc Cert.SumSmallRefIdeal.main_arg3) = m ((c.tc : Thread Cert.SumSmallRefIdeal.nD Cert.SumSmallRefIdeal.τ).loc Cert.SumSmallRefIdeal.main_arg3)
      ∧ r.2.mem ((c.tc : Thread Cert.SumSmallRefIdeal.nD Cert.SumSmallRefIdeal.τ).loc Cert.SumSmallRefIdeal.main_arg4) = m ((c.tc : Thread Cert.SumSmallRefIdeal.nD Cert.SumSmallRefIdeal.τ).loc Cert.SumSmallRefIdeal.main_arg4)
      ∧ r.2.mem ((c.tc : Thread Cert.SumSmallRefIdeal.nD Cert.SumSmallRefIdeal.τ).loc Cert.SumSmallRefIdeal.main_arg5) = m ((c.tc : Thread Cert.SumSmallRefIdeal.nD Cert.SumSmallRefIdeal.τ).loc Cert.SumSmallRefIdeal.main_arg5)
      ∧ r.2.mem ((c.tc : Thread Cert.SumSmallRefIdeal.nD Cert.SumSmallRefIdeal.τ).loc Cert.SumSmallRefIdeal.main_arg6) = m ((c.tc : Thread Cert.SumSmallRefIdeal.nD Cert.SumSmallRefIdeal.τ).loc Cert.SumSmallRefIdeal.main_arg6)
      ∧ r.2.mem ((c.tc : Thread Cert.SumSmallRefIdeal.nD Cert.SumSmallRefIdeal.τ).loc Cert.SumSmallRefIdeal.main_arg7) = m ((c.tc : Thread Cert.SumSmallRefIdeal.nD Cert.SumSmallRefIdeal.τ).loc Cert.SumSmallRefIdeal.main_arg7)
      ∧ r.2.mem ((c.tc : Thread Cert.SumSmallRefIdeal.nD Cert.SumSmallRefIdeal.τ).loc Cert.SumSmallRefIdeal.main_arg8) = m ((c.tc : Thread Cert.SumSmallRefIdeal.nD Cert.SumSmallRefIdeal.τ).loc Cert.SumSmallRefIdeal.main_arg8)
      ∧ r.2.mem ((c.tc : Thread Cert.SumSmallRefIdeal.nD Cert.SumSmallRefIdeal.τ).loc Cert.SumSmallRefIdeal.main_arg9) = m ((c.tc : Thread Cert.SumSmallRefIdeal.nD Cert.SumSmallRefIdeal.τ).loc Cert.SumSmallRefIdeal.main_arg9)
      ∧ r.2.mem ((c.tc : Thread Cert.SumSmallRefIdeal.nD Cert.SumSmallRefIdeal.τ).loc Cert.SumSmallRefIdeal.main_arg10) = m ((c.tc : Thread Cert.SumSmallRefIdeal.nD Cert.SumSmallRefIdeal.τ).loc Cert.SumSmallRefIdeal.main_arg10)
      ∧ r.2.mem ((c.tc : Thread Cert.SumSmallRefIdeal.nD Cert.SumSmallRefIdeal.τ).loc Cert.SumSmallRefIdeal.main_arg11) = m ((c.tc : Thread Cert.SumSmallRefIdeal.nD Cert.SumSmallRefIdeal.τ).loc Cert.SumSmallRefIdeal.main_arg11))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2)
      ∧ r.2.mem ((c.tc : Thread Cert.ProjFwd.nD Cert.ProjFwd.τ).loc Cert.ProjFwd.main_arg3) = m ((c.tc : Thread Cert.ProjFwd.nD Cert.ProjFwd.τ).loc Cert.ProjFwd.main_arg3))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
      ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3))
      ∧ r.2.sem = fun _ => 0)

def quiescent_ProjFwdIdeal_pre_finite [hProjFwdIdeal : Cert.ProjFwdIdeal.Facts] [hPre_finite : Cert.Pre_finite.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal_finite m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
      ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1)
      ∧ r.2.mem ((c.tc : Thread Cert.ProjFwdRefIdeal.nD Cert.ProjFwdRefIdeal.τ).loc Cert.ProjFwdRefIdeal.main_arg2) = m ((c.tc : Thread Cert.ProjFwdRefIdeal.nD Cert.ProjFwdRefIdeal.τ).loc Cert.ProjFwdRefIdeal.main_arg2)
      ∧ r.2.mem ((c.tc : Thread Cert.ProjFwdRefIdeal.nD Cert.ProjFwdRefIdeal.τ).loc Cert.ProjFwdRefIdeal.main_arg3) = m ((c.tc : Thread Cert.ProjFwdRefIdeal.nD Cert.ProjFwdRefIdeal.τ).loc Cert.ProjFwdRefIdeal.main_arg3))
      ∧ r.2.sem = fun _ => 0)

def quiescent_ProjFwdRefIdeal_pre_finite [hProjFwdRefIdeal : Cert.ProjFwdRefIdeal.Facts] [hPre_finite : Cert.Pre_finite.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal_finite m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1)
      ∧ r.2.mem ((c.tc : Thread Cert.ProjFwdRefIdeal.nD Cert.ProjFwdRefIdeal.τ).loc Cert.ProjFwdRefIdeal.main_arg2) = m ((c.tc : Thread Cert.ProjFwdRefIdeal.nD Cert.ProjFwdRefIdeal.τ).loc Cert.ProjFwdRefIdeal.main_arg2)
      ∧ r.2.mem ((c.tc : Thread Cert.ProjFwdRefIdeal.nD Cert.ProjFwdRefIdeal.τ).loc Cert.ProjFwdRefIdeal.main_arg3) = m ((c.tc : Thread Cert.ProjFwdRefIdeal.nD Cert.ProjFwdRefIdeal.τ).loc Cert.ProjFwdRefIdeal.main_arg3))
      ∧ r.2.sem = fun _ => 0)

def quiescent_UpFwdAct [hUpFwdAct : Cert.UpFwdAct.Facts] : Prop :=
  ∀ (m : (ℓ : Loc Cert.UpFwdAct.nD Cert.UpFwdAct.τ Cert.UpFwdAct.sig) → Buf (Elt Bits) ℓ) (g : Dev Cert.UpFwdAct.nD → PrngReg), Pre_UpFwdAct m →
    θ_run (Cert.UpFwdAct.defs (F := Bits)) (onTc (τ := Cert.UpFwdAct.τ) (Cert.UpFwdAct.main (F := Bits))) ⟨m, fun _ => 0, g⟩ (fun r => (∀ c : Dev Cert.UpFwdAct.nD,
      r.2.mem ((c.tc : Thread Cert.UpFwdAct.nD Cert.UpFwdAct.τ).loc Cert.UpFwdAct.main_arg0) = m ((c.tc : Thread Cert.UpFwdAct.nD Cert.UpFwdAct.τ).loc Cert.UpFwdAct.main_arg0)
      ∧ r.2.mem ((c.tc : Thread Cert.UpFwdAct.nD Cert.UpFwdAct.τ).loc Cert.UpFwdAct.main_arg1) = m ((c.tc : Thread Cert.UpFwdAct.nD Cert.UpFwdAct.τ).loc Cert.UpFwdAct.main_arg1)
      ∧ r.2.mem ((c.tc : Thread Cert.UpFwdAct.nD Cert.UpFwdAct.τ).loc Cert.UpFwdAct.main_arg2) = m ((c.tc : Thread Cert.UpFwdAct.nD Cert.UpFwdAct.τ).loc Cert.UpFwdAct.main_arg2)
      ∧ r.2.mem ((c.tc : Thread Cert.UpFwdAct.nD Cert.UpFwdAct.τ).loc Cert.UpFwdAct.main_arg3) = m ((c.tc : Thread Cert.UpFwdAct.nD Cert.UpFwdAct.τ).loc Cert.UpFwdAct.main_arg3))
      ∧ r.2.sem = fun _ => 0)

def quiescent_UpFwdActIdeal [hUpFwdActIdeal : Cert.UpFwdActIdeal.Facts] : Prop :=
  ∀ (m : (ℓ : Loc Cert.UpFwdActIdeal.nD Cert.UpFwdActIdeal.τ Cert.UpFwdActIdeal.sig) → Buf (Elt Ideal) ℓ) (g : Dev Cert.UpFwdActIdeal.nD → PrngReg), Pre_UpFwdActIdeal m →
    θ_run (Cert.UpFwdActIdeal.defs (F := Ideal)) (onTc (τ := Cert.UpFwdActIdeal.τ) (Cert.UpFwdActIdeal.main (F := Ideal))) ⟨m, fun _ => 0, g⟩ (fun r => (∀ c : Dev Cert.UpFwdActIdeal.nD,
      r.2.mem ((c.tc : Thread Cert.UpFwdActIdeal.nD Cert.UpFwdActIdeal.τ).loc Cert.UpFwdActIdeal.main_arg0) = m ((c.tc : Thread Cert.UpFwdActIdeal.nD Cert.UpFwdActIdeal.τ).loc Cert.UpFwdActIdeal.main_arg0)
      ∧ r.2.mem ((c.tc : Thread Cert.UpFwdActIdeal.nD Cert.UpFwdActIdeal.τ).loc Cert.UpFwdActIdeal.main_arg1) = m ((c.tc : Thread Cert.UpFwdActIdeal.nD Cert.UpFwdActIdeal.τ).loc Cert.UpFwdActIdeal.main_arg1)
      ∧ r.2.mem ((c.tc : Thread Cert.UpFwdActIdeal.nD Cert.UpFwdActIdeal.τ).loc Cert.UpFwdActIdeal.main_arg2) = m ((c.tc : Thread Cert.UpFwdActIdeal.nD Cert.UpFwdActIdeal.τ).loc Cert.UpFwdActIdeal.main_arg2)
      ∧ r.2.mem ((c.tc : Thread Cert.UpFwdActIdeal.nD Cert.UpFwdActIdeal.τ).loc Cert.UpFwdActIdeal.main_arg3) = m ((c.tc : Thread Cert.UpFwdActIdeal.nD Cert.UpFwdActIdeal.τ).loc Cert.UpFwdActIdeal.main_arg3))
      ∧ r.2.sem = fun _ => 0)

def quiescent_UpFwdActRefIdeal [hUpFwdActRefIdeal : Cert.UpFwdActRefIdeal.Facts] : Prop :=
  ∀ (m : (ℓ : Loc Cert.UpFwdActRefIdeal.nD Cert.UpFwdActRefIdeal.τ Cert.UpFwdActRefIdeal.sig) → Buf (Elt Ideal) ℓ) (g : Dev Cert.UpFwdActRefIdeal.nD → PrngReg), Pre_UpFwdActRefIdeal m →
    θ_run (Cert.UpFwdActRefIdeal.defs (F := Ideal)) (onTc (τ := Cert.UpFwdActRefIdeal.τ) (Cert.UpFwdActRefIdeal.main (F := Ideal))) ⟨m, fun _ => 0, g⟩ (fun r => (∀ c : Dev Cert.UpFwdActRefIdeal.nD,
      r.2.mem ((c.tc : Thread Cert.UpFwdActRefIdeal.nD Cert.UpFwdActRefIdeal.τ).loc Cert.UpFwdActRefIdeal.main_arg0) = m ((c.tc : Thread Cert.UpFwdActRefIdeal.nD Cert.UpFwdActRefIdeal.τ).loc Cert.UpFwdActRefIdeal.main_arg0)
      ∧ r.2.mem ((c.tc : Thread Cert.UpFwdActRefIdeal.nD Cert.UpFwdActRefIdeal.τ).loc Cert.UpFwdActRefIdeal.main_arg1) = m ((c.tc : Thread Cert.UpFwdActRefIdeal.nD Cert.UpFwdActRefIdeal.τ).loc Cert.UpFwdActRefIdeal.main_arg1)
      ∧ r.2.mem ((c.tc : Thread Cert.UpFwdActRefIdeal.nD Cert.UpFwdActRefIdeal.τ).loc Cert.UpFwdActRefIdeal.main_arg2) = m ((c.tc : Thread Cert.UpFwdActRefIdeal.nD Cert.UpFwdActRefIdeal.τ).loc Cert.UpFwdActRefIdeal.main_arg2)
      ∧ r.2.mem ((c.tc : Thread Cert.UpFwdActRefIdeal.nD Cert.UpFwdActRefIdeal.τ).loc Cert.UpFwdActRefIdeal.main_arg3) = m ((c.tc : Thread Cert.UpFwdActRefIdeal.nD Cert.UpFwdActRefIdeal.τ).loc Cert.UpFwdActRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvBwdIdeal_pre_finite_norm [hConvBwdIdeal : Cert.ConvBwdIdeal.Facts] [hPre_finite_norm : Cert.Pre_finite_norm.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite_norm m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4)
      ∧ r.2.mem ((c.tc : Thread Cert.ConvBwdRefIdeal.nD Cert.ConvBwdRefIdeal.τ).loc Cert.ConvBwdRefIdeal.main_arg5) = m ((c.tc : Thread Cert.ConvBwdRefIdeal.nD Cert.ConvBwdRefIdeal.τ).loc Cert.ConvBwdRefIdeal.main_arg5))
      ∧ r.2.sem = fun _ => 0)

def quiescent_ConvBwdRefIdeal_pre_finite_norm [hConvBwdRefIdeal : Cert.ConvBwdRefIdeal.Facts] [hPre_finite_norm : Cert.Pre_finite_norm.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_finite_norm m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4)
      ∧ r.2.mem ((c.tc : Thread Cert.ConvBwdRefIdeal.nD Cert.ConvBwdRefIdeal.τ).loc Cert.ConvBwdRefIdeal.main_arg5) = m ((c.tc : Thread Cert.ConvBwdRefIdeal.nD Cert.ConvBwdRefIdeal.τ).loc Cert.ConvBwdRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_GradWUp_GradWUpIdeal : Prop :=
  True

def algebraic_GradWUpIdeal_GradWUpRefIdeal [hGradWUpIdeal : Cert.GradWUpIdeal.Facts] [hGradWUpRefIdeal : Cert.GradWUpRefIdeal.Facts] : Prop :=
  ∀ (m : (ℓ : Loc Cert.GradWUpIdeal.nD Cert.GradWUpIdeal.τ Cert.GradWUpIdeal.sig) → Buf (Elt Ideal) ℓ) (g : Dev Cert.GradWUpIdeal.nD → PrngReg)
    (m' : (ℓ : Loc Cert.GradWUpRefIdeal.nD Cert.GradWUpRefIdeal.τ Cert.GradWUpRefIdeal.sig) → Buf (Elt Ideal) ℓ) (g' : Dev Cert.GradWUpRefIdeal.nD → PrngReg), Pre_GradWUpIdeal m →
    (∀ c : Dev Cert.GradWUpIdeal.nD,
      m' ((c.tc : Thread Cert.GradWUpRefIdeal.nD Cert.GradWUpRefIdeal.τ).loc Cert.GradWUpRefIdeal.main_arg0) = m ((c.tc : Thread Cert.GradWUpIdeal.nD Cert.GradWUpIdeal.τ).loc Cert.GradWUpIdeal.main_arg0)
      ∧ m' ((c.tc : Thread Cert.GradWUpRefIdeal.nD Cert.GradWUpRefIdeal.τ).loc Cert.GradWUpRefIdeal.main_arg1) = m ((c.tc : Thread Cert.GradWUpIdeal.nD Cert.GradWUpIdeal.τ).loc Cert.GradWUpIdeal.main_arg1)
      ∧ m' ((c.tc : Thread Cert.GradWUpRefIdeal.nD Cert.GradWUpRefIdeal.τ).loc Cert.GradWUpRefIdeal.main_arg2) = m ((c.tc : Thread Cert.GradWUpIdeal.nD Cert.GradWUpIdeal.τ).loc Cert.GradWUpIdeal.main_arg2)) →
    ∃ (v0 : (c : Dev Cert.GradWUpIdeal.nD) → Buf (Elt Ideal) ((c.tc : Thread Cert.GradWUpIdeal.nD Cert.GradWUpIdeal.τ).loc Cert.GradWUpIdeal.main_v0)),
      θ_run (Cert.GradWUpIdeal.defs (F := Ideal)) (onTc (τ := Cert.GradWUpIdeal.τ) (Cert.GradWUpIdeal.main (F := Ideal))) ⟨m, fun _ => 0, g⟩ (fun r => ∀ c : Dev Cert.GradWUpIdeal.nD,
          r.2.mem ((c.tc : Thread Cert.GradWUpIdeal.nD Cert.GradWUpIdeal.τ).loc Cert.GradWUpIdeal.main_v0) = v0 c
          ∧ r.2.mem ((c.tc : Thread Cert.GradWUpIdeal.nD Cert.GradWUpIdeal.τ).loc Cert.GradWUpIdeal.main_arg0) = m ((c.tc : Thread Cert.GradWUpIdeal.nD Cert.GradWUpIdeal.τ).loc Cert.GradWUpIdeal.main_arg0)
          ∧ r.2.mem ((c.tc : Thread Cert.GradWUpIdeal.nD Cert.GradWUpIdeal.τ).loc Cert.GradWUpIdeal.main_arg1) = m ((c.tc : Thread Cert.GradWUpIdeal.nD Cert.GradWUpIdeal.τ).loc Cert.GradWUpIdeal.main_arg1)
          ∧ r.2.mem ((c.tc : Thread Cert.GradWUpIdeal.nD Cert.GradWUpIdeal.τ).loc Cert.GradWUpIdeal.main_arg2) = m ((c.tc : Thread Cert.GradWUpIdeal.nD Cert.GradWUpIdeal.τ).loc Cert.GradWUpIdeal.main_arg2))
      ∧ θ_run (Cert.GradWUpRefIdeal.defs (F := Ideal)) (onTc (τ := Cert.GradWUpRefIdeal.τ) (Cert.GradWUpRefIdeal.main (F := Ideal))) ⟨m', fun _ => 0, g'⟩ (fun r => ∀ c : Dev Cert.GradWUpRefIdeal.nD,
          r.2.mem ((c.tc : Thread Cert.GradWUpRefIdeal.nD Cert.GradWUpRefIdeal.τ).loc Cert.GradWUpRefIdeal.main_v9) = v0 c
          ∧ r.2.mem ((c.tc : Thread Cert.GradWUpRefIdeal.nD Cert.GradWUpRefIdeal.τ).loc Cert.GradWUpRefIdeal.main_arg0) = m' ((c.tc : Thread Cert.GradWUpRefIdeal.nD Cert.GradWUpRefIdeal.τ).loc Cert.GradWUpRefIdeal.main_arg0)
          ∧ r.2.mem ((c.tc : Thread Cert.GradWUpRefIdeal.nD Cert.GradWUpRefIdeal.τ).loc Cert.GradWUpRefIdeal.main_arg1) = m' ((c.tc : Thread Cert.GradWUpRefIdeal.nD Cert.GradWUpRefIdeal.τ).loc Cert.GradWUpRefIdeal.main_arg1)
          ∧ r.2.mem ((c.tc : Thread Cert.GradWUpRefIdeal.nD Cert.GradWUpRefIdeal.τ).loc Cert.GradWUpRefIdeal.main_arg2) = m' ((c.tc : Thread Cert.GradWUpRefIdeal.nD Cert.GradWUpRefIdeal.τ).loc Cert.GradWUpRefIdeal.main_arg2))

def preserves_GradWDown_GradWDownIdeal : Prop :=
  True

def algebraic_GradWDownIdeal_GradWDownRefIdeal [hGradWDownIdeal : Cert.GradWDownIdeal.Facts] [hGradWDownRefIdeal : Cert.GradWDownRefIdeal.Facts] : Prop :=
  ∀ (m : (ℓ : Loc Cert.GradWDownIdeal.nD Cert.GradWDownIdeal.τ Cert.GradWDownIdeal.sig) → Buf (Elt Ideal) ℓ) (g : Dev Cert.GradWDownIdeal.nD → PrngReg)
    (m' : (ℓ : Loc Cert.GradWDownRefIdeal.nD Cert.GradWDownRefIdeal.τ Cert.GradWDownRefIdeal.sig) → Buf (Elt Ideal) ℓ) (g' : Dev Cert.GradWDownRefIdeal.nD → PrngReg), Pre_GradWDownIdeal m →
    (∀ c : Dev Cert.GradWDownIdeal.nD,
      m' ((c.tc : Thread Cert.GradWDownRefIdeal.nD Cert.GradWDownRefIdeal.τ).loc Cert.GradWDownRefIdeal.main_arg0) = m ((c.tc : Thread Cert.GradWDownIdeal.nD Cert.GradWDownIdeal.τ).loc Cert.GradWDownIdeal.main_arg0)
      ∧ m' ((c.tc : Thread Cert.GradWDownRefIdeal.nD Cert.GradWDownRefIdeal.τ).loc Cert.GradWDownRefIdeal.main_arg1) = m ((c.tc : Thread Cert.GradWDownIdeal.nD Cert.GradWDownIdeal.τ).loc Cert.GradWDownIdeal.main_arg1)) →
    ∃ (v0 : (c : Dev Cert.GradWDownIdeal.nD) → Buf (Elt Ideal) ((c.tc : Thread Cert.GradWDownIdeal.nD Cert.GradWDownIdeal.τ).loc Cert.GradWDownIdeal.main_v0)),
      θ_run (Cert.GradWDownIdeal.defs (F := Ideal)) (onTc (τ := Cert.GradWDownIdeal.τ) (Cert.GradWDownIdeal.main (F := Ideal))) ⟨m, fun _ => 0, g⟩ (fun r => ∀ c : Dev Cert.GradWDownIdeal.nD,
          r.2.mem ((c.tc : Thread Cert.GradWDownIdeal.nD Cert.GradWDownIdeal.τ).loc Cert.GradWDownIdeal.main_v0) = v0 c
          ∧ r.2.mem ((c.tc : Thread Cert.GradWDownIdeal.nD Cert.GradWDownIdeal.τ).loc Cert.GradWDownIdeal.main_arg0) = m ((c.tc : Thread Cert.GradWDownIdeal.nD Cert.GradWDownIdeal.τ).loc Cert.GradWDownIdeal.main_arg0)
          ∧ r.2.mem ((c.tc : Thread Cert.GradWDownIdeal.nD Cert.GradWDownIdeal.τ).loc Cert.GradWDownIdeal.main_arg1) = m ((c.tc : Thread Cert.GradWDownIdeal.nD Cert.GradWDownIdeal.τ).loc Cert.GradWDownIdeal.main_arg1))
      ∧ θ_run (Cert.GradWDownRefIdeal.defs (F := Ideal)) (onTc (τ := Cert.GradWDownRefIdeal.τ) (Cert.GradWDownRefIdeal.main (F := Ideal))) ⟨m', fun _ => 0, g'⟩ (fun r => ∀ c : Dev Cert.GradWDownRefIdeal.nD,
          r.2.mem ((c.tc : Thread Cert.GradWDownRefIdeal.nD Cert.GradWDownRefIdeal.τ).loc Cert.GradWDownRefIdeal.main_v6) = v0 c
          ∧ r.2.mem ((c.tc : Thread Cert.GradWDownRefIdeal.nD Cert.GradWDownRefIdeal.τ).loc Cert.GradWDownRefIdeal.main_arg0) = m' ((c.tc : Thread Cert.GradWDownRefIdeal.nD Cert.GradWDownRefIdeal.τ).loc Cert.GradWDownRefIdeal.main_arg0)
          ∧ r.2.mem ((c.tc : Thread Cert.GradWDownRefIdeal.nD Cert.GradWDownRefIdeal.τ).loc Cert.GradWDownRefIdeal.main_arg1) = m' ((c.tc : Thread Cert.GradWDownRefIdeal.nD Cert.GradWDownRefIdeal.τ).loc Cert.GradWDownRefIdeal.main_arg1))

def preserves_GradWOut_GradWOutIdeal : Prop :=
  True

def algebraic_GradWOutIdeal_GradWOutRefIdeal [hGradWOutIdeal : Cert.GradWOutIdeal.Facts] [hGradWOutRefIdeal : Cert.GradWOutRefIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg)
    (m' : (ℓ : Loc Cert.GradWOutRefIdeal.nD Cert.GradWOutRefIdeal.τ Cert.GradWOutRefIdeal.sig) → Buf (Elt Ideal) ℓ) (g' : Dev Cert.GradWOutRefIdeal.nD → PrngReg), Pre_GradWOutIdeal m →
    (∀ c : Dev Cert.GradWOutIdeal.nD,
      m' ((c.tc : Thread Cert.GradWOutRefIdeal.nD Cert.GradWOutRefIdeal.τ).loc Cert.GradWOutRefIdeal.main_arg0) = m ((c.tc : Thread Cert.GradWOutIdeal.nD Cert.GradWOutIdeal.τ).loc Cert.GradWOutIdeal.main_arg0)
      ∧ m' ((c.tc : Thread Cert.GradWOutRefIdeal.nD Cert.GradWOutRefIdeal.τ).loc Cert.GradWOutRefIdeal.main_arg1) = m ((c.tc : Thread Cert.GradWOutIdeal.nD Cert.GradWOutIdeal.τ).loc Cert.GradWOutIdeal.main_arg1)
      ∧ m' ((c.tc : Thread Cert.GradWOutRefIdeal.nD Cert.GradWOutRefIdeal.τ).loc Cert.GradWOutRefIdeal.main_arg2) = m ((c.tc : Thread Cert.GradWOutIdeal.nD Cert.GradWOutIdeal.τ).loc Cert.GradWOutIdeal.main_arg2)) →
    ∃ (v0 : (c : Dev Cert.GradWOutIdeal.nD) → Buf (Elt Ideal) ((c.tc : Thread Cert.GradWOutIdeal.nD Cert.GradWOutIdeal.τ).loc Cert.GradWOutIdeal.main_v0)),
      θ_run (Cert.GradWOutIdeal.defs (F := Ideal)) (onTc (τ := Cert.GradWOutIdeal.τ) (Cert.GradWOutIdeal.main (F := Ideal))) ⟨m, fun _ => 0, g⟩ (fun r => ∀ c : Dev Cert.GradWOutIdeal.nD,
          r.2.mem ((c.tc : Thread Cert.GradWOutIdeal.nD Cert.GradWOutIdeal.τ).loc Cert.GradWOutIdeal.main_v0) = v0 c
          ∧ r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
          ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1)
          ∧ r.2.mem ((c.tc : Thread Cert.GradWOutIdeal.nD Cert.GradWOutIdeal.τ).loc Cert.GradWOutIdeal.main_arg2) = m ((c.tc : Thread Cert.GradWOutIdeal.nD Cert.GradWOutIdeal.τ).loc Cert.GradWOutIdeal.main_arg2))
      ∧ θ_run (Cert.GradWOutRefIdeal.defs (F := Ideal)) (onTc (τ := Cert.GradWOutRefIdeal.τ) (Cert.GradWOutRefIdeal.main (F := Ideal))) ⟨m', fun _ => 0, g'⟩ (fun r => ∀ c : Dev Cert.GradWOutRefIdeal.nD,
          r.2.mem ((c.tc : Thread Cert.GradWOutRefIdeal.nD Cert.GradWOutRefIdeal.τ).loc Cert.GradWOutRefIdeal.main_v7) = v0 c
          ∧ r.2.mem ((c.tc : Thread Cert.GradWOutRefIdeal.nD Cert.GradWOutRefIdeal.τ).loc Cert.GradWOutRefIdeal.main_arg0) = m' ((c.tc : Thread Cert.GradWOutRefIdeal.nD Cert.GradWOutRefIdeal.τ).loc Cert.GradWOutRefIdeal.main_arg0)
          ∧ r.2.mem ((c.tc : Thread Cert.GradWOutRefIdeal.nD Cert.GradWOutRefIdeal.τ).loc Cert.GradWOutRefIdeal.main_arg1) = m' ((c.tc : Thread Cert.GradWOutRefIdeal.nD Cert.GradWOutRefIdeal.τ).loc Cert.GradWOutRefIdeal.main_arg1)
          ∧ r.2.mem ((c.tc : Thread Cert.GradWOutRefIdeal.nD Cert.GradWOutRefIdeal.τ).loc Cert.GradWOutRefIdeal.main_arg2) = m' ((c.tc : Thread Cert.GradWOutRefIdeal.nD Cert.GradWOutRefIdeal.τ).loc Cert.GradWOutRefIdeal.main_arg2))

def preserves_GradWIn_GradWInIdeal : Prop :=
  True

def algebraic_GradWInIdeal_GradWInRefIdeal [hGradWInIdeal : Cert.GradWInIdeal.Facts] [hGradWInRefIdeal : Cert.GradWInRefIdeal.Facts] : Prop :=
  ∀ (m : (ℓ : Loc Cert.GradWInIdeal.nD Cert.GradWInIdeal.τ Cert.GradWInIdeal.sig) → Buf (Elt Ideal) ℓ) (g : Dev Cert.GradWInIdeal.nD → PrngReg)
    (m' : (ℓ : Loc Cert.GradWInRefIdeal.nD Cert.GradWInRefIdeal.τ Cert.GradWInRefIdeal.sig) → Buf (Elt Ideal) ℓ) (g' : Dev Cert.GradWInRefIdeal.nD → PrngReg), Pre_GradWInIdeal m →
    (∀ c : Dev Cert.GradWInIdeal.nD,
      m' ((c.tc : Thread Cert.GradWInRefIdeal.nD Cert.GradWInRefIdeal.τ).loc Cert.GradWInRefIdeal.main_arg0) = m ((c.tc : Thread Cert.GradWInIdeal.nD Cert.GradWInIdeal.τ).loc Cert.GradWInIdeal.main_arg0)
      ∧ m' ((c.tc : Thread Cert.GradWInRefIdeal.nD Cert.GradWInRefIdeal.τ).loc Cert.GradWInRefIdeal.main_arg1) = m ((c.tc : Thread Cert.GradWInIdeal.nD Cert.GradWInIdeal.τ).loc Cert.GradWInIdeal.main_arg1)
      ∧ m' ((c.tc : Thread Cert.GradWInRefIdeal.nD Cert.GradWInRefIdeal.τ).loc Cert.GradWInRefIdeal.main_arg2) = m ((c.tc : Thread Cert.GradWInIdeal.nD Cert.GradWInIdeal.τ).loc Cert.GradWInIdeal.main_arg2)
      ∧ m' ((c.tc : Thread Cert.GradWInRefIdeal.nD Cert.GradWInRefIdeal.τ).loc Cert.GradWInRefIdeal.main_arg3) = m ((c.tc : Thread Cert.GradWInIdeal.nD Cert.GradWInIdeal.τ).loc Cert.GradWInIdeal.main_arg3)
      ∧ m' ((c.tc : Thread Cert.GradWInRefIdeal.nD Cert.GradWInRefIdeal.τ).loc Cert.GradWInRefIdeal.main_arg4) = m ((c.tc : Thread Cert.GradWInIdeal.nD Cert.GradWInIdeal.τ).loc Cert.GradWInIdeal.main_arg4)) →
    ∃ (v0 : (c : Dev Cert.GradWInIdeal.nD) → Buf (Elt Ideal) ((c.tc : Thread Cert.GradWInIdeal.nD Cert.GradWInIdeal.τ).loc Cert.GradWInIdeal.main_v0)),
      θ_run (Cert.GradWInIdeal.defs (F := Ideal)) (onTc (τ := Cert.GradWInIdeal.τ) (Cert.GradWInIdeal.main (F := Ideal))) ⟨m, fun _ => 0, g⟩ (fun r => ∀ c : Dev Cert.GradWInIdeal.nD,
          r.2.mem ((c.tc : Thread Cert.GradWInIdeal.nD Cert.GradWInIdeal.τ).loc Cert.GradWInIdeal.main_v0) = v0 c
          ∧ r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
          ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1)
          ∧ r.2.mem ((c.tc : Thread Cert.GradWInIdeal.nD Cert.GradWInIdeal.τ).loc Cert.GradWInIdeal.main_arg2) = m ((c.tc : Thread Cert.GradWInIdeal.nD Cert.GradWInIdeal.τ).loc Cert.GradWInIdeal.main_arg2)
          ∧ r.2.mem ((c.tc : Thread Cert.GradWInIdeal.nD Cert.GradWInIdeal.τ).loc Cert.GradWInIdeal.main_arg3) = m ((c.tc : Thread Cert.GradWInIdeal.nD Cert.GradWInIdeal.τ).loc Cert.GradWInIdeal.main_arg3)
          ∧ r.2.mem ((c.tc : Thread Cert.GradWInIdeal.nD Cert.GradWInIdeal.τ).loc Cert.GradWInIdeal.main_arg4) = m ((c.tc : Thread Cert.GradWInIdeal.nD Cert.GradWInIdeal.τ).loc Cert.GradWInIdeal.main_arg4))
      ∧ θ_run (Cert.GradWInRefIdeal.defs (F := Ideal)) (onTc (τ := Cert.GradWInRefIdeal.τ) (Cert.GradWInRefIdeal.main (F := Ideal))) ⟨m', fun _ => 0, g'⟩ (fun r => ∀ c : Dev Cert.GradWInRefIdeal.nD,
          r.2.mem ((c.tc : Thread Cert.GradWInRefIdeal.nD Cert.GradWInRefIdeal.τ).loc Cert.GradWInRefIdeal.main_v11) = v0 c
          ∧ r.2.mem ((c.tc : Thread Cert.GradWInRefIdeal.nD Cert.GradWInRefIdeal.τ).loc Cert.GradWInRefIdeal.main_arg0) = m' ((c.tc : Thread Cert.GradWInRefIdeal.nD Cert.GradWInRefIdeal.τ).loc Cert.GradWInRefIdeal.main_arg0)
          ∧ r.2.mem ((c.tc : Thread Cert.GradWInRefIdeal.nD Cert.GradWInRefIdeal.τ).loc Cert.GradWInRefIdeal.main_arg1) = m' ((c.tc : Thread Cert.GradWInRefIdeal.nD Cert.GradWInRefIdeal.τ).loc Cert.GradWInRefIdeal.main_arg1)
          ∧ r.2.mem ((c.tc : Thread Cert.GradWInRefIdeal.nD Cert.GradWInRefIdeal.τ).loc Cert.GradWInRefIdeal.main_arg2) = m' ((c.tc : Thread Cert.GradWInRefIdeal.nD Cert.GradWInRefIdeal.τ).loc Cert.GradWInRefIdeal.main_arg2)
          ∧ r.2.mem ((c.tc : Thread Cert.GradWInRefIdeal.nD Cert.GradWInRefIdeal.τ).loc Cert.GradWInRefIdeal.main_arg3) = m' ((c.tc : Thread Cert.GradWInRefIdeal.nD Cert.GradWInRefIdeal.τ).loc Cert.GradWInRefIdeal.main_arg3)
          ∧ r.2.mem ((c.tc : Thread Cert.GradWInRefIdeal.nD Cert.GradWInRefIdeal.τ).loc Cert.GradWInRefIdeal.main_arg4) = m' ((c.tc : Thread Cert.GradWInRefIdeal.nD Cert.GradWInRefIdeal.τ).loc Cert.GradWInRefIdeal.main_arg4))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v1)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v1) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v3) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DCat_DCatIdeal : Prop :=
  True

def algebraic_DCatIdeal_DCatRefIdeal [hDCatIdeal : Cert.DCatIdeal.Facts] [hDCatRefIdeal : Cert.DCatRefIdeal.Facts] : Prop :=
  ∀ (m : (ℓ : Loc Cert.DCatIdeal.nD Cert.DCatIdeal.τ Cert.DCatIdeal.sig) → Buf (Elt Ideal) ℓ) (g : Dev Cert.DCatIdeal.nD → PrngReg)
    (m' : (ℓ : Loc Cert.DCatRefIdeal.nD Cert.DCatRefIdeal.τ Cert.DCatRefIdeal.sig) → Buf (Elt Ideal) ℓ) (g' : Dev Cert.DCatRefIdeal.nD → PrngReg), Pre_DCatIdeal m →
    (∀ c : Dev Cert.DCatIdeal.nD,
      m' ((c.tc : Thread Cert.DCatRefIdeal.nD Cert.DCatRefIdeal.τ).loc Cert.DCatRefIdeal.main_arg0) = m ((c.tc : Thread Cert.DCatIdeal.nD Cert.DCatIdeal.τ).loc Cert.DCatIdeal.main_arg0)
      ∧ m' ((c.tc : Thread Cert.DCatRefIdeal.nD Cert.DCatRefIdeal.τ).loc Cert.DCatRefIdeal.main_arg1) = m ((c.tc : Thread Cert.DCatIdeal.nD Cert.DCatIdeal.τ).loc Cert.DCatIdeal.main_arg1)) →
    ∃ (v0 : (c : Dev Cert.DCatIdeal.nD) → Buf (Elt Ideal) ((c.tc : Thread Cert.DCatIdeal.nD Cert.DCatIdeal.τ).loc Cert.DCatIdeal.main_v1)),
      θ_run (Cert.DCatIdeal.defs (F := Ideal)) (onTc (τ := Cert.DCatIdeal.τ) (Cert.DCatIdeal.main (F := Ideal))) ⟨m, fun _ => 0, g⟩ (fun r => ∀ c : Dev Cert.DCatIdeal.nD,
          r.2.mem ((c.tc : Thread Cert.DCatIdeal.nD Cert.DCatIdeal.τ).loc Cert.DCatIdeal.main_v1) = v0 c
          ∧ r.2.mem ((c.tc : Thread Cert.DCatIdeal.nD Cert.DCatIdeal.τ).loc Cert.DCatIdeal.main_arg0) = m ((c.tc : Thread Cert.DCatIdeal.nD Cert.DCatIdeal.τ).loc Cert.DCatIdeal.main_arg0)
          ∧ r.2.mem ((c.tc : Thread Cert.DCatIdeal.nD Cert.DCatIdeal.τ).loc Cert.DCatIdeal.main_arg1) = m ((c.tc : Thread Cert.DCatIdeal.nD Cert.DCatIdeal.τ).loc Cert.DCatIdeal.main_arg1))
      ∧ θ_run (Cert.DCatRefIdeal.defs (F := Ideal)) (onTc (τ := Cert.DCatRefIdeal.τ) (Cert.DCatRefIdeal.main (F := Ideal))) ⟨m', fun _ => 0, g'⟩ (fun r => ∀ c : Dev Cert.DCatRefIdeal.nD,
          r.2.mem ((c.tc : Thread Cert.DCatRefIdeal.nD Cert.DCatRefIdeal.τ).loc Cert.DCatRefIdeal.main_v3) = v0 c
          ∧ r.2.mem ((c.tc : Thread Cert.DCatRefIdeal.nD Cert.DCatRefIdeal.τ).loc Cert.DCatRefIdeal.main_arg0) = m' ((c.tc : Thread Cert.DCatRefIdeal.nD Cert.DCatRefIdeal.τ).loc Cert.DCatRefIdeal.main_arg0)
          ∧ r.2.mem ((c.tc : Thread Cert.DCatRefIdeal.nD Cert.DCatRefIdeal.τ).loc Cert.DCatRefIdeal.main_arg1) = m' ((c.tc : Thread Cert.DCatRefIdeal.nD Cert.DCatRefIdeal.τ).loc Cert.DCatRefIdeal.main_arg1))

def preserves_ProjBwd_ProjBwdIdeal : Prop :=
  True

def algebraic_ProjBwdIdeal_ProjBwdRefIdeal [hProjBwdIdeal : Cert.ProjBwdIdeal.Facts] [hProjBwdRefIdeal : Cert.ProjBwdRefIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdRefIdeal.nD Cert.ProjBwdRefIdeal.τ Cert.ProjBwdRefIdeal.sig) → Buf (Elt Ideal) ℓ) (g' : Dev Cert.ProjBwdRefIdeal.nD → PrngReg), Pre_ProjBwdIdeal m →
    (∀ c : Dev Cert.ProjBwdIdeal.nD,
      m' ((c.tc : Thread Cert.ProjBwdRefIdeal.nD Cert.ProjBwdRefIdeal.τ).loc Cert.ProjBwdRefIdeal.main_arg0) = m ((c.tc : Thread Cert.ProjBwdIdeal.nD Cert.ProjBwdIdeal.τ).loc Cert.ProjBwdIdeal.main_arg0)
      ∧ m' ((c.tc : Thread Cert.ProjBwdRefIdeal.nD Cert.ProjBwdRefIdeal.τ).loc Cert.ProjBwdRefIdeal.main_arg1) = m ((c.tc : Thread Cert.ProjBwdIdeal.nD Cert.ProjBwdIdeal.τ).loc Cert.ProjBwdIdeal.main_arg1)
      ∧ m' ((c.tc : Thread Cert.ProjBwdRefIdeal.nD Cert.ProjBwdRefIdeal.τ).loc Cert.ProjBwdRefIdeal.main_arg2) = m ((c.tc : Thread Cert.ProjBwdIdeal.nD Cert.ProjBwdIdeal.τ).loc Cert.ProjBwdIdeal.main_arg2)
      ∧ m' ((c.tc : Thread Cert.ProjBwdRefIdeal.nD Cert.ProjBwdRefIdeal.τ).loc Cert.ProjBwdRefIdeal.main_arg3) = m ((c.tc : Thread Cert.ProjBwdIdeal.nD Cert.ProjBwdIdeal.τ).loc Cert.ProjBwdIdeal.main_arg3)
      ∧ m' ((c.tc : Thread Cert.ProjBwdRefIdeal.nD Cert.ProjBwdRefIdeal.τ).loc Cert.ProjBwdRefIdeal.main_arg4) = m ((c.tc : Thread Cert.ProjBwdIdeal.nD Cert.ProjBwdIdeal.τ).loc Cert.ProjBwdIdeal.main_arg4)
      ∧ m' ((c.tc : Thread Cert.ProjBwdRefIdeal.nD Cert.ProjBwdRefIdeal.τ).loc Cert.ProjBwdRefIdeal.main_arg5) = m ((c.tc : Thread Cert.ProjBwdIdeal.nD Cert.ProjBwdIdeal.τ).loc Cert.ProjBwdIdeal.main_arg5)
      ∧ m' ((c.tc : Thread Cert.ProjBwdRefIdeal.nD Cert.ProjBwdRefIdeal.τ).loc Cert.ProjBwdRefIdeal.main_arg6) = m ((c.tc : Thread Cert.ProjBwdIdeal.nD Cert.ProjBwdIdeal.τ).loc Cert.ProjBwdIdeal.main_arg6)
      ∧ m' ((c.tc : Thread Cert.ProjBwdRefIdeal.nD Cert.ProjBwdRefIdeal.τ).loc Cert.ProjBwdRefIdeal.main_arg7) = m ((c.tc : Thread Cert.ProjBwdIdeal.nD Cert.ProjBwdIdeal.τ).loc Cert.ProjBwdIdeal.main_arg7)) →
    ∃ (v0 : (c : Dev Cert.ProjBwdIdeal.nD) → Buf (Elt Ideal) ((c.tc : Thread Cert.ProjBwdIdeal.nD Cert.ProjBwdIdeal.τ).loc Cert.ProjBwdIdeal.main_v3_0)) (v1 : (c : Dev Cert.ProjBwdIdeal.nD) → Buf (Elt Ideal) ((c.tc : Thread Cert.ProjBwdIdeal.nD Cert.ProjBwdIdeal.τ).loc Cert.ProjBwdIdeal.main_v3_1)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v3_0) = v0 c
          ∧ r.2.mem ((c.tc : Thread Cert.ProjBwdIdeal.nD Cert.ProjBwdIdeal.τ).loc Cert.ProjBwdIdeal.main_v3_1) = v1 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
          ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
          ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
          ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7))
      ∧ θ_run (Cert.ProjBwdRefIdeal.defs (F := Ideal)) (onTc (τ := Cert.ProjBwdRefIdeal.τ) (Cert.ProjBwdRefIdeal.main (F := Ideal))) ⟨m', fun _ => 0, g'⟩ (fun r => ∀ c : Dev Cert.ProjBwdRefIdeal.nD,
          r.2.mem ((c.tc : Thread Cert.ProjBwdRefIdeal.nD Cert.ProjBwdRefIdeal.τ).loc Cert.ProjBwdRefIdeal.main_v45) = v0 c
          ∧ r.2.mem ((c.tc : Thread Cert.ProjBwdRefIdeal.nD Cert.ProjBwdRefIdeal.τ).loc Cert.ProjBwdRefIdeal.main_v46) = v1 c
          ∧ r.2.mem ((c.tc : Thread Cert.ProjBwdRefIdeal.nD Cert.ProjBwdRefIdeal.τ).loc Cert.ProjBwdRefIdeal.main_arg0) = m' ((c.tc : Thread Cert.ProjBwdRefIdeal.nD Cert.ProjBwdRefIdeal.τ).loc Cert.ProjBwdRefIdeal.main_arg0)
          ∧ r.2.mem ((c.tc : Thread Cert.ProjBwdRefIdeal.nD Cert.ProjBwdRefIdeal.τ).loc Cert.ProjBwdRefIdeal.main_arg1) = m' ((c.tc : Thread Cert.ProjBwdRefIdeal.nD Cert.ProjBwdRefIdeal.τ).loc Cert.ProjBwdRefIdeal.main_arg1)
          ∧ r.2.mem ((c.tc : Thread Cert.ProjBwdRefIdeal.nD Cert.ProjBwdRefIdeal.τ).loc Cert.ProjBwdRefIdeal.main_arg2) = m' ((c.tc : Thread Cert.ProjBwdRefIdeal.nD Cert.ProjBwdRefIdeal.τ).loc Cert.ProjBwdRefIdeal.main_arg2)
          ∧ r.2.mem ((c.tc : Thread Cert.ProjBwdRefIdeal.nD Cert.ProjBwdRefIdeal.τ).loc Cert.ProjBwdRefIdeal.main_arg3) = m' ((c.tc : Thread Cert.ProjBwdRefIdeal.nD Cert.ProjBwdRefIdeal.τ).loc Cert.ProjBwdRefIdeal.main_arg3)
          ∧ r.2.mem ((c.tc : Thread Cert.ProjBwdRefIdeal.nD Cert.ProjBwdRefIdeal.τ).loc Cert.ProjBwdRefIdeal.main_arg4) = m' ((c.tc : Thread Cert.ProjBwdRefIdeal.nD Cert.ProjBwdRefIdeal.τ).loc Cert.ProjBwdRefIdeal.main_arg4)
          ∧ r.2.mem ((c.tc : Thread Cert.ProjBwdRefIdeal.nD Cert.ProjBwdRefIdeal.τ).loc Cert.ProjBwdRefIdeal.main_arg5) = m' ((c.tc : Thread Cert.ProjBwdRefIdeal.nD Cert.ProjBwdRefIdeal.τ).loc Cert.ProjBwdRefIdeal.main_arg5)
          ∧ r.2.mem ((c.tc : Thread Cert.ProjBwdRefIdeal.nD Cert.ProjBwdRefIdeal.τ).loc Cert.ProjBwdRefIdeal.main_arg6) = m' ((c.tc : Thread Cert.ProjBwdRefIdeal.nD Cert.ProjBwdRefIdeal.τ).loc Cert.ProjBwdRefIdeal.main_arg6)
          ∧ r.2.mem ((c.tc : Thread Cert.ProjBwdRefIdeal.nD Cert.ProjBwdRefIdeal.τ).loc Cert.ProjBwdRefIdeal.main_arg7) = m' ((c.tc : Thread Cert.ProjBwdRefIdeal.nD Cert.ProjBwdRefIdeal.τ).loc Cert.ProjBwdRefIdeal.main_arg7))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v2_0)) (v1 : (c : Dev Cert.MixOutIdeal.nD) → Buf (Elt Ideal) ((c.tc : Thread Cert.MixOutIdeal.nD Cert.MixOutIdeal.τ).loc Cert.MixOutIdeal.main_v2_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2_0) = v0 c
          ∧ r.2.mem ((c.tc : Thread Cert.MixOutIdeal.nD Cert.MixOutIdeal.τ).loc Cert.MixOutIdeal.main_v2_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_v17) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)) →
    ∃ (v0 : (c : Dev Cert.DownLossIdeal.nD) → Buf (Elt Ideal) ((c.tc : Thread Cert.DownLossIdeal.nD Cert.DownLossIdeal.τ).loc Cert.DownLossIdeal.main_v1_0)) (v1 : (c : Dev Cert.DownLossIdeal.nD) → Buf (Elt Ideal) ((c.tc : Thread Cert.DownLossIdeal.nD Cert.DownLossIdeal.τ).loc Cert.DownLossIdeal.main_v1_1)) (v2 : (c : Dev Cert.DownLossIdeal.nD) → Buf (Elt Ideal) ((c.tc : Thread Cert.DownLossIdeal.nD Cert.DownLossIdeal.τ).loc Cert.DownLossIdeal.main_v1_2)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v1_0) = v0 c
          ∧ r.2.mem ((c.tc : Thread Cert.DownLossIdeal.nD Cert.DownLossIdeal.τ).loc Cert.DownLossIdeal.main_v1_1) = v1 c
          ∧ r.2.mem ((c.tc : Thread Cert.DownLossIdeal.nD Cert.DownLossIdeal.τ).loc Cert.DownLossIdeal.main_v1_2) = v2 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v18) = v0 c
          ∧ r.2.mem ((c.tc : Thread Cert.DownLossRefIdeal.nD Cert.DownLossRefIdeal.τ).loc Cert.DownLossRefIdeal.main_v17) = v1 c
          ∧ r.2.mem ((c.tc : Thread Cert.DownLossRefIdeal.nD Cert.DownLossRefIdeal.τ).loc Cert.DownLossRefIdeal.main_v19) = v2 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v23) = v0 c
          ∧ r.2.mem ((c.tc : Thread Cert.AdamWInRefIdeal.nD Cert.AdamWInRefIdeal.τ).loc Cert.AdamWInRefIdeal.main_v4) = v1 c
          ∧ r.2.mem ((c.tc : Thread Cert.AdamWInRefIdeal.nD Cert.AdamWInRefIdeal.τ).loc Cert.AdamWInRefIdeal.main_v10) = v2 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v23) = v0 c
          ∧ r.2.mem ((c.tc : Thread Cert.AdamWOutRefIdeal.nD Cert.AdamWOutRefIdeal.τ).loc Cert.AdamWOutRefIdeal.main_v4) = v1 c
          ∧ r.2.mem ((c.tc : Thread Cert.AdamWOutRefIdeal.nD Cert.AdamWOutRefIdeal.τ).loc Cert.AdamWOutRefIdeal.main_v10) = v2 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamWUp_AdamWUpIdeal : Prop :=
  True

def algebraic_AdamWUpIdeal_AdamWUpRefIdeal [hAdamWUpIdeal : Cert.AdamWUpIdeal.Facts] [hAdamWUpRefIdeal : Cert.AdamWUpRefIdeal.Facts] : Prop :=
  ∀ (m : (ℓ : Loc Cert.AdamWUpIdeal.nD Cert.AdamWUpIdeal.τ Cert.AdamWUpIdeal.sig) → Buf (Elt Ideal) ℓ) (g : Dev Cert.AdamWUpIdeal.nD → PrngReg)
    (m' : (ℓ : Loc Cert.AdamWUpRefIdeal.nD Cert.AdamWUpRefIdeal.τ Cert.AdamWUpRefIdeal.sig) → Buf (Elt Ideal) ℓ) (g' : Dev Cert.AdamWUpRefIdeal.nD → PrngReg), Pre_AdamWUpIdeal m →
    (∀ c : Dev Cert.AdamWUpIdeal.nD,
      m' ((c.tc : Thread Cert.AdamWUpRefIdeal.nD Cert.AdamWUpRefIdeal.τ).loc Cert.AdamWUpRefIdeal.main_arg0) = m ((c.tc : Thread Cert.AdamWUpIdeal.nD Cert.AdamWUpIdeal.τ).loc Cert.AdamWUpIdeal.main_arg0)
      ∧ m' ((c.tc : Thread Cert.AdamWUpRefIdeal.nD Cert.AdamWUpRefIdeal.τ).loc Cert.AdamWUpRefIdeal.main_arg1) = m ((c.tc : Thread Cert.AdamWUpIdeal.nD Cert.AdamWUpIdeal.τ).loc Cert.AdamWUpIdeal.main_arg1)
      ∧ m' ((c.tc : Thread Cert.AdamWUpRefIdeal.nD Cert.AdamWUpRefIdeal.τ).loc Cert.AdamWUpRefIdeal.main_arg2) = m ((c.tc : Thread Cert.AdamWUpIdeal.nD Cert.AdamWUpIdeal.τ).loc Cert.AdamWUpIdeal.main_arg2)
      ∧ m' ((c.tc : Thread Cert.AdamWUpRefIdeal.nD Cert.AdamWUpRefIdeal.τ).loc Cert.AdamWUpRefIdeal.main_arg3) = m ((c.tc : Thread Cert.AdamWUpIdeal.nD Cert.AdamWUpIdeal.τ).loc Cert.AdamWUpIdeal.main_arg3)) →
    ∃ (v0 : (c : Dev Cert.AdamWUpIdeal.nD) → Buf (Elt Ideal) ((c.tc : Thread Cert.AdamWUpIdeal.nD Cert.AdamWUpIdeal.τ).loc Cert.AdamWUpIdeal.main_v0_0)) (v1 : (c : Dev Cert.AdamWUpIdeal.nD) → Buf (Elt Ideal) ((c.tc : Thread Cert.AdamWUpIdeal.nD Cert.AdamWUpIdeal.τ).loc Cert.AdamWUpIdeal.main_v0_1)) (v2 : (c : Dev Cert.AdamWUpIdeal.nD) → Buf (Elt Ideal) ((c.tc : Thread Cert.AdamWUpIdeal.nD Cert.AdamWUpIdeal.τ).loc Cert.AdamWUpIdeal.main_v0_2)),
      θ_run (Cert.AdamWUpIdeal.defs (F := Ideal)) (onTc (τ := Cert.AdamWUpIdeal.τ) (Cert.AdamWUpIdeal.main (F := Ideal))) ⟨m, fun _ => 0, g⟩ (fun r => ∀ c : Dev Cert.AdamWUpIdeal.nD,
          r.2.mem ((c.tc : Thread Cert.AdamWUpIdeal.nD Cert.AdamWUpIdeal.τ).loc Cert.AdamWUpIdeal.main_v0_0) = v0 c
          ∧ r.2.mem ((c.tc : Thread Cert.AdamWUpIdeal.nD Cert.AdamWUpIdeal.τ).loc Cert.AdamWUpIdeal.main_v0_1) = v1 c
          ∧ r.2.mem ((c.tc : Thread Cert.AdamWUpIdeal.nD Cert.AdamWUpIdeal.τ).loc Cert.AdamWUpIdeal.main_v0_2) = v2 c
          ∧ r.2.mem ((c.tc : Thread Cert.AdamWUpIdeal.nD Cert.AdamWUpIdeal.τ).loc Cert.AdamWUpIdeal.main_arg0) = m ((c.tc : Thread Cert.AdamWUpIdeal.nD Cert.AdamWUpIdeal.τ).loc Cert.AdamWUpIdeal.main_arg0)
          ∧ r.2.mem ((c.tc : Thread Cert.AdamWUpIdeal.nD Cert.AdamWUpIdeal.τ).loc Cert.AdamWUpIdeal.main_arg1) = m ((c.tc : Thread Cert.AdamWUpIdeal.nD Cert.AdamWUpIdeal.τ).loc Cert.AdamWUpIdeal.main_arg1)
          ∧ r.2.mem ((c.tc : Thread Cert.AdamWUpIdeal.nD Cert.AdamWUpIdeal.τ).loc Cert.AdamWUpIdeal.main_arg2) = m ((c.tc : Thread Cert.AdamWUpIdeal.nD Cert.AdamWUpIdeal.τ).loc Cert.AdamWUpIdeal.main_arg2)
          ∧ r.2.mem ((c.tc : Thread Cert.AdamWUpIdeal.nD Cert.AdamWUpIdeal.τ).loc Cert.AdamWUpIdeal.main_arg3) = m ((c.tc : Thread Cert.AdamWUpIdeal.nD Cert.AdamWUpIdeal.τ).loc Cert.AdamWUpIdeal.main_arg3))
      ∧ θ_run (Cert.AdamWUpRefIdeal.defs (F := Ideal)) (onTc (τ := Cert.AdamWUpRefIdeal.τ) (Cert.AdamWUpRefIdeal.main (F := Ideal))) ⟨m', fun _ => 0, g'⟩ (fun r => ∀ c : Dev Cert.AdamWUpRefIdeal.nD,
          r.2.mem ((c.tc : Thread Cert.AdamWUpRefIdeal.nD Cert.AdamWUpRefIdeal.τ).loc Cert.AdamWUpRefIdeal.main_v23) = v0 c
          ∧ r.2.mem ((c.tc : Thread Cert.AdamWUpRefIdeal.nD Cert.AdamWUpRefIdeal.τ).loc Cert.AdamWUpRefIdeal.main_v4) = v1 c
          ∧ r.2.mem ((c.tc : Thread Cert.AdamWUpRefIdeal.nD Cert.AdamWUpRefIdeal.τ).loc Cert.AdamWUpRefIdeal.main_v10) = v2 c
          ∧ r.2.mem ((c.tc : Thread Cert.AdamWUpRefIdeal.nD Cert.AdamWUpRefIdeal.τ).loc Cert.AdamWUpRefIdeal.main_arg0) = m' ((c.tc : Thread Cert.AdamWUpRefIdeal.nD Cert.AdamWUpRefIdeal.τ).loc Cert.AdamWUpRefIdeal.main_arg0)
          ∧ r.2.mem ((c.tc : Thread Cert.AdamWUpRefIdeal.nD Cert.AdamWUpRefIdeal.τ).loc Cert.AdamWUpRefIdeal.main_arg1) = m' ((c.tc : Thread Cert.AdamWUpRefIdeal.nD Cert.AdamWUpRefIdeal.τ).loc Cert.AdamWUpRefIdeal.main_arg1)
          ∧ r.2.mem ((c.tc : Thread Cert.AdamWUpRefIdeal.nD Cert.AdamWUpRefIdeal.τ).loc Cert.AdamWUpRefIdeal.main_arg2) = m' ((c.tc : Thread Cert.AdamWUpRefIdeal.nD Cert.AdamWUpRefIdeal.τ).loc Cert.AdamWUpRefIdeal.main_arg2)
          ∧ r.2.mem ((c.tc : Thread Cert.AdamWUpRefIdeal.nD Cert.AdamWUpRefIdeal.τ).loc Cert.AdamWUpRefIdeal.main_arg3) = m' ((c.tc : Thread Cert.AdamWUpRefIdeal.nD Cert.AdamWUpRefIdeal.τ).loc Cert.AdamWUpRefIdeal.main_arg3))

def preserves_AdamWDown_AdamWDownIdeal : Prop :=
  True

def algebraic_AdamWDownIdeal_AdamWDownRefIdeal [hAdamWDownIdeal : Cert.AdamWDownIdeal.Facts] [hAdamWDownRefIdeal : Cert.AdamWDownRefIdeal.Facts] : Prop :=
  ∀ (m : (ℓ : Loc Cert.AdamWDownIdeal.nD Cert.AdamWDownIdeal.τ Cert.AdamWDownIdeal.sig) → Buf (Elt Ideal) ℓ) (g : Dev Cert.AdamWDownIdeal.nD → PrngReg)
    (m' : (ℓ : Loc Cert.AdamWDownRefIdeal.nD Cert.AdamWDownRefIdeal.τ Cert.AdamWDownRefIdeal.sig) → Buf (Elt Ideal) ℓ) (g' : Dev Cert.AdamWDownRefIdeal.nD → PrngReg), Pre_AdamWDownIdeal m →
    (∀ c : Dev Cert.AdamWDownIdeal.nD,
      m' ((c.tc : Thread Cert.AdamWDownRefIdeal.nD Cert.AdamWDownRefIdeal.τ).loc Cert.AdamWDownRefIdeal.main_arg0) = m ((c.tc : Thread Cert.AdamWDownIdeal.nD Cert.AdamWDownIdeal.τ).loc Cert.AdamWDownIdeal.main_arg0)
      ∧ m' ((c.tc : Thread Cert.AdamWDownRefIdeal.nD Cert.AdamWDownRefIdeal.τ).loc Cert.AdamWDownRefIdeal.main_arg1) = m ((c.tc : Thread Cert.AdamWDownIdeal.nD Cert.AdamWDownIdeal.τ).loc Cert.AdamWDownIdeal.main_arg1)
      ∧ m' ((c.tc : Thread Cert.AdamWDownRefIdeal.nD Cert.AdamWDownRefIdeal.τ).loc Cert.AdamWDownRefIdeal.main_arg2) = m ((c.tc : Thread Cert.AdamWDownIdeal.nD Cert.AdamWDownIdeal.τ).loc Cert.AdamWDownIdeal.main_arg2)
      ∧ m' ((c.tc : Thread Cert.AdamWDownRefIdeal.nD Cert.AdamWDownRefIdeal.τ).loc Cert.AdamWDownRefIdeal.main_arg3) = m ((c.tc : Thread Cert.AdamWDownIdeal.nD Cert.AdamWDownIdeal.τ).loc Cert.AdamWDownIdeal.main_arg3)) →
    ∃ (v0 : (c : Dev Cert.AdamWDownIdeal.nD) → Buf (Elt Ideal) ((c.tc : Thread Cert.AdamWDownIdeal.nD Cert.AdamWDownIdeal.τ).loc Cert.AdamWDownIdeal.main_v0_0)) (v1 : (c : Dev Cert.AdamWDownIdeal.nD) → Buf (Elt Ideal) ((c.tc : Thread Cert.AdamWDownIdeal.nD Cert.AdamWDownIdeal.τ).loc Cert.AdamWDownIdeal.main_v0_1)) (v2 : (c : Dev Cert.AdamWDownIdeal.nD) → Buf (Elt Ideal) ((c.tc : Thread Cert.AdamWDownIdeal.nD Cert.AdamWDownIdeal.τ).loc Cert.AdamWDownIdeal.main_v0_2)),
      θ_run (Cert.AdamWDownIdeal.defs (F := Ideal)) (onTc (τ := Cert.AdamWDownIdeal.τ) (Cert.AdamWDownIdeal.main (F := Ideal))) ⟨m, fun _ => 0, g⟩ (fun r => ∀ c : Dev Cert.AdamWDownIdeal.nD,
          r.2.mem ((c.tc : Thread Cert.AdamWDownIdeal.nD Cert.AdamWDownIdeal.τ).loc Cert.AdamWDownIdeal.main_v0_0) = v0 c
          ∧ r.2.mem ((c.tc : Thread Cert.AdamWDownIdeal.nD Cert.AdamWDownIdeal.τ).loc Cert.AdamWDownIdeal.main_v0_1) = v1 c
          ∧ r.2.mem ((c.tc : Thread Cert.AdamWDownIdeal.nD Cert.AdamWDownIdeal.τ).loc Cert.AdamWDownIdeal.main_v0_2) = v2 c
          ∧ r.2.mem ((c.tc : Thread Cert.AdamWDownIdeal.nD Cert.AdamWDownIdeal.τ).loc Cert.AdamWDownIdeal.main_arg0) = m ((c.tc : Thread Cert.AdamWDownIdeal.nD Cert.AdamWDownIdeal.τ).loc Cert.AdamWDownIdeal.main_arg0)
          ∧ r.2.mem ((c.tc : Thread Cert.AdamWDownIdeal.nD Cert.AdamWDownIdeal.τ).loc Cert.AdamWDownIdeal.main_arg1) = m ((c.tc : Thread Cert.AdamWDownIdeal.nD Cert.AdamWDownIdeal.τ).loc Cert.AdamWDownIdeal.main_arg1)
          ∧ r.2.mem ((c.tc : Thread Cert.AdamWDownIdeal.nD Cert.AdamWDownIdeal.τ).loc Cert.AdamWDownIdeal.main_arg2) = m ((c.tc : Thread Cert.AdamWDownIdeal.nD Cert.AdamWDownIdeal.τ).loc Cert.AdamWDownIdeal.main_arg2)
          ∧ r.2.mem ((c.tc : Thread Cert.AdamWDownIdeal.nD Cert.AdamWDownIdeal.τ).loc Cert.AdamWDownIdeal.main_arg3) = m ((c.tc : Thread Cert.AdamWDownIdeal.nD Cert.AdamWDownIdeal.τ).loc Cert.AdamWDownIdeal.main_arg3))
      ∧ θ_run (Cert.AdamWDownRefIdeal.defs (F := Ideal)) (onTc (τ := Cert.AdamWDownRefIdeal.τ) (Cert.AdamWDownRefIdeal.main (F := Ideal))) ⟨m', fun _ => 0, g'⟩ (fun r => ∀ c : Dev Cert.AdamWDownRefIdeal.nD,
          r.2.mem ((c.tc : Thread Cert.AdamWDownRefIdeal.nD Cert.AdamWDownRefIdeal.τ).loc Cert.AdamWDownRefIdeal.main_v23) = v0 c
          ∧ r.2.mem ((c.tc : Thread Cert.AdamWDownRefIdeal.nD Cert.AdamWDownRefIdeal.τ).loc Cert.AdamWDownRefIdeal.main_v4) = v1 c
          ∧ r.2.mem ((c.tc : Thread Cert.AdamWDownRefIdeal.nD Cert.AdamWDownRefIdeal.τ).loc Cert.AdamWDownRefIdeal.main_v10) = v2 c
          ∧ r.2.mem ((c.tc : Thread Cert.AdamWDownRefIdeal.nD Cert.AdamWDownRefIdeal.τ).loc Cert.AdamWDownRefIdeal.main_arg0) = m' ((c.tc : Thread Cert.AdamWDownRefIdeal.nD Cert.AdamWDownRefIdeal.τ).loc Cert.AdamWDownRefIdeal.main_arg0)
          ∧ r.2.mem ((c.tc : Thread Cert.AdamWDownRefIdeal.nD Cert.AdamWDownRefIdeal.τ).loc Cert.AdamWDownRefIdeal.main_arg1) = m' ((c.tc : Thread Cert.AdamWDownRefIdeal.nD Cert.AdamWDownRefIdeal.τ).loc Cert.AdamWDownRefIdeal.main_arg1)
          ∧ r.2.mem ((c.tc : Thread Cert.AdamWDownRefIdeal.nD Cert.AdamWDownRefIdeal.τ).loc Cert.AdamWDownRefIdeal.main_arg2) = m' ((c.tc : Thread Cert.AdamWDownRefIdeal.nD Cert.AdamWDownRefIdeal.τ).loc Cert.AdamWDownRefIdeal.main_arg2)
          ∧ r.2.mem ((c.tc : Thread Cert.AdamWDownRefIdeal.nD Cert.AdamWDownRefIdeal.τ).loc Cert.AdamWDownRefIdeal.main_arg3) = m' ((c.tc : Thread Cert.AdamWDownRefIdeal.nD Cert.AdamWDownRefIdeal.τ).loc Cert.AdamWDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)) →
    ∃ (v0 : (c : Dev Cert.AdamSmallIdeal.nD) → Buf (Elt Ideal) ((c.tc : Thread Cert.AdamSmallIdeal.nD Cert.AdamSmallIdeal.τ).loc Cert.AdamSmallIdeal.main_v22)) (v1 : (c : Dev Cert.AdamSmallIdeal.nD) → Buf (Elt Ideal) ((c.tc : Thread Cert.AdamSmallIdeal.nD Cert.AdamSmallIdeal.τ).loc Cert.AdamSmallIdeal.main_v24)) (v2 : (c : Dev Cert.AdamSmallIdeal.nD) → Buf (Elt Ideal) ((c.tc : Thread Cert.AdamSmallIdeal.nD Cert.AdamSmallIdeal.τ).loc Cert.AdamSmallIdeal.main_v25)) (v3 : (c : Dev Cert.AdamSmallIdeal.nD) → Buf (Elt Ideal) ((c.tc : Thread Cert.AdamSmallIdeal.nD Cert.AdamSmallIdeal.τ).loc Cert.AdamSmallIdeal.main_v26)) (v4 : (c : Dev Cert.AdamSmallIdeal.nD) → Buf (Elt Ideal) ((c.tc : Thread Cert.AdamSmallIdeal.nD Cert.AdamSmallIdeal.τ).loc Cert.AdamSmallIdeal.main_v27)) (v5 : (c : Dev Cert.AdamSmallIdeal.nD) → Buf (Elt Ideal) ((c.tc : Thread Cert.AdamSmallIdeal.nD Cert.AdamSmallIdeal.τ).loc Cert.AdamSmallIdeal.main_v28)) (v6 : (c : Dev Cert.AdamSmallIdeal.nD) → Buf (Elt Ideal) ((c.tc : Thread Cert.AdamSmallIdeal.nD Cert.AdamSmallIdeal.τ).loc Cert.AdamSmallIdeal.main_v29)) (v7 : (c : Dev Cert.AdamSmallIdeal.nD) → Buf (Elt Ideal) ((c.tc : Thread Cert.AdamSmallIdeal.nD Cert.AdamSmallIdeal.τ).loc Cert.AdamSmallIdeal.main_v30)) (v8 : (c : Dev Cert.AdamSmallIdeal.nD) → Buf (Elt Ideal) ((c.tc : Thread Cert.AdamSmallIdeal.nD Cert.AdamSmallIdeal.τ).loc Cert.AdamSmallIdeal.main_v32)) (v9 : (c : Dev Cert.AdamSmallIdeal.nD) → Buf (Elt Ideal) ((c.tc : Thread Cert.AdamSmallIdeal.nD Cert.AdamSmallIdeal.τ).loc Cert.AdamSmallIdeal.main_v33)) (v10 : (c : Dev Cert.AdamSmallIdeal.nD) → Buf (Elt Ideal) ((c.tc : Thread Cert.AdamSmallIdeal.nD Cert.AdamSmallIdeal.τ).loc Cert.AdamSmallIdeal.main_v35)) (v11 : (c : Dev Cert.AdamSmallIdeal.nD) → Buf (Elt Ideal) ((c.tc : Thread Cert.AdamSmallIdeal.nD Cert.AdamSmallIdeal.τ).loc Cert.AdamSmallIdeal.main_v37)) (v12 : (c : Dev Cert.AdamSmallIdeal.nD) → Buf (Elt Ideal) ((c.tc : Thread Cert.AdamSmallIdeal.nD Cert.AdamSmallIdeal.τ).loc Cert.AdamSmallIdeal.main_v38)) (v13 : (c : Dev Cert.AdamSmallIdeal.nD) → Buf (Elt Ideal) ((c.tc : Thread Cert.AdamSmallIdeal.nD Cert.AdamSmallIdeal.τ).loc Cert.AdamSmallIdeal.main_v39)) (v14 : (c : Dev Cert.AdamSmallIdeal.nD) → Buf (Elt Ideal) ((c.tc : Thread Cert.AdamSmallIdeal.nD Cert.AdamSmallIdeal.τ).loc Cert.AdamSmallIdeal.main_v40)) (v15 : (c : Dev Cert.AdamSmallIdeal.nD) → Buf (Elt Ideal) ((c.tc : Thread Cert.AdamSmallIdeal.nD Cert.AdamSmallIdeal.τ).loc Cert.AdamSmallIdeal.main_v41)) (v16 : (c : Dev Cert.AdamSmallIdeal.nD) → Buf (Elt Ideal) ((c.tc : Thread Cert.AdamSmallIdeal.nD Cert.AdamSmallIdeal.τ).loc Cert.AdamSmallIdeal.main_v42)) (v17 : (c : Dev Cert.AdamSmallIdeal.nD) → Buf (Elt Ideal) ((c.tc : Thread Cert.AdamSmallIdeal.nD Cert.AdamSmallIdeal.τ).loc Cert.AdamSmallIdeal.main_v43)) (v18 : (c : Dev Cert.AdamSmallIdeal.nD) → Buf (Elt Ideal) ((c.tc : Thread Cert.AdamSmallIdeal.nD Cert.AdamSmallIdeal.τ).loc Cert.AdamSmallIdeal.main_v45)) (v19 : (c : Dev Cert.AdamSmallIdeal.nD) → Buf (Elt Ideal) ((c.tc : Thread Cert.AdamSmallIdeal.nD Cert.AdamSmallIdeal.τ).loc Cert.AdamSmallIdeal.main_v46)) (v20 : (c : Dev Cert.AdamSmallIdeal.nD) → Buf (Elt Ideal) ((c.tc : Thread Cert.AdamSmallIdeal.nD Cert.AdamSmallIdeal.τ).loc Cert.AdamSmallIdeal.main_v48)) (v21 : (c : Dev Cert.AdamSmallIdeal.nD) → Buf (Elt Ideal) ((c.tc : Thread Cert.AdamSmallIdeal.nD Cert.AdamSmallIdeal.τ).loc Cert.AdamSmallIdeal.main_v50)) (v22 : (c : Dev Cert.AdamSmallIdeal.nD) → Buf (Elt Ideal) ((c.tc : Thread Cert.AdamSmallIdeal.nD Cert.AdamSmallIdeal.τ).loc Cert.AdamSmallIdeal.main_v51)) (v23 : (c : Dev Cert.AdamSmallIdeal.nD) → Buf (Elt Ideal) ((c.tc : Thread Cert.AdamSmallIdeal.nD Cert.AdamSmallIdeal.τ).loc Cert.AdamSmallIdeal.main_v52)) (v24 : (c : Dev Cert.AdamSmallIdeal.nD) → Buf (Elt Ideal) ((c.tc : Thread Cert.AdamSmallIdeal.nD Cert.AdamSmallIdeal.τ).loc Cert.AdamSmallIdeal.main_v53)) (v25 : (c : Dev Cert.AdamSmallIdeal.nD) → Buf (Elt Ideal) ((c.tc : Thread Cert.AdamSmallIdeal.nD Cert.AdamSmallIdeal.τ).loc Cert.AdamSmallIdeal.main_v54)) (v26 : (c : Dev Cert.AdamSmallIdeal.nD) → Buf (Elt Ideal) ((c.tc : Thread Cert.AdamSmallIdeal.nD Cert.AdamSmallIdeal.τ).loc Cert.AdamSmallIdeal.main_v55)) (v27 : (c : Dev Cert.AdamSmallIdeal.nD) → Buf (Elt Ideal) ((c.tc : Thread Cert.AdamSmallIdeal.nD Cert.AdamSmallIdeal.τ).loc Cert.AdamSmallIdeal.main_v56)) (v28 : (c : Dev Cert.AdamSmallIdeal.nD) → Buf (Elt Ideal) ((c.tc : Thread Cert.AdamSmallIdeal.nD Cert.AdamSmallIdeal.τ).loc Cert.AdamSmallIdeal.main_v58)) (v29 : (c : Dev Cert.AdamSmallIdeal.nD) → Buf (Elt Ideal) ((c.tc : Thread Cert.AdamSmallIdeal.nD Cert.AdamSmallIdeal.τ).loc Cert.AdamSmallIdeal.main_v59)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v22) = v0 c
          ∧ r.2.mem ((c.tc : Thread Cert.AdamSmallIdeal.nD Cert.AdamSmallIdeal.τ).loc Cert.AdamSmallIdeal.main_v24) = v1 c
          ∧ r.2.mem ((c.tc : Thread Cert.AdamSmallIdeal.nD Cert.AdamSmallIdeal.τ).loc Cert.AdamSmallIdeal.main_v25) = v2 c
          ∧ r.2.mem ((c.tc : Thread Cert.AdamSmallIdeal.nD Cert.AdamSmallIdeal.τ).loc Cert.AdamSmallIdeal.main_v26) = v3 c
          ∧ r.2.mem ((c.tc : Thread Cert.AdamSmallIdeal.nD Cert.AdamSmallIdeal.τ).loc Cert.AdamSmallIdeal.main_v27) = v4 c
          ∧ r.2.mem ((c.tc : Thread Cert.AdamSmallIdeal.nD Cert.AdamSmallIdeal.τ).loc Cert.AdamSmallIdeal.main_v28) = v5 c
          ∧ r.2.mem ((c.tc : Thread Cert.AdamSmallIdeal.nD Cert.AdamSmallIdeal.τ).loc Cert.AdamSmallIdeal.main_v29) = v6 c
          ∧ r.2.mem ((c.tc : Thread Cert.AdamSmallIdeal.nD Cert.AdamSmallIdeal.τ).loc Cert.AdamSmallIdeal.main_v30) = v7 c
          ∧ r.2.mem ((c.tc : Thread Cert.AdamSmallIdeal.nD Cert.AdamSmallIdeal.τ).loc Cert.AdamSmallIdeal.main_v32) = v8 c
          ∧ r.2.mem ((c.tc : Thread Cert.AdamSmallIdeal.nD Cert.AdamSmallIdeal.τ).loc Cert.AdamSmallIdeal.main_v33) = v9 c
          ∧ r.2.mem ((c.tc : Thread Cert.AdamSmallIdeal.nD Cert.AdamSmallIdeal.τ).loc Cert.AdamSmallIdeal.main_v35) = v10 c
          ∧ r.2.mem ((c.tc : Thread Cert.AdamSmallIdeal.nD Cert.AdamSmallIdeal.τ).loc Cert.AdamSmallIdeal.main_v37) = v11 c
          ∧ r.2.mem ((c.tc : Thread Cert.AdamSmallIdeal.nD Cert.AdamSmallIdeal.τ).loc Cert.AdamSmallIdeal.main_v38) = v12 c
          ∧ r.2.mem ((c.tc : Thread Cert.AdamSmallIdeal.nD Cert.AdamSmallIdeal.τ).loc Cert.AdamSmallIdeal.main_v39) = v13 c
          ∧ r.2.mem ((c.tc : Thread Cert.AdamSmallIdeal.nD Cert.AdamSmallIdeal.τ).loc Cert.AdamSmallIdeal.main_v40) = v14 c
          ∧ r.2.mem ((c.tc : Thread Cert.AdamSmallIdeal.nD Cert.AdamSmallIdeal.τ).loc Cert.AdamSmallIdeal.main_v41) = v15 c
          ∧ r.2.mem ((c.tc : Thread Cert.AdamSmallIdeal.nD Cert.AdamSmallIdeal.τ).loc Cert.AdamSmallIdeal.main_v42) = v16 c
          ∧ r.2.mem ((c.tc : Thread Cert.AdamSmallIdeal.nD Cert.AdamSmallIdeal.τ).loc Cert.AdamSmallIdeal.main_v43) = v17 c
          ∧ r.2.mem ((c.tc : Thread Cert.AdamSmallIdeal.nD Cert.AdamSmallIdeal.τ).loc Cert.AdamSmallIdeal.main_v45) = v18 c
          ∧ r.2.mem ((c.tc : Thread Cert.AdamSmallIdeal.nD Cert.AdamSmallIdeal.τ).loc Cert.AdamSmallIdeal.main_v46) = v19 c
          ∧ r.2.mem ((c.tc : Thread Cert.AdamSmallIdeal.nD Cert.AdamSmallIdeal.τ).loc Cert.AdamSmallIdeal.main_v48) = v20 c
          ∧ r.2.mem ((c.tc : Thread Cert.AdamSmallIdeal.nD Cert.AdamSmallIdeal.τ).loc Cert.AdamSmallIdeal.main_v50) = v21 c
          ∧ r.2.mem ((c.tc : Thread Cert.AdamSmallIdeal.nD Cert.AdamSmallIdeal.τ).loc Cert.AdamSmallIdeal.main_v51) = v22 c
          ∧ r.2.mem ((c.tc : Thread Cert.AdamSmallIdeal.nD Cert.AdamSmallIdeal.τ).loc Cert.AdamSmallIdeal.main_v52) = v23 c
          ∧ r.2.mem ((c.tc : Thread Cert.AdamSmallIdeal.nD Cert.AdamSmallIdeal.τ).loc Cert.AdamSmallIdeal.main_v53) = v24 c
          ∧ r.2.mem ((c.tc : Thread Cert.AdamSmallIdeal.nD Cert.AdamSmallIdeal.τ).loc Cert.AdamSmallIdeal.main_v54) = v25 c
          ∧ r.2.mem ((c.tc : Thread Cert.AdamSmallIdeal.nD Cert.AdamSmallIdeal.τ).loc Cert.AdamSmallIdeal.main_v55) = v26 c
          ∧ r.2.mem ((c.tc : Thread Cert.AdamSmallIdeal.nD Cert.AdamSmallIdeal.τ).loc Cert.AdamSmallIdeal.main_v56) = v27 c
          ∧ r.2.mem ((c.tc : Thread Cert.AdamSmallIdeal.nD Cert.AdamSmallIdeal.τ).loc Cert.AdamSmallIdeal.main_v58) = v28 c
          ∧ r.2.mem ((c.tc : Thread Cert.AdamSmallIdeal.nD Cert.AdamSmallIdeal.τ).loc Cert.AdamSmallIdeal.main_v59) = v29 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v47) = v1 c
          ∧ r.2.mem ((c.tc : Thread Cert.AdamSmallRefIdeal.nD Cert.AdamSmallRefIdeal.τ).loc Cert.AdamSmallRefIdeal.main_v71) = v2 c
          ∧ r.2.mem ((c.tc : Thread Cert.AdamSmallRefIdeal.nD Cert.AdamSmallRefIdeal.τ).loc Cert.AdamSmallRefIdeal.main_v95) = v3 c
          ∧ r.2.mem ((c.tc : Thread Cert.AdamSmallRefIdeal.nD Cert.AdamSmallRefIdeal.τ).loc Cert.AdamSmallRefIdeal.main_v119) = v4 c
          ∧ r.2.mem ((c.tc : Thread Cert.AdamSmallRefIdeal.nD Cert.AdamSmallRefIdeal.τ).loc Cert.AdamSmallRefIdeal.main_v143) = v5 c
          ∧ r.2.mem ((c.tc : Thread Cert.AdamSmallRefIdeal.nD Cert.AdamSmallRefIdeal.τ).loc Cert.AdamSmallRefIdeal.main_v167) = v6 c
          ∧ r.2.mem ((c.tc : Thread Cert.AdamSmallRefIdeal.nD Cert.AdamSmallRefIdeal.τ).loc Cert.AdamSmallRefIdeal.main_v191) = v7 c
          ∧ r.2.mem ((c.tc : Thread Cert.AdamSmallRefIdeal.nD Cert.AdamSmallRefIdeal.τ).loc Cert.AdamSmallRefIdeal.main_v215) = v8 c
          ∧ r.2.mem ((c.tc : Thread Cert.AdamSmallRefIdeal.nD Cert.AdamSmallRefIdeal.τ).loc Cert.AdamSmallRefIdeal.main_v239) = v9 c
          ∧ r.2.mem ((c.tc : Thread Cert.AdamSmallRefIdeal.nD Cert.AdamSmallRefIdeal.τ).loc Cert.AdamSmallRefIdeal.main_v4) = v10 c
          ∧ r.2.mem ((c.tc : Thread Cert.AdamSmallRefIdeal.nD Cert.AdamSmallRefIdeal.τ).loc Cert.AdamSmallRefIdeal.main_v28) = v11 c
          ∧ r.2.mem ((c.tc : Thread Cert.AdamSmallRefIdeal.nD Cert.AdamSmallRefIdeal.τ).loc Cert.AdamSmallRefIdeal.main_v52) = v12 c
          ∧ r.2.mem ((c.tc : Thread Cert.AdamSmallRefIdeal.nD Cert.AdamSmallRefIdeal.τ).loc Cert.AdamSmallRefIdeal.main_v76) = v13 c
          ∧ r.2.mem ((c.tc : Thread Cert.AdamSmallRefIdeal.nD Cert.AdamSmallRefIdeal.τ).loc Cert.AdamSmallRefIdeal.main_v100) = v14 c
          ∧ r.2.mem ((c.tc : Thread Cert.AdamSmallRefIdeal.nD Cert.AdamSmallRefIdeal.τ).loc Cert.AdamSmallRefIdeal.main_v124) = v15 c
          ∧ r.2.mem ((c.tc : Thread Cert.AdamSmallRefIdeal.nD Cert.AdamSmallRefIdeal.τ).loc Cert.AdamSmallRefIdeal.main_v148) = v16 c
          ∧ r.2.mem ((c.tc : Thread Cert.AdamSmallRefIdeal.nD Cert.AdamSmallRefIdeal.τ).loc Cert.AdamSmallRefIdeal.main_v172) = v17 c
          ∧ r.2.mem ((c.tc : Thread Cert.AdamSmallRefIdeal.nD Cert.AdamSmallRefIdeal.τ).loc Cert.AdamSmallRefIdeal.main_v196) = v18 c
          ∧ r.2.mem ((c.tc : Thread Cert.AdamSmallRefIdeal.nD Cert.AdamSmallRefIdeal.τ).loc Cert.AdamSmallRefIdeal.main_v220) = v19 c
          ∧ r.2.mem ((c.tc : Thread Cert.AdamSmallRefIdeal.nD Cert.AdamSmallRefIdeal.τ).loc Cert.AdamSmallRefIdeal.main_v10) = v20 c
          ∧ r.2.mem ((c.tc : Thread Cert.AdamSmallRefIdeal.nD Cert.AdamSmallRefIdeal.τ).loc Cert.AdamSmallRefIdeal.main_v34) = v21 c
          ∧ r.2.mem ((c.tc : Thread Cert.AdamSmallRefIdeal.nD Cert.AdamSmallRefIdeal.τ).loc Cert.AdamSmallRefIdeal.main_v58) = v22 c
          ∧ r.2.mem ((c.tc : Thread Cert.AdamSmallRefIdeal.nD Cert.AdamSmallRefIdeal.τ).loc Cert.AdamSmallRefIdeal.main_v82) = v23 c
          ∧ r.2.mem ((c.tc : Thread Cert.AdamSmallRefIdeal.nD Cert.AdamSmallRefIdeal.τ).loc Cert.AdamSmallRefIdeal.main_v106) = v24 c
          ∧ r.2.mem ((c.tc : Thread Cert.AdamSmallRefIdeal.nD Cert.AdamSmallRefIdeal.τ).loc Cert.AdamSmallRefIdeal.main_v130) = v25 c
          ∧ r.2.mem ((c.tc : Thread Cert.AdamSmallRefIdeal.nD Cert.AdamSmallRefIdeal.τ).loc Cert.AdamSmallRefIdeal.main_v154) = v26 c
          ∧ r.2.mem ((c.tc : Thread Cert.AdamSmallRefIdeal.nD Cert.AdamSmallRefIdeal.τ).loc Cert.AdamSmallRefIdeal.main_v178) = v27 c
          ∧ r.2.mem ((c.tc : Thread Cert.AdamSmallRefIdeal.nD Cert.AdamSmallRefIdeal.τ).loc Cert.AdamSmallRefIdeal.main_v202) = v28 c
          ∧ r.2.mem ((c.tc : Thread Cert.AdamSmallRefIdeal.nD Cert.AdamSmallRefIdeal.τ).loc Cert.AdamSmallRefIdeal.main_v226) = v29 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v1)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v1) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v2) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v1) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0))

def preserves_SumUp_SumUpIdeal : Prop :=
  True

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)) →
    ∃ (v0 : (c : Dev Cert.SumUpIdeal.nD) → Buf (Elt Ideal) ((c.tc : Thread Cert.SumUpIdeal.nD Cert.SumUpIdeal.τ).loc Cert.SumUpIdeal.main_v1)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v1) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v2) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)) →
    ∃ (v0 : (c : Dev Cert.SumDownIdeal.nD) → Buf (Elt Ideal) ((c.tc : Thread Cert.SumDownIdeal.nD Cert.SumDownIdeal.τ).loc Cert.SumDownIdeal.main_v0)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v0) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v1) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)
      ∧ m' ((c.tc : Thread Cert.SumSmallRefIdeal.nD Cert.SumSmallRefIdeal.τ).loc Cert.SumSmallRefIdeal.main_arg1) = m ((c.tc : Thread Cert.SumSmallIdeal.nD Cert.SumSmallIdeal.τ).loc Cert.SumSmallIdeal.main_arg1)
      ∧ m' ((c.tc : Thread Cert.SumSmallRefIdeal.nD Cert.SumSmallRefIdeal.τ).loc Cert.SumSmallRefIdeal.main_arg2) = m ((c.tc : Thread Cert.SumSmallIdeal.nD Cert.SumSmallIdeal.τ).loc Cert.SumSmallIdeal.main_arg2)
      ∧ m' ((c.tc : Thread Cert.SumSmallRefIdeal.nD Cert.SumSmallRefIdeal.τ).loc Cert.SumSmallRefIdeal.main_arg3) = m ((c.tc : Thread Cert.SumSmallIdeal.nD Cert.SumSmallIdeal.τ).loc Cert.SumSmallIdeal.main_arg3)
      ∧ m' ((c.tc : Thread Cert.SumSmallRefIdeal.nD Cert.SumSmallRefIdeal.τ).loc Cert.SumSmallRefIdeal.main_arg4) = m ((c.tc : Thread Cert.SumSmallIdeal.nD Cert.SumSmallIdeal.τ).loc Cert.SumSmallIdeal.main_arg4)
      ∧ m' ((c.tc : Thread Cert.SumSmallRefIdeal.nD Cert.SumSmallRefIdeal.τ).loc Cert.SumSmallRefIdeal.main_arg5) = m ((c.tc : Thread Cert.SumSmallIdeal.nD Cert.SumSmallIdeal.τ).loc Cert.SumSmallIdeal.main_arg5)
      ∧ m' ((c.tc : Thread Cert.SumSmallRefIdeal.nD Cert.SumSmallRefIdeal.τ).loc Cert.SumSmallRefIdeal.main_arg6) = m ((c.tc : Thread Cert.SumSmallIdeal.nD Cert.SumSmallIdeal.τ).loc Cert.SumSmallIdeal.main_arg6)
      ∧ m' ((c.tc : Thread Cert.SumSmallRefIdeal.nD Cert.SumSmallRefIdeal.τ).loc Cert.SumSmallRefIdeal.main_arg7) = m ((c.tc : Thread Cert.SumSmallIdeal.nD Cert.SumSmallIdeal.τ).loc Cert.SumSmallIdeal.main_arg7)
      ∧ m' ((c.tc : Thread Cert.SumSmallRefIdeal.nD Cert.SumSmallRefIdeal.τ).loc Cert.SumSmallRefIdeal.main_arg8) = m ((c.tc : Thread Cert.SumSmallIdeal.nD Cert.SumSmallIdeal.τ).loc Cert.SumSmallIdeal.main_arg8)
      ∧ m' ((c.tc : Thread Cert.SumSmallRefIdeal.nD Cert.SumSmallRefIdeal.τ).loc Cert.SumSmallRefIdeal.main_arg9) = m ((c.tc : Thread Cert.SumSmallIdeal.nD Cert.SumSmallIdeal.τ).loc Cert.SumSmallIdeal.main_arg9)
      ∧ m' ((c.tc : Thread Cert.SumSmallRefIdeal.nD Cert.SumSmallRefIdeal.τ).loc Cert.SumSmallRefIdeal.main_arg10) = m ((c.tc : Thread Cert.SumSmallIdeal.nD Cert.SumSmallIdeal.τ).loc Cert.SumSmallIdeal.main_arg10)
      ∧ m' ((c.tc : Thread Cert.SumSmallRefIdeal.nD Cert.SumSmallRefIdeal.τ).loc Cert.SumSmallRefIdeal.main_arg11) = m ((c.tc : Thread Cert.SumSmallIdeal.nD Cert.SumSmallIdeal.τ).loc Cert.SumSmallIdeal.main_arg11)) →
    ∃ (v0 : (c : Dev Cert.SumSmallIdeal.nD) → Buf (Elt Ideal) ((c.tc : Thread Cert.SumSmallIdeal.nD Cert.SumSmallIdeal.τ).loc Cert.SumSmallIdeal.main_v20)) (v1 : (c : Dev Cert.SumSmallIdeal.nD) → Buf (Elt Ideal) ((c.tc : Thread Cert.SumSmallIdeal.nD Cert.SumSmallIdeal.τ).loc Cert.SumSmallIdeal.main_v7)) (v2 : (c : Dev Cert.SumSmallIdeal.nD) → Buf (Elt Ideal) ((c.tc : Thread Cert.SumSmallIdeal.nD Cert.SumSmallIdeal.τ).loc Cert.SumSmallIdeal.main_v25)) (v3 : (c : Dev Cert.SumSmallIdeal.nD) → Buf (Elt Ideal) ((c.tc : Thread Cert.SumSmallIdeal.nD Cert.SumSmallIdeal.τ).loc Cert.SumSmallIdeal.main_v9)) (v4 : (c : Dev Cert.SumSmallIdeal.nD) → Buf (Elt Ideal) ((c.tc : Thread Cert.SumSmallIdeal.nD Cert.SumSmallIdeal.τ).loc Cert.SumSmallIdeal.main_v10)) (v5 : (c : Dev Cert.SumSmallIdeal.nD) → Buf (Elt Ideal) ((c.tc : Thread Cert.SumSmallIdeal.nD Cert.SumSmallIdeal.τ).loc Cert.SumSmallIdeal.main_v11)) (v6 : (c : Dev Cert.SumSmallIdeal.nD) → Buf (Elt Ideal) ((c.tc : Thread Cert.SumSmallIdeal.nD Cert.SumSmallIdeal.τ).loc Cert.SumSmallIdeal.main_v26)) (v7 : (c : Dev Cert.SumSmallIdeal.nD) → Buf (Elt Ideal) ((c.tc : Thread Cert.SumSmallIdeal.nD Cert.SumSmallIdeal.τ).loc Cert.SumSmallIdeal.main_v27)) (v8 : (c : Dev Cert.SumSmallIdeal.nD) → Buf (Elt Ideal) ((c.tc : Thread Cert.SumSmallIdeal.nD Cert.SumSmallIdeal.τ).loc Cert.SumSmallIdeal.main_v8)) (v9 : (c : Dev Cert.SumSmallIdeal.nD) → Buf (Elt Ideal) ((c.tc : Thread Cert.SumSmallIdeal.nD Cert.SumSmallIdeal.τ).loc Cert.SumSmallIdeal.main_v32)) (v10 : (c : Dev Cert.SumSmallIdeal.nD) → Buf (Elt Ideal) ((c.tc : Thread Cert.SumSmallIdeal.nD Cert.SumSmallIdeal.τ).loc Cert.SumSmallIdeal.main_v14)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v20) = v0 c
          ∧ r.2.mem ((c.tc : Thread Cert.SumSmallIdeal.nD Cert.SumSmallIdeal.τ).loc Cert.SumSmallIdeal.main_v7) = v1 c
          ∧ r.2.mem ((c.tc : Thread Cert.SumSmallIdeal.nD Cert.SumSmallIdeal.τ).loc Cert.SumSmallIdeal.main_v25) = v2 c
          ∧ r.2.mem ((c.tc : Thread Cert.SumSmallIdeal.nD Cert.SumSmallIdeal.τ).loc Cert.SumSmallIdeal.main_v9) = v3 c
          ∧ r.2.mem ((c.tc : Thread Cert.SumSmallIdeal.nD Cert.SumSmallIdeal.τ).loc Cert.SumSmallIdeal.main_v10) = v4 c
          ∧ r.2.mem ((c.tc : Thread Cert.SumSmallIdeal.nD Cert.SumSmallIdeal.τ).loc Cert.SumSmallIdeal.main_v11) = v5 c
          ∧ r.2.mem ((c.tc : Thread Cert.SumSmallIdeal.nD Cert.SumSmallIdeal.τ).loc Cert.SumSmallIdeal.main_v26) = v6 c
          ∧ r.2.mem ((c.tc : Thread Cert.SumSmallIdeal.nD Cert.SumSmallIdeal.τ).loc Cert.SumSmallIdeal.main_v27) = v7 c
          ∧ r.2.mem ((c.tc : Thread Cert.SumSmallIdeal.nD Cert.SumSmallIdeal.τ).loc Cert.SumSmallIdeal.main_v8) = v8 c
          ∧ r.2.mem ((c.tc : Thread Cert.SumSmallIdeal.nD Cert.SumSmallIdeal.τ).loc Cert.SumSmallIdeal.main_v32) = v9 c
          ∧ r.2.mem ((c.tc : Thread Cert.SumSmallIdeal.nD Cert.SumSmallIdeal.τ).loc Cert.SumSmallIdeal.main_v14) = v10 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
          ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
          ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3)
          ∧ r.2.mem ((c.tc : Thread Cert.SumSmallIdeal.nD Cert.SumSmallIdeal.τ).loc Cert.SumSmallIdeal.main_arg4) = m ((c.tc : Thread Cert.SumSmallIdeal.nD Cert.SumSmallIdeal.τ).loc Cert.SumSmallIdeal.main_arg4)
          ∧ r.2.mem ((c.tc : Thread Cert.SumSmallIdeal.nD Cert.SumSmallIdeal.τ).loc Cert.SumSmallIdeal.main_arg5) = m ((c.tc : Thread Cert.SumSmallIdeal.nD Cert.SumSmallIdeal.τ).loc Cert.SumSmallIdeal.main_arg5)
          ∧ r.2.mem ((c.tc : Thread Cert.SumSmallIdeal.nD Cert.SumSmallIdeal.τ).loc Cert.SumSmallIdeal.main_arg6) = m ((c.tc : Thread Cert.SumSmallIdeal.nD Cert.SumSmallIdeal.τ).loc Cert.SumSmallIdeal.main_arg6)
          ∧ r.2.mem ((c.tc : Thread Cert.SumSmallIdeal.nD Cert.SumSmallIdeal.τ).loc Cert.SumSmallIdeal.main_arg7) = m ((c.tc : Thread Cert.SumSmallIdeal.nD Cert.SumSmallIdeal.τ).loc Cert.SumSmallIdeal.main_arg7)
          ∧ r.2.mem ((c.tc : Thread Cert.SumSmallIdeal.nD Cert.SumSmallIdeal.τ).loc Cert.SumSmallIdeal.main_arg8) = m ((c.tc : Thread Cert.SumSmallIdeal.nD Cert.SumSmallIdeal.τ).loc Cert.SumSmallIdeal.main_arg8)
          ∧ r.2.mem ((c.tc : Thread Cert.SumSmallIdeal.nD Cert.SumSmallIdeal.τ).loc Cert.SumSmallIdeal.main_arg9) = m ((c.tc : Thread Cert.SumSmallIdeal.nD Cert.SumSmallIdeal.τ).loc Cert.SumSmallIdeal.main_arg9)
          ∧ r.2.mem ((c.tc : Thread Cert.SumSmallIdeal.nD Cert.SumSmallIdeal.τ).loc Cert.SumSmallIdeal.main_arg10) = m ((c.tc : Thread Cert.SumSmallIdeal.nD Cert.SumSmallIdeal.τ).loc Cert.SumSmallIdeal.main_arg10)
          ∧ r.2.mem ((c.tc : Thread Cert.SumSmallIdeal.nD Cert.SumSmallIdeal.τ).loc Cert.SumSmallIdeal.main_arg11) = m ((c.tc : Thread Cert.SumSmallIdeal.nD Cert.SumSmallIdeal.τ).loc Cert.SumSmallIdeal.main_arg11))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v11) = v0 c
          ∧ r.2.mem ((c.tc : Thread Cert.SumSmallRefIdeal.nD Cert.SumSmallRefIdeal.τ).loc Cert.SumSmallRefIdeal.main_v0) = v1 c
          ∧ r.2.mem ((c.tc : Thread Cert.SumSmallRefIdeal.nD Cert.SumSmallRefIdeal.τ).loc Cert.SumSmallRefIdeal.main_v16) = v2 c
          ∧ r.2.mem ((c.tc : Thread Cert.SumSmallRefIdeal.nD Cert.SumSmallRefIdeal.τ).loc Cert.SumSmallRefIdeal.main_v2) = v3 c
          ∧ r.2.mem ((c.tc : Thread Cert.SumSmallRefIdeal.nD Cert.SumSmallRefIdeal.τ).loc Cert.SumSmallRefIdeal.main_v3) = v4 c
          ∧ r.2.mem ((c.tc : Thread Cert.SumSmallRefIdeal.nD Cert.SumSmallRefIdeal.τ).loc Cert.SumSmallRefIdeal.main_v4) = v5 c
          ∧ r.2.mem ((c.tc : Thread Cert.SumSmallRefIdeal.nD Cert.SumSmallRefIdeal.τ).loc Cert.SumSmallRefIdeal.main_v17) = v6 c
          ∧ r.2.mem ((c.tc : Thread Cert.SumSmallRefIdeal.nD Cert.SumSmallRefIdeal.τ).loc Cert.SumSmallRefIdeal.main_v18) = v7 c
          ∧ r.2.mem ((c.tc : Thread Cert.SumSmallRefIdeal.nD Cert.SumSmallRefIdeal.τ).loc Cert.SumSmallRefIdeal.main_v1) = v8 c
          ∧ r.2.mem ((c.tc : Thread Cert.SumSmallRefIdeal.nD Cert.SumSmallRefIdeal.τ).loc Cert.SumSmallRefIdeal.main_v23) = v9 c
          ∧ r.2.mem ((c.tc : Thread Cert.SumSmallRefIdeal.nD Cert.SumSmallRefIdeal.τ).loc Cert.SumSmallRefIdeal.main_v7) = v10 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0)
          ∧ r.2.mem ((c.tc : Thread Cert.SumSmallRefIdeal.nD Cert.SumSmallRefIdeal.τ).loc Cert.SumSmallRefIdeal.main_arg1) = m' ((c.tc : Thread Cert.SumSmallRefIdeal.nD Cert.SumSmallRefIdeal.τ).loc Cert.SumSmallRefIdeal.main_arg1)
          ∧ r.2.mem ((c.tc : Thread Cert.SumSmallRefIdeal.nD Cert.SumSmallRefIdeal.τ).loc Cert.SumSmallRefIdeal.main_arg2) = m' ((c.tc : Thread Cert.SumSmallRefIdeal.nD Cert.SumSmallRefIdeal.τ).loc Cert.SumSmallRefIdeal.main_arg2)
          ∧ r.2.mem ((c.tc : Thread Cert.SumSmallRefIdeal.nD Cert.SumSmallRefIdeal.τ).loc Cert.SumSmallRefIdeal.main_arg3) = m' ((c.tc : Thread Cert.SumSmallRefIdeal.nD Cert.SumSmallRefIdeal.τ).loc Cert.SumSmallRefIdeal.main_arg3)
          ∧ r.2.mem ((c.tc : Thread Cert.SumSmallRefIdeal.nD Cert.SumSmallRefIdeal.τ).loc Cert.SumSmallRefIdeal.main_arg4) = m' ((c.tc : Thread Cert.SumSmallRefIdeal.nD Cert.SumSmallRefIdeal.τ).loc Cert.SumSmallRefIdeal.main_arg4)
          ∧ r.2.mem ((c.tc : Thread Cert.SumSmallRefIdeal.nD Cert.SumSmallRefIdeal.τ).loc Cert.SumSmallRefIdeal.main_arg5) = m' ((c.tc : Thread Cert.SumSmallRefIdeal.nD Cert.SumSmallRefIdeal.τ).loc Cert.SumSmallRefIdeal.main_arg5)
          ∧ r.2.mem ((c.tc : Thread Cert.SumSmallRefIdeal.nD Cert.SumSmallRefIdeal.τ).loc Cert.SumSmallRefIdeal.main_arg6) = m' ((c.tc : Thread Cert.SumSmallRefIdeal.nD Cert.SumSmallRefIdeal.τ).loc Cert.SumSmallRefIdeal.main_arg6)
          ∧ r.2.mem ((c.tc : Thread Cert.SumSmallRefIdeal.nD Cert.SumSmallRefIdeal.τ).loc Cert.SumSmallRefIdeal.main_arg7) = m' ((c.tc : Thread Cert.SumSmallRefIdeal.nD Cert.SumSmallRefIdeal.τ).loc Cert.SumSmallRefIdeal.main_arg7)
          ∧ r.2.mem ((c.tc : Thread Cert.SumSmallRefIdeal.nD Cert.SumSmallRefIdeal.τ).loc Cert.SumSmallRefIdeal.main_arg8) = m' ((c.tc : Thread Cert.SumSmallRefIdeal.nD Cert.SumSmallRefIdeal.τ).loc Cert.SumSmallRefIdeal.main_arg8)
          ∧ r.2.mem ((c.tc : Thread Cert.SumSmallRefIdeal.nD Cert.SumSmallRefIdeal.τ).loc Cert.SumSmallRefIdeal.main_arg9) = m' ((c.tc : Thread Cert.SumSmallRefIdeal.nD Cert.SumSmallRefIdeal.τ).loc Cert.SumSmallRefIdeal.main_arg9)
          ∧ r.2.mem ((c.tc : Thread Cert.SumSmallRefIdeal.nD Cert.SumSmallRefIdeal.τ).loc Cert.SumSmallRefIdeal.main_arg10) = m' ((c.tc : Thread Cert.SumSmallRefIdeal.nD Cert.SumSmallRefIdeal.τ).loc Cert.SumSmallRefIdeal.main_arg10)
          ∧ r.2.mem ((c.tc : Thread Cert.SumSmallRefIdeal.nD Cert.SumSmallRefIdeal.τ).loc Cert.SumSmallRefIdeal.main_arg11) = m' ((c.tc : Thread Cert.SumSmallRefIdeal.nD Cert.SumSmallRefIdeal.τ).loc Cert.SumSmallRefIdeal.main_arg11))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_ProjFwd_ProjFwdIdeal : Prop :=
  True

def algebraic_ProjFwdIdeal_ProjFwdRefIdeal_pre_finite [hProjFwdIdeal : Cert.ProjFwdIdeal.Facts] [hProjFwdRefIdeal : Cert.ProjFwdRefIdeal.Facts] [hPre_finite : Cert.Pre_finite.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal_finite m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)
      ∧ m' ((c.tc : Thread Cert.ProjFwdRefIdeal.nD Cert.ProjFwdRefIdeal.τ).loc Cert.ProjFwdRefIdeal.main_arg2) = m ((c.tc : Thread Cert.ProjFwdIdeal.nD Cert.ProjFwdIdeal.τ).loc Cert.ProjFwdIdeal.main_arg2)
      ∧ m' ((c.tc : Thread Cert.ProjFwdRefIdeal.nD Cert.ProjFwdRefIdeal.τ).loc Cert.ProjFwdRefIdeal.main_arg3) = m ((c.tc : Thread Cert.ProjFwdIdeal.nD Cert.ProjFwdIdeal.τ).loc Cert.ProjFwdIdeal.main_arg3)) →
    ∃ (v0 : (c : Dev Cert.ProjFwdIdeal.nD) → Buf (Elt Ideal) ((c.tc : Thread Cert.ProjFwdIdeal.nD Cert.ProjFwdIdeal.τ).loc Cert.ProjFwdIdeal.main_v18_0)) (v1 : (c : Dev Cert.ProjFwdIdeal.nD) → Buf (Elt Ideal) ((c.tc : Thread Cert.ProjFwdIdeal.nD Cert.ProjFwdIdeal.τ).loc Cert.ProjFwdIdeal.main_v18_1)) (v2 : (c : Dev Cert.ProjFwdIdeal.nD) → Buf (Elt Ideal) ((c.tc : Thread Cert.ProjFwdIdeal.nD Cert.ProjFwdIdeal.τ).loc Cert.ProjFwdIdeal.main_v18_2)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v18_0) = v0 c
          ∧ r.2.mem ((c.tc : Thread Cert.ProjFwdIdeal.nD Cert.ProjFwdIdeal.τ).loc Cert.ProjFwdIdeal.main_v18_1) = v1 c
          ∧ r.2.mem ((c.tc : Thread Cert.ProjFwdIdeal.nD Cert.ProjFwdIdeal.τ).loc Cert.ProjFwdIdeal.main_v18_2) = v2 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
          ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v2) = v0 c
          ∧ r.2.mem ((c.tc : Thread Cert.ProjFwdRefIdeal.nD Cert.ProjFwdRefIdeal.τ).loc Cert.ProjFwdRefIdeal.main_v6) = v1 c
          ∧ r.2.mem ((c.tc : Thread Cert.ProjFwdRefIdeal.nD Cert.ProjFwdRefIdeal.τ).loc Cert.ProjFwdRefIdeal.main_v39) = v2 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1)
          ∧ r.2.mem ((c.tc : Thread Cert.ProjFwdRefIdeal.nD Cert.ProjFwdRefIdeal.τ).loc Cert.ProjFwdRefIdeal.main_arg2) = m' ((c.tc : Thread Cert.ProjFwdRefIdeal.nD Cert.ProjFwdRefIdeal.τ).loc Cert.ProjFwdRefIdeal.main_arg2)
          ∧ r.2.mem ((c.tc : Thread Cert.ProjFwdRefIdeal.nD Cert.ProjFwdRefIdeal.τ).loc Cert.ProjFwdRefIdeal.main_arg3) = m' ((c.tc : Thread Cert.ProjFwdRefIdeal.nD Cert.ProjFwdRefIdeal.τ).loc Cert.ProjFwdRefIdeal.main_arg3))

def preserves_UpFwdAct_UpFwdActIdeal : Prop :=
  True

def algebraic_UpFwdActIdeal_UpFwdActRefIdeal [hUpFwdActIdeal : Cert.UpFwdActIdeal.Facts] [hUpFwdActRefIdeal : Cert.UpFwdActRefIdeal.Facts] : Prop :=
  ∀ (m : (ℓ : Loc Cert.UpFwdActIdeal.nD Cert.UpFwdActIdeal.τ Cert.UpFwdActIdeal.sig) → Buf (Elt Ideal) ℓ) (g : Dev Cert.UpFwdActIdeal.nD → PrngReg)
    (m' : (ℓ : Loc Cert.UpFwdActRefIdeal.nD Cert.UpFwdActRefIdeal.τ Cert.UpFwdActRefIdeal.sig) → Buf (Elt Ideal) ℓ) (g' : Dev Cert.UpFwdActRefIdeal.nD → PrngReg), Pre_UpFwdActIdeal m →
    (∀ c : Dev Cert.UpFwdActIdeal.nD,
      m' ((c.tc : Thread Cert.UpFwdActRefIdeal.nD Cert.UpFwdActRefIdeal.τ).loc Cert.UpFwdActRefIdeal.main_arg0) = m ((c.tc : Thread Cert.UpFwdActIdeal.nD Cert.UpFwdActIdeal.τ).loc Cert.UpFwdActIdeal.main_arg0)
      ∧ m' ((c.tc : Thread Cert.UpFwdActRefIdeal.nD Cert.UpFwdActRefIdeal.τ).loc Cert.UpFwdActRefIdeal.main_arg1) = m ((c.tc : Thread Cert.UpFwdActIdeal.nD Cert.UpFwdActIdeal.τ).loc Cert.UpFwdActIdeal.main_arg1)
      ∧ m' ((c.tc : Thread Cert.UpFwdActRefIdeal.nD Cert.UpFwdActRefIdeal.τ).loc Cert.UpFwdActRefIdeal.main_arg2) = m ((c.tc : Thread Cert.UpFwdActIdeal.nD Cert.UpFwdActIdeal.τ).loc Cert.UpFwdActIdeal.main_arg2)
      ∧ m' ((c.tc : Thread Cert.UpFwdActRefIdeal.nD Cert.UpFwdActRefIdeal.τ).loc Cert.UpFwdActRefIdeal.main_arg3) = m ((c.tc : Thread Cert.UpFwdActIdeal.nD Cert.UpFwdActIdeal.τ).loc Cert.UpFwdActIdeal.main_arg3)) →
    ∃ (v0 : (c : Dev Cert.UpFwdActIdeal.nD) → Buf (Elt Ideal) ((c.tc : Thread Cert.UpFwdActIdeal.nD Cert.UpFwdActIdeal.τ).loc Cert.UpFwdActIdeal.main_v4_0)) (v1 : (c : Dev Cert.UpFwdActIdeal.nD) → Buf (Elt Ideal) ((c.tc : Thread Cert.UpFwdActIdeal.nD Cert.UpFwdActIdeal.τ).loc Cert.UpFwdActIdeal.main_v4_1)) (v2 : (c : Dev Cert.UpFwdActIdeal.nD) → Buf (Elt Ideal) ((c.tc : Thread Cert.UpFwdActIdeal.nD Cert.UpFwdActIdeal.τ).loc Cert.UpFwdActIdeal.main_v4_2)),
      θ_run (Cert.UpFwdActIdeal.defs (F := Ideal)) (onTc (τ := Cert.UpFwdActIdeal.τ) (Cert.UpFwdActIdeal.main (F := Ideal))) ⟨m, fun _ => 0, g⟩ (fun r => ∀ c : Dev Cert.UpFwdActIdeal.nD,
          r.2.mem ((c.tc : Thread Cert.UpFwdActIdeal.nD Cert.UpFwdActIdeal.τ).loc Cert.UpFwdActIdeal.main_v4_0) = v0 c
          ∧ r.2.mem ((c.tc : Thread Cert.UpFwdActIdeal.nD Cert.UpFwdActIdeal.τ).loc Cert.UpFwdActIdeal.main_v4_1) = v1 c
          ∧ r.2.mem ((c.tc : Thread Cert.UpFwdActIdeal.nD Cert.UpFwdActIdeal.τ).loc Cert.UpFwdActIdeal.main_v4_2) = v2 c
          ∧ r.2.mem ((c.tc : Thread Cert.UpFwdActIdeal.nD Cert.UpFwdActIdeal.τ).loc Cert.UpFwdActIdeal.main_arg0) = m ((c.tc : Thread Cert.UpFwdActIdeal.nD Cert.UpFwdActIdeal.τ).loc Cert.UpFwdActIdeal.main_arg0)
          ∧ r.2.mem ((c.tc : Thread Cert.UpFwdActIdeal.nD Cert.UpFwdActIdeal.τ).loc Cert.UpFwdActIdeal.main_arg1) = m ((c.tc : Thread Cert.UpFwdActIdeal.nD Cert.UpFwdActIdeal.τ).loc Cert.UpFwdActIdeal.main_arg1)
          ∧ r.2.mem ((c.tc : Thread Cert.UpFwdActIdeal.nD Cert.UpFwdActIdeal.τ).loc Cert.UpFwdActIdeal.main_arg2) = m ((c.tc : Thread Cert.UpFwdActIdeal.nD Cert.UpFwdActIdeal.τ).loc Cert.UpFwdActIdeal.main_arg2)
          ∧ r.2.mem ((c.tc : Thread Cert.UpFwdActIdeal.nD Cert.UpFwdActIdeal.τ).loc Cert.UpFwdActIdeal.main_arg3) = m ((c.tc : Thread Cert.UpFwdActIdeal.nD Cert.UpFwdActIdeal.τ).loc Cert.UpFwdActIdeal.main_arg3))
      ∧ θ_run (Cert.UpFwdActRefIdeal.defs (F := Ideal)) (onTc (τ := Cert.UpFwdActRefIdeal.τ) (Cert.UpFwdActRefIdeal.main (F := Ideal))) ⟨m', fun _ => 0, g'⟩ (fun r => ∀ c : Dev Cert.UpFwdActRefIdeal.nD,
          r.2.mem ((c.tc : Thread Cert.UpFwdActRefIdeal.nD Cert.UpFwdActRefIdeal.τ).loc Cert.UpFwdActRefIdeal.main_v28) = v0 c
          ∧ r.2.mem ((c.tc : Thread Cert.UpFwdActRefIdeal.nD Cert.UpFwdActRefIdeal.τ).loc Cert.UpFwdActRefIdeal.main_v29) = v1 c
          ∧ r.2.mem ((c.tc : Thread Cert.UpFwdActRefIdeal.nD Cert.UpFwdActRefIdeal.τ).loc Cert.UpFwdActRefIdeal.main_v32) = v2 c
          ∧ r.2.mem ((c.tc : Thread Cert.UpFwdActRefIdeal.nD Cert.UpFwdActRefIdeal.τ).loc Cert.UpFwdActRefIdeal.main_arg0) = m' ((c.tc : Thread Cert.UpFwdActRefIdeal.nD Cert.UpFwdActRefIdeal.τ).loc Cert.UpFwdActRefIdeal.main_arg0)
          ∧ r.2.mem ((c.tc : Thread Cert.UpFwdActRefIdeal.nD Cert.UpFwdActRefIdeal.τ).loc Cert.UpFwdActRefIdeal.main_arg1) = m' ((c.tc : Thread Cert.UpFwdActRefIdeal.nD Cert.UpFwdActRefIdeal.τ).loc Cert.UpFwdActRefIdeal.main_arg1)
          ∧ r.2.mem ((c.tc : Thread Cert.UpFwdActRefIdeal.nD Cert.UpFwdActRefIdeal.τ).loc Cert.UpFwdActRefIdeal.main_arg2) = m' ((c.tc : Thread Cert.UpFwdActRefIdeal.nD Cert.UpFwdActRefIdeal.τ).loc Cert.UpFwdActRefIdeal.main_arg2)
          ∧ r.2.mem ((c.tc : Thread Cert.UpFwdActRefIdeal.nD Cert.UpFwdActRefIdeal.τ).loc Cert.UpFwdActRefIdeal.main_arg3) = m' ((c.tc : Thread Cert.UpFwdActRefIdeal.nD Cert.UpFwdActRefIdeal.τ).loc Cert.UpFwdActRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) →
    ∃ (v0 : (c : Dev Cert.ConvFwdIdeal.nD) → Buf (Elt Ideal) ((c.tc : Thread Cert.ConvFwdIdeal.nD Cert.ConvFwdIdeal.τ).loc Cert.ConvFwdIdeal.main_v4_0)) (v1 : (c : Dev Cert.ConvFwdIdeal.nD) → Buf (Elt Ideal) ((c.tc : Thread Cert.ConvFwdIdeal.nD Cert.ConvFwdIdeal.τ).loc Cert.ConvFwdIdeal.main_v4_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v4_0) = v0 c
          ∧ r.2.mem ((c.tc : Thread Cert.ConvFwdIdeal.nD Cert.ConvFwdIdeal.τ).loc Cert.ConvFwdIdeal.main_v4_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v228) = v0 c
          ∧ r.2.mem ((c.tc : Thread Cert.ConvFwdRefIdeal.nD Cert.ConvFwdRefIdeal.τ).loc Cert.ConvFwdRefIdeal.main_v254) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4))

def preserves_ConvBwd_ConvBwdIdeal : Prop :=
  True

def algebraic_ConvBwdIdeal_ConvBwdRefIdeal_pre_finite_norm [hConvBwdIdeal : Cert.ConvBwdIdeal.Facts] [hConvBwdRefIdeal : Cert.ConvBwdRefIdeal.Facts] [hPre_finite_norm : Cert.Pre_finite_norm.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_finite_norm m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)
      ∧ m' ((c.tc : Thread Cert.ConvBwdRefIdeal.nD Cert.ConvBwdRefIdeal.τ).loc Cert.ConvBwdRefIdeal.main_arg4) = m ((c.tc : Thread Cert.ConvBwdIdeal.nD Cert.ConvBwdIdeal.τ).loc Cert.ConvBwdIdeal.main_arg4)
      ∧ m' ((c.tc : Thread Cert.ConvBwdRefIdeal.nD Cert.ConvBwdRefIdeal.τ).loc Cert.ConvBwdRefIdeal.main_arg5) = m ((c.tc : Thread Cert.ConvBwdIdeal.nD Cert.ConvBwdIdeal.τ).loc Cert.ConvBwdIdeal.main_arg5)) →
    ∃ (v0 : (c : Dev Cert.ConvBwdIdeal.nD) → Buf (Elt Ideal) ((c.tc : Thread Cert.ConvBwdIdeal.nD Cert.ConvBwdIdeal.τ).loc Cert.ConvBwdIdeal.main_v3_0)) (v1 : (c : Dev Cert.ConvBwdIdeal.nD) → Buf (Elt Ideal) ((c.tc : Thread Cert.ConvBwdIdeal.nD Cert.ConvBwdIdeal.τ).loc Cert.ConvBwdIdeal.main_v3_1)) (v2 : (c : Dev Cert.ConvBwdIdeal.nD) → Buf (Elt Ideal) ((c.tc : Thread Cert.ConvBwdIdeal.nD Cert.ConvBwdIdeal.τ).loc Cert.ConvBwdIdeal.main_v3_2)) (v3 : (c : Dev Cert.ConvBwdIdeal.nD) → Buf (Elt Ideal) ((c.tc : Thread Cert.ConvBwdIdeal.nD Cert.ConvBwdIdeal.τ).loc Cert.ConvBwdIdeal.main_v3_3)) (v4 : (c : Dev Cert.ConvBwdIdeal.nD) → Buf (Elt Ideal) ((c.tc : Thread Cert.ConvBwdIdeal.nD Cert.ConvBwdIdeal.τ).loc Cert.ConvBwdIdeal.main_v3_4)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v3_0) = v0 c
          ∧ r.2.mem ((c.tc : Thread Cert.ConvBwdIdeal.nD Cert.ConvBwdIdeal.τ).loc Cert.ConvBwdIdeal.main_v3_1) = v1 c
          ∧ r.2.mem ((c.tc : Thread Cert.ConvBwdIdeal.nD Cert.ConvBwdIdeal.τ).loc Cert.ConvBwdIdeal.main_v3_2) = v2 c
          ∧ r.2.mem ((c.tc : Thread Cert.ConvBwdIdeal.nD Cert.ConvBwdIdeal.τ).loc Cert.ConvBwdIdeal.main_v3_3) = v3 c
          ∧ r.2.mem ((c.tc : Thread Cert.ConvBwdIdeal.nD Cert.ConvBwdIdeal.τ).loc Cert.ConvBwdIdeal.main_v3_4) = v4 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
          ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v648) = v0 c
          ∧ r.2.mem ((c.tc : Thread Cert.ConvBwdRefIdeal.nD Cert.ConvBwdRefIdeal.τ).loc Cert.ConvBwdRefIdeal.main_v649) = v1 c
          ∧ r.2.mem ((c.tc : Thread Cert.ConvBwdRefIdeal.nD Cert.ConvBwdRefIdeal.τ).loc Cert.ConvBwdRefIdeal.main_v650) = v2 c
          ∧ r.2.mem ((c.tc : Thread Cert.ConvBwdRefIdeal.nD Cert.ConvBwdRefIdeal.τ).loc Cert.ConvBwdRefIdeal.main_v651) = v3 c
          ∧ r.2.mem ((c.tc : Thread Cert.ConvBwdRefIdeal.nD Cert.ConvBwdRefIdeal.τ).loc Cert.ConvBwdRefIdeal.main_v652) = v4 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3)
          ∧ r.2.mem ((c.tc : Thread Cert.ConvBwdRefIdeal.nD Cert.ConvBwdRefIdeal.τ).loc Cert.ConvBwdRefIdeal.main_arg4) = m' ((c.tc : Thread Cert.ConvBwdRefIdeal.nD Cert.ConvBwdRefIdeal.τ).loc Cert.ConvBwdRefIdeal.main_arg4)
          ∧ r.2.mem ((c.tc : Thread Cert.ConvBwdRefIdeal.nD Cert.ConvBwdRefIdeal.τ).loc Cert.ConvBwdRefIdeal.main_arg5) = m' ((c.tc : Thread Cert.ConvBwdRefIdeal.nD Cert.ConvBwdRefIdeal.τ).loc Cert.ConvBwdRefIdeal.main_arg5))

def Claim : Prop :=
  ∃ (hKernel : Cert.Kernel.Facts) (hKernelIdeal : Cert.KernelIdeal.Facts) (hReferenceIdeal : Cert.ReferenceIdeal.Facts) (hGradWUp : Cert.GradWUp.Facts) (hGradWUpIdeal : Cert.GradWUpIdeal.Facts) (hGradWUpRefIdeal : Cert.GradWUpRefIdeal.Facts) (hGradWDown : Cert.GradWDown.Facts) (hGradWDownIdeal : Cert.GradWDownIdeal.Facts) (hGradWDownRefIdeal : Cert.GradWDownRefIdeal.Facts) (hGradWOut : Cert.GradWOut.Facts) (hGradWOutIdeal : Cert.GradWOutIdeal.Facts) (hGradWOutRefIdeal : Cert.GradWOutRefIdeal.Facts) (hGradWIn : Cert.GradWIn.Facts) (hGradWInIdeal : Cert.GradWInIdeal.Facts) (hGradWInRefIdeal : Cert.GradWInRefIdeal.Facts) (hDAct : Cert.DAct.Facts) (hDActIdeal : Cert.DActIdeal.Facts) (hDActRefIdeal : Cert.DActRefIdeal.Facts) (hDCat : Cert.DCat.Facts) (hDCatIdeal : Cert.DCatIdeal.Facts) (hDCatRefIdeal : Cert.DCatRefIdeal.Facts) (hProjBwd : Cert.ProjBwd.Facts) (hProjBwdIdeal : Cert.ProjBwdIdeal.Facts) (hProjBwdRefIdeal : Cert.ProjBwdRefIdeal.Facts) (hMixOut : Cert.MixOut.Facts) (hMixOutIdeal : Cert.MixOutIdeal.Facts) (hMixOutRefIdeal : Cert.MixOutRefIdeal.Facts) (hDownLoss : Cert.DownLoss.Facts) (hDownLossIdeal : Cert.DownLossIdeal.Facts) (hDownLossRefIdeal : Cert.DownLossRefIdeal.Facts) (hAdamWIn : Cert.AdamWIn.Facts) (hAdamWInIdeal : Cert.AdamWInIdeal.Facts) (hAdamWInRefIdeal : Cert.AdamWInRefIdeal.Facts) (hAdamWOut : Cert.AdamWOut.Facts) (hAdamWOutIdeal : Cert.AdamWOutIdeal.Facts) (hAdamWOutRefIdeal : Cert.AdamWOutRefIdeal.Facts) (hAdamWUp : Cert.AdamWUp.Facts) (hAdamWUpIdeal : Cert.AdamWUpIdeal.Facts) (hAdamWUpRefIdeal : Cert.AdamWUpRefIdeal.Facts) (hAdamWDown : Cert.AdamWDown.Facts) (hAdamWDownIdeal : Cert.AdamWDownIdeal.Facts) (hAdamWDownRefIdeal : Cert.AdamWDownRefIdeal.Facts) (hAdamSmall : Cert.AdamSmall.Facts) (hAdamSmallIdeal : Cert.AdamSmallIdeal.Facts) (hAdamSmallRefIdeal : Cert.AdamSmallRefIdeal.Facts) (hSumIn : Cert.SumIn.Facts) (hSumInIdeal : Cert.SumInIdeal.Facts) (hSumInRefIdeal : Cert.SumInRefIdeal.Facts) (hSumOut : Cert.SumOut.Facts) (hSumOutIdeal : Cert.SumOutIdeal.Facts) (hSumOutRefIdeal : Cert.SumOutRefIdeal.Facts) (hSumUp : Cert.SumUp.Facts) (hSumUpIdeal : Cert.SumUpIdeal.Facts) (hSumUpRefIdeal : Cert.SumUpRefIdeal.Facts) (hSumDown : Cert.SumDown.Facts) (hSumDownIdeal : Cert.SumDownIdeal.Facts) (hSumDownRefIdeal : Cert.SumDownRefIdeal.Facts) (hSumSmall : Cert.SumSmall.Facts) (hSumSmallIdeal : Cert.SumSmallIdeal.Facts) (hSumSmallRefIdeal : Cert.SumSmallRefIdeal.Facts) (hNormFwd : Cert.NormFwd.Facts) (hNormFwdIdeal : Cert.NormFwdIdeal.Facts) (hNormFwdRefIdeal : Cert.NormFwdRefIdeal.Facts) (hProjFwd : Cert.ProjFwd.Facts) (hProjFwdIdeal : Cert.ProjFwdIdeal.Facts) (hProjFwdRefIdeal : Cert.ProjFwdRefIdeal.Facts) (hUpFwdAct : Cert.UpFwdAct.Facts) (hUpFwdActIdeal : Cert.UpFwdActIdeal.Facts) (hUpFwdActRefIdeal : Cert.UpFwdActRefIdeal.Facts) (hConvFwd : Cert.ConvFwd.Facts) (hConvFwdIdeal : Cert.ConvFwdIdeal.Facts) (hConvFwdRefIdeal : Cert.ConvFwdRefIdeal.Facts) (hConvBwd : Cert.ConvBwd.Facts) (hConvBwdIdeal : Cert.ConvBwdIdeal.Facts) (hConvBwdRefIdeal : Cert.ConvBwdRefIdeal.Facts) (hPre_finite : Cert.Pre_finite.Facts) (hPre_finite_norm : Cert.Pre_finite_norm.Facts),
    quiescent_Kernel (hKernel := hKernel)
    ∧ quiescent_KernelIdeal (hKernelIdeal := hKernelIdeal)
    ∧ quiescent_ReferenceIdeal (hReferenceIdeal := hReferenceIdeal)
    ∧ quiescent_GradWUp (hGradWUp := hGradWUp)
    ∧ quiescent_GradWUpIdeal (hGradWUpIdeal := hGradWUpIdeal)
    ∧ quiescent_GradWUpRefIdeal (hGradWUpRefIdeal := hGradWUpRefIdeal)
    ∧ quiescent_GradWDown (hGradWDown := hGradWDown)
    ∧ quiescent_GradWDownIdeal (hGradWDownIdeal := hGradWDownIdeal)
    ∧ quiescent_GradWDownRefIdeal (hGradWDownRefIdeal := hGradWDownRefIdeal)
    ∧ quiescent_GradWOut (hGradWOut := hGradWOut)
    ∧ quiescent_GradWOutIdeal (hGradWOutIdeal := hGradWOutIdeal)
    ∧ quiescent_GradWOutRefIdeal (hGradWOutRefIdeal := hGradWOutRefIdeal)
    ∧ quiescent_GradWIn (hGradWIn := hGradWIn)
    ∧ quiescent_GradWInIdeal (hGradWInIdeal := hGradWInIdeal)
    ∧ quiescent_GradWInRefIdeal (hGradWInRefIdeal := hGradWInRefIdeal)
    ∧ quiescent_DAct (hDAct := hDAct)
    ∧ quiescent_DActIdeal (hDActIdeal := hDActIdeal)
    ∧ quiescent_DActRefIdeal (hDActRefIdeal := hDActRefIdeal)
    ∧ quiescent_DCat (hDCat := hDCat)
    ∧ quiescent_DCatIdeal (hDCatIdeal := hDCatIdeal)
    ∧ quiescent_DCatRefIdeal (hDCatRefIdeal := hDCatRefIdeal)
    ∧ quiescent_ProjBwd (hProjBwd := hProjBwd)
    ∧ quiescent_ProjBwdIdeal (hProjBwdIdeal := hProjBwdIdeal)
    ∧ quiescent_ProjBwdRefIdeal (hProjBwdRefIdeal := hProjBwdRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_DownLoss (hDownLoss := hDownLoss)
    ∧ quiescent_DownLossIdeal (hDownLossIdeal := hDownLossIdeal)
    ∧ quiescent_DownLossRefIdeal (hDownLossRefIdeal := hDownLossRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamWUp (hAdamWUp := hAdamWUp)
    ∧ quiescent_AdamWUpIdeal (hAdamWUpIdeal := hAdamWUpIdeal)
    ∧ quiescent_AdamWUpRefIdeal (hAdamWUpRefIdeal := hAdamWUpRefIdeal)
    ∧ quiescent_AdamWDown (hAdamWDown := hAdamWDown)
    ∧ quiescent_AdamWDownIdeal (hAdamWDownIdeal := hAdamWDownIdeal)
    ∧ quiescent_AdamWDownRefIdeal (hAdamWDownRefIdeal := hAdamWDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ProjFwd (hProjFwd := hProjFwd)
    ∧ quiescent_ProjFwdIdeal (hProjFwdIdeal := hProjFwdIdeal)
    ∧ quiescent_ProjFwdIdeal_pre_finite (hProjFwdIdeal := hProjFwdIdeal) (hPre_finite := hPre_finite)
    ∧ quiescent_ProjFwdRefIdeal (hProjFwdRefIdeal := hProjFwdRefIdeal)
    ∧ quiescent_ProjFwdRefIdeal_pre_finite (hProjFwdRefIdeal := hProjFwdRefIdeal) (hPre_finite := hPre_finite)
    ∧ quiescent_UpFwdAct (hUpFwdAct := hUpFwdAct)
    ∧ quiescent_UpFwdActIdeal (hUpFwdActIdeal := hUpFwdActIdeal)
    ∧ quiescent_UpFwdActRefIdeal (hUpFwdActRefIdeal := hUpFwdActRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_ConvBwd (hConvBwd := hConvBwd)
    ∧ quiescent_ConvBwdIdeal (hConvBwdIdeal := hConvBwdIdeal)
    ∧ quiescent_ConvBwdIdeal_pre_finite_norm (hConvBwdIdeal := hConvBwdIdeal) (hPre_finite_norm := hPre_finite_norm)
    ∧ quiescent_ConvBwdRefIdeal (hConvBwdRefIdeal := hConvBwdRefIdeal)
    ∧ quiescent_ConvBwdRefIdeal_pre_finite_norm (hConvBwdRefIdeal := hConvBwdRefIdeal) (hPre_finite_norm := hPre_finite_norm)
    ∧ preserves_Kernel_KernelIdeal
    ∧ algebraic_KernelIdeal_ReferenceIdeal (hKernelIdeal := hKernelIdeal) (hReferenceIdeal := hReferenceIdeal)
    ∧ preserves_GradWUp_GradWUpIdeal
    ∧ algebraic_GradWUpIdeal_GradWUpRefIdeal (hGradWUpIdeal := hGradWUpIdeal) (hGradWUpRefIdeal := hGradWUpRefIdeal)
    ∧ preserves_GradWDown_GradWDownIdeal
    ∧ algebraic_GradWDownIdeal_GradWDownRefIdeal (hGradWDownIdeal := hGradWDownIdeal) (hGradWDownRefIdeal := hGradWDownRefIdeal)
    ∧ preserves_GradWOut_GradWOutIdeal
    ∧ algebraic_GradWOutIdeal_GradWOutRefIdeal (hGradWOutIdeal := hGradWOutIdeal) (hGradWOutRefIdeal := hGradWOutRefIdeal)
    ∧ preserves_GradWIn_GradWInIdeal
    ∧ algebraic_GradWInIdeal_GradWInRefIdeal (hGradWInIdeal := hGradWInIdeal) (hGradWInRefIdeal := hGradWInRefIdeal)
    ∧ preserves_DAct_DActIdeal
    ∧ algebraic_DActIdeal_DActRefIdeal (hDActIdeal := hDActIdeal) (hDActRefIdeal := hDActRefIdeal)
    ∧ preserves_DCat_DCatIdeal
    ∧ algebraic_DCatIdeal_DCatRefIdeal (hDCatIdeal := hDCatIdeal) (hDCatRefIdeal := hDCatRefIdeal)
    ∧ preserves_ProjBwd_ProjBwdIdeal
    ∧ algebraic_ProjBwdIdeal_ProjBwdRefIdeal (hProjBwdIdeal := hProjBwdIdeal) (hProjBwdRefIdeal := hProjBwdRefIdeal)
    ∧ preserves_MixOut_MixOutIdeal
    ∧ algebraic_MixOutIdeal_MixOutRefIdeal (hMixOutIdeal := hMixOutIdeal) (hMixOutRefIdeal := hMixOutRefIdeal)
    ∧ preserves_DownLoss_DownLossIdeal
    ∧ algebraic_DownLossIdeal_DownLossRefIdeal (hDownLossIdeal := hDownLossIdeal) (hDownLossRefIdeal := hDownLossRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamWUp_AdamWUpIdeal
    ∧ algebraic_AdamWUpIdeal_AdamWUpRefIdeal (hAdamWUpIdeal := hAdamWUpIdeal) (hAdamWUpRefIdeal := hAdamWUpRefIdeal)
    ∧ preserves_AdamWDown_AdamWDownIdeal
    ∧ algebraic_AdamWDownIdeal_AdamWDownRefIdeal (hAdamWDownIdeal := hAdamWDownIdeal) (hAdamWDownRefIdeal := hAdamWDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumIn_SumInIdeal
    ∧ algebraic_SumInIdeal_SumInRefIdeal (hSumInIdeal := hSumInIdeal) (hSumInRefIdeal := hSumInRefIdeal)
    ∧ preserves_SumOut_SumOutIdeal
    ∧ algebraic_SumOutIdeal_SumOutRefIdeal (hSumOutIdeal := hSumOutIdeal) (hSumOutRefIdeal := hSumOutRefIdeal)
    ∧ preserves_SumUp_SumUpIdeal
    ∧ algebraic_SumUpIdeal_SumUpRefIdeal (hSumUpIdeal := hSumUpIdeal) (hSumUpRefIdeal := hSumUpRefIdeal)
    ∧ preserves_SumDown_SumDownIdeal
    ∧ algebraic_SumDownIdeal_SumDownRefIdeal (hSumDownIdeal := hSumDownIdeal) (hSumDownRefIdeal := hSumDownRefIdeal)
    ∧ preserves_SumSmall_SumSmallIdeal
    ∧ algebraic_SumSmallIdeal_SumSmallRefIdeal (hSumSmallIdeal := hSumSmallIdeal) (hSumSmallRefIdeal := hSumSmallRefIdeal)
    ∧ preserves_NormFwd_NormFwdIdeal
    ∧ algebraic_NormFwdIdeal_NormFwdRefIdeal (hNormFwdIdeal := hNormFwdIdeal) (hNormFwdRefIdeal := hNormFwdRefIdeal)
    ∧ preserves_ProjFwd_ProjFwdIdeal
    ∧ algebraic_ProjFwdIdeal_ProjFwdRefIdeal_pre_finite (hProjFwdIdeal := hProjFwdIdeal) (hProjFwdRefIdeal := hProjFwdRefIdeal) (hPre_finite := hPre_finite)
    ∧ preserves_UpFwdAct_UpFwdActIdeal
    ∧ algebraic_UpFwdActIdeal_UpFwdActRefIdeal (hUpFwdActIdeal := hUpFwdActIdeal) (hUpFwdActRefIdeal := hUpFwdActRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_ConvBwd_ConvBwdIdeal
    ∧ algebraic_ConvBwdIdeal_ConvBwdRefIdeal_pre_finite_norm (hConvBwdIdeal := hConvBwdIdeal) (hConvBwdRefIdeal := hConvBwdRefIdeal) (hPre_finite_norm := hPre_finite_norm)
-- ==== Pre_finite.lean ====
abbrev S8192x1024 : Shape := ⟨2, ![8192, 1024]⟩
abbrev S1024x2560 : Shape := ⟨2, ![1024, 2560]⟩
abbrev S64 : Shape := ⟨1, ![64]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024x2560 : S_.BroadcastsInDim S1024x2560 (![] : Fin 0 → Fin S1024x2560.rank)

variable [Facts]

def fn {F : FTy → Type} [FloatOps F] (main_arg0 : FVec F S8192x1024 .bf16) (main_arg1 : FVec F S1024x2560 .f32) (main_arg2 : FVec F S64 .f32) (main_arg3 : FVec F S64 .f32) : IVec S8192x1024 1 × IVec S1024x2560 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1024x2560 .f32 := Host.absf main_arg1
  let main_cst_0 : FVec F S_ .f32 := constant S_ .f32 0x7F800000#32
  let main_v5 : FVec F S1024x2560 .f32 := broadcastInDim S1024x2560 ![] bcast_S_S1024x2560 main_cst_0
  let main_v6 : IVec S1024x2560 1 := cmpf .olt main_v4 main_v5
  (main_v3, main_v6)
-- ==== Pre_finite_norm.lean ====
abbrev S8192x1024 : Shape := ⟨2, ![8192, 1024]⟩
abbrev S8192x512 : Shape := ⟨2, ![8192, 512]⟩
abbrev S31x512 : Shape := ⟨2, ![31, 512]⟩
abbrev S512 : Shape := ⟨1, ![512]⟩
abbrev S_ : Shape := ⟨0, ![]⟩

class Facts : Prop where
  slices_S8192x1024_S8192x512_0_0 : S8192x1024.Slices ![0, 0] S8192x512
  bcast_S_S8192x512 : S_.BroadcastsInDim S8192x512 (![] : Fin 0 → Fin S8192x512.rank)
  bcast_S_S512 : S_.BroadcastsInDim S512 (![] : Fin 0 → Fin S512.rank)

variable [Facts]

def fn {F : FTy → Type} [FloatOps F] (main_arg0 : FVec F S8192x1024 .f32) (main_arg1 : FVec F S8192x512 .f32) (main_arg2 : FVec F S8192x1024 .f32) (main_arg3 : FVec F S31x512 .f32) (main_arg4 : FVec F S512 .f32) (main_arg5 : FVec F S512 .f32) : IVec S8192x512 1 × IVec S512 1 :=
  let main_v0 : FVec F S8192x512 .f32 := (extractStridedSlice S8192x512 ![0, 0] · slices_S8192x1024_S8192x512_0_0) main_arg2
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S512 .f32 := Host.absf main_arg4
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  (main_v3, main_v6)
-- ==== Kernel.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S5632x1024 : Shape := ⟨2, ![5632, 1024]⟩
abbrev S1x1024 : Shape := ⟨2, ![1, 1024]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x2816, .bf16⟩
  | .hbm, ⟨4, _⟩ => ⟨S8192x2816, .bf16⟩
  | .hbm, ⟨5, _⟩ => ⟨S8192x1024, .f32⟩
  | .hbm, ⟨6, _⟩ => ⟨S5632x1024, .f32⟩
  | .hbm, ⟨7, _⟩ => ⟨S5632x1024, .bf16⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S5632x1024 : Shape := ⟨2, ![5632, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x2816, .bf16⟩
  | .hbm, ⟨4, _⟩ => ⟨S8192x2816, .bf16⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S8192x5632, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x5632, .f32⟩
  | .hbm, ⟨30, _⟩ => ⟨S5632x1024, .f32⟩
  | .hbm, ⟨31, _⟩ => ⟨S1024x5632, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== GradWUp.lean ====
abbrev S8192x2816 : Shape := ⟨2, ![8192, 2816]⟩
abbrev S8192x1024 : Shape := ⟨2, ![8192, 1024]⟩
abbrev S5632x1024 : Shape := ⟨2, ![5632, 1024]⟩
abbrev S512x2816 : Shape := ⟨2, ![512, 2816]⟩
abbrev S512x1024 : Shape := ⟨2, ![512, 1024]⟩
abbrev S2816x1024 : Shape := ⟨2, ![2816, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S5632x1024, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x1024, .bf16⟩
  | .local _ .vmem, ⟨5, _⟩ => ⟨S512x1024, .bf16⟩
  | .local _ .vmem, ⟨6, _⟩ => ⟨S2816x1024, .bf16⟩
  | .local _ .vmem, ⟨7, _⟩ => ⟨S2816x1024, .bf16⟩
  | .local _ .vmem, ⟨8, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond4 (i : grid0.Coords) : BitVec 1 :=
  let arg1 : BitVec 32 := BitVec.ofNat 32 (i 1).val
  let c15_i32 : BitVec 32 := 15#32
  let v9 : BitVec 1 := Scalar.cmpi .eq arg1 c15_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GradWUpRefIdeal.lean ====
abbrev S8192x2816 : Shape := ⟨2, ![8192, 2816]⟩
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S8192x2816, .f32⟩
  | .hbm, ⟨4, _⟩ => ⟨S8192x2816, .f32⟩
  | .hbm, ⟨5, _⟩ => ⟨S8192x5632, .f32⟩
  | .hbm, ⟨6, _⟩ => ⟨S_, .f32⟩
  | .hbm, ⟨7, _⟩ => ⟨S1024x5632, .f32⟩
  | .hbm, ⟨8, _⟩ => ⟨S8192x1024, .f32⟩
  | .hbm, ⟨9, _⟩ => ⟨S8192x5632, .f32⟩
  | .hbm, ⟨10, _⟩ => ⟨S5632x1024, .f32⟩
  | .hbm, ⟨11, _⟩ => ⟨S1024x5632, .f32⟩
  | .hbm, ⟨12, _⟩ => ⟨S5632x1024, .f32⟩
  | .hbm, ⟨13, _⟩ => ⟨S5632x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== GradWDown.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond3 (i : grid0.Coords) : BitVec 1 :=
  let arg1 : BitVec 32 := BitVec.ofNat 32 (i 1).val
  let c7_i32 : BitVec 32 := 7#32
  let v6 : BitVec 1 := Scalar.cmpi .eq arg1 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradWDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradWOut.lean ====
abbrev S8192x512 : Shape := ⟨2, ![8192, 512]⟩
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S8192x1024, .bf16⟩
  | .hbm, ⟨3, _⟩ => ⟨S1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![1, 8], ![false, false]⟩

def k0_cond3 (i : grid0.Coords) : BitVec 1 :=
  let arg1 : BitVec 32 := BitVec.ofNat 32 (i 1).val
  let c7_i32 : BitVec 32 := 7#32
  let v6 : BitVec 1 := Scalar.cmpi .eq arg1 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== GradWOutRefIdeal.lean ====
abbrev S8192x512 : Shape := ⟨2, ![8192, 512]⟩
abbrev S8192x1024 : Shape := ⟨2, ![8192, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S8192x1024, .bf16⟩
  | .hbm, ⟨3, _⟩ => ⟨S_, .f32⟩
  | .hbm, ⟨4, _⟩ => ⟨S1024x1024, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== GradWIn.lean ====
abbrev S8192x1024 : Shape := ⟨2, ![8192, 1024]⟩
abbrev S8192x512 : Shape := ⟨2, ![8192, 512]⟩
abbrev S2560x1024 : Shape := ⟨2, ![2560, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x1024, .bf16⟩
  | .hbm, ⟨5, _⟩ => ⟨S2560x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S2560x1024, .bf16⟩
  | .local _ .vmem, ⟨11, _⟩ => ⟨S2560x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![1, 8], ![false, false]⟩

def k0_cond3 (i : grid0.Coords) : BitVec 1 :=
  let arg1 : BitVec 32 := BitVec.ofNat 32 (i 1).val
  let c7_i32 : BitVec 32 := 7#32
  let v6 : BitVec 1 := Scalar.cmpi .eq arg1 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2560x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== GradWInRefIdeal.lean ====
abbrev S8192x1024 : Shape := ⟨2, ![8192, 1024]⟩
abbrev S8192x512 : Shape := ⟨2, ![8192, 512]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x1024, .bf16⟩
  | .hbm, ⟨5, _⟩ => ⟨S8192x1024, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x2560, .f32⟩
  | .hbm, ⟨10, _⟩ => ⟨S_, .f32⟩
  | .hbm, ⟨11, _⟩ => ⟨S1024x2560, .f32⟩
  | .hbm, ⟨12, _⟩ => ⟨S8192x1024, .f32⟩
  | .hbm, ⟨13, _⟩ => ⟨S8192x2560, .f32⟩
  | .hbm, ⟨14, _⟩ => ⟨S2560x1024, .f32⟩
  | .hbm, ⟨15, _⟩ => ⟨S1024x2560, .f32⟩
  | .hbm, ⟨16, _⟩ => ⟨S2560x1024, .f32⟩
  | .hbm, ⟨17, _⟩ => ⟨S2560x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== DAct.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .f32⟩
  | .hbm, ⟨2, _⟩ => ⟨S2816x1024, .bf16⟩
  | .hbm, ⟨3, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DActRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x1024, .f32⟩
  | .hbm, ⟨6, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DCat.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DCatRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjBwd.lean ====
abbrev S8192x1024 : Shape := ⟨2, ![8192, 1024]⟩
abbrev S1024 : Shape := ⟨1, ![1024]⟩
abbrev S1024x2560 : Shape := ⟨2, ![1024, 2560]⟩
abbrev S8192x512 : Shape := ⟨2, ![8192, 512]⟩
abbrev S2560x1024 : Shape := ⟨2, ![2560, 1024]⟩
abbrev S1x1024 : Shape := ⟨2, ![1, 1024]⟩
abbrev S512x1024 : Shape := ⟨2, ![512, 1024]⟩
abbrev S512x512 : Shape := ⟨2, ![512, 512]⟩
abbrev S1024x1024 : Shape := ⟨2, ![1024, 1024]⟩
abbrev S512 : Shape := ⟨1, ![512]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .f32⟩
  | .hbm, ⟨3, _⟩ => ⟨S8192x1024, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x1024, .f32⟩
  | .hbm, ⟨8, _⟩ => ⟨S2560x1024, .f32⟩
  | .hbm, ⟨9, _⟩ => ⟨S2560x1024, .bf16⟩
  | .hbm, ⟨10, _⟩ => ⟨S1x1024, .f32⟩
  | .hbm, ⟨11, _⟩ => ⟨S8192x1024, .f32⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S2560x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2560x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ProjBwdRefIdeal.lean ====
abbrev S8192x1024 : Shape := ⟨2, ![8192, 1024]⟩
abbrev S1024 : Shape := ⟨1, ![1024]⟩
abbrev S1024x2560 : Shape := ⟨2, ![1024, 2560]⟩
abbrev S8192x512 : Shape := ⟨2, ![8192, 512]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2560x1024 : Shape := ⟨2, ![2560, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .f32⟩
  | .hbm, ⟨3, _⟩ => ⟨S8192x1024, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x1024, .f32⟩
  | .hbm, ⟨8, _⟩ => ⟨S8192x1024, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x2560, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x2560, .f32⟩
  | .hbm, ⟨34, _⟩ => ⟨S2560x1024, .f32⟩
  | .hbm, ⟨35, _⟩ => ⟨S1024x2560, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== MixOut.lean ====
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixOutRefIdeal.lean ====
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S1024, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== DownLoss.lean ====
abbrev S8192x2816 : Shape := ⟨2, ![8192, 2816]⟩
abbrev S2816x1024 : Shape := ⟨2, ![2816, 1024]⟩
abbrev S8192x1024 : Shape := ⟨2, ![8192, 1024]⟩
abbrev S8x128 : Shape := ⟨2, ![8, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S2816x1024, .bf16⟩
  | .hbm, ⟨5, _⟩ => ⟨S8x128, .f32⟩
  | .hbm, ⟨6, _⟩ => ⟨S8192x1024, .f32⟩
  | .hbm, ⟨7, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownLossRefIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 32
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1024, .f32⟩
  | .hbm, ⟨29, _⟩ => ⟨S8192x1024, .f32⟩
  | .hbm, ⟨30, _⟩ => ⟨S8x128, .f32⟩
  | .hbm, ⟨31, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== AdamWIn.lean ====
abbrev S1024x320 : Shape := ⟨2, ![1024, 320]⟩
abbrev S256x320 : Shape := ⟨2, ![256, 320]⟩

abbrev nBuf : Space → Nat
  | .hbm => 7
  | .vmem => 14
  | .smem => 0
  | _ => 0

abbrev bufTy : (tb : Table) → Fin (tcTables nBuf tb) → BufTy
  | .hbm, ⟨0, _⟩ => ⟨S1024x320, .f32⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S1024x320, .f32⟩
  | .local _ .vmem, ⟨0, _⟩ => ⟨S256x320, .f32⟩
  | .local _ .vmem, ⟨1, _⟩ => ⟨S256x320, .f32⟩
  | .local _ .vmem, ⟨2, _⟩ => ⟨S256x320, .f32⟩
  | .local _ .vmem, ⟨3, _⟩ => ⟨S256x320, .f32⟩
  | .local _ .vmem, ⟨4, _⟩ => ⟨S256x320, .f32⟩
  | .local _ .vmem, ⟨5, _⟩ => ⟨S256x320, .f32⟩
  | .local _ .vmem, ⟨6, _⟩ => ⟨S256x320, .f32⟩
  | .local _ .vmem, ⟨7, _⟩ => ⟨S256x320, .f32⟩
  | .local _ .vmem, ⟨8, _⟩ => ⟨S256x320, .f32⟩
  | .local _ .vmem, ⟨9, _⟩ => ⟨S256x320, .f32⟩
  | .local _ .vmem, ⟨10, _⟩ => ⟨S256x320, .f32⟩
  | .local _ .vmem, ⟨11, _⟩ => ⟨S256x320, .f32⟩
  | .local _ .vmem, ⟨12, _⟩ => ⟨S256x320, .f32⟩
  | .local _ .vmem, ⟨13, _⟩ => ⟨S256x320, .f32⟩
  | _, _ => ⟨S1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInIdeal.lean ====
abbrev S1024x320 : Shape := ⟨2, ![1024, 320]⟩
abbrev S256x320 : Shape := ⟨2, ![256, 320]⟩

abbrev nBuf : Space → Nat
  | .hbm => 7
  | .vmem => 14
  | .smem => 0
  | _ => 0

abbrev bufTy : (tb : Table) → Fin (tcTables nBuf tb) → BufTy
  | .hbm, ⟨0, _⟩ => ⟨S1024x320, .f32⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S1024x320, .f32⟩
  | .local _ .vmem, ⟨0, _⟩ => ⟨S256x320, .f32⟩
  | .local _ .vmem, ⟨1, _⟩ => ⟨S256x320, .f32⟩
  | .local _ .vmem, ⟨2, _⟩ => ⟨S256x320, .f32⟩
  | .local _ .vmem, ⟨3, _⟩ => ⟨S256x320, .f32⟩
  | .local _ .vmem, ⟨4, _⟩ => ⟨S256x320, .f32⟩
  | .local _ .vmem, ⟨5, _⟩ => ⟨S256x320, .f32⟩
  | .local _ .vmem, ⟨6, _⟩ => ⟨S256x320, .f32⟩
  | .local _ .vmem, ⟨7, _⟩ => ⟨S256x320, .f32⟩
  | .local _ .vmem, ⟨8, _⟩ => ⟨S256x320, .f32⟩
  | .local _ .vmem, ⟨9, _⟩ => ⟨S256x320, .f32⟩
  | .local _ .vmem, ⟨10, _⟩ => ⟨S256x320, .f32⟩
  | .local _ .vmem, ⟨11, _⟩ => ⟨S256x320, .f32⟩
  | .local _ .vmem, ⟨12, _⟩ => ⟨S256x320, .f32⟩
  | .local _ .vmem, ⟨13, _⟩ => ⟨S256x320, .f32⟩
  | _, _ => ⟨S1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInRefIdeal.lean ====
abbrev S1024x320 : Shape := ⟨2, ![1024, 320]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x320, .f32⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S_, .f32⟩
  | .hbm, ⟨5, _⟩ => ⟨S1024x320, .f32⟩
  | .hbm, ⟨6, _⟩ => ⟨S1024x320, .f32⟩
  | .hbm, ⟨7, _⟩ => ⟨S_, .f32⟩
  | .hbm, ⟨8, _⟩ => ⟨S1024x320, .f32⟩
  | .hbm, ⟨9, _⟩ => ⟨S1024x320, .f32⟩
  | .hbm, ⟨10, _⟩ => ⟨S1024x320, .f32⟩
  | .hbm, ⟨11, _⟩ => ⟨S_, .f32⟩
  | .hbm, ⟨12, _⟩ => ⟨S1024x320, .f32⟩
  | .hbm, ⟨13, _⟩ => ⟨S1024x320, .f32⟩
  | .hbm, ⟨14, _⟩ => ⟨S1024x320, .f32⟩
  | .hbm, ⟨15, _⟩ => ⟨S_, .f32⟩
  | .hbm, ⟨16, _⟩ => ⟨S1024x320, .f32⟩
  | .hbm, ⟨17, _⟩ => ⟨S1024x320, .f32⟩
  | .hbm, ⟨18, _⟩ => ⟨S1024x320, .f32⟩
  | .hbm, ⟨19, _⟩ => ⟨S_, .f32⟩
  | .hbm, ⟨20, _⟩ => ⟨S1024x320, .f32⟩
  | .hbm, ⟨21, _⟩ => ⟨S1024x320, .f32⟩
  | .hbm, ⟨22, _⟩ => ⟨S_, .f32⟩
  | .hbm, ⟨23, _⟩ => ⟨S1024x320, .f32⟩
  | .hbm, ⟨24, _⟩ => ⟨S1024x320, .f32⟩
  | .hbm, ⟨25, _⟩ => ⟨S1024x320, .f32⟩
  | .hbm, ⟨26, _⟩ => ⟨S_, .f32⟩
  | .hbm, ⟨27, _⟩ => ⟨S1024x320, .f32⟩
  | .hbm, ⟨28, _⟩ => ⟨S1024x320, .f32⟩
  | .hbm, ⟨29, _⟩ => ⟨S1024x320, .f32⟩
  | .hbm, ⟨30, _⟩ => ⟨S_, .f32⟩
  | .hbm, ⟨31, _⟩ => ⟨S1024x320, .f32⟩
  | .hbm, ⟨32, _⟩ => ⟨S1024x320, .f32⟩
  | .hbm, ⟨33, _⟩ => ⟨S1024x320, .f32⟩
  | .hbm, ⟨34, _⟩ => ⟨S_, .f32⟩
  | .hbm, ⟨35, _⟩ => ⟨S1024x320, .f32⟩
  | .hbm, ⟨36, _⟩ => ⟨S1024x320, .f32⟩
  | _, _ => ⟨S1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWOut.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWOutIdeal.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWOutRefIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWUp.lean ====
abbrev S1024x704 : Shape := ⟨2, ![1024, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWUpIdeal.lean ====
abbrev S1024x704 : Shape := ⟨2, ![1024, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWUpRefIdeal.lean ====
abbrev S1024x704 : Shape := ⟨2, ![1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWDown.lean ====
abbrev S352x1024 : Shape := ⟨2, ![352, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWDownIdeal.lean ====
abbrev S352x1024 : Shape := ⟨2, ![352, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWDownRefIdeal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1024 : Shape := ⟨1, ![1024]⟩
abbrev S31x64 : Shape := ⟨2, ![31, 64]⟩
abbrev S512 : Shape := ⟨1, ![512]⟩
abbrev S64 : Shape := ⟨1, ![64]⟩
abbrev S3x704 : Shape := ⟨2, ![3, 704]⟩
abbrev S5632 : Shape := ⟨1, ![5632]⟩
abbrev S1984 : Shape := ⟨1, ![1984]⟩
abbrev S2112 : Shape := ⟨1, ![2112]⟩
abbrev S13440 : Shape := ⟨1, ![13440]⟩
abbrev S_ : Shape := ⟨0, ![]⟩
abbrev S14336 : Shape := ⟨1, ![14336]⟩
abbrev S112x128 : Shape := ⟨2, ![112, 128]⟩

abbrev nBuf : Space → Nat
  | .hbm => 110
  | .vmem => 7
  | .smem => 0
  | _ => 0

abbrev bufTy : (tb : Table) → Fin (tcTables nBuf tb) → BufTy
  | .hbm, ⟨0, _⟩ => ⟨S1024, .f32⟩
  | .hbm, ⟨1, _⟩ => ⟨S31x64, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S64, .f32⟩
  | .hbm, ⟨6, _⟩ => ⟨S64, .f32⟩
  | .hbm, ⟨7, _⟩ => ⟨S1024, .f32⟩
  | .hbm, ⟨8, _⟩ => ⟨S3x704, .f32⟩
  | .hbm, ⟨9, _⟩ => ⟨S5632, .f32⟩
  | .hbm, ⟨10, _⟩ => ⟨S1024, .f32⟩
  | .hbm, ⟨11, _⟩ => ⟨S31x64, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S64, .f32⟩
  | .hbm, ⟨16, _⟩ => ⟨S64, .f32⟩
  | .hbm, ⟨17, _⟩ => ⟨S1024, .f32⟩
  | .hbm, ⟨18, _⟩ => ⟨S3x704, .f32⟩
  | .hbm, ⟨19, _⟩ => ⟨S5632, .f32⟩
  | .hbm, ⟨20, _⟩ => ⟨S1024, .f32⟩
  | .hbm, ⟨21, _⟩ => ⟨S31x64, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S64, .f32⟩
  | .hbm, ⟨26, _⟩ => ⟨S64, .f32⟩
  | .hbm, ⟨27, _⟩ => ⟨S1024, .f32⟩
  | .hbm, ⟨28, _⟩ => ⟨S3x704, .f32⟩
  | .hbm, ⟨29, _⟩ => ⟨S5632, .f32⟩
  | .hbm, ⟨30, _⟩ => ⟨S1024, .f32⟩
  | .hbm, ⟨31, _⟩ => ⟨S31x64, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S64, .f32⟩
  | .hbm, ⟨36, _⟩ => ⟨S64, .f32⟩
  | .hbm, ⟨37, _⟩ => ⟨S1024, .f32⟩
  | .hbm, ⟨38, _⟩ => ⟨S3x704, .f32⟩
  | .hbm, ⟨39, _⟩ => ⟨S5632, .f32⟩
  | .hbm, ⟨40, _⟩ => ⟨S1984, .f32⟩
  | .hbm, ⟨41, _⟩ => ⟨S2112, .f32⟩
  | .hbm, ⟨42, _⟩ => ⟨S13440, .f32⟩
  | .hbm, ⟨43, _⟩ => ⟨S_, .i32⟩
  | .hbm, ⟨44, _⟩ => ⟨S_, .f32⟩
  | .hbm, ⟨45, _⟩ => ⟨S14336, .f32⟩
  | .hbm, ⟨46, _⟩ => ⟨S112x128, .f32⟩
  | .hbm, ⟨47, _⟩ => ⟨S1984, .f32⟩
  | .hbm, ⟨48, _⟩ => ⟨S2112, .f32⟩
  | .hbm, ⟨49, _⟩ => ⟨S13440, .f32⟩
  | .hbm, ⟨50, _⟩ => ⟨S_, .i32⟩
  | .hbm, ⟨51, _⟩ => ⟨S_, .f32⟩
  | .hbm, ⟨52, _⟩ => ⟨S14336, .f32⟩
  | .hbm, ⟨53, _⟩ => ⟨S112x128, .f32⟩
  | .hbm, ⟨54, _⟩ => ⟨S1984, .f32⟩
  | .hbm, ⟨55, _⟩ => ⟨S2112, .f32⟩
  | .hbm, ⟨56, _⟩ => ⟨S13440, .f32⟩
  | .hbm, ⟨57, _⟩ => ⟨S_, .i32⟩
  | .hbm, ⟨58, _⟩ => ⟨S_, .f32⟩
  | .hbm, ⟨59, _⟩ => ⟨S14336, .f32⟩
  | .hbm, ⟨60, _⟩ => ⟨S112x128, .f32⟩
  | .hbm, ⟨61, _⟩ => ⟨S1984, .f32⟩
  | .hbm, ⟨62, _⟩ => ⟨S2112, .f32⟩
  | .hbm, ⟨63, _⟩ => ⟨S13440, .f32⟩
  | .hbm, ⟨64, _⟩ => ⟨S_, .i32⟩
  | .hbm, ⟨65, _⟩ => ⟨S_, .f32⟩
  | .hbm, ⟨66, _⟩ => ⟨S14336, .f32⟩
  | .hbm, ⟨67, _⟩ => ⟨S112x128, .f32⟩
  | .hbm, ⟨68, _⟩ => ⟨S112x128, .f32⟩
  | .hbm, ⟨69, _⟩ => ⟨S112x128, .f32⟩
  | .hbm, ⟨70, _⟩ => ⟨S112x128, .f32⟩
  | .hbm, ⟨71, _⟩ => ⟨S14336, .f32⟩
  | .hbm, ⟨72, _⟩ => ⟨S1024, .f32⟩
  | .hbm, ⟨73, _⟩ => ⟨S1984, .f32⟩
  | .hbm, ⟨74, _⟩ => ⟨S31x64, .f32⟩
  | .hbm, ⟨75, _⟩ => ⟨S512, .f32⟩
  | .hbm, ⟨76, _⟩ => ⟨S512, .f32⟩
  | .hbm, ⟨77, _⟩ => ⟨S512, .f32⟩
  | .hbm, ⟨78, _⟩ => ⟨S64, .f32⟩
  | .hbm, ⟨79, _⟩ => ⟨S64, .f32⟩
  | .hbm, ⟨80, _⟩ => ⟨S1024, .f32⟩
  | .hbm, ⟨81, _⟩ => ⟨S2112, .f32⟩
  | .hbm, ⟨82, _⟩ => ⟨S3x704, .f32⟩
  | .hbm, ⟨83, _⟩ => ⟨S5632, .f32⟩
  | .hbm, ⟨84, _⟩ => ⟨S14336, .f32⟩
  | .hbm, ⟨85, _⟩ => ⟨S1024, .f32⟩
  | .hbm, ⟨86, _⟩ => ⟨S1984, .f32⟩
  | .hbm, ⟨87, _⟩ => ⟨S31x64, .f32⟩
  | .hbm, ⟨88, _⟩ => ⟨S512, .f32⟩
  | .hbm, ⟨89, _⟩ => ⟨S512, .f32⟩
  | .hbm, ⟨90, _⟩ => ⟨S512, .f32⟩
  | .hbm, ⟨91, _⟩ => ⟨S64, .f32⟩
  | .hbm, ⟨92, _⟩ => ⟨S64, .f32⟩
  | .hbm, ⟨93, _⟩ => ⟨S1024, .f32⟩
  | .hbm, ⟨94, _⟩ => ⟨S2112, .f32⟩
  | .hbm, ⟨95, _⟩ => ⟨S3x704, .f32⟩
  | .hbm, ⟨96, _⟩ => ⟨S5632, .f32⟩
  | .hbm, ⟨97, _⟩ => ⟨S14336, .f32⟩
  | .hbm, ⟨98, _⟩ => ⟨S1024, .f32⟩
  | .hbm, ⟨99, _⟩ => ⟨S1984, .f32⟩
  | .hbm, ⟨100, _⟩ => ⟨S31x64, .f32⟩
  | .hbm, ⟨101, _⟩ => ⟨S512, .f32⟩
  | .hbm, ⟨102, _⟩ => ⟨S512, .f32⟩
  | .hbm, ⟨103, _⟩ => ⟨S512, .f32⟩
  | .hbm, ⟨104, _⟩ => ⟨S64, .f32⟩
  | .hbm, ⟨105, _⟩ => ⟨S64, .f32⟩
  | .hbm, ⟨106, _⟩ => ⟨S1024, .f32⟩
  | .hbm, ⟨107, _⟩ => ⟨S2112, .f32⟩
  | .hbm, ⟨108, _⟩ => ⟨S3x704, .f32⟩
  | .hbm, ⟨109, _⟩ => ⟨S5632, .f32⟩
  | .local _ .vmem, ⟨0, _⟩ => ⟨S112x128, .f32⟩
  | .local _ .vmem, ⟨1, _⟩ => ⟨S112x128, .f32⟩
  | .local _ .vmem, ⟨2, _⟩ => ⟨S112x128, .f32⟩
  | .local _ .vmem, ⟨3, _⟩ => ⟨S112x128, .f32⟩
  | .local _ .vmem, ⟨4, _⟩ => ⟨S112x128, .f32⟩
  | .local _ .vmem, ⟨5, _⟩ => ⟨S112x128, .f32⟩
  | .local _ .vmem, ⟨6, _⟩ => ⟨S112x128, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_c : Ref sig .tc := ⟨.hbm, 43, rfl⟩
abbrev main_call0_v0 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_c_0 : Ref sig .tc := ⟨.hbm, 50, rfl⟩
abbrev main_call1_v0 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_c_1 : Ref sig .tc := ⟨.hbm, 57, rfl⟩
abbrev main_call2_v0 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_c_2 : Ref sig .tc := ⟨.hbm, 64, rfl⟩
abbrev main_call3_v0 : Ref sig .tc := ⟨.hbm, 65, rfl⟩
abbrev main_v18 : Ref sig .tc := ⟨.hbm, 66, rfl⟩
abbrev main_v19 : Ref sig .tc := ⟨.hbm, 67, rfl⟩
abbrev main_v20_0 : Ref sig .tc := ⟨.hbm, 68, rfl⟩
abbrev main_v20_1 : Ref sig .tc := ⟨.hbm, 69, rfl⟩
abbrev main_v20_2 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S112x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S112x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S112x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S112x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S112x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S1024 : Shape := ⟨1, ![1024]⟩
abbrev S31x64 : Shape := ⟨2, ![31, 64]⟩
abbrev S512 : Shape := ⟨1, ![512]⟩
abbrev S64 : Shape := ⟨1, ![64]⟩
abbrev S3x704 : Shape := ⟨2, ![3, 704]⟩
abbrev S5632 : Shape := ⟨1, ![5632]⟩
abbrev S_ : Shape := ⟨0, ![]⟩

abbrev nBuf : Space → Nat
  | .hbm => 370
  | .vmem => 0
  | .smem => 0
  | _ => 0

abbrev hbmTy0_0 (i : Nat) : BufTy := match i % 128 with
  | 0 => ⟨S1024, .f32⟩
  | 1 => ⟨S31x64, .f32⟩
  | 2 => ⟨S512, .f32⟩
  | 3 => ⟨S512, .f32⟩
  | 4 => ⟨S512, .f32⟩
  | 5 => ⟨S64, .f32⟩
  | 6 => ⟨S64, .f32⟩
  | 7 => ⟨S1024, .f32⟩
  | 8 => ⟨S3x704, .f32⟩
  | 9 => ⟨S5632, .f32⟩
  | 10 => ⟨S1024, .f32⟩
  | 11 => ⟨S31x64, .f32⟩
  | 12 => ⟨S512, .f32⟩
  | 13 => ⟨S512, .f32⟩
  | 14 => ⟨S512, .f32⟩
  | 15 => ⟨S64, .f32⟩
  | 16 => ⟨S64, .f32⟩
  | 17 => ⟨S1024, .f32⟩
  | 18 => ⟨S3x704, .f32⟩
  | 19 => ⟨S5632, .f32⟩
  | 20 => ⟨S1024, .f32⟩
  | 21 => ⟨S31x64, .f32⟩
  | 22 => ⟨S512, .f32⟩
  | 23 => ⟨S512, .f32⟩
  | 24 => ⟨S512, .f32⟩
  | 25 => ⟨S64, .f32⟩
  | 26 => ⟨S64, .f32⟩
  | 27 => ⟨S1024, .f32⟩
  | 28 => ⟨S3x704, .f32⟩
  | 29 => ⟨S5632, .f32⟩
  | 30 => ⟨S1024, .f32⟩
  | 31 => ⟨S31x64, .f32⟩
  | 32 => ⟨S512, .f32⟩
  | 33 => ⟨S512, .f32⟩
  | 34 => ⟨S512, .f32⟩
  | 35 => ⟨S64, .f32⟩
  | 36 => ⟨S64, .f32⟩
  | 37 => ⟨S1024, .f32⟩
  | 38 => ⟨S3x704, .f32⟩
  | 39 => ⟨S5632, .f32⟩
  | 40 => ⟨S_, .f32⟩
  | 41 => ⟨S1024, .f32⟩
  | 42 => ⟨S1024, .f32⟩
  | 43 => ⟨S_, .f32⟩
  | 44 => ⟨S1024, .f32⟩
  | 45 => ⟨S1024, .f32⟩
  | 46 => ⟨S1024, .f32⟩
  | 47 => ⟨S_, .f32⟩
  | 48 => ⟨S1024, .f32⟩
  | 49 => ⟨S1024, .f32⟩
  | 50 => ⟨S1024, .f32⟩
  | 51 => ⟨S_, .f32⟩
  | 52 => ⟨S1024, .f32⟩
  | 53 => ⟨S1024, .f32⟩
  | 54 => ⟨S1024, .f32⟩
  | 55 => ⟨S_, .f32⟩
  | 56 => ⟨S1024, .f32⟩
  | 57 => ⟨S1024, .f32⟩
  | 58 => ⟨S_, .f32⟩
  | 59 => ⟨S1024, .f32⟩
  | 60 => ⟨S1024, .f32⟩
  | 61 => ⟨S1024, .f32⟩
  | 62 => ⟨S_, .f32⟩
  | 63 => ⟨S1024, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024, .f32⟩
  | 70 => ⟨S_, .f32⟩
  | 71 => ⟨S1024, .f32⟩
  | 72 => ⟨S1024, .f32⟩
  | 73 => ⟨S_, .f32⟩
  | 74 => ⟨S31x64, .f32⟩
  | 75 => ⟨S31x64, .f32⟩
  | 76 => ⟨S_, .f32⟩
  | 77 => ⟨S31x64, .f32⟩
  | 78 => ⟨S31x64, .f32⟩
  | 79 => ⟨S31x64, .f32⟩
  | 80 => ⟨S_, .f32⟩
  | 81 => ⟨S31x64, .f32⟩
  | 82 => ⟨S31x64, .f32⟩
  | 83 => ⟨S31x64, .f32⟩
  | 84 => ⟨S_, .f32⟩
  | 85 => ⟨S31x64, .f32⟩
  | 86 => ⟨S31x64, .f32⟩
  | 87 => ⟨S31x64, .f32⟩
  | 88 => ⟨S_, .f32⟩
  | 89 => ⟨S31x64, .f32⟩
  | 90 => ⟨S31x64, .f32⟩
  | 91 => ⟨S_, .f32⟩
  | 92 => ⟨S31x64, .f32⟩
  | 93 => ⟨S31x64, .f32⟩
  | 94 => ⟨S31x64, .f32⟩
  | 95 => ⟨S_, .f32⟩
  | 96 => ⟨S31x64, .f32⟩
  | 97 => ⟨S31x64, .f32⟩
  | 98 => ⟨S31x64, .f32⟩
  | 99 => ⟨S_, .f32⟩
  | 100 => ⟨S31x64, .f32⟩
  | 101 => ⟨S31x64, .f32⟩
  | 102 => ⟨S31x64, .f32⟩
  | 103 => ⟨S_, .f32⟩
  | 104 => ⟨S31x64, .f32⟩
  | 105 => ⟨S31x64, .f32⟩
  | 106 => ⟨S_, .f32⟩
  | 107 => ⟨S512, .f32⟩
  | 108 => ⟨S512, .f32⟩
  | 109 => ⟨S_, .f32⟩
  | 110 => ⟨S512, .f32⟩
  | 111 => ⟨S512, .f32⟩
  | 112 => ⟨S512, .f32⟩
  | 113 => ⟨S_, .f32⟩
  | 114 => ⟨S512, .f32⟩
  | 115 => ⟨S512, .f32⟩
  | 116 => ⟨S512, .f32⟩
  | 117 => ⟨S_, .f32⟩
  | 118 => ⟨S512, .f32⟩
  | 119 => ⟨S512, .f32⟩
  | 120 => ⟨S512, .f32⟩
  | 121 => ⟨S_, .f32⟩
  | 122 => ⟨S512, .f32⟩
  | 123 => ⟨S512, .f32⟩
  | 124 => ⟨S_, .f32⟩
  | 125 => ⟨S512, .f32⟩
  | 126 => ⟨S512, .f32⟩
  | 127 => ⟨S512, .f32⟩
  | _ => ⟨S1024, .f32⟩

abbrev hbmTy0_1 (i : Nat) : BufTy := match i % 128 with
  | 0 => ⟨S_, .f32⟩
  | 1 => ⟨S512, .f32⟩
  | 2 => ⟨S512, .f32⟩
  | 3 => ⟨S512, .f32⟩
  | 4 => ⟨S_, .f32⟩
  | 5 => ⟨S512, .f32⟩
  | 6 => ⟨S512, .f32⟩
  | 7 => ⟨S512, .f32⟩
  | 8 => ⟨S_, .f32⟩
  | 9 => ⟨S512, .f32⟩
  | 10 => ⟨S512, .f32⟩
  | 11 => ⟨S_, .f32⟩
  | 12 => ⟨S512, .f32⟩
  | 13 => ⟨S512, .f32⟩
  | 14 => ⟨S_, .f32⟩
  | 15 => ⟨S512, .f32⟩
  | 16 => ⟨S512, .f32⟩
  | 17 => ⟨S512, .f32⟩
  | 18 => ⟨S_, .f32⟩
  | 19 => ⟨S512, .f32⟩
  | 20 => ⟨S512, .f32⟩
  | 21 => ⟨S512, .f32⟩
  | 22 => ⟨S_, .f32⟩
  | 23 => ⟨S512, .f32⟩
  | 24 => ⟨S512, .f32⟩
  | 25 => ⟨S512, .f32⟩
  | 26 => ⟨S_, .f32⟩
  | 27 => ⟨S512, .f32⟩
  | 28 => ⟨S512, .f32⟩
  | 29 => ⟨S_, .f32⟩
  | 30 => ⟨S512, .f32⟩
  | 31 => ⟨S512, .f32⟩
  | 32 => ⟨S512, .f32⟩
  | 33 => ⟨S_, .f32⟩
  | 34 => ⟨S512, .f32⟩
  | 35 => ⟨S512, .f32⟩
  | 36 => ⟨S512, .f32⟩
  | 37 => ⟨S_, .f32⟩
  | 38 => ⟨S512, .f32⟩
  | 39 => ⟨S512, .f32⟩
  | 40 => ⟨S512, .f32⟩
  | 41 => ⟨S_, .f32⟩
  | 42 => ⟨S512, .f32⟩
  | 43 => ⟨S512, .f32⟩
  | 44 => ⟨S_, .f32⟩
  | 45 => ⟨S512, .f32⟩
  | 46 => ⟨S512, .f32⟩
  | 47 => ⟨S_, .f32⟩
  | 48 => ⟨S512, .f32⟩
  | 49 => ⟨S512, .f32⟩
  | 50 => ⟨S512, .f32⟩
  | 51 => ⟨S_, .f32⟩
  | 52 => ⟨S512, .f32⟩
  | 53 => ⟨S512, .f32⟩
  | 54 => ⟨S512, .f32⟩
  | 55 => ⟨S_, .f32⟩
  | 56 => ⟨S512, .f32⟩
  | 57 => ⟨S512, .f32⟩
  | 58 => ⟨S512, .f32⟩
  | 59 => ⟨S_, .f32⟩
  | 60 => ⟨S512, .f32⟩
  | 61 => ⟨S512, .f32⟩
  | 62 => ⟨S_, .f32⟩
  | 63 => ⟨S512, .f32⟩
  | 64 => ⟨S512, .f32⟩
  | 65 => ⟨S512, .f32⟩
  | 66 => ⟨S_, .f32⟩
  | 67 => ⟨S512, .f32⟩
  | 68 => ⟨S512, .f32⟩
  | 69 => ⟨S512, .f32⟩
  | 70 => ⟨S_, .f32⟩
  | 71 => ⟨S512, .f32⟩
  | 72 => ⟨S512, .f32⟩
  | 73 => ⟨S512, .f32⟩
  | 74 => ⟨S_, .f32⟩
  | 75 => ⟨S512, .f32⟩
  | 76 => ⟨S512, .f32⟩
  | 77 => ⟨S_, .f32⟩
  | 78 => ⟨S64, .f32⟩
  | 79 => ⟨S64, .f32⟩
  | 80 => ⟨S_, .f32⟩
  | 81 => ⟨S64, .f32⟩
  | 82 => ⟨S64, .f32⟩
  | 83 => ⟨S64, .f32⟩
  | 84 => ⟨S_, .f32⟩
  | 85 => ⟨S64, .f32⟩
  | 86 => ⟨S64, .f32⟩
  | 87 => ⟨S64, .f32⟩
  | 88 => ⟨S_, .f32⟩
  | 89 => ⟨S64, .f32⟩
  | 90 => ⟨S64, .f32⟩
  | 91 => ⟨S64, .f32⟩
  | 92 => ⟨S_, .f32⟩
  | 93 => ⟨S64, .f32⟩
  | 94 => ⟨S64, .f32⟩
  | 95 => ⟨S_, .f32⟩
  | 96 => ⟨S64, .f32⟩
  | 97 => ⟨S64, .f32⟩
  | 98 => ⟨S64, .f32⟩
  | 99 => ⟨S_, .f32⟩
  | 100 => ⟨S64, .f32⟩
  | 101 => ⟨S64, .f32⟩
  | 102 => ⟨S64, .f32⟩
  | 103 => ⟨S_, .f32⟩
  | 104 => ⟨S64, .f32⟩
  | 105 => ⟨S64, .f32⟩
  | 106 => ⟨S64, .f32⟩
  | 107 => ⟨S_, .f32⟩
  | 108 => ⟨S64, .f32⟩
  | 109 => ⟨S64, .f32⟩
  | 110 => ⟨S_, .f32⟩
  | 111 => ⟨S64, .f32⟩
  | 112 => ⟨S64, .f32⟩
  | 113 => ⟨S_, .f32⟩
  | 114 => ⟨S64, .f32⟩
  | 115 => ⟨S64, .f32⟩
  | 116 => ⟨S64, .f32⟩
  | 117 => ⟨S_, .f32⟩
  | 118 => ⟨S64, .f32⟩
  | 119 => ⟨S64, .f32⟩
  | 120 => ⟨S64, .f32⟩
  | 121 => ⟨S_, .f32⟩
  | 122 => ⟨S64, .f32⟩
  | 123 => ⟨S64, .f32⟩
  | 124 => ⟨S64, .f32⟩
  | 125 => ⟨S_, .f32⟩
  | 126 => ⟨S64, .f32⟩
  | 127 => ⟨S64, .f32⟩
  | _ => ⟨S1024, .f32⟩

abbrev hbmTy0_2 (i : Nat) : BufTy := match i % 128 with
  | 0 => ⟨S_, .f32⟩
  | 1 => ⟨S64, .f32⟩
  | 2 => ⟨S64, .f32⟩
  | 3 => ⟨S64, .f32⟩
  | 4 => ⟨S_, .f32⟩
  | 5 => ⟨S64, .f32⟩
  | 6 => ⟨S64, .f32⟩
  | 7 => ⟨S64, .f32⟩
  | 8 => ⟨S_, .f32⟩
  | 9 => ⟨S64, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S1024, .f32⟩
  | 17 => ⟨S1024, .f32⟩
  | 18 => ⟨S_, .f32⟩
  | 19 => ⟨S1024, .f32⟩
  | 20 => ⟨S1024, .f32⟩
  | 21 => ⟨S1024, .f32⟩
  | 22 => ⟨S_, .f32⟩
  | 23 => ⟨S1024, .f32⟩
  | 24 => ⟨S1024, .f32⟩
  | 25 => ⟨S1024, .f32⟩
  | 26 => ⟨S_, .f32⟩
  | 27 => ⟨S1024, .f32⟩
  | 28 => ⟨S1024, .f32⟩
  | 29 => ⟨S1024, .f32⟩
  | 30 => ⟨S_, .f32⟩
  | 31 => ⟨S1024, .f32⟩
  | 32 => ⟨S1024, .f32⟩
  | 33 => ⟨S_, .f32⟩
  | 34 => ⟨S1024, .f32⟩
  | 35 => ⟨S1024, .f32⟩
  | 36 => ⟨S1024, .f32⟩
  | 37 => ⟨S_, .f32⟩
  | 38 => ⟨S1024, .f32⟩
  | 39 => ⟨S1024, .f32⟩
  | 40 => ⟨S1024, .f32⟩
  | 41 => ⟨S_, .f32⟩
  | 42 => ⟨S1024, .f32⟩
  | 43 => ⟨S1024, .f32⟩
  | 44 => ⟨S1024, .f32⟩
  | 45 => ⟨S_, .f32⟩
  | 46 => ⟨S1024, .f32⟩
  | 47 => ⟨S1024, .f32⟩
  | 48 => ⟨S_, .f32⟩
  | 49 => ⟨S3x704, .f32⟩
  | 50 => ⟨S3x704, .f32⟩
  | 51 => ⟨S_, .f32⟩
  | 52 => ⟨S3x704, .f32⟩
  | 53 => ⟨S3x704, .f32⟩
  | 54 => ⟨S3x704, .f32⟩
  | 55 => ⟨S_, .f32⟩
  | 56 => ⟨S3x704, .f32⟩
  | 57 => ⟨S3x704, .f32⟩
  | 58 => ⟨S3x704, .f32⟩
  | 59 => ⟨S_, .f32⟩
  | 60 => ⟨S3x704, .f32⟩
  | 61 => ⟨S3x704, .f32⟩
  | 62 => ⟨S3x704, .f32⟩
  | 63 => ⟨S_, .f32⟩
  | 64 => ⟨S3x704, .f32⟩
  | 65 => ⟨S3x704, .f32⟩
  | 66 => ⟨S_, .f32⟩
  | 67 => ⟨S3x704, .f32⟩
  | 68 => ⟨S3x704, .f32⟩
  | 69 => ⟨S3x704, .f32⟩
  | 70 => ⟨S_, .f32⟩
  | 71 => ⟨S3x704, .f32⟩
  | 72 => ⟨S3x704, .f32⟩
  | 73 => ⟨S3x704, .f32⟩
  | 74 => ⟨S_, .f32⟩
  | 75 => ⟨S3x704, .f32⟩
  | 76 => ⟨S3x704, .f32⟩
  | 77 => ⟨S3x704, .f32⟩
  | 78 => ⟨S_, .f32⟩
  | 79 => ⟨S3x704, .f32⟩
  | 80 => ⟨S3x704, .f32⟩
  | 81 => ⟨S_, .f32⟩
  | 82 => ⟨S5632, .f32⟩
  | 83 => ⟨S5632, .f32⟩
  | 84 => ⟨S_, .f32⟩
  | 85 => ⟨S5632, .f32⟩
  | 86 => ⟨S5632, .f32⟩
  | 87 => ⟨S5632, .f32⟩
  | 88 => ⟨S_, .f32⟩
  | 89 => ⟨S5632, .f32⟩
  | 90 => ⟨S5632, .f32⟩
  | 91 => ⟨S5632, .f32⟩
  | 92 => ⟨S_, .f32⟩
  | 93 => ⟨S5632, .f32⟩
  | 94 => ⟨S5632, .f32⟩
  | 95 => ⟨S5632, .f32⟩
  | 96 => ⟨S_, .f32⟩
  | 97 => ⟨S5632, .f32⟩
  | 98 => ⟨S5632, .f32⟩
  | 99 => ⟨S_, .f32⟩
  | 100 => ⟨S5632, .f32⟩
  | 101 => ⟨S5632, .f32⟩
  | 102 => ⟨S5632, .f32⟩
  | 103 => ⟨S_, .f32⟩
  | 104 => ⟨S5632, .f32⟩
  | 105 => ⟨S5632, .f32⟩
  | 106 => ⟨S5632, .f32⟩
  | 107 => ⟨S_, .f32⟩
  | 108 => ⟨S5632, .f32⟩
  | 109 => ⟨S5632, .f32⟩
  | 110 => ⟨S5632, .f32⟩
  | 111 => ⟨S_, .f32⟩
  | 112 => ⟨S5632, .f32⟩
  | 113 => ⟨S5632, .f32⟩
  | _ => ⟨S1024, .f32⟩

abbrev hbmTy (i : Nat) : BufTy := match i / 128 with
  | 0 => hbmTy0_0 i
  | 1 => hbmTy0_1 i
  | 2 => hbmTy0_2 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩

abbrev nD : Nat := 1
abbrev τ : Topo := Topo.v7x

variable {F : FTy → Type} [FloatOps F]
-- ==== SumIn.lean ====
abbrev S8x320x1024 : Shape := ⟨3, ![8, 320, 1024]⟩
abbrev S320x1024 : Shape := ⟨2, ![320, 1024]⟩
abbrev S8x160x1024 : Shape := ⟨3, ![8, 160, 1024]⟩
abbrev S160x1024 : Shape := ⟨2, ![160, 1024]⟩
abbrev S1x160x1024 : Shape := ⟨3, ![1, 160, 1024]⟩
abbrev S1024x320 : Shape := ⟨2, ![1024, 320]⟩

abbrev nBuf : Space → Nat
  | .hbm => 3
  | .vmem => 4
  | .smem => 0
  | _ => 0

abbrev bufTy : (tb : Table) → Fin (tcTables nBuf tb) → BufTy
  | .hbm, ⟨0, _⟩ => ⟨S8x320x1024, .bf16⟩
  | .hbm, ⟨1, _⟩ => ⟨S320x1024, .f32⟩
  | .hbm, ⟨2, _⟩ => ⟨S1024x320, .f32⟩
  | .local _ .vmem, ⟨0, _⟩ => ⟨S8x160x1024, .bf16⟩
  | .local _ .vmem, ⟨1, _⟩ => ⟨S8x160x1024, .bf16⟩
  | .local _ .vmem, ⟨2, _⟩ => ⟨S160x1024, .f32⟩
  | .local _ .vmem, ⟨3, _⟩ => ⟨S160x1024, .f32⟩
  | _, _ => ⟨S8x320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInIdeal.lean ====
abbrev S8x320x1024 : Shape := ⟨3, ![8, 320, 1024]⟩
abbrev S320x1024 : Shape := ⟨2, ![320, 1024]⟩
abbrev S8x160x1024 : Shape := ⟨3, ![8, 160, 1024]⟩
abbrev S160x1024 : Shape := ⟨2, ![160, 1024]⟩
abbrev S1x160x1024 : Shape := ⟨3, ![1, 160, 1024]⟩
abbrev S1024x320 : Shape := ⟨2, ![1024, 320]⟩

abbrev nBuf : Space → Nat
  | .hbm => 3
  | .vmem => 4
  | .smem => 0
  | _ => 0

abbrev bufTy : (tb : Table) → Fin (tcTables nBuf tb) → BufTy
  | .hbm, ⟨0, _⟩ => ⟨S8x320x1024, .bf16⟩
  | .hbm, ⟨1, _⟩ => ⟨S320x1024, .f32⟩
  | .hbm, ⟨2, _⟩ => ⟨S1024x320, .f32⟩
  | .local _ .vmem, ⟨0, _⟩ => ⟨S8x160x1024, .bf16⟩
  | .local _ .vmem, ⟨1, _⟩ => ⟨S8x160x1024, .bf16⟩
  | .local _ .vmem, ⟨2, _⟩ => ⟨S160x1024, .f32⟩
  | .local _ .vmem, ⟨3, _⟩ => ⟨S160x1024, .f32⟩
  | _, _ => ⟨S8x320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInRefIdeal.lean ====
abbrev S8x320x1024 : Shape := ⟨3, ![8, 320, 1024]⟩
abbrev S_ : Shape := ⟨0, ![]⟩
abbrev S320x1024 : Shape := ⟨2, ![320, 1024]⟩
abbrev S1024x320 : Shape := ⟨2, ![1024, 320]⟩

abbrev nBuf : Space → Nat
  | .hbm => 5
  | .vmem => 0
  | .smem => 0
  | _ => 0

abbrev bufTy : (tb : Table) → Fin (tcTables nBuf tb) → BufTy
  | .hbm, ⟨0, _⟩ => ⟨S8x320x1024, .bf16⟩
  | .hbm, ⟨1, _⟩ => ⟨S8x320x1024, .f32⟩
  | .hbm, ⟨2, _⟩ => ⟨S_, .f32⟩
  | .hbm, ⟨3, _⟩ => ⟨S320x1024, .f32⟩
  | .hbm, ⟨4, _⟩ => ⟨S1024x320, .f32⟩
  | _, _ => ⟨S8x320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutRefIdeal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .f32⟩
  | .hbm, ⟨2, _⟩ => ⟨S_, .f32⟩
  | .hbm, ⟨3, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumUp.lean ====
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩
abbrev S1024x704 : Shape := ⟨2, ![1024, 704]⟩

abbrev nBuf : Space → Nat
  | .hbm => 3
  | .vmem => 4
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S1024x704, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpIdeal.lean ====
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩
abbrev S1024x704 : Shape := ⟨2, ![1024, 704]⟩

abbrev nBuf : Space → Nat
  | .hbm => 3
  | .vmem => 4
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S1024x704, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpRefIdeal.lean ====
abbrev S8x704x1024 : Shape := ⟨3, ![8, 704, 1024]⟩
abbrev S_ : Shape := ⟨0, ![]⟩
abbrev S704x1024 : Shape := ⟨2, ![704, 1024]⟩
abbrev S1024x704 : Shape := ⟨2, ![1024, 704]⟩

abbrev nBuf : Space → Nat
  | .hbm => 5
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .f32⟩
  | .hbm, ⟨2, _⟩ => ⟨S_, .f32⟩
  | .hbm, ⟨3, _⟩ => ⟨S704x1024, .f32⟩
  | .hbm, ⟨4, _⟩ => ⟨S1024x704, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumDown.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownRefIdeal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .f32⟩
  | .hbm, ⟨2, _⟩ => ⟨S_, .f32⟩
  | .hbm, ⟨3, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S_ : Shape := ⟨0, ![]⟩
abbrev S8x1024 : Shape := ⟨2, ![8, 1024]⟩
abbrev S8x512 : Shape := ⟨2, ![8, 512]⟩
abbrev S8x128 : Shape := ⟨2, ![8, 128]⟩
abbrev S8x5632 : Shape := ⟨2, ![8, 5632]⟩
abbrev S8x31x512 : Shape := ⟨3, ![8, 31, 512]⟩
abbrev S8x3x5632 : Shape := ⟨3, ![8, 3, 5632]⟩
abbrev S8x1 : Shape := ⟨2, ![8, 1]⟩
abbrev S8x15872 : Shape := ⟨2, ![8, 15872]⟩
abbrev S8x16896 : Shape := ⟨2, ![8, 16896]⟩
abbrev S8x42241 : Shape := ⟨2, ![8, 42241]⟩
abbrev S8x49152 : Shape := ⟨2, ![8, 49152]⟩
abbrev S8x48x1024 : Shape := ⟨3, ![8, 48, 1024]⟩
abbrev S48x1024 : Shape := ⟨2, ![48, 1024]⟩
abbrev S1x48x1024 : Shape := ⟨3, ![1, 48, 1024]⟩
abbrev S49152 : Shape := ⟨1, ![49152]⟩
abbrev S1024 : Shape := ⟨1, ![1024]⟩
abbrev S512 : Shape := ⟨1, ![512]⟩
abbrev S128 : Shape := ⟨1, ![128]⟩
abbrev S5632 : Shape := ⟨1, ![5632]⟩
abbrev S15872 : Shape := ⟨1, ![15872]⟩
abbrev S31x512 : Shape := ⟨2, ![31, 512]⟩
abbrev S16896 : Shape := ⟨1, ![16896]⟩
abbrev S3x5632 : Shape := ⟨2, ![3, 5632]⟩
abbrev S1 : Shape := ⟨1, ![1]⟩
abbrev S31x64 : Shape := ⟨2, ![31, 64]⟩
abbrev S64 : Shape := ⟨1, ![64]⟩
abbrev S3x704 : Shape := ⟨2, ![3, 704]⟩

abbrev nBuf : Space → Nat
  | .hbm => 55
  | .vmem => 2
  | .smem => 0
  | _ => 0

abbrev bufTy : (tb : Table) → Fin (tcTables nBuf tb) → BufTy
  | .hbm, ⟨0, _⟩ => ⟨S_, .i32⟩
  | .hbm, ⟨1, _⟩ => ⟨S8x1024, .f32⟩
  | .hbm, ⟨2, _⟩ => ⟨S8x1024, .f32⟩
  | .hbm, ⟨3, _⟩ => ⟨S8x512, .f32⟩
  | .hbm, ⟨4, _⟩ => ⟨S8x512, .f32⟩
  | .hbm, ⟨5, _⟩ => ⟨S8x512, .f32⟩
  | .hbm, ⟨6, _⟩ => ⟨S8x128, .f32⟩
  | .hbm, ⟨7, _⟩ => ⟨S8x128, .f32⟩
  | .hbm, ⟨8, _⟩ => ⟨S8x5632, .f32⟩
  | .hbm, ⟨9, _⟩ => ⟨S8x31x512, .f32⟩
  | .hbm, ⟨10, _⟩ => ⟨S8x3x5632, .f32⟩
  | .hbm, ⟨11, _⟩ => ⟨S8x1, .f32⟩
  | .hbm, ⟨12, _⟩ => ⟨S8x15872, .f32⟩
  | .hbm, ⟨13, _⟩ => ⟨S8x16896, .f32⟩
  | .hbm, ⟨14, _⟩ => ⟨S8x42241, .f32⟩
  | .hbm, ⟨15, _⟩ => ⟨S_, .i32⟩
  | .hbm, ⟨16, _⟩ => ⟨S_, .f32⟩
  | .hbm, ⟨17, _⟩ => ⟨S8x49152, .f32⟩
  | .hbm, ⟨18, _⟩ => ⟨S8x48x1024, .f32⟩
  | .hbm, ⟨19, _⟩ => ⟨S48x1024, .f32⟩
  | .hbm, ⟨20, _⟩ => ⟨S49152, .f32⟩
  | .hbm, ⟨21, _⟩ => ⟨S1024, .f32⟩
  | .hbm, ⟨22, _⟩ => ⟨S1024, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S128, .f32⟩
  | .hbm, ⟨27, _⟩ => ⟨S128, .f32⟩
  | .hbm, ⟨28, _⟩ => ⟨S5632, .f32⟩
  | .hbm, ⟨29, _⟩ => ⟨S15872, .f32⟩
  | .hbm, ⟨30, _⟩ => ⟨S31x512, .f32⟩
  | .hbm, ⟨31, _⟩ => ⟨S16896, .f32⟩
  | .hbm, ⟨32, _⟩ => ⟨S3x5632, .f32⟩
  | .hbm, ⟨33, _⟩ => ⟨S1, .f32⟩
  | .hbm, ⟨34, _⟩ => ⟨S_, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S31x64, .f32⟩
  | .hbm, ⟨44, _⟩ => ⟨S64, .f32⟩
  | .hbm, ⟨45, _⟩ => ⟨S64, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S3x704, .f32⟩
  | .local _ .vmem, ⟨0, _⟩ => ⟨S8x48x1024, .f32⟩
  | .local _ .vmem, ⟨1, _⟩ => ⟨S48x1024, .f32⟩
  | _, _ => ⟨S_, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_0 : Ref sig .tc := ⟨.hbm, 35, rfl⟩
abbrev main_v21 : Ref sig .tc := ⟨.hbm, 36, rfl⟩
abbrev main_c_1 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S_ : Shape := ⟨0, ![]⟩
abbrev S8x1024 : Shape := ⟨2, ![8, 1024]⟩
abbrev S8x512 : Shape := ⟨2, ![8, 512]⟩
abbrev S8x128 : Shape := ⟨2, ![8, 128]⟩
abbrev S8x5632 : Shape := ⟨2, ![8, 5632]⟩
abbrev S8x31x512 : Shape := ⟨3, ![8, 31, 512]⟩
abbrev S8x3x5632 : Shape := ⟨3, ![8, 3, 5632]⟩
abbrev S8x1 : Shape := ⟨2, ![8, 1]⟩
abbrev S1024 : Shape := ⟨1, ![1024]⟩
abbrev S512 : Shape := ⟨1, ![512]⟩
abbrev S128 : Shape := ⟨1, ![128]⟩
abbrev S5632 : Shape := ⟨1, ![5632]⟩
abbrev S31x512 : Shape := ⟨2, ![31, 512]⟩
abbrev S3x5632 : Shape := ⟨2, ![3, 5632]⟩
abbrev S1 : Shape := ⟨1, ![1]⟩
abbrev S31x64 : Shape := ⟨2, ![31, 64]⟩
abbrev S64 : Shape := ⟨1, ![64]⟩
abbrev S3x704 : Shape := ⟨2, ![3, 704]⟩

abbrev nBuf : Space → Nat
  | .hbm => 55
  | .vmem => 0
  | .smem => 0
  | _ => 0

abbrev bufTy : (tb : Table) → Fin (tcTables nBuf tb) → BufTy
  | .hbm, ⟨0, _⟩ => ⟨S_, .i32⟩
  | .hbm, ⟨1, _⟩ => ⟨S8x1024, .f32⟩
  | .hbm, ⟨2, _⟩ => ⟨S8x1024, .f32⟩
  | .hbm, ⟨3, _⟩ => ⟨S8x512, .f32⟩
  | .hbm, ⟨4, _⟩ => ⟨S8x512, .f32⟩
  | .hbm, ⟨5, _⟩ => ⟨S8x512, .f32⟩
  | .hbm, ⟨6, _⟩ => ⟨S8x128, .f32⟩
  | .hbm, ⟨7, _⟩ => ⟨S8x128, .f32⟩
  | .hbm, ⟨8, _⟩ => ⟨S8x5632, .f32⟩
  | .hbm, ⟨9, _⟩ => ⟨S8x31x512, .f32⟩
  | .hbm, ⟨10, _⟩ => ⟨S8x3x5632, .f32⟩
  | .hbm, ⟨11, _⟩ => ⟨S8x1, .f32⟩
  | .hbm, ⟨12, _⟩ => ⟨S_, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S_, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S_, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S_, .f32⟩
  | .hbm, ⟨27, _⟩ => ⟨S5632, .f32⟩
  | .hbm, ⟨28, _⟩ => ⟨S_, .f32⟩
  | .hbm, ⟨29, _⟩ => ⟨S31x512, .f32⟩
  | .hbm, ⟨30, _⟩ => ⟨S_, .f32⟩
  | .hbm, ⟨31, _⟩ => ⟨S3x5632, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S31x64, .f32⟩
  | .hbm, ⟨44, _⟩ => ⟨S64, .f32⟩
  | .hbm, ⟨45, _⟩ => ⟨S64, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S3x704, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_cst_2 : Ref sig .tc := ⟨.hbm, 18, rfl⟩
abbrev main_v3 : Ref sig .tc := ⟨.hbm, 19, rfl⟩
abbrev main_cst_3 : Ref sig .tc := ⟨.hbm, 20, rfl⟩
abbrev main_v4 : Ref sig .tc := ⟨.hbm, 21, rfl⟩
abbrev main_cst_4 : Ref sig .tc := ⟨.hbm, 22, rfl⟩
abbrev main_v5 : Ref sig .tc := ⟨.hbm, 23, rfl⟩
abbrev main_cst_5 : Ref sig .tc := ⟨.hbm, 24, rfl⟩
abbrev main_v6 : Ref sig .tc := ⟨.hbm, 25, rfl⟩
abbrev main_cst_6 : Ref sig .tc := ⟨.hbm, 26, rfl⟩
abbrev main_v7 : Ref sig .tc := ⟨.hbm, 27, rfl⟩
abbrev main_cst_7 : Ref sig .tc := ⟨.hbm, 28, rfl⟩
abbrev main_v8 : Ref sig .tc := ⟨.hbm, 29, rfl⟩
abbrev main_cst_8 : Ref sig .tc := ⟨.hbm, 30, rfl⟩
abbrev main_v9 : Ref sig .tc := ⟨.hbm, 31, rfl⟩
abbrev main_cst_9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_c_10 : Ref sig .tc := ⟨.hbm, 37, rfl⟩
abbrev main_v13 : Ref sig .tc := ⟨.hbm, 38, rfl⟩
abbrev main_c_11 : Ref sig .tc := ⟨.hbm, 39, rfl⟩
abbrev main_v14 : Ref sig .tc := ⟨.hbm, 40, rfl⟩
abbrev main_v15 : Ref sig .tc := ⟨.hbm, 41, rfl⟩
abbrev main_c_12 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_13 : Ref sig .tc := ⟨.hbm, 46, rfl⟩
abbrev main_v19 : Ref sig .tc := ⟨.hbm, 47, rfl⟩
abbrev main_c_14 : Ref sig .tc := ⟨.hbm, 48, rfl⟩
abbrev main_v20 : Ref sig .tc := ⟨.hbm, 49, rfl⟩
abbrev main_c_15 : Ref sig .tc := ⟨.hbm, 50, rfl⟩
abbrev main_v21 : Ref sig .tc := ⟨.hbm, 51, rfl⟩
abbrev main_v22 : Ref sig .tc := ⟨.hbm, 52, rfl⟩
abbrev main_c_16 : Ref sig .tc := ⟨.hbm, 53, rfl⟩
abbrev main_v23 : Ref sig .tc := ⟨.hbm, 54, rfl⟩

abbrev nD : Nat := 1
abbrev τ : Topo := Topo.v7x

variable {F : FTy → Type} [FloatOps F]
-- ==== NormFwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ProjFwd.lean ====
abbrev S8192x1024 : Shape := ⟨2, ![8192, 1024]⟩
abbrev S1024x2560 : Shape := ⟨2, ![1024, 2560]⟩
abbrev S64 : Shape := ⟨1, ![64]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S_ : Shape := ⟨0, ![]⟩
abbrev S512x1 : Shape := ⟨2, ![512, 1]⟩
abbrev S512x512 : Shape := ⟨2, ![512, 512]⟩
abbrev S2560x1024 : Shape := ⟨2, ![2560, 1024]⟩
abbrev S8192x1536 : Shape := ⟨2, ![8192, 1536]⟩
abbrev S1024x1024 : Shape := ⟨2, ![1024, 1024]⟩
abbrev S1024x1536 : Shape := ⟨2, ![1024, 1536]⟩
abbrev S1024x512 : Shape := ⟨2, ![1024, 512]⟩

abbrev nBuf : Space → Nat
  | .hbm => 42
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .f32⟩
  | .hbm, ⟨2, _⟩ => ⟨S64, .f32⟩
  | .hbm, ⟨3, _⟩ => ⟨S64, .f32⟩
  | .hbm, ⟨4, _⟩ => ⟨S1x64, .f32⟩
  | .hbm, ⟨5, _⟩ => ⟨S8x64, .f32⟩
  | .hbm, ⟨6, _⟩ => ⟨S512, .f32⟩
  | .hbm, ⟨7, _⟩ => ⟨S1x512, .f32⟩
  | .hbm, ⟨8, _⟩ => ⟨S1x64, .f32⟩
  | .hbm, ⟨9, _⟩ => ⟨S8x64, .f32⟩
  | .hbm, ⟨10, _⟩ => ⟨S512, .f32⟩
  | .hbm, ⟨11, _⟩ => ⟨S1x512, .f32⟩
  | .hbm, ⟨12, _⟩ => ⟨S512, .i32⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S1x512, .i32⟩
  | .hbm, ⟨33, _⟩ => ⟨S512x512, .i32⟩
  | .hbm, ⟨34, _⟩ => ⟨S512x512, .i32⟩
  | .hbm, ⟨35, _⟩ => ⟨S512x512, .i1⟩
  | .hbm, ⟨36, _⟩ => ⟨S512x512, .bf16⟩
  | .hbm, ⟨37, _⟩ => ⟨S2560x1024, .f32⟩
  | .hbm, ⟨38, _⟩ => ⟨S2560x1024, .bf16⟩
  | .hbm, ⟨39, _⟩ => ⟨S8192x1024, .f32⟩
  | .hbm, ⟨40, _⟩ => ⟨S8192x1024, .f32⟩
  | .hbm, ⟨41, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S2560x1024, .bf16⟩
  | .local _ .vmem, ⟨3, _⟩ => ⟨S1x512, .f32⟩
  | .local _ .vmem, ⟨4, _⟩ => ⟨S1x512, .f32⟩
  | .local _ .vmem, ⟨5, _⟩ => ⟨S512x512, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1536, .f32⟩
  | .local _ .vmem, ⟨11, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18_0 : Ref sig .tc := ⟨.hbm, 39, rfl⟩
abbrev main_v18_1 : Ref sig .tc := ⟨.hbm, 40, rfl⟩
abbrev main_v18_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjFwdRefIdeal.lean ====
abbrev S8192x1024 : Shape := ⟨2, ![8192, 1024]⟩
abbrev S1024x2560 : Shape := ⟨2, ![1024, 2560]⟩
abbrev S64 : Shape := ⟨1, ![64]⟩
abbrev S8192x2560 : Shape := ⟨2, ![8192, 2560]⟩
abbrev S8192x512 : Shape := ⟨2, ![8192, 512]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x1x64 : Shape := ⟨3, ![1, 1, 64]⟩
abbrev S8192x1536 : Shape := ⟨2, ![8192, 1536]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .f32⟩
  | .hbm, ⟨2, _⟩ => ⟨S64, .f32⟩
  | .hbm, ⟨3, _⟩ => ⟨S64, .f32⟩
  | .hbm, ⟨4, _⟩ => ⟨S8192x1024, .f32⟩
  | .hbm, ⟨5, _⟩ => ⟨S8192x2560, .f32⟩
  | .hbm, ⟨6, _⟩ => ⟨S8192x1024, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x1024, .f32⟩
  | .hbm, ⟨11, _⟩ => ⟨S8192x8x64, .f32⟩
  | .hbm, ⟨12, _⟩ => ⟨S8192x8x64, .f32⟩
  | .hbm, ⟨13, _⟩ => ⟨S_, .f32⟩
  | .hbm, ⟨14, _⟩ => ⟨S8192x8, .f32⟩
  | .hbm, ⟨15, _⟩ => ⟨S8192x8x1, .f32⟩
  | .hbm, ⟨16, _⟩ => ⟨S_, .f32⟩
  | .hbm, ⟨17, _⟩ => ⟨S8192x8x1, .f32⟩
  | .hbm, ⟨18, _⟩ => ⟨S8192x8x1, .f32⟩
  | .hbm, ⟨19, _⟩ => ⟨S_, .f32⟩
  | .hbm, ⟨20, _⟩ => ⟨S8192x8x1, .f32⟩
  | .hbm, ⟨21, _⟩ => ⟨S8192x8x1, .f32⟩
  | .hbm, ⟨22, _⟩ => ⟨S8192x8x1, .f32⟩
  | .hbm, ⟨23, _⟩ => ⟨S8192x8x64, .f32⟩
  | .hbm, ⟨24, _⟩ => ⟨S8192x8x64, .f32⟩
  | .hbm, ⟨25, _⟩ => ⟨S1x1x64, .f32⟩
  | .hbm, ⟨26, _⟩ => ⟨S8192x8x64, .f32⟩
  | .hbm, ⟨27, _⟩ => ⟨S8192x8x64, .f32⟩
  | .hbm, ⟨28, _⟩ => ⟨S_, .f32⟩
  | .hbm, ⟨29, _⟩ => ⟨S8192x8x64, .f32⟩
  | .hbm, ⟨30, _⟩ => ⟨S8192x8x64, .f32⟩
  | .hbm, ⟨31, _⟩ => ⟨S8192x8x64, .f32⟩
  | .hbm, ⟨32, _⟩ => ⟨S8192x8x64, .f32⟩
  | .hbm, ⟨33, _⟩ => ⟨S_, .f32⟩
  | .hbm, ⟨34, _⟩ => ⟨S8192x8, .f32⟩
  | .hbm, ⟨35, _⟩ => ⟨S8192x8x1, .f32⟩
  | .hbm, ⟨36, _⟩ => ⟨S_, .f32⟩
  | .hbm, ⟨37, _⟩ => ⟨S8192x8x1, .f32⟩
  | .hbm, ⟨38, _⟩ => ⟨S8192x8x1, .f32⟩
  | .hbm, ⟨39, _⟩ => ⟨S_, .f32⟩
  | .hbm, ⟨40, _⟩ => ⟨S8192x8x1, .f32⟩
  | .hbm, ⟨41, _⟩ => ⟨S8192x8x1, .f32⟩
  | .hbm, ⟨42, _⟩ => ⟨S8192x8x1, .f32⟩
  | .hbm, ⟨43, _⟩ => ⟨S8192x8x64, .f32⟩
  | .hbm, ⟨44, _⟩ => ⟨S8192x8x64, .f32⟩
  | .hbm, ⟨45, _⟩ => ⟨S1x1x64, .f32⟩
  | .hbm, ⟨46, _⟩ => ⟨S8192x8x64, .f32⟩
  | .hbm, ⟨47, _⟩ => ⟨S8192x8x64, .f32⟩
  | .hbm, ⟨48, _⟩ => ⟨S8192x512, .f32⟩
  | .hbm, ⟨49, _⟩ => ⟨S8192x512, .f32⟩
  | .hbm, ⟨50, _⟩ => ⟨S8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== UpFwdAct.lean ====
abbrev S8192x1024 : Shape := ⟨2, ![8192, 1024]⟩
abbrev S1024x5632 : Shape := ⟨2, ![1024, 5632]⟩
abbrev S3x5632 : Shape := ⟨2, ![3, 5632]⟩
abbrev S5632 : Shape := ⟨1, ![5632]⟩
abbrev S5632x1024 : Shape := ⟨2, ![5632, 1024]⟩
abbrev S3x2x2816 : Shape := ⟨3, ![3, 2, 2816]⟩
abbrev S2x2816 : Shape := ⟨2, ![2, 2816]⟩
abbrev S8192x2816 : Shape := ⟨2, ![8192, 2816]⟩
abbrev S512x1024 : Shape := ⟨2, ![512, 1024]⟩
abbrev S1408x1024 : Shape := ⟨2, ![1408, 1024]⟩
abbrev S3x2x1408 : Shape := ⟨3, ![3, 2, 1408]⟩
abbrev S2x1408 : Shape := ⟨2, ![2, 1408]⟩
abbrev S512x1408 : Shape := ⟨2, ![512, 1408]⟩
abbrev S2x520x1408 : Shape := ⟨3, ![2, 520, 1408]⟩
abbrev S256x1024 : Shape := ⟨2, ![256, 1024]⟩
abbrev S512x256 : Shape := ⟨2, ![512, 256]⟩
abbrev S1x128 : Shape := ⟨2, ![1, 128]⟩
abbrev S1x1x128 : Shape := ⟨3, ![1, 1, 128]⟩
abbrev S1x256x128 : Shape := ⟨3, ![1, 256, 128]⟩
abbrev S256x128 : Shape := ⟨2, ![256, 128]⟩
abbrev S128x1024 : Shape := ⟨2, ![128, 1024]⟩
abbrev S512x128 : Shape := ⟨2, ![512, 128]⟩
abbrev S1x8x1408 : Shape := ⟨3, ![1, 8, 1408]⟩
abbrev S8x1408 : Shape := ⟨2, ![8, 1408]⟩
abbrev S1x512x1408 : Shape := ⟨3, ![1, 512, 1408]⟩

abbrev nBuf : Space → Nat
  | .hbm => 11
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S5632x1024, .f32⟩
  | .hbm, ⟨5, _⟩ => ⟨S5632x1024, .bf16⟩
  | .hbm, ⟨6, _⟩ => ⟨S3x2x2816, .f32⟩
  | .hbm, ⟨7, _⟩ => ⟨S2x2816, .f32⟩
  | .hbm, ⟨8, _⟩ => ⟨S8192x2816, .f32⟩
  | .hbm, ⟨9, _⟩ => ⟨S8192x2816, .f32⟩
  | .hbm, ⟨10, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S3x2x1408, .f32⟩
  | .local _ .vmem, ⟨7, _⟩ => ⟨S3x2x1408, .f32⟩
  | .local _ .vmem, ⟨8, _⟩ => ⟨S2x1408, .f32⟩
  | .local _ .vmem, ⟨9, _⟩ => ⟨S2x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | .local _ .vmem, ⟨14, _⟩ => ⟨S512x1408, .bf16⟩
  | .local _ .vmem, ⟨15, _⟩ => ⟨S512x1408, .bf16⟩
  | .local _ .vmem, ⟨16, _⟩ => ⟨S2x520x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x2x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpFwdActRefIdeal.lean ====
abbrev S8192x1024 : Shape := ⟨2, ![8192, 1024]⟩
abbrev S1024x5632 : Shape := ⟨2, ![1024, 5632]⟩
abbrev S3x5632 : Shape := ⟨2, ![3, 5632]⟩
abbrev S5632 : Shape := ⟨1, ![5632]⟩
abbrev S8192x5632 : Shape := ⟨2, ![8192, 5632]⟩
abbrev S_ : Shape := ⟨0, ![]⟩
abbrev S8194x5632 : Shape := ⟨2, ![8194, 5632]⟩
abbrev S1x5632 : Shape := ⟨2, ![1, 5632]⟩
abbrev S8192x2816 : Shape := ⟨2, ![8192, 2816]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S8192x1024, .f32⟩
  | .hbm, ⟨5, _⟩ => ⟨S8192x5632, .f32⟩
  | .hbm, ⟨6, _⟩ => ⟨S_, .i32⟩
  | .hbm, ⟨7, _⟩ => ⟨S_, .f32⟩
  | .hbm, ⟨8, _⟩ => ⟨S8194x5632, .f32⟩
  | .hbm, ⟨9, _⟩ => ⟨S8192x5632, .f32⟩
  | .hbm, ⟨10, _⟩ => ⟨S1x5632, .f32⟩
  | .hbm, ⟨11, _⟩ => ⟨S5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== ConvFwd.lean ====
abbrev S8192x1024 : Shape := ⟨2, ![8192, 1024]⟩
abbrev S31x512 : Shape := ⟨2, ![31, 512]⟩
abbrev S512 : Shape := ⟨1, ![512]⟩
abbrev S_ : Shape := ⟨0, ![]⟩
abbrev S32x512 : Shape := ⟨2, ![32, 512]⟩
abbrev S1x512 : Shape := ⟨2, ![1, 512]⟩
abbrev S8192x512 : Shape := ⟨2, ![8192, 512]⟩
abbrev S256x1024 : Shape := ⟨2, ![256, 1024]⟩
abbrev S32x1024 : Shape := ⟨2, ![32, 1024]⟩
abbrev S256x512 : Shape := ⟨2, ![256, 512]⟩
abbrev S8x288x512 : Shape := ⟨3, ![8, 288, 512]⟩
abbrev S1x32x512 : Shape := ⟨3, ![1, 32, 512]⟩
abbrev S1x64x512 : Shape := ⟨3, ![1, 64, 512]⟩
abbrev S64x512 : Shape := ⟨2, ![64, 512]⟩
abbrev S1x24x512 : Shape := ⟨3, ![1, 24, 512]⟩
abbrev S24x512 : Shape := ⟨2, ![24, 512]⟩
abbrev S32 : Shape := ⟨1, ![32]⟩
abbrev S32x1 : Shape := ⟨2, ![32, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S_, .i32⟩
  | .hbm, ⟨6, _⟩ => ⟨S_, .f32⟩
  | .hbm, ⟨7, _⟩ => ⟨S32x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S8192x512, .f32⟩
  | .hbm, ⟨12, _⟩ => ⟨S8192x512, .bf16⟩
  | .local _ .vmem, ⟨0, _⟩ => ⟨S256x1024, .f32⟩
  | .local _ .vmem, ⟨1, _⟩ => ⟨S256x1024, .f32⟩
  | .local _ .vmem, ⟨2, _⟩ => ⟨S32x1024, .f32⟩
  | .local _ .vmem, ⟨3, _⟩ => ⟨S32x1024, .f32⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S8x288x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvFwdRefIdeal.lean ====
abbrev S8192x1024 : Shape := ⟨2, ![8192, 1024]⟩
abbrev S31x512 : Shape := ⟨2, ![31, 512]⟩
abbrev S512 : Shape := ⟨1, ![512]⟩
abbrev S8192x512 : Shape := ⟨2, ![8192, 512]⟩
abbrev S_ : Shape := ⟨0, ![]⟩
abbrev S8222x512 : Shape := ⟨2, ![8222, 512]⟩
abbrev S1x512 : Shape := ⟨2, ![1, 512]⟩
abbrev S8192 : Shape := ⟨1, ![8192]⟩
abbrev S8192x1 : Shape := ⟨2, ![8192, 1]⟩

abbrev nBuf : Space → Nat
  | .hbm => 277
  | .vmem => 0
  | .smem => 0
  | _ => 0

abbrev hbmTy0_0 (i : Nat) : BufTy := match i % 128 with
  | 0 => ⟨S8192x1024, .f32⟩
  | 1 => ⟨S31x512, .f32⟩
  | 2 => ⟨S512, .f32⟩
  | 3 => ⟨S512, .f32⟩
  | 4 => ⟨S512, .f32⟩
  | 5 => ⟨S8192x512, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S8192x512, .f32⟩
  | 16 => ⟨S_, .i32⟩
  | 17 => ⟨S_, .f32⟩
  | 18 => ⟨S8222x512, .f32⟩
  | 19 => ⟨S8192x512, .f32⟩
  | 20 => ⟨S1x512, .f32⟩
  | 21 => ⟨S512, .f32⟩
  | 22 => ⟨S1x512, .f32⟩
  | 23 => ⟨S8192x512, .f32⟩
  | 24 => ⟨S8192x512, .f32⟩
  | 25 => ⟨S8192x512, .f32⟩
  | 26 => ⟨S1x512, .f32⟩
  | 27 => ⟨S512, .f32⟩
  | 28 => ⟨S1x512, .f32⟩
  | 29 => ⟨S8192x512, .f32⟩
  | 30 => ⟨S8192x512, .f32⟩
  | 31 => ⟨S8192x512, .f32⟩
  | 32 => ⟨S8192x512, .f32⟩
  | 33 => ⟨S1x512, .f32⟩
  | 34 => ⟨S512, .f32⟩
  | 35 => ⟨S1x512, .f32⟩
  | 36 => ⟨S8192x512, .f32⟩
  | 37 => ⟨S8192x512, .f32⟩
  | 38 => ⟨S8192x512, .f32⟩
  | 39 => ⟨S8192x512, .f32⟩
  | 40 => ⟨S1x512, .f32⟩
  | 41 => ⟨S512, .f32⟩
  | 42 => ⟨S1x512, .f32⟩
  | 43 => ⟨S8192x512, .f32⟩
  | 44 => ⟨S8192x512, .f32⟩
  | 45 => ⟨S8192x512, .f32⟩
  | 46 => ⟨S8192x512, .f32⟩
  | 47 => ⟨S1x512, .f32⟩
  | 48 => ⟨S512, .f32⟩
  | 49 => ⟨S1x512, .f32⟩
  | 50 => ⟨S8192x512, .f32⟩
  | 51 => ⟨S8192x512, .f32⟩
  | 52 => ⟨S8192x512, .f32⟩
  | 53 => ⟨S8192x512, .f32⟩
  | 54 => ⟨S1x512, .f32⟩
  | 55 => ⟨S512, .f32⟩
  | 56 => ⟨S1x512, .f32⟩
  | 57 => ⟨S8192x512, .f32⟩
  | 58 => ⟨S8192x512, .f32⟩
  | 59 => ⟨S8192x512, .f32⟩
  | 60 => ⟨S8192x512, .f32⟩
  | 61 => ⟨S1x512, .f32⟩
  | 62 => ⟨S512, .f32⟩
  | 63 => ⟨S1x512, .f32⟩
  | 64 => ⟨S8192x512, .f32⟩
  | 65 => ⟨S8192x512, .f32⟩
  | 66 => ⟨S8192x512, .f32⟩
  | 67 => ⟨S8192x512, .f32⟩
  | 68 => ⟨S1x512, .f32⟩
  | 69 => ⟨S512, .f32⟩
  | 70 => ⟨S1x512, .f32⟩
  | 71 => ⟨S8192x512, .f32⟩
  | 72 => ⟨S8192x512, .f32⟩
  | 73 => ⟨S8192x512, .f32⟩
  | 74 => ⟨S8192x512, .f32⟩
  | 75 => ⟨S1x512, .f32⟩
  | 76 => ⟨S512, .f32⟩
  | 77 => ⟨S1x512, .f32⟩
  | 78 => ⟨S8192x512, .f32⟩
  | 79 => ⟨S8192x512, .f32⟩
  | 80 => ⟨S8192x512, .f32⟩
  | 81 => ⟨S8192x512, .f32⟩
  | 82 => ⟨S1x512, .f32⟩
  | 83 => ⟨S512, .f32⟩
  | 84 => ⟨S1x512, .f32⟩
  | 85 => ⟨S8192x512, .f32⟩
  | 86 => ⟨S8192x512, .f32⟩
  | 87 => ⟨S8192x512, .f32⟩
  | 88 => ⟨S8192x512, .f32⟩
  | 89 => ⟨S1x512, .f32⟩
  | 90 => ⟨S512, .f32⟩
  | 91 => ⟨S1x512, .f32⟩
  | 92 => ⟨S8192x512, .f32⟩
  | 93 => ⟨S8192x512, .f32⟩
  | 94 => ⟨S8192x512, .f32⟩
  | 95 => ⟨S8192x512, .f32⟩
  | 96 => ⟨S1x512, .f32⟩
  | 97 => ⟨S512, .f32⟩
  | 98 => ⟨S1x512, .f32⟩
  | 99 => ⟨S8192x512, .f32⟩
  | 100 => ⟨S8192x512, .f32⟩
  | 101 => ⟨S8192x512, .f32⟩
  | 102 => ⟨S8192x512, .f32⟩
  | 103 => ⟨S1x512, .f32⟩
  | 104 => ⟨S512, .f32⟩
  | 105 => ⟨S1x512, .f32⟩
  | 106 => ⟨S8192x512, .f32⟩
  | 107 => ⟨S8192x512, .f32⟩
  | 108 => ⟨S8192x512, .f32⟩
  | 109 => ⟨S8192x512, .f32⟩
  | 110 => ⟨S1x512, .f32⟩
  | 111 => ⟨S512, .f32⟩
  | 112 => ⟨S1x512, .f32⟩
  | 113 => ⟨S8192x512, .f32⟩
  | 114 => ⟨S8192x512, .f32⟩
  | 115 => ⟨S8192x512, .f32⟩
  | 116 => ⟨S8192x512, .f32⟩
  | 117 => ⟨S1x512, .f32⟩
  | 118 => ⟨S512, .f32⟩
  | 119 => ⟨S1x512, .f32⟩
  | 120 => ⟨S8192x512, .f32⟩
  | 121 => ⟨S8192x512, .f32⟩
  | 122 => ⟨S8192x512, .f32⟩
  | 123 => ⟨S8192x512, .f32⟩
  | 124 => ⟨S1x512, .f32⟩
  | 125 => ⟨S512, .f32⟩
  | 126 => ⟨S1x512, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x512, .f32⟩
  | 3 => ⟨S1x512, .f32⟩
  | 4 => ⟨S512, .f32⟩
  | 5 => ⟨S1x512, .f32⟩
  | 6 => ⟨S8192x512, .f32⟩
  | 7 => ⟨S8192x512, .f32⟩
  | 8 => ⟨S8192x512, .f32⟩
  | 9 => ⟨S8192x512, .f32⟩
  | 10 => ⟨S1x512, .f32⟩
  | 11 => ⟨S512, .f32⟩
  | 12 => ⟨S1x512, .f32⟩
  | 13 => ⟨S8192x512, .f32⟩
  | 14 => ⟨S8192x512, .f32⟩
  | 15 => ⟨S8192x512, .f32⟩
  | 16 => ⟨S8192x512, .f32⟩
  | 17 => ⟨S1x512, .f32⟩
  | 18 => ⟨S512, .f32⟩
  | 19 => ⟨S1x512, .f32⟩
  | 20 => ⟨S8192x512, .f32⟩
  | 21 => ⟨S8192x512, .f32⟩
  | 22 => ⟨S8192x512, .f32⟩
  | 23 => ⟨S8192x512, .f32⟩
  | 24 => ⟨S1x512, .f32⟩
  | 25 => ⟨S512, .f32⟩
  | 26 => ⟨S1x512, .f32⟩
  | 27 => ⟨S8192x512, .f32⟩
  | 28 => ⟨S8192x512, .f32⟩
  | 29 => ⟨S8192x512, .f32⟩
  | 30 => ⟨S8192x512, .f32⟩
  | 31 => ⟨S1x512, .f32⟩
  | 32 => ⟨S512, .f32⟩
  | 33 => ⟨S1x512, .f32⟩
  | 34 => ⟨S8192x512, .f32⟩
  | 35 => ⟨S8192x512, .f32⟩
  | 36 => ⟨S8192x512, .f32⟩
  | 37 => ⟨S8192x512, .f32⟩
  | 38 => ⟨S1x512, .f32⟩
  | 39 => ⟨S512, .f32⟩
  | 40 => ⟨S1x512, .f32⟩
  | 41 => ⟨S8192x512, .f32⟩
  | 42 => ⟨S8192x512, .f32⟩
  | 43 => ⟨S8192x512, .f32⟩
  | 44 => ⟨S8192x512, .f32⟩
  | 45 => ⟨S1x512, .f32⟩
  | 46 => ⟨S512, .f32⟩
  | 47 => ⟨S1x512, .f32⟩
  | 48 => ⟨S8192x512, .f32⟩
  | 49 => ⟨S8192x512, .f32⟩
  | 50 => ⟨S8192x512, .f32⟩
  | 51 => ⟨S8192x512, .f32⟩
  | 52 => ⟨S1x512, .f32⟩
  | 53 => ⟨S512, .f32⟩
  | 54 => ⟨S1x512, .f32⟩
  | 55 => ⟨S8192x512, .f32⟩
  | 56 => ⟨S8192x512, .f32⟩
  | 57 => ⟨S8192x512, .f32⟩
  | 58 => ⟨S8192x512, .f32⟩
  | 59 => ⟨S1x512, .f32⟩
  | 60 => ⟨S512, .f32⟩
  | 61 => ⟨S1x512, .f32⟩
  | 62 => ⟨S8192x512, .f32⟩
  | 63 => ⟨S8192x512, .f32⟩
  | 64 => ⟨S8192x512, .f32⟩
  | 65 => ⟨S8192x512, .f32⟩
  | 66 => ⟨S1x512, .f32⟩
  | 67 => ⟨S512, .f32⟩
  | 68 => ⟨S1x512, .f32⟩
  | 69 => ⟨S8192x512, .f32⟩
  | 70 => ⟨S8192x512, .f32⟩
  | 71 => ⟨S8192x512, .f32⟩
  | 72 => ⟨S8192x512, .f32⟩
  | 73 => ⟨S1x512, .f32⟩
  | 74 => ⟨S512, .f32⟩
  | 75 => ⟨S1x512, .f32⟩
  | 76 => ⟨S8192x512, .f32⟩
  | 77 => ⟨S8192x512, .f32⟩
  | 78 => ⟨S8192x512, .f32⟩
  | 79 => ⟨S8192x512, .f32⟩
  | 80 => ⟨S1x512, .f32⟩
  | 81 => ⟨S512, .f32⟩
  | 82 => ⟨S1x512, .f32⟩
  | 83 => ⟨S8192x512, .f32⟩
  | 84 => ⟨S8192x512, .f32⟩
  | 85 => ⟨S8192x512, .f32⟩
  | 86 => ⟨S8192x512, .f32⟩
  | 87 => ⟨S1x512, .f32⟩
  | 88 => ⟨S512, .f32⟩
  | 89 => ⟨S1x512, .f32⟩
  | 90 => ⟨S8192x512, .f32⟩
  | 91 => ⟨S8192x512, .f32⟩
  | 92 => ⟨S8192x512, .f32⟩
  | 93 => ⟨S8192x512, .f32⟩
  | 94 => ⟨S1x512, .f32⟩
  | 95 => ⟨S512, .f32⟩
  | 96 => ⟨S1x512, .f32⟩
  | 97 => ⟨S8192x512, .f32⟩
  | 98 => ⟨S8192x512, .f32⟩
  | 99 => ⟨S8192x512, .f32⟩
  | 100 => ⟨S8192x512, .f32⟩
  | 101 => ⟨S1x512, .f32⟩
  | 102 => ⟨S512, .f32⟩
  | 103 => ⟨S1x512, .f32⟩
  | 104 => ⟨S8192x512, .f32⟩
  | 105 => ⟨S8192x512, .f32⟩
  | 106 => ⟨S8192x512, .f32⟩
  | 107 => ⟨S1x512, .f32⟩
  | 108 => ⟨S8192x512, .f32⟩
  | 109 => ⟨S8192x512, .f32⟩
  | 110 => ⟨S_, .f32⟩
  | 111 => ⟨S8192, .f32⟩
  | 112 => ⟨S8192x1, .f32⟩
  | 113 => ⟨S_, .f32⟩
  | 114 => ⟨S8192x1, .f32⟩
  | 115 => ⟨S8192x1, .f32⟩
  | 116 => ⟨S8192x512, .f32⟩
  | 117 => ⟨S8192x512, .f32⟩
  | 118 => ⟨S8192x512, .f32⟩
  | 119 => ⟨S_, .f32⟩
  | 120 => ⟨S8192, .f32⟩
  | 121 => ⟨S8192x1, .f32⟩
  | 122 => ⟨S_, .f32⟩
  | 123 => ⟨S8192x1, .f32⟩
  | 124 => ⟨S8192x1, .f32⟩
  | 125 => ⟨S8192x512, .f32⟩
  | 126 => ⟨S8192x512, .f32⟩
  | 127 => ⟨S_, .f32⟩
  | _ => ⟨S8192x1024, .f32⟩

abbrev hbmTy0_2 (i : Nat) : BufTy := match i % 128 with
  | 0 => ⟨S8192x1, .f32⟩
  | 1 => ⟨S8192x1, .f32⟩
  | 2 => ⟨S8192x1, .f32⟩
  | 3 => ⟨S8192x512, .f32⟩
  | 4 => ⟨S8192x512, .f32⟩
  | 5 => ⟨S1x512, .f32⟩
  | 6 => ⟨S8192x512, .f32⟩
  | 7 => ⟨S8192x512, .f32⟩
  | 8 => ⟨S1x512, .f32⟩
  | 9 => ⟨S8192x512, .f32⟩
  | 10 => ⟨S8192x512, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S8192x512, .f32⟩
  | 20 => ⟨S8192x512, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_cst_1 : Ref sig .tc := ⟨.hbm, 238, rfl⟩
abbrev main_v229 : Ref sig .tc := ⟨.hbm, 239, rfl⟩
abbrev main_v230 : Ref sig .tc := ⟨.hbm, 240, rfl⟩
abbrev main_cst_2 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_cst_3 : Ref sig .tc := ⟨.hbm, 247, rfl⟩
abbrev main_v236 : Ref sig .tc := ⟨.hbm, 248, rfl⟩
abbrev main_v237 : Ref sig .tc := ⟨.hbm, 249, rfl⟩
abbrev main_cst_4 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_cst_5 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_call1_v0 : Ref sig .tc := ⟨.hbm, 267, rfl⟩
abbrev main_call1_v1 : Ref sig .tc := ⟨.hbm, 268, rfl⟩
abbrev main_call1_cst : Ref sig .tc := ⟨.hbm, 269, rfl⟩
abbrev main_call1_v2 : Ref sig .tc := ⟨.hbm, 270, rfl⟩
abbrev main_call1_v3 : Ref sig .tc := ⟨.hbm, 271, rfl⟩
abbrev main_call1_cst_0 : Ref sig .tc := ⟨.hbm, 272, rfl⟩
abbrev main_call1_v4 : Ref sig .tc := ⟨.hbm, 273, rfl⟩
abbrev main_call1_v5 : Ref sig .tc := ⟨.hbm, 274, rfl⟩
abbrev main_v253 : Ref sig .tc := ⟨.hbm, 275, rfl⟩
abbrev main_v254 : Ref sig .tc := ⟨.hbm, 276, rfl⟩

abbrev nD : Nat := 1
abbrev τ : Topo := Topo.v7x

variable {F : FTy → Type} [FloatOps F]
-- ==== ConvBwd.lean ====
abbrev S8192x1024 : Shape := ⟨2, ![8192, 1024]⟩
abbrev S8192x512 : Shape := ⟨2, ![8192, 512]⟩
abbrev S31x512 : Shape := ⟨2, ![31, 512]⟩
abbrev S512 : Shape := ⟨1, ![512]⟩
abbrev S_ : Shape := ⟨0, ![]⟩
abbrev S32x512 : Shape := ⟨2, ![32, 512]⟩
abbrev S1x512 : Shape := ⟨2, ![1, 512]⟩
abbrev S256x1024 : Shape := ⟨2, ![256, 1024]⟩
abbrev S32x1024 : Shape := ⟨2, ![32, 1024]⟩
abbrev S256x512 : Shape := ⟨2, ![256, 512]⟩
abbrev S8x288x512 : Shape := ⟨3, ![8, 288, 512]⟩
abbrev S8x512 : Shape := ⟨2, ![8, 512]⟩
abbrev S32 : Shape := ⟨1, ![32]⟩
abbrev S32x1 : Shape := ⟨2, ![32, 1]⟩
abbrev S1x32x512 : Shape := ⟨3, ![1, 32, 512]⟩
abbrev S1x64x512 : Shape := ⟨3, ![1, 64, 512]⟩
abbrev S64x512 : Shape := ⟨2, ![64, 512]⟩
abbrev S1x24x512 : Shape := ⟨3, ![1, 24, 512]⟩
abbrev S24x512 : Shape := ⟨2, ![24, 512]⟩

abbrev nBuf : Space → Nat
  | .hbm => 16
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S_, .i32⟩
  | .hbm, ⟨7, _⟩ => ⟨S_, .f32⟩
  | .hbm, ⟨8, _⟩ => ⟨S32x512, .f32⟩
  | .hbm, ⟨9, _⟩ => ⟨S1x512, .f32⟩
  | .hbm, ⟨10, _⟩ => ⟨S1x512, .f32⟩
  | .hbm, ⟨11, _⟩ => ⟨S8192x1024, .bf16⟩
  | .hbm, ⟨12, _⟩ => ⟨S32x512, .f32⟩
  | .hbm, ⟨13, _⟩ => ⟨S1x512, .f32⟩
  | .hbm, ⟨14, _⟩ => ⟨S1x512, .f32⟩
  | .hbm, ⟨15, _⟩ => ⟨S1x512, .f32⟩
  | .local _ .vmem, ⟨0, _⟩ => ⟨S256x1024, .f32⟩
  | .local _ .vmem, ⟨1, _⟩ => ⟨S256x1024, .f32⟩
  | .local _ .vmem, ⟨2, _⟩ => ⟨S32x1024, .f32⟩
  | .local _ .vmem, ⟨3, _⟩ => ⟨S32x1024, .f32⟩
  | .local _ .vmem, ⟨4, _⟩ => ⟨S256x512, .f32⟩
  | .local _ .vmem, ⟨5, _⟩ => ⟨S256x512, .f32⟩
  | .local _ .vmem, ⟨6, _⟩ => ⟨S32x512, .f32⟩
  | .local _ .vmem, ⟨7, _⟩ => ⟨S32x512, .f32⟩
  | .local _ .vmem, ⟨8, _⟩ => ⟨S256x512, .f32⟩
  | .local _ .vmem, ⟨9, _⟩ => ⟨S256x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S1x512, .f32⟩
  | .local _ .vmem, ⟨14, _⟩ => ⟨S1x512, .f32⟩
  | .local _ .vmem, ⟨15, _⟩ => ⟨S256x1024, .bf16⟩
  | .local _ .vmem, ⟨16, _⟩ => ⟨S256x1024, .bf16⟩
  | .local _ .vmem, ⟨17, _⟩ => ⟨S32x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S8x288x512, .f32⟩
  | .local _ .vmem, ⟨22, _⟩ => ⟨S8x288x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ConvBwdRefIdeal.lean ====
abbrev S8192x1024 : Shape := ⟨2, ![8192, 1024]⟩
abbrev S8192x512 : Shape := ⟨2, ![8192, 512]⟩
abbrev S31x512 : Shape := ⟨2, ![31, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S30x512 : Shape := ⟨2, ![30, 512]⟩
abbrev S8222x512 : Shape := ⟨2, ![8222, 512]⟩
abbrev S32x512 : Shape := ⟨2, ![32, 512]⟩

abbrev nBuf : Space → Nat
  | .hbm => 826
  | .vmem => 0
  | .smem => 0
  | _ => 0

abbrev hbmTy0_0 (i : Nat) : BufTy := match i % 128 with
  | 0 => ⟨S8192x1024, .f32⟩
  | 1 => ⟨S8192x512, .f32⟩
  | 2 => ⟨S8192x1024, .f32⟩
  | 3 => ⟨S31x512, .f32⟩
  | 4 => ⟨S512, .f32⟩
  | 5 => ⟨S512, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S8192x512, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S8192x512, .f32⟩
  | 25 => ⟨S8192x512, .f32⟩
  | 26 => ⟨S_, .f32⟩
  | 27 => ⟨S8192x1, .f32⟩
  | 28 => ⟨S8192x1, .f32⟩
  | 29 => ⟨S8192x1, .f32⟩
  | 30 => ⟨S8192x1, .f32⟩
  | 31 => ⟨S_, .f32⟩
  | 32 => ⟨S8192x1, .f32⟩
  | 33 => ⟨S8192x1, .f32⟩
  | 34 => ⟨S8192x512, .f32⟩
  | 35 => ⟨S8192x512, .f32⟩
  | 36 => ⟨S1x512, .f32⟩
  | 37 => ⟨S8192x512, .f32⟩
  | 38 => ⟨S8192x512, .f32⟩
  | 39 => ⟨S1x512, .f32⟩
  | 40 => ⟨S8192x512, .f32⟩
  | 41 => ⟨S8192x512, .f32⟩
  | 42 => ⟨S8192x512, .f32⟩
  | 43 => ⟨S8192x512, .f32⟩
  | 44 => ⟨S_, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S8192x512, .f32⟩
  | 57 => ⟨S8192x512, .f32⟩
  | 58 => ⟨S8192x512, .f32⟩
  | 59 => ⟨S8192x512, .f32⟩
  | 60 => ⟨S_, .f32⟩
  | 61 => ⟨S512, .f32⟩
  | 62 => ⟨S1x512, .f32⟩
  | 63 => ⟨S_, .f32⟩
  | 64 => ⟨S512, .f32⟩
  | 65 => ⟨S8192x512, .f32⟩
  | 66 => ⟨S_, .f32⟩
  | 67 => ⟨S512, .f32⟩
  | 68 => ⟨S1x512, .f32⟩
  | 69 => ⟨S8192x512, .f32⟩
  | 70 => ⟨S8192x512, .f32⟩
  | 71 => ⟨S_, .f32⟩
  | 72 => ⟨S512, .f32⟩
  | 73 => ⟨S8192x512, .f32⟩
  | 74 => ⟨S_, .f32⟩
  | 75 => ⟨S8192, .f32⟩
  | 76 => ⟨S8192x1, .f32⟩
  | 77 => ⟨S8192x512, .f32⟩
  | 78 => ⟨S8192x512, .f32⟩
  | 79 => ⟨S8192x1, .f32⟩
  | 80 => ⟨S8192x512, .f32⟩
  | 81 => ⟨S_, .f32⟩
  | 82 => ⟨S8192, .f32⟩
  | 83 => ⟨S8192x1, .f32⟩
  | 84 => ⟨S_, .f32⟩
  | 85 => ⟨S8192x1, .f32⟩
  | 86 => ⟨S8192x1, .f32⟩
  | 87 => ⟨S_, .f32⟩
  | 88 => ⟨S8192, .f32⟩
  | 89 => ⟨S8192x512, .f32⟩
  | 90 => ⟨S8192x512, .f32⟩
  | 91 => ⟨S8192x512, .f32⟩
  | 92 => ⟨S_, .f32⟩
  | 93 => ⟨S8192, .f32⟩
  | 94 => ⟨S8192x1, .f32⟩
  | 95 => ⟨S8192x512, .f32⟩
  | 96 => ⟨S8192x1, .f32⟩
  | 97 => ⟨S_, .f32⟩
  | 98 => ⟨S8192x1, .f32⟩
  | 99 => ⟨S8192x1, .f32⟩
  | 100 => ⟨S_, .f32⟩
  | 101 => ⟨S8192, .f32⟩
  | 102 => ⟨S8192x512, .f32⟩
  | 103 => ⟨S8192x512, .f32⟩
  | 104 => ⟨S_, .f32⟩
  | 105 => ⟨S512, .f32⟩
  | 106 => ⟨S8192x512, .f32⟩
  | 107 => ⟨S8192x512, .f32⟩
  | 108 => ⟨S8192x512, .f32⟩
  | 109 => ⟨S8192x512, .f32⟩
  | 110 => ⟨S_, .f32⟩
  | 111 => ⟨S8192x512, .f32⟩
  | 112 => ⟨S8192x512, .f32⟩
  | 113 => ⟨S_, .f32⟩
  | 114 => ⟨S8192x512, .f32⟩
  | 115 => ⟨S8192x512, .f32⟩
  | 116 => ⟨S_, .f32⟩
  | 117 => ⟨S8192x512, .f32⟩
  | 118 => ⟨S8192x512, .f32⟩
  | 119 => ⟨S8192x512, .f32⟩
  | 120 => ⟨S8192x512, .f32⟩
  | 121 => ⟨S_, .f32⟩
  | 122 => ⟨S30x512, .f32⟩
  | 123 => ⟨S8222x512, .f32⟩
  | 124 => ⟨S_, .f32⟩
  | 125 => ⟨S30x512, .f32⟩
  | 126 => ⟨S8192x512, .f32⟩
  | 127 => ⟨S1x512, .f32⟩
  | _ => ⟨S8192x1024, .f32⟩

abbrev hbmTy0_1 (i : Nat) : BufTy := match i % 128 with
  | 0 => ⟨S512, .f32⟩
  | 1 => ⟨S1x512, .f32⟩
  | 2 => ⟨S8192x512, .f32⟩
  | 3 => ⟨S8192x512, .f32⟩
  | 4 => ⟨S8192x512, .f32⟩
  | 5 => ⟨S1x512, .f32⟩
  | 6 => ⟨S512, .f32⟩
  | 7 => ⟨S1x512, .f32⟩
  | 8 => ⟨S8192x512, .f32⟩
  | 9 => ⟨S8192x512, .f32⟩
  | 10 => ⟨S8192x512, .f32⟩
  | 11 => ⟨S8192x512, .f32⟩
  | 12 => ⟨S1x512, .f32⟩
  | 13 => ⟨S512, .f32⟩
  | 14 => ⟨S1x512, .f32⟩
  | 15 => ⟨S8192x512, .f32⟩
  | 16 => ⟨S8192x512, .f32⟩
  | 17 => ⟨S8192x512, .f32⟩
  | 18 => ⟨S8192x512, .f32⟩
  | 19 => ⟨S1x512, .f32⟩
  | 20 => ⟨S512, .f32⟩
  | 21 => ⟨S1x512, .f32⟩
  | 22 => ⟨S8192x512, .f32⟩
  | 23 => ⟨S8192x512, .f32⟩
  | 24 => ⟨S8192x512, .f32⟩
  | 25 => ⟨S8192x512, .f32⟩
  | 26 => ⟨S1x512, .f32⟩
  | 27 => ⟨S512, .f32⟩
  | 28 => ⟨S1x512, .f32⟩
  | 29 => ⟨S8192x512, .f32⟩
  | 30 => ⟨S8192x512, .f32⟩
  | 31 => ⟨S8192x512, .f32⟩
  | 32 => ⟨S8192x512, .f32⟩
  | 33 => ⟨S1x512, .f32⟩
  | 34 => ⟨S512, .f32⟩
  | 35 => ⟨S1x512, .f32⟩
  | 36 => ⟨S8192x512, .f32⟩
  | 37 => ⟨S8192x512, .f32⟩
  | 38 => ⟨S8192x512, .f32⟩
  | 39 => ⟨S8192x512, .f32⟩
  | 40 => ⟨S1x512, .f32⟩
  | 41 => ⟨S512, .f32⟩
  | 42 => ⟨S1x512, .f32⟩
  | 43 => ⟨S8192x512, .f32⟩
  | 44 => ⟨S8192x512, .f32⟩
  | 45 => ⟨S8192x512, .f32⟩
  | 46 => ⟨S8192x512, .f32⟩
  | 47 => ⟨S1x512, .f32⟩
  | 48 => ⟨S512, .f32⟩
  | 49 => ⟨S1x512, .f32⟩
  | 50 => ⟨S8192x512, .f32⟩
  | 51 => ⟨S8192x512, .f32⟩
  | 52 => ⟨S8192x512, .f32⟩
  | 53 => ⟨S8192x512, .f32⟩
  | 54 => ⟨S1x512, .f32⟩
  | 55 => ⟨S512, .f32⟩
  | 56 => ⟨S1x512, .f32⟩
  | 57 => ⟨S8192x512, .f32⟩
  | 58 => ⟨S8192x512, .f32⟩
  | 59 => ⟨S8192x512, .f32⟩
  | 60 => ⟨S8192x512, .f32⟩
  | 61 => ⟨S1x512, .f32⟩
  | 62 => ⟨S512, .f32⟩
  | 63 => ⟨S1x512, .f32⟩
  | 64 => ⟨S8192x512, .f32⟩
  | 65 => ⟨S8192x512, .f32⟩
  | 66 => ⟨S8192x512, .f32⟩
  | 67 => ⟨S8192x512, .f32⟩
  | 68 => ⟨S1x512, .f32⟩
  | 69 => ⟨S512, .f32⟩
  | 70 => ⟨S1x512, .f32⟩
  | 71 => ⟨S8192x512, .f32⟩
  | 72 => ⟨S8192x512, .f32⟩
  | 73 => ⟨S8192x512, .f32⟩
  | 74 => ⟨S8192x512, .f32⟩
  | 75 => ⟨S1x512, .f32⟩
  | 76 => ⟨S512, .f32⟩
  | 77 => ⟨S1x512, .f32⟩
  | 78 => ⟨S8192x512, .f32⟩
  | 79 => ⟨S8192x512, .f32⟩
  | 80 => ⟨S8192x512, .f32⟩
  | 81 => ⟨S8192x512, .f32⟩
  | 82 => ⟨S1x512, .f32⟩
  | 83 => ⟨S512, .f32⟩
  | 84 => ⟨S1x512, .f32⟩
  | 85 => ⟨S8192x512, .f32⟩
  | 86 => ⟨S8192x512, .f32⟩
  | 87 => ⟨S8192x512, .f32⟩
  | 88 => ⟨S8192x512, .f32⟩
  | 89 => ⟨S1x512, .f32⟩
  | 90 => ⟨S512, .f32⟩
  | 91 => ⟨S1x512, .f32⟩
  | 92 => ⟨S8192x512, .f32⟩
  | 93 => ⟨S8192x512, .f32⟩
  | 94 => ⟨S8192x512, .f32⟩
  | 95 => ⟨S8192x512, .f32⟩
  | 96 => ⟨S1x512, .f32⟩
  | 97 => ⟨S512, .f32⟩
  | 98 => ⟨S1x512, .f32⟩
  | 99 => ⟨S8192x512, .f32⟩
  | 100 => ⟨S8192x512, .f32⟩
  | 101 => ⟨S8192x512, .f32⟩
  | 102 => ⟨S8192x512, .f32⟩
  | 103 => ⟨S1x512, .f32⟩
  | 104 => ⟨S512, .f32⟩
  | 105 => ⟨S1x512, .f32⟩
  | 106 => ⟨S8192x512, .f32⟩
  | 107 => ⟨S8192x512, .f32⟩
  | 108 => ⟨S8192x512, .f32⟩
  | 109 => ⟨S8192x512, .f32⟩
  | 110 => ⟨S1x512, .f32⟩
  | 111 => ⟨S512, .f32⟩
  | 112 => ⟨S1x512, .f32⟩
  | 113 => ⟨S8192x512, .f32⟩
  | 114 => ⟨S8192x512, .f32⟩
  | 115 => ⟨S8192x512, .f32⟩
  | 116 => ⟨S8192x512, .f32⟩
  | 117 => ⟨S1x512, .f32⟩
  | 118 => ⟨S512, .f32⟩
  | 119 => ⟨S1x512, .f32⟩
  | 120 => ⟨S8192x512, .f32⟩
  | 121 => ⟨S8192x512, .f32⟩
  | 122 => ⟨S8192x512, .f32⟩
  | 123 => ⟨S8192x512, .f32⟩
  | 124 => ⟨S1x512, .f32⟩
  | 125 => ⟨S512, .f32⟩
  | 126 => ⟨S1x512, .f32⟩
  | 127 => ⟨S8192x512, .f32⟩
  | _ => ⟨S8192x1024, .f32⟩

abbrev hbmTy0_2 (i : Nat) : BufTy := match i % 128 with
  | 0 => ⟨S8192x512, .f32⟩
  | 1 => ⟨S8192x512, .f32⟩
  | 2 => ⟨S8192x512, .f32⟩
  | 3 => ⟨S1x512, .f32⟩
  | 4 => ⟨S512, .f32⟩
  | 5 => ⟨S1x512, .f32⟩
  | 6 => ⟨S8192x512, .f32⟩
  | 7 => ⟨S8192x512, .f32⟩
  | 8 => ⟨S8192x512, .f32⟩
  | 9 => ⟨S8192x512, .f32⟩
  | 10 => ⟨S1x512, .f32⟩
  | 11 => ⟨S512, .f32⟩
  | 12 => ⟨S1x512, .f32⟩
  | 13 => ⟨S8192x512, .f32⟩
  | 14 => ⟨S8192x512, .f32⟩
  | 15 => ⟨S8192x512, .f32⟩
  | 16 => ⟨S8192x512, .f32⟩
  | 17 => ⟨S1x512, .f32⟩
  | 18 => ⟨S512, .f32⟩
  | 19 => ⟨S1x512, .f32⟩
  | 20 => ⟨S8192x512, .f32⟩
  | 21 => ⟨S8192x512, .f32⟩
  | 22 => ⟨S8192x512, .f32⟩
  | 23 => ⟨S8192x512, .f32⟩
  | 24 => ⟨S1x512, .f32⟩
  | 25 => ⟨S512, .f32⟩
  | 26 => ⟨S1x512, .f32⟩
  | 27 => ⟨S8192x512, .f32⟩
  | 28 => ⟨S8192x512, .f32⟩
  | 29 => ⟨S8192x512, .f32⟩
  | 30 => ⟨S8192x512, .f32⟩
  | 31 => ⟨S1x512, .f32⟩
  | 32 => ⟨S512, .f32⟩
  | 33 => ⟨S1x512, .f32⟩
  | 34 => ⟨S8192x512, .f32⟩
  | 35 => ⟨S8192x512, .f32⟩
  | 36 => ⟨S8192x512, .f32⟩
  | 37 => ⟨S8192x512, .f32⟩
  | 38 => ⟨S1x512, .f32⟩
  | 39 => ⟨S512, .f32⟩
  | 40 => ⟨S1x512, .f32⟩
  | 41 => ⟨S8192x512, .f32⟩
  | 42 => ⟨S8192x512, .f32⟩
  | 43 => ⟨S8192x512, .f32⟩
  | 44 => ⟨S8192x512, .f32⟩
  | 45 => ⟨S1x512, .f32⟩
  | 46 => ⟨S512, .f32⟩
  | 47 => ⟨S1x512, .f32⟩
  | 48 => ⟨S8192x512, .f32⟩
  | 49 => ⟨S8192x512, .f32⟩
  | 50 => ⟨S8192x512, .f32⟩
  | 51 => ⟨S8192x512, .f32⟩
  | 52 => ⟨S1x512, .f32⟩
  | 53 => ⟨S512, .f32⟩
  | 54 => ⟨S1x512, .f32⟩
  | 55 => ⟨S8192x512, .f32⟩
  | 56 => ⟨S8192x512, .f32⟩
  | 57 => ⟨S8192x512, .f32⟩
  | 58 => ⟨S8192x512, .f32⟩
  | 59 => ⟨S1x512, .f32⟩
  | 60 => ⟨S512, .f32⟩
  | 61 => ⟨S1x512, .f32⟩
  | 62 => ⟨S8192x512, .f32⟩
  | 63 => ⟨S8192x512, .f32⟩
  | 64 => ⟨S8192x512, .f32⟩
  | 65 => ⟨S8192x512, .f32⟩
  | 66 => ⟨S1x512, .f32⟩
  | 67 => ⟨S512, .f32⟩
  | 68 => ⟨S1x512, .f32⟩
  | 69 => ⟨S8192x512, .f32⟩
  | 70 => ⟨S8192x512, .f32⟩
  | 71 => ⟨S8192x512, .f32⟩
  | 72 => ⟨S8192x512, .f32⟩
  | 73 => ⟨S1x512, .f32⟩
  | 74 => ⟨S512, .f32⟩
  | 75 => ⟨S1x512, .f32⟩
  | 76 => ⟨S8192x512, .f32⟩
  | 77 => ⟨S8192x512, .f32⟩
  | 78 => ⟨S8192x512, .f32⟩
  | 79 => ⟨S8192x512, .f32⟩
  | 80 => ⟨S1x512, .f32⟩
  | 81 => ⟨S512, .f32⟩
  | 82 => ⟨S1x512, .f32⟩
  | 83 => ⟨S8192x512, .f32⟩
  | 84 => ⟨S8192x512, .f32⟩
  | 85 => ⟨S8192x512, .f32⟩
  | 86 => ⟨S1x512, .f32⟩
  | 87 => ⟨S8192x512, .f32⟩
  | 88 => ⟨S8192x512, .f32⟩
  | 89 => ⟨S_, .f32⟩
  | 90 => ⟨S512, .f32⟩
  | 91 => ⟨S1x512, .f32⟩
  | 92 => ⟨S_, .f32⟩
  | 93 => ⟨S512, .f32⟩
  | 94 => ⟨S8192x512, .f32⟩
  | 95 => ⟨S_, .f32⟩
  | 96 => ⟨S512, .f32⟩
  | 97 => ⟨S1x512, .f32⟩
  | 98 => ⟨S8192x512, .f32⟩
  | 99 => ⟨S8192x512, .f32⟩
  | 100 => ⟨S_, .f32⟩
  | 101 => ⟨S512, .f32⟩
  | 102 => ⟨S1x512, .f32⟩
  | 103 => ⟨S_, .f32⟩
  | 104 => ⟨S31x512, .f32⟩
  | 105 => ⟨S_, .f32⟩
  | 106 => ⟨S8222x512, .f32⟩
  | 107 => ⟨S8192x512, .f32⟩
  | 108 => ⟨S_, .f32⟩
  | 109 => ⟨S512, .f32⟩
  | 110 => ⟨S1x512, .f32⟩
  | 111 => ⟨S8192x512, .f32⟩
  | 112 => ⟨S8192x512, .f32⟩
  | 113 => ⟨S_, .f32⟩
  | 114 => ⟨S512, .f32⟩
  | 115 => ⟨S1x512, .f32⟩
  | 116 => ⟨S_, .f32⟩
  | 117 => ⟨S31x512, .f32⟩
  | 118 => ⟨S31x512, .f32⟩
  | 119 => ⟨S_, .f32⟩
  | 120 => ⟨S8222x512, .f32⟩
  | 121 => ⟨S8222x512, .f32⟩
  | 122 => ⟨S8192x512, .f32⟩
  | 123 => ⟨S_, .f32⟩
  | 124 => ⟨S512, .f32⟩
  | 125 => ⟨S1x512, .f32⟩
  | 126 => ⟨S8192x512, .f32⟩
  | 127 => ⟨S8192x512, .f32⟩
  | _ => ⟨S8192x1024, .f32⟩

abbrev hbmTy0_3 (i : Nat) : BufTy := match i % 128 with
  | 0 => ⟨S_, .f32⟩
  | 1 => ⟨S512, .f32⟩
  | 2 => ⟨S1x512, .f32⟩
  | 3 => ⟨S_, .f32⟩
  | 4 => ⟨S31x512, .f32⟩
  | 5 => ⟨S31x512, .f32⟩
  | 6 => ⟨S_, .f32⟩
  | 7 => ⟨S8222x512, .f32⟩
  | 8 => ⟨S8222x512, .f32⟩
  | 9 => ⟨S8192x512, .f32⟩
  | 10 => ⟨S_, .f32⟩
  | 11 => ⟨S512, .f32⟩
  | 12 => ⟨S1x512, .f32⟩
  | 13 => ⟨S8192x512, .f32⟩
  | 14 => ⟨S8192x512, .f32⟩
  | 15 => ⟨S_, .f32⟩
  | 16 => ⟨S512, .f32⟩
  | 17 => ⟨S1x512, .f32⟩
  | 18 => ⟨S_, .f32⟩
  | 19 => ⟨S31x512, .f32⟩
  | 20 => ⟨S31x512, .f32⟩
  | 21 => ⟨S_, .f32⟩
  | 22 => ⟨S8222x512, .f32⟩
  | 23 => ⟨S8222x512, .f32⟩
  | 24 => ⟨S8192x512, .f32⟩
  | 25 => ⟨S_, .f32⟩
  | 26 => ⟨S512, .f32⟩
  | 27 => ⟨S1x512, .f32⟩
  | 28 => ⟨S8192x512, .f32⟩
  | 29 => ⟨S8192x512, .f32⟩
  | 30 => ⟨S_, .f32⟩
  | 31 => ⟨S512, .f32⟩
  | 32 => ⟨S1x512, .f32⟩
  | 33 => ⟨S_, .f32⟩
  | 34 => ⟨S31x512, .f32⟩
  | 35 => ⟨S31x512, .f32⟩
  | 36 => ⟨S_, .f32⟩
  | 37 => ⟨S8222x512, .f32⟩
  | 38 => ⟨S8222x512, .f32⟩
  | 39 => ⟨S8192x512, .f32⟩
  | 40 => ⟨S_, .f32⟩
  | 41 => ⟨S512, .f32⟩
  | 42 => ⟨S1x512, .f32⟩
  | 43 => ⟨S8192x512, .f32⟩
  | 44 => ⟨S8192x512, .f32⟩
  | 45 => ⟨S_, .f32⟩
  | 46 => ⟨S512, .f32⟩
  | 47 => ⟨S1x512, .f32⟩
  | 48 => ⟨S_, .f32⟩
  | 49 => ⟨S31x512, .f32⟩
  | 50 => ⟨S31x512, .f32⟩
  | 51 => ⟨S_, .f32⟩
  | 52 => ⟨S8222x512, .f32⟩
  | 53 => ⟨S8222x512, .f32⟩
  | 54 => ⟨S8192x512, .f32⟩
  | 55 => ⟨S_, .f32⟩
  | 56 => ⟨S512, .f32⟩
  | 57 => ⟨S1x512, .f32⟩
  | 58 => ⟨S8192x512, .f32⟩
  | 59 => ⟨S8192x512, .f32⟩
  | 60 => ⟨S_, .f32⟩
  | 61 => ⟨S512, .f32⟩
  | 62 => ⟨S1x512, .f32⟩
  | 63 => ⟨S_, .f32⟩
  | 64 => ⟨S31x512, .f32⟩
  | 65 => ⟨S31x512, .f32⟩
  | 66 => ⟨S_, .f32⟩
  | 67 => ⟨S8222x512, .f32⟩
  | 68 => ⟨S8222x512, .f32⟩
  | 69 => ⟨S8192x512, .f32⟩
  | 70 => ⟨S_, .f32⟩
  | 71 => ⟨S512, .f32⟩
  | 72 => ⟨S1x512, .f32⟩
  | 73 => ⟨S8192x512, .f32⟩
  | 74 => ⟨S8192x512, .f32⟩
  | 75 => ⟨S_, .f32⟩
  | 76 => ⟨S512, .f32⟩
  | 77 => ⟨S1x512, .f32⟩
  | 78 => ⟨S_, .f32⟩
  | 79 => ⟨S31x512, .f32⟩
  | 80 => ⟨S31x512, .f32⟩
  | 81 => ⟨S_, .f32⟩
  | 82 => ⟨S8222x512, .f32⟩
  | 83 => ⟨S8222x512, .f32⟩
  | 84 => ⟨S8192x512, .f32⟩
  | 85 => ⟨S_, .f32⟩
  | 86 => ⟨S512, .f32⟩
  | 87 => ⟨S1x512, .f32⟩
  | 88 => ⟨S8192x512, .f32⟩
  | 89 => ⟨S8192x512, .f32⟩
  | 90 => ⟨S_, .f32⟩
  | 91 => ⟨S512, .f32⟩
  | 92 => ⟨S1x512, .f32⟩
  | 93 => ⟨S_, .f32⟩
  | 94 => ⟨S31x512, .f32⟩
  | 95 => ⟨S31x512, .f32⟩
  | 96 => ⟨S_, .f32⟩
  | 97 => ⟨S8222x512, .f32⟩
  | 98 => ⟨S8222x512, .f32⟩
  | 99 => ⟨S8192x512, .f32⟩
  | 100 => ⟨S_, .f32⟩
  | 101 => ⟨S512, .f32⟩
  | 102 => ⟨S1x512, .f32⟩
  | 103 => ⟨S8192x512, .f32⟩
  | 104 => ⟨S8192x512, .f32⟩
  | 105 => ⟨S_, .f32⟩
  | 106 => ⟨S512, .f32⟩
  | 107 => ⟨S1x512, .f32⟩
  | 108 => ⟨S_, .f32⟩
  | 109 => ⟨S31x512, .f32⟩
  | 110 => ⟨S31x512, .f32⟩
  | 111 => ⟨S_, .f32⟩
  | 112 => ⟨S8222x512, .f32⟩
  | 113 => ⟨S8222x512, .f32⟩
  | 114 => ⟨S8192x512, .f32⟩
  | 115 => ⟨S_, .f32⟩
  | 116 => ⟨S512, .f32⟩
  | 117 => ⟨S1x512, .f32⟩
  | 118 => ⟨S8192x512, .f32⟩
  | 119 => ⟨S8192x512, .f32⟩
  | 120 => ⟨S_, .f32⟩
  | 121 => ⟨S512, .f32⟩
  | 122 => ⟨S1x512, .f32⟩
  | 123 => ⟨S_, .f32⟩
  | 124 => ⟨S31x512, .f32⟩
  | 125 => ⟨S31x512, .f32⟩
  | 126 => ⟨S_, .f32⟩
  | 127 => ⟨S8222x512, .f32⟩
  | _ => ⟨S8192x1024, .f32⟩

abbrev hbmTy0_4 (i : Nat) : BufTy := match i % 128 with
  | 0 => ⟨S8222x512, .f32⟩
  | 1 => ⟨S8192x512, .f32⟩
  | 2 => ⟨S_, .f32⟩
  | 3 => ⟨S512, .f32⟩
  | 4 => ⟨S1x512, .f32⟩
  | 5 => ⟨S8192x512, .f32⟩
  | 6 => ⟨S8192x512, .f32⟩
  | 7 => ⟨S_, .f32⟩
  | 8 => ⟨S512, .f32⟩
  | 9 => ⟨S1x512, .f32⟩
  | 10 => ⟨S_, .f32⟩
  | 11 => ⟨S31x512, .f32⟩
  | 12 => ⟨S31x512, .f32⟩
  | 13 => ⟨S_, .f32⟩
  | 14 => ⟨S8222x512, .f32⟩
  | 15 => ⟨S8222x512, .f32⟩
  | 16 => ⟨S8192x512, .f32⟩
  | 17 => ⟨S_, .f32⟩
  | 18 => ⟨S512, .f32⟩
  | 19 => ⟨S1x512, .f32⟩
  | 20 => ⟨S8192x512, .f32⟩
  | 21 => ⟨S8192x512, .f32⟩
  | 22 => ⟨S_, .f32⟩
  | 23 => ⟨S512, .f32⟩
  | 24 => ⟨S1x512, .f32⟩
  | 25 => ⟨S_, .f32⟩
  | 26 => ⟨S31x512, .f32⟩
  | 27 => ⟨S31x512, .f32⟩
  | 28 => ⟨S_, .f32⟩
  | 29 => ⟨S8222x512, .f32⟩
  | 30 => ⟨S8222x512, .f32⟩
  | 31 => ⟨S8192x512, .f32⟩
  | 32 => ⟨S_, .f32⟩
  | 33 => ⟨S512, .f32⟩
  | 34 => ⟨S1x512, .f32⟩
  | 35 => ⟨S8192x512, .f32⟩
  | 36 => ⟨S8192x512, .f32⟩
  | 37 => ⟨S_, .f32⟩
  | 38 => ⟨S512, .f32⟩
  | 39 => ⟨S1x512, .f32⟩
  | 40 => ⟨S_, .f32⟩
  | 41 => ⟨S31x512, .f32⟩
  | 42 => ⟨S31x512, .f32⟩
  | 43 => ⟨S_, .f32⟩
  | 44 => ⟨S8222x512, .f32⟩
  | 45 => ⟨S8222x512, .f32⟩
  | 46 => ⟨S8192x512, .f32⟩
  | 47 => ⟨S_, .f32⟩
  | 48 => ⟨S512, .f32⟩
  | 49 => ⟨S1x512, .f32⟩
  | 50 => ⟨S8192x512, .f32⟩
  | 51 => ⟨S8192x512, .f32⟩
  | 52 => ⟨S_, .f32⟩
  | 53 => ⟨S512, .f32⟩
  | 54 => ⟨S1x512, .f32⟩
  | 55 => ⟨S_, .f32⟩
  | 56 => ⟨S31x512, .f32⟩
  | 57 => ⟨S31x512, .f32⟩
  | 58 => ⟨S_, .f32⟩
  | 59 => ⟨S8222x512, .f32⟩
  | 60 => ⟨S8222x512, .f32⟩
  | 61 => ⟨S8192x512, .f32⟩
  | 62 => ⟨S_, .f32⟩
  | 63 => ⟨S512, .f32⟩
  | 64 => ⟨S1x512, .f32⟩
  | 65 => ⟨S8192x512, .f32⟩
  | 66 => ⟨S8192x512, .f32⟩
  | 67 => ⟨S_, .f32⟩
  | 68 => ⟨S512, .f32⟩
  | 69 => ⟨S1x512, .f32⟩
  | 70 => ⟨S_, .f32⟩
  | 71 => ⟨S31x512, .f32⟩
  | 72 => ⟨S31x512, .f32⟩
  | 73 => ⟨S_, .f32⟩
  | 74 => ⟨S8222x512, .f32⟩
  | 75 => ⟨S8222x512, .f32⟩
  | 76 => ⟨S8192x512, .f32⟩
  | 77 => ⟨S_, .f32⟩
  | 78 => ⟨S512, .f32⟩
  | 79 => ⟨S1x512, .f32⟩
  | 80 => ⟨S8192x512, .f32⟩
  | 81 => ⟨S8192x512, .f32⟩
  | 82 => ⟨S_, .f32⟩
  | 83 => ⟨S512, .f32⟩
  | 84 => ⟨S1x512, .f32⟩
  | 85 => ⟨S_, .f32⟩
  | 86 => ⟨S31x512, .f32⟩
  | 87 => ⟨S31x512, .f32⟩
  | 88 => ⟨S_, .f32⟩
  | 89 => ⟨S8222x512, .f32⟩
  | 90 => ⟨S8222x512, .f32⟩
  | 91 => ⟨S8192x512, .f32⟩
  | 92 => ⟨S_, .f32⟩
  | 93 => ⟨S512, .f32⟩
  | 94 => ⟨S1x512, .f32⟩
  | 95 => ⟨S8192x512, .f32⟩
  | 96 => ⟨S8192x512, .f32⟩
  | 97 => ⟨S_, .f32⟩
  | 98 => ⟨S512, .f32⟩
  | 99 => ⟨S1x512, .f32⟩
  | 100 => ⟨S_, .f32⟩
  | 101 => ⟨S31x512, .f32⟩
  | 102 => ⟨S31x512, .f32⟩
  | 103 => ⟨S_, .f32⟩
  | 104 => ⟨S8222x512, .f32⟩
  | 105 => ⟨S8222x512, .f32⟩
  | 106 => ⟨S8192x512, .f32⟩
  | 107 => ⟨S_, .f32⟩
  | 108 => ⟨S512, .f32⟩
  | 109 => ⟨S1x512, .f32⟩
  | 110 => ⟨S8192x512, .f32⟩
  | 111 => ⟨S8192x512, .f32⟩
  | 112 => ⟨S_, .f32⟩
  | 113 => ⟨S512, .f32⟩
  | 114 => ⟨S1x512, .f32⟩
  | 115 => ⟨S_, .f32⟩
  | 116 => ⟨S31x512, .f32⟩
  | 117 => ⟨S31x512, .f32⟩
  | 118 => ⟨S_, .f32⟩
  | 119 => ⟨S8222x512, .f32⟩
  | 120 => ⟨S8222x512, .f32⟩
  | 121 => ⟨S8192x512, .f32⟩
  | 122 => ⟨S_, .f32⟩
  | 123 => ⟨S512, .f32⟩
  | 124 => ⟨S1x512, .f32⟩
  | 125 => ⟨S8192x512, .f32⟩
  | 126 => ⟨S8192x512, .f32⟩
  | 127 => ⟨S_, .f32⟩
  | _ => ⟨S8192x1024, .f32⟩

abbrev hbmTy0_5 (i : Nat) : BufTy := match i % 128 with
  | 0 => ⟨S512, .f32⟩
  | 1 => ⟨S1x512, .f32⟩
  | 2 => ⟨S_, .f32⟩
  | 3 => ⟨S31x512, .f32⟩
  | 4 => ⟨S31x512, .f32⟩
  | 5 => ⟨S_, .f32⟩
  | 6 => ⟨S8222x512, .f32⟩
  | 7 => ⟨S8222x512, .f32⟩
  | 8 => ⟨S8192x512, .f32⟩
  | 9 => ⟨S_, .f32⟩
  | 10 => ⟨S512, .f32⟩
  | 11 => ⟨S1x512, .f32⟩
  | 12 => ⟨S8192x512, .f32⟩
  | 13 => ⟨S8192x512, .f32⟩
  | 14 => ⟨S_, .f32⟩
  | 15 => ⟨S512, .f32⟩
  | 16 => ⟨S1x512, .f32⟩
  | 17 => ⟨S_, .f32⟩
  | 18 => ⟨S31x512, .f32⟩
  | 19 => ⟨S31x512, .f32⟩
  | 20 => ⟨S_, .f32⟩
  | 21 => ⟨S8222x512, .f32⟩
  | 22 => ⟨S8222x512, .f32⟩
  | 23 => ⟨S8192x512, .f32⟩
  | 24 => ⟨S_, .f32⟩
  | 25 => ⟨S512, .f32⟩
  | 26 => ⟨S1x512, .f32⟩
  | 27 => ⟨S8192x512, .f32⟩
  | 28 => ⟨S8192x512, .f32⟩
  | 29 => ⟨S_, .f32⟩
  | 30 => ⟨S512, .f32⟩
  | 31 => ⟨S1x512, .f32⟩
  | 32 => ⟨S_, .f32⟩
  | 33 => ⟨S31x512, .f32⟩
  | 34 => ⟨S31x512, .f32⟩
  | 35 => ⟨S_, .f32⟩
  | 36 => ⟨S8222x512, .f32⟩
  | 37 => ⟨S8222x512, .f32⟩
  | 38 => ⟨S8192x512, .f32⟩
  | 39 => ⟨S_, .f32⟩
  | 40 => ⟨S512, .f32⟩
  | 41 => ⟨S1x512, .f32⟩
  | 42 => ⟨S8192x512, .f32⟩
  | 43 => ⟨S8192x512, .f32⟩
  | 44 => ⟨S_, .f32⟩
  | 45 => ⟨S512, .f32⟩
  | 46 => ⟨S1x512, .f32⟩
  | 47 => ⟨S_, .f32⟩
  | 48 => ⟨S31x512, .f32⟩
  | 49 => ⟨S31x512, .f32⟩
  | 50 => ⟨S_, .f32⟩
  | 51 => ⟨S8222x512, .f32⟩
  | 52 => ⟨S8222x512, .f32⟩
  | 53 => ⟨S8192x512, .f32⟩
  | 54 => ⟨S_, .f32⟩
  | 55 => ⟨S512, .f32⟩
  | 56 => ⟨S1x512, .f32⟩
  | 57 => ⟨S8192x512, .f32⟩
  | 58 => ⟨S8192x512, .f32⟩
  | 59 => ⟨S_, .f32⟩
  | 60 => ⟨S512, .f32⟩
  | 61 => ⟨S1x512, .f32⟩
  | 62 => ⟨S_, .f32⟩
  | 63 => ⟨S31x512, .f32⟩
  | 64 => ⟨S31x512, .f32⟩
  | 65 => ⟨S_, .f32⟩
  | 66 => ⟨S8222x512, .f32⟩
  | 67 => ⟨S8222x512, .f32⟩
  | 68 => ⟨S8192x512, .f32⟩
  | 69 => ⟨S_, .f32⟩
  | 70 => ⟨S512, .f32⟩
  | 71 => ⟨S1x512, .f32⟩
  | 72 => ⟨S8192x512, .f32⟩
  | 73 => ⟨S8192x512, .f32⟩
  | 74 => ⟨S_, .f32⟩
  | 75 => ⟨S512, .f32⟩
  | 76 => ⟨S1x512, .f32⟩
  | 77 => ⟨S_, .f32⟩
  | 78 => ⟨S31x512, .f32⟩
  | 79 => ⟨S31x512, .f32⟩
  | 80 => ⟨S_, .f32⟩
  | 81 => ⟨S8222x512, .f32⟩
  | 82 => ⟨S8222x512, .f32⟩
  | 83 => ⟨S8192x512, .f32⟩
  | 84 => ⟨S_, .f32⟩
  | 85 => ⟨S512, .f32⟩
  | 86 => ⟨S1x512, .f32⟩
  | 87 => ⟨S8192x512, .f32⟩
  | 88 => ⟨S8192x512, .f32⟩
  | 89 => ⟨S_, .f32⟩
  | 90 => ⟨S512, .f32⟩
  | 91 => ⟨S1x512, .f32⟩
  | 92 => ⟨S_, .f32⟩
  | 93 => ⟨S31x512, .f32⟩
  | 94 => ⟨S31x512, .f32⟩
  | 95 => ⟨S_, .f32⟩
  | 96 => ⟨S8222x512, .f32⟩
  | 97 => ⟨S8222x512, .f32⟩
  | 98 => ⟨S8192x512, .f32⟩
  | 99 => ⟨S_, .f32⟩
  | 100 => ⟨S512, .f32⟩
  | 101 => ⟨S1x512, .f32⟩
  | 102 => ⟨S8192x512, .f32⟩
  | 103 => ⟨S8192x512, .f32⟩
  | 104 => ⟨S_, .f32⟩
  | 105 => ⟨S512, .f32⟩
  | 106 => ⟨S1x512, .f32⟩
  | 107 => ⟨S_, .f32⟩
  | 108 => ⟨S31x512, .f32⟩
  | 109 => ⟨S31x512, .f32⟩
  | 110 => ⟨S_, .f32⟩
  | 111 => ⟨S8222x512, .f32⟩
  | 112 => ⟨S8222x512, .f32⟩
  | 113 => ⟨S8192x512, .f32⟩
  | 114 => ⟨S_, .f32⟩
  | 115 => ⟨S512, .f32⟩
  | 116 => ⟨S1x512, .f32⟩
  | 117 => ⟨S8192x512, .f32⟩
  | 118 => ⟨S8192x512, .f32⟩
  | 119 => ⟨S_, .f32⟩
  | 120 => ⟨S512, .f32⟩
  | 121 => ⟨S1x512, .f32⟩
  | 122 => ⟨S_, .f32⟩
  | 123 => ⟨S31x512, .f32⟩
  | 124 => ⟨S31x512, .f32⟩
  | 125 => ⟨S_, .f32⟩
  | 126 => ⟨S8222x512, .f32⟩
  | 127 => ⟨S8222x512, .f32⟩
  | _ => ⟨S8192x1024, .f32⟩

abbrev hbmTy0_6 (i : Nat) : BufTy := match i % 128 with
  | 0 => ⟨S8192x512, .f32⟩
  | 1 => ⟨S_, .f32⟩
  | 2 => ⟨S512, .f32⟩
  | 3 => ⟨S1x512, .f32⟩
  | 4 => ⟨S8192x512, .f32⟩
  | 5 => ⟨S8192x512, .f32⟩
  | 6 => ⟨S_, .f32⟩
  | 7 => ⟨S512, .f32⟩
  | 8 => ⟨S1x512, .f32⟩
  | 9 => ⟨S_, .f32⟩
  | 10 => ⟨S31x512, .f32⟩
  | 11 => ⟨S31x512, .f32⟩
  | 12 => ⟨S_, .f32⟩
  | 13 => ⟨S8222x512, .f32⟩
  | 14 => ⟨S8222x512, .f32⟩
  | 15 => ⟨S8192x512, .f32⟩
  | 16 => ⟨S_, .f32⟩
  | 17 => ⟨S512, .f32⟩
  | 18 => ⟨S1x512, .f32⟩
  | 19 => ⟨S8192x512, .f32⟩
  | 20 => ⟨S8192x512, .f32⟩
  | 21 => ⟨S_, .f32⟩
  | 22 => ⟨S512, .f32⟩
  | 23 => ⟨S1x512, .f32⟩
  | 24 => ⟨S_, .f32⟩
  | 25 => ⟨S31x512, .f32⟩
  | 26 => ⟨S31x512, .f32⟩
  | 27 => ⟨S_, .f32⟩
  | 28 => ⟨S8222x512, .f32⟩
  | 29 => ⟨S8222x512, .f32⟩
  | 30 => ⟨S8192x512, .f32⟩
  | 31 => ⟨S_, .f32⟩
  | 32 => ⟨S512, .f32⟩
  | 33 => ⟨S1x512, .f32⟩
  | 34 => ⟨S8192x512, .f32⟩
  | 35 => ⟨S8192x512, .f32⟩
  | 36 => ⟨S_, .f32⟩
  | 37 => ⟨S512, .f32⟩
  | 38 => ⟨S1x512, .f32⟩
  | 39 => ⟨S_, .f32⟩
  | 40 => ⟨S31x512, .f32⟩
  | 41 => ⟨S31x512, .f32⟩
  | 42 => ⟨S_, .f32⟩
  | 43 => ⟨S8222x512, .f32⟩
  | 44 => ⟨S8222x512, .f32⟩
  | 45 => ⟨S30x512, .f32⟩
  | 46 => ⟨S8192x512, .f32⟩
  | 47 => ⟨S8192x512, .f32⟩
  | 48 => ⟨S8192x512, .f32⟩
  | 49 => ⟨S8192x512, .f32⟩
  | 50 => ⟨S8192x1024, .f32⟩
  | 51 => ⟨S8192x1024, .bf16⟩
  | 52 => ⟨S_, .i32⟩
  | 53 => ⟨S_, .f32⟩
  | 54 => ⟨S32x512, .f32⟩
  | 55 => ⟨S1x512, .f32⟩
  | 56 => ⟨S1x512, .f32⟩
  | 57 => ⟨S1x512, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v29_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v29_1 : Ref sig .tc := ⟨.hbm, 53, rfl⟩
abbrev main_v29_0 : Ref sig .tc := ⟨.hbm, 54, rfl⟩
abbrev main_v30 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_cst_7 : Ref sig .tc := ⟨.hbm, 63, rfl⟩
abbrev main_v34 : Ref sig .tc := ⟨.hbm, 64, rfl⟩
abbrev main_v35 : Ref sig .tc := ⟨.hbm, 65, rfl⟩
abbrev main_cst_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_9 : Ref sig .tc := ⟨.hbm, 71, rfl⟩
abbrev main_v40 : Ref sig .tc := ⟨.hbm, 72, rfl⟩
abbrev main_v41 : Ref sig .tc := ⟨.hbm, 73, rfl⟩
abbrev main_cst_10 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_11 : Ref sig .tc := ⟨.hbm, 81, rfl⟩
abbrev main_v48 : Ref sig .tc := ⟨.hbm, 82, rfl⟩
abbrev main_v49 : Ref sig .tc := ⟨.hbm, 83, rfl⟩
abbrev main_cst_12 : Ref sig .tc := ⟨.hbm, 84, rfl⟩
abbrev main_v50 : Ref sig .tc := ⟨.hbm, 85, rfl⟩
abbrev main_v51 : Ref sig .tc := ⟨.hbm, 86, rfl⟩
abbrev main_cst_13 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_14 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_15 : Ref sig .tc := ⟨.hbm, 97, rfl⟩
abbrev main_v60 : Ref sig .tc := ⟨.hbm, 98, rfl⟩
abbrev main_v61 : Ref sig .tc := ⟨.hbm, 99, rfl⟩
abbrev main_cst_16 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_17 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_18 : Ref sig .tc := ⟨.hbm, 110, rfl⟩
abbrev main_v70 : Ref sig .tc := ⟨.hbm, 111, rfl⟩
abbrev main_v71 : Ref sig .tc := ⟨.hbm, 112, rfl⟩
abbrev main_cst_19 : Ref sig .tc := ⟨.hbm, 113, rfl⟩
abbrev main_v72 : Ref sig .tc := ⟨.hbm, 114, rfl⟩
abbrev main_v73 : Ref sig .tc := ⟨.hbm, 115, rfl⟩
abbrev main_cst_20 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_21 : Ref sig .tc := ⟨.hbm, 121, rfl⟩
abbrev main_v78 : Ref sig .tc := ⟨.hbm, 122, rfl⟩
abbrev main_v79 : Ref sig .tc := ⟨.hbm, 123, rfl⟩
abbrev main_cst_22 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_v264 : Ref sig .tc := ⟨.hbm, 309, rfl⟩
abbrev main_v265 : Ref sig .tc := ⟨.hbm, 310, rfl⟩
abbrev main_v266 : Ref sig .tc := ⟨.hbm, 311, rfl⟩
abbrev main_v267 : Ref sig .tc := ⟨.hbm, 312, rfl⟩
abbrev main_v268 : Ref sig .tc := ⟨.hbm, 313, rfl⟩
abbrev main_v269 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_v282 : Ref sig .tc := ⟨.hbm, 327, rfl⟩
abbrev main_v283 : Ref sig .tc := ⟨.hbm, 328, rfl⟩
abbrev main_v284 : Ref sig .tc := ⟨.hbm, 329, rfl⟩
abbrev main_v285 : Ref sig .tc := ⟨.hbm, 330, rfl⟩
abbrev main_v286 : Ref sig .tc := ⟨.hbm, 331, rfl⟩
abbrev main_v287 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩
abbrev main_v294 : Ref sig .tc := ⟨.hbm, 339, rfl⟩
abbrev main_v295 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_cst_23 : Ref sig .tc := ⟨.hbm, 345, rfl⟩
abbrev main_v300 : Ref sig .tc := ⟨.hbm, 346, rfl⟩
abbrev main_v301 : Ref sig .tc := ⟨.hbm, 347, rfl⟩
abbrev main_cst_24 : Ref sig .tc := ⟨.hbm, 348, rfl⟩
abbrev main_v302 : Ref sig .tc := ⟨.hbm, 349, rfl⟩
abbrev main_v303 : Ref sig .tc := ⟨.hbm, 350, rfl⟩
abbrev main_cst_25 : Ref sig .tc := ⟨.hbm, 351, rfl⟩
abbrev main_v304 : Ref sig .tc := ⟨.hbm, 352, rfl⟩
abbrev main_v305 : Ref sig .tc := ⟨.hbm, 353, rfl⟩
abbrev main_v306 : Ref sig .tc := ⟨.hbm, 354, rfl⟩
abbrev main_v307 : Ref sig .tc := ⟨.hbm, 355, rfl⟩
abbrev main_cst_26 : Ref sig .tc := ⟨.hbm, 356, rfl⟩
abbrev main_v308 : Ref sig .tc := ⟨.hbm, 357, rfl⟩
abbrev main_v309 : Ref sig .tc := ⟨.hbm, 358, rfl⟩
abbrev main_cst_27 : Ref sig .tc := ⟨.hbm, 359, rfl⟩
abbrev main_v310 : Ref sig .tc := ⟨.hbm, 360, rfl⟩
abbrev main_cst_28 : Ref sig .tc := ⟨.hbm, 361, rfl⟩
abbrev main_v311 : Ref sig .tc := ⟨.hbm, 362, rfl⟩
abbrev main_v312 : Ref sig .tc := ⟨.hbm, 363, rfl⟩
abbrev main_cst_29 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_cst_30 : Ref sig .tc := ⟨.hbm, 369, rfl⟩
abbrev main_v317 : Ref sig .tc := ⟨.hbm, 370, rfl⟩
abbrev main_v318 : Ref sig .tc := ⟨.hbm, 371, rfl⟩
abbrev main_cst_31 : Ref sig .tc := ⟨.hbm, 372, rfl⟩
abbrev main_v319 : Ref sig .tc := ⟨.hbm, 373, rfl⟩
abbrev main_v320 : Ref sig .tc := ⟨.hbm, 374, rfl⟩
abbrev main_cst_32 : Ref sig .tc := ⟨.hbm, 375, rfl⟩
abbrev main_v321 : Ref sig .tc := ⟨.hbm, 376, rfl⟩
abbrev main_v322 : Ref sig .tc := ⟨.hbm, 377, rfl⟩
abbrev main_v323 : Ref sig .tc := ⟨.hbm, 378, rfl⟩
abbrev main_cst_33 : Ref sig .tc := ⟨.hbm, 379, rfl⟩
abbrev main_v324 : Ref sig .tc := ⟨.hbm, 380, rfl⟩
abbrev main_v325 : Ref sig .tc := ⟨.hbm, 381, rfl⟩
abbrev main_v326 : Ref sig .tc := ⟨.hbm, 382, rfl⟩
abbrev main_v327 : Ref sig .tc := ⟨.hbm, 383, rfl⟩
abbrev main_cst_34 : Ref sig .tc := ⟨.hbm, 384, rfl⟩
abbrev main_v328 : Ref sig .tc := ⟨.hbm, 385, rfl⟩
abbrev main_v329 : Ref sig .tc := ⟨.hbm, 386, rfl⟩
abbrev main_cst_35 : Ref sig .tc := ⟨.hbm, 387, rfl⟩
abbrev main_v330 : Ref sig .tc := ⟨.hbm, 388, rfl⟩
abbrev main_v331 : Ref sig .tc := ⟨.hbm, 389, rfl⟩
abbrev main_cst_36 : Ref sig .tc := ⟨.hbm, 390, rfl⟩
abbrev main_v332 : Ref sig .tc := ⟨.hbm, 391, rfl⟩
abbrev main_v333 : Ref sig .tc := ⟨.hbm, 392, rfl⟩
abbrev main_v334 : Ref sig .tc := ⟨.hbm, 393, rfl⟩
abbrev main_cst_37 : Ref sig .tc := ⟨.hbm, 394, rfl⟩
abbrev main_v335 : Ref sig .tc := ⟨.hbm, 395, rfl⟩
abbrev main_v336 : Ref sig .tc := ⟨.hbm, 396, rfl⟩
abbrev main_v337 : Ref sig .tc := ⟨.hbm, 397, rfl⟩
abbrev main_v338 : Ref sig .tc := ⟨.hbm, 398, rfl⟩
abbrev main_cst_38 : Ref sig .tc := ⟨.hbm, 399, rfl⟩
abbrev main_v339 : Ref sig .tc := ⟨.hbm, 400, rfl⟩
abbrev main_v340 : Ref sig .tc := ⟨.hbm, 401, rfl⟩
abbrev main_cst_39 : Ref sig .tc := ⟨.hbm, 402, rfl⟩
abbrev main_v341 : Ref sig .tc := ⟨.hbm, 403, rfl⟩
abbrev main_v342 : Ref sig .tc := ⟨.hbm, 404, rfl⟩
abbrev main_cst_40 : Ref sig .tc := ⟨.hbm, 405, rfl⟩
abbrev main_v343 : Ref sig .tc := ⟨.hbm, 406, rfl⟩
abbrev main_v344 : Ref sig .tc := ⟨.hbm, 407, rfl⟩
abbrev main_v345 : Ref sig .tc := ⟨.hbm, 408, rfl⟩
abbrev main_cst_41 : Ref sig .tc := ⟨.hbm, 409, rfl⟩
abbrev main_v346 : Ref sig .tc := ⟨.hbm, 410, rfl⟩
abbrev main_v347 : Ref sig .tc := ⟨.hbm, 411, rfl⟩
abbrev main_v348 : Ref sig .tc := ⟨.hbm, 412, rfl⟩
abbrev main_v349 : Ref sig .tc := ⟨.hbm, 413, rfl⟩
abbrev main_cst_42 : Ref sig .tc := ⟨.hbm, 414, rfl⟩
abbrev main_v350 : Ref sig .tc := ⟨.hbm, 415, rfl⟩
abbrev main_v351 : Ref sig .tc := ⟨.hbm, 416, rfl⟩
abbrev main_cst_43 : Ref sig .tc := ⟨.hbm, 417, rfl⟩
abbrev main_v352 : Ref sig .tc := ⟨.hbm, 418, rfl⟩
abbrev main_v353 : Ref sig .tc := ⟨.hbm, 419, rfl⟩
abbrev main_cst_44 : Ref sig .tc := ⟨.hbm, 420, rfl⟩
abbrev main_v354 : Ref sig .tc := ⟨.hbm, 421, rfl⟩
abbrev main_v355 : Ref sig .tc := ⟨.hbm, 422, rfl⟩
abbrev main_v356 : Ref sig .tc := ⟨.hbm, 423, rfl⟩
abbrev main_cst_45 : Ref sig .tc := ⟨.hbm, 424, rfl⟩
abbrev main_v357 : Ref sig .tc := ⟨.hbm, 425, rfl⟩
abbrev main_v358 : Ref sig .tc := ⟨.hbm, 426, rfl⟩
abbrev main_v359 : Ref sig .tc := ⟨.hbm, 427, rfl⟩
abbrev main_v360 : Ref sig .tc := ⟨.hbm, 428, rfl⟩
abbrev main_cst_46 : Ref sig .tc := ⟨.hbm, 429, rfl⟩
abbrev main_v361 : Ref sig .tc := ⟨.hbm, 430, rfl⟩
abbrev main_v362 : Ref sig .tc := ⟨.hbm, 431, rfl⟩
abbrev main_cst_47 : Ref sig .tc := ⟨.hbm, 432, rfl⟩
abbrev main_v363 : Ref sig .tc := ⟨.hbm, 433, rfl⟩
abbrev main_v364 : Ref sig .tc := ⟨.hbm, 434, rfl⟩
abbrev main_cst_48 : Ref sig .tc := ⟨.hbm, 435, rfl⟩
abbrev main_v365 : Ref sig .tc := ⟨.hbm, 436, rfl⟩
abbrev main_v366 : Ref sig .tc := ⟨.hbm, 437, rfl⟩
abbrev main_v367 : Ref sig .tc := ⟨.hbm, 438, rfl⟩
abbrev main_cst_49 : Ref sig .tc := ⟨.hbm, 439, rfl⟩
abbrev main_v368 : Ref sig .tc := ⟨.hbm, 440, rfl⟩
abbrev main_v369 : Ref sig .tc := ⟨.hbm, 441, rfl⟩
abbrev main_v370 : Ref sig .tc := ⟨.hbm, 442, rfl⟩
abbrev main_v371 : Ref sig .tc := ⟨.hbm, 443, rfl⟩
abbrev main_cst_50 : Ref sig .tc := ⟨.hbm, 444, rfl⟩
abbrev main_v372 : Ref sig .tc := ⟨.hbm, 445, rfl⟩
abbrev main_v373 : Ref sig .tc := ⟨.hbm, 446, rfl⟩
abbrev main_cst_51 : Ref sig .tc := ⟨.hbm, 447, rfl⟩
abbrev main_v374 : Ref sig .tc := ⟨.hbm, 448, rfl⟩
abbrev main_v375 : Ref sig .tc := ⟨.hbm, 449, rfl⟩
abbrev main_cst_52 : Ref sig .tc := ⟨.hbm, 450, rfl⟩
abbrev main_v376 : Ref sig .tc := ⟨.hbm, 451, rfl⟩
abbrev main_v377 : Ref sig .tc := ⟨.hbm, 452, rfl⟩
abbrev main_v378 : Ref sig .tc := ⟨.hbm, 453, rfl⟩
abbrev main_cst_53 : Ref sig .tc := ⟨.hbm, 454, rfl⟩
abbrev main_v379 : Ref sig .tc := ⟨.hbm, 455, rfl⟩
abbrev main_v380 : Ref sig .tc := ⟨.hbm, 456, rfl⟩
abbrev main_v381 : Ref sig .tc := ⟨.hbm, 457, rfl⟩
abbrev main_v382 : Ref sig .tc := ⟨.hbm, 458, rfl⟩
abbrev main_cst_54 : Ref sig .tc := ⟨.hbm, 459, rfl⟩
abbrev main_v383 : Ref sig .tc := ⟨.hbm, 460, rfl⟩
abbrev main_v384 : Ref sig .tc := ⟨.hbm, 461, rfl⟩
abbrev main_cst_55 : Ref sig .tc := ⟨.hbm, 462, rfl⟩
abbrev main_v385 : Ref sig .tc := ⟨.hbm, 463, rfl⟩
abbrev main_v386 : Ref sig .tc := ⟨.hbm, 464, rfl⟩
abbrev main_cst_56 : Ref sig .tc := ⟨.hbm, 465, rfl⟩
abbrev main_v387 : Ref sig .tc := ⟨.hbm, 466, rfl⟩
abbrev main_v388 : Ref sig .tc := ⟨.hbm, 467, rfl⟩
abbrev main_v389 : Ref sig .tc := ⟨.hbm, 468, rfl⟩
abbrev main_cst_57 : Ref sig .tc := ⟨.hbm, 469, rfl⟩
abbrev main_v390 : Ref sig .tc := ⟨.hbm, 470, rfl⟩
abbrev main_v391 : Ref sig .tc := ⟨.hbm, 471, rfl⟩
abbrev main_v392 : Ref sig .tc := ⟨.hbm, 472, rfl⟩
abbrev main_v393 : Ref sig .tc := ⟨.hbm, 473, rfl⟩
abbrev main_cst_58 : Ref sig .tc := ⟨.hbm, 474, rfl⟩
abbrev main_v394 : Ref sig .tc := ⟨.hbm, 475, rfl⟩
abbrev main_v395 : Ref sig .tc := ⟨.hbm, 476, rfl⟩
abbrev main_cst_59 : Ref sig .tc := ⟨.hbm, 477, rfl⟩
abbrev main_v396 : Ref sig .tc := ⟨.hbm, 478, rfl⟩
abbrev main_v397 : Ref sig .tc := ⟨.hbm, 479, rfl⟩
abbrev main_cst_60 : Ref sig .tc := ⟨.hbm, 480, rfl⟩
abbrev main_v398 : Ref sig .tc := ⟨.hbm, 481, rfl⟩
abbrev main_v399 : Ref sig .tc := ⟨.hbm, 482, rfl⟩
abbrev main_v400 : Ref sig .tc := ⟨.hbm, 483, rfl⟩
abbrev main_cst_61 : Ref sig .tc := ⟨.hbm, 484, rfl⟩
abbrev main_v401 : Ref sig .tc := ⟨.hbm, 485, rfl⟩
abbrev main_v402 : Ref sig .tc := ⟨.hbm, 486, rfl⟩
abbrev main_v403 : Ref sig .tc := ⟨.hbm, 487, rfl⟩
abbrev main_v404 : Ref sig .tc := ⟨.hbm, 488, rfl⟩
abbrev main_cst_62 : Ref sig .tc := ⟨.hbm, 489, rfl⟩
abbrev main_v405 : Ref sig .tc := ⟨.hbm, 490, rfl⟩
abbrev main_v406 : Ref sig .tc := ⟨.hbm, 491, rfl⟩
abbrev main_cst_63 : Ref sig .tc := ⟨.hbm, 492, rfl⟩
abbrev main_v407 : Ref sig .tc := ⟨.hbm, 493, rfl⟩
abbrev main_v408 : Ref sig .tc := ⟨.hbm, 494, rfl⟩
abbrev main_cst_64 : Ref sig .tc := ⟨.hbm, 495, rfl⟩
abbrev main_v409 : Ref sig .tc := ⟨.hbm, 496, rfl⟩
abbrev main_v410 : Ref sig .tc := ⟨.hbm, 497, rfl⟩
abbrev main_v411 : Ref sig .tc := ⟨.hbm, 498, rfl⟩
abbrev main_cst_65 : Ref sig .tc := ⟨.hbm, 499, rfl⟩
abbrev main_v412 : Ref sig .tc := ⟨.hbm, 500, rfl⟩
abbrev main_v413 : Ref sig .tc := ⟨.hbm, 501, rfl⟩
abbrev main_v414 : Ref sig .tc := ⟨.hbm, 502, rfl⟩
abbrev main_v415 : Ref sig .tc := ⟨.hbm, 503, rfl⟩
abbrev main_cst_66 : Ref sig .tc := ⟨.hbm, 504, rfl⟩
abbrev main_v416 : Ref sig .tc := ⟨.hbm, 505, rfl⟩
abbrev main_v417 : Ref sig .tc := ⟨.hbm, 506, rfl⟩
abbrev main_cst_67 : Ref sig .tc := ⟨.hbm, 507, rfl⟩
abbrev main_v418 : Ref sig .tc := ⟨.hbm, 508, rfl⟩
abbrev main_v419 : Ref sig .tc := ⟨.hbm, 509, rfl⟩
abbrev main_cst_68 : Ref sig .tc := ⟨.hbm, 510, rfl⟩
abbrev main_v420 : Ref sig .tc := ⟨.hbm, 511, rfl⟩
abbrev main_v421 : Ref sig .tc := ⟨.hbm, 512, rfl⟩
abbrev main_v422 : Ref sig .tc := ⟨.hbm, 513, rfl⟩
abbrev main_cst_69 : Ref sig .tc := ⟨.hbm, 514, rfl⟩
abbrev main_v423 : Ref sig .tc := ⟨.hbm, 515, rfl⟩
abbrev main_v424 : Ref sig .tc := ⟨.hbm, 516, rfl⟩
abbrev main_v425 : Ref sig .tc := ⟨.hbm, 517, rfl⟩
abbrev main_v426 : Ref sig .tc := ⟨.hbm, 518, rfl⟩
abbrev main_cst_70 : Ref sig .tc := ⟨.hbm, 519, rfl⟩
abbrev main_v427 : Ref sig .tc := ⟨.hbm, 520, rfl⟩
abbrev main_v428 : Ref sig .tc := ⟨.hbm, 521, rfl⟩
abbrev main_cst_71 : Ref sig .tc := ⟨.hbm, 522, rfl⟩
abbrev main_v429 : Ref sig .tc := ⟨.hbm, 523, rfl⟩
abbrev main_v430 : Ref sig .tc := ⟨.hbm, 524, rfl⟩
abbrev main_cst_72 : Ref sig .tc := ⟨.hbm, 525, rfl⟩
abbrev main_v431 : Ref sig .tc := ⟨.hbm, 526, rfl⟩
abbrev main_v432 : Ref sig .tc := ⟨.hbm, 527, rfl⟩
abbrev main_v433 : Ref sig .tc := ⟨.hbm, 528, rfl⟩
abbrev main_cst_73 : Ref sig .tc := ⟨.hbm, 529, rfl⟩
abbrev main_v434 : Ref sig .tc := ⟨.hbm, 530, rfl⟩
abbrev main_v435 : Ref sig .tc := ⟨.hbm, 531, rfl⟩
abbrev main_v436 : Ref sig .tc := ⟨.hbm, 532, rfl⟩
abbrev main_v437 : Ref sig .tc := ⟨.hbm, 533, rfl⟩
abbrev main_cst_74 : Ref sig .tc := ⟨.hbm, 534, rfl⟩
abbrev main_v438 : Ref sig .tc := ⟨.hbm, 535, rfl⟩
abbrev main_v439 : Ref sig .tc := ⟨.hbm, 536, rfl⟩
abbrev main_cst_75 : Ref sig .tc := ⟨.hbm, 537, rfl⟩
abbrev main_v440 : Ref sig .tc := ⟨.hbm, 538, rfl⟩
abbrev main_v441 : Ref sig .tc := ⟨.hbm, 539, rfl⟩
abbrev main_cst_76 : Ref sig .tc := ⟨.hbm, 540, rfl⟩
abbrev main_v442 : Ref sig .tc := ⟨.hbm, 541, rfl⟩
abbrev main_v443 : Ref sig .tc := ⟨.hbm, 542, rfl⟩
abbrev main_v444 : Ref sig .tc := ⟨.hbm, 543, rfl⟩
abbrev main_cst_77 : Ref sig .tc := ⟨.hbm, 544, rfl⟩
abbrev main_v445 : Ref sig .tc := ⟨.hbm, 545, rfl⟩
abbrev main_v446 : Ref sig .tc := ⟨.hbm, 546, rfl⟩
abbrev main_v447 : Ref sig .tc := ⟨.hbm, 547, rfl⟩
abbrev main_v448 : Ref sig .tc := ⟨.hbm, 548, rfl⟩
abbrev main_cst_78 : Ref sig .tc := ⟨.hbm, 549, rfl⟩
abbrev main_v449 : Ref sig .tc := ⟨.hbm, 550, rfl⟩
abbrev main_v450 : Ref sig .tc := ⟨.hbm, 551, rfl⟩
abbrev main_cst_79 : Ref sig .tc := ⟨.hbm, 552, rfl⟩
abbrev main_v451 : Ref sig .tc := ⟨.hbm, 553, rfl⟩
abbrev main_v452 : Ref sig .tc := ⟨.hbm, 554, rfl⟩
abbrev main_cst_80 : Ref sig .tc := ⟨.hbm, 555, rfl⟩
abbrev main_v453 : Ref sig .tc := ⟨.hbm, 556, rfl⟩
abbrev main_v454 : Ref sig .tc := ⟨.hbm, 557, rfl⟩
abbrev main_v455 : Ref sig .tc := ⟨.hbm, 558, rfl⟩
abbrev main_cst_81 : Ref sig .tc := ⟨.hbm, 559, rfl⟩
abbrev main_v456 : Ref sig .tc := ⟨.hbm, 560, rfl⟩
abbrev main_v457 : Ref sig .tc := ⟨.hbm, 561, rfl⟩
abbrev main_v458 : Ref sig .tc := ⟨.hbm, 562, rfl⟩
abbrev main_v459 : Ref sig .tc := ⟨.hbm, 563, rfl⟩
abbrev main_cst_82 : Ref sig .tc := ⟨.hbm, 564, rfl⟩
abbrev main_v460 : Ref sig .tc := ⟨.hbm, 565, rfl⟩
abbrev main_v461 : Ref sig .tc := ⟨.hbm, 566, rfl⟩
abbrev main_cst_83 : Ref sig .tc := ⟨.hbm, 567, rfl⟩
abbrev main_v462 : Ref sig .tc := ⟨.hbm, 568, rfl⟩
abbrev main_v463 : Ref sig .tc := ⟨.hbm, 569, rfl⟩
abbrev main_cst_84 : Ref sig .tc := ⟨.hbm, 570, rfl⟩
abbrev main_v464 : Ref sig .tc := ⟨.hbm, 571, rfl⟩
abbrev main_v465 : Ref sig .tc := ⟨.hbm, 572, rfl⟩
abbrev main_v466 : Ref sig .tc := ⟨.hbm, 573, rfl⟩
abbrev main_cst_85 : Ref sig .tc := ⟨.hbm, 574, rfl⟩
abbrev main_v467 : Ref sig .tc := ⟨.hbm, 575, rfl⟩
abbrev main_v468 : Ref sig .tc := ⟨.hbm, 576, rfl⟩
abbrev main_v469 : Ref sig .tc := ⟨.hbm, 577, rfl⟩
abbrev main_v470 : Ref sig .tc := ⟨.hbm, 578, rfl⟩
abbrev main_cst_86 : Ref sig .tc := ⟨.hbm, 579, rfl⟩
abbrev main_v471 : Ref sig .tc := ⟨.hbm, 580, rfl⟩
abbrev main_v472 : Ref sig .tc := ⟨.hbm, 581, rfl⟩
abbrev main_cst_87 : Ref sig .tc := ⟨.hbm, 582, rfl⟩
abbrev main_v473 : Ref sig .tc := ⟨.hbm, 583, rfl⟩
abbrev main_v474 : Ref sig .tc := ⟨.hbm, 584, rfl⟩
abbrev main_cst_88 : Ref sig .tc := ⟨.hbm, 585, rfl⟩
abbrev main_v475 : Ref sig .tc := ⟨.hbm, 586, rfl⟩
abbrev main_v476 : Ref sig .tc := ⟨.hbm, 587, rfl⟩
abbrev main_v477 : Ref sig .tc := ⟨.hbm, 588, rfl⟩
abbrev main_cst_89 : Ref sig .tc := ⟨.hbm, 589, rfl⟩
abbrev main_v478 : Ref sig .tc := ⟨.hbm, 590, rfl⟩
abbrev main_v479 : Ref sig .tc := ⟨.hbm, 591, rfl⟩
abbrev main_v480 : Ref sig .tc := ⟨.hbm, 592, rfl⟩
abbrev main_v481 : Ref sig .tc := ⟨.hbm, 593, rfl⟩
abbrev main_cst_90 : Ref sig .tc := ⟨.hbm, 594, rfl⟩
abbrev main_v482 : Ref sig .tc := ⟨.hbm, 595, rfl⟩
abbrev main_v483 : Ref sig .tc := ⟨.hbm, 596, rfl⟩
abbrev main_cst_91 : Ref sig .tc := ⟨.hbm, 597, rfl⟩
abbrev main_v484 : Ref sig .tc := ⟨.hbm, 598, rfl⟩
abbrev main_v485 : Ref sig .tc := ⟨.hbm, 599, rfl⟩
abbrev main_cst_92 : Ref sig .tc := ⟨.hbm, 600, rfl⟩
abbrev main_v486 : Ref sig .tc := ⟨.hbm, 601, rfl⟩
abbrev main_v487 : Ref sig .tc := ⟨.hbm, 602, rfl⟩
abbrev main_v488 : Ref sig .tc := ⟨.hbm, 603, rfl⟩
abbrev main_cst_93 : Ref sig .tc := ⟨.hbm, 604, rfl⟩
abbrev main_v489 : Ref sig .tc := ⟨.hbm, 605, rfl⟩
abbrev main_v490 : Ref sig .tc := ⟨.hbm, 606, rfl⟩
abbrev main_v491 : Ref sig .tc := ⟨.hbm, 607, rfl⟩
abbrev main_v492 : Ref sig .tc := ⟨.hbm, 608, rfl⟩
abbrev main_cst_94 : Ref sig .tc := ⟨.hbm, 609, rfl⟩
abbrev main_v493 : Ref sig .tc := ⟨.hbm, 610, rfl⟩
abbrev main_v494 : Ref sig .tc := ⟨.hbm, 611, rfl⟩
abbrev main_cst_95 : Ref sig .tc := ⟨.hbm, 612, rfl⟩
abbrev main_v495 : Ref sig .tc := ⟨.hbm, 613, rfl⟩
abbrev main_v496 : Ref sig .tc := ⟨.hbm, 614, rfl⟩
abbrev main_cst_96 : Ref sig .tc := ⟨.hbm, 615, rfl⟩
abbrev main_v497 : Ref sig .tc := ⟨.hbm, 616, rfl⟩
abbrev main_v498 : Ref sig .tc := ⟨.hbm, 617, rfl⟩
abbrev main_v499 : Ref sig .tc := ⟨.hbm, 618, rfl⟩
abbrev main_cst_97 : Ref sig .tc := ⟨.hbm, 619, rfl⟩
abbrev main_v500 : Ref sig .tc := ⟨.hbm, 620, rfl⟩
abbrev main_v501 : Ref sig .tc := ⟨.hbm, 621, rfl⟩
abbrev main_v502 : Ref sig .tc := ⟨.hbm, 622, rfl⟩
abbrev main_v503 : Ref sig .tc := ⟨.hbm, 623, rfl⟩
abbrev main_cst_98 : Ref sig .tc := ⟨.hbm, 624, rfl⟩
abbrev main_v504 : Ref sig .tc := ⟨.hbm, 625, rfl⟩
abbrev main_v505 : Ref sig .tc := ⟨.hbm, 626, rfl⟩
abbrev main_cst_99 : Ref sig .tc := ⟨.hbm, 627, rfl⟩
abbrev main_v506 : Ref sig .tc := ⟨.hbm, 628, rfl⟩
abbrev main_v507 : Ref sig .tc := ⟨.hbm, 629, rfl⟩
abbrev main_cst_100 : Ref sig .tc := ⟨.hbm, 630, rfl⟩
abbrev main_v508 : Ref sig .tc := ⟨.hbm, 631, rfl⟩
abbrev main_v509 : Ref sig .tc := ⟨.hbm, 632, rfl⟩
abbrev main_v510 : Ref sig .tc := ⟨.hbm, 633, rfl⟩
abbrev main_cst_101 : Ref sig .tc := ⟨.hbm, 634, rfl⟩
abbrev main_v511 : Ref sig .tc := ⟨.hbm, 635, rfl⟩
abbrev main_v512 : Ref sig .tc := ⟨.hbm, 636, rfl⟩
abbrev main_v513 : Ref sig .tc := ⟨.hbm, 637, rfl⟩
abbrev main_v514 : Ref sig .tc := ⟨.hbm, 638, rfl⟩
abbrev main_cst_102 : Ref sig .tc := ⟨.hbm, 639, rfl⟩
abbrev main_v515 : Ref sig .tc := ⟨.hbm, 640, rfl⟩
abbrev main_v516 : Ref sig .tc := ⟨.hbm, 641, rfl⟩
abbrev main_cst_103 : Ref sig .tc := ⟨.hbm, 642, rfl⟩
abbrev main_v517 : Ref sig .tc := ⟨.hbm, 643, rfl⟩
abbrev main_v518 : Ref sig .tc := ⟨.hbm, 644, rfl⟩
abbrev main_cst_104 : Ref sig .tc := ⟨.hbm, 645, rfl⟩
abbrev main_v519 : Ref sig .tc := ⟨.hbm, 646, rfl⟩
abbrev main_v520 : Ref sig .tc := ⟨.hbm, 647, rfl⟩
abbrev main_v521 : Ref sig .tc := ⟨.hbm, 648, rfl⟩
abbrev main_cst_105 : Ref sig .tc := ⟨.hbm, 649, rfl⟩
abbrev main_v522 : Ref sig .tc := ⟨.hbm, 650, rfl⟩
abbrev main_v523 : Ref sig .tc := ⟨.hbm, 651, rfl⟩
abbrev main_v524 : Ref sig .tc := ⟨.hbm, 652, rfl⟩
abbrev main_v525 : Ref sig .tc := ⟨.hbm, 653, rfl⟩
abbrev main_cst_106 : Ref sig .tc := ⟨.hbm, 654, rfl⟩
abbrev main_v526 : Ref sig .tc := ⟨.hbm, 655, rfl⟩
abbrev main_v527 : Ref sig .tc := ⟨.hbm, 656, rfl⟩
abbrev main_cst_107 : Ref sig .tc := ⟨.hbm, 657, rfl⟩
abbrev main_v528 : Ref sig .tc := ⟨.hbm, 658, rfl⟩
abbrev main_v529 : Ref sig .tc := ⟨.hbm, 659, rfl⟩
abbrev main_cst_108 : Ref sig .tc := ⟨.hbm, 660, rfl⟩
abbrev main_v530 : Ref sig .tc := ⟨.hbm, 661, rfl⟩
abbrev main_v531 : Ref sig .tc := ⟨.hbm, 662, rfl⟩
abbrev main_v532 : Ref sig .tc := ⟨.hbm, 663, rfl⟩
abbrev main_cst_109 : Ref sig .tc := ⟨.hbm, 664, rfl⟩
abbrev main_v533 : Ref sig .tc := ⟨.hbm, 665, rfl⟩
abbrev main_v534 : Ref sig .tc := ⟨.hbm, 666, rfl⟩
abbrev main_v535 : Ref sig .tc := ⟨.hbm, 667, rfl⟩
abbrev main_v536 : Ref sig .tc := ⟨.hbm, 668, rfl⟩
abbrev main_cst_110 : Ref sig .tc := ⟨.hbm, 669, rfl⟩
abbrev main_v537 : Ref sig .tc := ⟨.hbm, 670, rfl⟩
abbrev main_v538 : Ref sig .tc := ⟨.hbm, 671, rfl⟩
abbrev main_cst_111 : Ref sig .tc := ⟨.hbm, 672, rfl⟩
abbrev main_v539 : Ref sig .tc := ⟨.hbm, 673, rfl⟩
abbrev main_v540 : Ref sig .tc := ⟨.hbm, 674, rfl⟩
abbrev main_cst_112 : Ref sig .tc := ⟨.hbm, 675, rfl⟩
abbrev main_v541 : Ref sig .tc := ⟨.hbm, 676, rfl⟩
abbrev main_v542 : Ref sig .tc := ⟨.hbm, 677, rfl⟩
abbrev main_v543 : Ref sig .tc := ⟨.hbm, 678, rfl⟩
abbrev main_cst_113 : Ref sig .tc := ⟨.hbm, 679, rfl⟩
abbrev main_v544 : Ref sig .tc := ⟨.hbm, 680, rfl⟩
abbrev main_v545 : Ref sig .tc := ⟨.hbm, 681, rfl⟩
abbrev main_v546 : Ref sig .tc := ⟨.hbm, 682, rfl⟩
abbrev main_v547 : Ref sig .tc := ⟨.hbm, 683, rfl⟩
abbrev main_cst_114 : Ref sig .tc := ⟨.hbm, 684, rfl⟩
abbrev main_v548 : Ref sig .tc := ⟨.hbm, 685, rfl⟩
abbrev main_v549 : Ref sig .tc := ⟨.hbm, 686, rfl⟩
abbrev main_cst_115 : Ref sig .tc := ⟨.hbm, 687, rfl⟩
abbrev main_v550 : Ref sig .tc := ⟨.hbm, 688, rfl⟩
abbrev main_v551 : Ref sig .tc := ⟨.hbm, 689, rfl⟩
abbrev main_cst_116 : Ref sig .tc := ⟨.hbm, 690, rfl⟩
abbrev main_v552 : Ref sig .tc := ⟨.hbm, 691, rfl⟩
abbrev main_v553 : Ref sig .tc := ⟨.hbm, 692, rfl⟩
abbrev main_v554 : Ref sig .tc := ⟨.hbm, 693, rfl⟩
abbrev main_cst_117 : Ref sig .tc := ⟨.hbm, 694, rfl⟩
abbrev main_v555 : Ref sig .tc := ⟨.hbm, 695, rfl⟩
abbrev main_v556 : Ref sig .tc := ⟨.hbm, 696, rfl⟩
abbrev main_v557 : Ref sig .tc := ⟨.hbm, 697, rfl⟩
abbrev main_v558 : Ref sig .tc := ⟨.hbm, 698, rfl⟩
abbrev main_cst_118 : Ref sig .tc := ⟨.hbm, 699, rfl⟩
abbrev main_v559 : Ref sig .tc := ⟨.hbm, 700, rfl⟩
abbrev main_v560 : Ref sig .tc := ⟨.hbm, 701, rfl⟩
abbrev main_cst_119 : Ref sig .tc := ⟨.hbm, 702, rfl⟩
abbrev main_v561 : Ref sig .tc := ⟨.hbm, 703, rfl⟩
abbrev main_v562 : Ref sig .tc := ⟨.hbm, 704, rfl⟩
abbrev main_cst_120 : Ref sig .tc := ⟨.hbm, 705, rfl⟩
abbrev main_v563 : Ref sig .tc := ⟨.hbm, 706, rfl⟩
abbrev main_v564 : Ref sig .tc := ⟨.hbm, 707, rfl⟩
abbrev main_v565 : Ref sig .tc := ⟨.hbm, 708, rfl⟩
abbrev main_cst_121 : Ref sig .tc := ⟨.hbm, 709, rfl⟩
abbrev main_v566 : Ref sig .tc := ⟨.hbm, 710, rfl⟩
abbrev main_v567 : Ref sig .tc := ⟨.hbm, 711, rfl⟩
abbrev main_v568 : Ref sig .tc := ⟨.hbm, 712, rfl⟩
abbrev main_v569 : Ref sig .tc := ⟨.hbm, 713, rfl⟩
abbrev main_cst_122 : Ref sig .tc := ⟨.hbm, 714, rfl⟩
abbrev main_v570 : Ref sig .tc := ⟨.hbm, 715, rfl⟩
abbrev main_v571 : Ref sig .tc := ⟨.hbm, 716, rfl⟩
abbrev main_cst_123 : Ref sig .tc := ⟨.hbm, 717, rfl⟩
abbrev main_v572 : Ref sig .tc := ⟨.hbm, 718, rfl⟩
abbrev main_v573 : Ref sig .tc := ⟨.hbm, 719, rfl⟩
abbrev main_cst_124 : Ref sig .tc := ⟨.hbm, 720, rfl⟩
abbrev main_v574 : Ref sig .tc := ⟨.hbm, 721, rfl⟩
abbrev main_v575 : Ref sig .tc := ⟨.hbm, 722, rfl⟩
abbrev main_v576 : Ref sig .tc := ⟨.hbm, 723, rfl⟩
abbrev main_cst_125 : Ref sig .tc := ⟨.hbm, 724, rfl⟩
abbrev main_v577 : Ref sig .tc := ⟨.hbm, 725, rfl⟩
abbrev main_v578 : Ref sig .tc := ⟨.hbm, 726, rfl⟩
abbrev main_v579 : Ref sig .tc := ⟨.hbm, 727, rfl⟩
abbrev main_v580 : Ref sig .tc := ⟨.hbm, 728, rfl⟩
abbrev main_cst_126 : Ref sig .tc := ⟨.hbm, 729, rfl⟩
abbrev main_v581 : Ref sig .tc := ⟨.hbm, 730, rfl⟩
abbrev main_v582 : Ref sig .tc := ⟨.hbm, 731, rfl⟩
abbrev main_cst_127 : Ref sig .tc := ⟨.hbm, 732, rfl⟩
abbrev main_v583 : Ref sig .tc := ⟨.hbm, 733, rfl⟩
abbrev main_v584 : Ref sig .tc := ⟨.hbm, 734, rfl⟩
abbrev main_cst_128 : Ref sig .tc := ⟨.hbm, 735, rfl⟩
abbrev main_v585 : Ref sig .tc := ⟨.hbm, 736, rfl⟩
abbrev main_v586 : Ref sig .tc := ⟨.hbm, 737, rfl⟩
abbrev main_v587 : Ref sig .tc := ⟨.hbm, 738, rfl⟩
abbrev main_cst_129 : Ref sig .tc := ⟨.hbm, 739, rfl⟩
abbrev main_v588 : Ref sig .tc := ⟨.hbm, 740, rfl⟩
abbrev main_v589 : Ref sig .tc := ⟨.hbm, 741, rfl⟩
abbrev main_v590 : Ref sig .tc := ⟨.hbm, 742, rfl⟩
abbrev main_v591 : Ref sig .tc := ⟨.hbm, 743, rfl⟩
abbrev main_cst_130 : Ref sig .tc := ⟨.hbm, 744, rfl⟩
abbrev main_v592 : Ref sig .tc := ⟨.hbm, 745, rfl⟩
abbrev main_v593 : Ref sig .tc := ⟨.hbm, 746, rfl⟩
abbrev main_cst_131 : Ref sig .tc := ⟨.hbm, 747, rfl⟩
abbrev main_v594 : Ref sig .tc := ⟨.hbm, 748, rfl⟩
abbrev main_v595 : Ref sig .tc := ⟨.hbm, 749, rfl⟩
abbrev main_cst_132 : Ref sig .tc := ⟨.hbm, 750, rfl⟩
abbrev main_v596 : Ref sig .tc := ⟨.hbm, 751, rfl⟩
abbrev main_v597 : Ref sig .tc := ⟨.hbm, 752, rfl⟩
abbrev main_v598 : Ref sig .tc := ⟨.hbm, 753, rfl⟩
abbrev main_cst_133 : Ref sig .tc := ⟨.hbm, 754, rfl⟩
abbrev main_v599 : Ref sig .tc := ⟨.hbm, 755, rfl⟩
abbrev main_v600 : Ref sig .tc := ⟨.hbm, 756, rfl⟩
abbrev main_v601 : Ref sig .tc := ⟨.hbm, 757, rfl⟩
abbrev main_v602 : Ref sig .tc := ⟨.hbm, 758, rfl⟩
abbrev main_cst_134 : Ref sig .tc := ⟨.hbm, 759, rfl⟩
abbrev main_v603 : Ref sig .tc := ⟨.hbm, 760, rfl⟩
abbrev main_v604 : Ref sig .tc := ⟨.hbm, 761, rfl⟩
abbrev main_cst_135 : Ref sig .tc := ⟨.hbm, 762, rfl⟩
abbrev main_v605 : Ref sig .tc := ⟨.hbm, 763, rfl⟩
abbrev main_v606 : Ref sig .tc := ⟨.hbm, 764, rfl⟩
abbrev main_cst_136 : Ref sig .tc := ⟨.hbm, 765, rfl⟩
abbrev main_v607 : Ref sig .tc := ⟨.hbm, 766, rfl⟩
abbrev main_v608 : Ref sig .tc := ⟨.hbm, 767, rfl⟩
abbrev main_v609 : Ref sig .tc := ⟨.hbm, 768, rfl⟩
abbrev main_cst_137 : Ref sig .tc := ⟨.hbm, 769, rfl⟩
abbrev main_v610 : Ref sig .tc := ⟨.hbm, 770, rfl⟩
abbrev main_v611 : Ref sig .tc := ⟨.hbm, 771, rfl⟩
abbrev main_v612 : Ref sig .tc := ⟨.hbm, 772, rfl⟩
abbrev main_v613 : Ref sig .tc := ⟨.hbm, 773, rfl⟩
abbrev main_cst_138 : Ref sig .tc := ⟨.hbm, 774, rfl⟩
abbrev main_v614 : Ref sig .tc := ⟨.hbm, 775, rfl⟩
abbrev main_v615 : Ref sig .tc := ⟨.hbm, 776, rfl⟩
abbrev main_cst_139 : Ref sig .tc := ⟨.hbm, 777, rfl⟩
abbrev main_v616 : Ref sig .tc := ⟨.hbm, 778, rfl⟩
abbrev main_v617 : Ref sig .tc := ⟨.hbm, 779, rfl⟩
abbrev main_cst_140 : Ref sig .tc := ⟨.hbm, 780, rfl⟩
abbrev main_v618 : Ref sig .tc := ⟨.hbm, 781, rfl⟩
abbrev main_v619 : Ref sig .tc := ⟨.hbm, 782, rfl⟩
abbrev main_v620 : Ref sig .tc := ⟨.hbm, 783, rfl⟩
abbrev main_cst_141 : Ref sig .tc := ⟨.hbm, 784, rfl⟩
abbrev main_v621 : Ref sig .tc := ⟨.hbm, 785, rfl⟩
abbrev main_v622 : Ref sig .tc := ⟨.hbm, 786, rfl⟩
abbrev main_v623 : Ref sig .tc := ⟨.hbm, 787, rfl⟩
abbrev main_v624 : Ref sig .tc := ⟨.hbm, 788, rfl⟩
abbrev main_cst_142 : Ref sig .tc := ⟨.hbm, 789, rfl⟩
abbrev main_v625 : Ref sig .tc := ⟨.hbm, 790, rfl⟩
abbrev main_v626 : Ref sig .tc := ⟨.hbm, 791, rfl⟩
abbrev main_cst_143 : Ref sig .tc := ⟨.hbm, 792, rfl⟩
abbrev main_v627 : Ref sig .tc := ⟨.hbm, 793, rfl⟩
abbrev main_v628 : Ref sig .tc := ⟨.hbm, 794, rfl⟩
abbrev main_cst_144 : Ref sig .tc := ⟨.hbm, 795, rfl⟩
abbrev main_v629 : Ref sig .tc := ⟨.hbm, 796, rfl⟩
abbrev main_v630 : Ref sig .tc := ⟨.hbm, 797, rfl⟩
abbrev main_v631 : Ref sig .tc := ⟨.hbm, 798, rfl⟩
abbrev main_cst_145 : Ref sig .tc := ⟨.hbm, 799, rfl⟩
abbrev main_v632 : Ref sig .tc := ⟨.hbm, 800, rfl⟩
abbrev main_v633 : Ref sig .tc := ⟨.hbm, 801, rfl⟩
abbrev main_v634 : Ref sig .tc := ⟨.hbm, 802, rfl⟩
abbrev main_v635 : Ref sig .tc := ⟨.hbm, 803, rfl⟩
abbrev main_cst_146 : Ref sig .tc := ⟨.hbm, 804, rfl⟩
abbrev main_v636 : Ref sig .tc := ⟨.hbm, 805, rfl⟩
abbrev main_v637 : Ref sig .tc := ⟨.hbm, 806, rfl⟩
abbrev main_cst_147 : Ref sig .tc := ⟨.hbm, 807, rfl⟩
abbrev main_v638 : Ref sig .tc := ⟨.hbm, 808, rfl⟩
abbrev main_v639 : Ref sig .tc := ⟨.hbm, 809, rfl⟩
abbrev main_cst_148 : Ref sig .tc := ⟨.hbm, 810, rfl⟩
abbrev main_v640 : Ref sig .tc := ⟨.hbm, 811, rfl⟩
abbrev main_v641 : Ref sig .tc := ⟨.hbm, 812, rfl⟩
abbrev main_v642 : Ref sig .tc := ⟨.hbm, 813, rfl⟩
abbrev main_v643 : Ref sig .tc := ⟨.hbm, 814, rfl⟩
abbrev main_v644 : Ref sig .tc := ⟨.hbm, 815, rfl⟩
abbrev main_v645 : Ref sig .tc := ⟨.hbm, 816, rfl⟩
abbrev main_v646 : Ref sig .tc := ⟨.hbm, 817, rfl⟩
abbrev main_v647 : Ref sig .tc := ⟨.hbm, 818, rfl⟩
abbrev main_v648 : Ref sig .tc := ⟨.hbm, 819, rfl⟩
abbrev main_c : Ref sig .tc := ⟨.hbm, 820, rfl⟩
abbrev main_call2_v0 : Ref sig .tc := ⟨.hbm, 821, rfl⟩
abbrev main_v649 : Ref sig .tc := ⟨.hbm, 822, rfl⟩
abbrev main_v650 : Ref sig .tc := ⟨.hbm, 823, rfl⟩
abbrev main_v651 : Ref sig .tc := ⟨.hbm, 824, rfl⟩
abbrev main_v652 : Ref sig .tc := ⟨.hbm, 825, rfl⟩

abbrev nD : Nat := 1
abbrev τ : Topo := Topo.v7x

variable {F : FTy → Type} [FloatOps F]
-- ==== Proof.Norm.lean ====
/-
  The gradient of the root-mean-square norm of a row of 1024 entries, in the form the kernels compute (it projects off the
  normalised row) and in the form differentiation writes; the two are one function on all extended reals.
-/
module

public import Idealize.ShloMosaic.Lib.Pointwise

@[expose] public section

noncomputable section

open Idealize.ShloMosaic

namespace Cert.NormGrad

/-- One over the root mean square of a row of 1024 entries, as both programs compute it. -/
def rms (x : Fin 1024 → EReal) : EReal :=
  Ideal.rsqrt (Ideal.div (∑ k, x k * x k) (Ideal.ofBits .f32 0x44800000#32) + Ideal.ofBits .f32 0x358637BD#32)

/-- The gradient of the norm at entry `q`, in the form that projects off the normalised row, on top of the
    gradient `dy` of the residual stream: `u` is the incoming gradient times the norm's weight. -/
def proj (x u : Fin 1024 → EReal) (dy : EReal) (q : Fin 1024) : EReal :=
  dy + rms x * (u q - x q * rms x * ((∑ k, u k * (x k * rms x)) * Ideal.ofBits .f32 0x3A800000#32))

/-- The mean square of a row plus the norm's small constant. -/
def ms (x : Fin 1024 → EReal) : EReal :=
  Ideal.div (∑ k, x k * x k) (Ideal.ofBits .f32 0x44800000#32) + Ideal.ofBits .f32 0x358637BD#32

/-- The gradient through the row's scale: what differentiating the reciprocal root gives, over the row's length. -/
def scaleGrad (x u : Fin 1024 → EReal) : EReal :=
  Ideal.div ((∑ k, x k * u k) * (Ideal.ofBits .f32 0xBF000000#32 * Ideal.div (rms x) (ms x))) (Ideal.ofBits .f32 0x44800000#32)

/-- The gradient of the norm at entry `q` as differentiation writes it: one term through the row itself, two through
    its square. -/
def diff (x u : Fin 1024 → EReal) (dy : EReal) (q : Fin 1024) : EReal :=
  dy + u q * rms x + x q * scaleGrad x u + scaleGrad x u * x q

theorem lit_n : Ideal.ofBits .f32 0x44800000#32 = ((1024 : ℝ) : EReal) := by
  simp [Ideal.ofBits, Ideal.ieee, -EReal.coe_mul]; norm_num
theorem lit_inv : Ideal.ofBits .f32 0x3A800000#32 = ((1 / 1024 : ℝ) : EReal) := by
  simp [Ideal.ofBits, Ideal.ieee, -EReal.coe_mul]; norm_num
theorem lit_half : Ideal.ofBits .f32 0xBF000000#32 = ((-(1 / 2) : ℝ) : EReal) := by
  simp [Ideal.ofBits, Ideal.ieee, -EReal.coe_mul, -EReal.coe_neg]; norm_num
theorem lit_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- A nonnegative real factor goes into a sum of extended reals. -/
theorem coe_mul_sum {ι : Type*} (s : Finset ι) (f : ι → EReal) (r : ℝ) (h : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr h) (EReal.coe_ne_top r) _ _

theorem mul_self_nonneg (x : EReal) : 0 ≤ x * x := by
  induction x with
  | coe r => exact_mod_cast _root_.mul_self_nonneg r
  | top => exact le_top
  | bot => exact le_top

theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Twice the same product by a real. -/
theorem mul_coe_add_self (d : EReal) (a : ℝ) : d * (a : EReal) + d * (a : EReal) = d * ((a + a : ℝ) : EReal) := by
  induction d with
  | coe d => norm_cast; ring
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- A row with an infinite entry has an infinite mean square, and its reciprocal root is zero. -/
theorem ms_top (x : Fin 1024 → EReal) (i : Fin 1024) (h : x i = ⊤ ∨ x i = ⊥) : ms x = ⊤ := by
  obtain ⟨e, he, hee⟩ := lit_eps
  have hs : ∑ k, x k * x k = ⊤ := by
    have h0 : ∀ k ∈ Finset.univ, 0 ≤ x k * x k := fun k _ => mul_self_nonneg _
    refine top_le_iff.mp (le_trans (le_of_eq ?_) (Finset.single_le_sum h0 (Finset.mem_univ i)))
    rcases h with h | h <;> rw [h] <;> rfl
  unfold ms
  rw [hs, lit_n, hee, Ideal.div_coe (by norm_num), EReal.top_mul_coe_of_pos (by norm_num), EReal.top_add_coe]

/-- A row of reals has a positive real mean square. -/
theorem ms_real (x : Fin 1024 → ℝ) : ∃ s : ℝ, 0 < s ∧ ms (fun k => (x k : EReal)) = (s : EReal) := by
  obtain ⟨e, he, hee⟩ := lit_eps
  refine ⟨(∑ k, x k * x k) * (1 / 1024) + e, ?_, ?_⟩
  · have : 0 ≤ ∑ k, x k * x k := Finset.sum_nonneg fun k _ => _root_.mul_self_nonneg _
    positivity
  · unfold ms
    rw [lit_n, hee, Ideal.div_coe (by norm_num)]
    rw [EReal.coe_add, EReal.coe_mul, coe_sum]
    simp only [EReal.coe_mul]

theorem proj_eq_diff (x u : Fin 1024 → EReal) (dy : EReal) (q : Fin 1024) : proj x u dy q = diff x u dy q := by
  by_cases hx : ∃ i, x i = ⊤ ∨ x i = ⊥
  · obtain ⟨i, hi⟩ := hx
    have hm := ms_top x i hi
    have hr : rms x = 0 := by
      show Ideal.rsqrt (ms x) = 0
      rw [hm]; rfl
    have hd : Ideal.div 0 (ms x) = 0 := by
      rw [hm]; unfold Ideal.div; simp
    unfold proj diff scaleGrad
    rw [hr, hd, lit_n, Ideal.div_coe (by norm_num)]
    simp
  · push Not at hx
    obtain ⟨x, rfl⟩ : ∃ y : Fin 1024 → ℝ, x = fun k => (y k : EReal) :=
      ⟨fun k => (x k).toReal, funext fun k => (EReal.coe_toReal (hx k).1 (hx k).2).symm⟩
    obtain ⟨s, hs, hms⟩ := ms_real x
    have hr : rms (fun k => (x k : EReal)) = (((Real.sqrt s)⁻¹ : ℝ) : EReal) := by
      show Ideal.rsqrt (ms _) = _
      rw [hms, Ideal.rsqrt_coe, if_neg hs.le.not_gt, if_neg hs.ne']
    have hq : 0 < (Real.sqrt s)⁻¹ := by positivity
    have hs2 : 1 / s = (Real.sqrt s)⁻¹ * (Real.sqrt s)⁻¹ := by
      rw [← mul_inv, Real.mul_self_sqrt hs.le, one_div]
    have hT : scaleGrad (fun k => (x k : EReal)) u
        = (∑ k, (x k : EReal) * u k) * ((-(1 / 2) * ((Real.sqrt s)⁻¹ * (1 / s)) * (1 / 1024) : ℝ) : EReal) := by
      unfold scaleGrad
      rw [hms, hr, lit_half, lit_n, Ideal.div_coe hs.ne', Ideal.div_coe (by norm_num), mul_assoc]
      norm_cast
    unfold proj diff
    rw [hT, hr, lit_inv, hs2]
    generalize (Real.sqrt s)⁻¹ = r at *
    have hD : ∑ k, u k * ((x k : EReal) * (r : EReal)) = (∑ k, (x k : EReal) * u k) * (r : EReal) := by
      rw [coe_mul_sum _ _ _ hq.le]
      exact Finset.sum_congr rfl fun k _ => by rw [← mul_assoc, mul_comm (u k)]
    rw [hD]
    generalize ∑ k, (x k : EReal) * u k = D
    have h1 : (x q : EReal) * (D * ((-(1 / 2) * (r * (r * r)) * (1 / 1024) : ℝ) : EReal))
        = D * ((-(1 / 2) * (r * (r * r)) * (1 / 1024) * x q : ℝ) : EReal) := by
      rw [mul_comm, mul_assoc, ← EReal.coe_mul]
    rw [mul_comm (D * _) (x q : EReal), h1, add_assoc, mul_coe_add_self, sub_eq_add_neg,
      EReal.left_distrib_of_nonneg_of_ne_top (EReal.coe_nonneg.mpr hq.le) (EReal.coe_ne_top r), mul_comm (r : EReal) (u q), add_assoc]
    congr 2
    rw [show (x q : EReal) * (r : EReal) * (D * (r : EReal) * ((1 / 1024 : ℝ) : EReal)) = D * ((x q * r * (r * (1 / 1024)) : ℝ) : EReal) by
      rw [mul_assoc D, ← EReal.coe_mul, ← EReal.coe_mul, mul_left_comm, ← EReal.coe_mul]]
    rw [← mul_neg, mul_left_comm, ← EReal.coe_neg, ← EReal.coe_mul]
    congr 2
    ring

end Cert.NormGrad

end
-- ==== Proof.Up.Block.lean ====
/-
  What one grid point of the `up_bwd` call leaves in its three output blocks, as plain terms over the six input
  blocks: the input-gradient rows, their bf16 copy, and the running sum of the norm weight's gradient.
-/
module

public import proofs.«01_k».proof.Defs
public import proofs.«01_k».proof.Proof.Gen.KernelIdeal.Value
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Up

open Cert.KernelIdeal Cert.KernelIdeal.Gen

variable {F : FTy → Type} [FloatOps F]

theorem hz : (![0, 0] : Fin 2 → Nat) = fun _ => 0 := funext fun a => by fin_cases a <;> rfl

/-- The first 2816 rows of the transposed weight, as the body loads them. -/
abbrev top (w : Vec F S5632x1024 .bf16) : Vec F S2816x1024 .bf16 :=
  View.ld w (Rect.unit (s := S5632x1024) ![0, 0] S2816x1024.size inb_S5632x1024_S2816x1024_0_0)

/-- The last 2816 rows of the transposed weight, as the body loads them. -/
abbrev bot (w : Vec F S5632x1024 .bf16) : Vec F S2816x1024 .bf16 :=
  View.ld w (Rect.unit (s := S5632x1024) ![2816, 0] S2816x1024.size inb_S5632x1024_S2816x1024_2816_0)

/-- The block of input-gradient rows, over the blocks the point reads. -/
def dxBlk (dg dv : Vec F S512x2816 .bf16) (w : Vec F S5632x1024 .bf16) (x dy : Vec F S512x1024 .f32) (g : Vec F S1x1024 .f32) :
    Vec F S512x1024 .f32 :=
  k0_pay1 dy (k0_pay6 x) (k0_pay8 dg (top w) dv (bot w) g) (k0_pay9 dg (top w) dv (bot w) x g)

/-- The running sum of the norm weight's gradient after a point that found `acc` there. -/
def ggBlk (dg dv : Vec F S512x2816 .bf16) (w : Vec F S5632x1024 .bf16) (x : Vec F S512x1024 .f32) (acc : Vec F S1x1024 .f32) :
    Vec F S1x1024 .f32 :=
  k0_pay3 (k0_pay5 dg (top w) dv (bot w)) (k0_pay7 x) acc

section
variable (c : Dev nD) (i : grid0.Coords) (a1 : Memref sig .tc .vmem S512x2816 .bf16) (h1 : a1.IsWhole)
  (a2 : Memref sig .tc .vmem S512x2816 .bf16) (h2 : a2.IsWhole) (a3 : Memref sig .tc .vmem S5632x1024 .bf16) (h3 : a3.IsWhole)
  (a4 : Memref sig .tc .vmem S512x1024 .f32) (h4 : a4.IsWhole) (a5 : Memref sig .tc .vmem S512x1024 .f32) (h5 : a5.IsWhole)
  (a6 : Memref sig .tc .vmem S1x1024 .f32) (h6 : a6.IsWhole) (a7 : Memref sig .tc .vmem S512x1024 .f32) (h7 : a7.IsWhole)
  (a8 : Memref sig .tc .vmem S512x1024 .bf16) (h8 : a8.IsWhole) (a9 : Memref sig .tc .vmem S1x1024 .f32) (h9 : a9.IsWhole)
  (dg dv : Vec F S512x2816 .bf16) (w : Vec F S5632x1024 .bf16) (x dy : Vec F S512x1024 .f32) (g acc : Vec F S1x1024 .f32)

theorem out_A_6 (hc : cond0_0 i) :
    out0_A_6 c i a1 h1 a2 h2 a3 h3 a4 h4 a5 h5 a6 h6 a7 h7 a8 h8 a9 h9 hc dg dv w x dy g = dxBlk dg dv w x dy g := by
  unfold out0_A_6
  rw [View.read_writes_eq_canon _ _ _ (cover0_A_6 c i a1 h1 a2 h2 a3 h3 a4 h4 a5 h5 a6 h6 a7 h7 a8 h8 a9 h9 hc dg dv w x dy g)]
  unfold kernelRun0_A
  dsimp only
  sl_unfold_words
  rw [View.canon_unit_zero hz]
  unfold dxBlk top bot
  simp only [View.readAt_eq_ld, h1.read_unread, h2.read_unread, h3.read_unread, h4.read_unread, h5.read_unread, h6.read_unread,
    View.ld_unit_zero (S := S512x2816) hz, View.ld_unit_zero (S := S512x1024) hz, View.ld_unit_zero (S := S1x1024) hz]

theorem out_A_7 (hc : cond0_0 i) :
    out0_A_7 c i a1 h1 a2 h2 a3 h3 a4 h4 a5 h5 a6 h6 a7 h7 a8 h8 a9 h9 hc dg dv w x dy g
      = truncf .bf16 (dxBlk dg dv w x dy g) bitsLt_bf16_f32 := by
  unfold out0_A_7
  rw [View.read_writes_eq_canon _ _ _ (cover0_A_7 c i a1 h1 a2 h2 a3 h3 a4 h4 a5 h5 a6 h6 a7 h7 a8 h8 a9 h9 hc dg dv w x dy g)]
  unfold kernelRun0_A
  dsimp only
  sl_unfold_words
  rw [View.canon_unit_zero hz]
  unfold k0_pay2 dxBlk top bot
  simp only [View.readAt_eq_ld, h1.read_unread, h2.read_unread, h3.read_unread, h4.read_unread, h5.read_unread, h6.read_unread,
    View.ld_unit_zero (S := S512x2816) hz, View.ld_unit_zero (S := S512x1024) hz, View.ld_unit_zero (S := S1x1024) hz]

theorem out_A_8 (hc : cond0_0 i) :
    out0_A_8 c i a1 h1 a2 h2 a3 h3 a4 h4 a5 h5 a6 h6 a7 h7 a8 h8 a9 h9 hc dg dv w x dy g = ggBlk dg dv w x (k0_pay4 (F := F)) := by
  unfold out0_A_8
  rw [View.read_writes_eq_canon _ _ _ (cover0_A_8 c i a1 h1 a2 h2 a3 h3 a4 h4 a5 h5 a6 h6 a7 h7 a8 h8 a9 h9 hc dg dv w x dy g)]
  unfold kernelRun0_A
  dsimp only
  sl_unfold_words
  rw [View.canon_cons_unit_zero (S := S1x1024) hz, View.readCov_unit_zero (S := S1x1024) _ hz]
  unfold ggBlk top bot
  simp only [View.readAt_eq_ld, h1.read_unread, h2.read_unread, h3.read_unread, h4.read_unread, h5.read_unread, h6.read_unread,
    View.ld_unit_zero (S := S512x2816) hz, View.ld_unit_zero (S := S512x1024) hz, View.ld_unit_zero (S := S1x1024) hz]

theorem out_B_6 (hc : ¬cond0_0 i) :
    out0_B_6 c i a1 h1 a2 h2 a3 h3 a4 h4 a5 h5 a6 h6 a7 h7 a8 h8 a9 h9 hc dg dv w x dy g acc = dxBlk dg dv w x dy g := by
  unfold out0_B_6
  rw [View.read_writes_eq_canon _ _ _ (cover0_B_6 c i a1 h1 a2 h2 a3 h3 a4 h4 a5 h5 a6 h6 a7 h7 a8 h8 a9 h9 hc dg dv w x dy g acc)]
  unfold kernelRun0_B
  dsimp only
  sl_unfold_words
  rw [View.canon_unit_zero hz]
  unfold dxBlk top bot
  simp only [View.readAt_eq_ld, h1.read_unread, h2.read_unread, h3.read_unread, h4.read_unread, h5.read_unread, h6.read_unread,
    View.ld_unit_zero (S := S512x2816) hz, View.ld_unit_zero (S := S512x1024) hz, View.ld_unit_zero (S := S1x1024) hz]

theorem out_B_7 (hc : ¬cond0_0 i) :
    out0_B_7 c i a1 h1 a2 h2 a3 h3 a4 h4 a5 h5 a6 h6 a7 h7 a8 h8 a9 h9 hc dg dv w x dy g acc
      = truncf .bf16 (dxBlk dg dv w x dy g) bitsLt_bf16_f32 := by
  unfold out0_B_7
  rw [View.read_writes_eq_canon _ _ _ (cover0_B_7 c i a1 h1 a2 h2 a3 h3 a4 h4 a5 h5 a6 h6 a7 h7 a8 h8 a9 h9 hc dg dv w x dy g acc)]
  unfold kernelRun0_B
  dsimp only
  sl_unfold_words
  rw [View.canon_unit_zero hz]
  unfold k0_pay2 dxBlk top bot
  simp only [View.readAt_eq_ld, h1.read_unread, h2.read_unread, h3.read_unread, h4.read_unread, h5.read_unread, h6.read_unread,
    View.ld_unit_zero (S := S512x2816) hz, View.ld_unit_zero (S := S512x1024) hz, View.ld_unit_zero (S := S1x1024) hz]

theorem out_B_8 (hc : ¬cond0_0 i) :
    out0_B_8 c i a1 h1 a2 h2 a3 h3 a4 h4 a5 h5 a6 h6 a7 h7 a8 h8 a9 h9 hc dg dv w x dy g acc = ggBlk dg dv w x acc := by
  unfold out0_B_8
  rw [View.read_writes_eq_canon _ _ _ (cover0_B_8 c i a1 h1 a2 h2 a3 h3 a4 h4 a5 h5 a6 h6 a7 h7 a8 h8 a9 h9 hc dg dv w x dy g acc)]
  unfold kernelRun0_B
  dsimp only
  sl_unfold_words
  rw [View.canon_unit_zero hz]
  unfold ggBlk top bot
  simp only [View.readAt_eq_ld, h1.read_unread, h2.read_unread, h3.read_unread, h4.read_unread, h5.read_unread, h9.read_unread,
    View.ld_unit_zero (S := S512x2816) hz, View.ld_unit_zero (S := S512x1024) hz, View.ld_unit_zero (S := S1x1024) hz]

end

end Cert.KernelIdeal.Up

end
-- ==== Proof.Up.Row.lean ====
/-
  The blocks of one grid point read at an index, at the extended reals.
-/
module

public import proofs.«01_k».proof.Proof.Norm
public import proofs.«01_k».proof.Proof.Up.Block
public import Idealize.ShloMosaic.Lib.Pointwise

@[expose] public section

set_option maxRecDepth 16384

noncomputable section

open Idealize.ShloMosaic Idealize.ShloMosaic.TcCoe Idealize.SL.Sem

namespace Cert.KernelIdeal.Up

open Cert.KernelIdeal Cert.KernelIdeal.Gen Cert.NormGrad

/-- The block's product row: the two halves' contractions added. -/
def dh (dg dv : Vec Ideal S512x2816 .bf16) (w : Vec Ideal S5632x1024 .bf16) (p : Fin 512) (q : Fin 1024) : EReal :=
  (∑ k : Fin 2816, dg (ix2 p k) * w (ix2 ⟨k.val, by omega⟩ q)) + ∑ k : Fin 2816, dv (ix2 p k) * w (ix2 ⟨2816 + k.val, by omega⟩ q)

theorem pay5_apply (dg dv : Vec Ideal S512x2816 .bf16) (w : Vec Ideal S5632x1024 .bf16) (p : Fin 512) (q : Fin 1024) :
    k0_pay5 dg (top w) dv (bot w) (ix2 p q) = dh dg dv w p q := by
  pointwise [k0_pay5, top, bot, dh]

theorem dxBlk_apply (dg dv : Vec Ideal S512x2816 .bf16) (w : Vec Ideal S5632x1024 .bf16) (x dy : Vec Ideal S512x1024 .f32)
    (g : Vec Ideal S1x1024 .f32) (p : Fin 512) (q : Fin 1024) :
    dxBlk dg dv w x dy g (ix2 p q)
      = proj (fun k => x (ix2 p k)) (fun k => dh dg dv w p k * g (ix2 0 k)) (dy (ix2 p q)) q := by
  pointwise [dxBlk, k0_pay1, k0_pay6, k0_pay7, k0_pay8, k0_pay9, pay5_apply, proj, rms]

theorem ggBlk_apply (dg dv : Vec Ideal S512x2816 .bf16) (w : Vec Ideal S5632x1024 .bf16) (x : Vec Ideal S512x1024 .f32)
    (acc : Vec Ideal S1x1024 .f32) (q : Fin 1024) :
    ggBlk dg dv w x acc (ix2 0 q)
      = acc (ix2 0 q) + ∑ p : Fin 512, dh dg dv w p q * (x (ix2 p q) * rms fun k => x (ix2 p k)) := by
  pointwise [ggBlk, k0_pay3, k0_pay6, k0_pay7, pay5_apply, rms]

end Cert.KernelIdeal.Up

end
-- ==== Proof.Up.Arrays.lean ====
/-
  What the three result arrays of the `up_bwd` call hold after the run, as functions of the arguments, at the extended
  reals: the blocks read through the windows, the sum over the grid, and the arrays put together from their blocks.
-/
module

public import proofs.«01_k».proof.Proof.Up.Row
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.KernelIdeal.Up

open Cert.KernelIdeal Cert.KernelIdeal.Gen Cert.NormGrad

variable (m : (ℓ : Loc nD τ sig) → Buf (Elt Ideal) ℓ)

/-! ## The arguments, as functions of their coordinates -/

abbrev xA (c : Dev nD) (r : Fin 8192) (q : Fin 1024) : EReal := (m ((c : Thread nD τ).loc main_arg0) : S8192x1024.Idx → EReal) (ix2 r q)
abbrev gA (c : Dev nD) (q : Fin 1024) : EReal := (m ((c : Thread nD τ).loc main_arg1) : S1024.Idx → EReal) (ix1 q)
abbrev wA (c : Dev nD) (q : Fin 1024) (k : Fin 5632) : EReal := (m ((c : Thread nD τ).loc main_arg2) : S1024x5632.Idx → EReal) (ix2 q k)
abbrev dgA (c : Dev nD) (r : Fin 8192) (k : Fin 2816) : EReal := (m ((c : Thread nD τ).loc main_arg3) : S8192x2816.Idx → EReal) (ix2 r k)
abbrev dvA (c : Dev nD) (r : Fin 8192) (k : Fin 2816) : EReal := (m ((c : Thread nD τ).loc main_arg4) : S8192x2816.Idx → EReal) (ix2 r k)
abbrev dyA (c : Dev nD) (r : Fin 8192) (q : Fin 1024) : EReal := (m ((c : Thread nD τ).loc main_arg5) : S8192x1024.Idx → EReal) (ix2 r q)

/-- The gradient that enters the norm: the products of the two cotangents with the two halves of the weight, added. -/
def dhA (c : Dev nD) (r : Fin 8192) (q : Fin 1024) : EReal :=
  (∑ k : Fin 2816, dgA m c r k * wA m c q ⟨k.val, by omega⟩) + ∑ k : Fin 2816, dvA m c r k * wA m c q ⟨2816 + k.val, by omega⟩

/-- The gradient of the residual stream. -/
def dxA (c : Dev nD) (r : Fin 8192) (q : Fin 1024) : EReal :=
  proj (xA m c r) (fun k => dhA m c r k * gA m c k) (dyA m c r q) q

/-- Row `r`'s part of the norm weight's gradient. -/
def ggA (c : Dev nD) (q : Fin 1024) (r : Fin 8192) : EReal := dhA m c r q * (xA m c r q * rms (xA m c r))

/-! ## The input blocks at coordinates -/

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])
theorem ix_2 : ∀ t : Fin cfg0.N, win0_2.index t = ![0, 0] := (by decide +kernel : ∀ t : Fin grid0.N, win0_2.index t = ![0, 0])
theorem ix_3 : ∀ t : Fin cfg0.N, win0_3.index t = ![t.val, 0] := (by decide +kernel : ∀ t : Fin grid0.N, win0_3.index t = ![t.val, 0])
theorem ix_4 : ∀ t : Fin cfg0.N, win0_4.index t = ![t.val, 0] := (by decide +kernel : ∀ t : Fin grid0.N, win0_4.index t = ![t.val, 0])
theorem ix_5 : ∀ t : Fin cfg0.N, win0_5.index t = ![0, 0] := (by decide +kernel : ∀ t : Fin grid0.N, win0_5.index t = ![0, 0])
theorem ix_6 : ∀ t : Fin cfg0.N, win0_6.index t = ![t.val, 0] := (by decide +kernel : ∀ t : Fin grid0.N, win0_6.index t = ![t.val, 0])
theorem ix_7 : ∀ t : Fin cfg0.N, win0_7.index t = ![t.val, 0] := (by decide +kernel : ∀ t : Fin grid0.N, win0_7.index t = ![t.val, 0])

theorem point_lt (t : Fin cfg0.N) : t.val < 16 := by have := t.isLt; have h : cfg0.N = 16 := N_0; omega

/-- Row `p` of the block of point `t`, in the array. -/
abbrev row (t : Fin cfg0.N) (p : Fin 512) : Fin 8192 := ⟨t.val * 512 + p.val, by have := point_lt t; omega⟩

theorem blk_0 (c : Dev nD) (t : Fin cfg0.N) (p : Fin 512) (k : Fin 2816) :
    (iblk m c 0 t : Vec Ideal S512x2816 .bf16) (ix2 p k) = dgA m c (row t p) k := by
  blk_simp [iblk]
  rw [show V m c main_arg3 = m ((c : Thread nD τ).loc main_arg3) from V_main_arg3 m c]
  exact congrArg _ (by blk_ext [ix_0])

theorem blk_1 (c : Dev nD) (t : Fin cfg0.N) (p : Fin 512) (k : Fin 2816) :
    (iblk m c 1 t : Vec Ideal S512x2816 .bf16) (ix2 p k) = dvA m c (row t p) k := by
  blk_simp [iblk]
  rw [show V m c main_arg4 = m ((c : Thread nD τ).loc main_arg4) from V_main_arg4 m c]
  exact congrArg _ (by blk_ext [ix_1])

theorem V_v1 (c : Dev nD) : V m c main_v1
    = truncf (F := Ideal) .bf16 (transpose (α := EReal) S5632x1024 [1, 0] (m ((c : Thread nD τ).loc main_arg2)) transposes_S1024x5632_S5632x1024_1_0)
        bitsLt_bf16_f32 := by
  show StableHlo.after hostOps0 _ (main_v1 : DevRef τ sig) = _
  after_results_simp

theorem V_v2 (c : Dev nD) : V m c main_v2
    = (shapeCast S1x1024 (m ((c : Thread nD τ).loc main_arg1) : Vec Ideal S1024 .f32) shapeCasts_S1024_S1x1024 : Vec Ideal S1x1024 .f32) := by
  show StableHlo.after hostOps0 _ (main_v2 : DevRef τ sig) = _
  after_results_simp
  rfl

theorem blk_2 (c : Dev nD) (t : Fin cfg0.N) (k : Fin 5632) (q : Fin 1024) :
    (iblk m c 2 t : Vec Ideal S5632x1024 .bf16) (ix2 k q) = wA m c q k := by
  blk_simp [iblk]
  rw [show (win0_2.blk t).view.emb (ix2 k q) = ix2 k q by blk_ext [ix_2], V_v1 m c]
  pointwise []

theorem blk_5 (c : Dev nD) (t : Fin cfg0.N) (q : Fin 1024) :
    (iblk m c 5 t : Vec Ideal S1x1024 .f32) (ix2 (0 : Fin 1) q) = gA m c q := by
  blk_simp [iblk]
  rw [show (win0_5.blk t).view.emb (ix2 (0 : Fin 1) q) = ix2 (0 : Fin 1) q by blk_ext [ix_5], V_v2 m c]
  pointwise []

theorem blk_3 (c : Dev nD) (t : Fin cfg0.N) (p : Fin 512) (q : Fin 1024) :
    (iblk m c 3 t : Vec Ideal S512x1024 .f32) (ix2 p q) = xA m c (row t p) q := by
  blk_simp [iblk]
  rw [show V m c main_arg0 = m ((c : Thread nD τ).loc main_arg0) from V_main_arg0 m c]
  exact congrArg _ (by blk_ext [ix_3])

theorem blk_4 (c : Dev nD) (t : Fin cfg0.N) (p : Fin 512) (q : Fin 1024) :
    (iblk m c 4 t : Vec Ideal S512x1024 .f32) (ix2 p q) = dyA m c (row t p) q := by
  blk_simp [iblk]
  rw [show V m c main_arg5 = m ((c : Thread nD τ).loc main_arg5) from V_main_arg5 m c]
  exact congrArg _ (by blk_ext [ix_4])

/-- The block's product, in the arguments. -/
theorem dh_blk (c : Dev nD) (t : Fin cfg0.N) (p : Fin 512) (q : Fin 1024) :
    dh (iblk m c 0 t) (iblk m c 1 t) (iblk m c 2 t) p q = dhA m c (row t p) q := by
  unfold dh dhA
  simp only [blk_0, blk_1, blk_2]

theorem dx_blk (c : Dev nD) (t : Fin cfg0.N) (p : Fin 512) (q : Fin 1024) :
    dxBlk (iblk m c 0 t) (iblk m c 1 t) (iblk m c 2 t) (iblk m c 3 t) (iblk m c 4 t) (iblk m c 5 t) (ix2 p q)
      = dxA m c (row t p) q := by
  rw [dxBlk_apply]
  simp only [dh_blk, blk_3, blk_4, blk_5]
  rfl

theorem gg_blk (c : Dev nD) (t : Fin cfg0.N) (acc : Vec Ideal S1x1024 .f32) (q : Fin 1024) :
    ggBlk (iblk m c 0 t) (iblk m c 1 t) (iblk m c 2 t) (iblk m c 3 t) acc (ix2 (0 : Fin 1) q)
      = acc (ix2 (0 : Fin 1) q) + ∑ p : Fin 512, ggA m c q (row t p) := by
  rw [ggBlk_apply]
  simp only [dh_blk, blk_3]
  rfl

/-! ## What the body leaves at each point -/

theorem outs_6 (c : Dev nD) (t : Fin cfg0.N) : (outsAt0 m c t.val t.isLt).1
    = dxBlk (iblk m c 0 t) (iblk m c 1 t) (iblk m c 2 t) (iblk m c 3 t) (iblk m c 4 t) (iblk m c 5 t) := by
  by_cases h0 : t.val % 16 = 0
  · rw [outsAt0_A m c t h0]; dsimp only; rw [out_A_6]
  · rw [outsAt0_B m c t h0]; dsimp only; rw [out_B_6]

theorem outs_7 (c : Dev nD) (t : Fin cfg0.N) : (outsAt0 m c t.val t.isLt).2.1
    = truncf (F := Ideal) .bf16 (dxBlk (iblk m c 0 t) (iblk m c 1 t) (iblk m c 2 t) (iblk m c 3 t) (iblk m c 4 t) (iblk m c 5 t)) bitsLt_bf16_f32 := by
  by_cases h0 : t.val % 16 = 0
  · rw [outsAt0_A m c t h0]; dsimp only; rw [out_A_7]
  · rw [outsAt0_B m c t h0]; dsimp only; rw [out_B_7]

theorem pay4_apply (j : S1x1024.Idx) : k0_pay4 (F := Ideal) j = 0 := by
  idx_vars j
  pointwise [k0_pay4]

/-- The accumulated row after the last point: the sum over the points of each one's rows. -/
theorem outs_8 (c : Dev nD) (t : Fin cfg0.N) (ht : t.val + 1 = cfg0.N) (q : Fin 1024) :
    (outsAt0 m c t.val t.isLt).2.2 (ix2 (0 : Fin 1) q) = ∑ r : Fin 8192, ggA m c q r := by
  have h := Pipeline.eq_sum_fin_of_reset_step_apply_last (N := cfg0.N) (fun n hn (q : Fin 1024) => (outsAt0 m c n hn).2.2 (ix2 (0 : Fin 1) q))
    16 (fun _ => (0 : EReal)) (fun t q => ∑ p : Fin 512, ggA m c q (row t p))
    (fun t h0 q => by
      show (outsAt0 m c t.val t.isLt).2.2 (ix2 (0 : Fin 1) q) = _
      rw [outsAt0_A m c t h0]
      dsimp only
      rw [out_A_8, gg_blk, pay4_apply])
    (fun t h0 q => by
      show (outsAt0 m c t.val t.isLt).2.2 (ix2 (0 : Fin 1) q) = _
      rw [outsAt0_B m c t h0]
      dsimp only
      rw [out_B_8, gg_blk])
    (le_of_eq N_0) t ht q
  refine h.trans ?_
  rw [zero_add]
  exact Fin.sum_mul_add_congr (S := 16) (n := 512) (fun _ _ _ => rfl)

/-! ## The result arrays -/

theorem arr_6 (c : Dev nD) : (dats m 0 c).arrAt 6 cfg0.N = fun j : S8192x1024.Idx => dxA m c (j 0) (j 1) := by
  refine (dats m 0 c).arrAt_eq_of_covers 6 _ (by decide +kernel) fun t hf y => ?_
  blk_simp
  rw [after0_6, outs_6]
  idx_vars y
  rw [dx_blk, show (win0_6.blk t).view.emb (ix2 y0 y1) = ix2 (row t y0) y1 by blk_ext [ix_6]]
  rfl

theorem arr_7 (c : Dev nD) : (dats m 0 c).arrAt 7 cfg0.N = fun j : S8192x1024.Idx => dxA m c (j 0) (j 1) := by
  refine (dats m 0 c).arrAt_eq_of_covers 7 _ (by decide +kernel) fun t hf y => ?_
  blk_simp
  rw [after0_7, outs_7]
  idx_vars y
  rw [show (win0_7.blk t).view.emb (ix2 y0 y1) = ix2 (row t y0) y1 by blk_ext [ix_7]]
  exact dx_blk m c t y0 y1

theorem arr_8 (c : Dev nD) : (dats m 0 c).arrAt 8 cfg0.N = fun j : S1x1024.Idx => ∑ r : Fin 8192, ggA m c (j 1) r := by
  refine (dats m 0 c).arrAt_eq_of_after_last 8 t0_15 (by decide +kernel) _ fun j => ?_
  blk_simp
  rw [after0_8]
  idx_vars j
  obtain rfl : j0 = 0 := Subsingleton.elim _ _
  exact outs_8 m c t0_15 N_0.symm j1

end Cert.KernelIdeal.Up

end
-- ==== Proof.Up.Reference.lean ====
/-
  What the reference's three results hold at coordinates, at the extended reals.
-/
module

public import proofs.«01_k».proof.Proof.Up.Row
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Up

open Cert.ReferenceIdeal Cert.ReferenceIdeal.Gen Cert.ReferenceIdeal.Value Cert.NormGrad

variable (m : (ℓ : Loc nD τ sig) → Buf (Elt Ideal) ℓ)

abbrev xA (c : Dev nD) (r : Fin 8192) (q : Fin 1024) : EReal := (m ((c : Thread nD τ).loc main_arg0) : S8192x1024.Idx → EReal) (ix2 r q)
abbrev gA (c : Dev nD) (q : Fin 1024) : EReal := (m ((c : Thread nD τ).loc main_arg1) : S1024.Idx → EReal) (ix1 q)
abbrev wA (c : Dev nD) (q : Fin 1024) (k : Fin 5632) : EReal := (m ((c : Thread nD τ).loc main_arg2) : S1024x5632.Idx → EReal) (ix2 q k)
abbrev dgA (c : Dev nD) (r : Fin 8192) (k : Fin 2816) : EReal := (m ((c : Thread nD τ).loc main_arg3) : S8192x2816.Idx → EReal) (ix2 r k)
abbrev dvA (c : Dev nD) (r : Fin 8192) (k : Fin 2816) : EReal := (m ((c : Thread nD τ).loc main_arg4) : S8192x2816.Idx → EReal) (ix2 r k)
abbrev dyA (c : Dev nD) (r : Fin 8192) (q : Fin 1024) : EReal := (m ((c : Thread nD τ).loc main_arg5) : S8192x1024.Idx → EReal) (ix2 r q)

/-- The gradient that enters the norm: the product of the joined cotangents with the weight, its two halves apart. -/
def dhA (c : Dev nD) (r : Fin 8192) (q : Fin 1024) : EReal :=
  (∑ k : Fin 2816, dgA m c r k * wA m c q ⟨k.val, by omega⟩) + ∑ k : Fin 2816, dvA m c r k * wA m c q ⟨2816 + k.val, by omega⟩

/-- The joined cotangents. -/
def joined (c : Dev nD) : FVec Ideal S8192x5632 .f32 :=
  concatenate S8192x5632 1 [⟨S8192x2816, (extf .f32 (m ((c : Thread nD τ).loc main_arg3)) bitsLt_bf16_f32)⟩, ⟨S8192x2816, (extf .f32 (m ((c : Thread nD τ).loc main_arg4)) bitsLt_bf16_f32)⟩] concatenates_S8192x2816_S8192x2816_S8192x5632_d1

/-- Their product with the weight. -/
def prod (c : Dev nD) : FVec Ideal S8192x1024 .f32 :=
  Host.dotGeneral dot_S8192x5632_S1024x5632_S8192x1024_1_1_0_0_n_n none (joined m c) (show FVec Ideal S1024x5632 .f32 from m ((c : Thread nD τ).loc main_arg2))

theorem prod_apply (c : Dev nD) (r : Fin 8192) (q : Fin 1024) : prod m c (ix2 r q) = dhA m c r q := by
  pointwise [prod, joined, dhA]

theorem out0_apply (c : Dev nD) (r : Fin 8192) (q : Fin 1024) :
    (res_out0 m c : S8192x1024.Idx → EReal) (ix2 r q)
      = diff (xA m c r) (fun k => dhA m c r k * gA m c k) (dyA m c r q) q := by
  unfold res_out0 res_main_v43
  change (_ : FVec Ideal S8192x1024 .f32) (ix2 r q) = _
  rw [show Host.dotGeneral dot_S8192x5632_S1024x5632_S8192x1024_1_1_0_0_n_n none (concatenate S8192x5632 1 [⟨S8192x2816, (extf .f32 (m ((c.tc : Thread nD τ).loc main_arg3)) bitsLt_bf16_f32)⟩, ⟨S8192x2816, (extf .f32 (m ((c.tc : Thread nD τ).loc main_arg4)) bitsLt_bf16_f32)⟩] concatenates_S8192x2816_S8192x2816_S8192x5632_d1) (m ((c.tc : Thread nD τ).loc main_arg2)) = prod m c from rfl]
  pointwise [prod_apply, diff, scaleGrad, ms, rms]
  simp only [Fin.sum_univ_one]

theorem out1_apply (c : Dev nD) (r : Fin 8192) (q : Fin 1024) :
    (res_out1 m c : S8192x1024.Idx → EReal) (ix2 r q)
      = diff (xA m c r) (fun k => dhA m c r k * gA m c k) (dyA m c r q) q :=
  (show (res_out1 m c : S8192x1024.Idx → EReal) (ix2 r q) = (res_out0 m c : S8192x1024.Idx → EReal) (ix2 r q) from rfl).trans (out0_apply m c r q)

/-- The run, each result at its coordinates. -/
theorem run (ρ : Dev nD → PrngReg) :
    θ_run defs (onTc (τ := τ) (main (F := Ideal))) ⟨m, fun _ => 0, ρ⟩ fun r => ∀ c : Dev nD,
      r.2.mem ((c.tc : Thread nD τ).loc main_v43) = (fun j : S8192x1024.Idx => diff (xA m c (j 0)) (fun k => dhA m c (j 0) k * gA m c k) (dyA m c (j 0) (j 1)) (j 1))
      ∧ r.2.mem ((c.tc : Thread nD τ).loc main_v44) = (fun j : S8192x1024.Idx => diff (xA m c (j 0)) (fun k => dhA m c (j 0) k * gA m c k) (dyA m c (j 0) (j 1)) (j 1))
      ∧ r.2.mem ((c.tc : Thread nD τ).loc main_v45) = (fun j : S1x1024.Idx => ∑ r : Fin 8192, xA m c r (j 1) * rms (xA m c r) * dhA m c r (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun _ h c => ?_) (Cert.ReferenceIdeal.Value.run (F := Ideal) m ρ)
  obtain ⟨h0, h1, h2, h⟩ := h c
  refine ⟨h0.trans (funext fun j => ?_), h1.trans (funext fun j => ?_), h2.trans (funext fun j => ?_), h⟩
  · idx_vars j
    exact out0_apply m c j0 j1
  · idx_vars j
    exact out1_apply m c j0 j1
  · idx_vars j
    rw [show Host.dotGeneral dot_S8192x5632_S1024x5632_S8192x1024_1_1_0_0_n_n none (concatenate S8192x5632 1 [⟨S8192x2816, (extf .f32 (m ((c.tc : Thread nD τ).loc main_arg3)) bitsLt_bf16_f32)⟩, ⟨S8192x2816, (extf .f32 (m ((c.tc : Thread nD τ).loc main_arg4)) bitsLt_bf16_f32)⟩] concatenates_S8192x2816_S8192x2816_S8192x5632_d1) (m ((c.tc : Thread nD τ).loc main_arg2)) = prod m c from rfl]
    pointwise [prod_apply, rms]
    simp only [Fin.sum_univ_one]

end Cert.ReferenceIdeal.Up

end
-- ==== Proof.Up.Claim.lean ====
/-
  `up_bwd`: from memories that agree on the arguments the kernel's three results and the reference's are equal.
-/
module

public import proofs.«01_k».proof.Defs
public import proofs.«01_k».proof.Proof.Up.Arrays
public import proofs.«01_k».proof.Proof.Norm
public import proofs.«01_k».proof.Proof.Up.Reference
public import proofs.«01_k».proof.Proof.Gen.KernelIdeal.Value

@[expose] public section

set_option maxRecDepth 16384

noncomputable section

open Idealize.ShloMosaic Idealize.ShloMosaic.TcCoe Idealize.SL.Sem

namespace Cert.Up

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- What the equation of the two programs' arguments says at coordinates. -/
structure Agree (c : Dev KernelIdeal.nD) : Prop where
  x : KernelIdeal.Up.xA m c = ReferenceIdeal.Up.xA m' c
  g : KernelIdeal.Up.gA m c = ReferenceIdeal.Up.gA m' c
  w : KernelIdeal.Up.wA m c = ReferenceIdeal.Up.wA m' c
  dg : KernelIdeal.Up.dgA m c = ReferenceIdeal.Up.dgA m' c
  dv : KernelIdeal.Up.dvA m c = ReferenceIdeal.Up.dvA m' c
  dy : KernelIdeal.Up.dyA m c = ReferenceIdeal.Up.dyA m' c

variable {m m'}

theorem Agree.dh {c : Dev KernelIdeal.nD} (h : Agree m m' c) : KernelIdeal.Up.dhA m c = ReferenceIdeal.Up.dhA m' c := by
  unfold KernelIdeal.Up.dhA ReferenceIdeal.Up.dhA
  rw [h.dg, h.dv, h.w]

theorem Agree.dx {c : Dev KernelIdeal.nD} (h : Agree m m' c) (r : Fin 8192) (q : Fin 1024) :
    NormGrad.diff (ReferenceIdeal.Up.xA m' c r) (fun k => ReferenceIdeal.Up.dhA m' c r k * ReferenceIdeal.Up.gA m' c k) (ReferenceIdeal.Up.dyA m' c r q) q
      = KernelIdeal.Up.dxA m c r q := by
  unfold KernelIdeal.Up.dxA
  rw [NormGrad.proj_eq_diff, h.x, h.dh, h.g, h.dy]

theorem Agree.gg {c : Dev KernelIdeal.nD} (h : Agree m m' c) (q : Fin 1024) :
    ∑ r : Fin 8192, ReferenceIdeal.Up.xA m' c r q * NormGrad.rms (ReferenceIdeal.Up.xA m' c r) * ReferenceIdeal.Up.dhA m' c r q
      = ∑ r : Fin 8192, KernelIdeal.Up.ggA m c q r := by
  unfold KernelIdeal.Up.ggA
  rw [h.x, h.dh]
  exact Finset.sum_congr rfl fun r _ => mul_comm _ _

theorem algebraic : algebraic_KernelIdeal_ReferenceIdeal (hKernelIdeal := KernelIdeal.Gen.facts) (hReferenceIdeal := ReferenceIdeal.Gen.facts) := by
  intro m ρ m' ρ' _ hag
  have ag : ∀ c, Agree m m' c := fun c => by
    obtain ⟨h0, h1, h2, h3, h4, h5⟩ := hag c
    constructor
    · exact funext fun _ => funext fun _ => (congrFun h0 _).symm
    · exact funext fun _ => (congrFun h1 _).symm
    · exact funext fun _ => funext fun _ => (congrFun h2 _).symm
    · exact funext fun _ => funext fun _ => (congrFun h3 _).symm
    · exact funext fun _ => funext fun _ => (congrFun h4 _).symm
    · exact funext fun _ => funext fun _ => (congrFun h5 _).symm
  refine ⟨_, _, _, KernelIdeal.Value.run_blocks m ρ, (θ_run _ _ _).mono (fun _ h c => ?_) (ReferenceIdeal.Up.run m' ρ')⟩
  obtain ⟨h0, h1, h2, h⟩ := h c
  refine ⟨h0.trans (.trans ?_ (KernelIdeal.Up.arr_6 m c).symm), h1.trans (.trans ?_ (KernelIdeal.Up.arr_7 m c).symm),
    h2.trans (.trans ?_ (KernelIdeal.Up.arr_8 m c).symm), h⟩
  · exact funext fun j => (ag c).dx (j 0) (j 1)
  · exact funext fun j => (ag c).dx (j 0) (j 1)
  · exact funext fun j => (ag c).gg (j 1)

end Cert.Up

end
-- ==== Proof.Prod.GradWUp.lean ====
/-
  `grad_w_up`: the gradient of the feed-forward's up projection with respect to its weight. The transposed weight has a
  block of rows for the gate and one for the values; the grid takes them in turn, and for each of them sums the product
  with the normalised input 512 rows at a time into one scratch array.
-/
module

public import proofs.«01_k».proof.Defs
public import proofs.«01_k».proof.Proof.Gen.GradWUpIdeal.Value
public import proofs.«01_k».proof.Proof.Gen.GradWUpRefIdeal.Run
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.GradWUpIdeal.Prod

open Cert.GradWUpIdeal Cert.GradWUpIdeal.Gen

variable (m : (ℓ : Loc nD τ sig) → Buf (Elt Ideal) ℓ)

abbrev gA (c : Dev nD) : S8192x2816.Idx → EReal := m ((c : Thread nD τ).loc main_arg0)
abbrev vA (c : Dev nD) : S8192x2816.Idx → EReal := m ((c : Thread nD τ).loc main_arg1)
abbrev hA (c : Dev nD) : S8192x1024.Idx → EReal := m ((c : Thread nD τ).loc main_arg2)

theorem ix_0 : ∀ t : Fin cfg0.N, t.val < 16 → win0_0.index t = ![t.val % 16, 0] :=
  (by decide +kernel : ∀ t : Fin grid0.N, t.val < 16 → win0_0.index t = ![t.val % 16, 0])
theorem ix_1 : ∀ t : Fin cfg0.N, 16 ≤ t.val → win0_1.index t = ![t.val % 16, 0] :=
  (by decide +kernel : ∀ t : Fin grid0.N, 16 ≤ t.val → win0_1.index t = ![t.val % 16, 0])
theorem ix_2 : ∀ t : Fin cfg0.N, win0_2.index t = ![t.val % 16, 0] :=
  (by decide +kernel : ∀ t : Fin grid0.N, win0_2.index t = ![t.val % 16, 0])
theorem ix_3 : ∀ t : Fin cfg0.N, win0_3.index t = ![t.val / 16, 0] :=
  (by decide +kernel : ∀ t : Fin grid0.N, win0_3.index t = ![t.val / 16, 0])

/-- Row `p` of the block of point `t`, in the array. -/
abbrev row (t : Fin cfg0.N) (p : Fin 512) : Fin 8192 := ⟨t.val % 16 * 512 + p.val, by omega⟩

theorem blk_0 (c : Dev nD) (t : Fin cfg0.N) (h : t.val < 16) (p : Fin 512) (i : Fin 2816) :
    (iblk m c 0 t : Vec Ideal S512x2816 .bf16) (ix2 p i) = gA m c (ix2 (row t p) i) := by
  blk_simp [iblk]
  rw [show V m c main_arg0 = m ((c : Thread nD τ).loc main_arg0) from V_main_arg0 m c]
  exact congrArg _ (by blk_ext [ix_0 t h])

theorem blk_1 (c : Dev nD) (t : Fin cfg0.N) (h : 16 ≤ t.val) (p : Fin 512) (i : Fin 2816) :
    (iblk m c 1 t : Vec Ideal S512x2816 .bf16) (ix2 p i) = vA m c (ix2 (row t p) i) := by
  blk_simp [iblk]
  rw [show V m c main_arg1 = m ((c : Thread nD τ).loc main_arg1) from V_main_arg1 m c]
  exact congrArg _ (by blk_ext [ix_1 t h])

theorem blk_2 (c : Dev nD) (t : Fin cfg0.N) (p : Fin 512) (q : Fin 1024) :
    (iblk m c 2 t : Vec Ideal S512x1024 .bf16) (ix2 p q) = hA m c (ix2 (row t p) q) := by
  blk_simp [iblk]
  rw [show V m c main_arg2 = m ((c : Thread nD τ).loc main_arg2) from V_main_arg2 m c]
  exact congrArg _ (by blk_ext [ix_2])

/-- One step of the accumulation, for the gate's rows and for the values'. -/
theorem step_g (acc : Vec Ideal S2816x1024 .f32) (a : Vec Ideal S512x2816 .bf16) (b : Vec Ideal S512x1024 .bf16)
    (i : Fin 2816) (q : Fin 1024) :
    k0_pay2 acc a b (ix2 i q) = acc (ix2 i q) + ∑ p : Fin 512, a (ix2 p i) * b (ix2 p q) := by
  pointwise [k0_pay2]

theorem step_v (acc : Vec Ideal S2816x1024 .f32) (a : Vec Ideal S512x2816 .bf16) (b : Vec Ideal S512x1024 .bf16)
    (i : Fin 2816) (q : Fin 1024) :
    k0_pay3 acc a b (ix2 i q) = acc (ix2 i q) + ∑ p : Fin 512, a (ix2 p i) * b (ix2 p q) := by
  pointwise [k0_pay3]

theorem zero_apply (i : Fin 2816) (q : Fin 1024) : k0_pay1 (F := Ideal) (ix2 i q) = 0 := by
  pointwise [k0_pay1]

theorem pay_out (v : Vec Ideal S2816x1024 .f32) : k0_pay4 v = v := rfl

/-- What the scratch array was given reads back. -/
theorem read_acc (x : Vec Ideal S2816x1024 .f32) :
    View.read (Elt Ideal) (View.whole cc0_scratch0) ((Memref.isWhole_whole (sig := sig) (κ := .tc) cc0_scratch0).unread x) = x :=
  (Memref.isWhole_whole (sig := sig) (κ := .tc) cc0_scratch0).read_unread x

/-- The array whose rows a point sums: the gate's for the first half of the grid, the values' for the second. -/
abbrev part (c : Dev nD) (g : ℕ) : S8192x2816.Idx → EReal := if g = 0 then gA m c else vA m c

/-- What a point adds at row `i`, column `q` of the scratch array. -/
abbrev add (c : Dev nD) (t : Fin cfg0.N) (i : Fin 2816) (q : Fin 1024) : EReal :=
  ∑ p : Fin 512, part m c (t.val / 16) (ix2 (row t p) i) * hA m c (ix2 (row t p) q)

theorem first (c : Dev nD) (t : Fin cfg0.N) (h0 : t.val % 16 = 0) (i : Fin 2816) (q : Fin 1024) :
    (outsAt0 m c t.val t.isLt).2 (ix2 i q) = 0 + add m c t i q := by
  by_cases h1 : t.val < 16
  · rw [outsAt0_A m c t h0 h1 (by omega) (by omega)]
    frame_out
    rw [step_g, zero_apply]
    simp only [blk_0 m c t h1, blk_2, add, part, if_pos (show t.val / 16 = 0 by omega)]
  · rw [outsAt0_D m c t h0 h1 (by omega) (by omega)]
    frame_out
    rw [step_v, zero_apply]
    simp only [blk_1 m c t (Nat.le_of_not_lt h1), blk_2, add, part, if_neg (show ¬ t.val / 16 = 0 by omega)]

theorem next (c : Dev nD) (t : Fin cfg0.N) (h0 : ¬ t.val % 16 = 0) (i : Fin 2816) (q : Fin 1024) :
    (outsAt0 m c t.val t.isLt).2 (ix2 i q) = (outsAt0 m c (t.val - 1) (by have := t.isLt; omega)).2 (ix2 i q) + add m c t i q := by
  by_cases h1 : t.val < 16
  · have hs : ∀ prev : Vec Ideal S2816x1024 .f32, k0_pay2 prev (iblk m c 0 t) (iblk m c 2 t) (ix2 i q) = prev (ix2 i q) + add m c t i q := by
      intro prev
      rw [step_g]
      simp only [blk_0 m c t h1, blk_2, add, part, if_pos (show t.val / 16 = 0 by omega)]
    by_cases h3 : t.val % 16 = 15
    · rw [outsAt0_C m c t h0 h1 (by omega) h3]
      frame_out
      rw [read_acc]
      exact hs _
    · rw [outsAt0_B m c t h0 h1 (by omega) h3]
      frame_out
      rw [read_acc]
      exact hs _
  · have hs : ∀ prev : Vec Ideal S2816x1024 .f32, k0_pay3 prev (iblk m c 1 t) (iblk m c 2 t) (ix2 i q) = prev (ix2 i q) + add m c t i q := by
      intro prev
      rw [step_v]
      simp only [blk_1 m c t (Nat.le_of_not_lt h1), blk_2, add, part, if_neg (show ¬ t.val / 16 = 0 by omega)]
    by_cases h3 : t.val % 16 = 15
    · rw [outsAt0_F m c t h0 h1 (by omega) h3]
      frame_out
      rw [read_acc]
      exact hs _
    · rw [outsAt0_E m c t h0 h1 (by omega) h3]
      frame_out
      rw [read_acc]
      exact hs _

/-- The scratch array at a part's last point: the sum over all rows. -/
theorem acc_last (c : Dev nD) (t : Fin cfg0.N) (ht : t.val % 16 = 15) (i : Fin 2816) (q : Fin 1024) :
    (outsAt0 m c t.val t.isLt).2 (ix2 i q) = ∑ r : Fin 8192, part m c (t.val / 16) (ix2 r i) * hA m c (ix2 r q) := by
  have h := Pipeline.eq_sum_fin_of_reset_step_apply_of_flush (N := cfg0.N) (fun n hn (j : Fin 2816 × Fin 1024) => (outsAt0 m c n hn).2 (ix2 j.1 j.2))
    16 (fun _ => (0 : EReal)) (fun t j => add m c t j.1 j.2)
    (fun t h0 j => first m c t h0 j.1 j.2) (fun t h0 j => next m c t h0 j.1 j.2) t ht (i, q)
  refine h.trans ?_
  rw [zero_add]
  refine Fin.sum_mul_add_congr (S := 16) (n := 512) (fun s p hl => ?_)
  have e : (16 * (t.val / 16) + s.val) / 16 = t.val / 16 := by have := s.isLt; omega
  have er : row ⟨16 * (t.val / 16) + s.val, Pipeline.run_point_lt_of_flush t ht s⟩ p = ⟨s.val * 512 + p.val, hl⟩ :=
    Fin.ext (by have := s.isLt; show (16 * (t.val / 16) + s.val) % 16 * 512 + p.val = s.val * 512 + p.val; omega)
  simp only [e, er]

/-- At a part's last point the output block is the scratch array. -/
theorem out_last (c : Dev nD) (t : Fin cfg0.N) (ht : t.val % 16 = 15) :
    (outsAt0 m c t.val t.isLt).1 = (outsAt0 m c t.val t.isLt).2 := by
  by_cases h1 : t.val < 16
  · rw [outsAt0_C m c t (by omega) h1 (by omega) ht]
    dsimp only
    frame_out
    rfl
  · rw [outsAt0_F m c t (by omega) h1 (by omega) ht]
    dsimp only
    frame_out
    rfl

/-- The two parts side by side: row `r`, channel `y`. -/
def both (g v : S8192x2816.Idx → EReal) (r : Fin 8192) (y : Fin 5632) : EReal :=
  if h : y.val < 2816 then g (ix2 r ⟨y.val, h⟩) else v (ix2 r ⟨y.val - 2816, by omega⟩)

theorem part_eq (c : Dev nD) (t : Fin cfg0.N) (i : Fin 2816) (r : Fin 8192) :
    part m c (t.val / 16) (ix2 r i) = both (gA m c) (vA m c) r ⟨t.val / 16 * 2816 + i.val, by have := t.isLt; have h : cfg0.N = 32 := N_0; omega⟩ := by
  have := t.isLt
  have h : cfg0.N = 32 := N_0
  by_cases h1 : t.val < 16
  · have e : t.val / 16 = 0 := by omega
    simp only [part, both, e, if_pos, Nat.zero_mul, Nat.zero_add, dif_pos i.isLt]
  · have e : t.val / 16 = 1 := by omega
    simp [part, both, e]

theorem arr_3 (c : Dev nD) : (dats m 0 c).arrAt 3 cfg0.N
    = fun j : S5632x1024.Idx => ∑ r : Fin 8192, both (gA m c) (vA m c) r (j 0) * hA m c (ix2 r (j 1)) := by
  refine (dats m 0 c).arrAt_eq_of_covers 3 _ (by decide +kernel) fun t hf y => ?_
  have ht := (flush0_3 t).1 hf
  blk_simp
  rw [after0_3, out_last m c t ht]
  idx_vars y
  have h : cfg0.N = 32 := N_0
  rw [show (win0_3.blk t).view.emb (ix2 y0 y1) = ix2 ⟨t.val / 16 * 2816 + y0.val, by have := t.isLt; omega⟩ y1 by blk_ext [ix_3],
    acc_last m c t ht]
  simp only [part_eq]
  rfl

theorem algebraic : algebraic_GradWUpIdeal_GradWUpRefIdeal (hGradWUpIdeal := Gen.facts) (hGradWUpRefIdeal := GradWUpRefIdeal.Gen.facts) := by
  intro m ρ m' ρ' _ hag
  refine ⟨_, GradWUpIdeal.Value.run_blocks m ρ, (θ_run _ _ _).mono (fun _ h c => ?_) (GradWUpRefIdeal.Value.run (F := Ideal) m' ρ')⟩
  obtain ⟨h0, h⟩ := h c
  obtain ⟨g0, g1, g2⟩ := hag c
  refine ⟨h0.trans (.trans ?_ (arr_3 m c).symm), h⟩
  funext j
  rw [g0, g1, g2]
  idx_vars j
  pointwise []
  rfl

end Cert.GradWUpIdeal.Prod

end
-- ==== Proof.Prod.GradWDown.lean ====
/-
  `grad_w_down`: the gradient of the feed-forward's down projection with respect to its weight, one product of the
  transposed activation with the incoming gradient, its rows summed 1024 at a time into a scratch array.
-/
module

public import proofs.«01_k».proof.Defs
public import proofs.«01_k».proof.Proof.Gen.GradWDownIdeal.Value
public import proofs.«01_k».proof.Proof.Gen.GradWDownRefIdeal.Run
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.GradWDownIdeal.Prod

open Cert.GradWDownIdeal Cert.GradWDownIdeal.Gen

variable (m : (ℓ : Loc nD τ sig) → Buf (Elt Ideal) ℓ)

abbrev actA (c : Dev nD) : S8192x2816.Idx → EReal := m ((c : Thread nD τ).loc main_arg0)
abbrev dyA (c : Dev nD) : S8192x1024.Idx → EReal := m ((c : Thread nD τ).loc main_arg1)

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])

/-- Row `p` of the block of point `t`, in the array. -/
abbrev row (t : Fin cfg0.N) (p : Fin 1024) : Fin 8192 :=
  ⟨t.val * 1024 + p.val, by have := t.isLt; have h : cfg0.N = 8 := N_0; omega⟩

theorem blk_0 (c : Dev nD) (t : Fin cfg0.N) (p : Fin 1024) (i : Fin 2816) :
    (iblk m c 0 t : Vec Ideal S1024x2816 .bf16) (ix2 p i) = actA m c (ix2 (row t p) i) := by
  blk_simp [iblk]
  rw [show V m c main_arg0 = m ((c : Thread nD τ).loc main_arg0) from V_main_arg0 m c]
  exact congrArg _ (by blk_ext [ix_0])

theorem blk_1 (c : Dev nD) (t : Fin cfg0.N) (p : Fin 1024) (q : Fin 1024) :
    (iblk m c 1 t : Vec Ideal S1024x1024 .bf16) (ix2 p q) = dyA m c (ix2 (row t p) q) := by
  blk_simp [iblk]
  rw [show V m c main_arg1 = m ((c : Thread nD τ).loc main_arg1) from V_main_arg1 m c]
  exact congrArg _ (by blk_ext [ix_1])

/-- One step of the accumulation: the block's product on top of what was there. -/
theorem step_apply (acc : Vec Ideal S2816x1024 .f32) (a : Vec Ideal S1024x2816 .bf16) (b : Vec Ideal S1024x1024 .bf16)
    (i : Fin 2816) (q : Fin 1024) :
    k0_pay2 acc a b (ix2 i q) = acc (ix2 i q) + ∑ p : Fin 1024, a (ix2 p i) * b (ix2 p q) := by
  pointwise [k0_pay2]

theorem zero_apply (i : Fin 2816) (q : Fin 1024) : k0_pay1 (F := Ideal) (ix2 i q) = 0 := by
  pointwise [k0_pay1]

/-- What the scratch array was given reads back. -/
theorem read_acc (x : Vec Ideal S2816x1024 .f32) :
    View.read (Elt Ideal) (View.whole cc0_scratch0) ((Memref.isWhole_whole (sig := sig) (κ := .tc) cc0_scratch0).unread x) = x :=
  (Memref.isWhole_whole (sig := sig) (κ := .tc) cc0_scratch0).read_unread x

/-- The scratch array after the last point: the sum over all rows. -/
theorem acc_last (c : Dev nD) (t : Fin cfg0.N) (ht : t.val + 1 = cfg0.N) (i : Fin 2816) (q : Fin 1024) :
    (outsAt0 m c t.val t.isLt).2 (ix2 i q) = ∑ r : Fin 8192, actA m c (ix2 r i) * dyA m c (ix2 r q) := by
  have h := Pipeline.eq_sum_fin_of_reset_step_apply_last (N := cfg0.N) (fun n hn (j : Fin 2816 × Fin 1024) => (outsAt0 m c n hn).2 (ix2 j.1 j.2))
    8 (fun _ => (0 : EReal)) (fun t j => ∑ p : Fin 1024, actA m c (ix2 (row t p) j.1) * dyA m c (ix2 (row t p) j.2))
    (fun t h0 j => by
      show (outsAt0 m c t.val t.isLt).2 (ix2 j.1 j.2) = _
      rw [outsAt0_A m c t h0 (by omega)]
      frame_out
      rw [step_apply, zero_apply]
      simp only [blk_0, blk_1])
    (fun t h0 j => by
      show (outsAt0 m c t.val t.isLt).2 (ix2 j.1 j.2) = _
      by_cases h2 : t.val % 8 = 7
      · rw [outsAt0_C m c t h0 h2]
        frame_out
        rw [step_apply, read_acc]
        simp only [blk_0, blk_1]
      · rw [outsAt0_B m c t h0 h2]
        frame_out
        rw [step_apply, read_acc]
        simp only [blk_0, blk_1])
    (le_of_eq N_0) t ht (i, q)
  refine h.trans ?_
  rw [zero_add]
  exact Fin.sum_mul_add_congr (S := 8) (n := 1024) (fun _ _ _ => rfl)

/-- At the last point the output block is the scratch array. -/
theorem out_last (c : Dev nD) (t : Fin cfg0.N) (ht : t.val % 8 = 7) :
    (outsAt0 m c t.val t.isLt).1 = k0_pay3 (outsAt0 m c t.val t.isLt).2 := by
  rw [outsAt0_C m c t (by omega) ht]
  dsimp only
  frame_out

theorem arr_2 (c : Dev nD) : (dats m 0 c).arrAt 2 cfg0.N
    = fun j : S2816x1024.Idx => ∑ r : Fin 8192, actA m c (ix2 r (j 0)) * dyA m c (ix2 r (j 1)) := by
  refine (dats m 0 c).arrAt_eq_of_after_last 2 t0_7 (by decide +kernel) _ fun j => ?_
  blk_simp
  rw [after0_2, out_last m c t0_7 (by decide)]
  idx_vars j
  rw [show k0_pay3 (outsAt0 m c t0_7.val t0_7.isLt).2 (ix2 j0 j1) = (outsAt0 m c t0_7.val t0_7.isLt).2 (ix2 j0 j1) from rfl]
  exact acc_last m c t0_7 N_0.symm j0 j1

theorem algebraic : algebraic_GradWDownIdeal_GradWDownRefIdeal (hGradWDownIdeal := Gen.facts) (hGradWDownRefIdeal := GradWDownRefIdeal.Gen.facts) := by
  intro m ρ m' ρ' _ hag
  refine ⟨_, GradWDownIdeal.Value.run_blocks m ρ, (θ_run _ _ _).mono (fun _ h c => ?_) (GradWDownRefIdeal.Value.run (F := Ideal) m' ρ')⟩
  obtain ⟨h0, h⟩ := h c
  obtain ⟨g0, g1⟩ := hag c
  refine ⟨h0.trans (.trans ?_ (arr_2 m c).symm), h⟩
  funext j
  rw [g0, g1]
  idx_vars j
  pointwise []
  exact Finset.sum_congr rfl fun _ _ => mul_comm _ _

end Cert.GradWDownIdeal.Prod

end
-- ==== Proof.Prod.Rows.lean ====
/-
  Arrays of two axes written and read by bands of whole rows: what a list of such writes leaves at an index.
-/
module

public import Idealize.ShloMosaic.Lib.Pointwise
public import Idealize.ShloMosaic.Lib.Pipeline.ValueKit

@[expose] public section

noncomputable section

open Idealize.ShloMosaic

namespace Cert.Rows

variable {Val : EltTy → Type} [∀ e, Nonempty (Val e)] {e : EltTy} {M n : ℕ}

/-- The band of `k` rows from row `o`, all `n` columns. -/
abbrev band (o k : ℕ) (inb : ∀ a, (![o, 0] : Fin 2 → ℕ) a + (![k, n] : Fin 2 → ℕ) a ≤ (⟨2, ![M, n]⟩ : Shape).size a) : Rect ⟨2, ![M, n]⟩ :=
  Rect.unit ![o, 0] ![k, n] inb

/-- A band's place `(x, q)` in the array. -/
theorem band_emb (o k : ℕ) (inb) (x : Fin k) (q : Fin n) (h : o + x.val < M) :
    (band (M := M) (n := n) o k inb).emb (ix2 x q) = ix2 ⟨o + x.val, h⟩ q := by
  funext a
  apply Fin.ext
  fin_cases a
  · show o + 1 * x.val = _; simp [ix2]
  · show 0 + 1 * q.val = _; simp [ix2]

theorem mem_band (o k : ℕ) (inb) (y : Fin M) (q : Fin n) :
    ix2 y q ∈ (band (M := M) (n := n) o k inb).set ↔ o ≤ y.val ∧ y.val < o + k := by
  rw [Rect.mem_set_unit]
  constructor
  · intro h; exact h 0
  · intro h a
    fin_cases a
    · exact h
    · exact ⟨Nat.zero_le _, by simp [ix2]⟩

/-- What a row reads when the last write was a band: the band's contents in it, what was written before off it. -/
theorem canon_band (o k : ℕ) (inb) (w : (⟨2, ![k, n]⟩ : Shape).Idx → Val e) (L : List (View.Piece Val ⟨2, ![M, n]⟩ e))
    (y : Fin M) (q : Fin n) :
    View.canon (⟨band o k inb, w⟩ :: L) (ix2 y q)
      = if h : o ≤ y.val ∧ y.val < o + k then w (ix2 ⟨y.val - o, by omega⟩ q) else View.canon L (ix2 y q) := by
  split_ifs with h
  · have hy := band_emb (M := M) o k inb ⟨y.val - o, by omega⟩ q (by have := y.isLt; simp; omega)
    rw [show ix2 y q = (band o k inb).emb (ix2 ⟨y.val - o, by omega⟩ q) from
      (congrArg (ix2 · q) (Fin.ext (by simp; omega))).trans hy.symm]
    exact View.canon_cons_emb (band o k inb) w L _
  · exact View.canon_cons_of_not_mem _ L (fun hm => h ((mem_band o k inb y q).1 hm))

/-- A load of a band of what was written. -/
theorem readCov_band {sig : RefSig} {κ : Kind} {sp : Space} (v : View sig κ sp ⟨2, ![M, n]⟩ e) (L : List (View.Piece Val ⟨2, ![M, n]⟩ e))
    (o k : ℕ) (inb) (x : Fin k) (q : Fin n) (h : o + x.val < M) :
    v.readCov L (band o k inb).toLoadRect (ix2 x q) = View.canon L (ix2 ⟨o + x.val, h⟩ q) := by
  rw [View.readCov_eq_canon']
  exact congrArg _ (band_emb o k inb x q h)

/-- A load of a band of an array at hand. -/
theorem ld_band (X : (⟨2, ![M, n]⟩ : Shape).Idx → Val e) (o k : ℕ) (inb) (x : Fin k) (q : Fin n) (h : o + x.val < M) :
    View.ld X (band o k inb) (ix2 x q) = X (ix2 ⟨o + x.val, h⟩ q) :=
  congrArg X (band_emb o k inb x q h)

end Cert.Rows

end
-- ==== Proof.Prod.GradWOut.lean ====
/-
  `grad_w_out`: the gradient of the mixing projection with respect to its weight. The rows of the transposed weight
  belong half to the convolution branch and half to the attention branch; each half of a scratch array gathers its own
  branch's product with the incoming gradient, 1024 rows at a time.
-/
module

public import proofs.«01_k».proof.Defs
public import proofs.«01_k».proof.Proof.Prod.Rows
public import proofs.«01_k».proof.Proof.Gen.GradWOutIdeal.Value
public import proofs.«01_k».proof.Proof.Gen.GradWOutRefIdeal.Run
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.GradWOutIdeal.Prod

open Cert.GradWOutIdeal Cert.GradWOutIdeal.Gen

variable (m : (ℓ : Loc nD τ sig) → Buf (Elt Ideal) ℓ)

abbrev uA (c : Dev nD) : S8192x512.Idx → EReal := m ((c : Thread nD τ).loc main_arg0)
abbrev oA (c : Dev nD) : S8192x512.Idx → EReal := m ((c : Thread nD τ).loc main_arg1)
abbrev dyA (c : Dev nD) : S8192x1024.Idx → EReal := m ((c : Thread nD τ).loc main_arg2)

/-- The two branches side by side: row `r`, channel `y`. -/
def both (u o : S8192x512.Idx → EReal) (r : Fin 8192) (y : Fin 1024) : EReal :=
  if h : y.val < 512 then u (ix2 r ⟨y.val, h⟩) else o (ix2 r ⟨y.val - 512, by omega⟩)

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])
theorem ix_2 : ∀ t : Fin cfg0.N, win0_2.index t = ![t.val, 0] := (by decide +kernel : ∀ t : Fin grid0.N, win0_2.index t = ![t.val, 0])

/-- Row `p` of the block of point `t`, in the array. -/
abbrev row (t : Fin cfg0.N) (p : Fin 1024) : Fin 8192 :=
  ⟨t.val * 1024 + p.val, by have := t.isLt; have h : cfg0.N = 8 := N_0; omega⟩

theorem blk_0 (c : Dev nD) (t : Fin cfg0.N) (p : Fin 1024) (q : Fin 512) :
    (iblk m c 0 t : Vec Ideal S1024x512 .bf16) (ix2 p q) = uA m c (ix2 (row t p) q) := by
  blk_simp [iblk]
  rw [show V m c main_arg0 = m ((c : Thread nD τ).loc main_arg0) from V_main_arg0 m c]
  exact congrArg _ (by blk_ext [ix_0])

theorem blk_1 (c : Dev nD) (t : Fin cfg0.N) (p : Fin 1024) (q : Fin 512) :
    (iblk m c 1 t : Vec Ideal S1024x512 .f32) (ix2 p q) = oA m c (ix2 (row t p) q) := by
  blk_simp [iblk]
  rw [show V m c main_arg1 = m ((c : Thread nD τ).loc main_arg1) from V_main_arg1 m c]
  exact congrArg _ (by blk_ext [ix_1])

theorem blk_2 (c : Dev nD) (t : Fin cfg0.N) (p : Fin 1024) (q : Fin 1024) :
    (iblk m c 2 t : Vec Ideal S1024x1024 .bf16) (ix2 p q) = dyA m c (ix2 (row t p) q) := by
  blk_simp [iblk]
  rw [show V m c main_arg2 = m ((c : Thread nD τ).loc main_arg2) from V_main_arg2 m c]
  exact congrArg _ (by blk_ext [ix_2])

/-- One step for the convolution branch's half, and one for the attention branch's. -/
theorem step_u (acc : Vec Ideal S512x1024 .f32) (a : Vec Ideal S1024x512 .bf16) (b : Vec Ideal S1024x1024 .bf16) (i : Fin 512) (q : Fin 1024) :
    k0_pay2 acc a b (ix2 i q) = acc (ix2 i q) + ∑ p : Fin 1024, a (ix2 p i) * b (ix2 p q) := by
  pointwise [k0_pay2]

theorem step_o (acc : Vec Ideal S512x1024 .f32) (a : Vec Ideal S1024x512 .f32) (b : Vec Ideal S1024x1024 .bf16) (i : Fin 512) (q : Fin 1024) :
    k0_pay3 acc a b (ix2 i q) = acc (ix2 i q) + ∑ p : Fin 1024, a (ix2 p i) * b (ix2 p q) := by
  pointwise [k0_pay3]

theorem zero_apply (i : Fin 1024) (q : Fin 1024) : k0_pay1 (F := Ideal) (ix2 i q) = 0 := by
  pointwise [k0_pay1]

theorem pay_out (v : Vec Ideal S1024x1024 .f32) (j : S1024x1024.Idx) : k0_pay4 v j = v j := rfl

/-- What the scratch array was given reads back. -/
theorem read_acc (x : Vec Ideal S1024x1024 .f32) :
    View.read (Elt Ideal) (View.whole cc0_scratch0) ((Memref.isWhole_whole (sig := sig) (κ := .tc) cc0_scratch0).unread x) = x :=
  (Memref.isWhole_whole (sig := sig) (κ := .tc) cc0_scratch0).read_unread x

/-- What a point adds at row `y`, column `q` of the scratch array. -/
abbrev add (c : Dev nD) (t : Fin cfg0.N) (y q : Fin 1024) : EReal :=
  ∑ p : Fin 1024, both (uA m c) (oA m c) (row t p) y * dyA m c (ix2 (row t p) q)

theorem first (c : Dev nD) (t : Fin cfg0.N) (h0 : t.val % 8 = 0) (y q : Fin 1024) :
    (outsAt0 m c t.val t.isLt).2 (ix2 y q) = 0 + add m c t y q := by
  rw [outsAt0_A m c t h0 (by omega)]
  frame_out
  rw [Rows.canon_band, Rows.canon_band]
  have := y.isLt
  by_cases hy : y.val < 512
  · rw [dif_neg (by omega), dif_pos (by omega), step_u, Rows.readCov_band _ _ _ _ _ _ _ (by simp), Rows.canon_band,
      dif_pos (by simp), zero_apply]
    simp only [blk_0, blk_2, add, both, dif_pos hy, Nat.sub_zero]
  · rw [dif_pos (by omega), step_o, Rows.readCov_band _ _ _ _ _ _ _ (by simp; omega), Rows.canon_band, dif_neg (by simp),
      Rows.canon_band, dif_pos (by simp; omega), zero_apply]
    simp only [blk_1, blk_2, add, both, dif_neg hy]

/-- What a later point leaves, read off the two writes it makes over the scratch array `prev`. -/
theorem later (c : Dev nD) (t : Fin cfg0.N) (prev : Vec Ideal S1024x1024 .f32) (y q : Fin 1024) :
    View.canon
      [⟨Rect.unit ![512, 0] ![512, 1024] inb_S1024x1024_S512x1024_512_0,
          k0_pay3 (View.ld prev (Rect.unit ![512, 0] ![512, 1024] inb_S1024x1024_S512x1024_512_0)) (iblk m c 1 t) (iblk m c 2 t)⟩,
        ⟨Rect.unit ![0, 0] ![512, 1024] inb_S1024x1024_S512x1024_0_0,
          k0_pay2 (View.ld prev (Rect.unit ![0, 0] ![512, 1024] inb_S1024x1024_S512x1024_0_0)) (iblk m c 0 t) (iblk m c 2 t)⟩]
      (ix2 y q) = prev (ix2 y q) + add m c t y q := by
  rw [Rows.canon_band, Rows.canon_band]
  have := y.isLt
  by_cases hy : y.val < 512
  · rw [dif_neg (by omega), dif_pos (by omega), step_u, Rows.ld_band _ _ _ _ _ _ (by simp)]
    simp only [blk_0, blk_2, add, both, dif_pos hy, Nat.sub_zero, Nat.zero_add]
  · rw [dif_pos (by omega), step_o, Rows.ld_band _ _ _ _ _ _ (by simp; omega)]
    simp only [blk_1, blk_2, add, both, dif_neg hy, show 512 + (y.val - 512) = y.val by omega]

theorem next (c : Dev nD) (t : Fin cfg0.N) (h0 : ¬ t.val % 8 = 0) (y q : Fin 1024) :
    (outsAt0 m c t.val t.isLt).2 (ix2 y q) = (outsAt0 m c (t.val - 1) (by have := t.isLt; omega)).2 (ix2 y q) + add m c t y q := by
  by_cases h2 : t.val % 8 = 7
  · rw [outsAt0_C m c t h0 h2]
    frame_out
    rw [read_acc]
    exact later m c t _ y q
  · rw [outsAt0_B m c t h0 h2]
    frame_out
    rw [read_acc]
    exact later m c t _ y q

/-- The scratch array after the last point: the sum over all rows. -/
theorem acc_last (c : Dev nD) (t : Fin cfg0.N) (ht : t.val + 1 = cfg0.N) (y q : Fin 1024) :
    (outsAt0 m c t.val t.isLt).2 (ix2 y q) = ∑ r : Fin 8192, both (uA m c) (oA m c) r y * dyA m c (ix2 r q) := by
  have h := Pipeline.eq_sum_fin_of_reset_step_apply_last (N := cfg0.N) (fun n hn (j : Fin 1024 × Fin 1024) => (outsAt0 m c n hn).2 (ix2 j.1 j.2))
    8 (fun _ => (0 : EReal)) (fun t j => add m c t j.1 j.2)
    (fun t h0 j => first m c t h0 j.1 j.2) (fun t h0 j => next m c t h0 j.1 j.2)
    (le_of_eq N_0) t ht (y, q)
  refine h.trans ?_
  rw [zero_add]
  exact Fin.sum_mul_add_congr (S := 8) (n := 1024) (fun _ _ _ => rfl)

/-- At the last point the output block is the scratch array. -/
theorem out_last (c : Dev nD) (t : Fin cfg0.N) (ht : t.val % 8 = 7) (y q : Fin 1024) :
    (outsAt0 m c t.val t.isLt).1 (ix2 y q) = (outsAt0 m c t.val t.isLt).2 (ix2 y q) := by
  rw [outsAt0_C m c t (by omega) ht]
  dsimp only
  frame_out
  rw [pay_out, Rows.readCov_band _ _ _ _ _ y q (by simp)]
  exact congrArg (fun z => View.canon _ (ix2 z q)) (Fin.ext (Nat.zero_add _))

theorem arr_3 (c : Dev nD) : (dats m 0 c).arrAt 3 cfg0.N
    = fun j : S1024x1024.Idx => ∑ r : Fin 8192, both (uA m c) (oA m c) r (j 0) * dyA m c (ix2 r (j 1)) := by
  refine (dats m 0 c).arrAt_eq_of_after_last 3 t0_7 (by decide +kernel) _ fun j => ?_
  blk_simp
  rw [after0_3]
  idx_vars j
  rw [out_last m c t0_7 (by decide)]
  exact acc_last m c t0_7 N_0.symm j0 j1

theorem algebraic : algebraic_GradWOutIdeal_GradWOutRefIdeal (hGradWOutIdeal := Gen.facts) (hGradWOutRefIdeal := GradWOutRefIdeal.Gen.facts) := by
  intro m ρ m' ρ' _ hag
  refine ⟨_, GradWOutIdeal.Value.run_blocks m ρ, (θ_run _ _ _).mono (fun _ h c => ?_) (GradWOutRefIdeal.Value.run (F := Ideal) m' ρ')⟩
  obtain ⟨h0, h⟩ := h c
  obtain ⟨g0, g1, g2⟩ := hag c
  refine ⟨h0.trans (.trans ?_ (arr_3 m c).symm), h⟩
  funext j
  rw [g0, g1, g2]
  idx_vars j
  pointwise []
  exact Finset.sum_congr rfl fun _ _ => mul_comm _ _

end Cert.GradWOutIdeal.Prod

end
-- ==== Proof.Prod.GradWIn.lean ====
/-
  `grad_w_in`: the gradient of the input projection with respect to its weight. The rows of the transposed weight belong
  to the convolution's two halves, the queries, the keys and the values; each band of a scratch array gathers its own
  part's product with the normalised input, 1024 rows at a time.
-/
module

public import proofs.«01_k».proof.Defs
public import proofs.«01_k».proof.Proof.Prod.Rows
public import proofs.«01_k».proof.Proof.Gen.GradWInIdeal.Value
public import proofs.«01_k».proof.Proof.Gen.GradWInRefIdeal.Run
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.GradWInIdeal.Prod

open Cert.GradWInIdeal Cert.GradWInIdeal.Gen

variable (m : (ℓ : Loc nD τ sig) → Buf (Elt Ideal) ℓ)

abbrev dA (c : Dev nD) : S8192x1024.Idx → EReal := m ((c : Thread nD τ).loc main_arg0)
abbrev qA (c : Dev nD) : S8192x512.Idx → EReal := m ((c : Thread nD τ).loc main_arg1)
abbrev kA (c : Dev nD) : S8192x512.Idx → EReal := m ((c : Thread nD τ).loc main_arg2)
abbrev vA (c : Dev nD) : S8192x512.Idx → EReal := m ((c : Thread nD τ).loc main_arg3)
abbrev hA (c : Dev nD) : S8192x1024.Idx → EReal := m ((c : Thread nD τ).loc main_arg4)

/-- The four parts side by side: row `r`, channel `y`. -/
def parts (a : S8192x1024.Idx → EReal) (q k v : S8192x512.Idx → EReal) (r : Fin 8192) (y : Fin 2560) : EReal :=
  if h : y.val < 1024 then a (ix2 r ⟨y.val, h⟩)
  else if h : y.val < 1536 then q (ix2 r ⟨y.val - 1024, by omega⟩)
  else if h : y.val < 2048 then k (ix2 r ⟨y.val - 1536, by omega⟩)
  else v (ix2 r ⟨y.val - 2048, by omega⟩)

/-- The same, its bounds counted from each part's start. -/
theorem parts_nested (a : S8192x1024.Idx → EReal) (q k v : S8192x512.Idx → EReal) (r : Fin 8192) (y : Fin 2560) :
    (if h : y.val < 1024 then a (ix2 r ⟨y.val, h⟩)
     else if h : y.val - 1024 < 512 then q (ix2 r ⟨y.val - 1024, h⟩)
     else if h : y.val - 1024 - 512 < 512 then k (ix2 r ⟨y.val - 1024 - 512, h⟩)
     else v (ix2 r ⟨y.val - 1024 - 512 - 512, by omega⟩)) = parts a q k v r y := by
  simp only [parts, Nat.sub_sub, Nat.reduceAdd]
  split_ifs <;> first | rfl | (exfalso; omega)

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])
theorem ix_2 : ∀ t : Fin cfg0.N, win0_2.index t = ![t.val, 0] := (by decide +kernel : ∀ t : Fin grid0.N, win0_2.index t = ![t.val, 0])
theorem ix_3 : ∀ t : Fin cfg0.N, win0_3.index t = ![t.val, 0] := (by decide +kernel : ∀ t : Fin grid0.N, win0_3.index t = ![t.val, 0])
theorem ix_4 : ∀ t : Fin cfg0.N, win0_4.index t = ![t.val, 0] := (by decide +kernel : ∀ t : Fin grid0.N, win0_4.index t = ![t.val, 0])

/-- Row `p` of the block of point `t`, in the array. -/
abbrev row (t : Fin cfg0.N) (p : Fin 1024) : Fin 8192 :=
  ⟨t.val * 1024 + p.val, by have := t.isLt; have h : cfg0.N = 8 := N_0; omega⟩

theorem blk_0 (c : Dev nD) (t : Fin cfg0.N) (p : Fin 1024) (q : Fin 1024) :
    (iblk m c 0 t : Vec Ideal S1024x1024 .bf16) (ix2 p q) = dA m c (ix2 (row t p) q) := by
  blk_simp [iblk]
  rw [show V m c main_arg0 = m ((c : Thread nD τ).loc main_arg0) from V_main_arg0 m c]
  exact congrArg _ (by blk_ext [ix_0])

theorem blk_1 (c : Dev nD) (t : Fin cfg0.N) (p : Fin 1024) (q : Fin 512) :
    (iblk m c 1 t : Vec Ideal S1024x512 .bf16) (ix2 p q) = qA m c (ix2 (row t p) q) := by
  blk_simp [iblk]
  rw [show V m c main_arg1 = m ((c : Thread nD τ).loc main_arg1) from V_main_arg1 m c]
  exact congrArg _ (by blk_ext [ix_1])

theorem blk_2 (c : Dev nD) (t : Fin cfg0.N) (p : Fin 1024) (q : Fin 512) :
    (iblk m c 2 t : Vec Ideal S1024x512 .bf16) (ix2 p q) = kA m c (ix2 (row t p) q) := by
  blk_simp [iblk]
  rw [show V m c main_arg2 = m ((c : Thread nD τ).loc main_arg2) from V_main_arg2 m c]
  exact congrArg _ (by blk_ext [ix_2])

theorem blk_3 (c : Dev nD) (t : Fin cfg0.N) (p : Fin 1024) (q : Fin 512) :
    (iblk m c 3 t : Vec Ideal S1024x512 .bf16) (ix2 p q) = vA m c (ix2 (row t p) q) := by
  blk_simp [iblk]
  rw [show V m c main_arg3 = m ((c : Thread nD τ).loc main_arg3) from V_main_arg3 m c]
  exact congrArg _ (by blk_ext [ix_3])

theorem blk_4 (c : Dev nD) (t : Fin cfg0.N) (p : Fin 1024) (q : Fin 1024) :
    (iblk m c 4 t : Vec Ideal S1024x1024 .bf16) (ix2 p q) = hA m c (ix2 (row t p) q) := by
  blk_simp [iblk]
  rw [show V m c main_arg4 = m ((c : Thread nD τ).loc main_arg4) from V_main_arg4 m c]
  exact congrArg _ (by blk_ext [ix_4])

/-! One step for each part's band of rows. -/

theorem step_0 (acc : Vec Ideal S1024x1024 .f32) (a : Vec Ideal S1024x1024 .bf16) (b : Vec Ideal S1024x1024 .bf16) (i : Fin 1024) (q : Fin 1024) :
    k0_pay4 acc a b (ix2 i q) = acc (ix2 i q) + ∑ p : Fin 1024, a (ix2 p i) * b (ix2 p q) := by
  pointwise [k0_pay4]

theorem step_1 (acc : Vec Ideal S512x1024 .f32) (a : Vec Ideal S1024x512 .bf16) (b : Vec Ideal S1024x1024 .bf16) (i : Fin 512) (q : Fin 1024) :
    k0_pay5 acc a b (ix2 i q) = acc (ix2 i q) + ∑ p : Fin 1024, a (ix2 p i) * b (ix2 p q) := by
  pointwise [k0_pay5]

theorem step_2 (acc : Vec Ideal S512x1024 .f32) (a : Vec Ideal S1024x512 .bf16) (b : Vec Ideal S1024x1024 .bf16) (i : Fin 512) (q : Fin 1024) :
    k0_pay6 acc a b (ix2 i q) = acc (ix2 i q) + ∑ p : Fin 1024, a (ix2 p i) * b (ix2 p q) := by
  pointwise [k0_pay6]

theorem step_3 (acc : Vec Ideal S512x1024 .f32) (a : Vec Ideal S1024x512 .bf16) (b : Vec Ideal S1024x1024 .bf16) (i : Fin 512) (q : Fin 1024) :
    k0_pay2 acc a b (ix2 i q) = acc (ix2 i q) + ∑ p : Fin 1024, a (ix2 p i) * b (ix2 p q) := by
  pointwise [k0_pay2]

theorem zero_apply (i : Fin 2560) (q : Fin 1024) : k0_pay1 (F := Ideal) (ix2 i q) = 0 := by
  pointwise [k0_pay1]

theorem pay_out (v : Vec Ideal S2560x1024 .f32) (j : S2560x1024.Idx) : k0_pay3 v j = v j := rfl

/-- What the scratch array was given reads back. -/
theorem read_acc (x : Vec Ideal S2560x1024 .f32) :
    View.read (Elt Ideal) (View.whole cc0_scratch0) ((Memref.isWhole_whole (sig := sig) (κ := .tc) cc0_scratch0).unread x) = x :=
  (Memref.isWhole_whole (sig := sig) (κ := .tc) cc0_scratch0).read_unread x

/-- What a point adds at row `y`, column `q` of the scratch array. -/
abbrev add (c : Dev nD) (t : Fin cfg0.N) (y : Fin 2560) (q : Fin 1024) : EReal :=
  ∑ p : Fin 1024, parts (dA m c) (qA m c) (kA m c) (vA m c) (row t p) y * hA m c (ix2 (row t p) q)

/-- Four bands written over the array, each its step on what `old` holds there: the array gains the point's products. -/
theorem bands (c : Dev nD) (t : Fin cfg0.N) (old : Fin 2560 → Fin 1024 → EReal) (x0 : Vec Ideal S1024x1024 .f32) (x1 x2 x3 : Vec Ideal S512x1024 .f32)
    (h0 : ∀ (i : Fin 1024) (q : Fin 1024), x0 (ix2 i q) = old ⟨i.val, by omega⟩ q)
    (h1 : ∀ (i : Fin 512) (q : Fin 1024), x1 (ix2 i q) = old ⟨1024 + i.val, by omega⟩ q)
    (h2 : ∀ (i : Fin 512) (q : Fin 1024), x2 (ix2 i q) = old ⟨1536 + i.val, by omega⟩ q)
    (h3 : ∀ (i : Fin 512) (q : Fin 1024), x3 (ix2 i q) = old ⟨2048 + i.val, by omega⟩ q)
    (L : List (View.Piece (Elt Ideal) S2560x1024 .f32)) (y : Fin 2560) (q : Fin 1024) :
    View.canon
      (⟨Rect.unit ![2048, 0] ![512, 1024] inb_S2560x1024_S512x1024_2048_0, k0_pay2 x3 (iblk m c 3 t) (iblk m c 4 t)⟩ ::
       ⟨Rect.unit ![1536, 0] ![512, 1024] inb_S2560x1024_S512x1024_1536_0, k0_pay6 x2 (iblk m c 2 t) (iblk m c 4 t)⟩ ::
       ⟨Rect.unit ![1024, 0] ![512, 1024] inb_S2560x1024_S512x1024_1024_0, k0_pay5 x1 (iblk m c 1 t) (iblk m c 4 t)⟩ ::
       ⟨Rect.unit ![0, 0] ![1024, 1024] inb_S2560x1024_S1024x1024_0_0, k0_pay4 x0 (iblk m c 0 t) (iblk m c 4 t)⟩ :: L)
      (ix2 y q) = old y q + add m c t y q := by
  rw [Rows.canon_band, Rows.canon_band, Rows.canon_band, Rows.canon_band]
  have := y.isLt
  by_cases y0 : y.val < 1024
  · rw [dif_neg (by omega), dif_neg (by omega), dif_neg (by omega), dif_pos (by omega), step_0, h0]
    simp only [blk_0, blk_4, add, parts, dif_pos y0, Nat.sub_zero]
  by_cases y1 : y.val < 1536
  · rw [dif_neg (by omega), dif_neg (by omega), dif_pos (by omega), step_1, h1]
    simp only [blk_1, blk_4, add, parts, dif_neg y0, dif_pos y1, show 1024 + (y.val - 1024) = y.val by omega]
  by_cases y2 : y.val < 2048
  · rw [dif_neg (by omega), dif_pos (by omega), step_2, h2]
    simp only [blk_2, blk_4, add, parts, dif_neg y0, dif_neg y1, dif_pos y2, show 1536 + (y.val - 1536) = y.val by omega]
  · rw [dif_pos (by omega), step_3, h3]
    simp only [blk_3, blk_4, add, parts, dif_neg y0, dif_neg y1, dif_neg y2, show 2048 + (y.val - 2048) = y.val by omega]

theorem first (c : Dev nD) (t : Fin cfg0.N) (h0 : t.val % 8 = 0) (y : Fin 2560) (q : Fin 1024) :
    (outsAt0 m c t.val t.isLt).2 (ix2 y q) = 0 + add m c t y q := by
  rw [outsAt0_A m c t h0 (by omega)]
  frame_out
  refine bands m c t (fun _ _ => 0) _ _ _ _ (fun i q => ?_) (fun i q => ?_) (fun i q => ?_) (fun i q => ?_) _ y q
  · rw [Rows.readCov_band _ _ _ _ _ _ _ (by have := i.isLt; omega), Rows.canon_band, dif_pos (by have := i.isLt; simp; omega), zero_apply]
  · rw [Rows.readCov_band _ _ _ _ _ _ _ (by have := i.isLt; omega), Rows.canon_band, dif_neg (by have := i.isLt; simp),
      Rows.canon_band, dif_pos (by have := i.isLt; simp; omega), zero_apply]
  · rw [Rows.readCov_band _ _ _ _ _ _ _ (by have := i.isLt; omega), Rows.canon_band, dif_neg (by have := i.isLt; simp),
      Rows.canon_band, dif_neg (by have := i.isLt; simp; omega), Rows.canon_band, dif_pos (by have := i.isLt; simp; omega), zero_apply]
  · rw [Rows.readCov_band _ _ _ _ _ _ _ (by have := i.isLt; omega), Rows.canon_band, dif_neg (by have := i.isLt; simp),
      Rows.canon_band, dif_neg (by have := i.isLt; simp; omega), Rows.canon_band, dif_neg (by have := i.isLt; simp; omega),
      Rows.canon_band, dif_pos (by have := i.isLt; simp; omega), zero_apply]

/-- The bands of an array at hand, loaded. -/
theorem loads (prev : Vec Ideal S2560x1024 .f32) (o k : ℕ) (inb) (i : Fin k) (q : Fin 1024) (h : o + i.val < 2560) :
    View.ld prev (Rect.unit (s := S2560x1024) ![o, 0] ![k, 1024] inb) (ix2 i q) = prev (ix2 ⟨o + i.val, h⟩ q) :=
  Rows.ld_band prev o k inb i q h

theorem next (c : Dev nD) (t : Fin cfg0.N) (h0 : ¬ t.val % 8 = 0) (y : Fin 2560) (q : Fin 1024) :
    (outsAt0 m c t.val t.isLt).2 (ix2 y q) = (outsAt0 m c (t.val - 1) (by have := t.isLt; omega)).2 (ix2 y q) + add m c t y q := by
  by_cases h2 : t.val % 8 = 7
  · rw [outsAt0_C m c t h0 h2]
    frame_out
    rw [read_acc]
    refine bands m c t (fun y q => (outsAt0 m c (t.val - 1) _).2 (ix2 y q)) _ _ _ _ (fun i q => ?_) (fun i q => ?_) (fun i q => ?_) (fun i q => ?_) _ y q
    · refine (loads _ 0 1024 _ i q (by omega)).trans ?_
      simp only [Nat.zero_add]
    · exact loads _ _ _ _ i q (by omega)
    · exact loads _ _ _ _ i q (by omega)
    · exact loads _ _ _ _ i q (by omega)
  · rw [outsAt0_B m c t h0 h2]
    frame_out
    rw [read_acc]
    refine bands m c t (fun y q => (outsAt0 m c (t.val - 1) _).2 (ix2 y q)) _ _ _ _ (fun i q => ?_) (fun i q => ?_) (fun i q => ?_) (fun i q => ?_) _ y q
    · refine (loads _ 0 1024 _ i q (by omega)).trans ?_
      simp only [Nat.zero_add]
    · exact loads _ _ _ _ i q (by omega)
    · exact loads _ _ _ _ i q (by omega)
    · exact loads _ _ _ _ i q (by omega)

/-- The scratch array after the last point: the sum over all rows. -/
theorem acc_last (c : Dev nD) (t : Fin cfg0.N) (ht : t.val + 1 = cfg0.N) (y : Fin 2560) (q : Fin 1024) :
    (outsAt0 m c t.val t.isLt).2 (ix2 y q) = ∑ r : Fin 8192, parts (dA m c) (qA m c) (kA m c) (vA m c) r y * hA m c (ix2 r q) := by
  have h := Pipeline.eq_sum_fin_of_reset_step_apply_last (N := cfg0.N) (fun n hn (j : Fin 2560 × Fin 1024) => (outsAt0 m c n hn).2 (ix2 j.1 j.2))
    8 (fun _ => (0 : EReal)) (fun t j => add m c t j.1 j.2)
    (fun t h0 j => first m c t h0 j.1 j.2) (fun t h0 j => next m c t h0 j.1 j.2)
    (le_of_eq N_0) t ht (y, q)
  refine h.trans ?_
  rw [zero_add]
  exact Fin.sum_mul_add_congr (S := 8) (n := 1024) (fun _ _ _ => rfl)

/-- At the last point the output block is the scratch array. -/
theorem out_last (c : Dev nD) (t : Fin cfg0.N) (ht : t.val % 8 = 7) (y : Fin 2560) (q : Fin 1024) :
    (outsAt0 m c t.val t.isLt).1 (ix2 y q) = (outsAt0 m c t.val t.isLt).2 (ix2 y q) := by
  rw [outsAt0_C m c t (by omega) ht]
  dsimp only
  frame_out
  rw [pay_out, Rows.readCov_band _ _ _ _ _ y q (by simp)]
  exact congrArg (fun z => View.canon _ (ix2 z q)) (Fin.ext (Nat.zero_add _))

theorem arr_5 (c : Dev nD) : (dats m 0 c).arrAt 5 cfg0.N
    = fun j : S2560x1024.Idx => ∑ r : Fin 8192, parts (dA m c) (qA m c) (kA m c) (vA m c) r (j 0) * hA m c (ix2 r (j 1)) := by
  refine (dats m 0 c).arrAt_eq_of_after_last 5 t0_7 (by decide +kernel) _ fun j => ?_
  blk_simp
  rw [after0_5]
  idx_vars j
  rw [out_last m c t0_7 (by decide)]
  exact acc_last m c t0_7 N_0.symm j0 j1

theorem algebraic : algebraic_GradWInIdeal_GradWInRefIdeal (hGradWInIdeal := Gen.facts) (hGradWInRefIdeal := GradWInRefIdeal.Gen.facts) := by
  intro m ρ m' ρ' _ hag
  refine ⟨_, GradWInIdeal.Value.run_blocks m ρ, (θ_run _ _ _).mono (fun _ h c => ?_) (GradWInRefIdeal.Value.run (F := Ideal) m' ρ')⟩
  obtain ⟨h0, h⟩ := h c
  obtain ⟨g0, g1, g2, g3, g4⟩ := hag c
  refine ⟨h0.trans (.trans ?_ (arr_5 m c).symm), h⟩
  funext j
  rw [g0, g1, g2, g3, g4]
  idx_vars j
  pointwise []
  exact Finset.sum_congr rfl fun r _ => congrArg (· * _) (parts_nested _ _ _ _ r j0)

end Cert.GradWInIdeal.Prod

end
-- ==== Proof.Prod.DAct.lean ====
/-
  `d_act`: the gradient of the feed-forward's down projection with respect to the activation, one product with the
  transposed weight. Each grid point computes 1024 rows and 1408 columns of it.
-/
module

public import proofs.«01_k».proof.Defs
public import proofs.«01_k».proof.Proof.Gen.DActIdeal.Value
public import proofs.«01_k».proof.Proof.Gen.DActRefIdeal.Run
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.DActIdeal.Prod

open Cert.DActIdeal Cert.DActIdeal.Gen

variable (m : (ℓ : Loc nD τ sig) → Buf (Elt Ideal) ℓ)

abbrev dyA (c : Dev nD) : S8192x1024.Idx → EReal := m ((c : Thread nD τ).loc main_arg0)
abbrev wA (c : Dev nD) : S2816x1024.Idx → EReal := m ((c : Thread nD τ).loc main_arg1)

/-- The product: row `r` of the incoming gradient with row `q` of the weight. -/
def val (c : Dev nD) (r : Fin 8192) (q : Fin 2816) : EReal := ∑ k : Fin 1024, dyA m c (ix2 r k) * wA m c (ix2 q k)

theorem hz : (![0, 0] : Fin 2 → Nat) = fun _ => 0 := funext fun a => by fin_cases a <;> rfl

theorem out_2 (a : Vec Ideal S1024x1024 .bf16) (b : Vec Ideal S1408x1024 .bf16) (p : Fin 1024) (q : Fin 1408) :
    out0_2 a b (ix2 p q) = ∑ k : Fin 1024, a (ix2 p k) * b (ix2 q k) := by
  unfold out0_2
  rw [View.canon_unit_zero hz, View.ld_unit_zero (S := S1024x1024) hz, View.ld_unit_zero (S := S1408x1024) hz]
  pointwise [k0_pay1]

theorem ix_0 : ∀ t : Fin cfg0.N, win0_0.index t = ![t.val % 8, 0] := (by decide +kernel : ∀ t : Fin grid0.N, win0_0.index t = ![t.val % 8, 0])
theorem ix_1 : ∀ t : Fin cfg0.N, win0_1.index t = ![t.val / 8, 0] := (by decide +kernel : ∀ t : Fin grid0.N, win0_1.index t = ![t.val / 8, 0])
theorem ix_2 : ∀ t : Fin cfg0.N, win0_2.index t = ![t.val % 8, t.val / 8] := (by decide +kernel : ∀ t : Fin grid0.N, win0_2.index t = ![t.val % 8, t.val / 8])

/-- Row `p` of the block of point `t`, in the array. -/
abbrev row (t : Fin cfg0.N) (p : Fin 1024) : Fin 8192 :=
  ⟨t.val % 8 * 1024 + p.val, by omega⟩

/-- Column `q` of the block of point `t`, in the array. -/
abbrev col (t : Fin cfg0.N) (q : Fin 1408) : Fin 2816 :=
  ⟨t.val / 8 * 1408 + q.val, by have := t.isLt; have h : cfg0.N = 16 := N_0; omega⟩

theorem blk_0 (c : Dev nD) (t : Fin cfg0.N) (p k : Fin 1024) :
    (iblk m c 0 t : Vec Ideal S1024x1024 .bf16) (ix2 p k) = dyA m c (ix2 (row t p) k) := by
  blk_simp [iblk]
  rw [show V m c main_arg0 = m ((c : Thread nD τ).loc main_arg0) from V_main_arg0 m c]
  exact congrArg _ (by blk_ext [ix_0])

theorem V_v0 (c : Dev nD) : V m c main_v0 = truncf (F := Ideal) .bf16 (m ((c : Thread nD τ).loc main_arg1)) bitsLt_bf16_f32 := by
  show StableHlo.after hostOps0 _ (main_v0 : DevRef τ sig) = _
  after_results_simp

theorem blk_1 (c : Dev nD) (t : Fin cfg0.N) (q : Fin 1408) (k : Fin 1024) :
    (iblk m c 1 t : Vec Ideal S1408x1024 .bf16) (ix2 q k) = wA m c (ix2 (col t q) k) := by
  blk_simp [iblk]
  rw [show (win0_1.blk t).view.emb (ix2 q k) = ix2 (col t q) k by blk_ext [ix_1], V_v0 m c]
  pointwise []

theorem arr_2 (c : Dev nD) : (dats m 0 c).arrAt 2 cfg0.N = fun j : S8192x2816.Idx => val m c (j 0) (j 1) := by
  refine (dats m 0 c).arrAt_eq_of_covers 2 _ (by decide +kernel) fun t hf y => ?_
  blk_simp
  rw [after0_2]
  idx_vars y
  rw [show (win0_2.blk t).view.emb (ix2 y0 y1) = ix2 (row t y0) (col t y1) by blk_ext [ix_2], out_2]
  simp only [blk_0, blk_1]
  rfl

theorem algebraic : algebraic_DActIdeal_DActRefIdeal (hDActIdeal := Gen.facts) (hDActRefIdeal := DActRefIdeal.Gen.facts) := by
  intro m ρ m' ρ' _ hag
  refine ⟨_, DActIdeal.Value.run_blocks m ρ, (θ_run _ _ _).mono (fun _ h c => ?_) (DActRefIdeal.Value.run (F := Ideal) m' ρ')⟩
  obtain ⟨h0, h⟩ := h c
  obtain ⟨g0, g1⟩ := hag c
  refine ⟨h0.trans (.trans ?_ (arr_2 m c).symm), h⟩
  funext j
  rw [g0, g1]
  idx_vars j
  pointwise [val]

end Cert.DActIdeal.Prod

end
-- ==== Proof.Prod.DCat.lean ====
/-
  `d_cat`: the gradient of the mixer's output projection with respect to its input, one product with the transposed
  weight. Each grid point computes 1024 rows of it.
-/
module

public import proofs.«01_k».proof.Defs
public import proofs.«01_k».proof.Proof.Gen.DCatIdeal.Value
public import proofs.«01_k».proof.Proof.Gen.DCatRefIdeal.Run
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.DCatIdeal.Prod

open Cert.DCatIdeal Cert.DCatIdeal.Gen

variable (m : (ℓ : Loc nD τ sig) → Buf (Elt Ideal) ℓ)

abbrev dyA (c : Dev nD) : S8192x1024.Idx → EReal := m ((c : Thread nD τ).loc main_arg0)
abbrev wA (c : Dev nD) : S1024x1024.Idx → EReal := m ((c : Thread nD τ).loc main_arg1)

/-- The product: row `r` of the incoming gradient with row `q` of the weight. -/
def val (c : Dev nD) (r : Fin 8192) (q : Fin 1024) : EReal := ∑ k : Fin 1024, dyA m c (ix2 r k) * wA m c (ix2 q k)

theorem hz : (![0, 0] : Fin 2 → Nat) = fun _ => 0 := funext fun a => by fin_cases a <;> rfl

theorem out_2 (a b : Vec Ideal S1024x1024 .bf16) (p q : Fin 1024) :
    out0_2 a b (ix2 p q) = ∑ k : Fin 1024, a (ix2 p k) * b (ix2 q k) := by
  unfold out0_2
  rw [View.canon_unit_zero hz, View.ld_unit_zero (S := S1024x1024) hz, View.ld_unit_zero (S := S1024x1024) hz]
  pointwise [k0_pay1]

theorem ix_0 : ∀ t : Fin cfg0.N, win0_0.index t = ![t.val, 0] := (by decide +kernel : ∀ t : Fin grid0.N, win0_0.index t = ![t.val, 0])
theorem ix_1 : ∀ t : Fin cfg0.N, win0_1.index t = ![0, 0] := (by decide +kernel : ∀ t : Fin grid0.N, win0_1.index t = ![0, 0])
theorem ix_2 : ∀ t : Fin cfg0.N, win0_2.index t = ![t.val, 0] := (by decide +kernel : ∀ t : Fin grid0.N, win0_2.index t = ![t.val, 0])

/-- Row `p` of the block of point `t`, in the array. -/
abbrev row (t : Fin cfg0.N) (p : Fin 1024) : Fin 8192 :=
  ⟨t.val * 1024 + p.val, by have := t.isLt; have h : cfg0.N = 8 := N_0; omega⟩

theorem blk_0 (c : Dev nD) (t : Fin cfg0.N) (p k : Fin 1024) :
    (iblk m c 0 t : Vec Ideal S1024x1024 .bf16) (ix2 p k) = dyA m c (ix2 (row t p) k) := by
  blk_simp [iblk]
  rw [show V m c main_arg0 = m ((c : Thread nD τ).loc main_arg0) from V_main_arg0 m c]
  exact congrArg _ (by blk_ext [ix_0])

theorem V_v0 (c : Dev nD) : V m c main_v0 = truncf (F := Ideal) .bf16 (m ((c : Thread nD τ).loc main_arg1)) bitsLt_bf16_f32 := by
  show StableHlo.after hostOps0 _ (main_v0 : DevRef τ sig) = _
  after_results_simp

theorem blk_1 (c : Dev nD) (t : Fin cfg0.N) (q k : Fin 1024) :
    (iblk m c 1 t : Vec Ideal S1024x1024 .bf16) (ix2 q k) = wA m c (ix2 q k) := by
  blk_simp [iblk]
  rw [show (win0_1.blk t).view.emb (ix2 q k) = ix2 q k by blk_ext [ix_1], V_v0 m c]
  pointwise []

theorem arr_2 (c : Dev nD) : (dats m 0 c).arrAt 2 cfg0.N = fun j : S8192x1024.Idx => val m c (j 0) (j 1) := by
  refine (dats m 0 c).arrAt_eq_of_covers 2 _ (by decide +kernel) fun t hf y => ?_
  blk_simp
  rw [after0_2]
  idx_vars y
  rw [show (win0_2.blk t).view.emb (ix2 y0 y1) = ix2 (row t y0) y1 by blk_ext [ix_2], out_2]
  simp only [blk_0, blk_1]
  rfl

theorem algebraic : algebraic_DCatIdeal_DCatRefIdeal (hDCatIdeal := Gen.facts) (hDCatRefIdeal := DCatRefIdeal.Gen.facts) := by
  intro m ρ m' ρ' _ hag
  refine ⟨_, DCatIdeal.Value.run_blocks m ρ, (θ_run _ _ _).mono (fun _ h c => ?_) (DCatRefIdeal.Value.run (F := Ideal) m' ρ')⟩
  obtain ⟨h0, h⟩ := h c
  obtain ⟨g0, g1⟩ := hag c
  refine ⟨h0.trans (.trans ?_ (arr_2 m c).symm), h⟩
  funext j
  rw [g0, g1]
  idx_vars j
  pointwise [val]

end Cert.DCatIdeal.Prod

end
-- ==== Proof.Prod.ProjBwd.lean ====
/-
  `proj_bwd`: the gradient of the first norm and the input projection. Each point takes 512 rows: four products of the
  parts' gradients with the four bands of the transposed weight, the norm's gradient row by row on top of the residual's,
  and the norm weight's gradient summed over all points. What the kernel's two result arrays hold at coordinates.
-/
module

public import proofs.«01_k».proof.Defs
public import proofs.«01_k».proof.Proof.Norm
public import proofs.«01_k».proof.Proof.Gen.ProjBwdIdeal.Value
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.ProjBwdIdeal.Prod

open Cert.ProjBwdIdeal Cert.ProjBwdIdeal.Gen Cert.NormGrad

variable (m : (ℓ : Loc nD τ sig) → Buf (Elt Ideal) ℓ)

abbrev xA (c : Dev nD) : S8192x1024.Idx → EReal := m ((c : Thread nD τ).loc main_arg0)
abbrev gA (c : Dev nD) : S1024.Idx → EReal := m ((c : Thread nD τ).loc main_arg1)
abbrev wA (c : Dev nD) : S1024x2560.Idx → EReal := m ((c : Thread nD τ).loc main_arg2)
abbrev daA (c : Dev nD) : S8192x1024.Idx → EReal := m ((c : Thread nD τ).loc main_arg3)
abbrev dqA (c : Dev nD) : S8192x512.Idx → EReal := m ((c : Thread nD τ).loc main_arg4)
abbrev dkA (c : Dev nD) : S8192x512.Idx → EReal := m ((c : Thread nD τ).loc main_arg5)
abbrev dvA (c : Dev nD) : S8192x512.Idx → EReal := m ((c : Thread nD τ).loc main_arg6)
abbrev dyA (c : Dev nD) : S8192x1024.Idx → EReal := m ((c : Thread nD τ).loc main_arg7)

/-- The gradient that enters the norm: four products, one for each part, added. -/
def dhOf {R : ℕ} (a : Fin R → Fin 1024 → EReal) (b c d : Fin R → Fin 512 → EReal) (w : Fin 2560 → Fin 1024 → EReal) (r : Fin R) (q : Fin 1024) : EReal :=
  (∑ k : Fin 1024, a r k * w ⟨k.val, by omega⟩ q) + (∑ k : Fin 512, b r k * w ⟨1024 + k.val, by omega⟩ q)
    + (∑ k : Fin 512, c r k * w ⟨1536 + k.val, by omega⟩ q) + ∑ k : Fin 512, d r k * w ⟨2048 + k.val, by omega⟩ q

abbrev dhA (c : Dev nD) (r : Fin 8192) (q : Fin 1024) : EReal :=
  dhOf (fun r k => daA m c (ix2 r k)) (fun r k => dqA m c (ix2 r k)) (fun r k => dkA m c (ix2 r k)) (fun r k => dvA m c (ix2 r k))
    (fun k q => wA m c (ix2 q k)) r q

/-- The gradient of the residual stream. -/
def dxA (c : Dev nD) (r : Fin 8192) (q : Fin 1024) : EReal :=
  proj (fun k => xA m c (ix2 r k)) (fun k => dhA m c r k * gA m c (ix1 k)) (dyA m c (ix2 r q)) q

/-- Row `r`'s part of the norm weight's gradient. -/
def ggA (c : Dev nD) (q : Fin 1024) (r : Fin 8192) : EReal := dhA m c r q * (xA m c (ix2 r q) * rms fun k => xA m c (ix2 r k))

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])
theorem ix_2 : ∀ t : Fin cfg0.N, win0_2.index t = ![t.val, 0] := (by decide +kernel : ∀ t : Fin grid0.N, win0_2.index t = ![t.val, 0])
theorem ix_3 : ∀ t : Fin cfg0.N, win0_3.index t = ![t.val, 0] := (by decide +kernel : ∀ t : Fin grid0.N, win0_3.index t = ![t.val, 0])
theorem ix_4 : ∀ t : Fin cfg0.N, win0_4.index t = ![0, 0] := (by decide +kernel : ∀ t : Fin grid0.N, win0_4.index t = ![0, 0])
theorem ix_5 : ∀ t : Fin cfg0.N, win0_5.index t = ![t.val, 0] := (by decide +kernel : ∀ t : Fin grid0.N, win0_5.index t = ![t.val, 0])
theorem ix_6 : ∀ t : Fin cfg0.N, win0_6.index t = ![t.val, 0] := (by decide +kernel : ∀ t : Fin grid0.N, win0_6.index t = ![t.val, 0])
theorem ix_7 : ∀ t : Fin cfg0.N, win0_7.index t = ![0, 0] := (by decide +kernel : ∀ t : Fin grid0.N, win0_7.index t = ![0, 0])
theorem ix_8 : ∀ t : Fin cfg0.N, win0_8.index t = ![t.val, 0] := (by decide +kernel : ∀ t : Fin grid0.N, win0_8.index t = ![t.val, 0])

/-- Row `p` of the block of point `t`, in the array. -/
abbrev row (t : Fin cfg0.N) (p : Fin 512) : Fin 8192 :=
  ⟨t.val * 512 + p.val, by have := t.isLt; have h : cfg0.N = 16 := N_0; omega⟩

theorem blk_0 (c : Dev nD) (t : Fin cfg0.N) (p : Fin 512) (k : Fin 1024) :
    (iblk m c 0 t : Vec Ideal S512x1024 .bf16) (ix2 p k) = daA m c (ix2 (row t p) k) := by
  blk_simp [iblk]
  rw [show V m c main_arg3 = m ((c : Thread nD τ).loc main_arg3) from V_main_arg3 m c]
  exact congrArg _ (by blk_ext [ix_0])

theorem blk_1 (c : Dev nD) (t : Fin cfg0.N) (p : Fin 512) (k : Fin 512) :
    (iblk m c 1 t : Vec Ideal S512x512 .bf16) (ix2 p k) = dqA m c (ix2 (row t p) k) := by
  blk_simp [iblk]
  rw [show V m c main_arg4 = m ((c : Thread nD τ).loc main_arg4) from V_main_arg4 m c]
  exact congrArg _ (by blk_ext [ix_1])

theorem blk_2 (c : Dev nD) (t : Fin cfg0.N) (p : Fin 512) (k : Fin 512) :
    (iblk m c 2 t : Vec Ideal S512x512 .bf16) (ix2 p k) = dkA m c (ix2 (row t p) k) := by
  blk_simp [iblk]
  rw [show V m c main_arg5 = m ((c : Thread nD τ).loc main_arg5) from V_main_arg5 m c]
  exact congrArg _ (by blk_ext [ix_2])

theorem blk_3 (c : Dev nD) (t : Fin cfg0.N) (p : Fin 512) (k : Fin 512) :
    (iblk m c 3 t : Vec Ideal S512x512 .bf16) (ix2 p k) = dvA m c (ix2 (row t p) k) := by
  blk_simp [iblk]
  rw [show V m c main_arg6 = m ((c : Thread nD τ).loc main_arg6) from V_main_arg6 m c]
  exact congrArg _ (by blk_ext [ix_3])

theorem blk_5 (c : Dev nD) (t : Fin cfg0.N) (p : Fin 512) (k : Fin 1024) :
    (iblk m c 5 t : Vec Ideal S512x1024 .f32) (ix2 p k) = xA m c (ix2 (row t p) k) := by
  blk_simp [iblk]
  rw [show V m c main_arg0 = m ((c : Thread nD τ).loc main_arg0) from V_main_arg0 m c]
  exact congrArg _ (by blk_ext [ix_5])

theorem blk_6 (c : Dev nD) (t : Fin cfg0.N) (p : Fin 512) (k : Fin 1024) :
    (iblk m c 6 t : Vec Ideal S512x1024 .f32) (ix2 p k) = dyA m c (ix2 (row t p) k) := by
  blk_simp [iblk]
  rw [show V m c main_arg7 = m ((c : Thread nD τ).loc main_arg7) from V_main_arg7 m c]
  exact congrArg _ (by blk_ext [ix_6])

theorem V_v1 (c : Dev nD) : V m c main_v1
    = truncf (F := Ideal) .bf16 (transpose (α := EReal) S2560x1024 [1, 0] (m ((c : Thread nD τ).loc main_arg2)) transposes_S1024x2560_S2560x1024_1_0)
        bitsLt_bf16_f32 := by
  show StableHlo.after hostOps0 _ (main_v1 : DevRef τ sig) = _
  after_results_simp

theorem V_v2 (c : Dev nD) : V m c main_v2
    = (shapeCast S1x1024 (m ((c : Thread nD τ).loc main_arg1) : Vec Ideal S1024 .f32) shapeCasts_S1024_S1x1024 : Vec Ideal S1x1024 .f32) := by
  show StableHlo.after hostOps0 _ (main_v2 : DevRef τ sig) = _
  after_results_simp
  rfl

theorem blk_4 (c : Dev nD) (t : Fin cfg0.N) (k : Fin 2560) (q : Fin 1024) :
    (iblk m c 4 t : Vec Ideal S2560x1024 .bf16) (ix2 k q) = wA m c (ix2 q k) := by
  blk_simp [iblk]
  rw [show (win0_4.blk t).view.emb (ix2 k q) = ix2 k q by blk_ext [ix_4], V_v1 m c]
  pointwise []

theorem blk_7 (c : Dev nD) (t : Fin cfg0.N) (q : Fin 1024) :
    (iblk m c 7 t : Vec Ideal S1x1024 .f32) (ix2 (0 : Fin 1) q) = gA m c (ix1 q) := by
  blk_simp [iblk]
  rw [show (win0_7.blk t).view.emb (ix2 (0 : Fin 1) q) = ix2 (0 : Fin 1) q by blk_ext [ix_7], V_v2 m c]
  pointwise []

/-- The block's product, over the blocks the body loads. -/
abbrev prodBlk (c : Dev nD) (t : Fin cfg0.N) : Vec Ideal S512x1024 .f32 :=
  k0_pay6 (iblk m c 0 t) (View.ld (iblk m c 4 t) (Rect.unit ![0, 0] ![1024, 1024] inb_S2560x1024_S1024x1024_0_0))
    (iblk m c 1 t) (View.ld (iblk m c 4 t) (Rect.unit ![1024, 0] ![512, 1024] inb_S2560x1024_S512x1024_1024_0))
    (iblk m c 2 t) (View.ld (iblk m c 4 t) (Rect.unit ![1536, 0] ![512, 1024] inb_S2560x1024_S512x1024_1536_0))
    (iblk m c 3 t) (View.ld (iblk m c 4 t) (Rect.unit ![2048, 0] ![512, 1024] inb_S2560x1024_S512x1024_2048_0))

theorem pay6_apply (a : Vec Ideal S512x1024 .bf16) (b d e : Vec Ideal S512x512 .bf16) (w : Vec Ideal S2560x1024 .bf16) (p : Fin 512) (q : Fin 1024) :
    k0_pay6 a (View.ld w (Rect.unit ![0, 0] ![1024, 1024] inb_S2560x1024_S1024x1024_0_0))
      b (View.ld w (Rect.unit ![1024, 0] ![512, 1024] inb_S2560x1024_S512x1024_1024_0))
      d (View.ld w (Rect.unit ![1536, 0] ![512, 1024] inb_S2560x1024_S512x1024_1536_0))
      e (View.ld w (Rect.unit ![2048, 0] ![512, 1024] inb_S2560x1024_S512x1024_2048_0)) (ix2 p q)
    = dhOf (fun r k => a (ix2 r k)) (fun r k => b (ix2 r k)) (fun r k => d (ix2 r k)) (fun r k => e (ix2 r k)) (fun k q => w (ix2 k q)) p q := by
  pointwise [k0_pay6, dhOf]

theorem prodBlk_apply (c : Dev nD) (t : Fin cfg0.N) (p : Fin 512) (q : Fin 1024) : prodBlk m c t (ix2 p q) = dhA m c (row t p) q := by
  refine (pay6_apply _ _ _ _ _ p q).trans ?_
  unfold dhA dhOf
  simp only [blk_0, blk_1, blk_2, blk_3, blk_4]

/-- The body's two results over a block of rows `x`, the incoming product `h`, the residual's gradient and the weight. -/
theorem dx_apply (h x dy : Vec Ideal S512x1024 .f32) (g : Vec Ideal S1x1024 .f32) (p : Fin 512) (q : Fin 1024) :
    k0_pay3 h x (k0_pay7 g) dy (k0_pay8 x) (ix2 p q)
      = proj (fun k => x (ix2 p k)) (fun k => h (ix2 p k) * g (ix2 0 k)) (dy (ix2 p q)) q := by
  pointwise [k0_pay3, k0_pay2, k0_pay1, k0_pay7, k0_pay8, proj, rms]

theorem gg_apply (h x : Vec Ideal S512x1024 .f32) (acc : Vec Ideal S1x1024 .f32) (q : Fin 1024) :
    k0_pay4 h x (k0_pay8 x) acc (ix2 0 q) = acc (ix2 0 q) + ∑ p : Fin 512, h (ix2 p q) * (x (ix2 p q) * rms fun k => x (ix2 p k)) := by
  pointwise [k0_pay4, k0_pay2, k0_pay1, k0_pay8, rms]

theorem zero_apply (q : Fin 1024) : k0_pay5 (F := Ideal) (ix2 0 q) = 0 := by
  pointwise [k0_pay5]

theorem dx_blk (c : Dev nD) (t : Fin cfg0.N) (p : Fin 512) (q : Fin 1024) :
    k0_pay3 (prodBlk m c t) (iblk m c 5 t) (k0_pay7 (iblk m c 7 t)) (iblk m c 6 t) (k0_pay8 (iblk m c 5 t)) (ix2 p q) = dxA m c (row t p) q := by
  refine (dx_apply _ _ _ _ p q).trans ?_
  simp only [prodBlk_apply, blk_5, blk_6, blk_7]
  rfl

theorem gg_blk (c : Dev nD) (t : Fin cfg0.N) (acc : Vec Ideal S1x1024 .f32) (q : Fin 1024) :
    k0_pay4 (prodBlk m c t) (iblk m c 5 t) (k0_pay8 (iblk m c 5 t)) acc (ix2 0 q) = acc (ix2 0 q) + ∑ p : Fin 512, ggA m c q (row t p) := by
  refine (gg_apply _ _ _ q).trans ?_
  simp only [prodBlk_apply, blk_5]
  rfl

/-! ## What the body leaves at each point, and the result arrays -/

theorem out_8 (c : Dev nD) (t : Fin cfg0.N) (p : Fin 512) (q : Fin 1024) :
    (outsAt0 m c t.val t.isLt).1 (ix2 p q) = dxA m c (row t p) q := by
  by_cases h0 : t.val % 16 = 0
  · rw [outsAt0_A m c t h0]
    frame_out
    exact dx_blk m c t p q
  · rw [outsAt0_B m c t h0]
    frame_out
    exact dx_blk m c t p q

/-- The accumulated row after the last point: the sum over all rows. -/
theorem out_9 (c : Dev nD) (t : Fin cfg0.N) (ht : t.val + 1 = cfg0.N) (q : Fin 1024) :
    (outsAt0 m c t.val t.isLt).2 (ix2 0 q) = ∑ r : Fin 8192, ggA m c q r := by
  have h := Pipeline.eq_sum_fin_of_reset_step_apply_last (N := cfg0.N) (fun n hn (q : Fin 1024) => (outsAt0 m c n hn).2 (ix2 0 q))
    16 (fun _ => (0 : EReal)) (fun t q => ∑ p : Fin 512, ggA m c q (row t p))
    (fun t h0 q => by
      show (outsAt0 m c t.val t.isLt).2 (ix2 0 q) = _
      rw [outsAt0_A m c t h0]
      frame_out
      exact (gg_blk m c t _ q).trans (by rw [zero_apply]))
    (fun t h0 q => by
      show (outsAt0 m c t.val t.isLt).2 (ix2 0 q) = _
      rw [outsAt0_B m c t h0]
      frame_out
      exact gg_blk m c t _ q)
    (le_of_eq N_0) t ht q
  refine h.trans ?_
  rw [zero_add]
  exact Fin.sum_mul_add_congr (S := 16) (n := 512) (fun _ _ _ => rfl)

theorem arr_8 (c : Dev nD) : (dats m 0 c).arrAt 8 cfg0.N = fun j : S8192x1024.Idx => dxA m c (j 0) (j 1) := by
  refine (dats m 0 c).arrAt_eq_of_covers 8 _ (by decide +kernel) fun t hf y => ?_
  blk_simp
  rw [after0_8]
  idx_vars y
  rw [show (win0_8.blk t).view.emb (ix2 y0 y1) = ix2 (row t y0) y1 by blk_ext [ix_8]]
  exact out_8 m c t y0 y1

theorem arr_9 (c : Dev nD) : (dats m 0 c).arrAt 9 cfg0.N = fun j : S1x1024.Idx => ∑ r : Fin 8192, ggA m c (j 1) r := by
  refine (dats m 0 c).arrAt_eq_of_after_last 9 t0_15 (by decide +kernel) _ fun j => ?_
  blk_simp
  rw [after0_9]
  idx_vars j
  obtain rfl : j0 = 0 := Subsingleton.elim _ _
  exact out_9 m c t0_15 N_0.symm j1

end Cert.ProjBwdIdeal.Prod

end
-- ==== Proof.Prod.ProjBwdClaim.lean ====
/-
  `proj_bwd` against differentiation of the norm and the projection: the reference's results at coordinates, and the claim.
-/
module

public import proofs.«01_k».proof.Proof.Prod.ProjBwd
public import proofs.«01_k».proof.Proof.Gen.ProjBwdRefIdeal.Run

@[expose] public section

set_option maxRecDepth 16384

noncomputable section

open Idealize.ShloMosaic Idealize.ShloMosaic.TcCoe Idealize.SL.Sem

namespace Cert.ProjBwdRefIdeal.Prod

open Cert.ProjBwdRefIdeal Cert.ProjBwdRefIdeal.Gen Cert.ProjBwdRefIdeal.Value Cert.NormGrad Cert.ProjBwdIdeal.Prod

section
variable (x : FVec Ideal S8192x1024 .f32) (g : FVec Ideal S1024 .f32) (w : FVec Ideal S1024x2560 .f32)
  (da : FVec Ideal S8192x1024 .f32) (dq dk dv : FVec Ideal S8192x512 .f32) (dy : FVec Ideal S8192x1024 .f32)

/-- The joined parts' product with the weight. -/
def prod : FVec Ideal S8192x1024 .f32 :=
  Host.dotGeneral dot_S8192x2560_S1024x2560_S8192x1024_1_1_0_0_n_n none
    (concatenate S8192x2560 1 [⟨S8192x1024, da⟩, ⟨S8192x512, dq⟩, ⟨S8192x512, dk⟩, ⟨S8192x512, dv⟩] concatenates_S8192x1024_S8192x512_S8192x512_S8192x512_S8192x2560_d1) w

/-- A sum over the joined channels is the four parts' sums, added. -/
theorem sum_parts (f : Fin 2560 → EReal) : ∑ k, f k
    = (∑ k : Fin 1024, f ⟨k.val, by omega⟩) + (∑ k : Fin 512, f ⟨1024 + k.val, by omega⟩)
      + (∑ k : Fin 512, f ⟨1536 + k.val, by omega⟩) + ∑ k : Fin 512, f ⟨2048 + k.val, by omega⟩ := by
  rw [show ∑ k, f k = ∑ k : Fin (1024 + 512 + 512 + 512), f k from rfl, Fin.sum_univ_add, Fin.sum_univ_add, Fin.sum_univ_add]
  rfl

theorem prod_apply (r : Fin 8192) (q : Fin 1024) : prod w da dq dk dv (ix2 r q)
    = dhOf (fun r k => da (ix2 r k)) (fun r k => dq (ix2 r k)) (fun r k => dk (ix2 r k)) (fun r k => dv (ix2 r k)) (fun k q => w (ix2 q k)) r q := by
  pointwise [prod, dhOf]
  rw [sum_parts]
  congr 1
end

variable (m : (ℓ : Loc nD τ sig) → Buf (Elt Ideal) ℓ)

abbrev prodA (c : Dev nD) : FVec Ideal S8192x1024 .f32 :=
  prod (m ((c.tc : Thread nD τ).loc main_arg2)) (extf .f32 (m ((c.tc : Thread nD τ).loc main_arg3)) bitsLt_bf16_f32)
    (extf .f32 (m ((c.tc : Thread nD τ).loc main_arg4)) bitsLt_bf16_f32) (extf .f32 (m ((c.tc : Thread nD τ).loc main_arg5)) bitsLt_bf16_f32)
    (extf .f32 (m ((c.tc : Thread nD τ).loc main_arg6)) bitsLt_bf16_f32)

theorem out0_apply (c : Dev nD) (r : Fin 8192) (q : Fin 1024) : (res_out0 m c : S8192x1024.Idx → EReal) (ix2 r q)
    = diff (fun k => (m ((c.tc : Thread nD τ).loc main_arg0) : S8192x1024.Idx → EReal) (ix2 r k))
        (fun k => prodA m c (ix2 r k) * (m ((c.tc : Thread nD τ).loc main_arg1) : S1024.Idx → EReal) (ix1 k))
        ((m ((c.tc : Thread nD τ).loc main_arg7) : S8192x1024.Idx → EReal) (ix2 r q)) q := by
  unfold res_out0 res_main_v45
  change (_ : FVec Ideal S8192x1024 .f32) (ix2 r q) = _
  rw [show Host.dotGeneral dot_S8192x2560_S1024x2560_S8192x1024_1_1_0_0_n_n none (concatenate S8192x2560 1 [⟨S8192x1024, (extf .f32 (m ((c.tc : Thread nD τ).loc main_arg3)) bitsLt_bf16_f32)⟩, ⟨S8192x512, (extf .f32 (m ((c.tc : Thread nD τ).loc main_arg4)) bitsLt_bf16_f32)⟩, ⟨S8192x512, (extf .f32 (m ((c.tc : Thread nD τ).loc main_arg5)) bitsLt_bf16_f32)⟩, ⟨S8192x512, (extf .f32 (m ((c.tc : Thread nD τ).loc main_arg6)) bitsLt_bf16_f32)⟩] concatenates_S8192x1024_S8192x512_S8192x512_S8192x512_S8192x2560_d1) (m ((c.tc : Thread nD τ).loc main_arg2)) = prodA m c from rfl]
  pointwise [diff, scaleGrad, ms, rms]
  simp only [Fin.sum_univ_one]

theorem prodA_eq (c : Dev nD) (r : Fin 8192) (q : Fin 1024) : prodA m c (ix2 r q)
    = dhOf (fun r k => (m ((c.tc : Thread nD τ).loc main_arg3) : S8192x1024.Idx → EReal) (ix2 r k))
        (fun r k => (m ((c.tc : Thread nD τ).loc main_arg4) : S8192x512.Idx → EReal) (ix2 r k))
        (fun r k => (m ((c.tc : Thread nD τ).loc main_arg5) : S8192x512.Idx → EReal) (ix2 r k))
        (fun r k => (m ((c.tc : Thread nD τ).loc main_arg6) : S8192x512.Idx → EReal) (ix2 r k))
        (fun k q => (m ((c.tc : Thread nD τ).loc main_arg2) : S1024x2560.Idx → EReal) (ix2 q k)) r q :=
  prod_apply _ _ _ _ _ r q

theorem algebraic : algebraic_ProjBwdIdeal_ProjBwdRefIdeal (hProjBwdIdeal := ProjBwdIdeal.Gen.facts) (hProjBwdRefIdeal := Gen.facts) := by
  intro m ρ m' ρ' _ hag
  refine ⟨_, _, ProjBwdIdeal.Value.run_blocks m ρ, (θ_run _ _ _).mono (fun _ h c => ?_) (ProjBwdRefIdeal.Value.run (F := Ideal) m' ρ')⟩
  obtain ⟨h0, h1, h⟩ := h c
  obtain ⟨g0, g1, g2, g3, g4, g5, g6, g7⟩ := hag c
  have hp : ∀ r q, prodA m' c (ix2 r q) = dhA m c r q := fun r q => by rw [prodA_eq, g2, g3, g4, g5, g6]
  refine ⟨h0.trans (.trans ?_ (arr_8 m c).symm), h1.trans (.trans ?_ (arr_9 m c).symm), h⟩
  · funext j
    idx_vars j
    refine (out0_apply m' c j0 j1).trans ?_
    rw [g0, g1, g7, ← proj_eq_diff]
    simp only [hp]
    rfl
  · funext j
    idx_vars j
    rw [show Host.dotGeneral dot_S8192x2560_S1024x2560_S8192x1024_1_1_0_0_n_n none (concatenate S8192x2560 1 [⟨S8192x1024, (extf .f32 (m' ((c.tc : Thread nD τ).loc main_arg3)) bitsLt_bf16_f32)⟩, ⟨S8192x512, (extf .f32 (m' ((c.tc : Thread nD τ).loc main_arg4)) bitsLt_bf16_f32)⟩, ⟨S8192x512, (extf .f32 (m' ((c.tc : Thread nD τ).loc main_arg5)) bitsLt_bf16_f32)⟩, ⟨S8192x512, (extf .f32 (m' ((c.tc : Thread nD τ).loc main_arg6)) bitsLt_bf16_f32)⟩] concatenates_S8192x1024_S8192x512_S8192x512_S8192x512_S8192x2560_d1) (m' ((c.tc : Thread nD τ).loc main_arg2)) = prodA m' c from rfl, g0]
    pointwise [hp]
    simp only [Fin.sum_univ_one]
    exact Finset.sum_congr rfl fun _ _ => mul_comm _ _

end Cert.ProjBwdRefIdeal.Prod

end
-- ==== Proof.Prod.MixOut.lean ====
/-
  `mix_out`: the output projection of the mixer's two halves on top of the residual stream, and the second norm of the
  sum, 1024 rows at a point; against the joined halves' one product and the norm of reference.py.
-/
module

public import proofs.«01_k».proof.Defs
public import proofs.«01_k».proof.Proof.Norm
public import proofs.«01_k».proof.Proof.Gen.MixOutIdeal.Value
public import proofs.«01_k».proof.Proof.Gen.MixOutRefIdeal.Run
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.MixOutIdeal.Prod

open Cert.MixOutIdeal Cert.MixOutIdeal.Gen Cert.NormGrad

/-- The residual stream after the mixer at row `r`: the two halves' products on top of the input. -/
def x1Of {R : ℕ} (u o : Fin R → Fin 512 → EReal) (w : Fin 1024 → Fin 1024 → EReal) (x : Fin R → Fin 1024 → EReal) (r : Fin R) (q : Fin 1024) : EReal :=
  x r q + (∑ k : Fin 512, u r k * w ⟨k.val, by omega⟩ q) + ∑ k : Fin 512, o r k * w ⟨512 + k.val, by omega⟩ q

variable (m : (ℓ : Loc nD τ sig) → Buf (Elt Ideal) ℓ)

abbrev uA (c : Dev nD) : S8192x512.Idx → EReal := m ((c : Thread nD τ).loc main_arg0)
abbrev oA (c : Dev nD) : S8192x512.Idx → EReal := m ((c : Thread nD τ).loc main_arg1)
abbrev wA (c : Dev nD) : S1024x1024.Idx → EReal := m ((c : Thread nD τ).loc main_arg2)
abbrev xA (c : Dev nD) : S8192x1024.Idx → EReal := m ((c : Thread nD τ).loc main_arg3)
abbrev gA (c : Dev nD) : S1024.Idx → EReal := m ((c : Thread nD τ).loc main_arg4)

abbrev x1A (c : Dev nD) (r : Fin 8192) (q : Fin 1024) : EReal :=
  x1Of (fun r k => uA m c (ix2 r k)) (fun r k => oA m c (ix2 r k)) (fun k q => wA m c (ix2 k q)) (fun r k => xA m c (ix2 r k)) r q

/-- The norm of the new residual stream. -/
def h2A (c : Dev nD) (r : Fin 8192) (q : Fin 1024) : EReal := x1A m c r q * rms (x1A m c r) * gA m c (ix1 q)

theorem hz : (![0, 0] : Fin 2 → Nat) = fun _ => 0 := funext fun a => by fin_cases a <;> rfl

section
variable (u : Vec Ideal S1024x512 .bf16) (o : Vec Ideal S1024x512 .f32) (w : Vec Ideal S1024x1024 .bf16) (x : Vec Ideal S1024x1024 .f32) (g : Vec Ideal S1x1024 .f32)

theorem pay_1 (p q : Fin 1024) : k0_pay1 x u (View.ld w r0_2) o (View.ld w r0_3) (ix2 p q)
    = x1Of (fun r k => u (ix2 r k)) (fun r k => o (ix2 r k)) (fun k q => w (ix2 k q)) (fun r k => x (ix2 r k)) p q := by
  pointwise [k0_pay1, x1Of, r0_2, r0_3]

theorem pay_2 (p q : Fin 1024) : k0_pay2 x u (View.ld w r0_2) o (View.ld w r0_3) g (ix2 p q)
    = k0_pay1 x u (View.ld w r0_2) o (View.ld w r0_3) (ix2 p q) * rms (fun k => k0_pay1 x u (View.ld w r0_2) o (View.ld w r0_3) (ix2 p k)) * g (ix2 0 q) := by
  unfold k0_pay2
  generalize k0_pay1 x u (View.ld w r0_2) o (View.ld w r0_3) = y
  pointwise [rms]

theorem out_5 (p q : Fin 1024) : out0_5 u o w x g (ix2 p q)
    = x1Of (fun r k => u (ix2 r k)) (fun r k => o (ix2 r k)) (fun k q => w (ix2 k q)) (fun r k => x (ix2 r k)) p q := by
  unfold out0_5
  rw [View.canon_unit_zero hz, View.ld_unit_zero (S := S1024x1024) hz, View.ld_unit_zero (S := S1024x512) hz, View.ld_unit_zero (S := S1024x512) hz]
  exact pay_1 u o w x p q

theorem out_6 (p q : Fin 1024) : out0_6 u o w x g (ix2 p q)
    = x1Of (fun r k => u (ix2 r k)) (fun r k => o (ix2 r k)) (fun k q => w (ix2 k q)) (fun r k => x (ix2 r k)) p q
      * rms (x1Of (fun r k => u (ix2 r k)) (fun r k => o (ix2 r k)) (fun k q => w (ix2 k q)) (fun r k => x (ix2 r k)) p) * g (ix2 0 q) := by
  unfold out0_6
  rw [View.canon_unit_zero hz, View.ld_unit_zero (S := S1024x1024) hz, View.ld_unit_zero (S := S1024x512) hz, View.ld_unit_zero (S := S1024x512) hz,
    View.ld_unit_zero (S := S1x1024) hz, pay_2]
  simp only [pay_1]
end

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])
theorem ix_2 : ∀ t : Fin cfg0.N, win0_2.index t = ![0, 0] := (by decide +kernel : ∀ t : Fin grid0.N, win0_2.index t = ![0, 0])
theorem ix_3 : ∀ t : Fin cfg0.N, win0_3.index t = ![t.val, 0] := (by decide +kernel : ∀ t : Fin grid0.N, win0_3.index t = ![t.val, 0])
theorem ix_4 : ∀ t : Fin cfg0.N, win0_4.index t = ![0, 0] := (by decide +kernel : ∀ t : Fin grid0.N, win0_4.index t = ![0, 0])
theorem ix_5 : ∀ t : Fin cfg0.N, win0_5.index t = ![t.val, 0] := (by decide +kernel : ∀ t : Fin grid0.N, win0_5.index t = ![t.val, 0])
theorem ix_6 : ∀ t : Fin cfg0.N, win0_6.index t = ![t.val, 0] := (by decide +kernel : ∀ t : Fin grid0.N, win0_6.index t = ![t.val, 0])

/-- Row `p` of the block of point `t`, in the array. -/
abbrev row (t : Fin cfg0.N) (p : Fin 1024) : Fin 8192 :=
  ⟨t.val * 1024 + p.val, by have := t.isLt; have h : cfg0.N = 8 := N_0; omega⟩

theorem blk_0 (c : Dev nD) (t : Fin cfg0.N) (p : Fin 1024) (k : Fin 512) :
    (iblk m c 0 t : Vec Ideal S1024x512 .bf16) (ix2 p k) = uA m c (ix2 (row t p) k) := by
  blk_simp [iblk]
  rw [show V m c main_arg0 = m ((c : Thread nD τ).loc main_arg0) from V_main_arg0 m c]
  exact congrArg _ (by blk_ext [ix_0])

theorem blk_1 (c : Dev nD) (t : Fin cfg0.N) (p : Fin 1024) (k : Fin 512) :
    (iblk m c 1 t : Vec Ideal S1024x512 .f32) (ix2 p k) = oA m c (ix2 (row t p) k) := by
  blk_simp [iblk]
  rw [show V m c main_arg1 = m ((c : Thread nD τ).loc main_arg1) from V_main_arg1 m c]
  exact congrArg _ (by blk_ext [ix_1])

theorem V_v0 (c : Dev nD) : V m c main_v0 = truncf (F := Ideal) .bf16 (m ((c : Thread nD τ).loc main_arg2)) bitsLt_bf16_f32 := by
  show StableHlo.after hostOps0 _ (main_v0 : DevRef τ sig) = _
  after_results_simp

theorem V_v1 (c : Dev nD) : V m c main_v1
    = (shapeCast S1x1024 (m ((c : Thread nD τ).loc main_arg4) : Vec Ideal S1024 .f32) shapeCasts_S1024_S1x1024 : Vec Ideal S1x1024 .f32) := by
  show StableHlo.after hostOps0 _ (main_v1 : DevRef τ sig) = _
  after_results_simp
  rfl

theorem blk_2 (c : Dev nD) (t : Fin cfg0.N) (k q : Fin 1024) :
    (iblk m c 2 t : Vec Ideal S1024x1024 .bf16) (ix2 k q) = wA m c (ix2 k q) := by
  blk_simp [iblk]
  rw [show (win0_2.blk t).view.emb (ix2 k q) = ix2 k q by blk_ext [ix_2], V_v0 m c]
  pointwise []

theorem blk_3 (c : Dev nD) (t : Fin cfg0.N) (p k : Fin 1024) :
    (iblk m c 3 t : Vec Ideal S1024x1024 .f32) (ix2 p k) = xA m c (ix2 (row t p) k) := by
  blk_simp [iblk]
  rw [show V m c main_arg3 = m ((c : Thread nD τ).loc main_arg3) from V_main_arg3 m c]
  exact congrArg _ (by blk_ext [ix_3])

theorem blk_4 (c : Dev nD) (t : Fin cfg0.N) (q : Fin 1024) :
    (iblk m c 4 t : Vec Ideal S1x1024 .f32) (ix2 (0 : Fin 1) q) = gA m c (ix1 q) := by
  blk_simp [iblk]
  rw [show (win0_4.blk t).view.emb (ix2 (0 : Fin 1) q) = ix2 (0 : Fin 1) q by blk_ext [ix_4], V_v1 m c]
  pointwise []

theorem x1_blk (c : Dev nD) (t : Fin cfg0.N) (p q : Fin 1024) :
    x1Of (fun r k => (iblk m c 0 t : Vec Ideal S1024x512 .bf16) (ix2 r k)) (fun r k => (iblk m c 1 t : Vec Ideal S1024x512 .f32) (ix2 r k))
      (fun k q => (iblk m c 2 t : Vec Ideal S1024x1024 .bf16) (ix2 k q)) (fun r k => (iblk m c 3 t : Vec Ideal S1024x1024 .f32) (ix2 r k)) p q = x1A m c (row t p) q := by
  unfold x1A x1Of
  simp only [blk_0, blk_1, blk_2, blk_3]

theorem arr_5 (c : Dev nD) : (dats m 0 c).arrAt 5 cfg0.N = fun j : S8192x1024.Idx => x1A m c (j 0) (j 1) := by
  refine (dats m 0 c).arrAt_eq_of_covers 5 _ (by decide +kernel) fun t hf y => ?_
  blk_simp
  rw [after0_5]
  idx_vars y
  rw [show (win0_5.blk t).view.emb (ix2 y0 y1) = ix2 (row t y0) y1 by blk_ext [ix_5]]
  exact (out_5 _ _ _ _ _ y0 y1).trans (x1_blk m c t y0 y1)

theorem arr_6 (c : Dev nD) : (dats m 0 c).arrAt 6 cfg0.N = fun j : S8192x1024.Idx => h2A m c (j 0) (j 1) := by
  refine (dats m 0 c).arrAt_eq_of_covers 6 _ (by decide +kernel) fun t hf y => ?_
  blk_simp
  rw [after0_6]
  idx_vars y
  rw [show (win0_6.blk t).view.emb (ix2 y0 y1) = ix2 (row t y0) y1 by blk_ext [ix_6]]
  refine (out_6 _ _ _ _ _ y0 y1).trans ?_
  rw [show x1Of (fun r k => (iblk m c 0 t : Vec Ideal S1024x512 .bf16) (ix2 r k)) (fun r k => (iblk m c 1 t : Vec Ideal S1024x512 .f32) (ix2 r k))
      (fun k q => (iblk m c 2 t : Vec Ideal S1024x1024 .bf16) (ix2 k q)) (fun r k => (iblk m c 3 t : Vec Ideal S1024x1024 .f32) (ix2 r k)) y0
    = x1A m c (row t y0) from funext (x1_blk m c t y0), blk_4]
  rfl

/-! ## The reference -/

section
variable (u : FVec Ideal S8192x512 .f32) (o : FVec Ideal S8192x512 .f32) (w : FVec Ideal S1024x1024 .f32) (x : FVec Ideal S8192x1024 .f32)

/-- The joined halves' product on top of the input, as the reference writes it. -/
def refX1 : FVec Ideal S8192x1024 .f32 :=
  addf x (Host.dotGeneral MixOutRefIdeal.dot_S8192x1024_S1024x1024_S8192x1024_1_0_0_1_n_n none
    (concatenate S8192x1024 1 [⟨S8192x512, u⟩, ⟨S8192x512, o⟩] MixOutRefIdeal.Gen.concatenates_S8192x512_S8192x512_S8192x1024_d1) w)

/-- A sum over the joined channels is the two halves' sums, added. -/
theorem sum_halves (f : Fin 1024 → EReal) : ∑ k, f k
    = (∑ k : Fin 512, f ⟨k.val, by omega⟩) + ∑ k : Fin 512, f ⟨512 + k.val, by omega⟩ := by
  rw [show ∑ k, f k = ∑ k : Fin (512 + 512), f k from rfl, Fin.sum_univ_add]
  rfl

theorem refX1_apply (r : Fin 8192) (q : Fin 1024) : refX1 u o w x (ix2 r q)
    = x1Of (fun r k => u (ix2 r k)) (fun r k => o (ix2 r k)) (fun k q => w (ix2 k q)) (fun r k => x (ix2 r k)) r q := by
  unfold x1Of
  rw [add_assoc]
  pointwise [refX1]
end

abbrev refX1A (m' : (ℓ : Loc MixOutRefIdeal.nD MixOutRefIdeal.τ MixOutRefIdeal.sig) → Buf (Elt Ideal) ℓ) (c : Dev nD) : FVec Ideal S8192x1024 .f32 :=
  refX1 (extf .f32 (m' ((c.tc : Thread MixOutRefIdeal.nD MixOutRefIdeal.τ).loc MixOutRefIdeal.main_arg0)) MixOutRefIdeal.Gen.bitsLt_bf16_f32)
    (m' ((c.tc : Thread MixOutRefIdeal.nD MixOutRefIdeal.τ).loc MixOutRefIdeal.main_arg1))
    (m' ((c.tc : Thread MixOutRefIdeal.nD MixOutRefIdeal.τ).loc MixOutRefIdeal.main_arg2))
    (m' ((c.tc : Thread MixOutRefIdeal.nD MixOutRefIdeal.τ).loc MixOutRefIdeal.main_arg3))

theorem algebraic : algebraic_MixOutIdeal_MixOutRefIdeal (hMixOutIdeal := Gen.facts) (hMixOutRefIdeal := MixOutRefIdeal.Gen.facts) := by
  intro m ρ m' ρ' _ hag
  refine ⟨_, _, MixOutIdeal.Value.run_blocks m ρ, (θ_run _ _ _).mono (fun _ h c => ?_) (MixOutRefIdeal.Value.run (F := Ideal) m' ρ')⟩
  obtain ⟨h0, h1, h⟩ := h c
  obtain ⟨g0, g1, g2, g3, g4⟩ := hag c
  have hp : ∀ r q, refX1A m' c (ix2 r q) = x1A m c r q := fun r q => by
    unfold refX1A
    rw [g0, g1, g2, g3]
    exact refX1_apply _ _ _ _ r q
  refine ⟨h0.trans (.trans ?_ (arr_5 m c).symm), h1.trans (.trans ?_ (arr_6 m c).symm), h⟩
  · funext j
    idx_vars j
    exact hp j0 j1
  · funext j
    idx_vars j
    change (_ : FVec Ideal S8192x1024 .bf16) (ix2 j0 j1) = _
    rw [show addf (m' ((c.tc : Thread MixOutRefIdeal.nD MixOutRefIdeal.τ).loc MixOutRefIdeal.main_arg3)) (Host.dotGeneral MixOutRefIdeal.dot_S8192x1024_S1024x1024_S8192x1024_1_0_0_1_n_n none (concatenate S8192x1024 1 [⟨S8192x512, (extf .f32 (m' ((c.tc : Thread MixOutRefIdeal.nD MixOutRefIdeal.τ).loc MixOutRefIdeal.main_arg0)) MixOutRefIdeal.Gen.bitsLt_bf16_f32)⟩, ⟨S8192x512, (m' ((c.tc : Thread MixOutRefIdeal.nD MixOutRefIdeal.τ).loc MixOutRefIdeal.main_arg1))⟩] MixOutRefIdeal.Gen.concatenates_S8192x512_S8192x512_S8192x1024_d1) (m' ((c.tc : Thread MixOutRefIdeal.nD MixOutRefIdeal.τ).loc MixOutRefIdeal.main_arg2))) = refX1A m' c from rfl]
    rw [g4]
    pointwise [hp, h2A, rms]

end Cert.MixOutIdeal.Prod

end
-- ==== Proof.Prod.DownLoss.lean ====
/-
  `down_loss`: the down projection, the loss and the gradient the backward pass begins with. Each point takes 512 rows:
  the product, the residual stream and the target give the error; its squares are summed into one number and it is
  scaled into the gradient. Against the loss of reference.py and its differentiation.
-/
module

public import proofs.«01_k».proof.Defs
public import proofs.«01_k».proof.Proof.Norm
public import proofs.«01_k».proof.Proof.Gen.DownLossIdeal.Value
public import proofs.«01_k».proof.Proof.Gen.DownLossRefIdeal.Run
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.DownLossIdeal.Prod

open Cert.DownLossIdeal Cert.DownLossIdeal.Gen Cert.NormGrad

variable (m : (ℓ : Loc nD τ sig) → Buf (Elt Ideal) ℓ)

abbrev actA (c : Dev nD) : S8192x2816.Idx → EReal := m ((c : Thread nD τ).loc main_arg0)
abbrev wA (c : Dev nD) : S2816x1024.Idx → EReal := m ((c : Thread nD τ).loc main_arg1)
abbrev xA (c : Dev nD) : S8192x1024.Idx → EReal := m ((c : Thread nD τ).loc main_arg2)
abbrev tA (c : Dev nD) : S8192x1024.Idx → EReal := m ((c : Thread nD τ).loc main_arg3)

/-- The error of row `r` at channel `q`. -/
def errA (c : Dev nD) (r : Fin 8192) (q : Fin 1024) : EReal :=
  xA m c (ix2 r q) + (∑ k : Fin 2816, actA m c (ix2 r k) * wA m c (ix2 k q)) - tA m c (ix2 r q)

/-- The gradient of the loss. -/
def gradA (c : Dev nD) (r : Fin 8192) (q : Fin 1024) : EReal := errA m c r q * Ideal.ofBits .f32 0x3A800000#32

/-- The squares of row `r`. -/
def sqA (c : Dev nD) (r : Fin 8192) : EReal := ∑ q : Fin 1024, errA m c r q * errA m c r q

/-- Half of one over 1024. -/
theorem lit_half_inv : Ideal.ofBits .f32 0x3A000000#32 = ((1 / 2048 : ℝ) : EReal) := by
  simp [Ideal.ofBits, Ideal.ieee, -EReal.coe_mul]; norm_num

theorem ix_0 : ∀ t : Fin cfg0.N, win0_0.index t = ![t.val, 0] := (by decide +kernel : ∀ t : Fin grid0.N, win0_0.index t = ![t.val, 0])
theorem ix_1 : ∀ t : Fin cfg0.N, win0_1.index t = ![0, 0] := (by decide +kernel : ∀ t : Fin grid0.N, win0_1.index t = ![0, 0])
theorem ix_2 : ∀ t : Fin cfg0.N, win0_2.index t = ![t.val, 0] := (by decide +kernel : ∀ t : Fin grid0.N, win0_2.index t = ![t.val, 0])
theorem ix_3 : ∀ t : Fin cfg0.N, win0_3.index t = ![t.val, 0] := (by decide +kernel : ∀ t : Fin grid0.N, win0_3.index t = ![t.val, 0])
theorem ix_5 : ∀ t : Fin cfg0.N, win0_5.index t = ![t.val, 0] := (by decide +kernel : ∀ t : Fin grid0.N, win0_5.index t = ![t.val, 0])
theorem ix_6 : ∀ t : Fin cfg0.N, win0_6.index t = ![t.val, 0] := (by decide +kernel : ∀ t : Fin grid0.N, win0_6.index t = ![t.val, 0])

/-- Row `p` of the block of point `t`, in the array. -/
abbrev row (t : Fin cfg0.N) (p : Fin 512) : Fin 8192 :=
  ⟨t.val * 512 + p.val, by have := t.isLt; have h : cfg0.N = 16 := N_0; omega⟩

theorem blk_0 (c : Dev nD) (t : Fin cfg0.N) (p : Fin 512) (k : Fin 2816) :
    (iblk m c 0 t : Vec Ideal S512x2816 .bf16) (ix2 p k) = actA m c (ix2 (row t p) k) := by
  blk_simp [iblk]
  rw [show V m c main_arg0 = m ((c : Thread nD τ).loc main_arg0) from V_main_arg0 m c]
  exact congrArg _ (by blk_ext [ix_0])

theorem V_v0 (c : Dev nD) : V m c main_v0 = truncf (F := Ideal) .bf16 (m ((c : Thread nD τ).loc main_arg1)) bitsLt_bf16_f32 := by
  show StableHlo.after hostOps0 _ (main_v0 : DevRef τ sig) = _
  after_results_simp

theorem blk_1 (c : Dev nD) (t : Fin cfg0.N) (k : Fin 2816) (q : Fin 1024) :
    (iblk m c 1 t : Vec Ideal S2816x1024 .bf16) (ix2 k q) = wA m c (ix2 k q) := by
  blk_simp [iblk]
  rw [show (win0_1.blk t).view.emb (ix2 k q) = ix2 k q by blk_ext [ix_1], V_v0 m c]
  pointwise []

theorem blk_2 (c : Dev nD) (t : Fin cfg0.N) (p : Fin 512) (k : Fin 1024) :
    (iblk m c 2 t : Vec Ideal S512x1024 .f32) (ix2 p k) = xA m c (ix2 (row t p) k) := by
  blk_simp [iblk]
  rw [show V m c main_arg2 = m ((c : Thread nD τ).loc main_arg2) from V_main_arg2 m c]
  exact congrArg _ (by blk_ext [ix_2])

theorem blk_3 (c : Dev nD) (t : Fin cfg0.N) (p : Fin 512) (k : Fin 1024) :
    (iblk m c 3 t : Vec Ideal S512x1024 .f32) (ix2 p k) = tA m c (ix2 (row t p) k) := by
  blk_simp [iblk]
  rw [show V m c main_arg3 = m ((c : Thread nD τ).loc main_arg3) from V_main_arg3 m c]
  exact congrArg _ (by blk_ext [ix_3])

/-- The block's error, over the blocks the body loads. -/
abbrev errBlk (c : Dev nD) (t : Fin cfg0.N) : Vec Ideal S512x1024 .f32 := k0_pay2 (iblk m c 2 t) (iblk m c 0 t) (iblk m c 1 t) (iblk m c 3 t)

theorem pay2_apply (x : Vec Ideal S512x1024 .f32) (a : Vec Ideal S512x2816 .bf16) (w : Vec Ideal S2816x1024 .bf16) (t : Vec Ideal S512x1024 .f32)
    (p : Fin 512) (q : Fin 1024) :
    k0_pay2 x a w t (ix2 p q) = x (ix2 p q) + (∑ k : Fin 2816, a (ix2 p k) * w (ix2 k q)) - t (ix2 p q) := by
  pointwise [k0_pay2]

theorem errBlk_apply (c : Dev nD) (t : Fin cfg0.N) (p : Fin 512) (q : Fin 1024) : errBlk m c t (ix2 p q) = errA m c (row t p) q := by
  refine (pay2_apply _ _ _ _ p q).trans ?_
  simp only [blk_0, blk_1, blk_2, blk_3]
  rfl

theorem grad_blk (c : Dev nD) (t : Fin cfg0.N) (p : Fin 512) (q : Fin 1024) :
    k0_pay4 (iblk m c 2 t) (iblk m c 0 t) (iblk m c 1 t) (iblk m c 3 t) (ix2 p q) = gradA m c (row t p) q := by
  unfold gradA
  rw [← errBlk_apply]
  rfl

theorem pay3_apply (x : Vec Ideal S512x1024 .f32) (a : Vec Ideal S512x2816 .bf16) (w : Vec Ideal S2816x1024 .bf16) (t : Vec Ideal S512x1024 .f32)
    (acc : Vec Ideal S8x128 .f32) (i : Fin 8) (j : Fin 128) :
    k0_pay3 x a w t acc (ix2 i j) = acc (ix2 i j)
      + (∑ p : Fin 512, ∑ q : Fin 1024, k0_pay2 x a w t (ix2 p q) * k0_pay2 x a w t (ix2 p q)) * Ideal.ofBits .f32 0x3A000000#32 := by
  unfold k0_pay3
  generalize k0_pay2 x a w t = y
  pointwise []

theorem zero_apply (i : Fin 8) (j : Fin 128) : k0_pay1 (F := Ideal) (ix2 i j) = 0 := by
  pointwise [k0_pay1]

theorem loss_blk (c : Dev nD) (t : Fin cfg0.N) (acc : Vec Ideal S8x128 .f32) (i : Fin 8) (j : Fin 128) :
    k0_pay3 (iblk m c 2 t) (iblk m c 0 t) (iblk m c 1 t) (iblk m c 3 t) acc (ix2 i j)
      = acc (ix2 i j) + ∑ p : Fin 512, sqA m c (row t p) * Ideal.ofBits .f32 0x3A000000#32 := by
  refine (pay3_apply _ _ _ _ acc i j).trans ?_
  rw [lit_half_inv, coe_mul_sum _ _ _ (by norm_num)]
  have h : ∀ p q, k0_pay2 (iblk m c 2 t) (iblk m c 0 t) (iblk m c 1 t) (iblk m c 3 t) (ix2 p q) = errA m c (row t p) q := errBlk_apply m c t
  simp only [h]
  rfl

/-! ## What the body leaves at each point, and the result arrays -/

theorem out_5 (c : Dev nD) (t : Fin cfg0.N) (p : Fin 512) (q : Fin 1024) : (outsAt0 m c t.val t.isLt).2.1 (ix2 p q) = gradA m c (row t p) q := by
  by_cases h0 : t.val % 16 = 0
  · rw [outsAt0_A m c t h0]
    frame_out
    exact grad_blk m c t p q
  · rw [outsAt0_B m c t h0]
    frame_out
    exact grad_blk m c t p q

theorem out_6 (c : Dev nD) (t : Fin cfg0.N) (p : Fin 512) (q : Fin 1024) : (outsAt0 m c t.val t.isLt).2.2 (ix2 p q) = gradA m c (row t p) q := by
  by_cases h0 : t.val % 16 = 0
  · rw [outsAt0_A m c t h0]
    frame_out
    exact grad_blk m c t p q
  · rw [outsAt0_B m c t h0]
    frame_out
    exact grad_blk m c t p q

/-- The accumulated loss after the last point: the sum over all rows. -/
theorem out_4 (c : Dev nD) (t : Fin cfg0.N) (ht : t.val + 1 = cfg0.N) (i : Fin 8) (j : Fin 128) :
    (outsAt0 m c t.val t.isLt).1 (ix2 i j) = ∑ r : Fin 8192, sqA m c r * Ideal.ofBits .f32 0x3A000000#32 := by
  have h := Pipeline.eq_sum_fin_of_reset_step_apply_last (N := cfg0.N) (fun n hn (j : Fin 8 × Fin 128) => (outsAt0 m c n hn).1 (ix2 j.1 j.2))
    16 (fun _ => (0 : EReal)) (fun t _ => ∑ p : Fin 512, sqA m c (row t p) * Ideal.ofBits .f32 0x3A000000#32)
    (fun t h0 j => by
      show (outsAt0 m c t.val t.isLt).1 (ix2 j.1 j.2) = _
      rw [outsAt0_A m c t h0]
      frame_out
      exact (loss_blk m c t _ j.1 j.2).trans (by rw [zero_apply]))
    (fun t h0 j => by
      show (outsAt0 m c t.val t.isLt).1 (ix2 j.1 j.2) = _
      rw [outsAt0_B m c t h0]
      frame_out
      exact loss_blk m c t _ j.1 j.2)
    (le_of_eq N_0) t ht (i, j)
  refine h.trans ?_
  rw [zero_add]
  exact Fin.sum_mul_add_congr (S := 16) (n := 512) (fun _ _ _ => rfl)

theorem arr_4 (c : Dev nD) : (dats m 0 c).arrAt 4 cfg0.N = fun _ : S8x128.Idx => ∑ r : Fin 8192, sqA m c r * Ideal.ofBits .f32 0x3A000000#32 := by
  refine (dats m 0 c).arrAt_eq_of_after_last 4 t0_15 (by decide +kernel) _ fun j => ?_
  blk_simp
  rw [after0_4]
  idx_vars j
  exact out_4 m c t0_15 N_0.symm j0 j1

theorem arr_5 (c : Dev nD) : (dats m 0 c).arrAt 5 cfg0.N = fun j : S8192x1024.Idx => gradA m c (j 0) (j 1) := by
  refine (dats m 0 c).arrAt_eq_of_covers 5 _ (by decide +kernel) fun t hf y => ?_
  blk_simp
  rw [after0_5]
  idx_vars y
  rw [show (win0_5.blk t).view.emb (ix2 y0 y1) = ix2 (row t y0) y1 by blk_ext [ix_5]]
  exact out_5 m c t y0 y1

theorem arr_6 (c : Dev nD) : (dats m 0 c).arrAt 6 cfg0.N = fun j : S8192x1024.Idx => gradA m c (j 0) (j 1) := by
  refine (dats m 0 c).arrAt_eq_of_covers 6 _ (by decide +kernel) fun t hf y => ?_
  blk_simp
  rw [after0_6]
  idx_vars y
  rw [show (win0_6.blk t).view.emb (ix2 y0 y1) = ix2 (row t y0) y1 by blk_ext [ix_6]]
  exact out_6 m c t y0 y1

/-! ## The reference -/

theorem lit_half' : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num

/-- The gradient as differentiation writes it: the loss's half, the mean's division and the square's two. -/
theorem grad_eq (e : EReal) :
    Ideal.div (Ideal.ofBits .f32 0x3F000000#32) (Ideal.ofBits .f32 0x44800000#32)
      * (Ideal.ofBits .f32 0x40000000#32 * e) = e * Ideal.ofBits .f32 0x3A800000#32 := by
  rw [lit_half', lit_n, lit_two, lit_inv, Ideal.div_coe (by norm_num), ← mul_assoc, mul_comm e]
  congr 1
  norm_cast
  norm_num

/-- Half the sum of the rows' means. -/
theorem loss_eq {n : ℕ} (f : Fin n → EReal) :
    Ideal.ofBits .f32 0x3F000000#32 * ∑ r, Ideal.div (f r) (Ideal.ofBits .f32 0x44800000#32) = ∑ r, f r * Ideal.ofBits .f32 0x3A000000#32 := by
  rw [lit_half', mul_comm, coe_mul_sum _ _ _ (by norm_num), lit_n, lit_half_inv]
  refine Finset.sum_congr rfl fun r _ => ?_
  rw [Ideal.div_coe (by norm_num), mul_assoc]
  congr 1
  norm_cast
  norm_num

open DownLossRefIdeal in
/-- The reference's error array. -/
def refErr (act : FVec Ideal S8192x2816 .f32) (w : FVec Ideal S2816x1024 .f32) (x t : FVec Ideal S8192x1024 .f32) : FVec Ideal S8192x1024 .f32 :=
  subf (addf x (Host.dotGeneral dot_S8192x2816_S2816x1024_S8192x1024_1_0_0_1_n_n none act w)) t

abbrev refErrA (m' : (ℓ : Loc DownLossRefIdeal.nD DownLossRefIdeal.τ DownLossRefIdeal.sig) → Buf (Elt Ideal) ℓ) (c : Dev nD) : FVec Ideal S8192x1024 .f32 :=
  refErr (extf .f32 (m' ((c.tc : Thread DownLossRefIdeal.nD DownLossRefIdeal.τ).loc DownLossRefIdeal.main_arg0)) DownLossRefIdeal.Gen.bitsLt_bf16_f32)
    (m' ((c.tc : Thread DownLossRefIdeal.nD DownLossRefIdeal.τ).loc DownLossRefIdeal.main_arg1))
    (m' ((c.tc : Thread DownLossRefIdeal.nD DownLossRefIdeal.τ).loc DownLossRefIdeal.main_arg2))
    (m' ((c.tc : Thread DownLossRefIdeal.nD DownLossRefIdeal.τ).loc DownLossRefIdeal.main_arg3))

theorem refErr_apply (act : FVec Ideal S8192x2816 .f32) (w : FVec Ideal S2816x1024 .f32) (x t : FVec Ideal S8192x1024 .f32) (r : Fin 8192) (q : Fin 1024) :
    refErr act w x t (ix2 r q) = x (ix2 r q) + (∑ k : Fin 2816, act (ix2 r k) * w (ix2 k q)) - t (ix2 r q) := by
  pointwise [refErr]

theorem algebraic : algebraic_DownLossIdeal_DownLossRefIdeal (hDownLossIdeal := Gen.facts) (hDownLossRefIdeal := DownLossRefIdeal.Gen.facts) := by
  intro m ρ m' ρ' _ hag
  refine ⟨_, _, _, DownLossIdeal.Value.run_blocks m ρ, (θ_run _ _ _).mono (fun _ h c => ?_) (DownLossRefIdeal.Value.run (F := Ideal) m' ρ')⟩
  obtain ⟨h0, h1, h2, h⟩ := h c
  obtain ⟨g0, g1, g2, g3⟩ := hag c
  have hp : ∀ r q, refErrA m' c (ix2 r q) = errA m c r q := fun r q => by
    unfold refErrA
    rw [g0, g1, g2, g3]
    exact refErr_apply _ _ _ _ r q
  have he : subf (addf (m' ((c.tc : Thread DownLossRefIdeal.nD DownLossRefIdeal.τ).loc DownLossRefIdeal.main_arg2)) (Host.dotGeneral DownLossRefIdeal.dot_S8192x2816_S2816x1024_S8192x1024_1_0_0_1_n_n none (extf .f32 (m' ((c.tc : Thread DownLossRefIdeal.nD DownLossRefIdeal.τ).loc DownLossRefIdeal.main_arg0)) DownLossRefIdeal.Gen.bitsLt_bf16_f32) (m' ((c.tc : Thread DownLossRefIdeal.nD DownLossRefIdeal.τ).loc DownLossRefIdeal.main_arg1)))) (m' ((c.tc : Thread DownLossRefIdeal.nD DownLossRefIdeal.τ).loc DownLossRefIdeal.main_arg3)) = refErrA m' c := rfl
  rw [he] at h0 h1 h2
  refine ⟨h0.trans (.trans ?_ (arr_4 m c).symm), h1.trans (.trans ?_ (arr_5 m c).symm), h2.trans (.trans ?_ (arr_6 m c).symm), h⟩
  · funext j
    idx_vars j
    change (_ : FVec Ideal S8x128 .f32) (ix2 j0 j1) = _
    pointwise [hp]
    exact loss_eq (sqA m c)
  · funext j
    idx_vars j
    change (_ : FVec Ideal S8192x1024 .f32) (ix2 j0 j1) = _
    pointwise [hp]
    exact grad_eq _
  · funext j
    idx_vars j
    change (_ : FVec Ideal S8192x1024 .bf16) (ix2 j0 j1) = _
    pointwise [hp]
    exact grad_eq _

end Cert.DownLossIdeal.Prod

end
-- ==== Proof.Opt.AdamWIn.lean ====
/-
  The optimiser's update of one weight: every entry on its own, the same operations in both programs.
-/
module

public import proofs.«01_k».proof.Defs
public import proofs.«01_k».proof.Proof.Gen.AdamWInIdeal.Value
public import proofs.«01_k».proof.Proof.Gen.AdamWInRefIdeal.Run

@[expose] public section

noncomputable section

open Idealize.ShloMosaic Idealize.ShloMosaic.TcCoe Idealize.SL.Sem

namespace Cert.AdamWInIdeal.Opt

theorem algebraic : algebraic_AdamWInIdeal_AdamWInRefIdeal (hAdamWInIdeal := Gen.facts) (hAdamWInRefIdeal := AdamWInRefIdeal.Gen.facts) := by
  intro m ρ m' ρ' _ hag
  refine ⟨_, _, _, AdamWInIdeal.Value.run m ρ, (θ_run _ _ _).mono (fun _ h c => ?_) (AdamWInRefIdeal.Value.run (F := Ideal) m' ρ')⟩
  obtain ⟨h0, h1, h2, h⟩ := h c
  obtain ⟨g0, g1, g2, g3⟩ := hag c
  rw [g0, g1, g2, g3] at h0
  rw [g1, g2] at h1
  rw [g1, g3] at h2
  exact ⟨h0, h1, h2, h⟩

end Cert.AdamWInIdeal.Opt

end
-- ==== Proof.Opt.AdamWOut.lean ====
/-
  The optimiser's update of one weight: every entry on its own, the same operations in both programs.
-/
module

public import proofs.«01_k».proof.Defs
public import proofs.«01_k».proof.Proof.Gen.AdamWOutIdeal.Value
public import proofs.«01_k».proof.Proof.Gen.AdamWOutRefIdeal.Run

@[expose] public section

noncomputable section

open Idealize.ShloMosaic Idealize.ShloMosaic.TcCoe Idealize.SL.Sem

namespace Cert.AdamWOutIdeal.Opt

theorem algebraic : algebraic_AdamWOutIdeal_AdamWOutRefIdeal (hAdamWOutIdeal := Gen.facts) (hAdamWOutRefIdeal := AdamWOutRefIdeal.Gen.facts) := by
  intro m ρ m' ρ' _ hag
  refine ⟨_, _, _, AdamWOutIdeal.Value.run m ρ, (θ_run _ _ _).mono (fun _ h c => ?_) (AdamWOutRefIdeal.Value.run (F := Ideal) m' ρ')⟩
  obtain ⟨h0, h1, h2, h⟩ := h c
  obtain ⟨g0, g1, g2, g3⟩ := hag c
  rw [g0, g1, g2, g3] at h0
  rw [g1, g2] at h1
  rw [g1, g3] at h2
  exact ⟨h0, h1, h2, h⟩

end Cert.AdamWOutIdeal.Opt

end
-- ==== Proof.Opt.AdamWUp.lean ====
/-
  The optimiser's update of one weight: every entry on its own, the same operations in both programs.
-/
module

public import proofs.«01_k».proof.Defs
public import proofs.«01_k».proof.Proof.Gen.AdamWUpIdeal.Value
public import proofs.«01_k».proof.Proof.Gen.AdamWUpRefIdeal.Run

@[expose] public section

noncomputable section

open Idealize.ShloMosaic Idealize.ShloMosaic.TcCoe Idealize.SL.Sem

namespace Cert.AdamWUpIdeal.Opt

theorem algebraic : algebraic_AdamWUpIdeal_AdamWUpRefIdeal (hAdamWUpIdeal := Gen.facts) (hAdamWUpRefIdeal := AdamWUpRefIdeal.Gen.facts) := by
  intro m ρ m' ρ' _ hag
  refine ⟨_, _, _, AdamWUpIdeal.Value.run m ρ, (θ_run _ _ _).mono (fun _ h c => ?_) (AdamWUpRefIdeal.Value.run (F := Ideal) m' ρ')⟩
  obtain ⟨h0, h1, h2, h⟩ := h c
  obtain ⟨g0, g1, g2, g3⟩ := hag c
  rw [g0, g1, g2, g3] at h0
  rw [g1, g2] at h1
  rw [g1, g3] at h2
  exact ⟨h0, h1, h2, h⟩

end Cert.AdamWUpIdeal.Opt

end
-- ==== Proof.Opt.AdamWDown.lean ====
/-
  The optimiser's update of one weight: every entry on its own, the same operations in both programs.
-/
module

public import proofs.«01_k».proof.Defs
public import proofs.«01_k».proof.Proof.Gen.AdamWDownIdeal.Value
public import proofs.«01_k».proof.Proof.Gen.AdamWDownRefIdeal.Run

@[expose] public section

noncomputable section

open Idealize.ShloMosaic Idealize.ShloMosaic.TcCoe Idealize.SL.Sem

namespace Cert.AdamWDownIdeal.Opt

theorem algebraic : algebraic_AdamWDownIdeal_AdamWDownRefIdeal (hAdamWDownIdeal := Gen.facts) (hAdamWDownRefIdeal := AdamWDownRefIdeal.Gen.facts) := by
  intro m ρ m' ρ' _ hag
  refine ⟨_, _, _, AdamWDownIdeal.Value.run m ρ, (θ_run _ _ _).mono (fun _ h c => ?_) (AdamWDownRefIdeal.Value.run (F := Ideal) m' ρ')⟩
  obtain ⟨h0, h1, h2, h⟩ := h c
  obtain ⟨g0, g1, g2, g3⟩ := hag c
  rw [g0, g1, g2, g3] at h0
  rw [g1, g2] at h1
  rw [g1, g3] at h2
  exact ⟨h0, h1, h2, h⟩

end Cert.AdamWDownIdeal.Opt

end
-- ==== Proof.Opt.AdamPack.lean ====
/-
  The ten small weights packed into one array of 128 columns and taken apart again: entry `j` of a packed array's piece
  lies at that piece's offset plus `j` in row-major order, on the way in and on the way out.
-/
module

public import proofs.«01_k».proof.Defs
public import proofs.«01_k».proof.Proof.Gen.AdamSmallIdeal.Frame
public import Idealize.ShloMosaic.Lib.Pointwise
public import Idealize.ShloMosaic.Lib.Pipeline.ValueKit
public import Idealize.ShloMosaic.Lib.KernelVsHost
public import Idealize.ShloMosaic.Lib.StableHlo.Run

@[expose] public section

set_option maxRecDepth 16384

noncomputable section

open Idealize.ShloMosaic Idealize.ShloMosaic.TcCoe Idealize.SL.Sem

namespace Cert.AdamSmallIdeal.Opt

open Cert.AdamSmallIdeal Cert.AdamSmallIdeal.Gen

/-- Row-major position `i` of the packed array. -/
abbrev pos (i : ℕ) (h : i < 14336) : S112x128.Idx := ix2 (⟨i / 128, by omega⟩ : Fin 112) (⟨i % 128, by omega⟩ : Fin 128)

/-- The ten pieces one after another. -/
abbrev catOf (u0 : S1024.Idx → EReal) (u1 : S1984.Idx → EReal) (u2 u3 u4 : S512.Idx → EReal) (u5 u6 : S64.Idx → EReal)
    (u7 : S1024.Idx → EReal) (u8 : S2112.Idx → EReal) (u9 : S5632.Idx → EReal) : S13440.Idx → EReal :=
  concatenate S13440 0 [⟨S1024, u0⟩, ⟨S1984, u1⟩, ⟨S512, u2⟩, ⟨S512, u3⟩, ⟨S512, u4⟩, ⟨S64, u5⟩, ⟨S64, u6⟩, ⟨S1024, u7⟩, ⟨S2112, u8⟩, ⟨S5632, u9⟩]
    concatenates_S1024_S1984_S512_S512_S512_S64_S64_S1024_S2112_S5632_S13440_d0

/-- The packed array: the pieces, then padding, in rows of 128. -/
def packOf (u0 : S1024.Idx → EReal) (u1 : S31x64.Idx → EReal) (u2 u3 u4 : S512.Idx → EReal) (u5 u6 : S64.Idx → EReal)
    (u7 : S1024.Idx → EReal) (u8 : S3x704.Idx → EReal) (u9 : S5632.Idx → EReal) : S112x128.Idx → EReal :=
  shapeCast S112x128 (pad S14336 ![0] ![896] ![0]
    (catOf u0 (shapeCast S1984 u1 shapeCasts_S31x64_S1984) u2 u3 u4 u5 u6 u7 (shapeCast S2112 u8 shapeCasts_S3x704_S2112) u9)
    (sitofp (F := Ideal) .f32 (constantI S_ 32 0#32)) pads_S13440_S14336_08960 h_S_) shapeCasts_S14336_S112x128

section
variable (u0 : S1024.Idx → EReal) (u1 : S31x64.Idx → EReal) (u2 u3 u4 : S512.Idx → EReal) (u5 u6 : S64.Idx → EReal)
    (u7 : S1024.Idx → EReal) (u8 : S3x704.Idx → EReal) (u9 : S5632.Idx → EReal)

theorem packOf_pos (i : ℕ) (h : i < 13440) : packOf u0 u1 u2 u3 u4 u5 u6 u7 u8 u9 (pos i (by omega))
    = catOf u0 (shapeCast S1984 u1 shapeCasts_S31x64_S1984) u2 u3 u4 u5 u6 u7 (shapeCast S2112 u8 shapeCasts_S3x704_S2112) u9 (ix1 (⟨i, h⟩ : Fin 13440)) := by
  unfold packOf
  rw [shapeCast_apply _ _ _ (ix1 (⟨i, by omega⟩ : Fin 14336)) (by
    rw [Shape.rowMajor_val_one, Shape.rowMajor_val_two]; show i = i / 128 * 128 + i % 128; omega)]
  exact pad_apply_of_inside _ _ _ _ _ _ _ _ _ fun a => by fin_cases a; simp

/-- A piece that starts at `pre` in the concatenation. -/
theorem cat_piece {n : ℕ} (xs : List ((s : Shape) × (s.Idx → EReal))) (h : Shape.Concatenates (xs.map (·.1)) S13440 0)
    (k : ℕ) (hk : k < xs.length) (x : (⟨1, ![n]⟩ : Shape).Idx → EReal) (hx : xs[k] = ⟨⟨1, ![n]⟩, x⟩) (pre : ℕ)
    (hpre : (((xs.take k).map (·.1)).map fun s => if h : s.rank = S13440.rank then s.size ((0 : Fin S13440.rank).cast h.symm) else 0).sum = pre)
    (j : Fin n) (hj : pre + j.val < 13440) :
    concatenate S13440 0 xs h (ix1 (⟨pre + j.val, hj⟩ : Fin 13440)) = x (ix1 j) :=
  concatenate_apply_piece 0 xs h _ k hk _ x hx rfl pre hpre (ix1 j) (fun b hb => absurd (Subsingleton.elim _ _) hb) rfl

theorem pack_0 (j : Fin 1024) : packOf u0 u1 u2 u3 u4 u5 u6 u7 u8 u9 (pos (0 + j.val) (by omega)) = u0 (ix1 j) := by
  rw [packOf_pos _ _ _ _ _ _ _ _ _ _ _ (by omega)]
  exact cat_piece _ _ 0 (by show 0 < 10; decide) _ rfl 0 rfl j _
theorem pack_1 (a : Fin 31) (b : Fin 64) : packOf u0 u1 u2 u3 u4 u5 u6 u7 u8 u9 (pos (1024 + (a.val * 64 + b.val)) (by omega)) = u1 (ix2 a b) := by
  rw [packOf_pos _ _ _ _ _ _ _ _ _ _ _ (by omega)]
  refine (cat_piece _ _ 1 (by show 1 < 10; decide) _ rfl 1024 rfl (⟨a.val * 64 + b.val, by omega⟩ : Fin 1984) _).trans ?_
  exact shapeCast_apply _ _ _ _ (by rw [Shape.rowMajor_val_one, Shape.rowMajor_val_two]; rfl)
theorem pack_2 (j : Fin 512) : packOf u0 u1 u2 u3 u4 u5 u6 u7 u8 u9 (pos (3008 + j.val) (by omega)) = u2 (ix1 j) := by
  rw [packOf_pos _ _ _ _ _ _ _ _ _ _ _ (by omega)]
  exact cat_piece _ _ 2 (by show 2 < 10; decide) _ rfl 3008 rfl j _
theorem pack_3 (j : Fin 512) : packOf u0 u1 u2 u3 u4 u5 u6 u7 u8 u9 (pos (3520 + j.val) (by omega)) = u3 (ix1 j) := by
  rw [packOf_pos _ _ _ _ _ _ _ _ _ _ _ (by omega)]
  exact cat_piece _ _ 3 (by show 3 < 10; decide) _ rfl 3520 rfl j _
theorem pack_4 (j : Fin 512) : packOf u0 u1 u2 u3 u4 u5 u6 u7 u8 u9 (pos (4032 + j.val) (by omega)) = u4 (ix1 j) := by
  rw [packOf_pos _ _ _ _ _ _ _ _ _ _ _ (by omega)]
  exact cat_piece _ _ 4 (by show 4 < 10; decide) _ rfl 4032 rfl j _
theorem pack_5 (j : Fin 64) : packOf u0 u1 u2 u3 u4 u5 u6 u7 u8 u9 (pos (4544 + j.val) (by omega)) = u5 (ix1 j) := by
  rw [packOf_pos _ _ _ _ _ _ _ _ _ _ _ (by omega)]
  exact cat_piece _ _ 5 (by show 5 < 10; decide) _ rfl 4544 rfl j _
theorem pack_6 (j : Fin 64) : packOf u0 u1 u2 u3 u4 u5 u6 u7 u8 u9 (pos (4608 + j.val) (by omega)) = u6 (ix1 j) := by
  rw [packOf_pos _ _ _ _ _ _ _ _ _ _ _ (by omega)]
  exact cat_piece _ _ 6 (by show 6 < 10; decide) _ rfl 4608 rfl j _
theorem pack_7 (j : Fin 1024) : packOf u0 u1 u2 u3 u4 u5 u6 u7 u8 u9 (pos (4672 + j.val) (by omega)) = u7 (ix1 j) := by
  rw [packOf_pos _ _ _ _ _ _ _ _ _ _ _ (by omega)]
  exact cat_piece _ _ 7 (by show 7 < 10; decide) _ rfl 4672 rfl j _
theorem pack_8 (a : Fin 3) (b : Fin 704) : packOf u0 u1 u2 u3 u4 u5 u6 u7 u8 u9 (pos (5696 + (a.val * 704 + b.val)) (by omega)) = u8 (ix2 a b) := by
  rw [packOf_pos _ _ _ _ _ _ _ _ _ _ _ (by omega)]
  refine (cat_piece _ _ 8 (by show 8 < 10; decide) _ rfl 5696 rfl (⟨a.val * 704 + b.val, by omega⟩ : Fin 2112) _).trans ?_
  exact shapeCast_apply _ _ _ _ (by rw [Shape.rowMajor_val_one, Shape.rowMajor_val_two]; rfl)
theorem pack_9 (j : Fin 5632) : packOf u0 u1 u2 u3 u4 u5 u6 u7 u8 u9 (pos (7808 + j.val) (by omega)) = u9 (ix1 j) := by
  rw [packOf_pos _ _ _ _ _ _ _ _ _ _ _ (by omega)]
  exact cat_piece _ _ 9 (by show 9 < 10; decide) _ rfl 7808 rfl j _
end

/-- A piece of one axis taken out of a packed array. -/
theorem cut_1 {n : ℕ} (A : S112x128.Idx → EReal) (off : ℕ) (h : S14336.Slices ![off] (⟨1, ![n]⟩ : Shape)) (j : Fin n) (hj : off + j.val < 14336) :
    extractStridedSlice (⟨1, ![n]⟩ : Shape) ![off] (shapeCast S14336 A shapeCasts_S112x128_S14336) h (ix1 j) = A (pos (off + j.val) hj) := by
  refine (?_ : _ = shapeCast S14336 A shapeCasts_S112x128_S14336 (ix1 (⟨off + j.val, hj⟩ : Fin 14336))).trans ?_
  · exact congrArg (shapeCast S14336 A shapeCasts_S112x128_S14336) (funext fun a => by fin_cases a; rfl)
  · exact shapeCast_apply _ _ _ _ (by
      rw [Shape.rowMajor_val_one, Shape.rowMajor_val_two]; show (off + j.val) / 128 * 128 + (off + j.val) % 128 = off + j.val; omega)

/-- A piece of two axes taken out of a packed array. -/
theorem cut_2 {n a b : ℕ} (A : S112x128.Idx → EReal) (off : ℕ) (h : S14336.Slices ![off] (⟨1, ![n]⟩ : Shape)) (hc : (⟨1, ![n]⟩ : Shape).ShapeCasts (⟨2, ![a, b]⟩ : Shape))
    (p : Fin a) (q : Fin b) (hn : p.val * b + q.val < n) (hj : off + (p.val * b + q.val) < 14336) :
    shapeCast (⟨2, ![a, b]⟩ : Shape) (extractStridedSlice (⟨1, ![n]⟩ : Shape) ![off] (shapeCast S14336 A shapeCasts_S112x128_S14336) h) hc (ix2 p q)
      = A (pos (off + (p.val * b + q.val)) hj) :=
  (shapeCast_apply _ _ _ (ix1 (⟨p.val * b + q.val, hn⟩ : Fin n)) (by rw [Shape.rowMajor_val_one, Shape.rowMajor_val_two]; rfl)).trans
    (cut_1 A off h ⟨p.val * b + q.val, hn⟩ hj)

end Cert.AdamSmallIdeal.Opt

end
-- ==== Proof.Opt.AdamSmall.lean ====
/-
  The optimiser's update of the ten small weights, packed into one array: every entry on its own, so packing, updating
  and taking apart is updating each weight.
-/
module

public import proofs.«01_k».proof.Proof.Opt.AdamPack
public import proofs.«01_k».proof.Proof.Gen.AdamSmallRefIdeal.Run

@[expose] public section

set_option maxRecDepth 16384

noncomputable section

open Idealize.ShloMosaic Idealize.ShloMosaic.TcCoe Idealize.SL.Sem

namespace Cert.AdamSmallIdeal.Opt

open Cert.AdamSmallIdeal Cert.AdamSmallIdeal.Gen

/-- A literal of the update. -/
abbrev lit (b : BitVec 32) : EReal := Ideal.ofBits .f32 b

/-- The new first moment, the new second moment and the update of one entry. -/
def newM (g m : EReal) : EReal := lit 0x3F666666#32 * m + lit 0x3DCCCCCD#32 * g
def newV (g v : EReal) : EReal := lit 0x3F7FBE77#32 * v + lit 0x3A83126F#32 * (g * g)
def delta (w g m v : EReal) : EReal :=
  lit 0xBA83126F#32 * (Ideal.div (Ideal.div (newM g m) (lit 0x3F26BD02#32))
    (Ideal.sqrt (Ideal.div (newV g v) (lit 0x3C231ACC#32)) + lit 0x322BCC77#32) + lit 0x3C23D70A#32 * w)

theorem hz : (![0, 0] : Fin 2 → Nat) = fun _ => 0 := funext fun a => by fin_cases a <;> rfl

theorem out_5 (w g m v : Vec Ideal S112x128 .f32) : out0_5 w g m v = fun j => newM (g j) (m j) := by
  unfold out0_5
  rw [View.canon_unit_zero hz, View.ld_unit_zero (S := S112x128) hz, View.ld_unit_zero (S := S112x128) hz]
  funext j
  idx_vars j
  pointwise [k0_pay2, k0_pay1, newM]

theorem out_6 (w g m v : Vec Ideal S112x128 .f32) : out0_6 w g m v = fun j => newV (g j) (v j) := by
  unfold out0_6
  rw [View.canon_unit_zero hz, View.ld_unit_zero (S := S112x128) hz, View.ld_unit_zero (S := S112x128) hz]
  funext j
  idx_vars j
  pointwise [k0_pay3, k0_pay1, newV]

theorem out_4 (w g m v : Vec Ideal S112x128 .f32) : out0_4 w g m v = fun j => delta (w j) (g j) (m j) (v j) := by
  unfold out0_4
  rw [View.canon_unit_zero hz, View.ld_unit_zero (S := S112x128) hz, View.ld_unit_zero (S := S112x128) hz, View.ld_unit_zero (S := S112x128) hz,
    View.ld_unit_zero (S := S112x128) hz]
  funext j
  idx_vars j
  pointwise [k0_pay4, k0_pay3, k0_pay2, k0_pay1, delta, newM, newV]

/-! ## The reference's update of one weight -/

section
variable {s : Shape} (hb : S_.BroadcastsInDim s (![] : Fin 0 → Fin s.rank)) (w g m v : FVec Ideal s .f32)

theorem ref_m : addf (mulf (broadcastInDim s ![] hb (constant S_ .f32 0x3F666666#32)) m) (mulf (broadcastInDim s ![] hb (constant S_ .f32 0x3DCCCCCD#32)) g)
    = fun j => newM (g j) (m j) := rfl

theorem ref_v : addf (mulf (broadcastInDim s ![] hb (constant S_ .f32 0x3F7FBE77#32)) v) (mulf (broadcastInDim s ![] hb (constant S_ .f32 0x3A83126F#32)) (mulf g g))
    = fun j => newV (g j) (v j) := rfl

theorem ref_d : mulf (broadcastInDim s ![] hb (constant S_ .f32 0xBA83126F#32)) (addf (Host.divf
      (Host.divf (addf (mulf (broadcastInDim s ![] hb (constant S_ .f32 0x3F666666#32)) m) (mulf (broadcastInDim s ![] hb (constant S_ .f32 0x3DCCCCCD#32)) g))
        (broadcastInDim s ![] hb (constant S_ .f32 0x3F26BD02#32)))
      (addf (Host.sqrt (Host.divf (addf (mulf (broadcastInDim s ![] hb (constant S_ .f32 0x3F7FBE77#32)) v)
          (mulf (broadcastInDim s ![] hb (constant S_ .f32 0x3A83126F#32)) (mulf g g))) (broadcastInDim s ![] hb (constant S_ .f32 0x3C231ACC#32))))
        (broadcastInDim s ![] hb (constant S_ .f32 0x322BCC77#32)))) (mulf (broadcastInDim s ![] hb (constant S_ .f32 0x3C23D70A#32)) w))
    = fun j => delta (w j) (g j) (m j) (v j) := rfl
end

/-! ## The arrays -/

variable (m : (ℓ : Loc nD τ sig) → Buf (Elt Ideal) ℓ)

abbrev wP (c : Dev nD) : S112x128.Idx → EReal :=
  packOf (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))
abbrev gP (c : Dev nD) : S112x128.Idx → EReal :=
  packOf (m ((c : Thread nD τ).loc main_arg10)) (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17)) (m ((c : Thread nD τ).loc main_arg18)) (m ((c : Thread nD τ).loc main_arg19))
abbrev mP (c : Dev nD) : S112x128.Idx → EReal :=
  packOf (m ((c : Thread nD τ).loc main_arg20)) (m ((c : Thread nD τ).loc main_arg21)) (m ((c : Thread nD τ).loc main_arg22)) (m ((c : Thread nD τ).loc main_arg23)) (m ((c : Thread nD τ).loc main_arg24))
    (m ((c : Thread nD τ).loc main_arg25)) (m ((c : Thread nD τ).loc main_arg26)) (m ((c : Thread nD τ).loc main_arg27)) (m ((c : Thread nD τ).loc main_arg28)) (m ((c : Thread nD τ).loc main_arg29))
abbrev vP (c : Dev nD) : S112x128.Idx → EReal :=
  packOf (m ((c : Thread nD τ).loc main_arg30)) (m ((c : Thread nD τ).loc main_arg31)) (m ((c : Thread nD τ).loc main_arg32)) (m ((c : Thread nD τ).loc main_arg33)) (m ((c : Thread nD τ).loc main_arg34))
    (m ((c : Thread nD τ).loc main_arg35)) (m ((c : Thread nD τ).loc main_arg36)) (m ((c : Thread nD τ).loc main_arg37)) (m ((c : Thread nD τ).loc main_arg38)) (m ((c : Thread nD τ).loc main_arg39))

set_option maxHeartbeats 1000000 in
theorem V_v4 (c : Dev nD) : V m c main_v4 = wP m c := by
  unfold V V0
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  rfl
set_option maxHeartbeats 1000000 in
theorem V_v9 (c : Dev nD) : V m c main_v9 = gP m c := by
  unfold V V0
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  rfl
set_option maxHeartbeats 1000000 in
theorem V_v14 (c : Dev nD) : V m c main_v14 = mP m c := by
  unfold V V0
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  rfl
set_option maxHeartbeats 1000000 in
theorem V_v19 (c : Dev nD) : V m c main_v19 = vP m c := by
  unfold V V0
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  rfl

theorem ix_0 : ∀ t : Fin cfg0.N, win0_0.index t = ![0, 0] := (by decide +kernel : ∀ t : Fin grid0.N, win0_0.index t = ![0, 0])
theorem ix_1 : ∀ t : Fin cfg0.N, win0_1.index t = ![0, 0] := (by decide +kernel : ∀ t : Fin grid0.N, win0_1.index t = ![0, 0])
theorem ix_2 : ∀ t : Fin cfg0.N, win0_2.index t = ![0, 0] := (by decide +kernel : ∀ t : Fin grid0.N, win0_2.index t = ![0, 0])
theorem ix_3 : ∀ t : Fin cfg0.N, win0_3.index t = ![0, 0] := (by decide +kernel : ∀ t : Fin grid0.N, win0_3.index t = ![0, 0])
theorem ix_4 : ∀ t : Fin cfg0.N, win0_4.index t = ![0, 0] := (by decide +kernel : ∀ t : Fin grid0.N, win0_4.index t = ![0, 0])
theorem ix_5 : ∀ t : Fin cfg0.N, win0_5.index t = ![0, 0] := (by decide +kernel : ∀ t : Fin grid0.N, win0_5.index t = ![0, 0])
theorem ix_6 : ∀ t : Fin cfg0.N, win0_6.index t = ![0, 0] := (by decide +kernel : ∀ t : Fin grid0.N, win0_6.index t = ![0, 0])

theorem blk_0 (c : Dev nD) (t : Fin cfg0.N) (p : Fin 112) (q : Fin 128) : (iblk m c 0 t : Vec Ideal S112x128 .f32) (ix2 p q) = wP m c (ix2 p q) := by
  blk_simp [iblk]
  rw [V_v4]
  exact congrArg _ (by blk_ext [ix_0])
theorem blk_1 (c : Dev nD) (t : Fin cfg0.N) (p : Fin 112) (q : Fin 128) : (iblk m c 1 t : Vec Ideal S112x128 .f32) (ix2 p q) = gP m c (ix2 p q) := by
  blk_simp [iblk]
  rw [V_v9]
  exact congrArg _ (by blk_ext [ix_1])
theorem blk_2 (c : Dev nD) (t : Fin cfg0.N) (p : Fin 112) (q : Fin 128) : (iblk m c 2 t : Vec Ideal S112x128 .f32) (ix2 p q) = mP m c (ix2 p q) := by
  blk_simp [iblk]
  rw [V_v14]
  exact congrArg _ (by blk_ext [ix_2])
theorem blk_3 (c : Dev nD) (t : Fin cfg0.N) (p : Fin 112) (q : Fin 128) : (iblk m c 3 t : Vec Ideal S112x128 .f32) (ix2 p q) = vP m c (ix2 p q) := by
  blk_simp [iblk]
  rw [V_v19]
  exact congrArg _ (by blk_ext [ix_3])

/-- The three arrays the region leaves. -/
abbrev dA (c : Dev nD) : S112x128.Idx → EReal := fun j => delta (wP m c j) (gP m c j) (mP m c j) (vP m c j)
abbrev mA (c : Dev nD) : S112x128.Idx → EReal := fun j => newM (gP m c j) (mP m c j)
abbrev vA (c : Dev nD) : S112x128.Idx → EReal := fun j => newV (gP m c j) (vP m c j)

theorem arr_4 (c : Dev nD) : (dats m 0 c).arrAt 4 cfg0.N = dA m c := by
  refine (dats m 0 c).arrAt_eq_of_covers 4 _ (by decide +kernel) fun t hf y => ?_
  blk_simp
  rw [after0_4, out_4]
  idx_vars y
  rw [show (win0_4.blk t).view.emb (ix2 y0 y1) = ix2 y0 y1 by blk_ext [ix_4]]
  show delta _ _ _ _ = delta _ _ _ _
  rw [blk_0, blk_1, blk_2, blk_3]
theorem arr_5 (c : Dev nD) : (dats m 0 c).arrAt 5 cfg0.N = mA m c := by
  refine (dats m 0 c).arrAt_eq_of_covers 5 _ (by decide +kernel) fun t hf y => ?_
  blk_simp
  rw [after0_5, out_5]
  idx_vars y
  rw [show (win0_5.blk t).view.emb (ix2 y0 y1) = ix2 y0 y1 by blk_ext [ix_5]]
  show newM _ _ = newM _ _
  rw [blk_1, blk_2]
theorem arr_6 (c : Dev nD) : (dats m 0 c).arrAt 6 cfg0.N = vA m c := by
  refine (dats m 0 c).arrAt_eq_of_covers 6 _ (by decide +kernel) fun t hf y => ?_
  blk_simp
  rw [after0_6, out_6]
  idx_vars y
  rw [show (win0_6.blk t).view.emb (ix2 y0 y1) = ix2 y0 y1 by blk_ext [ix_6]]
  show newV _ _ = newV _ _
  rw [blk_1, blk_3]

end Cert.AdamSmallIdeal.Opt

end
-- ==== Proof.Opt.AdamSmallClaim.lean ====
/-
  The optimiser's update of the ten small weights: the three packed arrays taken apart are the three arrays of every
  weight, each entry updated on its own.
-/
module

public import proofs.«01_k».proof.Proof.Opt.AdamSmall

@[expose] public section

set_option maxRecDepth 16384

noncomputable section

open Idealize.ShloMosaic Idealize.ShloMosaic.TcCoe Idealize.SL.Sem

namespace Cert.AdamSmallIdeal.Opt

open Cert.AdamSmallIdeal Cert.AdamSmallIdeal.Gen

variable (m : (ℓ : Loc nD τ sig) → Buf (Elt Ideal) ℓ)

/-! ## One piece of an array computed entry by entry from the packed arrays -/

/-- Any function of the four packed arrays' entries. -/
abbrev mapP (f : EReal → EReal → EReal → EReal → EReal) (c : Dev nD) : S112x128.Idx → EReal :=
  fun j => f (wP m c j) (gP m c j) (mP m c j) (vP m c j)

theorem piece_0 (f : EReal → EReal → EReal → EReal → EReal) (c : Dev nD) : extractStridedSlice S1024 ![0] (shapeCast S14336 (mapP m f c) shapeCasts_S112x128_S14336) slices_S14336_S1024_0
    = fun j : S1024.Idx => f (m ((c : Thread nD τ).loc main_arg0) j) (m ((c : Thread nD τ).loc main_arg10) j) (m ((c : Thread nD τ).loc main_arg20) j) (m ((c : Thread nD τ).loc main_arg30) j) := by
  funext j
  idx_vars j
  rw [cut_1 _ 0 _ _ (by omega)]
  simp only [mapP, wP, gP, mP, vP, pack_0]
theorem piece_1 (f : EReal → EReal → EReal → EReal → EReal) (c : Dev nD) : shapeCast S31x64 (extractStridedSlice S1984 ![1024] (shapeCast S14336 (mapP m f c) shapeCasts_S112x128_S14336) slices_S14336_S1984_1024) shapeCasts_S1984_S31x64
    = fun j : S31x64.Idx => f (m ((c : Thread nD τ).loc main_arg1) j) (m ((c : Thread nD τ).loc main_arg11) j) (m ((c : Thread nD τ).loc main_arg21) j) (m ((c : Thread nD τ).loc main_arg31) j) := by
  funext j
  idx_vars j
  rw [cut_2 _ 1024 _ _ _ _ (by omega) (by omega)]
  simp only [mapP, wP, gP, mP, vP, pack_1]
theorem piece_2 (f : EReal → EReal → EReal → EReal → EReal) (c : Dev nD) : extractStridedSlice S512 ![3008] (shapeCast S14336 (mapP m f c) shapeCasts_S112x128_S14336) slices_S14336_S512_3008
    = fun j : S512.Idx => f (m ((c : Thread nD τ).loc main_arg2) j) (m ((c : Thread nD τ).loc main_arg12) j) (m ((c : Thread nD τ).loc main_arg22) j) (m ((c : Thread nD τ).loc main_arg32) j) := by
  funext j
  idx_vars j
  rw [cut_1 _ 3008 _ _ (by omega)]
  simp only [mapP, wP, gP, mP, vP, pack_2]
theorem piece_3 (f : EReal → EReal → EReal → EReal → EReal) (c : Dev nD) : extractStridedSlice S512 ![3520] (shapeCast S14336 (mapP m f c) shapeCasts_S112x128_S14336) slices_S14336_S512_3520
    = fun j : S512.Idx => f (m ((c : Thread nD τ).loc main_arg3) j) (m ((c : Thread nD τ).loc main_arg13) j) (m ((c : Thread nD τ).loc main_arg23) j) (m ((c : Thread nD τ).loc main_arg33) j) := by
  funext j
  idx_vars j
  rw [cut_1 _ 3520 _ _ (by omega)]
  simp only [mapP, wP, gP, mP, vP, pack_3]
theorem piece_4 (f : EReal → EReal → EReal → EReal → EReal) (c : Dev nD) : extractStridedSlice S512 ![4032] (shapeCast S14336 (mapP m f c) shapeCasts_S112x128_S14336) slices_S14336_S512_4032
    = fun j : S512.Idx => f (m ((c : Thread nD τ).loc main_arg4) j) (m ((c : Thread nD τ).loc main_arg14) j) (m ((c : Thread nD τ).loc main_arg24) j) (m ((c : Thread nD τ).loc main_arg34) j) := by
  funext j
  idx_vars j
  rw [cut_1 _ 4032 _ _ (by omega)]
  simp only [mapP, wP, gP, mP, vP, pack_4]
theorem piece_5 (f : EReal → EReal → EReal → EReal → EReal) (c : Dev nD) : extractStridedSlice S64 ![4544] (shapeCast S14336 (mapP m f c) shapeCasts_S112x128_S14336) slices_S14336_S64_4544
    = fun j : S64.Idx => f (m ((c : Thread nD τ).loc main_arg5) j) (m ((c : Thread nD τ).loc main_arg15) j) (m ((c : Thread nD τ).loc main_arg25) j) (m ((c : Thread nD τ).loc main_arg35) j) := by
  funext j
  idx_vars j
  rw [cut_1 _ 4544 _ _ (by omega)]
  simp only [mapP, wP, gP, mP, vP, pack_5]
theorem piece_6 (f : EReal → EReal → EReal → EReal → EReal) (c : Dev nD) : extractStridedSlice S64 ![4608] (shapeCast S14336 (mapP m f c) shapeCasts_S112x128_S14336) slices_S14336_S64_4608
    = fun j : S64.Idx => f (m ((c : Thread nD τ).loc main_arg6) j) (m ((c : Thread nD τ).loc main_arg16) j) (m ((c : Thread nD τ).loc main_arg26) j) (m ((c : Thread nD τ).loc main_arg36) j) := by
  funext j
  idx_vars j
  rw [cut_1 _ 4608 _ _ (by omega)]
  simp only [mapP, wP, gP, mP, vP, pack_6]
theorem piece_7 (f : EReal → EReal → EReal → EReal → EReal) (c : Dev nD) : extractStridedSlice S1024 ![4672] (shapeCast S14336 (mapP m f c) shapeCasts_S112x128_S14336) slices_S14336_S1024_4672
    = fun j : S1024.Idx => f (m ((c : Thread nD τ).loc main_arg7) j) (m ((c : Thread nD τ).loc main_arg17) j) (m ((c : Thread nD τ).loc main_arg27) j) (m ((c : Thread nD τ).loc main_arg37) j) := by
  funext j
  idx_vars j
  rw [cut_1 _ 4672 _ _ (by omega)]
  simp only [mapP, wP, gP, mP, vP, pack_7]
theorem piece_8 (f : EReal → EReal → EReal → EReal → EReal) (c : Dev nD) : shapeCast S3x704 (extractStridedSlice S2112 ![5696] (shapeCast S14336 (mapP m f c) shapeCasts_S112x128_S14336) slices_S14336_S2112_5696) shapeCasts_S2112_S3x704
    = fun j : S3x704.Idx => f (m ((c : Thread nD τ).loc main_arg8) j) (m ((c : Thread nD τ).loc main_arg18) j) (m ((c : Thread nD τ).loc main_arg28) j) (m ((c : Thread nD τ).loc main_arg38) j) := by
  funext j
  idx_vars j
  rw [cut_2 _ 5696 _ _ _ _ (by omega) (by omega)]
  simp only [mapP, wP, gP, mP, vP, pack_8]
theorem piece_9 (f : EReal → EReal → EReal → EReal → EReal) (c : Dev nD) : extractStridedSlice S5632 ![7808] (shapeCast S14336 (mapP m f c) shapeCasts_S112x128_S14336) slices_S14336_S5632_7808
    = fun j : S5632.Idx => f (m ((c : Thread nD τ).loc main_arg9) j) (m ((c : Thread nD τ).loc main_arg19) j) (m ((c : Thread nD τ).loc main_arg29) j) (m ((c : Thread nD τ).loc main_arg39) j) := by
  funext j
  idx_vars j
  rw [cut_1 _ 7808 _ _ (by omega)]
  simp only [mapP, wP, gP, mP, vP, pack_9]

/-! ## The lines after the region -/

theorem tail_0 (W : Valuation τ sig (Elt Ideal)) :
    StableHlo.after hostOps1 W (main_v22 : DevRef τ sig) = extractStridedSlice S1024 ![0] (shapeCast S14336 (W (main_v20_0 : DevRef τ sig)) shapeCasts_S112x128_S14336) slices_S14336_S1024_0
    ∧ StableHlo.after hostOps1 W (main_v24 : DevRef τ sig) = shapeCast S31x64 (extractStridedSlice S1984 ![1024] (shapeCast S14336 (W (main_v20_0 : DevRef τ sig)) shapeCasts_S112x128_S14336) slices_S14336_S1984_1024) shapeCasts_S1984_S31x64
    ∧ StableHlo.after hostOps1 W (main_v25 : DevRef τ sig) = extractStridedSlice S512 ![3008] (shapeCast S14336 (W (main_v20_0 : DevRef τ sig)) shapeCasts_S112x128_S14336) slices_S14336_S512_3008
    ∧ StableHlo.after hostOps1 W (main_v26 : DevRef τ sig) = extractStridedSlice S512 ![3520] (shapeCast S14336 (W (main_v20_0 : DevRef τ sig)) shapeCasts_S112x128_S14336) slices_S14336_S512_3520
    ∧ StableHlo.after hostOps1 W (main_v27 : DevRef τ sig) = extractStridedSlice S512 ![4032] (shapeCast S14336 (W (main_v20_0 : DevRef τ sig)) shapeCasts_S112x128_S14336) slices_S14336_S512_4032
    ∧ StableHlo.after hostOps1 W (main_v28 : DevRef τ sig) = extractStridedSlice S64 ![4544] (shapeCast S14336 (W (main_v20_0 : DevRef τ sig)) shapeCasts_S112x128_S14336) slices_S14336_S64_4544
    ∧ StableHlo.after hostOps1 W (main_v29 : DevRef τ sig) = extractStridedSlice S64 ![4608] (shapeCast S14336 (W (main_v20_0 : DevRef τ sig)) shapeCasts_S112x128_S14336) slices_S14336_S64_4608
    ∧ StableHlo.after hostOps1 W (main_v30 : DevRef τ sig) = extractStridedSlice S1024 ![4672] (shapeCast S14336 (W (main_v20_0 : DevRef τ sig)) shapeCasts_S112x128_S14336) slices_S14336_S1024_4672
    ∧ StableHlo.after hostOps1 W (main_v32 : DevRef τ sig) = shapeCast S3x704 (extractStridedSlice S2112 ![5696] (shapeCast S14336 (W (main_v20_0 : DevRef τ sig)) shapeCasts_S112x128_S14336) slices_S14336_S2112_5696) shapeCasts_S2112_S3x704
    ∧ StableHlo.after hostOps1 W (main_v33 : DevRef τ sig) = extractStridedSlice S5632 ![7808] (shapeCast S14336 (W (main_v20_0 : DevRef τ sig)) shapeCasts_S112x128_S14336) slices_S14336_S5632_7808 := by
  refine ⟨?_, ?_, ?_, ?_, ?_, ?_, ?_, ?_, ?_, ?_⟩ <;> after_results_simp <;> rfl

theorem tail_1 (W : Valuation τ sig (Elt Ideal)) :
    StableHlo.after hostOps1 W (main_v35 : DevRef τ sig) = extractStridedSlice S1024 ![0] (shapeCast S14336 (W (main_v20_1 : DevRef τ sig)) shapeCasts_S112x128_S14336) slices_S14336_S1024_0
    ∧ StableHlo.after hostOps1 W (main_v37 : DevRef τ sig) = shapeCast S31x64 (extractStridedSlice S1984 ![1024] (shapeCast S14336 (W (main_v20_1 : DevRef τ sig)) shapeCasts_S112x128_S14336) slices_S14336_S1984_1024) shapeCasts_S1984_S31x64
    ∧ StableHlo.after hostOps1 W (main_v38 : DevRef τ sig) = extractStridedSlice S512 ![3008] (shapeCast S14336 (W (main_v20_1 : DevRef τ sig)) shapeCasts_S112x128_S14336) slices_S14336_S512_3008
    ∧ StableHlo.after hostOps1 W (main_v39 : DevRef τ sig) = extractStridedSlice S512 ![3520] (shapeCast S14336 (W (main_v20_1 : DevRef τ sig)) shapeCasts_S112x128_S14336) slices_S14336_S512_3520
    ∧ StableHlo.after hostOps1 W (main_v40 : DevRef τ sig) = extractStridedSlice S512 ![4032] (shapeCast S14336 (W (main_v20_1 : DevRef τ sig)) shapeCasts_S112x128_S14336) slices_S14336_S512_4032
    ∧ StableHlo.after hostOps1 W (main_v41 : DevRef τ sig) = extractStridedSlice S64 ![4544] (shapeCast S14336 (W (main_v20_1 : DevRef τ sig)) shapeCasts_S112x128_S14336) slices_S14336_S64_4544
    ∧ StableHlo.after hostOps1 W (main_v42 : DevRef τ sig) = extractStridedSlice S64 ![4608] (shapeCast S14336 (W (main_v20_1 : DevRef τ sig)) shapeCasts_S112x128_S14336) slices_S14336_S64_4608
    ∧ StableHlo.after hostOps1 W (main_v43 : DevRef τ sig) = extractStridedSlice S1024 ![4672] (shapeCast S14336 (W (main_v20_1 : DevRef τ sig)) shapeCasts_S112x128_S14336) slices_S14336_S1024_4672
    ∧ StableHlo.after hostOps1 W (main_v45 : DevRef τ sig) = shapeCast S3x704 (extractStridedSlice S2112 ![5696] (shapeCast S14336 (W (main_v20_1 : DevRef τ sig)) shapeCasts_S112x128_S14336) slices_S14336_S2112_5696) shapeCasts_S2112_S3x704
    ∧ StableHlo.after hostOps1 W (main_v46 : DevRef τ sig) = extractStridedSlice S5632 ![7808] (shapeCast S14336 (W (main_v20_1 : DevRef τ sig)) shapeCasts_S112x128_S14336) slices_S14336_S5632_7808 := by
  refine ⟨?_, ?_, ?_, ?_, ?_, ?_, ?_, ?_, ?_, ?_⟩ <;> after_results_simp <;> rfl

theorem tail_2 (W : Valuation τ sig (Elt Ideal)) :
    StableHlo.after hostOps1 W (main_v48 : DevRef τ sig) = extractStridedSlice S1024 ![0] (shapeCast S14336 (W (main_v20_2 : DevRef τ sig)) shapeCasts_S112x128_S14336) slices_S14336_S1024_0
    ∧ StableHlo.after hostOps1 W (main_v50 : DevRef τ sig) = shapeCast S31x64 (extractStridedSlice S1984 ![1024] (shapeCast S14336 (W (main_v20_2 : DevRef τ sig)) shapeCasts_S112x128_S14336) slices_S14336_S1984_1024) shapeCasts_S1984_S31x64
    ∧ StableHlo.after hostOps1 W (main_v51 : DevRef τ sig) = extractStridedSlice S512 ![3008] (shapeCast S14336 (W (main_v20_2 : DevRef τ sig)) shapeCasts_S112x128_S14336) slices_S14336_S512_3008
    ∧ StableHlo.after hostOps1 W (main_v52 : DevRef τ sig) = extractStridedSlice S512 ![3520] (shapeCast S14336 (W (main_v20_2 : DevRef τ sig)) shapeCasts_S112x128_S14336) slices_S14336_S512_3520
    ∧ StableHlo.after hostOps1 W (main_v53 : DevRef τ sig) = extractStridedSlice S512 ![4032] (shapeCast S14336 (W (main_v20_2 : DevRef τ sig)) shapeCasts_S112x128_S14336) slices_S14336_S512_4032
    ∧ StableHlo.after hostOps1 W (main_v54 : DevRef τ sig) = extractStridedSlice S64 ![4544] (shapeCast S14336 (W (main_v20_2 : DevRef τ sig)) shapeCasts_S112x128_S14336) slices_S14336_S64_4544
    ∧ StableHlo.after hostOps1 W (main_v55 : DevRef τ sig) = extractStridedSlice S64 ![4608] (shapeCast S14336 (W (main_v20_2 : DevRef τ sig)) shapeCasts_S112x128_S14336) slices_S14336_S64_4608
    ∧ StableHlo.after hostOps1 W (main_v56 : DevRef τ sig) = extractStridedSlice S1024 ![4672] (shapeCast S14336 (W (main_v20_2 : DevRef τ sig)) shapeCasts_S112x128_S14336) slices_S14336_S1024_4672
    ∧ StableHlo.after hostOps1 W (main_v58 : DevRef τ sig) = shapeCast S3x704 (extractStridedSlice S2112 ![5696] (shapeCast S14336 (W (main_v20_2 : DevRef τ sig)) shapeCasts_S112x128_S14336) slices_S14336_S2112_5696) shapeCasts_S2112_S3x704
    ∧ StableHlo.after hostOps1 W (main_v59 : DevRef τ sig) = extractStridedSlice S5632 ![7808] (shapeCast S14336 (W (main_v20_2 : DevRef τ sig)) shapeCasts_S112x128_S14336) slices_S14336_S5632_7808 := by
  refine ⟨?_, ?_, ?_, ?_, ?_, ?_, ?_, ?_, ?_, ?_⟩ <;> after_results_simp <;> rfl

/-- The device's arrays when the region is left. -/
abbrev W1 (c : Dev nD) : Valuation τ sig (Elt Ideal) := Pipeline.withArrays (cfgs 0).spec c (V0 m c) fun w => (dats m 0 c).arrAt w (cfgs 0).N

theorem W1_0 (c : Dev nD) : W1 m c (main_v20_0 : DevRef τ sig) = mapP m delta c :=
  (Pipeline.withArrays_arr (cfgs 0).spec (by decide) c _ (fun w => (dats m 0 c).arrAt w (cfgs 0).N) 4).trans (arr_4 m c)
theorem W1_1 (c : Dev nD) : W1 m c (main_v20_1 : DevRef τ sig) = mapP m (fun _ g m _ => newM g m) c :=
  (Pipeline.withArrays_arr (cfgs 0).spec (by decide) c _ (fun w => (dats m 0 c).arrAt w (cfgs 0).N) 5).trans (arr_5 m c)
theorem W1_2 (c : Dev nD) : W1 m c (main_v20_2 : DevRef τ sig) = mapP m (fun _ g _ v => newV g v) c :=
  (Pipeline.withArrays_arr (cfgs 0).spec (by decide) c _ (fun w => (dats m 0 c).arrAt w (cfgs 0).N) 6).trans (arr_6 m c)

theorem res_0 (c : Dev nD) :
    Pipeline.afterTail₀ cfgs (dats m) 0 (V0 m) [hostOps1] c main_v22 = (fun j : S1024.Idx => delta (m ((c : Thread nD τ).loc main_arg0) j) (m ((c : Thread nD τ).loc main_arg10) j) (m ((c : Thread nD τ).loc main_arg20) j) (m ((c : Thread nD τ).loc main_arg30) j))
    ∧ Pipeline.afterTail₀ cfgs (dats m) 0 (V0 m) [hostOps1] c main_v24 = (fun j : S31x64.Idx => delta (m ((c : Thread nD τ).loc main_arg1) j) (m ((c : Thread nD τ).loc main_arg11) j) (m ((c : Thread nD τ).loc main_arg21) j) (m ((c : Thread nD τ).loc main_arg31) j))
    ∧ Pipeline.afterTail₀ cfgs (dats m) 0 (V0 m) [hostOps1] c main_v25 = (fun j : S512.Idx => delta (m ((c : Thread nD τ).loc main_arg2) j) (m ((c : Thread nD τ).loc main_arg12) j) (m ((c : Thread nD τ).loc main_arg22) j) (m ((c : Thread nD τ).loc main_arg32) j))
    ∧ Pipeline.afterTail₀ cfgs (dats m) 0 (V0 m) [hostOps1] c main_v26 = (fun j : S512.Idx => delta (m ((c : Thread nD τ).loc main_arg3) j) (m ((c : Thread nD τ).loc main_arg13) j) (m ((c : Thread nD τ).loc main_arg23) j) (m ((c : Thread nD τ).loc main_arg33) j))
    ∧ Pipeline.afterTail₀ cfgs (dats m) 0 (V0 m) [hostOps1] c main_v27 = (fun j : S512.Idx => delta (m ((c : Thread nD τ).loc main_arg4) j) (m ((c : Thread nD τ).loc main_arg14) j) (m ((c : Thread nD τ).loc main_arg24) j) (m ((c : Thread nD τ).loc main_arg34) j))
    ∧ Pipeline.afterTail₀ cfgs (dats m) 0 (V0 m) [hostOps1] c main_v28 = (fun j : S64.Idx => delta (m ((c : Thread nD τ).loc main_arg5) j) (m ((c : Thread nD τ).loc main_arg15) j) (m ((c : Thread nD τ).loc main_arg25) j) (m ((c : Thread nD τ).loc main_arg35) j))
    ∧ Pipeline.afterTail₀ cfgs (dats m) 0 (V0 m) [hostOps1] c main_v29 = (fun j : S64.Idx => delta (m ((c : Thread nD τ).loc main_arg6) j) (m ((c : Thread nD τ).loc main_arg16) j) (m ((c : Thread nD τ).loc main_arg26) j) (m ((c : Thread nD τ).loc main_arg36) j))
    ∧ Pipeline.afterTail₀ cfgs (dats m) 0 (V0 m) [hostOps1] c main_v30 = (fun j : S1024.Idx => delta (m ((c : Thread nD τ).loc main_arg7) j) (m ((c : Thread nD τ).loc main_arg17) j) (m ((c : Thread nD τ).loc main_arg27) j) (m ((c : Thread nD τ).loc main_arg37) j))
    ∧ Pipeline.afterTail₀ cfgs (dats m) 0 (V0 m) [hostOps1] c main_v32 = (fun j : S3x704.Idx => delta (m ((c : Thread nD τ).loc main_arg8) j) (m ((c : Thread nD τ).loc main_arg18) j) (m ((c : Thread nD τ).loc main_arg28) j) (m ((c : Thread nD τ).loc main_arg38) j))
    ∧ Pipeline.afterTail₀ cfgs (dats m) 0 (V0 m) [hostOps1] c main_v33 = (fun j : S5632.Idx => delta (m ((c : Thread nD τ).loc main_arg9) j) (m ((c : Thread nD τ).loc main_arg19) j) (m ((c : Thread nD τ).loc main_arg29) j) (m ((c : Thread nD τ).loc main_arg39) j)) := by
  have h := tail_0 (W1 m c)
  simp only [W1_0 m c, piece_0 m, piece_1 m, piece_2 m, piece_3 m, piece_4 m, piece_5 m, piece_6 m, piece_7 m, piece_8 m, piece_9 m] at h
  exact h

theorem res_1 (c : Dev nD) :
    Pipeline.afterTail₀ cfgs (dats m) 0 (V0 m) [hostOps1] c main_v35 = (fun j : S1024.Idx => (fun _ g m _ => newM g m) (m ((c : Thread nD τ).loc main_arg0) j) (m ((c : Thread nD τ).loc main_arg10) j) (m ((c : Thread nD τ).loc main_arg20) j) (m ((c : Thread nD τ).loc main_arg30) j))
    ∧ Pipeline.afterTail₀ cfgs (dats m) 0 (V0 m) [hostOps1] c main_v37 = (fun j : S31x64.Idx => (fun _ g m _ => newM g m) (m ((c : Thread nD τ).loc main_arg1) j) (m ((c : Thread nD τ).loc main_arg11) j) (m ((c : Thread nD τ).loc main_arg21) j) (m ((c : Thread nD τ).loc main_arg31) j))
    ∧ Pipeline.afterTail₀ cfgs (dats m) 0 (V0 m) [hostOps1] c main_v38 = (fun j : S512.Idx => (fun _ g m _ => newM g m) (m ((c : Thread nD τ).loc main_arg2) j) (m ((c : Thread nD τ).loc main_arg12) j) (m ((c : Thread nD τ).loc main_arg22) j) (m ((c : Thread nD τ).loc main_arg32) j))
    ∧ Pipeline.afterTail₀ cfgs (dats m) 0 (V0 m) [hostOps1] c main_v39 = (fun j : S512.Idx => (fun _ g m _ => newM g m) (m ((c : Thread nD τ).loc main_arg3) j) (m ((c : Thread nD τ).loc main_arg13) j) (m ((c : Thread nD τ).loc main_arg23) j) (m ((c : Thread nD τ).loc main_arg33) j))
    ∧ Pipeline.afterTail₀ cfgs (dats m) 0 (V0 m) [hostOps1] c main_v40 = (fun j : S512.Idx => (fun _ g m _ => newM g m) (m ((c : Thread nD τ).loc main_arg4) j) (m ((c : Thread nD τ).loc main_arg14) j) (m ((c : Thread nD τ).loc main_arg24) j) (m ((c : Thread nD τ).loc main_arg34) j))
    ∧ Pipeline.afterTail₀ cfgs (dats m) 0 (V0 m) [hostOps1] c main_v41 = (fun j : S64.Idx => (fun _ g m _ => newM g m) (m ((c : Thread nD τ).loc main_arg5) j) (m ((c : Thread nD τ).loc main_arg15) j) (m ((c : Thread nD τ).loc main_arg25) j) (m ((c : Thread nD τ).loc main_arg35) j))
    ∧ Pipeline.afterTail₀ cfgs (dats m) 0 (V0 m) [hostOps1] c main_v42 = (fun j : S64.Idx => (fun _ g m _ => newM g m) (m ((c : Thread nD τ).loc main_arg6) j) (m ((c : Thread nD τ).loc main_arg16) j) (m ((c : Thread nD τ).loc main_arg26) j) (m ((c : Thread nD τ).loc main_arg36) j))
    ∧ Pipeline.afterTail₀ cfgs (dats m) 0 (V0 m) [hostOps1] c main_v43 = (fun j : S1024.Idx => (fun _ g m _ => newM g m) (m ((c : Thread nD τ).loc main_arg7) j) (m ((c : Thread nD τ).loc main_arg17) j) (m ((c : Thread nD τ).loc main_arg27) j) (m ((c : Thread nD τ).loc main_arg37) j))
    ∧ Pipeline.afterTail₀ cfgs (dats m) 0 (V0 m) [hostOps1] c main_v45 = (fun j : S3x704.Idx => (fun _ g m _ => newM g m) (m ((c : Thread nD τ).loc main_arg8) j) (m ((c : Thread nD τ).loc main_arg18) j) (m ((c : Thread nD τ).loc main_arg28) j) (m ((c : Thread nD τ).loc main_arg38) j))
    ∧ Pipeline.afterTail₀ cfgs (dats m) 0 (V0 m) [hostOps1] c main_v46 = (fun j : S5632.Idx => (fun _ g m _ => newM g m) (m ((c : Thread nD τ).loc main_arg9) j) (m ((c : Thread nD τ).loc main_arg19) j) (m ((c : Thread nD τ).loc main_arg29) j) (m ((c : Thread nD τ).loc main_arg39) j)) := by
  have h := tail_1 (W1 m c)
  simp only [W1_1 m c, piece_0 m, piece_1 m, piece_2 m, piece_3 m, piece_4 m, piece_5 m, piece_6 m, piece_7 m, piece_8 m, piece_9 m] at h
  exact h

theorem res_2 (c : Dev nD) :
    Pipeline.afterTail₀ cfgs (dats m) 0 (V0 m) [hostOps1] c main_v48 = (fun j : S1024.Idx => (fun _ g _ v => newV g v) (m ((c : Thread nD τ).loc main_arg0) j) (m ((c : Thread nD τ).loc main_arg10) j) (m ((c : Thread nD τ).loc main_arg20) j) (m ((c : Thread nD τ).loc main_arg30) j))
    ∧ Pipeline.afterTail₀ cfgs (dats m) 0 (V0 m) [hostOps1] c main_v50 = (fun j : S31x64.Idx => (fun _ g _ v => newV g v) (m ((c : Thread nD τ).loc main_arg1) j) (m ((c : Thread nD τ).loc main_arg11) j) (m ((c : Thread nD τ).loc main_arg21) j) (m ((c : Thread nD τ).loc main_arg31) j))
    ∧ Pipeline.afterTail₀ cfgs (dats m) 0 (V0 m) [hostOps1] c main_v51 = (fun j : S512.Idx => (fun _ g _ v => newV g v) (m ((c : Thread nD τ).loc main_arg2) j) (m ((c : Thread nD τ).loc main_arg12) j) (m ((c : Thread nD τ).loc main_arg22) j) (m ((c : Thread nD τ).loc main_arg32) j))
    ∧ Pipeline.afterTail₀ cfgs (dats m) 0 (V0 m) [hostOps1] c main_v52 = (fun j : S512.Idx => (fun _ g _ v => newV g v) (m ((c : Thread nD τ).loc main_arg3) j) (m ((c : Thread nD τ).loc main_arg13) j) (m ((c : Thread nD τ).loc main_arg23) j) (m ((c : Thread nD τ).loc main_arg33) j))
    ∧ Pipeline.afterTail₀ cfgs (dats m) 0 (V0 m) [hostOps1] c main_v53 = (fun j : S512.Idx => (fun _ g _ v => newV g v) (m ((c : Thread nD τ).loc main_arg4) j) (m ((c : Thread nD τ).loc main_arg14) j) (m ((c : Thread nD τ).loc main_arg24) j) (m ((c : Thread nD τ).loc main_arg34) j))
    ∧ Pipeline.afterTail₀ cfgs (dats m) 0 (V0 m) [hostOps1] c main_v54 = (fun j : S64.Idx => (fun _ g _ v => newV g v) (m ((c : Thread nD τ).loc main_arg5) j) (m ((c : Thread nD τ).loc main_arg15) j) (m ((c : Thread nD τ).loc main_arg25) j) (m ((c : Thread nD τ).loc main_arg35) j))
    ∧ Pipeline.afterTail₀ cfgs (dats m) 0 (V0 m) [hostOps1] c main_v55 = (fun j : S64.Idx => (fun _ g _ v => newV g v) (m ((c : Thread nD τ).loc main_arg6) j) (m ((c : Thread nD τ).loc main_arg16) j) (m ((c : Thread nD τ).loc main_arg26) j) (m ((c : Thread nD τ).loc main_arg36) j))
    ∧ Pipeline.afterTail₀ cfgs (dats m) 0 (V0 m) [hostOps1] c main_v56 = (fun j : S1024.Idx => (fun _ g _ v => newV g v) (m ((c : Thread nD τ).loc main_arg7) j) (m ((c : Thread nD τ).loc main_arg17) j) (m ((c : Thread nD τ).loc main_arg27) j) (m ((c : Thread nD τ).loc main_arg37) j))
    ∧ Pipeline.afterTail₀ cfgs (dats m) 0 (V0 m) [hostOps1] c main_v58 = (fun j : S3x704.Idx => (fun _ g _ v => newV g v) (m ((c : Thread nD τ).loc main_arg8) j) (m ((c : Thread nD τ).loc main_arg18) j) (m ((c : Thread nD τ).loc main_arg28) j) (m ((c : Thread nD τ).loc main_arg38) j))
    ∧ Pipeline.afterTail₀ cfgs (dats m) 0 (V0 m) [hostOps1] c main_v59 = (fun j : S5632.Idx => (fun _ g _ v => newV g v) (m ((c : Thread nD τ).loc main_arg9) j) (m ((c : Thread nD τ).loc main_arg19) j) (m ((c : Thread nD τ).loc main_arg29) j) (m ((c : Thread nD τ).loc main_arg39) j)) := by
  have h := tail_2 (W1 m c)
  simp only [W1_2 m c, piece_0 m, piece_1 m, piece_2 m, piece_3 m, piece_4 m, piece_5 m, piece_6 m, piece_7 m, piece_8 m, piece_9 m] at h
  exact h

/-! ## The two programs -/

section
variable {s : Shape} {w w' g g' a a' v v' : s.Idx → EReal} (hw : w = w') (hg : g = g') (ha : a = a') (hv : v = v')
include hg ha in
theorem congr_m : (fun j => newM (g j) (a j)) = fun j => newM (g' j) (a' j) := by subst hg ha; rfl
include hg hv in
theorem congr_v : (fun j => newV (g j) (v j)) = fun j => newV (g' j) (v' j) := by subst hg hv; rfl
include hw hg ha hv in
theorem congr_d : (fun j => delta (w j) (g j) (a j) (v j)) = fun j => delta (w' j) (g' j) (a' j) (v' j) := by subst hw hg ha hv; rfl
end

set_option maxHeartbeats 4000000 in
theorem algebraic : algebraic_AdamSmallIdeal_AdamSmallRefIdeal (hAdamSmallIdeal := Gen.facts) (hAdamSmallRefIdeal := AdamSmallRefIdeal.Gen.facts) := by
  intro m ρ m' ρ' _ hag
  refine ⟨fun c j => delta (m ((c : Thread nD τ).loc main_arg0) j) (m ((c : Thread nD τ).loc main_arg10) j) (m ((c : Thread nD τ).loc main_arg20) j) (m ((c : Thread nD τ).loc main_arg30) j),
    fun c j => delta (m ((c : Thread nD τ).loc main_arg1) j) (m ((c : Thread nD τ).loc main_arg11) j) (m ((c : Thread nD τ).loc main_arg21) j) (m ((c : Thread nD τ).loc main_arg31) j),
    fun c j => delta (m ((c : Thread nD τ).loc main_arg2) j) (m ((c : Thread nD τ).loc main_arg12) j) (m ((c : Thread nD τ).loc main_arg22) j) (m ((c : Thread nD τ).loc main_arg32) j),
    fun c j => delta (m ((c : Thread nD τ).loc main_arg3) j) (m ((c : Thread nD τ).loc main_arg13) j) (m ((c : Thread nD τ).loc main_arg23) j) (m ((c : Thread nD τ).loc main_arg33) j),
    fun c j => delta (m ((c : Thread nD τ).loc main_arg4) j) (m ((c : Thread nD τ).loc main_arg14) j) (m ((c : Thread nD τ).loc main_arg24) j) (m ((c : Thread nD τ).loc main_arg34) j),
    fun c j => delta (m ((c : Thread nD τ).loc main_arg5) j) (m ((c : Thread nD τ).loc main_arg15) j) (m ((c : Thread nD τ).loc main_arg25) j) (m ((c : Thread nD τ).loc main_arg35) j),
    fun c j => delta (m ((c : Thread nD τ).loc main_arg6) j) (m ((c : Thread nD τ).loc main_arg16) j) (m ((c : Thread nD τ).loc main_arg26) j) (m ((c : Thread nD τ).loc main_arg36) j),
    fun c j => delta (m ((c : Thread nD τ).loc main_arg7) j) (m ((c : Thread nD τ).loc main_arg17) j) (m ((c : Thread nD τ).loc main_arg27) j) (m ((c : Thread nD τ).loc main_arg37) j),
    fun c j => delta (m ((c : Thread nD τ).loc main_arg8) j) (m ((c : Thread nD τ).loc main_arg18) j) (m ((c : Thread nD τ).loc main_arg28) j) (m ((c : Thread nD τ).loc main_arg38) j),
    fun c j => delta (m ((c : Thread nD τ).loc main_arg9) j) (m ((c : Thread nD τ).loc main_arg19) j) (m ((c : Thread nD τ).loc main_arg29) j) (m ((c : Thread nD τ).loc main_arg39) j),
    fun c j => newM (m ((c : Thread nD τ).loc main_arg10) j) (m ((c : Thread nD τ).loc main_arg20) j),
    fun c j => newM (m ((c : Thread nD τ).loc main_arg11) j) (m ((c : Thread nD τ).loc main_arg21) j),
    fun c j => newM (m ((c : Thread nD τ).loc main_arg12) j) (m ((c : Thread nD τ).loc main_arg22) j),
    fun c j => newM (m ((c : Thread nD τ).loc main_arg13) j) (m ((c : Thread nD τ).loc main_arg23) j),
    fun c j => newM (m ((c : Thread nD τ).loc main_arg14) j) (m ((c : Thread nD τ).loc main_arg24) j),
    fun c j => newM (m ((c : Thread nD τ).loc main_arg15) j) (m ((c : Thread nD τ).loc main_arg25) j),
    fun c j => newM (m ((c : Thread nD τ).loc main_arg16) j) (m ((c : Thread nD τ).loc main_arg26) j),
    fun c j => newM (m ((c : Thread nD τ).loc main_arg17) j) (m ((c : Thread nD τ).loc main_arg27) j),
    fun c j => newM (m ((c : Thread nD τ).loc main_arg18) j) (m ((c : Thread nD τ).loc main_arg28) j),
    fun c j => newM (m ((c : Thread nD τ).loc main_arg19) j) (m ((c : Thread nD τ).loc main_arg29) j),
    fun c j => newV (m ((c : Thread nD τ).loc main_arg10) j) (m ((c : Thread nD τ).loc main_arg30) j),
    fun c j => newV (m ((c : Thread nD τ).loc main_arg11) j) (m ((c : Thread nD τ).loc main_arg31) j),
    fun c j => newV (m ((c : Thread nD τ).loc main_arg12) j) (m ((c : Thread nD τ).loc main_arg32) j),
    fun c j => newV (m ((c : Thread nD τ).loc main_arg13) j) (m ((c : Thread nD τ).loc main_arg33) j),
    fun c j => newV (m ((c : Thread nD τ).loc main_arg14) j) (m ((c : Thread nD τ).loc main_arg34) j),
    fun c j => newV (m ((c : Thread nD τ).loc main_arg15) j) (m ((c : Thread nD τ).loc main_arg35) j),
    fun c j => newV (m ((c : Thread nD τ).loc main_arg16) j) (m ((c : Thread nD τ).loc main_arg36) j),
    fun c j => newV (m ((c : Thread nD τ).loc main_arg17) j) (m ((c : Thread nD τ).loc main_arg37) j),
    fun c j => newV (m ((c : Thread nD τ).loc main_arg18) j) (m ((c : Thread nD τ).loc main_arg38) j),
    fun c j => newV (m ((c : Thread nD τ).loc main_arg19) j) (m ((c : Thread nD τ).loc main_arg39) j),
    (θ_run _ _ _).mono (fun r h c => ?_) (θ_run_and (run_main m ρ) (Gen.unchanged m ρ)), (θ_run _ _ _).mono (fun _ h c => ?_) (AdamSmallRefIdeal.Value.run (F := Ideal) m' ρ')⟩
  · obtain ⟨d00, d01, d02, d03, d04, d05, d06, d07, d08, d09⟩ := res_0 m c
    obtain ⟨d10, d11, d12, d13, d14, d15, d16, d17, d18, d19⟩ := res_1 m c
    obtain ⟨d20, d21, d22, d23, d24, d25, d26, d27, d28, d29⟩ := res_2 m c
    have h1 := (h.1 c).2
    exact ⟨(h1 main_v22 (Pipeline.mem_restRefs_of main_v22 (by decide) (by decide))).trans d00,
      (h1 main_v24 (Pipeline.mem_restRefs_of main_v24 (by decide) (by decide))).trans d01,
      (h1 main_v25 (Pipeline.mem_restRefs_of main_v25 (by decide) (by decide))).trans d02,
      (h1 main_v26 (Pipeline.mem_restRefs_of main_v26 (by decide) (by decide))).trans d03,
      (h1 main_v27 (Pipeline.mem_restRefs_of main_v27 (by decide) (by decide))).trans d04,
      (h1 main_v28 (Pipeline.mem_restRefs_of main_v28 (by decide) (by decide))).trans d05,
      (h1 main_v29 (Pipeline.mem_restRefs_of main_v29 (by decide) (by decide))).trans d06,
      (h1 main_v30 (Pipeline.mem_restRefs_of main_v30 (by decide) (by decide))).trans d07,
      (h1 main_v32 (Pipeline.mem_restRefs_of main_v32 (by decide) (by decide))).trans d08,
      (h1 main_v33 (Pipeline.mem_restRefs_of main_v33 (by decide) (by decide))).trans d09,
      (h1 main_v35 (Pipeline.mem_restRefs_of main_v35 (by decide) (by decide))).trans d10,
      (h1 main_v37 (Pipeline.mem_restRefs_of main_v37 (by decide) (by decide))).trans d11,
      (h1 main_v38 (Pipeline.mem_restRefs_of main_v38 (by decide) (by decide))).trans d12,
      (h1 main_v39 (Pipeline.mem_restRefs_of main_v39 (by decide) (by decide))).trans d13,
      (h1 main_v40 (Pipeline.mem_restRefs_of main_v40 (by decide) (by decide))).trans d14,
      (h1 main_v41 (Pipeline.mem_restRefs_of main_v41 (by decide) (by decide))).trans d15,
      (h1 main_v42 (Pipeline.mem_restRefs_of main_v42 (by decide) (by decide))).trans d16,
      (h1 main_v43 (Pipeline.mem_restRefs_of main_v43 (by decide) (by decide))).trans d17,
      (h1 main_v45 (Pipeline.mem_restRefs_of main_v45 (by decide) (by decide))).trans d18,
      (h1 main_v46 (Pipeline.mem_restRefs_of main_v46 (by decide) (by decide))).trans d19,
      (h1 main_v48 (Pipeline.mem_restRefs_of main_v48 (by decide) (by decide))).trans d20,
      (h1 main_v50 (Pipeline.mem_restRefs_of main_v50 (by decide) (by decide))).trans d21,
      (h1 main_v51 (Pipeline.mem_restRefs_of main_v51 (by decide) (by decide))).trans d22,
      (h1 main_v52 (Pipeline.mem_restRefs_of main_v52 (by decide) (by decide))).trans d23,
      (h1 main_v53 (Pipeline.mem_restRefs_of main_v53 (by decide) (by decide))).trans d24,
      (h1 main_v54 (Pipeline.mem_restRefs_of main_v54 (by decide) (by decide))).trans d25,
      (h1 main_v55 (Pipeline.mem_restRefs_of main_v55 (by decide) (by decide))).trans d26,
      (h1 main_v56 (Pipeline.mem_restRefs_of main_v56 (by decide) (by decide))).trans d27,
      (h1 main_v58 (Pipeline.mem_restRefs_of main_v58 (by decide) (by decide))).trans d28,
      (h1 main_v59 (Pipeline.mem_restRefs_of main_v59 (by decide) (by decide))).trans d29,
      h.2 c⟩
  · obtain ⟨r00, r01, r02, r03, r04, r05, r06, r07, r08, r09, r10, r11, r12, r13, r14, r15, r16, r17, r18, r19, r20, r21, r22, r23, r24, r25, r26, r27, r28, r29, h⟩ := h c
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39⟩ := hag c
    exact ⟨r00.trans ((AdamSmallIdeal.Opt.ref_d _ _ _ _ _).trans (congr_d a0 a10 a20 a30)),
      r01.trans ((AdamSmallIdeal.Opt.ref_d _ _ _ _ _).trans (congr_d a1 a11 a21 a31)),
      r02.trans ((AdamSmallIdeal.Opt.ref_d _ _ _ _ _).trans (congr_d a2 a12 a22 a32)),
      r03.trans ((AdamSmallIdeal.Opt.ref_d _ _ _ _ _).trans (congr_d a3 a13 a23 a33)),
      r04.trans ((AdamSmallIdeal.Opt.ref_d _ _ _ _ _).trans (congr_d a4 a14 a24 a34)),
      r05.trans ((AdamSmallIdeal.Opt.ref_d _ _ _ _ _).trans (congr_d a5 a15 a25 a35)),
      r06.trans ((AdamSmallIdeal.Opt.ref_d _ _ _ _ _).trans (congr_d a6 a16 a26 a36)),
      r07.trans ((AdamSmallIdeal.Opt.ref_d _ _ _ _ _).trans (congr_d a7 a17 a27 a37)),
      r08.trans ((AdamSmallIdeal.Opt.ref_d _ _ _ _ _).trans (congr_d a8 a18 a28 a38)),
      r09.trans ((AdamSmallIdeal.Opt.ref_d _ _ _ _ _).trans (congr_d a9 a19 a29 a39)),
      r10.trans ((ref_m _ _ _).trans (congr_m a10 a20)),
      r11.trans ((ref_m _ _ _).trans (congr_m a11 a21)),
      r12.trans ((ref_m _ _ _).trans (congr_m a12 a22)),
      r13.trans ((ref_m _ _ _).trans (congr_m a13 a23)),
      r14.trans ((ref_m _ _ _).trans (congr_m a14 a24)),
      r15.trans ((ref_m _ _ _).trans (congr_m a15 a25)),
      r16.trans ((ref_m _ _ _).trans (congr_m a16 a26)),
      r17.trans ((ref_m _ _ _).trans (congr_m a17 a27)),
      r18.trans ((ref_m _ _ _).trans (congr_m a18 a28)),
      r19.trans ((ref_m _ _ _).trans (congr_m a19 a29)),
      r20.trans ((ref_v _ _ _).trans (congr_v a10 a30)),
      r21.trans ((ref_v _ _ _).trans (congr_v a11 a31)),
      r22.trans ((ref_v _ _ _).trans (congr_v a12 a32)),
      r23.trans ((ref_v _ _ _).trans (congr_v a13 a33)),
      r24.trans ((ref_v _ _ _).trans (congr_v a14 a34)),
      r25.trans ((ref_v _ _ _).trans (congr_v a15 a35)),
      r26.trans ((ref_v _ _ _).trans (congr_v a16 a36)),
      r27.trans ((ref_v _ _ _).trans (congr_v a17 a37)),
      r28.trans ((ref_v _ _ _).trans (congr_v a18 a38)),
      r29.trans ((ref_v _ _ _).trans (congr_v a19 a39)), h⟩

end Cert.AdamSmallIdeal.Opt

end
-- ==== Proof.Opt.SumIn.lean ====
/-
  The sum of the eight devices' parts of the `w_in` weight's gradient, in the weight's layout (a transpose follows the call).
-/
module

public import proofs.«01_k».proof.Defs
public import proofs.«01_k».proof.Proof.Gen.SumInIdeal.Frame
public import proofs.«01_k».proof.Proof.Gen.SumInRefIdeal.Run
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.SumInIdeal.Opt

open Cert.SumInIdeal Cert.SumInIdeal.Gen

variable (m : (ℓ : Loc nD τ sig) → Buf (Elt Ideal) ℓ)

/-- The eight parts. -/
abbrev xA (c : Dev nD) : S8x320x1024.Idx → EReal := m ((c : Thread nD τ).loc main_arg0)

/-- Their sum at row `r`, column `q`. -/
def val (c : Dev nD) (r : Fin 320) (q : Fin 1024) : EReal := ∑ s : Fin 8, xA m c (ix3 s r q)

theorem hz : (![0, 0] : Fin 2 → Nat) = fun _ => 0 := funext fun a => by fin_cases a <;> rfl

theorem out_1 (a : Vec Ideal S8x160x1024 .bf16) (p : Fin 160) (q : Fin 1024) :
    out0_1 a (ix2 p q) = ∑ s : Fin 8, a (ix3 s p q) := by
  unfold out0_1
  rw [View.canon_unit_zero hz, Fin.sum_univ_eight]
  pointwise [k0_pay1]

theorem ix_0 : ∀ t : Fin cfg0.N, win0_0.index t = ![0, t.val, 0] := (by decide +kernel : ∀ t : Fin grid0.N, win0_0.index t = ![0, t.val, 0])
theorem ix_1 : ∀ t : Fin cfg0.N, win0_1.index t = ![t.val, 0] := (by decide +kernel : ∀ t : Fin grid0.N, win0_1.index t = ![t.val, 0])

/-- Row `p` of the block of point `t`, in the array. -/
abbrev row (t : Fin cfg0.N) (p : Fin 160) : Fin 320 :=
  ⟨t.val * 160 + p.val, by have := t.isLt; have h : cfg0.N = 2 := N_0; omega⟩

theorem blk_0 (c : Dev nD) (t : Fin cfg0.N) (s : Fin 8) (p : Fin 160) (q : Fin 1024) :
    (iblk m c 0 t : Vec Ideal S8x160x1024 .bf16) (ix3 s p q) = xA m c (ix3 s (row t p) q) := by
  blk_simp [iblk]
  rw [show V m c main_arg0 = m ((c : Thread nD τ).loc main_arg0) from V_main_arg0 m c]
  exact congrArg _ (by blk_ext [ix_0])

theorem arr_1 (c : Dev nD) : (dats m 0 c).arrAt 1 cfg0.N = fun j : S320x1024.Idx => val m c (j 0) (j 1) := by
  refine (dats m 0 c).arrAt_eq_of_covers 1 _ (by decide +kernel) fun t hf y => ?_
  blk_simp
  rw [after0_1]
  idx_vars y
  rw [show (win0_1.blk t).view.emb (ix2 y0 y1) = ix2 (row t y0) y1 by blk_ext [ix_1], out_1]
  simp only [blk_0]
  rfl

/-- The result: the array the region leaves, transposed. -/
theorem tail (c : Dev nD) : Pipeline.afterTail₀ cfgs (dats m) 0 (V0 m) [hostOps1] c main_v1
    = transpose (α := EReal) S1024x320 [1, 0] (fun j : S320x1024.Idx => val m c (j 0) (j 1)) transposes_S320x1024_S1024x320_1_0 := by
  unfold Pipeline.afterTail₀
  show StableHlo.after hostOps1 _ (main_v1 : DevRef τ sig) = _
  after_results_simp
  exact congrArg (fun x => transpose (α := EReal) S1024x320 [1, 0] x transposes_S320x1024_S1024x320_1_0)
    ((Pipeline.withArrays_arr (cfgs 0).spec (by decide) c _ (fun w => (dats m 0 c).arrAt w (cfgs 0).N) 1).trans (arr_1 m c))

theorem run (ρ : Dev nD → PrngReg) : θ_run defs (onTc (τ := τ) (main (F := Ideal))) ⟨m, fun _ => 0, ρ⟩ fun r => ∀ c : Dev nD,
    r.2.mem ((c : Thread nD τ).loc main_v1) = transpose (α := EReal) S1024x320 [1, 0] (fun j : S320x1024.Idx => val m c (j 0) (j 1)) transposes_S320x1024_S1024x320_1_0
    ∧ r.2.mem ((c : Thread nD τ).loc main_arg0) = m ((c : Thread nD τ).loc main_arg0) := by
  refine (θ_run defs _ _).mono (fun r h c => ⟨((h c).2 main_v1 (by decide)).trans (tail m c), ?_⟩) (run_main m ρ)
  exact ((h c).1 0).trans (((dats m 0 c).arrAt_in 0 rfl _).trans ((A_eq m c 0).trans (V_main_arg0 m c)))

theorem algebraic : algebraic_SumInIdeal_SumInRefIdeal (hSumInIdeal := Gen.facts) (hSumInRefIdeal := SumInRefIdeal.Gen.facts) := by
  intro m ρ m' ρ' _ hag
  refine ⟨_, run m ρ, (θ_run _ _ _).mono (fun _ h c => ?_) (SumInRefIdeal.Value.run (F := Ideal) m' ρ')⟩
  obtain ⟨h0, h⟩ := h c
  have g0 := hag c
  refine ⟨h0.trans ?_, h⟩
  funext j
  rw [g0]
  idx_vars j
  pointwise [val]

end Cert.SumInIdeal.Opt

end
-- ==== Proof.Opt.SumOut.lean ====
/-
  The sum of the eight devices' parts of the `w_out` weight's gradient, from part 0 on.
-/
module

public import proofs.«01_k».proof.Defs
public import proofs.«01_k».proof.Proof.Gen.SumOutIdeal.Value
public import proofs.«01_k».proof.Proof.Gen.SumOutRefIdeal.Run
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.SumOutIdeal.Opt

open Cert.SumOutIdeal Cert.SumOutIdeal.Gen

variable (m : (ℓ : Loc nD τ sig) → Buf (Elt Ideal) ℓ)

/-- The eight parts. -/
abbrev xA (c : Dev nD) : S8x128x1024.Idx → EReal := m ((c : Thread nD τ).loc main_arg0)

/-- Their sum at row `r`, column `q`. -/
def val (c : Dev nD) (r : Fin 128) (q : Fin 1024) : EReal := ∑ s : Fin 8, xA m c (ix3 s r q)

theorem hz : (![0, 0] : Fin 2 → Nat) = fun _ => 0 := funext fun a => by fin_cases a <;> rfl

theorem out_1 (a : Vec Ideal S8x128x1024 .bf16) (p : Fin 128) (q : Fin 1024) :
    out0_1 a (ix2 p q) = ∑ s : Fin 8, a (ix3 s p q) := by
  unfold out0_1
  rw [View.canon_unit_zero hz, Fin.sum_univ_eight]
  pointwise [k0_pay1]

theorem ix_0 : ∀ t : Fin cfg0.N, win0_0.index t = ![0, t.val, 0] := (by decide +kernel : ∀ t : Fin grid0.N, win0_0.index t = ![0, t.val, 0])
theorem ix_1 : ∀ t : Fin cfg0.N, win0_1.index t = ![t.val, 0] := (by decide +kernel : ∀ t : Fin grid0.N, win0_1.index t = ![t.val, 0])

/-- Row `p` of the block of point `t`, in the array. -/
abbrev row (t : Fin cfg0.N) (p : Fin 128) : Fin 128 :=
  ⟨t.val * 128 + p.val, by have := t.isLt; have h : cfg0.N = 1 := N_0; omega⟩

theorem blk_0 (c : Dev nD) (t : Fin cfg0.N) (s : Fin 8) (p : Fin 128) (q : Fin 1024) :
    (iblk m c 0 t : Vec Ideal S8x128x1024 .bf16) (ix3 s p q) = xA m c (ix3 s (row t p) q) := by
  blk_simp [iblk]
  rw [show V m c main_arg0 = m ((c : Thread nD τ).loc main_arg0) from V_main_arg0 m c]
  exact congrArg _ (by blk_ext [ix_0])

theorem arr_1 (c : Dev nD) : (dats m 0 c).arrAt 1 cfg0.N = fun j : S128x1024.Idx => val m c (j 0) (j 1) := by
  refine (dats m 0 c).arrAt_eq_of_covers 1 _ (by decide +kernel) fun t hf y => ?_
  blk_simp
  rw [after0_1]
  idx_vars y
  rw [show (win0_1.blk t).view.emb (ix2 y0 y1) = ix2 (row t y0) y1 by blk_ext [ix_1], out_1]
  simp only [blk_0]
  rfl

theorem algebraic : algebraic_SumOutIdeal_SumOutRefIdeal (hSumOutIdeal := Gen.facts) (hSumOutRefIdeal := SumOutRefIdeal.Gen.facts) := by
  intro m ρ m' ρ' _ hag
  refine ⟨_, SumOutIdeal.Value.run_blocks m ρ, (θ_run _ _ _).mono (fun _ h c => ?_) (SumOutRefIdeal.Value.run (F := Ideal) m' ρ')⟩
  obtain ⟨h0, h⟩ := h c
  have g0 := hag c
  refine ⟨h0.trans (.trans ?_ (arr_1 m c).symm), h⟩
  funext j
  rw [g0]
  idx_vars j
  pointwise [val]

end Cert.SumOutIdeal.Opt

end
-- ==== Proof.Opt.SumUp.lean ====
/-
  The sum of the eight devices' parts of the `w_up` weight's gradient, in the weight's layout (a transpose follows the call).
-/
module

public import proofs.«01_k».proof.Defs
public import proofs.«01_k».proof.Proof.Gen.SumUpIdeal.Frame
public import proofs.«01_k».proof.Proof.Gen.SumUpRefIdeal.Run
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.SumUpIdeal.Opt

open Cert.SumUpIdeal Cert.SumUpIdeal.Gen

variable (m : (ℓ : Loc nD τ sig) → Buf (Elt Ideal) ℓ)

/-- The eight parts. -/
abbrev xA (c : Dev nD) : S8x704x1024.Idx → EReal := m ((c : Thread nD τ).loc main_arg0)

/-- Their sum at row `r`, column `q`. -/
def val (c : Dev nD) (r : Fin 704) (q : Fin 1024) : EReal := ∑ s : Fin 8, xA m c (ix3 s r q)

theorem hz : (![0, 0] : Fin 2 → Nat) = fun _ => 0 := funext fun a => by fin_cases a <;> rfl

theorem out_1 (a : Vec Ideal S8x176x1024 .bf16) (p : Fin 176) (q : Fin 1024) :
    out0_1 a (ix2 p q) = ∑ s : Fin 8, a (ix3 s p q) := by
  unfold out0_1
  rw [View.canon_unit_zero hz, Fin.sum_univ_eight]
  pointwise [k0_pay1]

theorem ix_0 : ∀ t : Fin cfg0.N, win0_0.index t = ![0, t.val, 0] := (by decide +kernel : ∀ t : Fin grid0.N, win0_0.index t = ![0, t.val, 0])
theorem ix_1 : ∀ t : Fin cfg0.N, win0_1.index t = ![t.val, 0] := (by decide +kernel : ∀ t : Fin grid0.N, win0_1.index t = ![t.val, 0])

/-- Row `p` of the block of point `t`, in the array. -/
abbrev row (t : Fin cfg0.N) (p : Fin 176) : Fin 704 :=
  ⟨t.val * 176 + p.val, by have := t.isLt; have h : cfg0.N = 4 := N_0; omega⟩

theorem blk_0 (c : Dev nD) (t : Fin cfg0.N) (s : Fin 8) (p : Fin 176) (q : Fin 1024) :
    (iblk m c 0 t : Vec Ideal S8x176x1024 .bf16) (ix3 s p q) = xA m c (ix3 s (row t p) q) := by
  blk_simp [iblk]
  rw [show V m c main_arg0 = m ((c : Thread nD τ).loc main_arg0) from V_main_arg0 m c]
  exact congrArg _ (by blk_ext [ix_0])

theorem arr_1 (c : Dev nD) : (dats m 0 c).arrAt 1 cfg0.N = fun j : S704x1024.Idx => val m c (j 0) (j 1) := by
  refine (dats m 0 c).arrAt_eq_of_covers 1 _ (by decide +kernel) fun t hf y => ?_
  blk_simp
  rw [after0_1]
  idx_vars y
  rw [show (win0_1.blk t).view.emb (ix2 y0 y1) = ix2 (row t y0) y1 by blk_ext [ix_1], out_1]
  simp only [blk_0]
  rfl

/-- The result: the array the region leaves, transposed. -/
theorem tail (c : Dev nD) : Pipeline.afterTail₀ cfgs (dats m) 0 (V0 m) [hostOps1] c main_v1
    = transpose (α := EReal) S1024x704 [1, 0] (fun j : S704x1024.Idx => val m c (j 0) (j 1)) transposes_S704x1024_S1024x704_1_0 := by
  unfold Pipeline.afterTail₀
  show StableHlo.after hostOps1 _ (main_v1 : DevRef τ sig) = _
  after_results_simp
  exact congrArg (fun x => transpose (α := EReal) S1024x704 [1, 0] x transposes_S704x1024_S1024x704_1_0)
    ((Pipeline.withArrays_arr (cfgs 0).spec (by decide) c _ (fun w => (dats m 0 c).arrAt w (cfgs 0).N) 1).trans (arr_1 m c))

theorem run (ρ : Dev nD → PrngReg) : θ_run defs (onTc (τ := τ) (main (F := Ideal))) ⟨m, fun _ => 0, ρ⟩ fun r => ∀ c : Dev nD,
    r.2.mem ((c : Thread nD τ).loc main_v1) = transpose (α := EReal) S1024x704 [1, 0] (fun j : S704x1024.Idx => val m c (j 0) (j 1)) transposes_S704x1024_S1024x704_1_0
    ∧ r.2.mem ((c : Thread nD τ).loc main_arg0) = m ((c : Thread nD τ).loc main_arg0) := by
  refine (θ_run defs _ _).mono (fun r h c => ⟨((h c).2 main_v1 (by decide)).trans (tail m c), ?_⟩) (run_main m ρ)
  exact ((h c).1 0).trans (((dats m 0 c).arrAt_in 0 rfl _).trans ((A_eq m c 0).trans (V_main_arg0 m c)))

theorem algebraic : algebraic_SumUpIdeal_SumUpRefIdeal (hSumUpIdeal := Gen.facts) (hSumUpRefIdeal := SumUpRefIdeal.Gen.facts) := by
  intro m ρ m' ρ' _ hag
  refine ⟨_, run m ρ, (θ_run _ _ _).mono (fun _ h c => ?_) (SumUpRefIdeal.Value.run (F := Ideal) m' ρ')⟩
  obtain ⟨h0, h⟩ := h c
  have g0 := hag c
  refine ⟨h0.trans ?_, h⟩
  funext j
  rw [g0]
  idx_vars j
  pointwise [val]

end Cert.SumUpIdeal.Opt

end
-- ==== Proof.Opt.SumDown.lean ====
/-
  The sum of the eight devices' parts of the `w_down` weight's gradient, from part 0 on.
-/
module

public import proofs.«01_k».proof.Defs
public import proofs.«01_k».proof.Proof.Gen.SumDownIdeal.Value
public import proofs.«01_k».proof.Proof.Gen.SumDownRefIdeal.Run
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.SumDownIdeal.Opt

open Cert.SumDownIdeal Cert.SumDownIdeal.Gen

variable (m : (ℓ : Loc nD τ sig) → Buf (Elt Ideal) ℓ)

/-- The eight parts. -/
abbrev xA (c : Dev nD) : S8x352x1024.Idx → EReal := m ((c : Thread nD τ).loc main_arg0)

/-- Their sum at row `r`, column `q`. -/
def val (c : Dev nD) (r : Fin 352) (q : Fin 1024) : EReal := ∑ s : Fin 8, xA m c (ix3 s r q)

theorem hz : (![0, 0] : Fin 2 → Nat) = fun _ => 0 := funext fun a => by fin_cases a <;> rfl

theorem out_1 (a : Vec Ideal S8x176x1024 .bf16) (p : Fin 176) (q : Fin 1024) :
    out0_1 a (ix2 p q) = ∑ s : Fin 8, a (ix3 s p q) := by
  unfold out0_1
  rw [View.canon_unit_zero hz, Fin.sum_univ_eight]
  pointwise [k0_pay1]

theorem ix_0 : ∀ t : Fin cfg0.N, win0_0.index t = ![0, t.val, 0] := (by decide +kernel : ∀ t : Fin grid0.N, win0_0.index t = ![0, t.val, 0])
theorem ix_1 : ∀ t : Fin cfg0.N, win0_1.index t = ![t.val, 0] := (by decide +kernel : ∀ t : Fin grid0.N, win0_1.index t = ![t.val, 0])

/-- Row `p` of the block of point `t`, in the array. -/
abbrev row (t : Fin cfg0.N) (p : Fin 176) : Fin 352 :=
  ⟨t.val * 176 + p.val, by have := t.isLt; have h : cfg0.N = 2 := N_0; omega⟩

theorem blk_0 (c : Dev nD) (t : Fin cfg0.N) (s : Fin 8) (p : Fin 176) (q : Fin 1024) :
    (iblk m c 0 t : Vec Ideal S8x176x1024 .bf16) (ix3 s p q) = xA m c (ix3 s (row t p) q) := by
  blk_simp [iblk]
  rw [show V m c main_arg0 = m ((c : Thread nD τ).loc main_arg0) from V_main_arg0 m c]
  exact congrArg _ (by blk_ext [ix_0])

theorem arr_1 (c : Dev nD) : (dats m 0 c).arrAt 1 cfg0.N = fun j : S352x1024.Idx => val m c (j 0) (j 1) := by
  refine (dats m 0 c).arrAt_eq_of_covers 1 _ (by decide +kernel) fun t hf y => ?_
  blk_simp
  rw [after0_1]
  idx_vars y
  rw [show (win0_1.blk t).view.emb (ix2 y0 y1) = ix2 (row t y0) y1 by blk_ext [ix_1], out_1]
  simp only [blk_0]
  rfl

theorem algebraic : algebraic_SumDownIdeal_SumDownRefIdeal (hSumDownIdeal := Gen.facts) (hSumDownRefIdeal := SumDownRefIdeal.Gen.facts) := by
  intro m ρ m' ρ' _ hag
  refine ⟨_, SumDownIdeal.Value.run_blocks m ρ, (θ_run _ _ _).mono (fun _ h c => ?_) (SumDownRefIdeal.Value.run (F := Ideal) m' ρ')⟩
  obtain ⟨h0, h⟩ := h c
  have g0 := hag c
  refine ⟨h0.trans (.trans ?_ (arr_1 m c).symm), h⟩
  funext j
  rw [g0]
  idx_vars j
  pointwise [val]

end Cert.SumDownIdeal.Opt

end
-- ==== Proof.Opt.SumPack.lean ====
/-
  The packed array of the devices' small gradients: which entry of which gradient stands at a position, and what is cut
  out of an array of that layout.
-/
module

public import proofs.«01_k».proof.Defs
public import proofs.«01_k».proof.Proof.Gen.SumSmallIdeal.Frame
public import Idealize.ShloMosaic.Lib.Pointwise
public import Idealize.ShloMosaic.Lib.Pipeline.ValueKit
public import Idealize.ShloMosaic.Lib.KernelVsHost
public import Idealize.ShloMosaic.Lib.StableHlo.Run

@[expose] public section

set_option maxRecDepth 16384

noncomputable section

open Idealize.ShloMosaic Idealize.ShloMosaic.TcCoe Idealize.SL.Sem

namespace Cert.SumSmallIdeal.Opt

open Cert.SumSmallIdeal Cert.SumSmallIdeal.Gen

/-- Position `i` of device `s` in the packed array. -/
abbrev pos (s : Fin 8) (i : ℕ) (h : i < 49152) : S8x48x1024.Idx := ix3 s (⟨i / 1024, by omega⟩ : Fin 48) (⟨i % 1024, by omega⟩ : Fin 1024)

/-- The same position in the sum. -/
abbrev pos2 (i : ℕ) (h : i < 49152) : S48x1024.Idx := ix2 (⟨i / 1024, by omega⟩ : Fin 48) (⟨i % 1024, by omega⟩ : Fin 1024)

/-- The eleven pieces one after another. -/
abbrev catOf (u0 u1 : S8x1024.Idx → EReal) (u2 u3 u4 : S8x512.Idx → EReal) (u5 u6 : S8x128.Idx → EReal) (u7 : S8x5632.Idx → EReal) (u8 : S8x15872.Idx → EReal) (u9 : S8x16896.Idx → EReal) (u10 : S8x1.Idx → EReal) : S8x42241.Idx → EReal :=
  concatenate S8x42241 1 [⟨S8x1024, u0⟩, ⟨S8x1024, u1⟩, ⟨S8x512, u2⟩, ⟨S8x512, u3⟩, ⟨S8x512, u4⟩, ⟨S8x128, u5⟩, ⟨S8x128, u6⟩, ⟨S8x5632, u7⟩, ⟨S8x15872, u8⟩, ⟨S8x16896, u9⟩, ⟨S8x1, u10⟩]
    concatenates_S8x1024_S8x1024_S8x512_S8x512_S8x512_S8x128_S8x128_S8x5632_S8x15872_S8x16896_S8x1_S8x42241_d1

/-- The packed array: the pieces, then padding, in rows of 1024. -/
def packOf (u0 u1 : S8x1024.Idx → EReal) (u2 u3 u4 : S8x512.Idx → EReal) (u5 u6 : S8x128.Idx → EReal) (u7 : S8x5632.Idx → EReal) (u8 : S8x31x512.Idx → EReal) (u9 : S8x3x5632.Idx → EReal) (u10 : S8x1.Idx → EReal) : S8x48x1024.Idx → EReal :=
  shapeCast S8x48x1024 (pad S8x49152 ![0, 0] ![0, 6911] ![0, 0]
    (catOf u0 u1 u2 u3 u4 u5 u6 u7 (shapeCast S8x15872 u8 shapeCasts_S8x31x512_S8x15872) (shapeCast S8x16896 u9 shapeCasts_S8x3x5632_S8x16896) u10)
    (sitofp (F := Ideal) .f32 (constantI S_ 32 0#32)) pads_S8x42241_S8x49152_000_069110 h_S_) shapeCasts_S8x49152_S8x48x1024

section
variable (u0 u1 : S8x1024.Idx → EReal) (u2 u3 u4 : S8x512.Idx → EReal) (u5 u6 : S8x128.Idx → EReal) (u7 : S8x5632.Idx → EReal) (u8 : S8x31x512.Idx → EReal) (u9 : S8x3x5632.Idx → EReal) (u10 : S8x1.Idx → EReal)

theorem packOf_pos (s : Fin 8) (i : ℕ) (h : i < 42241) : packOf u0 u1 u2 u3 u4 u5 u6 u7 u8 u9 u10 (pos s i (by omega))
    = catOf u0 u1 u2 u3 u4 u5 u6 u7 (shapeCast S8x15872 u8 shapeCasts_S8x31x512_S8x15872) (shapeCast S8x16896 u9 shapeCasts_S8x3x5632_S8x16896) u10
      (ix2 s (⟨i, h⟩ : Fin 42241)) := by
  unfold packOf
  rw [shapeCast_apply _ _ _ (ix2 s (⟨i, by omega⟩ : Fin 49152)) (by
    rw [Shape.rowMajor_val_two, Shape.rowMajor_val_three]; show s.val * 49152 + i = (s.val * 48 + i / 1024) * 1024 + i % 1024; omega)]
  exact pad_apply_of_inside _ _ _ _ _ _ _ _ _ fun a => by fin_cases a <;> simp

/-- A piece that starts at `pre` in the concatenation. -/
theorem cat_piece {n : ℕ} (xs : List ((s : Shape) × (s.Idx → EReal))) (h : Shape.Concatenates (xs.map (·.1)) S8x42241 1)
    (k : ℕ) (hk : k < xs.length) (x : (⟨2, ![8, n]⟩ : Shape).Idx → EReal) (hx : xs[k] = ⟨⟨2, ![8, n]⟩, x⟩) (pre : ℕ)
    (hpre : (((xs.take k).map (·.1)).map fun s => if h : s.rank = S8x42241.rank then s.size ((1 : Fin S8x42241.rank).cast h.symm) else 0).sum = pre)
    (s : Fin 8) (j : Fin n) (hj : pre + j.val < 42241) :
    concatenate S8x42241 1 xs h (ix2 s (⟨pre + j.val, hj⟩ : Fin 42241)) = x (ix2 s j) := by
  refine concatenate_apply_piece 1 xs h _ k hk _ x hx rfl pre hpre (ix2 s j) ?_ rfl
  intro b hb
  match b with
  | ⟨0, _⟩ => rfl
  | ⟨1, _⟩ => exact absurd rfl hb

theorem pack_0 (s : Fin 8) (j : Fin 1024) : packOf u0 u1 u2 u3 u4 u5 u6 u7 u8 u9 u10 (pos s (0 + j.val) (by omega)) = u0 (ix2 s j) := by
  rw [packOf_pos _ _ _ _ _ _ _ _ _ _ _ _ _ (by omega)]
  exact cat_piece _ _ 0 (by show 0 < 11; decide) _ rfl 0 rfl s j _
theorem pack_1 (s : Fin 8) (j : Fin 1024) : packOf u0 u1 u2 u3 u4 u5 u6 u7 u8 u9 u10 (pos s (1024 + j.val) (by omega)) = u1 (ix2 s j) := by
  rw [packOf_pos _ _ _ _ _ _ _ _ _ _ _ _ _ (by omega)]
  exact cat_piece _ _ 1 (by show 1 < 11; decide) _ rfl 1024 rfl s j _
theorem pack_2 (s : Fin 8) (j : Fin 512) : packOf u0 u1 u2 u3 u4 u5 u6 u7 u8 u9 u10 (pos s (2048 + j.val) (by omega)) = u2 (ix2 s j) := by
  rw [packOf_pos _ _ _ _ _ _ _ _ _ _ _ _ _ (by omega)]
  exact cat_piece _ _ 2 (by show 2 < 11; decide) _ rfl 2048 rfl s j _
theorem pack_3 (s : Fin 8) (j : Fin 512) : packOf u0 u1 u2 u3 u4 u5 u6 u7 u8 u9 u10 (pos s (2560 + j.val) (by omega)) = u3 (ix2 s j) := by
  rw [packOf_pos _ _ _ _ _ _ _ _ _ _ _ _ _ (by omega)]
  exact cat_piece _ _ 3 (by show 3 < 11; decide) _ rfl 2560 rfl s j _
theorem pack_4 (s : Fin 8) (j : Fin 512) : packOf u0 u1 u2 u3 u4 u5 u6 u7 u8 u9 u10 (pos s (3072 + j.val) (by omega)) = u4 (ix2 s j) := by
  rw [packOf_pos _ _ _ _ _ _ _ _ _ _ _ _ _ (by omega)]
  exact cat_piece _ _ 4 (by show 4 < 11; decide) _ rfl 3072 rfl s j _
theorem pack_5 (s : Fin 8) (j : Fin 128) : packOf u0 u1 u2 u3 u4 u5 u6 u7 u8 u9 u10 (pos s (3584 + j.val) (by omega)) = u5 (ix2 s j) := by
  rw [packOf_pos _ _ _ _ _ _ _ _ _ _ _ _ _ (by omega)]
  exact cat_piece _ _ 5 (by show 5 < 11; decide) _ rfl 3584 rfl s j _
theorem pack_6 (s : Fin 8) (j : Fin 128) : packOf u0 u1 u2 u3 u4 u5 u6 u7 u8 u9 u10 (pos s (3712 + j.val) (by omega)) = u6 (ix2 s j) := by
  rw [packOf_pos _ _ _ _ _ _ _ _ _ _ _ _ _ (by omega)]
  exact cat_piece _ _ 6 (by show 6 < 11; decide) _ rfl 3712 rfl s j _
theorem pack_7 (s : Fin 8) (j : Fin 5632) : packOf u0 u1 u2 u3 u4 u5 u6 u7 u8 u9 u10 (pos s (3840 + j.val) (by omega)) = u7 (ix2 s j) := by
  rw [packOf_pos _ _ _ _ _ _ _ _ _ _ _ _ _ (by omega)]
  exact cat_piece _ _ 7 (by show 7 < 11; decide) _ rfl 3840 rfl s j _
theorem pack_8 (s : Fin 8) (a : Fin 31) (b : Fin 512) : packOf u0 u1 u2 u3 u4 u5 u6 u7 u8 u9 u10 (pos s (9472 + (a.val * 512 + b.val)) (by omega)) = u8 (ix3 s a b) := by
  rw [packOf_pos _ _ _ _ _ _ _ _ _ _ _ _ _ (by omega)]
  refine (cat_piece _ _ 8 (by show 8 < 11; decide) _ rfl 9472 (by show 1024 + (1024 + (512 + (512 + (512 + (128 + (128 + (5632 + 0))))))) = 9472; norm_num) s (⟨a.val * 512 + b.val, by omega⟩ : Fin 15872) _).trans ?_
  exact shapeCast_apply _ _ _ _ (by rw [Shape.rowMajor_val_two, Shape.rowMajor_val_three]; show (s.val * 31 + a.val) * 512 + b.val = s.val * 15872 + (a.val * 512 + b.val); omega)
theorem pack_9 (s : Fin 8) (a : Fin 3) (b : Fin 5632) : packOf u0 u1 u2 u3 u4 u5 u6 u7 u8 u9 u10 (pos s (25344 + (a.val * 5632 + b.val)) (by omega)) = u9 (ix3 s a b) := by
  rw [packOf_pos _ _ _ _ _ _ _ _ _ _ _ _ _ (by omega)]
  refine (cat_piece _ _ 9 (by show 9 < 11; decide) _ rfl 25344 (by show 1024 + (1024 + (512 + (512 + (512 + (128 + (128 + (5632 + (15872 + 0)))))))) = 25344; norm_num) s (⟨a.val * 5632 + b.val, by omega⟩ : Fin 16896) _).trans ?_
  exact shapeCast_apply _ _ _ _ (by rw [Shape.rowMajor_val_two, Shape.rowMajor_val_three]; show (s.val * 3 + a.val) * 5632 + b.val = s.val * 16896 + (a.val * 5632 + b.val); omega)
theorem pack_10 (s : Fin 8) (j : Fin 1) : packOf u0 u1 u2 u3 u4 u5 u6 u7 u8 u9 u10 (pos s (42240 + j.val) (by omega)) = u10 (ix2 s j) := by
  rw [packOf_pos _ _ _ _ _ _ _ _ _ _ _ _ _ (by omega)]
  exact cat_piece _ _ 10 (by show 10 < 11; decide) _ rfl 42240 (by show 1024 + (1024 + (512 + (512 + (512 + (128 + (128 + (5632 + (15872 + (16896 + 0))))))))) = 42240; norm_num) s j _
end

/-- A piece of one axis taken out of the sum. -/
theorem cut_1 {n : ℕ} (A : S48x1024.Idx → EReal) (off : ℕ) (h : S49152.Slices ![off] (⟨1, ![n]⟩ : Shape)) (j : Fin n) (hj : off + j.val < 49152) :
    extractStridedSlice (⟨1, ![n]⟩ : Shape) ![off] (shapeCast S49152 A shapeCasts_S48x1024_S49152) h (ix1 j) = A (pos2 (off + j.val) hj) := by
  refine (?_ : _ = shapeCast S49152 A shapeCasts_S48x1024_S49152 (ix1 (⟨off + j.val, hj⟩ : Fin 49152))).trans ?_
  · exact congrArg (shapeCast S49152 A shapeCasts_S48x1024_S49152) (funext fun a => by fin_cases a; rfl)
  · exact shapeCast_apply _ _ _ _ (by
      rw [Shape.rowMajor_val_one, Shape.rowMajor_val_two]; show (off + j.val) / 1024 * 1024 + (off + j.val) % 1024 = off + j.val; omega)

/-- A piece of two axes taken out of the sum. -/
theorem cut_2 {n a b : ℕ} (A : S48x1024.Idx → EReal) (off : ℕ) (h : S49152.Slices ![off] (⟨1, ![n]⟩ : Shape)) (hc : (⟨1, ![n]⟩ : Shape).ShapeCasts (⟨2, ![a, b]⟩ : Shape))
    (p : Fin a) (q : Fin b) (hn : p.val * b + q.val < n) (hj : off + (p.val * b + q.val) < 49152) :
    shapeCast (⟨2, ![a, b]⟩ : Shape) (extractStridedSlice (⟨1, ![n]⟩ : Shape) ![off] (shapeCast S49152 A shapeCasts_S48x1024_S49152) h) hc (ix2 p q)
      = A (pos2 (off + (p.val * b + q.val)) hj) :=
  (shapeCast_apply _ _ _ (ix1 (⟨p.val * b + q.val, hn⟩ : Fin n)) (by rw [Shape.rowMajor_val_one, Shape.rowMajor_val_two]; rfl)).trans
    (cut_1 A off h ⟨p.val * b + q.val, hn⟩ hj)

end Cert.SumSmallIdeal.Opt

end
-- ==== Proof.Opt.SumSmall.lean ====
/-
  The sum of the eight devices' small gradients and losses: the packed arrays are summed and the sum is taken apart, and
  each piece is the sum of that gradient's eight arrays.
-/
module

public import proofs.«01_k».proof.Proof.Opt.SumPack
public import proofs.«01_k».proof.Proof.Gen.SumSmallRefIdeal.Run

@[expose] public section

set_option maxRecDepth 16384

noncomputable section

open Idealize.ShloMosaic Idealize.ShloMosaic.TcCoe Idealize.SL.Sem

namespace Cert.SumSmallIdeal.Opt

open Cert.SumSmallIdeal Cert.SumSmallIdeal.Gen

/-! ## The region -/

theorem hz : (![0, 0] : Fin 2 → Nat) = fun _ => 0 := funext fun a => by fin_cases a <;> rfl

theorem out_1 (a : Vec Ideal S8x48x1024 .f32) (p : Fin 48) (q : Fin 1024) : out0_1 a (ix2 p q) = ∑ s : Fin 8, a (ix3 s p q) := by
  unfold out0_1
  rw [View.canon_unit_zero hz, Fin.sum_univ_eight]
  pointwise [k0_pay1]

variable (m : (ℓ : Loc nD τ sig) → Buf (Elt Ideal) ℓ)

/-- The packed array. -/
abbrev P (c : Dev nD) : S8x48x1024.Idx → EReal :=
  packOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

set_option maxHeartbeats 1000000 in
theorem V_v4 (c : Dev nD) : V m c main_v4 = P m c := by
  unfold V V0
  simp only [hostOps0, hostOps0_1, hostOps0_2, List.flatten_cons, List.flatten_nil, List.cons_append, List.nil_append, List.append_nil]
  after_results_simp
  rfl

theorem ix_0 : ∀ t : Fin cfg0.N, win0_0.index t = ![0, 0, 0] := (by decide +kernel : ∀ t : Fin grid0.N, win0_0.index t = ![0, 0, 0])
theorem ix_1 : ∀ t : Fin cfg0.N, win0_1.index t = ![0, 0] := (by decide +kernel : ∀ t : Fin grid0.N, win0_1.index t = ![0, 0])

theorem blk_0 (c : Dev nD) (t : Fin cfg0.N) (s : Fin 8) (p : Fin 48) (q : Fin 1024) :
    (iblk m c 0 t : Vec Ideal S8x48x1024 .f32) (ix3 s p q) = P m c (ix3 s p q) := by
  blk_simp [iblk]
  rw [V_v4]
  exact congrArg _ (by blk_ext [ix_0])

/-- The sum over the devices, position by position. -/
abbrev sumA (c : Dev nD) : S48x1024.Idx → EReal := fun j => ∑ s : Fin 8, P m c (ix3 s (j 0 : Fin 48) (j 1 : Fin 1024))

theorem arr_1 (c : Dev nD) : (dats m 0 c).arrAt 1 cfg0.N = sumA m c := by
  refine (dats m 0 c).arrAt_eq_of_covers 1 _ (by decide +kernel) fun t hf y => ?_
  blk_simp
  rw [after0_1]
  idx_vars y
  rw [show (win0_1.blk t).view.emb (ix2 y0 y1) = ix2 y0 y1 by blk_ext [ix_1], out_1]
  simp only [blk_0]
  rfl

/-! ## The pieces of the sum -/

theorem piece_0 (c : Dev nD) : extractStridedSlice S1024 ![0] (shapeCast S49152 (sumA m c) shapeCasts_S48x1024_S49152) slices_S49152_S1024_0
    = Host.reduceAdd (F := Ideal) (m ((c : Thread nD τ).loc main_arg1)) (constant SumSmallRefIdeal.S_ .f32 0x00000000#32) SumSmallRefIdeal.Gen.reducesTo_S8x1024_S1024_d0 SumSmallRefIdeal.Gen.h_S_ := by
  funext j
  idx_vars j
  rw [cut_1 _ 0 _ _ (by omega)]
  refine (Finset.sum_congr rfl fun s _ => pack_0 _ _ _ _ _ _ _ _ _ _ _ s j0).trans ?_
  pointwise []
theorem piece_1 (c : Dev nD) : extractStridedSlice S1024 ![1024] (shapeCast S49152 (sumA m c) shapeCasts_S48x1024_S49152) slices_S49152_S1024_1024
    = Host.reduceAdd (F := Ideal) (m ((c : Thread nD τ).loc main_arg2)) (constant SumSmallRefIdeal.S_ .f32 0x00000000#32) SumSmallRefIdeal.Gen.reducesTo_S8x1024_S1024_d0 SumSmallRefIdeal.Gen.h_S_ := by
  funext j
  idx_vars j
  rw [cut_1 _ 1024 _ _ (by omega)]
  refine (Finset.sum_congr rfl fun s _ => pack_1 _ _ _ _ _ _ _ _ _ _ _ s j0).trans ?_
  pointwise []
theorem piece_2 (c : Dev nD) : extractStridedSlice S512 ![2048] (shapeCast S49152 (sumA m c) shapeCasts_S48x1024_S49152) slices_S49152_S512_2048
    = Host.reduceAdd (F := Ideal) (m ((c : Thread nD τ).loc main_arg3)) (constant SumSmallRefIdeal.S_ .f32 0x00000000#32) SumSmallRefIdeal.Gen.reducesTo_S8x512_S512_d0 SumSmallRefIdeal.Gen.h_S_ := by
  funext j
  idx_vars j
  rw [cut_1 _ 2048 _ _ (by omega)]
  refine (Finset.sum_congr rfl fun s _ => pack_2 _ _ _ _ _ _ _ _ _ _ _ s j0).trans ?_
  pointwise []
theorem piece_3 (c : Dev nD) : extractStridedSlice S512 ![2560] (shapeCast S49152 (sumA m c) shapeCasts_S48x1024_S49152) slices_S49152_S512_2560
    = Host.reduceAdd (F := Ideal) (m ((c : Thread nD τ).loc main_arg4)) (constant SumSmallRefIdeal.S_ .f32 0x00000000#32) SumSmallRefIdeal.Gen.reducesTo_S8x512_S512_d0 SumSmallRefIdeal.Gen.h_S_ := by
  funext j
  idx_vars j
  rw [cut_1 _ 2560 _ _ (by omega)]
  refine (Finset.sum_congr rfl fun s _ => pack_3 _ _ _ _ _ _ _ _ _ _ _ s j0).trans ?_
  pointwise []
theorem piece_4 (c : Dev nD) : extractStridedSlice S512 ![3072] (shapeCast S49152 (sumA m c) shapeCasts_S48x1024_S49152) slices_S49152_S512_3072
    = Host.reduceAdd (F := Ideal) (m ((c : Thread nD τ).loc main_arg5)) (constant SumSmallRefIdeal.S_ .f32 0x00000000#32) SumSmallRefIdeal.Gen.reducesTo_S8x512_S512_d0 SumSmallRefIdeal.Gen.h_S_ := by
  funext j
  idx_vars j
  rw [cut_1 _ 3072 _ _ (by omega)]
  refine (Finset.sum_congr rfl fun s _ => pack_4 _ _ _ _ _ _ _ _ _ _ _ s j0).trans ?_
  pointwise []
theorem piece_5 (c : Dev nD) : extractStridedSlice S128 ![3584] (shapeCast S49152 (sumA m c) shapeCasts_S48x1024_S49152) slices_S49152_S128_3584
    = Host.reduceAdd (F := Ideal) (m ((c : Thread nD τ).loc main_arg6)) (constant SumSmallRefIdeal.S_ .f32 0x00000000#32) SumSmallRefIdeal.Gen.reducesTo_S8x128_S128_d0 SumSmallRefIdeal.Gen.h_S_ := by
  funext j
  idx_vars j
  rw [cut_1 _ 3584 _ _ (by omega)]
  refine (Finset.sum_congr rfl fun s _ => pack_5 _ _ _ _ _ _ _ _ _ _ _ s j0).trans ?_
  pointwise []
theorem piece_6 (c : Dev nD) : extractStridedSlice S128 ![3712] (shapeCast S49152 (sumA m c) shapeCasts_S48x1024_S49152) slices_S49152_S128_3712
    = Host.reduceAdd (F := Ideal) (m ((c : Thread nD τ).loc main_arg7)) (constant SumSmallRefIdeal.S_ .f32 0x00000000#32) SumSmallRefIdeal.Gen.reducesTo_S8x128_S128_d0 SumSmallRefIdeal.Gen.h_S_ := by
  funext j
  idx_vars j
  rw [cut_1 _ 3712 _ _ (by omega)]
  refine (Finset.sum_congr rfl fun s _ => pack_6 _ _ _ _ _ _ _ _ _ _ _ s j0).trans ?_
  pointwise []
theorem piece_7 (c : Dev nD) : extractStridedSlice S5632 ![3840] (shapeCast S49152 (sumA m c) shapeCasts_S48x1024_S49152) slices_S49152_S5632_3840
    = Host.reduceAdd (F := Ideal) (m ((c : Thread nD τ).loc main_arg8)) (constant SumSmallRefIdeal.S_ .f32 0x00000000#32) SumSmallRefIdeal.Gen.reducesTo_S8x5632_S5632_d0 SumSmallRefIdeal.Gen.h_S_ := by
  funext j
  idx_vars j
  rw [cut_1 _ 3840 _ _ (by omega)]
  refine (Finset.sum_congr rfl fun s _ => pack_7 _ _ _ _ _ _ _ _ _ _ _ s j0).trans ?_
  pointwise []
theorem piece_8 (c : Dev nD) : shapeCast S31x512 (extractStridedSlice S15872 ![9472] (shapeCast S49152 (sumA m c) shapeCasts_S48x1024_S49152) slices_S49152_S15872_9472) shapeCasts_S15872_S31x512
    = Host.reduceAdd (F := Ideal) (m ((c : Thread nD τ).loc main_arg9)) (constant SumSmallRefIdeal.S_ .f32 0x00000000#32) SumSmallRefIdeal.Gen.reducesTo_S8x31x512_S31x512_d0 SumSmallRefIdeal.Gen.h_S_ := by
  funext j
  idx_vars j
  rw [cut_2 _ 9472 _ _ _ _ (by omega) (by omega)]
  refine (Finset.sum_congr rfl fun s _ => pack_8 _ _ _ _ _ _ _ _ _ _ _ s j0 j1).trans ?_
  pointwise []
theorem piece_9 (c : Dev nD) : shapeCast S3x5632 (extractStridedSlice S16896 ![25344] (shapeCast S49152 (sumA m c) shapeCasts_S48x1024_S49152) slices_S49152_S16896_25344) shapeCasts_S16896_S3x5632
    = Host.reduceAdd (F := Ideal) (m ((c : Thread nD τ).loc main_arg10)) (constant SumSmallRefIdeal.S_ .f32 0x00000000#32) SumSmallRefIdeal.Gen.reducesTo_S8x3x5632_S3x5632_d0 SumSmallRefIdeal.Gen.h_S_ := by
  funext j
  idx_vars j
  rw [cut_2 _ 25344 _ _ _ _ (by omega) (by omega)]
  refine (Finset.sum_congr rfl fun s _ => pack_9 _ _ _ _ _ _ _ _ _ _ _ s j0 j1).trans ?_
  pointwise []
theorem piece_10 (c : Dev nD) : extractStridedSlice S1 ![42240] (shapeCast S49152 (sumA m c) shapeCasts_S48x1024_S49152) slices_S49152_S1_42240
    = Host.reduceAdd (F := Ideal) (m ((c : Thread nD τ).loc main_arg11)) (constant SumSmallRefIdeal.S_ .f32 0x00000000#32) SumSmallRefIdeal.Gen.reducesTo_S8x1_S1_d0 SumSmallRefIdeal.Gen.h_S_ := by
  funext j
  idx_vars j
  rw [cut_1 _ 42240 _ _ (by omega)]
  refine (Finset.sum_congr rfl fun s _ => pack_10 _ _ _ _ _ _ _ _ _ _ _ s j0).trans ?_
  pointwise []
  rw [Subsingleton.elim j0 0]

/-! ## The lines after the region -/

/-- Where device `me`'s columns begin. -/
abbrev st1 (me : (⟨S_, .i32⟩ : BufTy).Contents (Elt Ideal)) : Fin 2 → ℤ := (fun k => ((![constantI S_ 32 0#32, select (cmpi .slt (muli me (constantI S_ 32 64#32)) (constantI S_ 32 0#32)) (addi (muli me (constantI S_ 32 64#32)) (constantI S_ 32 512#32)) (muli me (constantI S_ 32 64#32))] : Fin 2 → (⟨S_, .i32⟩ : BufTy).Contents (Elt Ideal)) k (Shape.Idx.first h_S_)).toInt)
abbrev st2 (me : (⟨S_, .i32⟩ : BufTy).Contents (Elt Ideal)) : Fin 2 → ℤ := (fun k => ((![constantI S_ 32 0#32, select (cmpi .slt (muli me (constantI S_ 32 704#32)) (constantI S_ 32 0#32)) (addi (muli me (constantI S_ 32 704#32)) (constantI S_ 32 5632#32)) (muli me (constantI S_ 32 704#32))] : Fin 2 → (⟨S_, .i32⟩ : BufTy).Contents (Elt Ideal)) k (Shape.Idx.first h_S_)).toInt)

theorem tail_0 (W : Valuation τ sig (Elt Ideal)) :
    StableHlo.after hostOps1 W (main_v20 : DevRef τ sig) = shapeCast S_ (extractStridedSlice S1 ![42240] (shapeCast S49152 (W (main_v5 : DevRef τ sig)) shapeCasts_S48x1024_S49152) slices_S49152_S1_42240) shapeCasts_S1_S_
    ∧ StableHlo.after hostOps1 W (main_v7 : DevRef τ sig) = extractStridedSlice S1024 ![0] (shapeCast S49152 (W (main_v5 : DevRef τ sig)) shapeCasts_S48x1024_S49152) slices_S49152_S1024_0
    ∧ StableHlo.after hostOps1 W (main_v9 : DevRef τ sig) = extractStridedSlice S512 ![2048] (shapeCast S49152 (W (main_v5 : DevRef τ sig)) shapeCasts_S48x1024_S49152) slices_S49152_S512_2048
    ∧ StableHlo.after hostOps1 W (main_v10 : DevRef τ sig) = extractStridedSlice S512 ![2560] (shapeCast S49152 (W (main_v5 : DevRef τ sig)) shapeCasts_S48x1024_S49152) slices_S49152_S512_2560
    ∧ StableHlo.after hostOps1 W (main_v11 : DevRef τ sig) = extractStridedSlice S512 ![3072] (shapeCast S49152 (W (main_v5 : DevRef τ sig)) shapeCasts_S48x1024_S49152) slices_S49152_S512_3072
    ∧ StableHlo.after hostOps1 W (main_v26 : DevRef τ sig) = extractStridedSlice S64 ![0] (extractStridedSlice S128 ![3584] (shapeCast S49152 (W (main_v5 : DevRef τ sig)) shapeCasts_S48x1024_S49152) slices_S49152_S128_3584) slices_S128_S64_0
    ∧ StableHlo.after hostOps1 W (main_v27 : DevRef τ sig) = extractStridedSlice S64 ![0] (extractStridedSlice S128 ![3712] (shapeCast S49152 (W (main_v5 : DevRef τ sig)) shapeCasts_S48x1024_S49152) slices_S49152_S128_3712) slices_S128_S64_0
    ∧ StableHlo.after hostOps1 W (main_v8 : DevRef τ sig) = extractStridedSlice S1024 ![1024] (shapeCast S49152 (W (main_v5 : DevRef τ sig)) shapeCasts_S48x1024_S49152) slices_S49152_S1024_1024
    ∧ StableHlo.after hostOps1 W (main_v14 : DevRef τ sig) = extractStridedSlice S5632 ![3840] (shapeCast S49152 (W (main_v5 : DevRef τ sig)) shapeCasts_S48x1024_S49152) slices_S49152_S5632_3840 := by
  refine ⟨?_, ?_, ?_, ?_, ?_, ?_, ?_, ?_, ?_⟩ <;> after_results_simp <;> rfl

theorem tail_1 (W : Valuation τ sig (Elt Ideal)) : StableHlo.after hostOps1 W (main_v25 : DevRef τ sig) = Host.dynamicSlice S31x64 (shapeCast S31x512 (extractStridedSlice S15872 ![9472] (shapeCast S49152 (W (main_v5 : DevRef τ sig)) shapeCasts_S48x1024_S49152) slices_S49152_S15872_9472) shapeCasts_S15872_S31x512) (st1 (W (main_arg0 : DevRef τ sig))) sliceFits_S31x512_S31x64 := by
  after_results_simp
  congr 1
  funext k
  fin_cases k <;> (try simp only [Matrix.cons_val_zero', Matrix.cons_val_succ', Fin.zero_eta, Fin.mk_one, Matrix.cons_val_zero, Matrix.cons_val_one, Matrix.head_cons]) <;>
    (try after_results_simp) <;> rfl

theorem tail_2 (W : Valuation τ sig (Elt Ideal)) : StableHlo.after hostOps1 W (main_v32 : DevRef τ sig) = Host.dynamicSlice S3x704 (shapeCast S3x5632 (extractStridedSlice S16896 ![25344] (shapeCast S49152 (W (main_v5 : DevRef τ sig)) shapeCasts_S48x1024_S49152) slices_S49152_S16896_25344) shapeCasts_S16896_S3x5632) (st2 (W (main_arg0 : DevRef τ sig))) sliceFits_S3x5632_S3x704 := by
  after_results_simp
  congr 1
  funext k
  fin_cases k <;> (try simp only [Matrix.cons_val_zero', Matrix.cons_val_succ', Fin.zero_eta, Fin.mk_one, Matrix.cons_val_zero, Matrix.cons_val_one, Matrix.head_cons]) <;>
    (try after_results_simp) <;> rfl

/-- The device's arrays when the region is left. -/
abbrev W1 (c : Dev nD) : Valuation τ sig (Elt Ideal) := Pipeline.withArrays (cfgs 0).spec c (V0 m c) fun w => (dats m 0 c).arrAt w (cfgs 0).N

theorem W1_v5 (c : Dev nD) : W1 m c (main_v5 : DevRef τ sig) = sumA m c :=
  (Pipeline.withArrays_arr (cfgs 0).spec (by decide) c _ (fun w => (dats m 0 c).arrAt w (cfgs 0).N) 1).trans (arr_1 m c)

theorem W1_arg0 (c : Dev nD) : W1 m c (main_arg0 : DevRef τ sig) = m ((c : Thread nD τ).loc main_arg0) :=
  (Pipeline.withArrays_of_ne _ c (V0 m c) _ main_arg0 (by exact (by decide : ∀ w, Pipeline.arrRef spec0 w ≠ main_arg0))).trans (V_main_arg0 m c)

theorem res (c : Dev nD) :
    Pipeline.afterTail₀ cfgs (dats m) 0 (V0 m) [hostOps1] c main_v20 = shapeCast S_ (Host.reduceAdd (F := Ideal) (m ((c : Thread nD τ).loc main_arg11)) (constant SumSmallRefIdeal.S_ .f32 0x00000000#32) SumSmallRefIdeal.Gen.reducesTo_S8x1_S1_d0 SumSmallRefIdeal.Gen.h_S_) shapeCasts_S1_S_
    ∧ Pipeline.afterTail₀ cfgs (dats m) 0 (V0 m) [hostOps1] c main_v7 = Host.reduceAdd (F := Ideal) (m ((c : Thread nD τ).loc main_arg1)) (constant SumSmallRefIdeal.S_ .f32 0x00000000#32) SumSmallRefIdeal.Gen.reducesTo_S8x1024_S1024_d0 SumSmallRefIdeal.Gen.h_S_
    ∧ Pipeline.afterTail₀ cfgs (dats m) 0 (V0 m) [hostOps1] c main_v25 = Host.dynamicSlice S31x64 (Host.reduceAdd (F := Ideal) (m ((c : Thread nD τ).loc main_arg9)) (constant SumSmallRefIdeal.S_ .f32 0x00000000#32) SumSmallRefIdeal.Gen.reducesTo_S8x31x512_S31x512_d0 SumSmallRefIdeal.Gen.h_S_) (st1 (m ((c : Thread nD τ).loc main_arg0))) sliceFits_S31x512_S31x64
    ∧ Pipeline.afterTail₀ cfgs (dats m) 0 (V0 m) [hostOps1] c main_v9 = Host.reduceAdd (F := Ideal) (m ((c : Thread nD τ).loc main_arg3)) (constant SumSmallRefIdeal.S_ .f32 0x00000000#32) SumSmallRefIdeal.Gen.reducesTo_S8x512_S512_d0 SumSmallRefIdeal.Gen.h_S_
    ∧ Pipeline.afterTail₀ cfgs (dats m) 0 (V0 m) [hostOps1] c main_v10 = Host.reduceAdd (F := Ideal) (m ((c : Thread nD τ).loc main_arg4)) (constant SumSmallRefIdeal.S_ .f32 0x00000000#32) SumSmallRefIdeal.Gen.reducesTo_S8x512_S512_d0 SumSmallRefIdeal.Gen.h_S_
    ∧ Pipeline.afterTail₀ cfgs (dats m) 0 (V0 m) [hostOps1] c main_v11 = Host.reduceAdd (F := Ideal) (m ((c : Thread nD τ).loc main_arg5)) (constant SumSmallRefIdeal.S_ .f32 0x00000000#32) SumSmallRefIdeal.Gen.reducesTo_S8x512_S512_d0 SumSmallRefIdeal.Gen.h_S_
    ∧ Pipeline.afterTail₀ cfgs (dats m) 0 (V0 m) [hostOps1] c main_v26 = extractStridedSlice S64 ![0] (Host.reduceAdd (F := Ideal) (m ((c : Thread nD τ).loc main_arg6)) (constant SumSmallRefIdeal.S_ .f32 0x00000000#32) SumSmallRefIdeal.Gen.reducesTo_S8x128_S128_d0 SumSmallRefIdeal.Gen.h_S_) slices_S128_S64_0
    ∧ Pipeline.afterTail₀ cfgs (dats m) 0 (V0 m) [hostOps1] c main_v27 = extractStridedSlice S64 ![0] (Host.reduceAdd (F := Ideal) (m ((c : Thread nD τ).loc main_arg7)) (constant SumSmallRefIdeal.S_ .f32 0x00000000#32) SumSmallRefIdeal.Gen.reducesTo_S8x128_S128_d0 SumSmallRefIdeal.Gen.h_S_) slices_S128_S64_0
    ∧ Pipeline.afterTail₀ cfgs (dats m) 0 (V0 m) [hostOps1] c main_v8 = Host.reduceAdd (F := Ideal) (m ((c : Thread nD τ).loc main_arg2)) (constant SumSmallRefIdeal.S_ .f32 0x00000000#32) SumSmallRefIdeal.Gen.reducesTo_S8x1024_S1024_d0 SumSmallRefIdeal.Gen.h_S_
    ∧ Pipeline.afterTail₀ cfgs (dats m) 0 (V0 m) [hostOps1] c main_v32 = Host.dynamicSlice S3x704 (Host.reduceAdd (F := Ideal) (m ((c : Thread nD τ).loc main_arg10)) (constant SumSmallRefIdeal.S_ .f32 0x00000000#32) SumSmallRefIdeal.Gen.reducesTo_S8x3x5632_S3x5632_d0 SumSmallRefIdeal.Gen.h_S_) (st2 (m ((c : Thread nD τ).loc main_arg0))) sliceFits_S3x5632_S3x704
    ∧ Pipeline.afterTail₀ cfgs (dats m) 0 (V0 m) [hostOps1] c main_v14 = Host.reduceAdd (F := Ideal) (m ((c : Thread nD τ).loc main_arg8)) (constant SumSmallRefIdeal.S_ .f32 0x00000000#32) SumSmallRefIdeal.Gen.reducesTo_S8x5632_S5632_d0 SumSmallRefIdeal.Gen.h_S_ := by
  have h := tail_0 (W1 m c)
  have h1 := tail_1 (W1 m c)
  have h2 := tail_2 (W1 m c)
  simp only [W1_v5 m c, W1_arg0 m c, piece_0 m c, piece_1 m c, piece_2 m c, piece_3 m c, piece_4 m c, piece_5 m c, piece_6 m c, piece_7 m c, piece_8 m c, piece_9 m c, piece_10 m c] at h h1 h2
  obtain ⟨a0, a1, a2, a3, a4, a5, a6, a7, a8⟩ := h
  exact ⟨a0, a1, h1, a2, a3, a4, a5, a6, a7, h2, a8⟩

set_option maxHeartbeats 2000000 in
theorem algebraic : algebraic_SumSmallIdeal_SumSmallRefIdeal (hSumSmallIdeal := Gen.facts) (hSumSmallRefIdeal := SumSmallRefIdeal.Gen.facts) := by
  intro m ρ m' ρ' _ hag
  refine ⟨fun c => shapeCast S_ (Host.reduceAdd (F := Ideal) (m ((c : Thread nD τ).loc main_arg11)) (constant SumSmallRefIdeal.S_ .f32 0x00000000#32) SumSmallRefIdeal.Gen.reducesTo_S8x1_S1_d0 SumSmallRefIdeal.Gen.h_S_) shapeCasts_S1_S_,
    fun c => Host.reduceAdd (F := Ideal) (m ((c : Thread nD τ).loc main_arg1)) (constant SumSmallRefIdeal.S_ .f32 0x00000000#32) SumSmallRefIdeal.Gen.reducesTo_S8x1024_S1024_d0 SumSmallRefIdeal.Gen.h_S_,
    fun c => Host.dynamicSlice S31x64 (Host.reduceAdd (F := Ideal) (m ((c : Thread nD τ).loc main_arg9)) (constant SumSmallRefIdeal.S_ .f32 0x00000000#32) SumSmallRefIdeal.Gen.reducesTo_S8x31x512_S31x512_d0 SumSmallRefIdeal.Gen.h_S_) (st1 (m ((c : Thread nD τ).loc main_arg0))) sliceFits_S31x512_S31x64,
    fun c => Host.reduceAdd (F := Ideal) (m ((c : Thread nD τ).loc main_arg3)) (constant SumSmallRefIdeal.S_ .f32 0x00000000#32) SumSmallRefIdeal.Gen.reducesTo_S8x512_S512_d0 SumSmallRefIdeal.Gen.h_S_,
    fun c => Host.reduceAdd (F := Ideal) (m ((c : Thread nD τ).loc main_arg4)) (constant SumSmallRefIdeal.S_ .f32 0x00000000#32) SumSmallRefIdeal.Gen.reducesTo_S8x512_S512_d0 SumSmallRefIdeal.Gen.h_S_,
    fun c => Host.reduceAdd (F := Ideal) (m ((c : Thread nD τ).loc main_arg5)) (constant SumSmallRefIdeal.S_ .f32 0x00000000#32) SumSmallRefIdeal.Gen.reducesTo_S8x512_S512_d0 SumSmallRefIdeal.Gen.h_S_,
    fun c => extractStridedSlice S64 ![0] (Host.reduceAdd (F := Ideal) (m ((c : Thread nD τ).loc main_arg6)) (constant SumSmallRefIdeal.S_ .f32 0x00000000#32) SumSmallRefIdeal.Gen.reducesTo_S8x128_S128_d0 SumSmallRefIdeal.Gen.h_S_) slices_S128_S64_0,
    fun c => extractStridedSlice S64 ![0] (Host.reduceAdd (F := Ideal) (m ((c : Thread nD τ).loc main_arg7)) (constant SumSmallRefIdeal.S_ .f32 0x00000000#32) SumSmallRefIdeal.Gen.reducesTo_S8x128_S128_d0 SumSmallRefIdeal.Gen.h_S_) slices_S128_S64_0,
    fun c => Host.reduceAdd (F := Ideal) (m ((c : Thread nD τ).loc main_arg2)) (constant SumSmallRefIdeal.S_ .f32 0x00000000#32) SumSmallRefIdeal.Gen.reducesTo_S8x1024_S1024_d0 SumSmallRefIdeal.Gen.h_S_,
    fun c => Host.dynamicSlice S3x704 (Host.reduceAdd (F := Ideal) (m ((c : Thread nD τ).loc main_arg10)) (constant SumSmallRefIdeal.S_ .f32 0x00000000#32) SumSmallRefIdeal.Gen.reducesTo_S8x3x5632_S3x5632_d0 SumSmallRefIdeal.Gen.h_S_) (st2 (m ((c : Thread nD τ).loc main_arg0))) sliceFits_S3x5632_S3x704,
    fun c => Host.reduceAdd (F := Ideal) (m ((c : Thread nD τ).loc main_arg8)) (constant SumSmallRefIdeal.S_ .f32 0x00000000#32) SumSmallRefIdeal.Gen.reducesTo_S8x5632_S5632_d0 SumSmallRefIdeal.Gen.h_S_,
    (θ_run _ _ _).mono (fun r h c => ?_) (θ_run_and (run_main m ρ) (Gen.unchanged m ρ)), (θ_run _ _ _).mono (fun _ h c => ?_) (SumSmallRefIdeal.Value.run (F := Ideal) m' ρ')⟩
  · obtain ⟨d0, d1, d2, d3, d4, d5, d6, d7, d8, d9, d10⟩ := res m c
    have h1 := (h.1 c).2
    exact ⟨(h1 main_v20 (Pipeline.mem_restRefs_of main_v20 (by decide) (by decide))).trans d0,
      (h1 main_v7 (Pipeline.mem_restRefs_of main_v7 (by decide) (by decide))).trans d1,
      (h1 main_v25 (Pipeline.mem_restRefs_of main_v25 (by decide) (by decide))).trans d2,
      (h1 main_v9 (Pipeline.mem_restRefs_of main_v9 (by decide) (by decide))).trans d3,
      (h1 main_v10 (Pipeline.mem_restRefs_of main_v10 (by decide) (by decide))).trans d4,
      (h1 main_v11 (Pipeline.mem_restRefs_of main_v11 (by decide) (by decide))).trans d5,
      (h1 main_v26 (Pipeline.mem_restRefs_of main_v26 (by decide) (by decide))).trans d6,
      (h1 main_v27 (Pipeline.mem_restRefs_of main_v27 (by decide) (by decide))).trans d7,
      (h1 main_v8 (Pipeline.mem_restRefs_of main_v8 (by decide) (by decide))).trans d8,
      (h1 main_v32 (Pipeline.mem_restRefs_of main_v32 (by decide) (by decide))).trans d9,
      (h1 main_v14 (Pipeline.mem_restRefs_of main_v14 (by decide) (by decide))).trans d10, h.2 c⟩
  · obtain ⟨a0, a1, a2, a3, a4, a5, a6, a7, a8, a9, a10, a11⟩ := hag c
    have h := h c
    simp only [a0, a1, a2, a3, a4, a5, a6, a7, a8, a9, a10, a11] at h
    simp only [a0, a1, a2, a3, a4, a5, a6, a7, a8, a9, a10, a11]
    exact h

end Cert.SumSmallIdeal.Opt

end
-- ==== Proof.Fwd.NormFwd.lean ====
/-
  `norm_fwd`: the first norm, 512 rows at a point, against the norm of reference.py.
-/
module

public import proofs.«01_k».proof.Defs
public import proofs.«01_k».proof.Proof.Norm
public import proofs.«01_k».proof.Proof.Gen.NormFwdIdeal.Value
public import proofs.«01_k».proof.Proof.Gen.NormFwdRefIdeal.Run
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.NormFwdIdeal.Fwd

open Cert.NormFwdIdeal Cert.NormFwdIdeal.Gen Cert.NormGrad

variable (m : (ℓ : Loc nD τ sig) → Buf (Elt Ideal) ℓ)

abbrev xA (c : Dev nD) : S8192x1024.Idx → EReal := m ((c : Thread nD τ).loc main_arg0)
abbrev gA (c : Dev nD) : S1024.Idx → EReal := m ((c : Thread nD τ).loc main_arg1)

/-- A row over its root mean square, times the weight. -/
def hA (c : Dev nD) (j : S8192x1024.Idx) : EReal :=
  xA m c j * rms (fun k => xA m c (ix2 (j 0) k)) * gA m c (ix1 (j 1))

theorem hz : (![0, 0] : Fin 2 → Nat) = fun _ => 0 := funext fun a => by fin_cases a <;> rfl

theorem out_2 (x : Vec Ideal S512x1024 .f32) (g : Vec Ideal S1x1024 .f32) (p : Fin 512) (q : Fin 1024) :
    out0_2 x g (ix2 p q) = x (ix2 p q) * rms (fun k => x (ix2 p k)) * g (ix2 0 q) := by
  unfold out0_2
  rw [View.canon_unit_zero hz, View.ld_unit_zero (S := S512x1024) hz, View.ld_unit_zero (S := S1x1024) hz]
  pointwise [k0_pay1, rms]

theorem ix_0 : ∀ t : Fin cfg0.N, win0_0.index t = ![t.val, 0] := (by decide +kernel : ∀ t : Fin grid0.N, win0_0.index t = ![t.val, 0])
theorem ix_1 : ∀ t : Fin cfg0.N, win0_1.index t = ![0, 0] := (by decide +kernel : ∀ t : Fin grid0.N, win0_1.index t = ![0, 0])
theorem ix_2 : ∀ t : Fin cfg0.N, win0_2.index t = ![t.val, 0] := (by decide +kernel : ∀ t : Fin grid0.N, win0_2.index t = ![t.val, 0])

/-- Row `p` of the block of point `t`, in the array. -/
abbrev row (t : Fin cfg0.N) (p : Fin 512) : Fin 8192 :=
  ⟨t.val * 512 + p.val, by have := t.isLt; have h : cfg0.N = 16 := N_0; omega⟩

theorem blk_0 (c : Dev nD) (t : Fin cfg0.N) (p : Fin 512) (k : Fin 1024) :
    (iblk m c 0 t : Vec Ideal S512x1024 .f32) (ix2 p k) = xA m c (ix2 (row t p) k) := by
  blk_simp [iblk]
  rw [show V m c main_arg0 = m ((c : Thread nD τ).loc main_arg0) from V_main_arg0 m c]
  exact congrArg _ (by blk_ext [ix_0])

theorem V_v0 (c : Dev nD) : V m c main_v0
    = (shapeCast S1x1024 (m ((c : Thread nD τ).loc main_arg1) : Vec Ideal S1024 .f32) shapeCasts_S1024_S1x1024 : Vec Ideal S1x1024 .f32) := by
  show StableHlo.after hostOps0 _ (main_v0 : DevRef τ sig) = _
  after_results_simp
  rfl

theorem blk_1 (c : Dev nD) (t : Fin cfg0.N) (q : Fin 1024) :
    (iblk m c 1 t : Vec Ideal S1x1024 .f32) (ix2 (0 : Fin 1) q) = gA m c (ix1 q) := by
  blk_simp [iblk]
  rw [show (win0_1.blk t).view.emb (ix2 (0 : Fin 1) q) = ix2 (0 : Fin 1) q by blk_ext [ix_1], V_v0 m c]
  pointwise []

theorem arr_2 (c : Dev nD) : (dats m 0 c).arrAt 2 cfg0.N = hA m c := by
  refine (dats m 0 c).arrAt_eq_of_covers 2 _ (by decide +kernel) fun t hf y => ?_
  blk_simp
  rw [after0_2]
  idx_vars y
  rw [show (win0_2.blk t).view.emb (ix2 y0 y1) = ix2 (row t y0) y1 by blk_ext [ix_2]]
  refine (out_2 _ _ y0 y1).trans ?_
  simp only [blk_0, blk_1]
  rfl

theorem algebraic : algebraic_NormFwdIdeal_NormFwdRefIdeal (hNormFwdIdeal := Gen.facts) (hNormFwdRefIdeal := NormFwdRefIdeal.Gen.facts) := by
  intro m ρ m' ρ' _ hag
  refine ⟨_, NormFwdIdeal.Value.run_blocks m ρ, (θ_run _ _ _).mono (fun _ h c => ?_) (NormFwdRefIdeal.Value.run (F := Ideal) m' ρ')⟩
  obtain ⟨h0, h⟩ := h c
  obtain ⟨g0, g1⟩ := hag c
  refine ⟨h0.trans (.trans ?_ (arr_2 m c).symm), h⟩
  funext j
  rw [g0, g1]
  idx_vars j
  pointwise [hA, rms]

end Cert.NormFwdIdeal.Fwd

end
-- ==== Proof.Fwd.Cols.lean ====
/-
  Arrays of two axes written by bands of whole columns: what a list of such writes leaves at an index.
-/
module

public import Idealize.ShloMosaic.Lib.Pointwise
public import Idealize.ShloMosaic.Lib.Pipeline.ValueKit

@[expose] public section

noncomputable section

open Idealize.ShloMosaic

namespace Cert.Cols

variable {Val : EltTy → Type} [∀ e, Nonempty (Val e)] {e : EltTy} {M n : ℕ}

/-- The band of `k` columns from column `o`, all `M` rows. -/
abbrev band (o k : ℕ) (inb : ∀ a, (![0, o] : Fin 2 → ℕ) a + (![M, k] : Fin 2 → ℕ) a ≤ (⟨2, ![M, n]⟩ : Shape).size a) : Rect ⟨2, ![M, n]⟩ :=
  Rect.unit ![0, o] ![M, k] inb

/-- A band's place `(p, x)` in the array. -/
theorem band_emb (o k : ℕ) (inb) (p : Fin M) (x : Fin k) (h : o + x.val < n) :
    (band (M := M) (n := n) o k inb).emb (ix2 p x) = ix2 p ⟨o + x.val, h⟩ := by
  funext a
  apply Fin.ext
  fin_cases a
  · show 0 + 1 * p.val = _; simp [ix2]
  · show o + 1 * x.val = _; simp [ix2]

theorem mem_band (o k : ℕ) (inb) (p : Fin M) (y : Fin n) :
    ix2 p y ∈ (band (M := M) (n := n) o k inb).set ↔ o ≤ y.val ∧ y.val < o + k := by
  rw [Rect.mem_set_unit]
  constructor
  · intro h; exact h 1
  · intro h a
    fin_cases a
    · exact ⟨Nat.zero_le _, by simp [ix2]⟩
    · exact h

/-- What a column reads when the last write was a band: the band's contents in it, what was written before off it. -/
theorem canon_band (o k : ℕ) (inb) (w : (⟨2, ![M, k]⟩ : Shape).Idx → Val e) (L : List (View.Piece Val ⟨2, ![M, n]⟩ e))
    (p : Fin M) (y : Fin n) :
    View.canon (⟨band o k inb, w⟩ :: L) (ix2 p y)
      = if h : o ≤ y.val ∧ y.val < o + k then w (ix2 p ⟨y.val - o, by omega⟩) else View.canon L (ix2 p y) := by
  split_ifs with h
  · have hy := band_emb (M := M) o k inb p ⟨y.val - o, by omega⟩ (by have := y.isLt; simp; omega)
    rw [show ix2 p y = (band o k inb).emb (ix2 p ⟨y.val - o, by omega⟩) from
      (congrArg (ix2 p) (Fin.ext (by simp; omega))).trans hy.symm]
    exact View.canon_cons_emb (band o k inb) w L _
  · exact View.canon_cons_of_not_mem _ L (fun hm => h ((mem_band o k inb p y).1 hm))

end Cert.Cols

end
-- ==== Proof.Fwd.ProjFwd.lean ====
/-
  `proj_fwd`: the four parts of the input projection, the queries and keys normalised head by head. The kernel sums the
  squares of a head's entries by a product with a matrix of ones and zeros, each square split in two summands; the
  reference sums the head's own sixty-four entries.
-/
module

public import proofs.«01_k».proof.Defs
public import proofs.«01_k».proof.Proof.Fwd.Cols
public import proofs.«01_k».proof.Proof.Gen.ProjFwdIdeal.Value
public import proofs.«01_k».proof.Proof.Gen.ProjFwdRefIdeal.Run
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.ProjFwdIdeal.Fwd

open Cert.ProjFwdIdeal Cert.ProjFwdIdeal.Gen

/-! ## A head's norm -/

/-- The channel `d` of the head that channel `b` belongs to. -/
abbrev head (b : Fin 512) (d : Fin 64) : Fin 512 := ⟨b.val / 64 * 64 + d.val, by omega⟩

/-- One over the root mean square of the head that channel `b` belongs to. -/
def rmsHead (q : Fin 512 → EReal) (b : Fin 512) : EReal :=
  Ideal.rsqrt (Ideal.div (∑ d : Fin 64, q (head b d) * q (head b d)) (Ideal.ofBits .f32 0x42800000#32) + Ideal.ofBits .f32 0x358637BD#32)

theorem lit_n : Ideal.ofBits .f32 0x42800000#32 = ((64 : ℝ) : EReal) := by
  simp [Ideal.ofBits, Ideal.ieee, -EReal.coe_mul]; norm_num
theorem lit_inv : Ideal.ofBits .f32 0x3C800000#32 = ((1 / 64 : ℝ) : EReal) := by
  simp [Ideal.ofBits, Ideal.ieee, -EReal.coe_mul]; norm_num

/-- A sum against the indicator of a head is the head's own sum. -/
theorem sum_head (f : Fin 512 → EReal) (b : Fin 512) :
    ∑ a : Fin 512, f a * (if a.val / 64 = b.val / 64 then 1 else 0) = ∑ d : Fin 64, f (head b d) := by
  simp only [mul_ite, mul_one, mul_zero]
  rw [← Finset.sum_filter]
  refine Finset.sum_bij' (fun a _ => (⟨a.val % 64, by omega⟩ : Fin 64)) (fun d _ => head b d) ?_ ?_ ?_ ?_ ?_
  · intro a _; exact Finset.mem_univ _
  · intro d _
    have := d.isLt
    rw [Finset.mem_filter]
    exact ⟨Finset.mem_univ _, by show (b.val / 64 * 64 + d.val) / 64 = b.val / 64; omega⟩
  · intro a ha
    have h := (Finset.mem_filter.mp ha).2
    apply Fin.ext; show b.val / 64 * 64 + a.val % 64 = a.val; omega
  · intro d _
    have := d.isLt
    apply Fin.ext; show (b.val / 64 * 64 + d.val) % 64 = d.val; omega
  · intro a ha
    have h := (Finset.mem_filter.mp ha).2
    exact congrArg f (Fin.ext (by show a.val = b.val / 64 * 64 + a.val % 64; omega))

/-- The head's norm as the kernel computes it, for real entries: what the split leaves over is zero. -/
theorem kernel_rms (q : Fin 512 → EReal) (o : Fin 512 → Fin 512 → EReal) (b : Fin 512)
    (ho : ∀ a b, o a b = if a.val / 64 = b.val / 64 then 1 else 0) (hq : ∀ a, ∃ r : ℝ, q a = (r : EReal)) :
    Ideal.rsqrt ((∑ a, q a * q a * o a b + ∑ a, (q a * q a - q a * q a) * o a b) * Ideal.ofBits .f32 0x3C800000#32 + Ideal.ofBits .f32 0x358637BD#32)
      = rmsHead q b := by
  have hz : ∀ a, q a * q a - q a * q a = 0 := fun a => by
    obtain ⟨r, hr⟩ := hq a
    rw [hr]; norm_cast; exact sub_self _
  simp only [hz, zero_mul, Finset.sum_const_zero, add_zero, ho]
  rw [sum_head (fun a => q a * q a)]
  unfold rmsHead
  rw [lit_n, lit_inv, Ideal.div_coe (by norm_num)]

variable (m : (ℓ : Loc nD τ sig) → Buf (Elt Ideal) ℓ)

abbrev hA (c : Dev nD) : S8192x1024.Idx → EReal := m ((c : Thread nD τ).loc main_arg0)
abbrev wA (c : Dev nD) : S1024x2560.Idx → EReal := m ((c : Thread nD τ).loc main_arg1)
abbrev qgA (c : Dev nD) : S64.Idx → EReal := m ((c : Thread nD τ).loc main_arg2)
abbrev kgA (c : Dev nD) : S64.Idx → EReal := m ((c : Thread nD τ).loc main_arg3)

/-- The projection. -/
def proj (c : Dev nD) (r : Fin 8192) (y : Fin 2560) : EReal := ∑ k : Fin 1024, hA m c (ix2 r k) * wA m c (ix2 k y)

/-! ## The blocks -/

theorem ix_0 : ∀ t : Fin cfg0.N, win0_0.index t = ![t.val, 0] := (by decide +kernel : ∀ t : Fin grid0.N, win0_0.index t = ![t.val, 0])
theorem ix_1 : ∀ t : Fin cfg0.N, win0_1.index t = ![0, 0] := (by decide +kernel : ∀ t : Fin grid0.N, win0_1.index t = ![0, 0])
theorem ix_2 : ∀ t : Fin cfg0.N, win0_2.index t = ![0, 0] := (by decide +kernel : ∀ t : Fin grid0.N, win0_2.index t = ![0, 0])
theorem ix_3 : ∀ t : Fin cfg0.N, win0_3.index t = ![0, 0] := (by decide +kernel : ∀ t : Fin grid0.N, win0_3.index t = ![0, 0])
theorem ix_4 : ∀ t : Fin cfg0.N, win0_4.index t = ![0, 0] := (by decide +kernel : ∀ t : Fin grid0.N, win0_4.index t = ![0, 0])
theorem ix_5 : ∀ t : Fin cfg0.N, win0_5.index t = ![t.val, 0] := (by decide +kernel : ∀ t : Fin grid0.N, win0_5.index t = ![t.val, 0])
theorem ix_6 : ∀ t : Fin cfg0.N, win0_6.index t = ![t.val, 0] := (by decide +kernel : ∀ t : Fin grid0.N, win0_6.index t = ![t.val, 0])
theorem ix_7 : ∀ t : Fin cfg0.N, win0_7.index t = ![t.val, 0] := (by decide +kernel : ∀ t : Fin grid0.N, win0_7.index t = ![t.val, 0])

/-- Row `p` of the block of point `t`, in the array. -/
abbrev row (t : Fin cfg0.N) (p : Fin 1024) : Fin 8192 :=
  ⟨t.val * 1024 + p.val, by have := t.isLt; have h : cfg0.N = 8 := N_0; omega⟩

theorem blk_0 (c : Dev nD) (t : Fin cfg0.N) (p k : Fin 1024) :
    (iblk m c 0 t : Vec Ideal S1024x1024 .bf16) (ix2 p k) = hA m c (ix2 (row t p) k) := by
  blk_simp [iblk]
  rw [show V m c main_arg0 = m ((c : Thread nD τ).loc main_arg0) from V_main_arg0 m c]
  exact congrArg _ (by blk_ext [ix_0])

set_option maxHeartbeats 1000000 in
theorem V_w (c : Dev nD) : V m c (Pipeline.arrRef spec0 1) = truncf (F := Ideal) .bf16 (transpose (α := EReal) S2560x1024 [1, 0]
    (m ((c : Thread nD τ).loc main_arg1)) transposes_S1024x2560_S2560x1024_1_0) bitsLt_bf16_f32 := by
  unfold V
  simp only [hostOps0, hostOps0_1, hostOps0_2, List.flatten_cons, List.flatten_nil, List.cons_append, List.nil_append, List.append_nil]
  after_results_simp

theorem blk_1 (c : Dev nD) (t : Fin cfg0.N) (y : Fin 2560) (k : Fin 1024) :
    (iblk m c 1 t : Vec Ideal S2560x1024 .bf16) (ix2 y k) = wA m c (ix2 k y) := by
  blk_simp [iblk]
  rw [show (win0_1.blk t).view.emb (ix2 y k) = ix2 y k by blk_ext [ix_1], V_w m c]
  pointwise []

set_option maxHeartbeats 1000000 in
theorem V_qg (c : Dev nD) : V m c (Pipeline.arrRef spec0 2) = (shapeCast S1x512 (shapeCast S512 (broadcastInDim S8x64 ![0, 1] bcast_S1x64_S8x64_0_1
    (shapeCast S1x64 (m ((c : Thread nD τ).loc main_arg2) : Vec Ideal S64 .f32) shapeCasts_S64_S1x64)) shapeCasts_S8x64_S512) shapeCasts_S512_S1x512 : Vec Ideal S1x512 .f32) := by
  unfold V
  simp only [hostOps0, hostOps0_1, hostOps0_2, List.flatten_cons, List.flatten_nil, List.cons_append, List.nil_append, List.append_nil]
  after_results_simp
  rfl

/-- A channel's head, as the host's integer operations make it: the quotient by sixty-four, one less where the signs
    differ and the division is not exact. -/
def headTerm : IVec S512 32 :=
  let lane : IVec S512 32 := iotaInDim S512 32 0
  let n : IVec S512 32 := broadcastInDim S512 ![] bcast_S_S512 (constantI S_ 32 64#32)
  select (andi (cmpi .ne (signi lane) (broadcastInDim S512 ![] bcast_S_S512 (signi (constantI S_ 32 64#32))))
      (cmpi .ne (Host.remsi lane n) (broadcastInDim S512 ![] bcast_S_S512 (constantI S_ 32 0#32))))
    (subi (Host.divsi lane n) (broadcastInDim S512 ![] bcast_S_S512 (constantI S_ 32 1#32))) (Host.divsi lane n)

theorem head_apply : ∀ j : Fin 512, headTerm (ix1 j) = BitVec.ofNat 32 (j.val / 64) := by decide +kernel

set_option maxHeartbeats 1000000 in
theorem V_ones (c : Dev nD) : V m c (Pipeline.arrRef spec0 4) = truncf (F := Ideal) .bf16 (uitofp .f32 (cmpi .eq
    (broadcastInDim S512x512 ![0, 1] bcast_S512x1_S512x512_0_1 (broadcastInDim S512x1 ![0] bcast_S512_S512x1_0 headTerm))
    (broadcastInDim S512x512 ![0, 1] bcast_S1x512_S512x512_0_1 (broadcastInDim S1x512 ![1] bcast_S512_S1x512_1 headTerm)))) bitsLt_bf16_f32 := by
  unfold V
  simp only [hostOps0, hostOps0_1, hostOps0_2, List.flatten_cons, List.flatten_nil, List.cons_append, List.nil_append, List.append_nil]
  after_results_simp
  rfl

/-- Two channels' heads compared. -/
theorem same_head (i j : ℕ) (hi : i < 8) (hj : j < 8) :
    FloatOps.uitofp (F := Ideal) FTy.f32 (IntOp.cmpi CmpIPredicate.eq (BitVec.ofNat 32 i) (BitVec.ofNat 32 j)) = (if i = j then 1 else 0 : EReal) := by
  by_cases h : i = j
  · subst h
    rw [if_pos rfl, show IntOp.cmpi CmpIPredicate.eq (BitVec.ofNat 32 i) (BitVec.ofNat 32 i) = 1#1 by simp [IntOp.cmpi]]
    show (((1#1).toNat : ℝ) : EReal) = 1
    simp
  · have hne : BitVec.ofNat 32 i ≠ BitVec.ofNat 32 j := fun he => h (by
      have := congrArg BitVec.toNat he
      simp only [BitVec.toNat_ofNat] at this
      omega)
    rw [if_neg h, show IntOp.cmpi CmpIPredicate.eq (BitVec.ofNat 32 i) (BitVec.ofNat 32 j) = 0#1 from congrArg BitVec.ofBool (beq_eq_false_iff_ne.mpr hne)]
    show (((0#1).toNat : ℝ) : EReal) = 0
    simp

theorem blk_4 (c : Dev nD) (t : Fin cfg0.N) (a b : Fin 512) :
    (iblk m c 4 t : Vec Ideal S512x512 .bf16) (ix2 a b) = (if a.val / 64 = b.val / 64 then 1 else 0 : EReal) := by
  blk_simp [iblk]
  rw [show (win0_4.blk t).view.emb (ix2 a b) = ix2 a b by blk_ext [ix_4], V_ones m c]
  pointwise [head_apply]
  exact same_head _ _ (by omega) (by omega)

theorem blk_2 (c : Dev nD) (t : Fin cfg0.N) (b : Fin 512) :
    (iblk m c 2 t : Vec Ideal S1x512 .f32) (ix2 (0 : Fin 1) b) = qgA m c (ix1 ⟨b.val % 64, by omega⟩) := by
  blk_simp [iblk]
  rw [show (win0_2.blk t).view.emb (ix2 (0 : Fin 1) b) = ix2 (0 : Fin 1) b by blk_ext [ix_2], V_qg m c]
  pointwise []

set_option maxHeartbeats 1000000 in
theorem V_kg (c : Dev nD) : V m c (Pipeline.arrRef spec0 3) = (shapeCast S1x512 (shapeCast S512 (broadcastInDim S8x64 ![0, 1] bcast_S1x64_S8x64_0_1
    (shapeCast S1x64 (m ((c : Thread nD τ).loc main_arg3) : Vec Ideal S64 .f32) shapeCasts_S64_S1x64)) shapeCasts_S8x64_S512) shapeCasts_S512_S1x512 : Vec Ideal S1x512 .f32) := by
  unfold V
  simp only [hostOps0, hostOps0_1, hostOps0_2, List.flatten_cons, List.flatten_nil, List.cons_append, List.nil_append, List.append_nil]
  after_results_simp
  rfl

theorem blk_3 (c : Dev nD) (t : Fin cfg0.N) (b : Fin 512) :
    (iblk m c 3 t : Vec Ideal S1x512 .f32) (ix2 (0 : Fin 1) b) = kgA m c (ix1 ⟨b.val % 64, by omega⟩) := by
  blk_simp [iblk]
  rw [show (win0_3.blk t).view.emb (ix2 (0 : Fin 1) b) = ix2 (0 : Fin 1) b by blk_ext [ix_3], V_kg m c]
  pointwise []

/-! ## A point's outputs -/

theorem hz : (![0, 0] : Fin 2 → Nat) = fun _ => 0 := funext fun a => by fin_cases a <;> rfl

/-- The normalised queries and keys beside the values, from the whole projection's row. -/
def qkvOf (y : Fin 2560 → EReal) (qg kg : Fin 64 → EReal) (j : Fin 1536) : EReal :=
  if h : j.val < 512 then
    y ⟨1024 + j.val, by omega⟩ * rmsHead (fun a => y ⟨1024 + a.val, by omega⟩) ⟨j.val, h⟩ * qg ⟨j.val % 64, by omega⟩ * Ideal.ofBits .f32 0x3E000000#32
  else if h' : j.val < 1024 then
    y ⟨1024 + j.val, by omega⟩ * rmsHead (fun a => y ⟨1536 + a.val, by omega⟩) ⟨j.val - 512, by omega⟩ * kg ⟨j.val % 64, by omega⟩
  else y ⟨1024 + j.val, by omega⟩

section
variable (x0 : Vec Ideal S1024x1024 .bf16) (x1 : Vec Ideal S2560x1024 .bf16) (x2 x3 : Vec Ideal S1x512 .f32) (x4 : Vec Ideal S512x512 .bf16)

/-- The block's product. -/
abbrev dotOf (p : Fin 1024) (y : Fin 2560) : EReal := ∑ k : Fin 1024, x0 (ix2 p k) * x1 (ix2 y k)

theorem pay_4 (p : Fin 1024) (y : Fin 2560) : k0_pay4 x0 x1 (ix2 p y) = dotOf x0 x1 p y := by
  pointwise [k0_pay4]

theorem pay_7 (p : Fin 1024) (a : Fin 512) : k0_pay7 x0 x1 (ix2 p a) = dotOf x0 x1 p ⟨1024 + a.val, by omega⟩ := by
  pointwise [k0_pay7, pay_4]

theorem pay_8 (p : Fin 1024) (a : Fin 512) : k0_pay8 x0 x1 (ix2 p a) = dotOf x0 x1 p ⟨1536 + a.val, by omega⟩ := by
  pointwise [k0_pay8, pay_4]

theorem out_5 (p q : Fin 1024) : out0_5 x0 x1 x2 x3 x4 (ix2 p q) = dotOf x0 x1 p ⟨q.val, by omega⟩ := by
  unfold out0_5
  rw [View.canon_unit_zero hz, View.ld_unit_zero (S := S1024x1024) hz, View.ld_unit_zero (S := S2560x1024) hz]
  pointwise [k0_pay5, pay_4]

theorem out_6 (p q : Fin 1024) : out0_6 x0 x1 x2 x3 x4 (ix2 p q) = dotOf x0 x1 p ⟨1024 + q.val, by omega⟩ := by
  unfold out0_6
  rw [View.canon_unit_zero hz, View.ld_unit_zero (S := S1024x1024) hz, View.ld_unit_zero (S := S2560x1024) hz]
  pointwise [k0_pay6, pay_4]

theorem pay_1 (q r : FVec Ideal S1024x512 .f32) (p : Fin 1024) (b : Fin 512) :
    k0_pay1 q r x2 (ix2 p b) = q (ix2 p b) * r (ix2 p b) * x2 (ix2 0 b) * Ideal.ofBits .f32 0x3E000000#32 := by
  pointwise [k0_pay1]

theorem pay_9 (p : Fin 1024) (b : Fin 512) (ho : ∀ a b, x4 (ix2 a b) = (if a.val / 64 = b.val / 64 then 1 else 0 : EReal))
    (hq : ∀ y, ∃ r : ℝ, dotOf x0 x1 p y = (r : EReal)) :
    k0_pay9 x0 x1 x4 (ix2 p b) = rmsHead (fun a => dotOf x0 x1 p ⟨1024 + a.val, by omega⟩) b := by
  refine Eq.trans ?_ (kernel_rms _ (fun a b => x4 (ix2 a b)) b ho fun a => hq _)
  pointwise [k0_pay9, pay_7]

theorem pay_2 (k : FVec Ideal S1024x512 .f32) (p : Fin 1024) (b : Fin 512) (ho : ∀ a b, x4 (ix2 a b) = (if a.val / 64 = b.val / 64 then 1 else 0 : EReal))
    (hq : ∀ y, ∃ r : ℝ, dotOf x0 x1 p y = (r : EReal)) :
    k0_pay2 k (k0_pay10 x0 x1 x4) x3 (ix2 p b) = k (ix2 p b) * rmsHead (fun a => dotOf x0 x1 p ⟨1536 + a.val, by omega⟩) b * x3 (ix2 0 b) := by
  refine Eq.trans ?_ (congrArg (fun z => k (ix2 p b) * z * x3 (ix2 0 b)) (kernel_rms _ (fun a b => x4 (ix2 a b)) b ho fun a => hq _))
  pointwise [k0_pay2, k0_pay10, pay_8]

theorem out_7 (p : Fin 1024) (j : Fin 1536) (ho : ∀ a b, x4 (ix2 a b) = (if a.val / 64 = b.val / 64 then 1 else 0 : EReal))
    (hq : ∀ y, ∃ r : ℝ, dotOf x0 x1 p y = (r : EReal)) (qg kg : Fin 64 → EReal)
    (h2 : ∀ b : Fin 512, x2 (ix2 0 b) = qg ⟨b.val % 64, by omega⟩) (h3 : ∀ b : Fin 512, x3 (ix2 0 b) = kg ⟨b.val % 64, by omega⟩) :
    out0_7 x0 x1 x2 x3 x4 (ix2 p j) = qkvOf (dotOf x0 x1 p) qg kg j := by
  unfold out0_7
  rw [View.ld_unit_zero (S := S1024x1024) hz, View.ld_unit_zero (S := S2560x1024) hz, View.ld_unit_zero (S := S512x512) hz,
    View.ld_unit_zero (S := S1x512) hz, View.ld_unit_zero (S := S1x512) hz]
  have := j.isLt
  refine (Cols.canon_band 1024 512 _ _ _ p j).trans ?_
  unfold qkvOf
  by_cases h0 : j.val < 512
  · rw [dif_neg (by omega)]
    refine (Cols.canon_band 512 512 _ _ _ p j).trans ?_
    rw [dif_neg (by omega)]
    refine (Cols.canon_band 0 512 _ _ _ p j).trans ?_
    rw [dif_pos (by omega), dif_pos h0, pay_1, pay_7, pay_9 _ _ _ _ _ ho hq, h2]
    rfl
  by_cases h1 : j.val < 1024
  · rw [dif_neg (by omega)]
    refine (Cols.canon_band 512 512 _ _ _ p j).trans ?_
    rw [dif_pos (by omega), dif_neg h0, dif_pos h1, pay_2 _ _ _ _ _ _ _ ho hq, pay_8, h3]
    have e1 : (⟨1536 + (j.val - 512), by omega⟩ : Fin 2560) = ⟨1024 + j.val, by omega⟩ := Fin.ext (by simp; omega)
    have e2 : (⟨(j.val - 512) % 64, by omega⟩ : Fin 64) = ⟨j.val % 64, by omega⟩ := Fin.ext (by simp; omega)
    simp only [e1, e2]
  · rw [dif_pos (by omega), dif_neg h0, dif_neg h1]
    refine Eq.trans ?_ (congrArg (dotOf x0 x1 p) (Fin.ext (by simp; omega) : (⟨2048 + (j.val - 1024), by omega⟩ : Fin 2560) = ⟨1024 + j.val, by omega⟩))
    pointwise [k0_pay3, pay_4]
end

/-! ## The arrays -/

theorem dot_blk (c : Dev nD) (t : Fin cfg0.N) (p : Fin 1024) (y : Fin 2560) :
    dotOf (iblk m c 0 t) (iblk m c 1 t) p y = proj m c (row t p) y := by
  unfold proj dotOf
  simp only [blk_0, blk_1]

/-- The convolution's half of the projection. -/
def resU (c : Dev nD) (j : S8192x1024.Idx) : EReal := proj m c (j 0) (Fin.castLE (by decide) (j 1 : Fin 1024))

/-- The keys and values as they are. -/
def resKV (c : Dev nD) (j : S8192x1024.Idx) : EReal := proj m c (j 0) (Fin.castLE (by decide) (Fin.natAdd 1024 (j 1 : Fin 1024)))

/-- Queries and keys normalised by head, and the values. -/
def resQKV (c : Dev nD) (j : S8192x1536.Idx) : EReal :=
  qkvOf (proj m c (j 0)) (fun d => qgA m c (ix1 d)) (fun d => kgA m c (ix1 d)) (j 1)

theorem arr_5 (c : Dev nD) : (dats m 0 c).arrAt 5 cfg0.N = resU m c := by
  refine (dats m 0 c).arrAt_eq_of_covers 5 _ (by decide +kernel) fun t hf y => ?_
  blk_simp
  rw [after0_5]
  idx_vars y
  rw [show (win0_5.blk t).view.emb (ix2 y0 y1) = ix2 (row t y0) y1 by blk_ext [ix_5]]
  exact (out_5 _ _ _ _ _ y0 y1).trans (dot_blk m c t y0 _)

theorem arr_6 (c : Dev nD) : (dats m 0 c).arrAt 6 cfg0.N = resKV m c := by
  refine (dats m 0 c).arrAt_eq_of_covers 6 _ (by decide +kernel) fun t hf y => ?_
  blk_simp
  rw [after0_6]
  idx_vars y
  rw [show (win0_6.blk t).view.emb (ix2 y0 y1) = ix2 (row t y0) y1 by blk_ext [ix_6]]
  exact (out_6 _ _ _ _ _ y0 y1).trans (dot_blk m c t y0 _)

theorem arr_7 (c : Dev nD) (hq : ∀ r y, ∃ x : ℝ, proj m c r y = (x : EReal)) : (dats m 0 c).arrAt 7 cfg0.N = resQKV m c := by
  refine (dats m 0 c).arrAt_eq_of_covers 7 _ (by decide +kernel) fun t hf y => ?_
  blk_simp
  rw [after0_7]
  idx_vars y
  rw [show (win0_7.blk t).view.emb (ix2 y0 y1) = ix2 (row t y0) y1 by blk_ext [ix_7]]
  refine (out_7 _ _ _ _ _ y0 y1 (blk_4 m c t) (fun y => by rw [dot_blk]; exact hq _ _) (fun d => qgA m c (ix1 d)) (fun d => kgA m c (ix1 d))
    (blk_2 m c t) (blk_3 m c t)).trans ?_
  rw [show dotOf (iblk m c 0 t) (iblk m c 1 t) y0 = proj m c (row t y0) from funext (dot_blk m c t y0)]
  rfl

/-! ## Finite inputs -/

/-- An extended real whose absolute value is below the top is a real. -/
theorem real_of_abs_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | coe r => exact ⟨r, rfl⟩
  | top => exact absurd h (by simp [Ideal.cmp, max_def])
  | bot => exact absurd h (by simp [Ideal.cmp, max_def])

/-- A sum of products of reals is a real. -/
theorem real_sum {n : ℕ} (f g : Fin n → EReal) (hf : ∀ k, ∃ r : ℝ, f k = (r : EReal)) (hg : ∀ k, ∃ r : ℝ, g k = (r : EReal)) :
    ∃ r : ℝ, ∑ k, f k * g k = (r : EReal) := by
  refine Finset.sum_induction _ (fun x => ∃ r : ℝ, x = (r : EReal)) ?_ ⟨0, rfl⟩ fun k _ => ?_
  · rintro _ _ ⟨a, rfl⟩ ⟨b, rfl⟩; exact ⟨a + b, (EReal.coe_add a b).symm⟩
  · obtain ⟨a, ha⟩ := hf k
    obtain ⟨b, hb⟩ := hg k
    exact ⟨a * b, by rw [ha, hb, EReal.coe_mul]⟩

theorem pre_facts : Pre_finite.Facts := ⟨by decide, by decide, by decide⟩

/-- The reference's product is the projection. -/
theorem ref_dot (c : Dev nD) (P : FVec Ideal ProjFwdRefIdeal.S8192x2560 .f32)
    (hP : Host.dotGeneral (φ₁ := .f32) (φ₂ := .f32) ProjFwdRefIdeal.dot_S8192x1024_S1024x2560_S8192x2560_1_0_0_1_n_n none
      (extf (F := Ideal) FTy.f32 (hA m c) ProjFwdRefIdeal.Gen.bitsLt_bf16_f32 : FVec Ideal _ .f32) (wA m c : FVec Ideal _ .f32) = P)
    (r : Fin 8192) (y : Fin 2560) : P (ix2 r y) = proj m c r y := by
  rw [← hP]
  pointwise [proj]

/-- The slices put side by side are the columns from 1024 on. -/
theorem ite_kv (P : Fin 2560 → EReal) (j : Fin 1024) :
    (if h : j.val < 512 then P ⟨1024 + j.val, by omega⟩ else P ⟨1536 + (j.val - 512), by omega⟩) = P (Fin.castLE (by decide) (Fin.natAdd 1024 j)) := by
  split
  · exact congrArg P (Fin.ext rfl)
  · exact congrArg P (Fin.ext (by show 1536 + (j.val - 512) = 1024 + j.val; omega))

/-- The reference's three parts, each with its own numbering of the columns. -/
theorem ref_qkv (P : Fin 2560 → EReal) (qg kg : Fin 64 → EReal) (j : Fin 1536) :
    (if h : j.val < 512 then
      P ⟨1024 + (j.val / 64 * 64 + j.val % 64), by omega⟩ *
            Ideal.rsqrt
              (Ideal.div (∑ x : Fin 64, P ⟨1024 + (j.val / 64 * 64 + x.val), by omega⟩ * P ⟨1024 + (j.val / 64 * 64 + x.val), by omega⟩)
                  (Ideal.ofBits .f32 0x42800000#32) + Ideal.ofBits .f32 0x358637BD#32) * qg ⟨j.val % 64, by omega⟩ * Ideal.ofBits .f32 0x3E000000#32
    else
      if h : j.val - 512 < 512 then
        P ⟨1536 + ((j.val - 512) / 64 * 64 + (j.val - 512) % 64), by omega⟩ *
            Ideal.rsqrt
              (Ideal.div (∑ x : Fin 64, P ⟨1536 + ((j.val - 512) / 64 * 64 + x.val), by omega⟩ * P ⟨1536 + ((j.val - 512) / 64 * 64 + x.val), by omega⟩)
                  (Ideal.ofBits .f32 0x42800000#32) + Ideal.ofBits .f32 0x358637BD#32) * kg ⟨(j.val - 512) % 64, by omega⟩
      else P ⟨2048 + (j.val - 512 - 512), by omega⟩) = qkvOf P qg kg j := by
  unfold qkvOf rmsHead head
  by_cases hj : j.val < 512
  · rw [dif_pos hj, dif_pos hj]
    simp only [show j.val / 64 * 64 + j.val % 64 = j.val by omega]
  · rw [dif_neg hj, dif_neg hj]
    by_cases hj' : j.val < 1024
    · rw [dif_pos (by omega), dif_pos hj']
      simp only [show 1536 + ((j.val - 512) / 64 * 64 + j.val % 64) = 1024 + j.val by omega, show (j.val - 512) % 64 = j.val % 64 by omega]
    · rw [dif_neg (by omega), dif_neg hj']
      simp only [show 2048 + (j.val - 512 - 512) = 1024 + j.val by omega]

theorem algebraic : algebraic_ProjFwdIdeal_ProjFwdRefIdeal_pre_finite (hProjFwdIdeal := Gen.facts) (hProjFwdRefIdeal := ProjFwdRefIdeal.Gen.facts) (hPre_finite := pre_facts) := by
  intro m ρ m' ρ' hpre hag
  refine ⟨_, _, _, ProjFwdIdeal.Value.run_blocks m ρ, (θ_run _ _ _).mono (fun _ h c => ?_) (ProjFwdRefIdeal.Value.run (F := Ideal) m' ρ')⟩
  obtain ⟨h0, h1, h2, h⟩ := h c
  obtain ⟨g0, g1, g2, g3⟩ := hag c
  have hq : ∀ r y, ∃ x : ℝ, proj m c r y = (x : EReal) := fun r y =>
    real_sum _ _ (fun k => real_of_abs_lt _ (congrFun (hpre c).1 (ix2 r k))) (fun k => real_of_abs_lt _ (congrFun (hpre c).2 (ix2 k y)))
  refine ⟨h0.trans (.trans ?_ (arr_5 m c).symm), h1.trans (.trans ?_ (arr_6 m c).symm), h2.trans (.trans ?_ (arr_7 m c hq).symm), h⟩ <;>
    clear h0 h1 h2 h
  · funext j
    rw [g0, g1]
    generalize hP : Host.dotGeneral (F := Ideal) (φ₁ := .f32) (φ₂ := .f32) ProjFwdRefIdeal.dot_S8192x1024_S1024x2560_S8192x2560_1_0_0_1_n_n _ _ _ = P
    idx_vars j
    pointwise [resU]
    exact ref_dot m c P hP _ _
  · funext j
    rw [g0, g1]
    generalize hP : Host.dotGeneral (F := Ideal) (φ₁ := .f32) (φ₂ := .f32) ProjFwdRefIdeal.dot_S8192x1024_S1024x2560_S8192x2560_1_0_0_1_n_n _ _ _ = P
    idx_vars j
    pointwise [resKV]
    exact (ite_kv (fun y => P (ix2 j0 y)) j1).trans (ref_dot m c P hP _ _)
  · funext j
    rw [g0, g1, g2, g3]
    generalize hP : Host.dotGeneral (F := Ideal) (φ₁ := .f32) (φ₂ := .f32) ProjFwdRefIdeal.dot_S8192x1024_S1024x2560_S8192x2560_1_0_0_1_n_n _ _ _ = P
    idx_vars j
    pointwise [resQKV]
    have hp := fun y => ref_dot m c P hP j0 y
    simp only [hp]
    exact ref_qkv (proj m c j0) (fun d => qgA m c (ix1 d)) (fun d => kgA m c (ix1 d)) j1

end Cert.ProjFwdIdeal.Fwd
-- ==== Proof.Fwd.UpFwdAct.lean ====
/-
  `up_fwd_act`: the product `h2 @ w_up` in two halves and the gated feed-forward convolution over it. A block's
  convolution is made one step after its product, from the scratch array that keeps the product's rows and the eight rows
  above them.
-/
module

public import proofs.«01_k».proof.Defs
public import proofs.«01_k».proof.Proof.Gen.UpFwdActIdeal.Value
public import proofs.«01_k».proof.Proof.Gen.UpFwdActRefIdeal.Run
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.UpFwdActIdeal.Fwd

open Cert.UpFwdActIdeal Cert.UpFwdActIdeal.Gen

/-! ## One block of the product -/

section
variable (x0 : Vec Ideal S512x1024 .bf16) (x1 : Vec Ideal S1408x1024 .bf16)

/-- The block's product at row `p`, column `q`. -/
def dotOf (p : Fin 512) (q : Fin 1408) : EReal := ∑ k : Fin 1024, x0 (ix2 p k) * x1 (ix2 q k)

theorem sum_eq (p p' : Fin 512) (q q' : Fin 1408) (hp : p'.val = p.val) (hq : q'.val = q.val) :
    ∑ k : Fin 1024, x0 (ix2 p k) * x1 (ix2 q k) = dotOf x0 x1 p' q' := by
  obtain rfl : p' = p := Fin.ext hp
  obtain rfl : q' = q := Fin.ext hq
  rfl

/-- The six stores that fill a block of the product. -/
abbrev tiles : List (View.Piece (Elt Ideal) S512x1408 .f32) :=
  [⟨Rect.unit ![0, 1280] ![512, 128] inb_S512x1408_S512x128_0_1280,
      k0_pay60 x0 (View.ld x1 (Rect.unit ![1280, 0] ![128, 1024] inb_S1408x1024_S128x1024_1280_0))⟩,
    ⟨Rect.unit ![0, 1024] ![512, 256] inb_S512x1408_S512x256_0_1024,
      k0_pay47 x0 (View.ld x1 (Rect.unit ![1024, 0] ![256, 1024] inb_S1408x1024_S256x1024_1024_0))⟩,
    ⟨Rect.unit ![0, 768] ![512, 256] inb_S512x1408_S512x256_0_768,
      k0_pay37 x0 (View.ld x1 (Rect.unit ![768, 0] ![256, 1024] inb_S1408x1024_S256x1024_768_0))⟩,
    ⟨Rect.unit ![0, 512] ![512, 256] inb_S512x1408_S512x256_0_512,
      k0_pay26 x0 (View.ld x1 (Rect.unit ![512, 0] ![256, 1024] inb_S1408x1024_S256x1024_512_0))⟩,
    ⟨Rect.unit ![0, 256] ![512, 256] inb_S512x1408_S512x256_0_256,
      k0_pay13 x0 (View.ld x1 (Rect.unit ![256, 0] ![256, 1024] inb_S1408x1024_S256x1024_256_0))⟩,
    ⟨Rect.unit ![0, 0] ![512, 256] inb_S512x1408_S512x256_0_0,
      k0_pay3 x0 (View.ld x1 (Rect.unit ![0, 0] ![256, 1024] inb_S1408x1024_S256x1024_0_0))⟩]

theorem tiles_cover (y : S512x1408.Idx) : ∃ pc ∈ tiles x0 x1, y ∈ pc.1.set :=
  View.cover_of_tiledBy _ ![512, 128] (by sl_kernel_rfl) y

/-- The stores together hold the block's product. -/
theorem tiles_apply (y : S512x1408.Idx) :
    View.canon (tiles x0 x1) y = dotOf x0 x1 (y 0) (y 1) := by
  unfold tiles
  canon_tiles x h using tiles_cover x0 x1 y
  all_goals
    pointwise [k0_pay60, k0_pay47, k0_pay37, k0_pay26, k0_pay13, k0_pay3]
    exact sum_eq x0 x1 _ _ _ _ h0 (by rw [h1])

theorem hz : (![0, 0] : Fin 2 → Nat) = fun _ => 0 := funext fun a => by fin_cases a <;> rfl

/-- Read back, they hold it too. -/
theorem readCov_tiles {sig : RefSig} {κ : Kind} {sp : Space} (v : View sig κ sp S512x1408 .f32) :
    (v.readCov (tiles x0 x1) (Rect.unit (s := S512x1408) ![0, 0] S512x1408.size inb_S512x1408_S512x1408_0_0).toLoadRect : Vec Ideal S512x1408 .f32)
      = fun y => dotOf x0 x1 (y 0) (y 1) := by
  rw [View.readCov_eq_canon_ld v _ _ (tiles_cover x0 x1), View.ld_unit_zero (S := S512x1408) hz]
  exact funext (tiles_apply x0 x1)

theorem hz3 : (![0, 0, 0] : Fin 3 → Nat) = fun _ => 0 := funext fun a => by fin_cases a <;> rfl

theorem pay_zero (x : S2x520x1408.Idx) : k0_pay2 (F := Ideal) x = 0 := by
  pointwise [k0_pay2]

/-- The block stored as one half of the scratch array's rows. -/
theorem pay_half (X : Vec Ideal S512x1408 .f32) (x : S1x512x1408.Idx) : k0_pay1 X x = X (ix2 (x 1) (x 2)) := by
  pointwise [k0_pay1]

/-- The eight rows handed on. -/
theorem pay_rows (X : Vec Ideal S1x8x1408 .f32) : k0_pay129 X = X := by
  funext x
  pointwise [k0_pay129]
end

/-- Eight rows of a half of the scratch array, read. -/
theorem ld_rows (X : Vec Ideal S2x520x1408 .f32) (h : Fin 2) (inb) (x : S1x8x1408.Idx) :
    View.ld X (Rect.unit (s := S2x520x1408) ![h.val, 512, 0] S1x8x1408.size inb) x
      = X (ix3 h (⟨512 + (x 1).val, by have := (x 1).isLt; simp at this; omega⟩ : Fin 520) (x 2)) := by
  refine View.ld_unit_apply_of (S := S2x520x1408) X ![h.val, 512, 0] S1x8x1408.size inb x _ fun a => ?_
  have := (x 0).isLt
  fin_cases a <;> simp at this ⊢ <;> omega

/-- Where the later stores cover an index, an earlier one leaves nothing there. -/
theorem canon_prefix {s : Shape} {e : EltTy} (L L' : List (View.Piece (Elt Ideal) s e)) (y : s.Idx) (h : ∃ pc ∈ L, y ∈ pc.1.set) :
    View.canon (L ++ L') y = View.canon L y := by
  induction L with
  | nil => obtain ⟨_, h, _⟩ := h; exact absurd h List.not_mem_nil
  | cons p L ih =>
    by_cases hp : y ∈ p.1.set
    · obtain ⟨x, rfl⟩ := p.1.exists_idx_of_mem hp
      rw [List.cons_append]
      exact (View.canon_cons_emb p.1 p.2 _ x).trans (View.canon_cons_emb p.1 p.2 _ x).symm
    · rw [List.cons_append, View.canon_cons_of_not_mem _ _ hp, View.canon_cons_of_not_mem _ _ hp]
      obtain ⟨q, hq, hy⟩ := h
      rcases List.mem_cons.mp hq with rfl | hq
      · exact absurd hy hp
      · exact ih ⟨q, hq, hy⟩

/-! ## One block of the convolution -/

/-- One half of the convolution, from the scratch array. -/
def convAt (X : Vec Ideal S2x520x1408 .f32) (w : Vec Ideal S3x2x1408 .f32) (b : Vec Ideal S2x1408 .f32) (h : Fin 2) (p : Fin 512) (q : Fin 1408) : EReal :=
  b (ix2 h q) + w (ix3 0 h q) * X (ix3 h ⟨6 + p.val, by omega⟩ q) + w (ix3 1 h q) * X (ix3 h ⟨7 + p.val, by omega⟩ q)
    + w (ix3 2 h q) * X (ix3 h ⟨8 + p.val, by omega⟩ q)

/-- The gate through its sigmoid, times the value. -/
def gated (g v : EReal) : EReal := g * Ideal.div 1 (1 + Ideal.exp (0 - g)) * v

variable (m : (ℓ : Loc nD τ sig) → Buf (Elt Ideal) ℓ)

/-- What the scratch array was given reads back. -/
theorem read_acc (x : Vec Ideal S2x520x1408 .f32) :
    View.read (Elt Ideal) (View.whole cc0_scratch0) ((Memref.isWhole_whole (sig := sig) (κ := .tc) cc0_scratch0).unread x) = x :=
  (Memref.isWhole_whole (sig := sig) (κ := .tc) cc0_scratch0).read_unread x

/-- The convolution's own terms, with their indices written out. -/
theorem conv_eq (X : Vec Ideal S2x520x1408 .f32) (w : Vec Ideal S3x2x1408 .f32) (b : Vec Ideal S2x1408 .f32) (p : Fin 512) (q q' : Fin 1408)
    (r₆ r₇ r₈ : Fin 520) (hq : q.val = q'.val) (h₆ : r₆.val = 6 + p.val) (h₇ : r₇.val = 7 + p.val) (h₈ : r₈.val = 8 + p.val) :
    (b (ix2 0 q') + w (ix3 0 0 q') * X (ix3 0 r₆ q') + w (ix3 1 0 q') * X (ix3 0 r₇ q') + w (ix3 2 0 q') * X (ix3 0 r₈ q'))
        * Ideal.div 1 (1 + Ideal.exp (0 - (b (ix2 0 q') + w (ix3 0 0 q') * X (ix3 0 r₆ q') + w (ix3 1 0 q') * X (ix3 0 r₇ q') + w (ix3 2 0 q') * X (ix3 0 r₈ q'))))
        * (b (ix2 1 q') + w (ix3 0 1 q') * X (ix3 1 r₆ q') + w (ix3 1 1 q') * X (ix3 1 r₇ q') + w (ix3 2 1 q') * X (ix3 1 r₈ q'))
      = gated (convAt X w b 0 p q) (convAt X w b 1 p q) := by
  obtain rfl : q = q' := Fin.ext hq
  have l₆ : 6 + p.val < 520 := h₆ ▸ r₆.isLt
  have l₇ : 7 + p.val < 520 := h₇ ▸ r₇.isLt
  have l₈ : 8 + p.val < 520 := h₈ ▸ r₈.isLt
  obtain rfl : r₆ = ⟨6 + p.val, l₆⟩ := Fin.ext h₆
  obtain rfl : r₇ = ⟨7 + p.val, l₇⟩ := Fin.ext h₇
  obtain rfl : r₈ = ⟨8 + p.val, l₈⟩ := Fin.ext h₈
  rfl

theorem act_B (c : Dev nD) (t : Fin cfg0.N) (h0 : ¬t.val % 17 = 0) (y : S512x1408.Idx) :
    (outsAt0 m c t.val t.isLt).2.2.1 y
      = gated (convAt (outsAt0 m c (t.val - 1) (by omega)).2.2.2 (iblk m c 3 t) (iblk m c 4 t) 0 (y 0) (y 1))
          (convAt (outsAt0 m c (t.val - 1) (by omega)).2.2.2 (iblk m c 3 t) (iblk m c 4 t) 1 (y 0) (y 1)) := by
  rw [outsAt0_B m c t h0]
  frame_out
  generalize (outsAt0 m c (t.val - 1) _).2.2.2 = X
  generalize (iblk m c 3 t : Vec Ideal S3x2x1408 .f32) = w
  generalize (iblk m c 4 t : Vec Ideal S2x1408 .f32) = b
  canon_tiles x h using View.cover_of_tiledBy _ ![256, 128] (by sl_kernel_rfl) y
  all_goals
    open_payloads
    rw [read_acc]
    pointwise []
    exact conv_eq X w b (y 0) (y 1) _ _ _ _ h1 (by simp; omega) (by simp; omega) (by simp; omega)

/-- The two halves of the block's product. -/
def halves (x0 : Vec Ideal S512x1024 .bf16) (x1 x2 : Vec Ideal S1408x1024 .bf16) (h : Fin 2) (p : Fin 512) (q : Fin 1408) : EReal :=
  if h.val = 0 then dotOf x0 x1 p q else dotOf x0 x2 p q

/-- What a point leaves in the scratch array: eight rows handed on, and the rows of its own products below them. -/
def keep (old : Fin 2 → Fin 8 → Fin 1408 → EReal) (new : Fin 2 → Fin 512 → Fin 1408 → EReal) (h : Fin 2) (p : Fin 520) (q : Fin 1408) : EReal :=
  if hp : p.val < 8 then old h ⟨p.val, hp⟩ q else new h ⟨p.val - 8, by omega⟩ q

section
variable (old : Fin 2 → Fin 8 → Fin 1408 → EReal) (x0 : Vec Ideal S512x1024 .bf16) (x1 x2 : Vec Ideal S1408x1024 .bf16) (y : S2x520x1408.Idx)

theorem keep_old (h : Fin 2) (p : Fin 8) (q : Fin 1408) (eh : (y 0).val = h.val) (hp : (y 1).val = p.val) (hq : (y 2).val = q.val) :
    old h p q = keep old (halves x0 x1 x2) (y 0) (y 1) (y 2) := by
  unfold keep
  obtain rfl : y 0 = h := Fin.ext eh
  obtain rfl : y 2 = q := Fin.ext hq
  rw [dif_pos (by omega)]
  exact congrArg (old (y 0) · (y 2)) (Fin.ext hp.symm)

theorem keep_new (w : Vec Ideal S1408x1024 .bf16) (p : Fin 512) (q : Fin 1408) (eh : w = if (y 0).val = 0 then x1 else x2) (hp : (y 1).val = 8 + p.val) (hq : (y 2).val = q.val) :
    dotOf x0 w p q = keep old (halves x0 x1 x2) (y 0) (y 1) (y 2) := by
  unfold keep halves
  obtain rfl : y 2 = q := Fin.ext hq
  rw [dif_neg (by omega)]
  have e : (⟨(y 1).val - 8, by omega⟩ : Fin 512) = p := Fin.ext (by simp; omega)
  rw [e, eh]
  split <;> rfl
end

/-- After a point: the rows of its own two products below the last eight rows of what the point before left. -/
theorem sc_B (c : Dev nD) (t : Fin cfg0.N) (h0 : ¬t.val % 17 = 0) (y : S2x520x1408.Idx) :
    (outsAt0 m c t.val t.isLt).2.2.2 y
      = keep (fun h p q => (outsAt0 m c (t.val - 1) (by omega)).2.2.2 (ix3 h ⟨512 + p.val, by omega⟩ q))
          (halves (iblk m c 0 t) (iblk m c 1 t) (iblk m c 2 t)) (y 0) (y 1) (y 2) := by
  rw [outsAt0_B m c t h0]
  frame_out
  generalize (outsAt0 m c (t.val - 1) _).2.2.2 = X
  canon_tiles x h using View.cover_of_tiledBy _ ![1, 8, 1408] (by sl_kernel_rfl) y
  case piece0 =>
    refine (pay_half _ x).trans ((congrFun (readCov_tiles (iblk m c 0 t) (iblk m c 2 t) _) _).trans (keep_new _ _ _ _ y _ _ _ ?_ h1 h2))
    rw [if_neg (by omega)]
  case piece1 =>
    rw [read_acc]
    refine (congrFun (pay_rows _) x).trans ?_
    refine (ld_rows _ 1 _ x).trans ?_
    exact keep_old (fun h p q => X (ix3 h ⟨512 + p.val, by omega⟩ q)) _ _ _ y 1 (x 1) (x 2) (by simp; omega) h1 h2
  case piece2 =>
    refine (pay_half _ x).trans ((congrFun (readCov_tiles (iblk m c 0 t) (iblk m c 1 t) _) _).trans (keep_new _ _ _ _ y _ _ _ ?_ h1 h2))
    rw [if_pos (by omega)]
  case piece3 =>
    rw [read_acc]
    refine (congrFun (pay_rows _) x).trans ?_
    refine (ld_rows _ 0 _ x).trans ?_
    exact keep_old (fun h p q => X (ix3 h ⟨512 + p.val, by omega⟩ q)) _ _ _ y 0 (x 1) (x 2) (by simp; omega) h1 h2

theorem sc_A (c : Dev nD) (t : Fin cfg0.N) (h0 : t.val % 17 = 0) (y : S2x520x1408.Idx) :
    (outsAt0 m c t.val t.isLt).2.2.2 y
      = keep (fun h p q => 0) (halves (iblk m c 0 t) (iblk m c 1 t) (iblk m c 2 t)) (y 0) (y 1) (y 2) := by
  rw [outsAt0_A m c t h0]
  frame_out
  refine (canon_prefix [_, _, _, _] [_] y (View.cover_of_tiledBy _ ![1, 8, 1408] (by sl_kernel_rfl) y)).trans ?_
  canon_tiles x h using View.cover_of_tiledBy _ ![1, 8, 1408] (by sl_kernel_rfl) y
  case piece0 =>
    refine (pay_half _ x).trans ((congrFun (readCov_tiles (iblk m c 0 t) (iblk m c 2 t) _) _).trans (keep_new _ _ _ _ y _ _ _ ?_ h1 h2))
    rw [if_neg (by omega)]
  case piece1 =>
    refine (congrFun (pay_rows _) x).trans ?_
    refine Eq.trans ?_ (keep_old _ _ _ _ y 1 (x 1) (x 2) (by simp; omega) h1 h2)
    rw [View.readCov_eq_canon_ld _ _ _ (fun y => View.cover_of_tiledBy _ ![2, 520, 1408] (by sl_kernel_rfl) y)]
    refine (ld_rows _ 1 _ x).trans ?_
    have hy : ((ix3 (1 : Fin 2) (⟨512 + (x 1).val, by omega⟩ : Fin 520) (x 2) : S2x520x1408.Idx) 0).val = 1 := rfl
    generalize (ix3 (1 : Fin 2) (⟨512 + (x 1).val, by omega⟩ : Fin 520) (x 2) : S2x520x1408.Idx) = z at hy ⊢
    canon_tiles x' h' using View.cover_of_tiledBy _ ![2, 520, 1408] (by sl_kernel_rfl) z
    case piece0 => omega
    case piece1 => omega
    case piece2 => exact pay_zero _
  case piece2 =>
    refine (pay_half _ x).trans ((congrFun (readCov_tiles (iblk m c 0 t) (iblk m c 1 t) _) _).trans (keep_new _ _ _ _ y _ _ _ ?_ h1 h2))
    rw [if_pos (by omega)]
  case piece3 =>
    refine (congrFun (pay_rows _) x).trans ?_
    refine Eq.trans ?_ (keep_old _ _ _ _ y 0 (x 1) (x 2) (by simp; omega) h1 h2)
    rw [View.readCov_eq_canon_ld _ _ _ (fun y => View.cover_of_tiledBy _ ![2, 520, 1408] (by sl_kernel_rfl) y), View.canon_unit_zero hz3]
    exact pay_zero _

theorem g_A (c : Dev nD) (t : Fin cfg0.N) (h0 : t.val % 17 = 0) (y : S512x1408.Idx) :
    (outsAt0 m c t.val t.isLt).1 y = dotOf (iblk m c 0 t) (iblk m c 1 t) (y 0) (y 1) := by
  rw [outsAt0_A m c t h0]
  frame_out
  exact tiles_apply (iblk m c 0 t) (iblk m c 1 t) y

theorem g_B (c : Dev nD) (t : Fin cfg0.N) (h0 : ¬t.val % 17 = 0) (y : S512x1408.Idx) :
    (outsAt0 m c t.val t.isLt).1 y = dotOf (iblk m c 0 t) (iblk m c 1 t) (y 0) (y 1) := by
  rw [outsAt0_B m c t h0]
  frame_out
  exact tiles_apply (iblk m c 0 t) (iblk m c 1 t) y

theorem v_A (c : Dev nD) (t : Fin cfg0.N) (h0 : t.val % 17 = 0) (y : S512x1408.Idx) :
    (outsAt0 m c t.val t.isLt).2.1 y = dotOf (iblk m c 0 t) (iblk m c 2 t) (y 0) (y 1) := by
  rw [outsAt0_A m c t h0]
  frame_out
  exact tiles_apply (iblk m c 0 t) (iblk m c 2 t) y

theorem v_B (c : Dev nD) (t : Fin cfg0.N) (h0 : ¬t.val % 17 = 0) (y : S512x1408.Idx) :
    (outsAt0 m c t.val t.isLt).2.1 y = dotOf (iblk m c 0 t) (iblk m c 2 t) (y 0) (y 1) := by
  rw [outsAt0_B m c t h0]
  frame_out
  exact tiles_apply (iblk m c 0 t) (iblk m c 2 t) y

/-! ## The blocks -/

abbrev hA (c : Dev nD) : S8192x1024.Idx → EReal := m ((c : Thread nD τ).loc main_arg0)
abbrev wA (c : Dev nD) : S1024x5632.Idx → EReal := m ((c : Thread nD τ).loc main_arg1)
abbrev fwA (c : Dev nD) : S3x5632.Idx → EReal := m ((c : Thread nD τ).loc main_arg2)
abbrev fbA (c : Dev nD) : S5632.Idx → EReal := m ((c : Thread nD τ).loc main_arg3)

theorem ix_0 : ∀ t : Fin cfg0.N, win0_0.index t = ![min (t.val % 17) 15, 0] := (by decide +kernel : ∀ t : Fin grid0.N, win0_0.index t = ![min (t.val % 17) 15, 0])
theorem ix_1 : ∀ t : Fin cfg0.N, win0_1.index t = ![t.val / 17, 0] := (by decide +kernel : ∀ t : Fin grid0.N, win0_1.index t = ![t.val / 17, 0])
theorem ix_2 : ∀ t : Fin cfg0.N, win0_2.index t = ![t.val / 17 + 2, 0] := (by decide +kernel : ∀ t : Fin grid0.N, win0_2.index t = ![t.val / 17 + 2, 0])
theorem ix_3 : ∀ t : Fin cfg0.N, win0_3.index t = ![0, 0, t.val / 17] := (by decide +kernel : ∀ t : Fin grid0.N, win0_3.index t = ![0, 0, t.val / 17])
theorem ix_4 : ∀ t : Fin cfg0.N, win0_4.index t = ![0, t.val / 17] := (by decide +kernel : ∀ t : Fin grid0.N, win0_4.index t = ![0, t.val / 17])
theorem ix_5 : ∀ t : Fin cfg0.N, win0_5.index t = ![min (t.val % 17) 15, t.val / 17] := (by decide +kernel : ∀ t : Fin grid0.N, win0_5.index t = ![min (t.val % 17) 15, t.val / 17])
theorem ix_6 : ∀ t : Fin cfg0.N, win0_6.index t = ![min (t.val % 17) 15, t.val / 17] := (by decide +kernel : ∀ t : Fin grid0.N, win0_6.index t = ![min (t.val % 17) 15, t.val / 17])
theorem ix_7 : ∀ t : Fin cfg0.N, win0_7.index t = ![t.val % 17 - 1, t.val / 17] := (by decide +kernel : ∀ t : Fin grid0.N, win0_7.index t = ![t.val % 17 - 1, t.val / 17])

/-- Row `p` of the block of the product at point `t`, in the array; a column of it; row `p` of the block convolved there. -/
abbrev row (t : Fin cfg0.N) (p : Fin 512) : Fin 8192 := ⟨min (t.val % 17) 15 * 512 + p.val, by omega⟩
abbrev col (t : Fin cfg0.N) (q : Fin 1408) : Fin 2816 := ⟨t.val / 17 * 1408 + q.val, by have := t.isLt; have h : cfg0.N = 34 := N_0; omega⟩
abbrev rowA (t : Fin cfg0.N) (p : Fin 512) : Fin 8192 := ⟨(t.val % 17 - 1) * 512 + p.val, by omega⟩

/-- A column of one of the two halves, in the whole. -/
abbrev wide (h : Fin 2) (q : Fin 2816) : Fin 5632 := ⟨h.val * 2816 + q.val, by omega⟩

theorem blk_0 (c : Dev nD) (t : Fin cfg0.N) (p : Fin 512) (k : Fin 1024) :
    (iblk m c 0 t : Vec Ideal S512x1024 .bf16) (ix2 p k) = hA m c (ix2 (row t p) k) := by
  blk_simp [iblk]
  rw [show V m c main_arg0 = m ((c : Thread nD τ).loc main_arg0) from V_main_arg0 m c]
  exact congrArg _ (by blk_ext [ix_0])

theorem V_w (c : Dev nD) : V m c main_v1 = truncf (F := Ideal) .bf16 (transpose (α := EReal) S5632x1024 [1, 0]
    (m ((c : Thread nD τ).loc main_arg1)) transposes_S1024x5632_S5632x1024_1_0) bitsLt_bf16_f32 := by
  show StableHlo.after hostOps0 _ (main_v1 : DevRef τ sig) = _
  after_results_simp

theorem V_fw (c : Dev nD) : V m c main_v2 = shapeCast S3x2x2816 (m ((c : Thread nD τ).loc main_arg2)) shapeCasts_S3x5632_S3x2x2816 := by
  show StableHlo.after hostOps0 _ (main_v2 : DevRef τ sig) = _
  after_results_simp
  rfl

theorem V_fb (c : Dev nD) : V m c main_v3 = shapeCast S2x2816 (m ((c : Thread nD τ).loc main_arg3)) shapeCasts_S5632_S2x2816 := by
  show StableHlo.after hostOps0 _ (main_v3 : DevRef τ sig) = _
  after_results_simp
  rfl

theorem blk_1 (c : Dev nD) (t : Fin cfg0.N) (q : Fin 1408) (k : Fin 1024) :
    (iblk m c 1 t : Vec Ideal S1408x1024 .bf16) (ix2 q k) = wA m c (ix2 k (wide 0 (col t q))) := by
  blk_simp [iblk]
  rw [show (win0_1.blk t).view.emb (ix2 q k) = ix2 (wide 0 (col t q)) k by blk_ext [ix_1], V_w m c]
  pointwise []
  exact congrArg (fun y => wA m c (ix2 k y)) (Fin.ext (by simp))

theorem blk_2 (c : Dev nD) (t : Fin cfg0.N) (q : Fin 1408) (k : Fin 1024) :
    (iblk m c 2 t : Vec Ideal S1408x1024 .bf16) (ix2 q k) = wA m c (ix2 k (wide 1 (col t q))) := by
  blk_simp [iblk]
  rw [show (win0_2.blk t).view.emb (ix2 q k) = ix2 (wide 1 (col t q)) k by blk_ext [ix_2], V_w m c]
  pointwise []
  exact congrArg (fun y => wA m c (ix2 k y)) (Fin.ext (by simp))

theorem blk_3 (c : Dev nD) (t : Fin cfg0.N) (k : Fin 3) (h : Fin 2) (q : Fin 1408) :
    (iblk m c 3 t : Vec Ideal S3x2x1408 .f32) (ix3 k h q) = fwA m c (ix2 k (wide h (col t q))) := by
  blk_simp [iblk]
  rw [show (win0_3.blk t).view.emb (ix3 k h q) = ix3 k h (col t q) by blk_ext [ix_3], V_fw m c]
  pointwise []

theorem blk_4 (c : Dev nD) (t : Fin cfg0.N) (h : Fin 2) (q : Fin 1408) :
    (iblk m c 4 t : Vec Ideal S2x1408 .f32) (ix2 h q) = fbA m c (ix1 (wide h (col t q))) := by
  blk_simp [iblk]
  rw [show (win0_4.blk t).view.emb (ix2 h q) = ix2 h (col t q) by blk_ext [ix_4], V_fb m c]
  pointwise []

/-! ## What the arrays hold -/

/-- The product, half `h`. -/
def prod (c : Dev nD) (h : Fin 2) (r : Fin 8192) (q : Fin 2816) : EReal := ∑ k : Fin 1024, hA m c (ix2 r k) * wA m c (ix2 k (wide h q))

/-- Two rows of zeros above it. -/
def padded (c : Dev nD) (h : Fin 2) (n : Fin 8194) (q : Fin 2816) : EReal := if hn : n.val < 2 then 0 else prod m c h ⟨n.val - 2, by omega⟩ q

/-- The convolution of half `h`. -/
def conv (c : Dev nD) (h : Fin 2) (r : Fin 8192) (q : Fin 2816) : EReal :=
  fbA m c (ix1 (wide h q)) + fwA m c (ix2 0 (wide h q)) * padded m c h ⟨r.val, by omega⟩ q + fwA m c (ix2 1 (wide h q)) * padded m c h ⟨r.val + 1, by omega⟩ q
    + fwA m c (ix2 2 (wide h q)) * padded m c h ⟨r.val + 2, by omega⟩ q

def resG (c : Dev nD) (j : S8192x2816.Idx) : EReal := prod m c 0 (j 0) (j 1)
def resV (c : Dev nD) (j : S8192x2816.Idx) : EReal := prod m c 1 (j 0) (j 1)
def resAct (c : Dev nD) (j : S8192x2816.Idx) : EReal := gated (conv m c 0 (j 0) (j 1)) (conv m c 1 (j 0) (j 1))

theorem dot_1 (c : Dev nD) (t : Fin cfg0.N) (p : Fin 512) (q : Fin 1408) : dotOf (iblk m c 0 t) (iblk m c 1 t) p q = prod m c 0 (row t p) (col t q) := by
  unfold dotOf prod
  simp only [blk_0, blk_1]

theorem dot_2 (c : Dev nD) (t : Fin cfg0.N) (p : Fin 512) (q : Fin 1408) : dotOf (iblk m c 0 t) (iblk m c 2 t) p q = prod m c 1 (row t p) (col t q) := by
  unfold dotOf prod
  simp only [blk_0, blk_2]

theorem halves_blk (c : Dev nD) (t : Fin cfg0.N) (h : Fin 2) (p : Fin 512) (q : Fin 1408) :
    halves (iblk m c 0 t) (iblk m c 1 t) (iblk m c 2 t) h p q = prod m c h (row t p) (col t q) := by
  unfold halves
  rw [dot_1, dot_2]
  fin_cases h <;> rfl

/-- A point's own rows in the scratch array. -/
theorem sc_new (c : Dev nD) (t : Fin cfg0.N) (h : Fin 2) (p : Fin 512) (q : Fin 1408) :
    (outsAt0 m c t.val t.isLt).2.2.2 (ix3 h ⟨8 + p.val, by omega⟩ q) = prod m c h (row t p) (col t q) := by
  have e : (⟨8 + p.val - 8, by omega⟩ : Fin 512) = p := Fin.ext (by simp)
  by_cases h0 : t.val % 17 = 0
  · rw [sc_A m c t h0]
    show (if hp : 8 + p.val < 8 then _ else halves _ _ _ h ⟨8 + p.val - 8, by omega⟩ q) = _
    rw [dif_neg (by omega), e, halves_blk]
  · rw [sc_B m c t h0]
    show (if hp : 8 + p.val < 8 then _ else halves _ _ _ h ⟨8 + p.val - 8, by omega⟩ q) = _
    rw [dif_neg (by omega), e, halves_blk]

theorem prod_eq (c : Dev nD) (h : Fin 2) (r r' : Fin 8192) (q q' : Fin 2816) (hr : r.val = r'.val) (hq : q.val = q'.val) : prod m c h r q = prod m c h r' q' := by
  obtain rfl : r = r' := Fin.ext hr
  obtain rfl : q = q' := Fin.ext hq
  rfl

/-- The rows a convolution reads: the product below two rows of zeros. -/
theorem sc_padded (c : Dev nD) (t : Fin cfg0.N) (ht : t.val % 17 < 16) (h : Fin 2) (p : Fin 520) (hp : 6 ≤ p.val) (q : Fin 1408) :
    (outsAt0 m c t.val t.isLt).2.2.2 (ix3 h p q) = padded m c h ⟨t.val % 17 * 512 + (p.val - 6), by omega⟩ (col t q) := by
  unfold padded
  by_cases h8 : p.val < 8
  · by_cases h0 : t.val % 17 = 0
    · rw [sc_A m c t h0, dif_pos (by simp only; omega)]
      show (if hp : p.val < 8 then (0 : EReal) else _) = 0
      rw [dif_pos h8]
    · have hl : t.val - 1 < cfg0.N := by have := t.isLt; omega
      rw [sc_B m c t h0, dif_neg (by simp only; omega)]
      show (if hp : p.val < 8 then (outsAt0 m c (t.val - 1) _).2.2.2 (ix3 h ⟨512 + p.val, by omega⟩ q) else _) = _
      rw [dif_pos h8]
      refine Eq.trans ?_ ((sc_new m c ⟨t.val - 1, hl⟩ h ⟨504 + p.val, by omega⟩ q).trans (prod_eq m c h _ _ _ _ ?_ ?_))
      · exact congrArg (fun z => (outsAt0 m c (t.val - 1) hl).2.2.2 (ix3 h z q)) (Fin.ext (by simp only; omega))
      · simp only; omega
      · simp only; omega
  · rw [dif_neg (by simp only; omega)]
    refine Eq.trans ?_ ((sc_new m c t h ⟨p.val - 8, by omega⟩ q).trans (prod_eq m c h _ _ _ _ ?_ rfl))
    · exact congrArg (fun z => (outsAt0 m c t.val t.isLt).2.2.2 (ix3 h z q)) (Fin.ext (by simp only; omega))
    · simp only; omega

theorem padded_eq (c : Dev nD) (h : Fin 2) (n n' : Fin 8194) (q q' : Fin 2816) (hn : n.val = n'.val) (hq : q.val = q'.val) : padded m c h n q = padded m c h n' q' := by
  obtain rfl : n = n' := Fin.ext hn
  obtain rfl : q = q' := Fin.ext hq
  rfl

theorem conv_blk (c : Dev nD) (t : Fin cfg0.N) (h0 : ¬t.val % 17 = 0) (h : Fin 2) (p : Fin 512) (q : Fin 1408) :
    convAt (outsAt0 m c (t.val - 1) (by omega)).2.2.2 (iblk m c 3 t) (iblk m c 4 t) h p q = conv m c h (rowA t p) (col t q) := by
  have hl : t.val - 1 < cfg0.N := by have := t.isLt; omega
  have hs : ∀ (k : Fin 520) (hk : 6 ≤ k.val) (n : Fin 8194) (hn : n.val = (t.val % 17 - 1) * 512 + (k.val - 6)),
      (outsAt0 m c (t.val - 1) hl).2.2.2 (ix3 h k q) = padded m c h n (col t q) := fun k hk n hn =>
    (sc_padded m c ⟨t.val - 1, hl⟩ (by simp only; omega) h k hk q).trans (padded_eq m c h _ _ _ _ (by simp only [hn]; omega) (by simp only; omega))
  unfold convAt conv
  rw [blk_3, blk_3, blk_3, blk_4, hs _ (by simp) ⟨(rowA t p).val, by omega⟩ (by simp), hs _ (by simp; omega) ⟨(rowA t p).val + 1, by omega⟩ (by simp; omega),
    hs _ (by simp; omega) ⟨(rowA t p).val + 2, by omega⟩ (by simp; omega)]

theorem arr_5 (c : Dev nD) : (dats m 0 c).arrAt 5 cfg0.N = resG m c := by
  refine (dats m 0 c).arrAt_eq_of_covers 5 _ (by decide +kernel) fun t hf y => ?_
  blk_simp
  rw [after0_5]
  idx_vars y
  rw [show (win0_5.blk t).view.emb (ix2 y0 y1) = ix2 (row t y0) (col t y1) by blk_ext [ix_5]]
  by_cases h0 : t.val % 17 = 0
  · exact (g_A m c t h0 (ix2 y0 y1)).trans (dot_1 m c t y0 y1)
  · exact (g_B m c t h0 (ix2 y0 y1)).trans (dot_1 m c t y0 y1)

theorem arr_6 (c : Dev nD) : (dats m 0 c).arrAt 6 cfg0.N = resV m c := by
  refine (dats m 0 c).arrAt_eq_of_covers 6 _ (by decide +kernel) fun t hf y => ?_
  blk_simp
  rw [after0_6]
  idx_vars y
  rw [show (win0_6.blk t).view.emb (ix2 y0 y1) = ix2 (row t y0) (col t y1) by blk_ext [ix_6]]
  by_cases h0 : t.val % 17 = 0
  · exact (v_A m c t h0 (ix2 y0 y1)).trans (dot_2 m c t y0 y1)
  · exact (v_B m c t h0 (ix2 y0 y1)).trans (dot_2 m c t y0 y1)

/-- A block of the convolution leaves at its own step, never at a sweep's first. -/
theorem flush_7 : ∀ t : Fin cfg0.N, (cfg0.win 7).flush t = true → ¬t.val % 17 = 0 := by decide +kernel

theorem arr_7 (c : Dev nD) : (dats m 0 c).arrAt 7 cfg0.N = resAct m c := by
  refine (dats m 0 c).arrAt_eq_of_covers 7 _ (by decide +kernel) fun t hf y => ?_
  have h0 : ¬t.val % 17 = 0 := flush_7 t hf
  blk_simp
  rw [after0_7]
  idx_vars y
  rw [show (win0_7.blk t).view.emb (ix2 y0 y1) = ix2 (rowA t y0) (col t y1) by blk_ext [ix_7]]
  exact (act_B m c t h0 (ix2 y0 y1)).trans (congrArg₂ gated (conv_blk m c t h0 0 y0 y1) (conv_blk m c t h0 1 y0 y1))

/-! ## The reference -/

theorem ref_dot (c : Dev nD) (P : FVec Ideal UpFwdActRefIdeal.S8192x5632 .f32)
    (hP : Host.dotGeneral (φ₁ := .f32) (φ₂ := .f32) UpFwdActRefIdeal.dot_S8192x1024_S1024x5632_S8192x5632_1_0_0_1_n_n none
      (extf (F := Ideal) FTy.f32 (hA m c) UpFwdActRefIdeal.Gen.bitsLt_bf16_f32 : FVec Ideal _ .f32) (wA m c : FVec Ideal _ .f32) = P)
    (h : Fin 2) (r : Fin 8192) (q : Fin 2816) : P (ix2 r (wide h q)) = prod m c h r q := by
  rw [← hP]
  pointwise [prod]

/-- One half of the reference's convolution. -/
theorem ref_half (c : Dev nD) (P : FVec Ideal UpFwdActRefIdeal.S8192x5632 .f32) (hP : ∀ h r q, P (ix2 r (wide h q)) = prod m c h r q)
    (h : Fin 2) (r : Fin 8192) (q : Fin 2816) (y : ℕ) (hy : y = h.val * 2816 + q.val) :
    (if hn : (2 ≤ r.val ∧ r.val - 2 < 8192) ∧ y < 5632 then P (ix2 ⟨r.val - 2, hn.1.2⟩ ⟨y, hn.2⟩) else FloatOps.sitofp (F := Ideal) FTy.f32 0#32) * fwA m c (ix2 0 ⟨y, by omega⟩)
        + (if hn : (2 ≤ 1 + r.val ∧ 1 + r.val - 2 < 8192) ∧ y < 5632 then P (ix2 ⟨1 + r.val - 2, hn.1.2⟩ ⟨y, hn.2⟩) else FloatOps.sitofp (F := Ideal) FTy.f32 0#32) * fwA m c (ix2 1 ⟨y, by omega⟩)
        + (if hn : y < 5632 then P (ix2 r ⟨y, hn⟩) else FloatOps.sitofp (F := Ideal) FTy.f32 0#32) * fwA m c (ix2 2 ⟨y, by omega⟩)
        + fbA m c (ix1 ⟨y, by omega⟩) = conv m c h r q := by
  subst hy
  have hl : h.val * 2816 + q.val < 5632 := by omega
  have hz : FloatOps.sitofp (F := Ideal) FTy.f32 0#32 = 0 := by simp [FloatOps.sitofp]
  have e0 : (if hn : (2 ≤ r.val ∧ r.val - 2 < 8192) ∧ h.val * 2816 + q.val < 5632 then P (ix2 ⟨r.val - 2, hn.1.2⟩ ⟨h.val * 2816 + q.val, hn.2⟩) else FloatOps.sitofp (F := Ideal) FTy.f32 0#32)
      = padded m c h ⟨r.val, by omega⟩ q := by
    unfold padded
    by_cases hn : r.val < 2
    · rw [dif_neg (by omega), dif_pos (by simpa using hn), hz]
    · rw [dif_pos ⟨⟨by omega, by omega⟩, hl⟩, dif_neg (by simpa using hn)]
      exact hP h _ q
  have e1 : (if hn : (2 ≤ 1 + r.val ∧ 1 + r.val - 2 < 8192) ∧ h.val * 2816 + q.val < 5632 then P (ix2 ⟨1 + r.val - 2, hn.1.2⟩ ⟨h.val * 2816 + q.val, hn.2⟩)
      else FloatOps.sitofp (F := Ideal) FTy.f32 0#32) = padded m c h ⟨r.val + 1, by omega⟩ q := by
    unfold padded
    by_cases hn : r.val < 1
    · rw [dif_neg (by omega), dif_pos (by simp only; omega), hz]
    · rw [dif_pos ⟨⟨by omega, by omega⟩, hl⟩, dif_neg (by simp only; omega)]
      exact (hP h _ q).trans (prod_eq m c h _ _ _ _ (by simp only; omega) rfl)
  have e2 : (if hn : h.val * 2816 + q.val < 5632 then P (ix2 r ⟨h.val * 2816 + q.val, hn⟩) else FloatOps.sitofp (F := Ideal) FTy.f32 0#32) = padded m c h ⟨r.val + 2, by omega⟩ q := by
    unfold padded
    rw [dif_pos hl, dif_neg (by simp only; omega)]
    exact (hP h r q).trans (prod_eq m c h _ _ _ _ rfl rfl)
  rw [e0, e1, e2]
  unfold conv
  rw [mul_comm (padded m c h ⟨r.val, _⟩ q), mul_comm (padded m c h ⟨r.val + 1, _⟩ q), mul_comm (padded m c h ⟨r.val + 2, _⟩ q), add_comm _ (fbA m c (ix1 (wide h q))),
    ← add_assoc, ← add_assoc]

theorem algebraic : algebraic_UpFwdActIdeal_UpFwdActRefIdeal (hUpFwdActIdeal := Gen.facts) (hUpFwdActRefIdeal := UpFwdActRefIdeal.Gen.facts) := by
  intro m ρ m' ρ' _ hag
  refine ⟨_, _, _, UpFwdActIdeal.Value.run_blocks m ρ, (θ_run _ _ _).mono (fun _ h c => ?_) (UpFwdActRefIdeal.Value.run (F := Ideal) m' ρ')⟩
  obtain ⟨h0, h1, h2, h⟩ := h c
  obtain ⟨g0, g1, g2, g3⟩ := hag c
  refine ⟨h0.trans (.trans ?_ (arr_5 m c).symm), h1.trans (.trans ?_ (arr_6 m c).symm), h2.trans (.trans ?_ (arr_7 m c).symm), h⟩ <;>
    clear h0 h1 h2 h
  · funext j
    rw [g0, g1]
    generalize hP : Host.dotGeneral (F := Ideal) (φ₁ := .f32) (φ₂ := .f32) UpFwdActRefIdeal.dot_S8192x1024_S1024x5632_S8192x5632_1_0_0_1_n_n _ _ _ = P
    idx_vars j
    pointwise [resG]
    exact (congrArg (fun y => P (ix2 j0 y)) (Fin.ext (by simp))).trans (ref_dot m c P hP 0 j0 j1)
  · funext j
    rw [g0, g1]
    generalize hP : Host.dotGeneral (F := Ideal) (φ₁ := .f32) (φ₂ := .f32) UpFwdActRefIdeal.dot_S8192x1024_S1024x5632_S8192x5632_1_0_0_1_n_n _ _ _ = P
    idx_vars j
    pointwise [resV]
    exact (congrArg (fun y => P (ix2 j0 y)) (Fin.ext (by simp))).trans (ref_dot m c P hP 1 j0 j1)
  · funext j
    unfold UpFwdActRefIdeal.Value.res_main_v32
    rw [g0, g1, g2, g3]
    generalize hP : Host.dotGeneral (F := Ideal) (φ₁ := .f32) (φ₂ := .f32) UpFwdActRefIdeal.dot_S8192x1024_S1024x5632_S8192x5632_1_0_0_1_n_n _ _ _ = P
    idx_vars j
    pointwise [resAct]
    rw [ref_half m c P (ref_dot m c P hP) 0 j0 j1 _ (by simp), ref_half m c P (ref_dot m c P hP) 1 j0 j1 _ (by simp)]
    unfold gated
    rw [zero_sub]

end Cert.UpFwdActIdeal.Fwd
-- ==== Proof.Fwd.ConvFwd.lean ====
/-
  `conv_fwd`: the causal depthwise convolution of the gated rows, its layer norm and its gate, 256 rows at a point,
  against the lines of reference.py. The kernel keeps eight copies of its rows in scratch, the `r`-th moved up by `r`
  rows; what that array holds, and what a tap reads from it, comes first.
-/
module

public import proofs.«01_k».proof.Defs
public import proofs.«01_k».proof.Proof.Gen.ConvFwdIdeal.Value
public import proofs.«01_k».proof.Proof.Gen.ConvFwdRefIdeal.Run
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.ConvFwdIdeal.Fwd

open Cert.ConvFwdIdeal Cert.ConvFwdIdeal.Gen

/-! ## The scratch array: eight copies of the gated rows, the `r`-th moved up by `r` rows -/

/-- A value times the sigmoid of its gate. -/
def glu (v g : EReal) : EReal := v * Ideal.div 1 (1 + Ideal.exp (0 - g))

/-- Row `n` of the gated rows, zero beyond the last. -/
def at' (g : Fin 288 → Fin 512 → EReal) (n : ℕ) (q : Fin 512) : EReal := if h : n < 288 then g ⟨n, h⟩ q else 0

/-- What the stores `L` have done: whatever they wrote is a moved copy, and they have reached row `a` of copy `r`. -/
structure Filled (g : Fin 288 → Fin 512 → EReal) (L : List (View.Piece (Elt Ideal) S8x288x512 .f32)) (r a : ℕ) : Prop where
  good : ∀ pc ∈ L, ∀ x, pc.2 x = at' g ((pc.1.emb x 0).val + (pc.1.emb x 1).val) (pc.1.emb x 2)
  cov : ∀ y : S8x288x512.Idx, ((y 0).val < r ∧ ((y 0).val = 0 ∨ (y 1).val < 280)) ∨ ((y 0).val = r ∧ (y 1).val < a) → ∃ pc ∈ L, y ∈ pc.1.set

namespace Filled
variable {g : Fin 288 → Fin 512 → EReal} {L : List (View.Piece (Elt Ideal) S8x288x512 .f32)} {r a n : ℕ}

theorem canon_eq (h : Filled g L r a) (y : S8x288x512.Idx) (hy : ((y 0).val < r ∧ ((y 0).val = 0 ∨ (y 1).val < 280)) ∨ ((y 0).val = r ∧ (y 1).val < a)) :
    View.canon L y = at' g ((y 0).val + (y 1).val) (y 2) :=
  View.canon_apply_of_pieces (fun y => at' g ((y 0).val + (y 1).val) (y 2)) L h.good y (h.cov y hy)

theorem nil : Filled g [] 0 0 := ⟨fun _ h => absurd h List.not_mem_nil, fun y h => by omega⟩

/-- One more store. -/
theorem cons (h : Filled g L r a) (inb) (w : (Rect.unit (s := S8x288x512) ![r, a, 0] ![1, n, 512] inb).shape.Idx → EReal)
    (hw : ∀ x, w x = at' g (r + (a + (x 1).val)) (x 2)) :
    Filled g (⟨Rect.unit (s := S8x288x512) ![r, a, 0] ![1, n, 512] inb, w⟩ :: L) r (a + n) where
  good := by
    intro pc hpc x
    rcases List.mem_cons.mp hpc with rfl | hpc
    · have h0 : (x 0).val < 1 := (x 0).isLt
      refine (hw x).trans ?_
      have e0 : ((Rect.unit (s := S8x288x512) ![r, a, 0] ![1, n, 512] inb).emb x 0).val = r := by
        refine (Rect.idx_unit_val _ _ inb x 0).trans ?_
        show r + (x 0).val = r
        omega
      have e1 : ((Rect.unit (s := S8x288x512) ![r, a, 0] ![1, n, 512] inb).emb x 1).val = a + (x 1).val := Rect.idx_unit_val _ _ inb x 1
      have e2 : (Rect.unit (s := S8x288x512) ![r, a, 0] ![1, n, 512] inb).emb x 2 = x 2 := Fin.ext ((Rect.idx_unit_val _ _ inb x 2).trans (Nat.zero_add _))
      rw [e0, e1, e2]
    · exact h.good pc hpc x
  cov := by
    intro y hy
    by_cases hc : ((y 0).val < r ∧ ((y 0).val = 0 ∨ (y 1).val < 280)) ∨ ((y 0).val = r ∧ (y 1).val < a)
    · obtain ⟨pc, hm, hp⟩ := h.cov y hc
      exact ⟨pc, List.mem_cons_of_mem _ hm, hp⟩
    · refine ⟨_, List.mem_cons_self, (Rect.mem_set_unit (inb := inb)).mpr fun b => ?_⟩
      have h2 := (y 2).isLt
      fin_cases b
      · show r ≤ (y 0).val ∧ (y 0).val < r + 1
        omega
      · show a ≤ (y 1).val ∧ (y 1).val < a + n
        omega
      · exact ⟨Nat.zero_le _, by simpa using h2⟩

/-- A store of rows read back from the first copy, moved up by `r`. -/
theorem move (h : Filled g L r a) (inb) (w : (Rect.unit (s := S8x288x512) ![r, a, 0] ![1, n, 512] inb).shape.Idx → EReal)
    {sig : RefSig} {κ : Kind} {sp : Space} (v : View sig κ sp S8x288x512 .f32) (a' : ℕ) (inb')
    (hw : ∀ x, w x = v.readCov L (Rect.unit (s := S8x288x512) ![0, a', 0] ![1, n, 512] inb').toLoadRect x) (ha : a' = a + r) (hr : 0 < r) :
    Filled g (⟨Rect.unit (s := S8x288x512) ![r, a, 0] ![1, n, 512] inb, w⟩ :: L) r (a + n) := by
  refine h.cons inb w fun x => (hw x).trans ?_
  have h0 : (x 0).val < 1 := (x 0).isLt
  rw [View.readCov_eq_canon']
  show View.canon L ((Rect.unit (s := S8x288x512) ![0, a', 0] ![1, n, 512] inb').idx x) = _
  have e0 : ((Rect.unit (s := S8x288x512) ![0, a', 0] ![1, n, 512] inb').idx x 0).val = 0 := by
    refine (Rect.idx_unit_val _ _ inb' x 0).trans ?_
    show 0 + (x 0).val = 0
    omega
  have e1 : ((Rect.unit (s := S8x288x512) ![0, a', 0] ![1, n, 512] inb').idx x 1).val = a' + (x 1).val := Rect.idx_unit_val _ _ inb' x 1
  have e2 : (Rect.unit (s := S8x288x512) ![0, a', 0] ![1, n, 512] inb').idx x 2 = x 2 := Fin.ext ((Rect.idx_unit_val _ _ inb' x 2).trans (Nat.zero_add _))
  rw [h.canon_eq _ (.inl ⟨by omega, .inl e0⟩), e0, e1, e2]
  exact congrArg (at' g · (x 2)) (by omega)

theorem next (h : Filled g L r 280) (hr : 0 < r) : Filled g L (r + 1) 0 := ⟨h.good, fun y hy => h.cov y (by omega)⟩
theorem next0 (h : Filled g L 0 288) : Filled g L 1 0 :=
  ⟨h.good, fun y hy => h.cov y (.inr ⟨by omega, (y 1).isLt⟩)⟩

/-- Rows read from the filled array. -/
theorem read (h : Filled g L 8 0) {sig : RefSig} {κ : Kind} {sp : Space} (v : View sig κ sp S8x288x512 .f32) (r a n : ℕ) (inb)
    (hl : r = 0 ∨ a + n ≤ 280) (x) :
    v.readCov L (Rect.unit (s := S8x288x512) ![r, a, 0] ![1, n, 512] inb).toLoadRect x = at' g (r + (a + (x 1).val)) (x 2) := by
  have h0 : (x 0).val < 1 := (x 0).isLt
  have h1 : (x 1).val < n := (x 1).isLt
  have hr : r + 1 ≤ 8 := inb 0
  rw [View.readCov_eq_canon']
  show View.canon L ((Rect.unit (s := S8x288x512) ![r, a, 0] ![1, n, 512] inb).idx x) = _
  have e0 : ((Rect.unit (s := S8x288x512) ![r, a, 0] ![1, n, 512] inb).idx x 0).val = r := by
    refine (Rect.idx_unit_val _ _ inb x 0).trans ?_
    show r + (x 0).val = r
    omega
  have e1 : ((Rect.unit (s := S8x288x512) ![r, a, 0] ![1, n, 512] inb).idx x 1).val = a + (x 1).val := Rect.idx_unit_val _ _ inb x 1
  have e2 : (Rect.unit (s := S8x288x512) ![r, a, 0] ![1, n, 512] inb).idx x 2 = x 2 := Fin.ext ((Rect.idx_unit_val _ _ inb x 2).trans (Nat.zero_add _))
  rw [h.canon_eq _ (.inl ⟨by omega, by omega⟩), e0, e1, e2]

theorem read' (h : Filled g L 8 0) {sig : RefSig} {κ : Kind} {sp : Space} (v : View sig κ sp S8x288x512 .f32) (r a : ℕ) (inb)
    (hl : r = 0 ∨ a + 32 ≤ 280) :
    v.readCov L (Rect.unit (s := S8x288x512) ![r, a, 0] ![1, 32, 512] inb).toLoadRect = fun x => at' g (r + (a + (x 1).val)) (x 2) :=
  funext fun x => h.read v r a 32 inb hl x
end Filled

/-- The gated rows of a block below the halo's, which are nothing at the first block. -/
def rows (i : ℕ) (x0 : Vec Ideal S256x1024 .f32) (x1 : Vec Ideal S32x1024 .f32) (n : Fin 288) (q : Fin 512) : EReal :=
  if h : n.val < 32 then (if 0 < i then glu (x1 (ix2 ⟨n.val, h⟩ ⟨q.val, by omega⟩)) (x1 (ix2 ⟨n.val, h⟩ ⟨512 + q.val, by omega⟩)) else 0)
  else glu (x0 (ix2 ⟨n.val - 32, by omega⟩ ⟨q.val, by omega⟩)) (x0 (ix2 ⟨n.val - 32, by omega⟩ ⟨512 + q.val, by omega⟩))

/-- The bias and the first `k` taps at row `p`, column `q`. -/
def taps (g : ℕ → Fin 512 → EReal) (w : Vec Ideal S32x512 .f32) (b : Vec Ideal S1x512 .f32) (p : ℕ) (q : Fin 512) : ℕ → EReal
  | 0 => b (ix2 0 q)
  | k + 1 => taps g w b p q k + (if h : k < 32 then w (ix2 ⟨k, h⟩ q) else 0) * g (2 + k + p) q

/-- The mean of a row. -/
def mu (a : Fin 512 → EReal) : EReal := Ideal.div (∑ q, a q) (Ideal.ofBits .f32 0x44000000#32)

/-- A row's deviation from its mean. -/
def cen (a : Fin 512 → EReal) (q : Fin 512) : EReal := a q - mu a

/-- The layer norm of a row, with its gain and its shift. -/
def ln (a g b : Fin 512 → EReal) (q : Fin 512) : EReal :=
  cen a q * Ideal.rsqrt (mu (fun k => cen a k * cen a k) + Ideal.ofBits .f32 0x358637BD#32) * g q + b q

/-- `z` times its sigmoid. -/
def silu (z : EReal) : EReal := z * Ideal.div 1 (1 + Ideal.exp (-z))

/-- The kernel's layer norm and gate of 32 rows. -/
def lnSilu (A : FVec Ideal S32x512 .f32) (g b : Vec Ideal S1x512 .f32) : FVec Ideal S32x512 .bf16 :=
  let row (v : FVec Ideal S32x512 .f32) : FVec Ideal S32x1 .f32 :=
    divf (shapeCast S32x1 (multiReduction .add [1] S32 v 0x00000000#32 reduces_S32x512_S32 (.inl rfl) rfl) shapeCasts_S32_S32x1)
      (broadcast S32x1 (Scalar.ofBits .f32 0x44000000#32))
  let d : FVec Ideal S32x512 .f32 := subf A (broadcastTo S32x512 (row A) broadcasts_S32x1_S32x512)
  let z : FVec Ideal S32x512 .f32 := addf (mulf (mulf d (broadcastTo S32x512 (rsqrt (addf (row (mulf d d)) (broadcast S32x1 (Scalar.ofBits .f32 0x358637BD#32)))) broadcasts_S32x1_S32x512))
    (broadcastTo S32x512 (shapeCast S1x512 g shapeCasts_S1x512_S1x512) broadcasts_S1x512_S32x512))
    (broadcastTo S32x512 (shapeCast S1x512 b shapeCasts_S1x512_S1x512) broadcasts_S1x512_S32x512)
  truncf .bf16 (mulf z (divf (broadcast S32x512 (Scalar.ofBits .f32 0x3F800000#32)) (addf (broadcast S32x512 (Scalar.ofBits .f32 0x3F800000#32)) (exp (subf (broadcast S32x512 (Scalar.ofBits .f32 0x00000000#32)) z))))) bitsLt_bf16_f32

theorem lnSilu_apply (A : FVec Ideal S32x512 .f32) (g b : Vec Ideal S1x512 .f32) (x : S32x512.Idx) :
    lnSilu A g b x = silu (ln (fun q => A (ix2 (x 0) q)) (fun q => g (ix2 0 q)) (fun q => b (ix2 0 q)) (x 1)) := by
  unfold lnSilu
  pointwise [silu, ln, cen, mu]
  rw [zero_sub]

theorem pay_64 (v : Vec Ideal S1x64x512 .f32) (x) : k0_pay14 v x = v x := by pointwise [k0_pay14]
theorem pay_24 (v : Vec Ideal S1x24x512 .f32) (x) : k0_pay18 v x = v x := by pointwise [k0_pay18]

theorem pay_glu (v : Vec Ideal S32x1024 .f32) (x : S1x32x512.Idx) :
    k0_pay2 v x = glu (v (ix2 (x 1) ⟨(x 2).val, by have := (x 2).isLt; simp at this; omega⟩)) (v (ix2 (x 1) ⟨512 + (x 2).val, by have := (x 2).isLt; simp at this; omega⟩)) := by
  pointwise [k0_pay2, glu]

theorem pay_halo (i : grid0.Coords) (v : Vec Ideal S32x1024 .f32) (x : S1x32x512.Idx) :
    k0_pay1 i v x = if 0 < (i 0).val then glu (v (ix2 (x 1) ⟨(x 2).val, by have := (x 2).isLt; simp at this; omega⟩)) (v (ix2 (x 1) ⟨512 + (x 2).val, by have := (x 2).isLt; simp at this; omega⟩)) else 0 := by
  pointwise [k0_pay1, glu]
  have hi : (i 0).val < 32 := (i 0).isLt
  have hc : Scalar.cmpi .sgt (BitVec.ofNat 32 (i 0).val) 0#32 = if 0 < (i 0).val then 1#1 else 0#1 := by
    generalize (i 0).val = n at hi
    revert n
    decide
  rw [hc]
  by_cases h : 0 < (i 0).val
  · rw [if_pos h, if_pos h]; rfl
  · rw [if_neg h, if_neg h]; rfl

theorem rows_halo (i : ℕ) (x0 : Vec Ideal S256x1024 .f32) (x1 : Vec Ideal S32x1024 .f32) (p : Fin 32) (q : Fin 512) :
    (if 0 < i then glu (x1 (ix2 p ⟨q.val, by omega⟩)) (x1 (ix2 p ⟨512 + q.val, by omega⟩)) else 0) = at' (rows i x0 x1) (0 + (0 + p.val)) q := by
  have e : 0 + (0 + p.val) = p.val := by omega
  unfold at' rows
  simp only [e]
  rw [dif_pos (by omega), dif_pos p.isLt]

theorem rows_main (i : ℕ) (x0 : Vec Ideal S256x1024 .f32) (x1 : Vec Ideal S32x1024 .f32) (a b : ℕ) (inb) (p : Fin 32) (q : Fin 512) (hb : b = a + 32) :
    glu (View.ld x0 (Rect.unit (s := S256x1024) ![a, 0] ![32, 1024] inb) (ix2 p ⟨q.val, by omega⟩))
        (View.ld x0 (Rect.unit (s := S256x1024) ![a, 0] ![32, 1024] inb) (ix2 p ⟨512 + q.val, by omega⟩))
      = at' (rows i x0 x1) (0 + (b + p.val)) q := by
  have ha : a + 32 ≤ 256 := inb 0
  have e : 0 + (b + p.val) - 32 = a + p.val := by omega
  unfold at' rows
  rw [dif_pos (by omega), dif_neg (by simp only; omega)]
  simp only [e]
  refine congrArg₂ glu ?_ ?_ <;>
    refine View.ld_unit_apply_of (S := S256x1024) x0 ![a, 0] ![32, 1024] inb _ _ fun k => ?_ <;> fin_cases k <;> simp

variable (m : (ℓ : Loc nD τ sig) → Buf (Elt Ideal) ℓ)

/-- The stores into the scratch array at a point. -/
abbrev stores (c : Dev nD) (t : Fin cfg0.N) : List (View.Piece (Elt Ideal) S8x288x512 .f32) :=
  (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (iblk m c 0 t) (iblk m c 1 t) (iblk m c 2 t) (iblk m c 3 t) (iblk m c 4 t) (iblk m c 5 t)).2.2.1

abbrev rowsAt (c : Dev nD) (t : Fin cfg0.N) : Fin 288 → Fin 512 → EReal := rows ((grid0.coords t) 0).val (iblk m c 0 t) (iblk m c 1 t)

set_option maxHeartbeats 1000000 in
theorem filled (c : Dev nD) (t : Fin cfg0.N) : Filled (rowsAt m c t) (stores m c t) 8 0 := by
  unfold stores
  frame_out
  iterate 7
    refine Filled.next ?_ (by decide)
    refine Filled.move ?_ _ _ _ _ _ (fun x => pay_24 _ x) rfl (by decide)
    iterate 4 refine Filled.move ?_ _ _ _ _ _ (fun x => pay_64 _ x) rfl (by decide)
  refine Filled.next0 ?_
  iterate 8 refine Filled.cons (n := 32) ?_ _ _ (fun x => (pay_glu _ x).trans ?_)
  refine Filled.cons (n := 32) (L := []) Filled.nil _ _ (fun x => (pay_halo _ _ x).trans ?_)
  · exact rows_halo _ _ _ _ _
  all_goals exact rows_main _ _ _ _ _ _ _ _ rfl

set_option maxHeartbeats 1000000 in
/-- The convolution of a block. -/
theorem u1_blk (c : Dev nD) (t : Fin cfg0.N) (y : S256x512.Idx) :
    (outsAt0 m c t).1 y
      = taps (at' (rowsAt m c t)) (iblk m c 2 t) (iblk m c 3 t) (y 0).val (y 1) 31 := by
  have hF := filled m c t
  revert hF
  unfold outsAt0 stores
  frame_out
  intro hF
  simp (disch := first | exact hF | decide) only [↓Filled.read' (g := rowsAt m c t)]
  generalize at' (rowsAt m c t) = g
  generalize (iblk m c 2 t : Vec Ideal S32x512 .f32) = w
  generalize (iblk m c 3 t : Vec Ideal S1x512 .f32) = b
  canon_tiles x h using View.cover_of_tiledBy _ ![32, 512] (by sl_kernel_rfl) y
  all_goals
    have e1 : y 1 = x 1 := Fin.ext h1
    open_payloads
    pointwise [taps]
    simp only [e1, h0, ← Nat.add_assoc, Nat.reduceAdd, Nat.zero_add]

set_option maxHeartbeats 2000000 in
/-- The block behind the layer norm and the gate. -/
theorem u_blk (c : Dev nD) (t : Fin cfg0.N) (y : S256x512.Idx) :
    (outsAt0 m c t).2 y
      = silu (ln (fun q => taps (at' (rowsAt m c t)) (iblk m c 2 t) (iblk m c 3 t) (y 0).val q 31)
          (fun q => (iblk m c 4 t : Vec Ideal S1x512 .f32) (ix2 0 q)) (fun q => (iblk m c 5 t : Vec Ideal S1x512 .f32) (ix2 0 q)) (y 1)) := by
  have hF := filled m c t
  revert hF
  unfold outsAt0 stores
  frame_out
  intro hF
  simp (disch := first | exact hF | decide) only [↓Filled.read' (g := rowsAt m c t)]
  generalize at' (rowsAt m c t) = g
  generalize (iblk m c 2 t : Vec Ideal S32x512 .f32) = w
  generalize (iblk m c 3 t : Vec Ideal S1x512 .f32) = b
  canon_tiles x h using View.cover_of_tiledBy _ ![32, 512] (by sl_kernel_rfl) y
  all_goals
    have e1 : y 1 = x 1 := Fin.ext h1
    open_payloads
    refine (show _ = lnSilu _ _ _ x from rfl).trans ?_
    rw [lnSilu_apply, e1]
    congr 2
    funext q
    pointwise [taps]
    simp only [h0, ← Nat.add_assoc, Nat.reduceAdd, Nat.zero_add]

/-! ## From the blocks to the arrays -/

abbrev xA (c : Dev nD) : S8192x1024.Idx → EReal := m ((c : Thread nD τ).loc main_arg0)
abbrev wA (c : Dev nD) : S31x512.Idx → EReal := m ((c : Thread nD τ).loc main_arg1)
abbrev bA (c : Dev nD) : S512.Idx → EReal := m ((c : Thread nD τ).loc main_arg2)
abbrev gA (c : Dev nD) : S512.Idx → EReal := m ((c : Thread nD τ).loc main_arg3)
abbrev sA (c : Dev nD) : S512.Idx → EReal := m ((c : Thread nD τ).loc main_arg4)

/-- The gated rows below 30 rows of zeros. -/
def padded (c : Dev nD) (n : ℕ) (q : Fin 512) : EReal :=
  if h : 30 ≤ n ∧ n - 30 < 8192 then glu (xA m c (ix2 ⟨n - 30, h.2⟩ ⟨q.val, by omega⟩)) (xA m c (ix2 ⟨n - 30, h.2⟩ ⟨512 + q.val, by omega⟩)) else 0

/-- The first `k` taps of row `r`. -/
def conv (c : Dev nD) (r : ℕ) (q : Fin 512) : ℕ → EReal
  | 0 => 0
  | k + 1 => conv c r q k + padded m c (k + r) q * (if h : k < 31 then wA m c (ix2 ⟨k, h⟩ q) else 0)

/-- The convolution. -/
def resU1 (c : Dev nD) (j : S8192x512.Idx) : EReal := conv m c (j 0).val (j 1) 31 + bA m c (ix1 (j 1))

/-- Its layer norm through the gate. -/
def resU (c : Dev nD) (j : S8192x512.Idx) : EReal :=
  silu (ln (fun q => resU1 m c (ix2 (j 0) q)) (fun q => gA m c (ix1 q)) (fun q => sA m c (ix1 q)) (j 1))

theorem ix_0 : ∀ t : Fin cfg0.N, win0_0.index t = ![t.val, 0] := (by decide +kernel : ∀ t : Fin grid0.N, win0_0.index t = ![t.val, 0])
theorem ix_1 : ∀ t : Fin cfg0.N, win0_1.index t = ![t.val * 8 - 1, 0] := (by decide +kernel : ∀ t : Fin grid0.N, win0_1.index t = ![t.val * 8 - 1, 0])
theorem ix_2 : ∀ t : Fin cfg0.N, win0_2.index t = ![0, 0] := (by decide +kernel : ∀ t : Fin grid0.N, win0_2.index t = ![0, 0])
theorem ix_3 : ∀ t : Fin cfg0.N, win0_3.index t = ![0, 0] := (by decide +kernel : ∀ t : Fin grid0.N, win0_3.index t = ![0, 0])
theorem ix_4 : ∀ t : Fin cfg0.N, win0_4.index t = ![0, 0] := (by decide +kernel : ∀ t : Fin grid0.N, win0_4.index t = ![0, 0])
theorem ix_5 : ∀ t : Fin cfg0.N, win0_5.index t = ![0, 0] := (by decide +kernel : ∀ t : Fin grid0.N, win0_5.index t = ![0, 0])
theorem ix_6 : ∀ t : Fin cfg0.N, win0_6.index t = ![t.val, 0] := (by decide +kernel : ∀ t : Fin grid0.N, win0_6.index t = ![t.val, 0])
theorem ix_7 : ∀ t : Fin cfg0.N, win0_7.index t = ![t.val, 0] := (by decide +kernel : ∀ t : Fin grid0.N, win0_7.index t = ![t.val, 0])
theorem point : ∀ t : Fin cfg0.N, ((grid0.coords t) 0).val = t.val := (by decide +kernel : ∀ t : Fin grid0.N, ((grid0.coords t) 0).val = t.val)

/-- Row `p` of the block of point `t`, in the array. -/
abbrev row (t : Fin cfg0.N) (p : Fin 256) : Fin 8192 :=
  ⟨t.val * 256 + p.val, by have := t.isLt; have h : cfg0.N = 32 := N_0; omega⟩

theorem blk_0 (c : Dev nD) (t : Fin cfg0.N) (p : Fin 256) (k : Fin 1024) :
    (iblk m c 0 t : Vec Ideal S256x1024 .f32) (ix2 p k) = xA m c (ix2 (row t p) k) := by
  blk_simp [iblk]
  rw [show V m c main_arg0 = m ((c : Thread nD τ).loc main_arg0) from V_main_arg0 m c]
  exact congrArg _ (by blk_ext [ix_0])

theorem blk_1 (c : Dev nD) (t : Fin cfg0.N) (p : Fin 32) (k : Fin 1024) :
    (iblk m c 1 t : Vec Ideal S32x1024 .f32) (ix2 p k)
      = xA m c (ix2 ⟨(t.val * 8 - 1) * 32 + p.val, by have := t.isLt; have h : cfg0.N = 32 := N_0; omega⟩ k) := by
  blk_simp [iblk]
  rw [show V m c main_arg0 = m ((c : Thread nD τ).loc main_arg0) from V_main_arg0 m c]
  exact congrArg _ (by blk_ext [ix_1])

set_option maxHeartbeats 1000000 in
theorem V_v0 (c : Dev nD) : V m c main_v0
    = (pad S32x512 ![0, 0] ![1, 0] ![0, 0] (wA m c) (sitofp (F := Ideal) .f32 (constantI S_ 32 0#32))
        pads_S31x512_S32x512_010_000 h_S_ : Vec Ideal S32x512 .f32) := by
  unfold V
  simp only [hostOps0, hostOps0_1, hostOps0_2, List.flatten_cons, List.flatten_nil, List.cons_append, List.nil_append, List.append_nil]
  after_results_simp
  rfl

set_option maxHeartbeats 1000000 in
theorem V_v1 (c : Dev nD) : V m c main_v1
    = (shapeCast S1x512 (m ((c : Thread nD τ).loc main_arg2) : Vec Ideal S512 .f32) shapeCasts_S512_S1x512 : Vec Ideal S1x512 .f32) := by
  unfold V
  simp only [hostOps0, hostOps0_1, hostOps0_2, List.flatten_cons, List.flatten_nil, List.cons_append, List.nil_append, List.append_nil]
  after_results_simp
  rfl

set_option maxHeartbeats 1000000 in
theorem V_v2 (c : Dev nD) : V m c main_v2
    = (shapeCast S1x512 (m ((c : Thread nD τ).loc main_arg3) : Vec Ideal S512 .f32) shapeCasts_S512_S1x512 : Vec Ideal S1x512 .f32) := by
  unfold V
  simp only [hostOps0, hostOps0_1, hostOps0_2, List.flatten_cons, List.flatten_nil, List.cons_append, List.nil_append, List.append_nil]
  after_results_simp
  rfl

set_option maxHeartbeats 1000000 in
theorem V_v3 (c : Dev nD) : V m c main_v3
    = (shapeCast S1x512 (m ((c : Thread nD τ).loc main_arg4) : Vec Ideal S512 .f32) shapeCasts_S512_S1x512 : Vec Ideal S1x512 .f32) := by
  unfold V
  simp only [hostOps0, hostOps0_1, hostOps0_2, List.flatten_cons, List.flatten_nil, List.cons_append, List.nil_append, List.append_nil]
  after_results_simp
  rfl

theorem blk_2 (c : Dev nD) (t : Fin cfg0.N) (k : Fin 31) (q : Fin 512) :
    (iblk m c 2 t : Vec Ideal S32x512 .f32) (ix2 ⟨k.val, by omega⟩ q) = wA m c (ix2 k q) := by
  blk_simp [iblk]
  rw [show (win0_2.blk t).view.emb (ix2 (⟨k.val, by omega⟩ : Fin 32) q) = ix2 (⟨k.val, by omega⟩ : Fin 32) q by blk_ext [ix_2], V_v0 m c]
  pointwise []

theorem blk_3 (c : Dev nD) (t : Fin cfg0.N) (q : Fin 512) :
    (iblk m c 3 t : Vec Ideal S1x512 .f32) (ix2 (0 : Fin 1) q) = bA m c (ix1 q) := by
  blk_simp [iblk]
  rw [show (win0_3.blk t).view.emb (ix2 (0 : Fin 1) q) = ix2 (0 : Fin 1) q by blk_ext [ix_3], V_v1 m c]
  pointwise []

theorem blk_4 (c : Dev nD) (t : Fin cfg0.N) (q : Fin 512) :
    (iblk m c 4 t : Vec Ideal S1x512 .f32) (ix2 (0 : Fin 1) q) = gA m c (ix1 q) := by
  blk_simp [iblk]
  rw [show (win0_4.blk t).view.emb (ix2 (0 : Fin 1) q) = ix2 (0 : Fin 1) q by blk_ext [ix_4], V_v2 m c]
  pointwise []

theorem blk_5 (c : Dev nD) (t : Fin cfg0.N) (q : Fin 512) :
    (iblk m c 5 t : Vec Ideal S1x512 .f32) (ix2 (0 : Fin 1) q) = sA m c (ix1 q) := by
  blk_simp [iblk]
  rw [show (win0_5.blk t).view.emb (ix2 (0 : Fin 1) q) = ix2 (0 : Fin 1) q by blk_ext [ix_5], V_v3 m c]
  pointwise []

/-- A row of the scratch array is a padded row. -/
theorem rows_eq (c : Dev nD) (t : Fin cfg0.N) (n : ℕ) (hn : n < 286) (q : Fin 512) :
    at' (rowsAt m c t) (2 + n) q = padded m c (n + t.val * 256) q := by
  have ht : t.val < 32 := t.isLt
  unfold at' rowsAt rows padded
  rw [dif_pos (by omega), point]
  by_cases h32 : 2 + n < 32
  · rw [dif_pos h32]
    by_cases h0 : 0 < t.val
    · rw [if_pos h0, dif_pos (by omega), blk_1, blk_1]
      simp only [show (t.val * 8 - 1) * 32 + (2 + n) = n + t.val * 256 - 30 by omega]
    · rw [if_neg h0, dif_neg (by omega)]
  · rw [dif_neg h32, dif_pos (by omega), blk_0, blk_0]
    simp only [row, show t.val * 256 + (2 + n - 32) = n + t.val * 256 - 30 by omega]

/-- The taps of a block are the reference's, in another order. -/
theorem taps_eq (c : Dev nD) (t : Fin cfg0.N) (p : Fin 256) (q : Fin 512) : ∀ k ≤ 31,
    taps (at' (rowsAt m c t)) (iblk m c 2 t) (iblk m c 3 t) p.val q k = conv m c (row t p).val q k + bA m c (ix1 q)
  | 0, _ => by
    unfold taps conv
    rw [blk_3, zero_add]
  | k + 1, hk => by
    unfold taps conv
    have hw := blk_2 m c t ⟨k, by omega⟩ q
    rw [taps_eq c t p q k (by omega), Nat.add_assoc, rows_eq m c t (k + p.val) (by omega), dif_pos (by omega), dif_pos (by omega), hw,
      show k + p.val + t.val * 256 = k + (row t p).val by simp only [row]; omega, mul_comm, add_right_comm]

theorem arr_6 (c : Dev nD) : (dats m 0 c).arrAt 6 cfg0.N = resU1 m c := by
  refine (dats m 0 c).arrAt_eq_of_covers 6 _ (by decide +kernel) fun t hf y => ?_
  blk_simp
  rw [after0_6]
  idx_vars y
  rw [show (win0_6.blk t).view.emb (ix2 y0 y1) = ix2 (row t y0) y1 by blk_ext [ix_6]]
  exact (u1_blk m c t (ix2 y0 y1)).trans (taps_eq m c t y0 y1 31 le_rfl)

theorem arr_7 (c : Dev nD) : (dats m 0 c).arrAt 7 cfg0.N = resU m c := by
  refine (dats m 0 c).arrAt_eq_of_covers 7 _ (by decide +kernel) fun t hf y => ?_
  blk_simp
  rw [after0_7]
  idx_vars y
  rw [show (win0_7.blk t).view.emb (ix2 y0 y1) = ix2 (row t y0) y1 by blk_ext [ix_7]]
  refine (u_blk m c t (ix2 y0 y1)).trans ?_
  have h : ∀ q, taps (at' (rowsAt m c t)) (iblk m c 2 t) (iblk m c 3 t) (ix2 y0 y1 0 : Fin 256).val q 31 = resU1 m c (ix2 (row t y0) q) :=
    fun q => taps_eq m c t y0 q 31 le_rfl
  simp only [h, blk_4, blk_5]
  rfl

/-! ## The reference -/

theorem ref_padded (c : Dev nD) (V0) (e0 : V0 (Proc.devRef .tc ConvFwdRefIdeal.main_arg0) = xA m c) (n : Fin 8222) (q : Fin 512) :
    (ConvFwdRefIdeal.Value.res_main_v9 (F := Ideal) V0 : FVec Ideal ConvFwdRefIdeal.S8222x512 .f32) (ix2 n q) = padded m c n.val q := by
  unfold ConvFwdRefIdeal.Value.res_main_v9
  rw [e0]
  pointwise [padded, glu]
  simp [zero_sub, FloatOps.sitofp]

set_option maxHeartbeats 2000000 in
theorem ref_u1 (c : Dev nD) (V0) (e0 : V0 (Proc.devRef .tc ConvFwdRefIdeal.main_arg0) = xA m c)
    (e1 : V0 (Proc.devRef .tc ConvFwdRefIdeal.main_arg1) = wA m c) (e2 : V0 (Proc.devRef .tc ConvFwdRefIdeal.main_arg2) = bA m c) :
    (ConvFwdRefIdeal.Value.res_main_v228 (F := Ideal) V0 : FVec Ideal ConvFwdRefIdeal.S8192x512 .f32) = resU1 m c := by
  have hP := ref_padded m c V0 e0
  unfold ConvFwdRefIdeal.Value.res_main_v228 ConvFwdRefIdeal.Value.res_main_v176 ConvFwdRefIdeal.Value.res_main_v92
  generalize ConvFwdRefIdeal.Value.res_main_v9 V0 = P at hP
  rw [e1, e2]
  funext j
  idx_vars j
  pointwise [resU1, conv]
  simp only [hP]

set_option maxHeartbeats 1000000 in
theorem algebraic : algebraic_ConvFwdIdeal_ConvFwdRefIdeal (hConvFwdIdeal := Gen.facts) (hConvFwdRefIdeal := ConvFwdRefIdeal.Gen.facts) := by
  intro m ρ m' ρ' _ hag
  refine ⟨_, _, ConvFwdIdeal.Value.run_blocks m ρ, (θ_run _ _ _).mono (fun _ h c => ?_) (ConvFwdRefIdeal.Value.run (F := Ideal) m' ρ')⟩
  obtain ⟨h0, h1, h⟩ := h c
  obtain ⟨g0, g1, g2, g3, g4⟩ := hag c
  have hu := ref_u1 m c (StableHlo.launchContents m' c) g0 g1 g2
  refine ⟨h0.trans (hu.trans (arr_6 m c).symm), h1.trans (.trans ?_ (arr_7 m c).symm), h⟩
  clear h0 h1 h
  unfold ConvFwdRefIdeal.Value.res_main_v252 ConvFwdRefIdeal.Value.res_main_v234 ConvFwdRefIdeal.Value.res_main_v232
  rw [hu, show StableHlo.launchContents m' c (Proc.devRef .tc ConvFwdRefIdeal.main_arg3) = gA m c from g3,
    show StableHlo.launchContents m' c (Proc.devRef .tc ConvFwdRefIdeal.main_arg4) = sA m c from g4]
  funext j
  idx_vars j
  pointwise [resU, silu, ln, cen, mu]

end Cert.ConvFwdIdeal.Fwd
-- ==== Proof.Shifted.lean ====
/-
  A scratch array of eight copies of 288 rows, the `r`-th moved up by `r` rows, filled store by store: a read of 32 rows
  from copy `r` at a multiple of eight gives the rows at any offset.
-/
module

public import Idealize.ShloMosaic.Lib.Pointwise
public import Idealize.ShloMosaic.Lib.Pipeline.ValueKit

@[expose] public section

set_option maxRecDepth 16384

noncomputable section

open Idealize.ShloMosaic

namespace Cert.Shifted

/-- The scratch array's shape. -/
abbrev Copies : Shape := ⟨3, ![8, 288, 512]⟩

/-- Row `n` of the rows, zero beyond the last. -/
def at' (g : Fin 288 → Fin 512 → EReal) (n : ℕ) (q : Fin 512) : EReal := if h : n < 288 then g ⟨n, h⟩ q else 0

/-- What the stores `L` have done: whatever they wrote is a moved copy, and they have reached row `a` of copy `r`. -/
structure Filled (g : Fin 288 → Fin 512 → EReal) (L : List (View.Piece (Elt Ideal) Copies .f32)) (r a : ℕ) : Prop where
  good : ∀ pc ∈ L, ∀ x, pc.2 x = at' g ((pc.1.emb x 0).val + (pc.1.emb x 1).val) (pc.1.emb x 2)
  cov : ∀ y : Copies.Idx, ((y 0).val < r ∧ ((y 0).val = 0 ∨ (y 1).val < 280)) ∨ ((y 0).val = r ∧ (y 1).val < a) → ∃ pc ∈ L, y ∈ pc.1.set

namespace Filled
variable {g : Fin 288 → Fin 512 → EReal} {L : List (View.Piece (Elt Ideal) Copies .f32)} {r a n : ℕ}

theorem canon_eq (h : Filled g L r a) (y : Copies.Idx) (hy : ((y 0).val < r ∧ ((y 0).val = 0 ∨ (y 1).val < 280)) ∨ ((y 0).val = r ∧ (y 1).val < a)) :
    View.canon L y = at' g ((y 0).val + (y 1).val) (y 2) :=
  View.canon_apply_of_pieces (fun y => at' g ((y 0).val + (y 1).val) (y 2)) L h.good y (h.cov y hy)

theorem nil : Filled g [] 0 0 := ⟨fun _ h => absurd h List.not_mem_nil, fun y h => by omega⟩

/-- One more store. -/
theorem cons (h : Filled g L r a) (inb) (w : (Rect.unit (s := Copies) ![r, a, 0] ![1, n, 512] inb).shape.Idx → EReal)
    (hw : ∀ x, w x = at' g (r + (a + (x 1).val)) (x 2)) :
    Filled g (⟨Rect.unit (s := Copies) ![r, a, 0] ![1, n, 512] inb, w⟩ :: L) r (a + n) where
  good := by
    intro pc hpc x
    rcases List.mem_cons.mp hpc with rfl | hpc
    · have h0 : (x 0).val < 1 := (x 0).isLt
      refine (hw x).trans ?_
      have e0 : ((Rect.unit (s := Copies) ![r, a, 0] ![1, n, 512] inb).emb x 0).val = r := by
        refine (Rect.idx_unit_val _ _ inb x 0).trans ?_
        show r + (x 0).val = r
        omega
      have e1 : ((Rect.unit (s := Copies) ![r, a, 0] ![1, n, 512] inb).emb x 1).val = a + (x 1).val := Rect.idx_unit_val _ _ inb x 1
      have e2 : (Rect.unit (s := Copies) ![r, a, 0] ![1, n, 512] inb).emb x 2 = x 2 := Fin.ext ((Rect.idx_unit_val _ _ inb x 2).trans (Nat.zero_add _))
      rw [e0, e1, e2]
    · exact h.good pc hpc x
  cov := by
    intro y hy
    by_cases hc : ((y 0).val < r ∧ ((y 0).val = 0 ∨ (y 1).val < 280)) ∨ ((y 0).val = r ∧ (y 1).val < a)
    · obtain ⟨pc, hm, hp⟩ := h.cov y hc
      exact ⟨pc, List.mem_cons_of_mem _ hm, hp⟩
    · refine ⟨_, List.mem_cons_self, (Rect.mem_set_unit (inb := inb)).mpr fun b => ?_⟩
      have h2 := (y 2).isLt
      fin_cases b
      · show r ≤ (y 0).val ∧ (y 0).val < r + 1
        omega
      · show a ≤ (y 1).val ∧ (y 1).val < a + n
        omega
      · exact ⟨Nat.zero_le _, by simpa using h2⟩

/-- A store of rows read back from the first copy, moved up by `r`. -/
theorem move (h : Filled g L r a) (inb) (w : (Rect.unit (s := Copies) ![r, a, 0] ![1, n, 512] inb).shape.Idx → EReal)
    {sig : RefSig} {κ : Kind} {sp : Space} (v : View sig κ sp Copies .f32) (a' : ℕ) (inb')
    (hw : ∀ x, w x = v.readCov L (Rect.unit (s := Copies) ![0, a', 0] ![1, n, 512] inb').toLoadRect x) (ha : a' = a + r) (hr : 0 < r) :
    Filled g (⟨Rect.unit (s := Copies) ![r, a, 0] ![1, n, 512] inb, w⟩ :: L) r (a + n) := by
  refine h.cons inb w fun x => (hw x).trans ?_
  have h0 : (x 0).val < 1 := (x 0).isLt
  rw [View.readCov_eq_canon']
  show View.canon L ((Rect.unit (s := Copies) ![0, a', 0] ![1, n, 512] inb').idx x) = _
  have e0 : ((Rect.unit (s := Copies) ![0, a', 0] ![1, n, 512] inb').idx x 0).val = 0 := by
    refine (Rect.idx_unit_val _ _ inb' x 0).trans ?_
    show 0 + (x 0).val = 0
    omega
  have e1 : ((Rect.unit (s := Copies) ![0, a', 0] ![1, n, 512] inb').idx x 1).val = a' + (x 1).val := Rect.idx_unit_val _ _ inb' x 1
  have e2 : (Rect.unit (s := Copies) ![0, a', 0] ![1, n, 512] inb').idx x 2 = x 2 := Fin.ext ((Rect.idx_unit_val _ _ inb' x 2).trans (Nat.zero_add _))
  rw [h.canon_eq _ (.inl ⟨by omega, .inl e0⟩), e0, e1, e2]
  exact congrArg (at' g · (x 2)) (by omega)

theorem next (h : Filled g L r 280) (hr : 0 < r) : Filled g L (r + 1) 0 := ⟨h.good, fun y hy => h.cov y (by omega)⟩
theorem next0 (h : Filled g L 0 288) : Filled g L 1 0 :=
  ⟨h.good, fun y hy => h.cov y (.inr ⟨by omega, (y 1).isLt⟩)⟩

/-- Rows read from the filled array. -/
theorem read (h : Filled g L 8 0) {sig : RefSig} {κ : Kind} {sp : Space} (v : View sig κ sp Copies .f32) (r a n : ℕ) (inb)
    (hl : r = 0 ∨ a + n ≤ 280) (x) :
    v.readCov L (Rect.unit (s := Copies) ![r, a, 0] ![1, n, 512] inb).toLoadRect x = at' g (r + (a + (x 1).val)) (x 2) := by
  have h0 : (x 0).val < 1 := (x 0).isLt
  have h1 : (x 1).val < n := (x 1).isLt
  have hr : r + 1 ≤ 8 := inb 0
  rw [View.readCov_eq_canon']
  show View.canon L ((Rect.unit (s := Copies) ![r, a, 0] ![1, n, 512] inb).idx x) = _
  have e0 : ((Rect.unit (s := Copies) ![r, a, 0] ![1, n, 512] inb).idx x 0).val = r := by
    refine (Rect.idx_unit_val _ _ inb x 0).trans ?_
    show r + (x 0).val = r
    omega
  have e1 : ((Rect.unit (s := Copies) ![r, a, 0] ![1, n, 512] inb).idx x 1).val = a + (x 1).val := Rect.idx_unit_val _ _ inb x 1
  have e2 : (Rect.unit (s := Copies) ![r, a, 0] ![1, n, 512] inb).idx x 2 = x 2 := Fin.ext ((Rect.idx_unit_val _ _ inb x 2).trans (Nat.zero_add _))
  rw [h.canon_eq _ (.inl ⟨by omega, by omega⟩), e0, e1, e2]

theorem read' (h : Filled g L 8 0) {sig : RefSig} {κ : Kind} {sp : Space} (v : View sig κ sp Copies .f32) (r a : ℕ) (inb)
    (hl : r = 0 ∨ a + 32 ≤ 280) :
    v.readCov L (Rect.unit (s := Copies) ![r, a, 0] ![1, 32, 512] inb).toLoadRect = fun x => at' g (r + (a + (x 1).val)) (x 2) :=
  funext fun x => h.read v r a 32 inb hl x
end Filled

end Cert.Shifted

end
-- ==== Proof.LnGrad.lean ====
/-
  The gradient of the layer norm of a row of 512 entries followed by the gate `z · sigmoid z`, in the form the kernel
  computes (it projects off the mean and the normalised row) and in the form differentiation writes. For a real gradient and a
  real gain the two are one function of the row.
-/
module

public import Idealize.ShloMosaic.Lib.Pointwise
public import proofs.«01_k».proof.Proof.Norm

@[expose] public section

noncomputable section

open Idealize.ShloMosaic

namespace Cert.LnGrad

open Cert.NormGrad (coe_sum lit_half lit_eps)

/-- The mean of a row. -/
def mu (a : Fin 512 → EReal) : EReal := Ideal.div (∑ q, a q) (Ideal.ofBits .f32 0x44000000#32)

/-- A row's deviation from its mean. -/
def cen (a : Fin 512 → EReal) (q : Fin 512) : EReal := a q - mu a

/-- The variance plus the norm's small constant. -/
def var (a : Fin 512 → EReal) : EReal := mu (fun k => cen a k * cen a k) + Ideal.ofBits .f32 0x358637BD#32

/-- The normalised row. -/
def xh (a : Fin 512 → EReal) (q : Fin 512) : EReal := cen a q * Ideal.rsqrt (var a)

/-- The layer norm, with its gain and its shift. -/
def zed (a g b : Fin 512 → EReal) (q : Fin 512) : EReal := xh a q * g q + b q

def gate (z : EReal) : EReal := Ideal.div 1 (1 + Ideal.exp (-z))

/-- The gradient of the gate. -/
def dz (a d g b : Fin 512 → EReal) (q : Fin 512) : EReal :=
  d q * (gate (zed a g b q) * (1 + zed a g b q * (1 - gate (zed a g b q))))

/-- The gradient of the row, off the mean and the normalised row. -/
def du (a d g b : Fin 512 → EReal) (q : Fin 512) : EReal :=
  Ideal.rsqrt (var a) * (dz a d g b q * g q - mu (fun k => dz a d g b k * g k)
    - xh a q * mu (fun k => dz a d g b k * g k * xh a k))

/-- The gradient of the gate as differentiation writes it. -/
def dzD (a d g b : Fin 512 → EReal) (q : Fin 512) : EReal :=
  d q * gate (zed a g b q) + zed a g b q * d q * (gate (zed a g b q) * (1 - gate (zed a g b q)))

/-- The gradient through the deviation itself. -/
def thru (a o : Fin 512 → EReal) (q : Fin 512) : EReal := o q * Ideal.rsqrt (var a)

/-- The gradient through the variance. -/
def scale (a o : Fin 512 → EReal) (q : Fin 512) : EReal :=
  Ideal.div ((∑ k, cen a k * o k) * (Ideal.ofBits .f32 0xBF000000#32 * Ideal.div (Ideal.rsqrt (var a)) (var a))) (Ideal.ofBits .f32 0x44000000#32)
    * (Ideal.ofBits .f32 0x40000000#32 * cen a q)

/-- The gradient of the row as differentiation writes it: through the deviation, through the variance, and both again
    through the mean. -/
def duD (a o : Fin 512 → EReal) (q : Fin 512) : EReal :=
  thru a o q + scale a o q + Ideal.div ((∑ k, -thru a o k) + ∑ k, -scale a o k) (Ideal.ofBits .f32 0x44000000#32)

theorem lit_512 : Ideal.ofBits .f32 0x44000000#32 = ((512 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num

theorem mu_coe (a : Fin 512 → ℝ) : mu (fun k => (a k : EReal)) = (((∑ k, a k) * (1 / 512) : ℝ) : EReal) := by
  unfold mu
  rw [lit_512, Ideal.div_coe (by norm_num), EReal.coe_mul, coe_sum]

theorem cen_coe (a : Fin 512 → ℝ) (q : Fin 512) : cen (fun k => (a k : EReal)) q = ((a q - (∑ k, a k) * (1 / 512) : ℝ) : EReal) := by
  unfold cen
  rw [mu_coe, EReal.coe_sub]

theorem var_coe (a : Fin 512 → ℝ) : ∃ s : ℝ, 0 < s ∧ var (fun k => (a k : EReal)) = (s : EReal) := by
  obtain ⟨e, he, hee⟩ := lit_eps
  refine ⟨(∑ q, (a q - (∑ k, a k) * (1 / 512)) * (a q - (∑ k, a k) * (1 / 512))) * (1 / 512) + e, ?_, ?_⟩
  · have : 0 ≤ ∑ q, (a q - (∑ k, a k) * (1 / 512)) * (a q - (∑ k, a k) * (1 / 512)) := Finset.sum_nonneg fun k _ => mul_self_nonneg _
    positivity
  · unfold var
    rw [hee, show (fun k => cen (fun k => (a k : EReal)) k * cen (fun k => (a k : EReal)) k)
      = fun q => (((a q - (∑ k, a k) * (1 / 512)) * (a q - (∑ k, a k) * (1 / 512)) : ℝ) : EReal) from
      funext fun q => by rw [cen_coe, EReal.coe_mul], mu_coe, EReal.coe_add]

theorem rsqrt_var_coe (s : ℝ) (hs : 0 < s) : Ideal.rsqrt (s : EReal) = (((Real.sqrt s)⁻¹ : ℝ) : EReal) := by
  rw [Ideal.rsqrt_coe, if_neg hs.le.not_gt, if_neg hs.ne']

/-- The sigmoid of a real is a real. -/
theorem gate_coe (z : ℝ) : ∃ s : ℝ, gate (z : EReal) = (s : EReal) := by
  refine ⟨1 * (1 / (1 + Real.exp (-z))), ?_⟩
  have h : Ideal.exp (-(z : EReal)) = ((Real.exp (-z) : ℝ) : EReal) := rfl
  unfold gate
  rw [h, show (1 : EReal) + ((Real.exp (-z) : ℝ) : EReal) = ((1 + Real.exp (-z) : ℝ) : EReal) by rw [EReal.coe_add, EReal.coe_one],
    Ideal.div_coe (by positivity), EReal.coe_mul, EReal.coe_one]

theorem gate_top : gate ⊤ = 1 := by
  have h : Ideal.exp (-⊤) = 0 := rfl
  unfold gate
  rw [h, add_zero, ← EReal.coe_one, Ideal.div_coe one_ne_zero, ← EReal.coe_mul]
  norm_num

theorem gate_bot : gate ⊥ = 0 := by
  have h : Ideal.exp (-⊥) = ⊤ := rfl
  unfold gate
  rw [h, EReal.add_top_of_ne_bot (by decide)]
  unfold Ideal.div
  simp

theorem xh_coe (a : Fin 512 → ℝ) (q : Fin 512) : ∃ x : ℝ, xh (fun k => (a k : EReal)) q = (x : EReal) := by
  obtain ⟨s, hs, hv⟩ := var_coe a
  unfold xh
  rw [hv, rsqrt_var_coe s hs, cen_coe]
  exact ⟨_, by rw [← EReal.coe_mul]⟩

/-- Both forms of the gate's gradient are one real, whatever the shift `b`. -/
theorem dz_coe (a d g : Fin 512 → ℝ) (b : Fin 512 → EReal) (q : Fin 512) :
    ∃ y : ℝ, dz (fun k => (a k : EReal)) (fun k => (d k : EReal)) (fun k => (g k : EReal)) b q = (y : EReal)
      ∧ dzD (fun k => (a k : EReal)) (fun k => (d k : EReal)) (fun k => (g k : EReal)) b q = (y : EReal) := by
  obtain ⟨x, hx⟩ := xh_coe a q
  have hz : zed (fun k => (a k : EReal)) (fun k => (g k : EReal)) b q = ((x * g q : ℝ) : EReal) + b q := by
    unfold zed
    rw [hx, EReal.coe_mul]
  unfold dz dzD
  rw [hz]
  induction b q with
  | coe b =>
    rw [← EReal.coe_add]
    generalize x * g q + b = z
    obtain ⟨s, hs⟩ := gate_coe z
    refine ⟨d q * (s * (1 + z * (1 - s))), ?_, ?_⟩
    · rw [hs]
      norm_cast
    · rw [hs]
      have : d q * (s * (1 + z * (1 - s))) = d q * s + z * d q * (s * (1 - s)) := by ring
      rw [this]
      norm_cast
  | top =>
    have h0 : (1 : EReal) - 1 = 0 := by rw [← EReal.coe_one, ← EReal.coe_sub]; norm_num
    rw [EReal.coe_add_top, gate_top, h0]
    exact ⟨d q, by simp, by simp⟩
  | bot =>
    rw [EReal.add_bot, gate_bot]
    exact ⟨0, by simp, by simp⟩

/-- On real rows the gradient as the kernel computes it is the one differentiation writes. -/
theorem du_eq (a o : Fin 512 → ℝ) (q : Fin 512) :
    Ideal.rsqrt (var (fun k => (a k : EReal))) * ((o q : EReal) - mu (fun k => (o k : EReal))
      - xh (fun k => (a k : EReal)) q * mu (fun k => (o k : EReal) * xh (fun k => (a k : EReal)) k))
    = duD (fun k => (a k : EReal)) (fun k => (o k : EReal)) q := by
  obtain ⟨s, hs, hv⟩ := var_coe a
  have hs2 : 1 / s = (Real.sqrt s)⁻¹ * (Real.sqrt s)⁻¹ := by
    rw [← mul_inv, Real.mul_self_sqrt hs.le, one_div]
  have hc0 : ∑ k, (a k - (∑ k, a k) * (1 / 512)) = 0 := by
    rw [Finset.sum_sub_distrib, Finset.sum_const, Finset.card_univ, Fintype.card_fin]
    simp only [nsmul_eq_mul]
    push_cast
    ring
  unfold duD thru scale xh
  simp only [hv, rsqrt_var_coe s hs, cen_coe, lit_512, lit_2, lit_half, Ideal.div_coe hs.ne', hs2]
  generalize (Real.sqrt s)⁻¹ = r
  generalize hc : (fun k => a k - (∑ k, a k) * (1 / 512)) = c
  have hce : ∀ k, a k - (∑ k, a k) * (1 / 512) = c k := fun k => congrFun hc k
  simp only [hce] at hc0 ⊢
  simp only [← EReal.coe_mul, ← EReal.coe_neg, ← coe_sum, mu_coe, Ideal.div_coe (show (512 : ℝ) ≠ 0 by norm_num), ← EReal.coe_add, ← EReal.coe_sub]
  congr 1
  have e1 : ∑ k, o k * (c k * r) = (∑ k, c k * o k) * r := by
    rw [Finset.sum_mul]; exact Finset.sum_congr rfl fun k _ => by ring
  have e2 : ∑ k, -(o k * r) = -((∑ k, o k) * r) := by
    rw [Finset.sum_neg_distrib, Finset.sum_mul]
  have e3 : ∀ D : ℝ, ∑ k, -(D * (2 * c k)) = 0 := fun D => by
    rw [Finset.sum_neg_distrib, ← Finset.mul_sum, ← Finset.mul_sum, hc0]; ring
  rw [e1, e2, e3]
  ring

/-- A row with no infinite entry is a row of reals. -/
theorem real_row (a : Fin 512 → EReal) (h : ∀ k, ∃ r : ℝ, a k = (r : EReal)) : ∃ b : Fin 512 → ℝ, a = fun k => (b k : EReal) := by
  choose b hb using h
  exact ⟨b, funext hb⟩

/-- A row with an infinite entry has an infinite variance … -/
theorem var_top (a : Fin 512 → EReal) (h : ¬ ∀ k, ∃ r : ℝ, a k = (r : EReal)) : var a = ⊤ := by
  obtain ⟨e, he, hee⟩ := lit_eps
  push Not at h
  obtain ⟨k, hk⟩ := h
  have hc : cen a k = ⊤ ∨ cen a k = ⊥ := by
    unfold cen
    generalize mu a = s
    generalize a k = x at hk
    induction x with
    | coe r => exact absurd rfl (hk r)
    | bot => exact .inr (EReal.bot_sub s)
    | top =>
      induction s with
      | coe r => exact .inl (EReal.top_sub_coe r)
      | bot => exact .inl rfl
      | top => exact .inr rfl
  have hp : cen a k * cen a k = ⊤ := by
    obtain h | h := hc <;> rw [h] <;> rfl
  have hs : ∑ k, cen a k * cen a k = ⊤ := by
    refine top_le_iff.1 (hp ▸ Finset.single_le_sum (f := fun k => cen a k * cen a k) (fun k _ => Cert.NormGrad.mul_self_nonneg _) (Finset.mem_univ k))
  unfold var mu
  rw [hs, lit_512, Ideal.div_coe (by norm_num), hee, EReal.top_mul_coe_of_pos (by norm_num), EReal.top_add_coe]

/-- … and is normalised to zero. -/
theorem rsqrt_var_zero (a : Fin 512 → EReal) (h : ¬ ∀ k, ∃ r : ℝ, a k = (r : EReal)) : Ideal.rsqrt (var a) = 0 := by
  rw [var_top a h, Ideal.rsqrt_top]

/-- The norm of any row is the norm of a row of reals. -/
theorem zed_real (a g b : Fin 512 → EReal) : ∃ a' : Fin 512 → ℝ, zed a g b = zed (fun k => (a' k : EReal)) g b := by
  by_cases ha : ∀ k, ∃ r : ℝ, a k = (r : EReal)
  · obtain ⟨a', rfl⟩ := real_row a ha
    exact ⟨a', rfl⟩
  · refine ⟨fun _ => 0, funext fun q => ?_⟩
    unfold zed xh
    rw [rsqrt_var_zero a ha, mul_zero, cen_coe]
    simp

theorem dz_eq (a d g b : Fin 512 → EReal) (hd : ∀ k, ∃ r : ℝ, d k = (r : EReal))
    (hg : ∀ k, ∃ r : ℝ, g k = (r : EReal)) (q : Fin 512) : dz a d g b q = dzD a d g b q := by
  obtain ⟨d, rfl⟩ := real_row d hd
  obtain ⟨g, rfl⟩ := real_row g hg
  obtain ⟨a', ha⟩ := zed_real a (fun k => (g k : EReal)) b
  rw [show dz a _ _ b q = dz (fun k => (a' k : EReal)) _ _ b q by unfold dz; rw [ha],
    show dzD a _ _ b q = dzD (fun k => (a' k : EReal)) _ _ b q by unfold dzD; rw [ha]]
  obtain ⟨y, h1, h2⟩ := dz_coe a' d g b q
  rw [h1, h2]

theorem du_eq_duD (a d g b : Fin 512 → EReal) (hd : ∀ k, ∃ r : ℝ, d k = (r : EReal))
    (hg : ∀ k, ∃ r : ℝ, g k = (r : EReal)) (q : Fin 512) :
    du a d g b q = duD a (fun k => dzD a d g b k * g k) q := by
  by_cases ha : ∀ k, ∃ r : ℝ, a k = (r : EReal)
  swap
  · have h := rsqrt_var_zero a ha
    unfold du duD thru scale
    rw [h, var_top a ha, show Ideal.div 0 ⊤ = 0 by simp [Ideal.div]]
    simp only [zero_mul, mul_zero, lit_512, Ideal.div_coe (show (512 : ℝ) ≠ 0 by norm_num), neg_zero, Finset.sum_const_zero, add_zero]
  obtain ⟨a, rfl⟩ := real_row a ha
  obtain ⟨d, rfl⟩ := real_row d hd
  obtain ⟨g, rfl⟩ := real_row g hg
  choose y h1 h2 using dz_coe a d g b
  unfold du
  simp only [h1, h2, ← EReal.coe_mul]
  exact du_eq a (fun k => y k * g k) q

end Cert.LnGrad

end
-- ==== Proof.Fwd.ConvBwdRows.lean ====
/-
  What the gradient of the mixer's convolution does to thirty-two rows: the gate's and the norm's gradient, and the
  gated input, at an index.
-/
module

public import proofs.«01_k».proof.Defs
public import proofs.«01_k».proof.Proof.Gen.ConvBwdIdeal.Value
public import proofs.«01_k».proof.Proof.Shifted
public import proofs.«01_k».proof.Proof.LnGrad
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ConvBwdIdeal.Fwd

open Cert.ConvBwdIdeal Cert.ConvBwdIdeal.Gen Cert.Shifted Cert.LnGrad

/-- A value times the sigmoid of its gate. -/
def glu (v g : EReal) : EReal := v * Ideal.div 1 (1 + Ideal.exp (0 - g))

/-- The gated rows of a block below the halo's, which are nothing at the first block. -/
def rows (i : ℕ) (x0 : Vec Ideal S256x1024 .f32) (x1 : Vec Ideal S32x1024 .f32) (n : Fin 288) (q : Fin 512) : EReal :=
  if h : n.val < 32 then (if 0 < i then glu (x1 (ix2 ⟨n.val, h⟩ ⟨q.val, by omega⟩)) (x1 (ix2 ⟨n.val, h⟩ ⟨512 + q.val, by omega⟩)) else 0)
  else glu (x0 (ix2 ⟨n.val - 32, by omega⟩ ⟨q.val, by omega⟩)) (x0 (ix2 ⟨n.val - 32, by omega⟩ ⟨512 + q.val, by omega⟩))

/-- The gradient of the convolution's output in a block's rows and in the 32 rows after it, which count as nothing at the last block. -/
def rowsD (i : ℕ) (u : Vec Ideal S256x512 .f32) (un : Vec Ideal S32x512 .f32) (d : Vec Ideal S256x512 .f32) (dn : Vec Ideal S32x512 .f32)
    (g b : Vec Ideal S1x512 .f32) (n : Fin 288) (q : Fin 512) : EReal :=
  if h : n.val < 256 then du (fun q => u (ix2 ⟨n.val, h⟩ q)) (fun q => d (ix2 ⟨n.val, h⟩ q)) (fun q => g (ix2 0 q)) (fun q => b (ix2 0 q)) q
  else du (fun q => un (ix2 ⟨n.val - 256, by omega⟩ q)) (fun q => if i < 31 then dn (ix2 ⟨n.val - 256, by omega⟩ q) else 0) (fun q => g (ix2 0 q)) (fun q => b (ix2 0 q)) q

/-! ## What the kernel does to 32 rows -/

/-- The mean of each row. -/
def muV (v : FVec Ideal S32x512 .f32) : FVec Ideal S32x1 .f32 :=
  divf (shapeCast S32x1 (multiReduction .add [1] S32 v 0x00000000#32 reduces_S32x512_S32 (.inl rfl) rfl) shapeCasts_S32_S32x1)
    (broadcast S32x1 (Scalar.ofBits .f32 0x44000000#32))
/-- Each row off its mean. -/
def cenV (v : FVec Ideal S32x512 .f32) : FVec Ideal S32x512 .f32 := subf v (broadcastTo S32x512 (muV v) broadcasts_S32x1_S32x512)
/-- One over each row's deviation. -/
def rsV (v : FVec Ideal S32x512 .f32) : FVec Ideal S32x1 .f32 :=
  rsqrt (addf (muV (mulf (cenV v) (cenV v))) (broadcast S32x1 (Scalar.ofBits .f32 0x358637BD#32)))
/-- Each row normalised. -/
def xhV (v : FVec Ideal S32x512 .f32) : FVec Ideal S32x512 .f32 := mulf (cenV v) (broadcastTo S32x512 (rsV v) broadcasts_S32x1_S32x512)
/-- The layer norm. -/
def zedV (v : FVec Ideal S32x512 .f32) (g b : Vec Ideal S1x512 .f32) : FVec Ideal S32x512 .f32 :=
  addf (mulf (xhV v) (broadcastTo S32x512 (shapeCast S1x512 g shapeCasts_S1x512_S1x512) broadcasts_S1x512_S32x512))
    (broadcastTo S32x512 (shapeCast S1x512 b shapeCasts_S1x512_S1x512) broadcasts_S1x512_S32x512)
def sigV (z : FVec Ideal S32x512 .f32) : FVec Ideal S32x512 .f32 :=
  divf (broadcast S32x512 (Scalar.ofBits .f32 0x3F800000#32)) (addf (broadcast S32x512 (Scalar.ofBits .f32 0x3F800000#32)) (exp (subf (broadcast S32x512 (Scalar.ofBits .f32 0x00000000#32)) z)))
/-- The gate's gradient. -/
def dzV (v d : FVec Ideal S32x512 .f32) (g b : Vec Ideal S1x512 .f32) : FVec Ideal S32x512 .f32 :=
  mulf d (mulf (sigV (zedV v g b)) (addf (broadcast S32x512 (Scalar.ofBits .f32 0x3F800000#32))
    (mulf (zedV v g b) (subf (broadcast S32x512 (Scalar.ofBits .f32 0x3F800000#32)) (sigV (zedV v g b))))))
/-- The gate's gradient times the gain. -/
def oV (v d : FVec Ideal S32x512 .f32) (g b : Vec Ideal S1x512 .f32) : FVec Ideal S32x512 .f32 :=
  mulf (dzV v d g b) (broadcastTo S32x512 (shapeCast S1x512 g shapeCasts_S1x512_S1x512) broadcasts_S1x512_S32x512)
/-- The gradient of the rows. -/
def duV (v d : FVec Ideal S32x512 .f32) (g b : Vec Ideal S1x512 .f32) : FVec Ideal S32x512 .f32 :=
  mulf (broadcastTo S32x512 (rsV v) broadcasts_S32x1_S32x512)
    (subf (subf (oV v d g b) (broadcastTo S32x512 (muV (oV v d g b)) broadcasts_S32x1_S32x512))
      (mulf (xhV v) (broadcastTo S32x512 (muV (mulf (oV v d g b) (xhV v))) broadcasts_S32x1_S32x512)))

theorem muV_apply (v : FVec Ideal S32x512 .f32) (p : Fin 32) (z : Fin 1) : muV v (ix2 p z) = mu fun q => v (ix2 p q) := by
  unfold muV
  pointwise [mu]
theorem cenV_apply (v : FVec Ideal S32x512 .f32) (p : Fin 32) (q : Fin 512) : cenV v (ix2 p q) = cen (fun q => v (ix2 p q)) q := by
  unfold cenV
  pointwise [muV_apply, cen]
theorem rsV_apply (v : FVec Ideal S32x512 .f32) (p : Fin 32) (z : Fin 1) : rsV v (ix2 p z) = Ideal.rsqrt (var fun q => v (ix2 p q)) := by
  unfold rsV
  pointwise [muV_apply, cenV_apply, var]
theorem xhV_apply (v : FVec Ideal S32x512 .f32) (p : Fin 32) (q : Fin 512) : xhV v (ix2 p q) = xh (fun q => v (ix2 p q)) q := by
  unfold xhV
  pointwise [cenV_apply, rsV_apply, xh]
theorem zedV_apply (v : FVec Ideal S32x512 .f32) (g b : Vec Ideal S1x512 .f32) (p : Fin 32) (q : Fin 512) :
    zedV v g b (ix2 p q) = zed (fun q => v (ix2 p q)) (fun q => g (ix2 0 q)) (fun q => b (ix2 0 q)) q := by
  unfold zedV
  pointwise [xhV_apply, zed]
theorem sigV_apply (z : FVec Ideal S32x512 .f32) (p : Fin 32) (q : Fin 512) : sigV z (ix2 p q) = gate (z (ix2 p q)) := by
  unfold sigV
  pointwise [gate]
  rw [zero_sub]
theorem dzV_apply (v d : FVec Ideal S32x512 .f32) (g b : Vec Ideal S1x512 .f32) (p : Fin 32) (q : Fin 512) :
    dzV v d g b (ix2 p q) = dz (fun q => v (ix2 p q)) (fun q => d (ix2 p q)) (fun q => g (ix2 0 q)) (fun q => b (ix2 0 q)) q := by
  unfold dzV
  pointwise [sigV_apply, zedV_apply, dz]
theorem oV_apply (v d : FVec Ideal S32x512 .f32) (g b : Vec Ideal S1x512 .f32) (p : Fin 32) (q : Fin 512) :
    oV v d g b (ix2 p q) = dz (fun q => v (ix2 p q)) (fun q => d (ix2 p q)) (fun q => g (ix2 0 q)) (fun q => b (ix2 0 q)) q * g (ix2 0 q) := by
  unfold oV
  pointwise [dzV_apply]
theorem duV_apply (v d : FVec Ideal S32x512 .f32) (g b : Vec Ideal S1x512 .f32) (p : Fin 32) (q : Fin 512) :
    duV v d g b (ix2 p q) = du (fun q => v (ix2 p q)) (fun q => d (ix2 p q)) (fun q => g (ix2 0 q)) (fun q => b (ix2 0 q)) q := by
  unfold duV
  pointwise [muV_apply, rsV_apply, xhV_apply, oV_apply, du]

theorem cmp_gt (n : ℕ) (hn : n < 32) : Scalar.cmpi .sgt (BitVec.ofNat 32 n) 0#32 = if 0 < n then 1#1 else 0#1 := by
  revert n
  decide
theorem cmp_lt (n : ℕ) (hn : n < 32) : Scalar.cmpi .slt (BitVec.ofNat 32 n) 31#32 = if n < 31 then 1#1 else 0#1 := by
  revert n
  decide
theorem select_ite {α : Type} (p : Prop) [Decidable p] (a b : α) : Scalar.select (if p then 1#1 else 0#1) a b = if p then a else b := by
  split <;> rfl

theorem rows_halo (i : ℕ) (x0 : Vec Ideal S256x1024 .f32) (x1 : Vec Ideal S32x1024 .f32) (p : Fin 32) (q : Fin 512) :
    (if 0 < i then glu (x1 (ix2 p ⟨q.val, by omega⟩)) (x1 (ix2 p ⟨512 + q.val, by omega⟩)) else 0) = at' (rows i x0 x1) (0 + (0 + p.val)) q := by
  have e : 0 + (0 + p.val) = p.val := by omega
  unfold at' rows
  simp only [e]
  rw [dif_pos (by omega), dif_pos p.isLt]

theorem rows_main (i : ℕ) (x0 : Vec Ideal S256x1024 .f32) (x1 : Vec Ideal S32x1024 .f32) (a b : ℕ) (inb) (p : Fin 32) (q : Fin 512) (hb : b = a + 32) :
    glu (View.ld x0 (Rect.unit (s := S256x1024) ![a, 0] ![32, 1024] inb) (ix2 p ⟨q.val, by omega⟩))
        (View.ld x0 (Rect.unit (s := S256x1024) ![a, 0] ![32, 1024] inb) (ix2 p ⟨512 + q.val, by omega⟩))
      = at' (rows i x0 x1) (0 + (b + p.val)) q := by
  have ha : a + 32 ≤ 256 := inb 0
  have e : 0 + (b + p.val) - 32 = a + p.val := by omega
  unfold at' rows
  rw [dif_pos (by omega), dif_neg (by simp only; omega)]
  simp only [e]
  refine congrArg₂ glu ?_ ?_ <;>
    refine View.ld_unit_apply_of (S := S256x1024) x0 ![a, 0] ![32, 1024] inb _ _ fun k => ?_ <;> fin_cases k <;> simp

theorem castG (v d : FVec Ideal S32x512 .f32) (g b : Vec Ideal S1x512 .f32) (h) (x : S1x32x512.Idx) :
    (shapeCast S1x32x512 (duV v d g b) h : FVec Ideal S1x32x512 .f32) x
      = du (fun q => v (ix2 (x 1) q)) (fun q => d (ix2 (x 1) q)) (fun q => g (ix2 0 q)) (fun q => b (ix2 0 q)) (x 2) := by
  pointwise [duV_apply]

theorem rowsD_main (i : ℕ) (u : Vec Ideal S256x512 .f32) (un : Vec Ideal S32x512 .f32) (d : Vec Ideal S256x512 .f32) (dn : Vec Ideal S32x512 .f32)
    (g b : Vec Ideal S1x512 .f32) (a : ℕ) (inb) (p : Fin 32) (q : Fin 512) :
    du (fun q => View.ld u (Rect.unit (s := S256x512) ![a, 0] ![32, 512] inb) (ix2 p q))
        (fun q => View.ld d (Rect.unit (s := S256x512) ![a, 0] ![32, 512] inb) (ix2 p q)) (fun q => g (ix2 0 q)) (fun q => b (ix2 0 q)) q
      = at' (rowsD i u un d dn g b) (0 + (a + p.val)) q := by
  have ha : a + 32 ≤ 256 := inb 0
  have e : 0 + (a + p.val) = a + p.val := Nat.zero_add _
  unfold at' rowsD
  simp only [e]
  rw [dif_pos (by omega), dif_pos (by omega)]
  congr 1 <;> funext q <;>
    refine View.ld_unit_apply_of (S := S256x512) _ ![a, 0] ![32, 512] inb _ _ fun k => ?_ <;> fin_cases k <;> simp

theorem rowsD_halo (i : ℕ) (u : Vec Ideal S256x512 .f32) (un : Vec Ideal S32x512 .f32) (d : Vec Ideal S256x512 .f32) (dn : Vec Ideal S32x512 .f32)
    (g b : Vec Ideal S1x512 .f32) (p : Fin 32) (q : Fin 512) :
    du (fun q => un (ix2 p q)) (fun q => if i < 31 then dn (ix2 p q) else 0) (fun q => g (ix2 0 q)) (fun q => b (ix2 0 q)) q
      = at' (rowsD i u un d dn g b) (0 + (256 + p.val)) q := by
  have e : 0 + (256 + p.val) = 256 + p.val := Nat.zero_add _
  unfold at' rowsD
  simp only [e]
  rw [dif_pos (by omega), dif_neg (by omega)]
  simp only [Nat.add_sub_cancel_left]

theorem pay_64 (v : Vec Ideal S1x64x512 .f32) (a b x) : (shapeCast S1x64x512 (shapeCast S64x512 v a : FVec Ideal S64x512 .f32) b : FVec Ideal S1x64x512 .f32) x = v x := by pointwise []
theorem pay_24 (v : Vec Ideal S1x24x512 .f32) (a b x) : (shapeCast S1x24x512 (shapeCast S24x512 v a : FVec Ideal S24x512 .f32) b : FVec Ideal S1x24x512 .f32) x = v x := by pointwise []

variable (m : (ℓ : Loc nD τ sig) → Buf (Elt Ideal) ℓ)

def runA (c : Dev nD) (t : Fin cfg0.N) (hc0) :=
  kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) hc0
    (iblk m c 0 t) (iblk m c 1 t) (iblk m c 2 t) (iblk m c 3 t) (iblk m c 4 t) (iblk m c 5 t) (iblk m c 6 t) (iblk m c 7 t) (iblk m c 8 t)

def runB (c : Dev nD) (t : Fin cfg0.N) (hc0) (xo10 : Vec Ideal S32x512 .f32) (xo11 xo12 xo13 : Vec Ideal S1x512 .f32) :=
  kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) hc0
    (iblk m c 0 t) (iblk m c 1 t) (iblk m c 2 t) (iblk m c 3 t) (iblk m c 4 t) (iblk m c 5 t) (iblk m c 6 t) (iblk m c 7 t) (iblk m c 8 t) xo10 xo11 xo12 xo13

abbrev rowsU (c : Dev nD) (t : Fin cfg0.N) : Fin 288 → Fin 512 → EReal := rows ((grid0.coords t) 0).val (iblk m c 0 t) (iblk m c 1 t)
abbrev rowsG (c : Dev nD) (t : Fin cfg0.N) : Fin 288 → Fin 512 → EReal :=
  rowsD ((grid0.coords t) 0).val (iblk m c 2 t) (iblk m c 3 t) (iblk m c 4 t) (iblk m c 5 t) (iblk m c 7 t) (iblk m c 8 t)

set_option maxHeartbeats 1000000 in
theorem fillU_A (c : Dev nD) (t : Fin cfg0.N) (hc0) : Filled (rowsU m c t) (runA m c t hc0).2.2.2.2.2.1 8 0 := by
  unfold runA
  frame_out
  simp only [k0_pay173, k0_pay174, k0_pay175, k0_pay206, k0_pay207]
  iterate 7
    refine Filled.next ?_ (by decide)
    refine Filled.move ?_ _ _ _ _ _ (fun x => pay_24 _ _ _ x) rfl (by decide)
    iterate 4 refine Filled.move ?_ _ _ _ _ _ (fun x => pay_64 _ _ _ x) rfl (by decide)
  refine Filled.next0 ?_
  iterate 8 refine Filled.cons (n := 32) ?_ _ _ (fun x => ?_)
  refine Filled.cons (n := 32) (L := []) Filled.nil _ _ (fun x => ?_)
  · refine .trans ?_ (rows_halo _ _ _ _ _)
    open_payloads
    pointwise [glu]
    rw [cmp_gt _ (grid0.coords t 0).isLt, select_ite]
  all_goals
    refine .trans ?_ (rows_main _ _ _ _ _ (by decide) _ _ rfl)
    open_payloads
    pointwise [glu]

set_option maxHeartbeats 1000000 in
theorem fillG_A (c : Dev nD) (t : Fin cfg0.N) (hc0) : Filled (rowsG m c t) (runA m c t hc0).2.2.2.2.2.2.1 8 0 := by
  unfold runA
  frame_out
  iterate 7
    refine Filled.next ?_ (by decide)
    refine Filled.move ?_ _ _ _ _ _ (fun x => pay_24 _ _ _ x) rfl (by decide)
    iterate 4 refine Filled.move ?_ _ _ _ _ _ (fun x => pay_64 _ _ _ x) rfl (by decide)
  refine Filled.next0 ?_
  iterate 8 refine Filled.cons (n := 32) ?_ _ _ (fun x => ?_)
  refine Filled.cons (n := 32) (L := []) Filled.nil _ _ (fun x => ?_)
  rotate_right
  · open_payloads
    refine (show _ = shapeCast S1x32x512 (duV _ _ _ _) shapeCasts_S32x512_S1x32x512 x from rfl).trans ?_
    rw [castG]
    refine .trans ?_ (rowsD_halo _ _ _ _ _ _ _ _ _)
    congr 1
    funext q
    pointwise []
    rw [cmp_lt _ (grid0.coords t 0).isLt, select_ite]
  all_goals
    open_payloads
    refine (show _ = shapeCast S1x32x512 (duV _ _ _ _) shapeCasts_S32x512_S1x32x512 x from rfl).trans ?_
    rw [castG]
    exact rowsD_main _ _ _ _ _ _ _ _ _ _ _

set_option maxHeartbeats 1000000 in
theorem fillU_B (c : Dev nD) (t : Fin cfg0.N) (hc0) (o10 o11 o12 o13) : Filled (rowsU m c t) (runB m c t hc0 o10 o11 o12 o13).2.2.2.2.2.1 8 0 := by
  unfold runB
  frame_out
  simp only [k0_pay173, k0_pay174, k0_pay175, k0_pay206, k0_pay207]
  iterate 7
    refine Filled.next ?_ (by decide)
    refine Filled.move ?_ _ _ _ _ _ (fun x => pay_24 _ _ _ x) rfl (by decide)
    iterate 4 refine Filled.move ?_ _ _ _ _ _ (fun x => pay_64 _ _ _ x) rfl (by decide)
  refine Filled.next0 ?_
  iterate 8 refine Filled.cons (n := 32) ?_ _ _ (fun x => ?_)
  refine Filled.cons (n := 32) (L := []) Filled.nil _ _ (fun x => ?_)
  · refine .trans ?_ (rows_halo _ _ _ _ _)
    open_payloads
    pointwise [glu]
    rw [cmp_gt _ (grid0.coords t 0).isLt, select_ite]
  all_goals
    refine .trans ?_ (rows_main _ _ _ _ _ (by decide) _ _ rfl)
    open_payloads
    pointwise [glu]

set_option maxHeartbeats 1000000 in
theorem fillG_B (c : Dev nD) (t : Fin cfg0.N) (hc0) (o10 o11 o12 o13) : Filled (rowsG m c t) (runB m c t hc0 o10 o11 o12 o13).2.2.2.2.2.2.1 8 0 := by
  unfold runB
  frame_out
  iterate 7
    refine Filled.next ?_ (by decide)
    refine Filled.move ?_ _ _ _ _ _ (fun x => pay_24 _ _ _ x) rfl (by decide)
    iterate 4 refine Filled.move ?_ _ _ _ _ _ (fun x => pay_64 _ _ _ x) rfl (by decide)
  refine Filled.next0 ?_
  iterate 8 refine Filled.cons (n := 32) ?_ _ _ (fun x => ?_)
  refine Filled.cons (n := 32) (L := []) Filled.nil _ _ (fun x => ?_)
  rotate_right
  · open_payloads
    refine (show _ = shapeCast S1x32x512 (duV _ _ _ _) shapeCasts_S32x512_S1x32x512 x from rfl).trans ?_
    rw [castG]
    refine .trans ?_ (rowsD_halo _ _ _ _ _ _ _ _ _)
    congr 1
    funext q
    pointwise []
    rw [cmp_lt _ (grid0.coords t 0).isLt, select_ite]
  all_goals
    open_payloads
    refine (show _ = shapeCast S1x32x512 (duV _ _ _ _) shapeCasts_S32x512_S1x32x512 x from rfl).trans ?_
    rw [castG]
    exact rowsD_main _ _ _ _ _ _ _ _ _ _ _

end Cert.ConvBwdIdeal.Fwd

end
-- ==== Proof.Fwd.ConvBwdFold.lean ====
/-
  Sums over a block of 256 rows, taken eight by eight in chunks of thirty-two.
-/
module

public import proofs.«01_k».proof.Defs
public import proofs.«01_k».proof.Proof.Gen.ConvBwdIdeal.Value
public import proofs.«01_k».proof.Proof.Shifted
public import proofs.«01_k».proof.Proof.LnGrad
public import proofs.«01_k».proof.Proof.Fwd.ConvBwdRows
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ConvBwdIdeal.Fwd

open Cert.ConvBwdIdeal Cert.ConvBwdIdeal.Gen Cert.Shifted Cert.LnGrad

/-! ## Sums over a block's 256 rows, eight partial sums at a time -/

/-- The 32 rows folded onto eight. -/
def foldV (v : FVec Ideal S32x512 .f32) : FVec Ideal S8x512 .f32 :=
  addf (addf (addf (extractStridedSlice S8x512 ![0, 0] v slices_S32x512_o0_0_S8x512) (extractStridedSlice S8x512 ![8, 0] v slices_S32x512_o8_0_S8x512))
    (extractStridedSlice S8x512 ![16, 0] v slices_S32x512_o16_0_S8x512)) (extractStridedSlice S8x512 ![24, 0] v slices_S32x512_o24_0_S8x512)

/-- Eight chunks of 32 rows folded onto eight rows. -/
def accV (v0 v1 v2 v3 v4 v5 v6 v7 : FVec Ideal S32x512 .f32) : FVec Ideal S8x512 .f32 :=
  addf (addf (addf (addf (addf (addf (addf (addf (broadcast S8x512 (Scalar.ofBits .f32 0x00000000#32)) (foldV v0)) (foldV v1)) (foldV v2)) (foldV v3))
    (foldV v4)) (foldV v5)) (foldV v6)) (foldV v7)

/-- The eight rows summed onto what was there. -/
def rowV (acc : FVec Ideal S8x512 .f32) (prev : Vec Ideal S1x512 .f32) : FVec Ideal S1x512 .f32 :=
  addf (shapeCast S1x512 prev shapeCasts_S1x512_S1x512)
    (shapeCast S1x512 (multiReduction .add [0] S512 acc 0x00000000#32 reduces_S8x512_S512 (.inl rfl) rfl) shapeCasts_S512_S1x512)

theorem sum_blocks (g : ℕ → EReal) : ∀ n : ℕ, ∑ p ∈ Finset.range (8 * n), g p = ∑ i ∈ Finset.range n, ∑ s : Fin 8, g (8 * i + s.val)
  | 0 => by simp
  | n + 1 => by
    rw [Nat.mul_succ, Finset.sum_range_add, sum_blocks g n, Finset.sum_range_succ _ n]
    exact congrArg _ (Fin.sum_univ_eq_sum_range (fun s => g (8 * n + s)) 8).symm

theorem foldV_apply (v : FVec Ideal S32x512 .f32) (g : ℕ → EReal) (q : Fin 512) (a : ℕ) (h : ∀ p : Fin 32, v (ix2 p q) = g (a + p.val)) (s : Fin 8) :
    foldV v (ix2 s q) = g (a + s.val) + g (a + (8 + s.val)) + g (a + (16 + s.val)) + g (a + (24 + s.val)) := by
  unfold foldV
  pointwise []
  rw [h, h, h, h]

theorem rowV_acc (v0 v1 v2 v3 v4 v5 v6 v7 : FVec Ideal S32x512 .f32) (prev : Vec Ideal S1x512 .f32) (g : ℕ → EReal) (z : Fin 1) (q : Fin 512)
    (h0 : ∀ p : Fin 32, v0 (ix2 p q) = g (0 + p.val)) (h1 : ∀ p : Fin 32, v1 (ix2 p q) = g (32 + p.val))
    (h2 : ∀ p : Fin 32, v2 (ix2 p q) = g (64 + p.val)) (h3 : ∀ p : Fin 32, v3 (ix2 p q) = g (96 + p.val))
    (h4 : ∀ p : Fin 32, v4 (ix2 p q) = g (128 + p.val)) (h5 : ∀ p : Fin 32, v5 (ix2 p q) = g (160 + p.val))
    (h6 : ∀ p : Fin 32, v6 (ix2 p q) = g (192 + p.val)) (h7 : ∀ p : Fin 32, v7 (ix2 p q) = g (224 + p.val)) :
    rowV (accV v0 v1 v2 v3 v4 v5 v6 v7) prev (ix2 z q) = prev (ix2 0 q) + ∑ p : Fin 256, g p.val := by
  unfold rowV accV
  pointwise [foldV_apply _ g q _ h0, foldV_apply _ g q _ h1, foldV_apply _ g q _ h2, foldV_apply _ g q _ h3, foldV_apply _ g q _ h4,
    foldV_apply _ g q _ h5, foldV_apply _ g q _ h6, foldV_apply _ g q _ h7]
  rw [Fin.sum_univ_eq_sum_range (fun p => g p) 256, sum_blocks g 32]
  obtain rfl : z = 0 := Subsingleton.elim _ _
  simp only [Finset.sum_range_succ, Finset.sum_range_zero, Finset.sum_add_distrib, ← Nat.add_assoc, Nat.reduceAdd, Nat.reduceMul, Nat.zero_add,
    Nat.mul_zero, zero_add, add_assoc]

end Cert.ConvBwdIdeal.Fwd

end
-- ==== Proof.Fwd.ConvBwdSums.lean ====
/-
  What one block adds to the gradients of the norm's gain and shift and of the convolution's bias.
-/
module

public import proofs.«01_k».proof.Defs
public import proofs.«01_k».proof.Proof.Gen.ConvBwdIdeal.Value
public import proofs.«01_k».proof.Proof.Shifted
public import proofs.«01_k».proof.Proof.LnGrad
public import proofs.«01_k».proof.Proof.Fwd.ConvBwdFold
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ConvBwdIdeal.Fwd

open Cert.ConvBwdIdeal Cert.ConvBwdIdeal.Gen Cert.Shifted Cert.LnGrad

/-- Row `n` of a block. -/
def rowN (u : Vec Ideal S256x512 .f32) (n : ℕ) (q : Fin 512) : EReal := if h : n < 256 then u (ix2 ⟨n, h⟩ q) else 0

theorem ld_row (u : Vec Ideal S256x512 .f32) (a : ℕ) (inb) (p : Fin 32) :
    (fun q : Fin 512 => View.ld u (Rect.unit (s := S256x512) ![a, 0] ![32, 512] inb) (ix2 p q)) = rowN u (a + p.val) := by
  have ha : a + 32 ≤ 256 := inb 0
  funext q
  unfold rowN
  rw [dif_pos (by omega)]
  refine View.ld_unit_apply_of (S := S256x512) _ ![a, 0] ![32, 512] inb _ _ fun k => ?_
  fin_cases k <;> simp

theorem chunk_dz (u d : Vec Ideal S256x512 .f32) (g b : Vec Ideal S1x512 .f32) (q : Fin 512) (a : ℕ) (inb) (p : Fin 32) :
    dzV (View.ld u (Rect.unit (s := S256x512) ![a, 0] ![32, 512] inb)) (View.ld d (Rect.unit (s := S256x512) ![a, 0] ![32, 512] inb)) g b (ix2 p q)
      = dz (rowN u (a + p.val)) (rowN d (a + p.val)) (fun q => g (ix2 0 q)) (fun q => b (ix2 0 q)) q := by
  rw [dzV_apply, ld_row, ld_row]
theorem chunk_gg (u d : Vec Ideal S256x512 .f32) (g b : Vec Ideal S1x512 .f32) (q : Fin 512) (a : ℕ) (inb) (p : Fin 32) :
    mulf (dzV (View.ld u (Rect.unit (s := S256x512) ![a, 0] ![32, 512] inb)) (View.ld d (Rect.unit (s := S256x512) ![a, 0] ![32, 512] inb)) g b)
        (xhV (View.ld u (Rect.unit (s := S256x512) ![a, 0] ![32, 512] inb))) (ix2 p q)
      = dz (rowN u (a + p.val)) (rowN d (a + p.val)) (fun q => g (ix2 0 q)) (fun q => b (ix2 0 q)) q * xh (rowN u (a + p.val)) q := by
  refine (show _ = dzV _ _ g b (ix2 p q) * xhV _ (ix2 p q) from rfl).trans ?_
  rw [chunk_dz, xhV_apply, ld_row]
theorem chunk_du (u d : Vec Ideal S256x512 .f32) (g b : Vec Ideal S1x512 .f32) (q : Fin 512) (a : ℕ) (inb) (p : Fin 32) :
    duV (View.ld u (Rect.unit (s := S256x512) ![a, 0] ![32, 512] inb)) (View.ld d (Rect.unit (s := S256x512) ![a, 0] ![32, 512] inb)) g b (ix2 p q)
      = du (rowN u (a + p.val)) (rowN d (a + p.val)) (fun q => g (ix2 0 q)) (fun q => b (ix2 0 q)) q := by
  rw [duV_apply, ld_row, ld_row]

variable (m : (ℓ : Loc nD τ sig) → Buf (Elt Ideal) ℓ)

abbrev uR (c : Dev nD) (t : Fin cfg0.N) : ℕ → Fin 512 → EReal := rowN (iblk m c 2 t)
abbrev dR (c : Dev nD) (t : Fin cfg0.N) : ℕ → Fin 512 → EReal := rowN (iblk m c 4 t)
abbrev gR (c : Dev nD) (t : Fin cfg0.N) (q : Fin 512) : EReal := (iblk m c 7 t : Vec Ideal S1x512 .f32) (ix2 0 q)
abbrev bR (c : Dev nD) (t : Fin cfg0.N) (q : Fin 512) : EReal := (iblk m c 8 t : Vec Ideal S1x512 .f32) (ix2 0 q)

/-- What a point adds to the three sums over the rows. -/
def addBeta (c : Dev nD) (t : Fin cfg0.N) (q : Fin 512) : EReal := ∑ p : Fin 256, dz (uR m c t p.val) (dR m c t p.val) (gR m c t) (bR m c t) q
def addGain (c : Dev nD) (t : Fin cfg0.N) (q : Fin 512) : EReal :=
  ∑ p : Fin 256, dz (uR m c t p.val) (dR m c t p.val) (gR m c t) (bR m c t) q * xh (uR m c t p.val) q
def addBias (c : Dev nD) (t : Fin cfg0.N) (q : Fin 512) : EReal := ∑ p : Fin 256, du (uR m c t p.val) (dR m c t p.val) (gR m c t) (bR m c t) q

set_option maxHeartbeats 1000000 in
theorem blkBeta_A (c : Dev nD) (t : Fin cfg0.N) (h0 : t.val % 32 = 0) (z : Fin 1) (y1 : Fin 512) :
    (outsAt0 m c t.val t.isLt).2.2.2.2 (ix2 z y1) = 0 + addBeta m c t y1 := by
  rw [outsAt0_A m c t h0]
  frame_out
  open_payloads
  refine (show _ = rowV (accV (dzV _ _ _ _) (dzV _ _ _ _) (dzV _ _ _ _) (dzV _ _ _ _) (dzV _ _ _ _) (dzV _ _ _ _) (dzV _ _ _ _) (dzV _ _ _ _)) _ (ix2 z y1) from rfl).trans ?_
  rw [rowV_acc _ _ _ _ _ _ _ _ _ (fun p => dz (uR m c t p) (dR m c t p) (gR m c t) (bR m c t) y1) z y1 (chunk_dz _ _ _ _ _ 0 _) (chunk_dz _ _ _ _ _ 32 _) (chunk_dz _ _ _ _ _ 64 _)
    (chunk_dz _ _ _ _ _ 96 _) (chunk_dz _ _ _ _ _ 128 _) (chunk_dz _ _ _ _ _ 160 _) (chunk_dz _ _ _ _ _ 192 _) (chunk_dz _ _ _ _ _ 224 _)]
  unfold addBeta
  first | rfl | exact congrArg (· + _) (by pointwise [])

set_option maxHeartbeats 1000000 in
theorem blkBeta_B (c : Dev nD) (t : Fin cfg0.N) (h0 : ¬ t.val % 32 = 0) (z : Fin 1) (y1 : Fin 512) :
    (outsAt0 m c t.val t.isLt).2.2.2.2 (ix2 z y1) = (outsAt0 m c (t.val - 1) (by have := t.isLt; omega)).2.2.2.2 (ix2 0 y1) + addBeta m c t y1 := by
  rw [outsAt0_B m c t h0]
  frame_out
  open_payloads
  refine (show _ = rowV (accV (dzV _ _ _ _) (dzV _ _ _ _) (dzV _ _ _ _) (dzV _ _ _ _) (dzV _ _ _ _) (dzV _ _ _ _) (dzV _ _ _ _) (dzV _ _ _ _)) _ (ix2 z y1) from rfl).trans ?_
  rw [rowV_acc _ _ _ _ _ _ _ _ _ (fun p => dz (uR m c t p) (dR m c t p) (gR m c t) (bR m c t) y1) z y1 (chunk_dz _ _ _ _ _ 0 _) (chunk_dz _ _ _ _ _ 32 _) (chunk_dz _ _ _ _ _ 64 _)
    (chunk_dz _ _ _ _ _ 96 _) (chunk_dz _ _ _ _ _ 128 _) (chunk_dz _ _ _ _ _ 160 _) (chunk_dz _ _ _ _ _ 192 _) (chunk_dz _ _ _ _ _ 224 _)]
  unfold addBeta
  first | rfl | exact congrArg (· + _) (by pointwise [])

set_option maxHeartbeats 1000000 in
theorem blkGain_A (c : Dev nD) (t : Fin cfg0.N) (h0 : t.val % 32 = 0) (z : Fin 1) (y1 : Fin 512) :
    (outsAt0 m c t.val t.isLt).2.2.2.1 (ix2 z y1) = 0 + addGain m c t y1 := by
  rw [outsAt0_A m c t h0]
  frame_out
  open_payloads
  refine (show _ = rowV (accV (mulf (dzV _ _ _ _) (xhV _)) (mulf (dzV _ _ _ _) (xhV _)) (mulf (dzV _ _ _ _) (xhV _)) (mulf (dzV _ _ _ _) (xhV _)) (mulf (dzV _ _ _ _) (xhV _)) (mulf (dzV _ _ _ _) (xhV _)) (mulf (dzV _ _ _ _) (xhV _)) (mulf (dzV _ _ _ _) (xhV _))) _ (ix2 z y1) from rfl).trans ?_
  rw [rowV_acc _ _ _ _ _ _ _ _ _ (fun p => dz (uR m c t p) (dR m c t p) (gR m c t) (bR m c t) y1 * xh (uR m c t p) y1) z y1 (chunk_gg _ _ _ _ _ 0 _) (chunk_gg _ _ _ _ _ 32 _) (chunk_gg _ _ _ _ _ 64 _)
    (chunk_gg _ _ _ _ _ 96 _) (chunk_gg _ _ _ _ _ 128 _) (chunk_gg _ _ _ _ _ 160 _) (chunk_gg _ _ _ _ _ 192 _) (chunk_gg _ _ _ _ _ 224 _)]
  unfold addGain
  first | rfl | exact congrArg (· + _) (by pointwise [])

set_option maxHeartbeats 1000000 in
theorem blkGain_B (c : Dev nD) (t : Fin cfg0.N) (h0 : ¬ t.val % 32 = 0) (z : Fin 1) (y1 : Fin 512) :
    (outsAt0 m c t.val t.isLt).2.2.2.1 (ix2 z y1) = (outsAt0 m c (t.val - 1) (by have := t.isLt; omega)).2.2.2.1 (ix2 0 y1) + addGain m c t y1 := by
  rw [outsAt0_B m c t h0]
  frame_out
  open_payloads
  refine (show _ = rowV (accV (mulf (dzV _ _ _ _) (xhV _)) (mulf (dzV _ _ _ _) (xhV _)) (mulf (dzV _ _ _ _) (xhV _)) (mulf (dzV _ _ _ _) (xhV _)) (mulf (dzV _ _ _ _) (xhV _)) (mulf (dzV _ _ _ _) (xhV _)) (mulf (dzV _ _ _ _) (xhV _)) (mulf (dzV _ _ _ _) (xhV _))) _ (ix2 z y1) from rfl).trans ?_
  rw [rowV_acc _ _ _ _ _ _ _ _ _ (fun p => dz (uR m c t p) (dR m c t p) (gR m c t) (bR m c t) y1 * xh (uR m c t p) y1) z y1 (chunk_gg _ _ _ _ _ 0 _) (chunk_gg _ _ _ _ _ 32 _) (chunk_gg _ _ _ _ _ 64 _)
    (chunk_gg _ _ _ _ _ 96 _) (chunk_gg _ _ _ _ _ 128 _) (chunk_gg _ _ _ _ _ 160 _) (chunk_gg _ _ _ _ _ 192 _) (chunk_gg _ _ _ _ _ 224 _)]
  unfold addGain
  first | rfl | exact congrArg (· + _) (by pointwise [])

set_option maxHeartbeats 1000000 in
theorem blkBias_A (c : Dev nD) (t : Fin cfg0.N) (h0 : t.val % 32 = 0) (z : Fin 1) (y1 : Fin 512) :
    (outsAt0 m c t.val t.isLt).2.2.1 (ix2 z y1) = 0 + addBias m c t y1 := by
  rw [outsAt0_A m c t h0]
  frame_out
  open_payloads
  refine (show _ = rowV (accV (duV _ _ _ _) (duV _ _ _ _) (duV _ _ _ _) (duV _ _ _ _) (duV _ _ _ _) (duV _ _ _ _) (duV _ _ _ _) (duV _ _ _ _)) _ (ix2 z y1) from rfl).trans ?_
  rw [rowV_acc _ _ _ _ _ _ _ _ _ (fun p => du (uR m c t p) (dR m c t p) (gR m c t) (bR m c t) y1) z y1 (chunk_du _ _ _ _ _ 0 _) (chunk_du _ _ _ _ _ 32 _) (chunk_du _ _ _ _ _ 64 _)
    (chunk_du _ _ _ _ _ 96 _) (chunk_du _ _ _ _ _ 128 _) (chunk_du _ _ _ _ _ 160 _) (chunk_du _ _ _ _ _ 192 _) (chunk_du _ _ _ _ _ 224 _)]
  unfold addBias
  first | rfl | exact congrArg (· + _) (by pointwise [])

set_option maxHeartbeats 1000000 in
theorem blkBias_B (c : Dev nD) (t : Fin cfg0.N) (h0 : ¬ t.val % 32 = 0) (z : Fin 1) (y1 : Fin 512) :
    (outsAt0 m c t.val t.isLt).2.2.1 (ix2 z y1) = (outsAt0 m c (t.val - 1) (by have := t.isLt; omega)).2.2.1 (ix2 0 y1) + addBias m c t y1 := by
  rw [outsAt0_B m c t h0]
  frame_out
  open_payloads
  refine (show _ = rowV (accV (duV _ _ _ _) (duV _ _ _ _) (duV _ _ _ _) (duV _ _ _ _) (duV _ _ _ _) (duV _ _ _ _) (duV _ _ _ _) (duV _ _ _ _)) _ (ix2 z y1) from rfl).trans ?_
  rw [rowV_acc _ _ _ _ _ _ _ _ _ (fun p => du (uR m c t p) (dR m c t p) (gR m c t) (bR m c t) y1) z y1 (chunk_du _ _ _ _ _ 0 _) (chunk_du _ _ _ _ _ 32 _) (chunk_du _ _ _ _ _ 64 _)
    (chunk_du _ _ _ _ _ 96 _) (chunk_du _ _ _ _ _ 128 _) (chunk_du _ _ _ _ _ 160 _) (chunk_du _ _ _ _ _ 192 _) (chunk_du _ _ _ _ _ 224 _)]
  unfold addBias
  first | rfl | exact congrArg (· + _) (by pointwise [])

end Cert.ConvBwdIdeal.Fwd

end
-- ==== Proof.Fwd.ConvBwdTaps.lean ====
/-
  What one block adds to each row of the weight's gradient, and the array after all thirty-one rows.
-/
module

public import proofs.«01_k».proof.Defs
public import proofs.«01_k».proof.Proof.Gen.ConvBwdIdeal.Value
public import proofs.«01_k».proof.Proof.Shifted
public import proofs.«01_k».proof.Proof.LnGrad
public import proofs.«01_k».proof.Proof.Fwd.ConvBwdFold
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ConvBwdIdeal.Fwd

open Cert.ConvBwdIdeal Cert.ConvBwdIdeal.Gen Cert.Shifted Cert.LnGrad

/-! ## The gradient of the convolution's weights: one row of the array after the other -/

/-- The first `k` rows of `X` have `f` added to what `P` held; the others still hold `P`. -/
def Rows (f : ℕ → Fin 512 → EReal) (P X : Vec Ideal S32x512 .f32) (k : ℕ) : Prop :=
  ∀ (z : Fin 32) (q : Fin 512), X (ix2 z q) = if z.val < k then P (ix2 z q) + f z.val q else P (ix2 z q)

namespace Rows
variable {f : ℕ → Fin 512 → EReal} {P : Vec Ideal S32x512 .f32} {L : List (View.Piece (Elt Ideal) S32x512 .f32)} {k : ℕ}

theorem base (X : Vec Ideal S32x512 .f32) (h : X = P) : Rows f P X 0 := fun z q => by rw [h, if_neg (Nat.not_lt_zero _)]

/-- Storing row `k`, whatever the stores before it. -/
theorem store {X X' : Vec Ideal S32x512 .f32} (h : Rows f P X k) (inb) (w : (Rect.unit (s := S32x512) ![k, 0] ![1, 512] inb).shape.Idx → EReal)
    (hhit : ∀ x, X' ((Rect.unit (s := S32x512) ![k, 0] ![1, 512] inb).emb x) = w x)
    (hmiss : ∀ y, y ∉ (Rect.unit (s := S32x512) ![k, 0] ![1, 512] inb).set → X' y = X y)
    (hw : ∀ q, w (ix2 (0 : Fin 1) q) = P (ix2 ⟨k, (inb 0 : k + 1 ≤ 32)⟩ q) + f k q) : Rows f P X' (k + 1) := by
  intro z q
  by_cases hz : z.val = k
  · have e : (ix2 z q : S32x512.Idx) = (Rect.unit (s := S32x512) ![k, 0] ![1, 512] inb).emb (ix2 (0 : Fin 1) q) := by
      funext b
      refine Fin.ext (.trans ?_ (Rect.idx_unit_val _ _ inb (ix2 (0 : Fin 1) q) b).symm)
      fin_cases b
      · show z.val = k + 0
        omega
      · show q.val = 0 + q.val
        omega
    rw [if_pos (by omega)]
    refine (congrArg X' e).trans ((hhit _).trans ((hw q).trans ?_))
    obtain rfl : z = ⟨k, (inb 0 : k + 1 ≤ 32)⟩ := Fin.ext hz
    rfl
  · refine (hmiss _ fun hm => ?_).trans ((h z q).trans ?_)
    · have h0 := (Rect.mem_set_unit (inb := inb)).mp hm 0
      have h1 : k ≤ z.val := h0.1
      have h2 : z.val < k + 1 := h0.2
      omega
    · by_cases h1 : z.val < k
      · rw [if_pos h1, if_pos (by omega)]
      · rw [if_neg h1, if_neg (by omega)]
end Rows

/-- The product of two reads of 32 rows. -/
def prodV (x y : Vec Ideal S1x32x512 .f32) : FVec Ideal S32x512 .f32 :=
  mulf (shapeCast S32x512 x shapeCasts_S1x32x512_S32x512) (shapeCast S32x512 y shapeCasts_S1x32x512_S32x512)

/-- Thirty-two rows from the array of copies, as they are read. -/
abbrev tapV (g : Fin 288 → Fin 512 → EReal) (s a : ℕ) : Vec Ideal S1x32x512 .f32 := fun x => at' g (s + (a + (x 1).val)) (x 2)

theorem prodV_apply (g u : Fin 288 → Fin 512 → EReal) (s a b : ℕ) (p : Fin 32) (q : Fin 512) :
    prodV (tapV g 0 a) (tapV u s b) (ix2 p q) = at' g (a + p.val) q * at' u (s + b + p.val) q := by
  unfold prodV tapV
  pointwise []
  rw [Nat.add_assoc]

/-- What row `k` of the weights' gradient gets from a point. -/
def addRow (g u : Fin 288 → Fin 512 → EReal) (k : ℕ) (q : Fin 512) : EReal := ∑ p : Fin 256, at' g p.val q * at' u (k + 2 + p.val) q

theorem rowV_taps (g u : Fin 288 → Fin 512 → EReal) (prev : Vec Ideal S1x512 .f32) (k s b : ℕ) (h : s + b = k + 2) (z : Fin 1) (q : Fin 512) :
    rowV (accV (prodV (tapV g 0 0) (tapV u s b)) (prodV (tapV g 0 32) (tapV u s (b + 32))) (prodV (tapV g 0 64) (tapV u s (b + 64)))
      (prodV (tapV g 0 96) (tapV u s (b + 96))) (prodV (tapV g 0 128) (tapV u s (b + 128))) (prodV (tapV g 0 160) (tapV u s (b + 160)))
      (prodV (tapV g 0 192) (tapV u s (b + 192))) (prodV (tapV g 0 224) (tapV u s (b + 224)))) prev (ix2 z q)
    = prev (ix2 0 q) + addRow g u k q := by
  have hx : ∀ (a : ℕ) (p : Fin 32), prodV (tapV g 0 a) (tapV u s (b + a)) (ix2 p q) = at' g (a + p.val) q * at' u (k + 2 + (a + p.val)) q :=
    fun a p => (prodV_apply g u s a (b + a) p q).trans (congrArg (fun n => _ * at' u n q) (by omega))
  exact rowV_acc _ _ _ _ _ _ _ _ prev (fun n => at' g n q * at' u (k + 2 + n) q) z q (hx 0) (hx 32) (hx 64) (hx 96) (hx 128) (hx 160) (hx 192) (hx 224)

theorem Rows.stepA {g u : Fin 288 → Fin 512 → EReal} {P : Vec Ideal S32x512 .f32} {L : List (View.Piece (Elt Ideal) S32x512 .f32)} (k : ℕ)
    (h : Rows (addRow g u) P (View.canon L) k) (inb) (w : (Rect.unit (s := S32x512) ![k, 0] ![1, 512] inb).shape.Idx → EReal)
    {sg : RefSig} {κ : Kind} {sp : Space} (v : View sg κ sp S32x512 .f32)
    (hw : w = rowV (accV (prodV (tapV g 0 0) (tapV u ((k + 2) % 8) ((k + 2) / 8 * 8))) (prodV (tapV g 0 32) (tapV u ((k + 2) % 8) ((k + 2) / 8 * 8 + 32)))
      (prodV (tapV g 0 64) (tapV u ((k + 2) % 8) ((k + 2) / 8 * 8 + 64)))
      (prodV (tapV g 0 96) (tapV u ((k + 2) % 8) ((k + 2) / 8 * 8 + 96))) (prodV (tapV g 0 128) (tapV u ((k + 2) % 8) ((k + 2) / 8 * 8 + 128)))
      (prodV (tapV g 0 160) (tapV u ((k + 2) % 8) ((k + 2) / 8 * 8 + 160)))
      (prodV (tapV g 0 192) (tapV u ((k + 2) % 8) ((k + 2) / 8 * 8 + 192))) (prodV (tapV g 0 224) (tapV u ((k + 2) % 8) ((k + 2) / 8 * 8 + 224))))
      (v.readCov L (Rect.unit (s := S32x512) ![k, 0] ![1, 512] inb).toLoadRect)) :
    Rows (addRow g u) P (View.canon (⟨Rect.unit (s := S32x512) ![k, 0] ![1, 512] inb, w⟩ :: L)) (k + 1) := by
  refine h.store inb w (fun x => View.canon_cons_emb _ w L x) (fun y hy => View.canon_cons_of_not_mem _ L hy) fun q => ?_
  rw [hw, rowV_taps g u _ k _ _ (by omega)]
  refine congrArg (· + _) ?_
  rw [View.readCov_eq_canon']
  have e : (Rect.unit (s := S32x512) ![k, 0] ![1, 512] inb).idx (ix2 (0 : Fin 1) q) = ix2 ⟨k, (inb 0 : k + 1 ≤ 32)⟩ q := by
    funext b
    refine Fin.ext ((Rect.idx_unit_val _ _ inb (ix2 (0 : Fin 1) q) b).trans ?_)
    fin_cases b
    · show k + 0 = k
      omega
    · show 0 + q.val = q.val
      omega
  refine (show _ = View.canon L ((Rect.unit (s := S32x512) ![k, 0] ![1, 512] inb).idx (ix2 (0 : Fin 1) q)) from rfl).trans ?_
  exact (congrArg (View.canon L) e).trans ((h _ q).trans (if_neg (Nat.lt_irrefl _)))

theorem Rows.stepB {g u : Fin 288 → Fin 512 → EReal} {P : Vec Ideal S32x512 .f32} {L : List (View.Piece (Elt Ideal) S32x512 .f32)} (k : ℕ)
    {sg : RefSig} {κ : Kind} {sp : Space} (v : View sg κ sp S32x512 .f32) (c : v.ty.Contents (Elt Ideal))
    (h : Rows (addRow g u) P (View.read (Elt Ideal) v (v.writes (Elt Ideal) c L)) k) (inb)
    (w : (Rect.unit (s := S32x512) ![k, 0] ![1, 512] inb).shape.Idx → EReal)
    (hw : w = rowV (accV (prodV (tapV g 0 0) (tapV u ((k + 2) % 8) ((k + 2) / 8 * 8))) (prodV (tapV g 0 32) (tapV u ((k + 2) % 8) ((k + 2) / 8 * 8 + 32)))
      (prodV (tapV g 0 64) (tapV u ((k + 2) % 8) ((k + 2) / 8 * 8 + 64)))
      (prodV (tapV g 0 96) (tapV u ((k + 2) % 8) ((k + 2) / 8 * 8 + 96))) (prodV (tapV g 0 128) (tapV u ((k + 2) % 8) ((k + 2) / 8 * 8 + 128)))
      (prodV (tapV g 0 160) (tapV u ((k + 2) % 8) ((k + 2) / 8 * 8 + 160)))
      (prodV (tapV g 0 192) (tapV u ((k + 2) % 8) ((k + 2) / 8 * 8 + 192))) (prodV (tapV g 0 224) (tapV u ((k + 2) % 8) ((k + 2) / 8 * 8 + 224))))
      (View.ld P (Rect.unit (s := S32x512) ![k, 0] ![1, 512] inb))) :
    Rows (addRow g u) P (View.read (Elt Ideal) v (v.writes (Elt Ideal) c (⟨Rect.unit (s := S32x512) ![k, 0] ![1, 512] inb, w⟩ :: L))) (k + 1) := by
  refine h.store inb w (fun x => View.read_writes_cons_emb v c _ w L x) (fun y hy => View.read_writes_cons_miss v c _ L y hy) fun q => ?_
  rw [hw, rowV_taps g u _ k _ _ (by omega)]
  refine congrArg (· + _) ?_
  refine View.ld_unit_apply_of (S := S32x512) _ ![k, 0] ![1, 512] inb _ _ fun b => ?_
  fin_cases b <;> simp

variable (m : (ℓ : Loc nD τ sig) → Buf (Elt Ideal) ℓ)

set_option maxHeartbeats 2000000 in
theorem blkRow_A (c : Dev nD) (t : Fin cfg0.N) (h0 : t.val % 32 = 0) (z : Fin 32) (q : Fin 512) :
    (outsAt0 m c t.val t.isLt).2.1 (ix2 z q) = if z.val < 31 then 0 + addRow (rowsG m c t) (rowsU m c t) z.val q else 0 := by
  suffices hR : Rows (addRow (rowsG m c t) (rowsU m c t)) (broadcast S32x512 (Scalar.ofBits .f32 0x00000000#32) : FVec Ideal S32x512 .f32) (outsAt0 m c t.val t.isLt).2.1 31 by
    refine (hR z q).trans ?_
    pointwise []
  intro z q
  rw [outsAt0_A m c t h0]
  have hU := fillU_A m c t ((hcond0_0 t).mpr h0)
  have hG := fillG_A m c t ((hcond0_0 t).mpr h0)
  revert hU hG
  unfold runA
  frame_out
  intro hU hG
  simp (disch := first | with_reducible exact hU | with_reducible exact hG | decide) only [↓Filled.read' (g := rowsU m c t), ↓Filled.read' (g := rowsG m c t)]
  clear hU hG
  revert z q
  refine (show Rows _ _ (View.canon _) 31 from ?_)
  iterate 31 refine Rows.stepA _ ?_ _ _ (ms0_10 t).view (by exact rfl)
  refine Rows.base _ ?_
  exact View.canon_unit_zero (by decide) _ _

set_option maxHeartbeats 2000000 in
theorem blkRow_B (c : Dev nD) (t : Fin cfg0.N) (h0 : ¬ t.val % 32 = 0) (z : Fin 32) (q : Fin 512) :
    (outsAt0 m c t.val t.isLt).2.1 (ix2 z q) = if z.val < 31 then (outsAt0 m c (t.val - 1) (by have := t.isLt; omega)).2.1 (ix2 z q) + addRow (rowsG m c t) (rowsU m c t) z.val q else (outsAt0 m c (t.val - 1) (by have := t.isLt; omega)).2.1 (ix2 z q) := by
  suffices hR : Rows (addRow (rowsG m c t) (rowsU m c t)) (outsAt0 m c (t.val - 1) (by have := t.isLt; omega)).2.1 (outsAt0 m c t.val t.isLt).2.1 31 by
    exact hR z q

  intro z q
  rw [outsAt0_B m c t h0]
  have hU := fillU_B m c t (fun h => h0 ((hcond0_0 t).mp h)) (outsAt0 m c (t.val - 1) (by have := t.isLt; omega)).2.1 (outsAt0 m c (t.val - 1) (by have := t.isLt; omega)).2.2.1 (outsAt0 m c (t.val - 1) (by have := t.isLt; omega)).2.2.2.1 (outsAt0 m c (t.val - 1) (by have := t.isLt; omega)).2.2.2.2
  have hG := fillG_B m c t (fun h => h0 ((hcond0_0 t).mp h)) (outsAt0 m c (t.val - 1) (by have := t.isLt; omega)).2.1 (outsAt0 m c (t.val - 1) (by have := t.isLt; omega)).2.2.1 (outsAt0 m c (t.val - 1) (by have := t.isLt; omega)).2.2.2.1 (outsAt0 m c (t.val - 1) (by have := t.isLt; omega)).2.2.2.2
  revert hU hG
  unfold runB
  frame_out
  intro hU hG
  simp (disch := first | with_reducible exact hU | with_reducible exact hG | decide) only [↓Filled.read' (g := rowsU m c t), ↓Filled.read' (g := rowsG m c t)]
  clear hU hG
  revert z q
  refine (show Rows _ _ (View.read _ _ (View.writes _ _ _ _)) 31 from ?_)
  iterate 31 refine Rows.stepB _ _ _ ?_ _ _ (by exact rfl)
  refine Rows.base _ ?_
  exact Memref.IsWhole.read_unread _ _

end Cert.ConvBwdIdeal.Fwd

end
-- ==== Proof.Fwd.ConvBwdIn.lean ====
/-
  What one block writes of the input's gradient: thirty-one taps over the rows below, and the gate's gradient.
-/
module

public import proofs.«01_k».proof.Defs
public import proofs.«01_k».proof.Proof.Gen.ConvBwdIdeal.Value
public import proofs.«01_k».proof.Proof.Shifted
public import proofs.«01_k».proof.Proof.LnGrad
public import proofs.«01_k».proof.Proof.Fwd.ConvBwdFold
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ConvBwdIdeal.Fwd

open Cert.ConvBwdIdeal Cert.ConvBwdIdeal.Gen Cert.Shifted Cert.LnGrad

/-! ## The gradient of the gated input -/

theorem inbRow (k : ℕ) (h : k < 32) : ∀ a : Fin S32x512.rank, (![k, 0] : Fin 2 → ℕ) a + S1x512.size a ≤ S32x512.size a := by
  intro a
  fin_cases a
  · exact h
  · exact le_refl 512

/-- The first `n` products of a weight row and the rows it meets, added up one after the other. -/
def chainV (cw : Vec Ideal S32x512 .f32) (g : Fin 288 → Fin 512 → EReal) (a : ℕ) : (n : ℕ) → n ≤ 31 → FVec Ideal S32x512 .f32
  | 0, _ => broadcast S32x512 (Scalar.ofBits .f32 0x00000000#32)
  | n + 1, h => addf (chainV cw g a n (by omega)) (mulf
      (broadcastTo S32x512 (shapeCast S1x512 (View.ld cw (Rect.unit (s := S32x512) ![n, 0] S1x512.size (inbRow n (by omega))) : Vec Ideal S1x512 .f32) shapeCasts_S1x512_S1x512)
        broadcasts_S1x512_S32x512)
      (shapeCast S32x512 (fun x => at' g ((30 - n) % 8 + ((30 - n) / 8 * 8 + a + (x 1).val)) (x 2) : Vec Ideal S1x32x512 .f32) shapeCasts_S1x32x512_S32x512))

theorem chainV_apply (cw : Vec Ideal S32x512 .f32) (g : Fin 288 → Fin 512 → EReal) (a : ℕ) (p : Fin 32) (q : Fin 512) : ∀ (n : ℕ) (h : n ≤ 31),
    chainV cw g a n h (ix2 p q) = ∑ k : Fin n, cw (ix2 ⟨k.val, by omega⟩ q) * at' g (30 - k.val + (a + p.val)) q
  | 0, _ => by
    unfold chainV
    pointwise []
    exact (Finset.sum_empty).symm
  | n + 1, h => by
    rw [Fin.sum_univ_castSucc]
    refine .trans ?_ (congrArg (· + _) (chainV_apply cw g a p q n (by omega)))
    rw [chainV]
    have e : View.ld cw (Rect.unit (s := S32x512) ![n, 0] S1x512.size (inbRow n (by omega))) (ix2 0 q) = cw (ix2 ⟨n, by omega⟩ q) := by
      refine View.ld_unit_apply_of (S := S32x512) _ ![n, 0] S1x512.size (inbRow n (by omega)) _ _ fun b => ?_
      fin_cases b <;> simp
    generalize View.ld cw (Rect.unit (s := S32x512) ![n, 0] S1x512.size (inbRow n (by omega))) = r at e ⊢
    pointwise []
    rw [e]
    exact congrArg (fun n => _ + _ * at' g n q) (by have := Fin.val_last n; omega)

/-- The gate of 32 rows. -/
def gateV (s : Vec Ideal S32x512 .f32) : FVec Ideal S32x512 .f32 :=
  divf (broadcast S32x512 (Scalar.ofBits .f32 0x3F800000#32)) (addf (broadcast S32x512 (Scalar.ofBits .f32 0x3F800000#32)) (exp (subf (broadcast S32x512 (Scalar.ofBits .f32 0x00000000#32)) s)))

theorem gateV_apply (s : Vec Ideal S32x512 .f32) (y) : gateV s y = gate (s y) := by
  unfold gateV gate
  pointwise []
  rw [zero_sub]

/-- The gradient of the first half's values, and of the second half's. -/
def leftV (acc : FVec Ideal S32x512 .f32) (s : Vec Ideal S32x512 .f32) : FVec Ideal S32x512 .bf16 := truncf .bf16 (mulf acc (gateV s)) bitsLt_bf16_f32
def rightV (acc : FVec Ideal S32x512 .f32) (v s : Vec Ideal S32x512 .f32) : FVec Ideal S32x512 .bf16 :=
  truncf .bf16 (mulf (mulf (mulf acc v) (gateV s)) (subf (broadcast S32x512 (Scalar.ofBits .f32 0x3F800000#32)) (gateV s))) bitsLt_bf16_f32

/-- What reaches a gated row: every later row that read it, times its weight. -/
def back (cw : Vec Ideal S32x512 .f32) (g : Fin 288 → Fin 512 → EReal) (p : ℕ) (q : Fin 512) : EReal :=
  ∑ k : Fin 31, cw (ix2 ⟨k.val, by omega⟩ q) * at' g (30 - k.val + p) q

/-- The block of the gated input's gradient. -/
def daV (a : Vec Ideal S256x1024 .f32) (cw : Vec Ideal S32x512 .f32) (g : Fin 288 → Fin 512 → EReal) : Vec Ideal S256x1024 .bf16 := fun y =>
  if h : (y 1).val < 512 then back cw g (y 0).val ⟨(y 1).val, h⟩ * gate (a (ix2 (y 0) ⟨(y 1).val + 512, by omega⟩))
  else back cw g (y 0).val ⟨(y 1).val - 512, by have := (y 1).isLt; simp at this; omega⟩ * a (ix2 (y 0) ⟨(y 1).val - 512, by have := (y 1).isLt; simp at this; omega⟩)
    * gate (a (ix2 (y 0) (y 1))) * (1 - gate (a (ix2 (y 0) (y 1))))

theorem left_piece (a : Vec Ideal S256x1024 .f32) (cw : Vec Ideal S32x512 .f32) (g : Fin 288 → Fin 512 → EReal) (o : ℕ) (inb inb') (p : Fin 32) (q : Fin 512) :
    leftV (chainV cw g o 31 (le_refl 31)) (View.ld a (Rect.unit (s := S256x1024) ![o, 512] S32x512.size inb')) (ix2 p q)
      = daV a cw g ((Rect.unit (s := S256x1024) ![o, 0] S32x512.size inb).emb (ix2 p q)) := by
  have e0 : ((Rect.unit (s := S256x1024) ![o, 0] S32x512.size inb).emb (ix2 p q) 0).val = o + p.val := Rect.idx_unit_val _ _ inb (ix2 p q) 0
  have e1 : ((Rect.unit (s := S256x1024) ![o, 0] S32x512.size inb).emb (ix2 p q) 1).val = q.val := (Rect.idx_unit_val _ _ inb (ix2 p q) 1).trans (Nat.zero_add _)
  refine (show _ = chainV cw g o 31 (le_refl 31) (ix2 p q) * gateV (View.ld a (Rect.unit (s := S256x1024) ![o, 512] S32x512.size inb')) (ix2 p q) from rfl).trans ?_
  generalize (Rect.unit (s := S256x1024) ![o, 0] S32x512.size inb).emb (ix2 p q) = y at e0 e1 ⊢
  rw [gateV_apply, chainV_apply]
  unfold daV back
  rw [dif_pos (by omega)]
  have hq : (⟨(y 1).val, by omega⟩ : Fin 512) = q := Fin.ext e1
  rw [e0, hq]
  refine congrArg (fun s => _ * gate s) ?_
  refine View.ld_unit_apply_of (S := S256x1024) _ ![o, 512] S32x512.size inb' _ _ fun b => ?_
  fin_cases b
  · exact e0
  · show (y 1).val + 512 = 512 + q.val
    omega

theorem right_piece (a : Vec Ideal S256x1024 .f32) (cw : Vec Ideal S32x512 .f32) (g : Fin 288 → Fin 512 → EReal) (o : ℕ) (inb inb') (p : Fin 32) (q : Fin 512) :
    rightV (chainV cw g o 31 (le_refl 31)) (View.ld a (Rect.unit (s := S256x1024) ![o, 0] S32x512.size inb'))
        (View.ld a (Rect.unit (s := S256x1024) ![o, 512] S32x512.size inb)) (ix2 p q)
      = daV a cw g ((Rect.unit (s := S256x1024) ![o, 512] S32x512.size inb).emb (ix2 p q)) := by
  have e0 : ((Rect.unit (s := S256x1024) ![o, 512] S32x512.size inb).emb (ix2 p q) 0).val = o + p.val := Rect.idx_unit_val _ _ inb (ix2 p q) 0
  have e1 : ((Rect.unit (s := S256x1024) ![o, 512] S32x512.size inb).emb (ix2 p q) 1).val = 512 + q.val := Rect.idx_unit_val _ _ inb (ix2 p q) 1
  have hs : View.ld a (Rect.unit (s := S256x1024) ![o, 512] S32x512.size inb) (ix2 p q) = a ((Rect.unit (s := S256x1024) ![o, 512] S32x512.size inb).emb (ix2 p q)) := rfl
  refine (show _ = chainV cw g o 31 (le_refl 31) (ix2 p q) * View.ld a (Rect.unit (s := S256x1024) ![o, 0] S32x512.size inb') (ix2 p q)
    * gateV (View.ld a (Rect.unit (s := S256x1024) ![o, 512] S32x512.size inb)) (ix2 p q)
    * (Ideal.ofBits .f32 0x3F800000#32 - gateV (View.ld a (Rect.unit (s := S256x1024) ![o, 512] S32x512.size inb)) (ix2 p q)) from rfl).trans ?_
  rw [gateV_apply, chainV_apply, hs]
  generalize (Rect.unit (s := S256x1024) ![o, 512] S32x512.size inb).emb (ix2 p q) = y at e0 e1 ⊢
  unfold daV back
  rw [dif_neg (by omega)]
  have hq : (⟨(y 1).val - 512, by omega⟩ : Fin 512) = q := Fin.ext (by show (y 1).val - 512 = q.val; omega)
  have hy : (ix2 (y 0) (y 1) : S256x1024.Idx) = y := by
    funext b
    fin_cases b <;> rfl
  have h1 : Ideal.ofBits .f32 0x3F800000#32 = 1 := by pointwise []
  have hv : View.ld a (Rect.unit (s := S256x1024) ![o, 0] S32x512.size inb') (ix2 p q)
      = a (ix2 (y 0) ⟨(y 1).val - 512, by omega⟩) := by
    refine View.ld_unit_apply_of (S := S256x1024) _ ![o, 0] S32x512.size inb' _ _ fun b => ?_
    fin_cases b
    · exact e0
    · show (y 1).val - 512 = 0 + q.val
      omega
  rw [hv, hy, h1, e0, hq]

variable (m : (ℓ : Loc nD τ sig) → Buf (Elt Ideal) ℓ)

set_option maxHeartbeats 2000000 in
theorem blkIn_A (c : Dev nD) (t : Fin cfg0.N) (h0 : t.val % 32 = 0) :
    (outsAt0 m c t.val t.isLt).1 = daV (iblk m c 0 t) (iblk m c 6 t) (rowsG m c t) := by
  funext y
  rw [outsAt0_A m c t h0]
  have hU := fillU_A m c t ((hcond0_0 t).mpr h0)
  have hG := fillG_A m c t ((hcond0_0 t).mpr h0)
  revert hU hG
  unfold runA
  frame_out
  intro hU hG
  simp (disch := first | with_reducible exact hU | with_reducible exact hG | decide) only [↓Filled.read' (g := rowsU m c t), ↓Filled.read' (g := rowsG m c t)]
  clear hU hG
  refine View.canon_apply_of_pieces _ _ ?_ y (View.cover_of_tiledBy _ ![32, 512] (by sl_kernel_rfl) y)
  simp only [List.forall_mem_cons]
  refine ⟨?_, ?_, ?_, ?_, ?_, ?_, ?_, ?_, ?_, ?_, ?_, ?_, ?_, ?_, ?_, ?_, fun _ h => absurd h List.not_mem_nil⟩
  all_goals
    intro x
    idx_vars x
    first
      | refine .trans ?_ (right_piece _ _ _ _ _ (by decide) _ _); rfl
      | refine .trans ?_ (left_piece _ _ _ _ _ (by decide) _ _); rfl

set_option maxHeartbeats 2000000 in
theorem blkIn_B (c : Dev nD) (t : Fin cfg0.N) (h0 : ¬ t.val % 32 = 0) :
    (outsAt0 m c t.val t.isLt).1 = daV (iblk m c 0 t) (iblk m c 6 t) (rowsG m c t) := by
  funext y
  rw [outsAt0_B m c t h0]
  have hU := fillU_B m c t (fun h => h0 ((hcond0_0 t).mp h)) (outsAt0 m c (t.val - 1) (by have := t.isLt; omega)).2.1 (outsAt0 m c (t.val - 1) (by have := t.isLt; omega)).2.2.1 (outsAt0 m c (t.val - 1) (by have := t.isLt; omega)).2.2.2.1 (outsAt0 m c (t.val - 1) (by have := t.isLt; omega)).2.2.2.2
  have hG := fillG_B m c t (fun h => h0 ((hcond0_0 t).mp h)) (outsAt0 m c (t.val - 1) (by have := t.isLt; omega)).2.1 (outsAt0 m c (t.val - 1) (by have := t.isLt; omega)).2.2.1 (outsAt0 m c (t.val - 1) (by have := t.isLt; omega)).2.2.2.1 (outsAt0 m c (t.val - 1) (by have := t.isLt; omega)).2.2.2.2
  revert hU hG
  unfold runB
  frame_out
  intro hU hG
  simp (disch := first | with_reducible exact hU | with_reducible exact hG | decide) only [↓Filled.read' (g := rowsU m c t), ↓Filled.read' (g := rowsG m c t)]
  clear hU hG
  refine View.canon_apply_of_pieces _ _ ?_ y (View.cover_of_tiledBy _ ![32, 512] (by sl_kernel_rfl) y)
  simp only [List.forall_mem_cons]
  refine ⟨?_, ?_, ?_, ?_, ?_, ?_, ?_, ?_, ?_, ?_, ?_, ?_, ?_, ?_, ?_, ?_, fun _ h => absurd h List.not_mem_nil⟩
  all_goals
    intro x
    idx_vars x
    first
      | refine .trans ?_ (right_piece _ _ _ _ _ (by decide) _ _); rfl
      | refine .trans ?_ (left_piece _ _ _ _ _ (by decide) _ _); rfl

end Cert.ConvBwdIdeal.Fwd

end
-- ==== Proof.Fwd.ConvBwdArrays.lean ====
/-
  The five arrays after the whole grid.
-/
module

public import proofs.«01_k».proof.Defs
public import proofs.«01_k».proof.Proof.Gen.ConvBwdIdeal.Value
public import proofs.«01_k».proof.Proof.Shifted
public import proofs.«01_k».proof.Proof.LnGrad
public import proofs.«01_k».proof.Proof.Fwd.ConvBwdSums
public import proofs.«01_k».proof.Proof.Fwd.ConvBwdTaps
public import proofs.«01_k».proof.Proof.Fwd.ConvBwdIn
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ConvBwdIdeal.Fwd

open Cert.ConvBwdIdeal Cert.ConvBwdIdeal.Gen Cert.Shifted Cert.LnGrad

variable (m : (ℓ : Loc nD τ sig) → Buf (Elt Ideal) ℓ)

/-! ## The arrays -/

abbrev xA (c : Dev nD) : S8192x1024.Idx → EReal := m ((c : Thread nD τ).loc main_arg0)
abbrev uA (c : Dev nD) : S8192x512.Idx → EReal := m ((c : Thread nD τ).loc main_arg1)
abbrev dA (c : Dev nD) : S8192x1024.Idx → EReal := m ((c : Thread nD τ).loc main_arg2)
abbrev wA (c : Dev nD) : S31x512.Idx → EReal := m ((c : Thread nD τ).loc main_arg3)
abbrev gA (c : Dev nD) : S512.Idx → EReal := m ((c : Thread nD τ).loc main_arg4)
abbrev sA (c : Dev nD) : S512.Idx → EReal := m ((c : Thread nD τ).loc main_arg5)

/-- Row `n` of the convolution's output, of its gate's gradient, the gain and the shift. -/
def uRow (c : Dev nD) (n : ℕ) (q : Fin 512) : EReal := if h : n < 8192 then uA m c (ix2 ⟨n, h⟩ q) else 0
def dRow (c : Dev nD) (n : ℕ) (q : Fin 512) : EReal := if h : n < 8192 then dA m c (ix2 ⟨n, h⟩ ⟨q.val, by omega⟩) else 0
def gV (c : Dev nD) (q : Fin 512) : EReal := gA m c (ix1 q)
def sV (c : Dev nD) (q : Fin 512) : EReal := sA m c (ix1 q)

/-- The gradient at the gate's input, and at the convolution's output; zero beyond the last row. -/
def gradZ (c : Dev nD) (n : ℕ) (q : Fin 512) : EReal := dz (uRow m c n) (dRow m c n) (gV m c) (sV m c) q
def gradU (c : Dev nD) (n : ℕ) (q : Fin 512) : EReal := du (uRow m c n) (dRow m c n) (gV m c) (sV m c) q

/-- The gated rows below 30 rows of zeros. -/
def padded (c : Dev nD) (n : ℕ) (q : Fin 512) : EReal :=
  if h : 30 ≤ n ∧ n - 30 < 8192 then glu (xA m c (ix2 ⟨n - 30, h.2⟩ ⟨q.val, by omega⟩)) (xA m c (ix2 ⟨n - 30, h.2⟩ ⟨512 + q.val, by omega⟩)) else 0

/-- What reaches gated row `r`. -/
def backA (c : Dev nD) (r : ℕ) (q : Fin 512) : EReal := ∑ k : Fin 31, wA m c (ix2 k q) * gradU m c (30 - k.val + r) q

def resIn (c : Dev nD) : S8192x1024.Idx → EReal := fun y =>
  if h : (y 1).val < 512 then backA m c (y 0).val ⟨(y 1).val, h⟩ * gate (xA m c (ix2 (y 0) ⟨(y 1).val + 512, by omega⟩))
  else backA m c (y 0).val ⟨(y 1).val - 512, by have := (y 1).isLt; simp at this; omega⟩
      * xA m c (ix2 (y 0) ⟨(y 1).val - 512, by have := (y 1).isLt; simp at this; omega⟩)
    * gate (xA m c (ix2 (y 0) (y 1))) * (1 - gate (xA m c (ix2 (y 0) (y 1))))
def resW (c : Dev nD) : S32x512.Idx → EReal := fun y =>
  if (y 0).val < 31 then ∑ r : Fin 8192, gradU m c r.val (y 1) * padded m c ((y 0).val + r.val) (y 1) else 0
def resBias (c : Dev nD) : S1x512.Idx → EReal := fun y => ∑ r : Fin 8192, gradU m c r.val (y 1)
def resGain (c : Dev nD) : S1x512.Idx → EReal := fun y => ∑ r : Fin 8192, gradZ m c r.val (y 1) * xh (uRow m c r.val) (y 1)
def resBeta (c : Dev nD) : S1x512.Idx → EReal := fun y => ∑ r : Fin 8192, gradZ m c r.val (y 1)

/-- No gradient of the gate, no gradient of the row. -/
theorem du_zero (a g b : Fin 512 → EReal) (q : Fin 512) : du a (fun _ => 0) g b q = 0 := by
  have h : mu (fun _ => 0) = 0 := by
    unfold mu
    rw [Finset.sum_const_zero, lit_512, Ideal.div_coe (by norm_num), zero_mul]
  unfold du dz
  simp only [zero_mul, h, mul_zero, sub_zero]

/-! ## The blocks of the arrays -/

theorem ix_0 : ∀ t : Fin cfg0.N, win0_0.index t = ![t.val, 0] := (by decide +kernel : ∀ t : Fin grid0.N, win0_0.index t = ![t.val, 0])
theorem ix_1 : ∀ t : Fin cfg0.N, win0_1.index t = ![t.val * 8 - 1, 0] := (by decide +kernel : ∀ t : Fin grid0.N, win0_1.index t = ![t.val * 8 - 1, 0])
theorem ix_2 : ∀ t : Fin cfg0.N, win0_2.index t = ![t.val, 0] := (by decide +kernel : ∀ t : Fin grid0.N, win0_2.index t = ![t.val, 0])
theorem ix_3 : ∀ t : Fin cfg0.N, win0_3.index t = ![min (t.val * 8 + 8) 255, 0] := (by decide +kernel : ∀ t : Fin grid0.N, win0_3.index t = ![min (t.val * 8 + 8) 255, 0])
theorem ix_4 : ∀ t : Fin cfg0.N, win0_4.index t = ![t.val, 0] := (by decide +kernel : ∀ t : Fin grid0.N, win0_4.index t = ![t.val, 0])
theorem ix_5 : ∀ t : Fin cfg0.N, win0_5.index t = ![min (t.val * 8 + 8) 255, 0] := (by decide +kernel : ∀ t : Fin grid0.N, win0_5.index t = ![min (t.val * 8 + 8) 255, 0])
theorem ix_6 : ∀ t : Fin cfg0.N, win0_6.index t = ![0, 0] := (by decide +kernel : ∀ t : Fin grid0.N, win0_6.index t = ![0, 0])
theorem ix_7 : ∀ t : Fin cfg0.N, win0_7.index t = ![0, 0] := (by decide +kernel : ∀ t : Fin grid0.N, win0_7.index t = ![0, 0])
theorem ix_8 : ∀ t : Fin cfg0.N, win0_8.index t = ![0, 0] := (by decide +kernel : ∀ t : Fin grid0.N, win0_8.index t = ![0, 0])
theorem ix_9 : ∀ t : Fin cfg0.N, win0_9.index t = ![t.val, 0] := (by decide +kernel : ∀ t : Fin grid0.N, win0_9.index t = ![t.val, 0])
theorem point : ∀ t : Fin cfg0.N, ((grid0.coords t) 0).val = t.val := (by decide +kernel : ∀ t : Fin grid0.N, ((grid0.coords t) 0).val = t.val)

/-- The last point. -/
abbrev tLast : Fin cfg0.N := ⟨31, by decide⟩

/-- Row `p` of the block of point `t`, in the array. -/
abbrev row (t : Fin cfg0.N) (p : Fin 256) : Fin 8192 :=
  ⟨t.val * 256 + p.val, by have := t.isLt; have h : cfg0.N = 32 := N_0; omega⟩

theorem blk_0 (c : Dev nD) (t : Fin cfg0.N) (p : Fin 256) (k : Fin 1024) :
    (iblk m c 0 t : Vec Ideal S256x1024 .f32) (ix2 p k) = xA m c (ix2 (row t p) k) := by
  blk_simp [iblk]
  rw [show V m c main_arg0 = m ((c : Thread nD τ).loc main_arg0) from V_main_arg0 m c]
  exact congrArg _ (by blk_ext [ix_0])

theorem blk_2 (c : Dev nD) (t : Fin cfg0.N) (p : Fin 256) (k : Fin 512) :
    (iblk m c 2 t : Vec Ideal S256x512 .f32) (ix2 p k) = uA m c (ix2 (row t p) k) := by
  blk_simp [iblk]
  rw [show V m c main_arg1 = m ((c : Thread nD τ).loc main_arg1) from V_main_arg1 m c]
  exact congrArg _ (by blk_ext [ix_2])

theorem blk_4 (c : Dev nD) (t : Fin cfg0.N) (p : Fin 256) (k : Fin 512) :
    (iblk m c 4 t : Vec Ideal S256x512 .f32) (ix2 p k) = dA m c (ix2 (row t p) ⟨k.val, by omega⟩) := by
  blk_simp [iblk]
  rw [show V m c main_arg2 = m ((c : Thread nD τ).loc main_arg2) from V_main_arg2 m c]
  exact congrArg _ (by blk_ext [ix_4])

theorem blk_1 (c : Dev nD) (t : Fin cfg0.N) (p : Fin 32) (k : Fin 1024) :
    (iblk m c 1 t : Vec Ideal S32x1024 .f32) (ix2 p k)
      = xA m c (ix2 ⟨(t.val * 8 - 1) * 32 + p.val, by have := t.isLt; have h : cfg0.N = 32 := N_0; omega⟩ k) := by
  blk_simp [iblk]
  rw [show V m c main_arg0 = m ((c : Thread nD τ).loc main_arg0) from V_main_arg0 m c]
  exact congrArg _ (by blk_ext [ix_1])

theorem blk_3 (c : Dev nD) (t : Fin cfg0.N) (p : Fin 32) (k : Fin 512) :
    (iblk m c 3 t : Vec Ideal S32x512 .f32) (ix2 p k)
      = uA m c (ix2 ⟨min (t.val * 8 + 8) 255 * 32 + p.val, by have := t.isLt; have h : cfg0.N = 32 := N_0; omega⟩ k) := by
  blk_simp [iblk]
  rw [show V m c main_arg1 = m ((c : Thread nD τ).loc main_arg1) from V_main_arg1 m c]
  exact congrArg _ (by blk_ext [ix_3])

theorem blk_5 (c : Dev nD) (t : Fin cfg0.N) (p : Fin 32) (k : Fin 512) :
    (iblk m c 5 t : Vec Ideal S32x512 .f32) (ix2 p k)
      = dA m c (ix2 ⟨min (t.val * 8 + 8) 255 * 32 + p.val, by have := t.isLt; have h : cfg0.N = 32 := N_0; omega⟩ ⟨k.val, by omega⟩) := by
  blk_simp [iblk]
  rw [show V m c main_arg2 = m ((c : Thread nD τ).loc main_arg2) from V_main_arg2 m c]
  exact congrArg _ (by blk_ext [ix_5])

set_option maxHeartbeats 1000000 in
theorem V_v0 (c : Dev nD) : V m c main_v0
    = (pad S32x512 ![0, 0] ![1, 0] ![0, 0] (wA m c) (sitofp (F := Ideal) .f32 (constantI S_ 32 0#32))
        pads_S31x512_S32x512_010_000 h_S_ : Vec Ideal S32x512 .f32) := by
  unfold V
  simp only [hostOps0, hostOps0_1, hostOps0_2, List.flatten_cons, List.flatten_nil, List.cons_append, List.nil_append, List.append_nil]
  after_results_simp
  rfl

set_option maxHeartbeats 1000000 in
theorem V_v1 (c : Dev nD) : V m c main_v1
    = (shapeCast S1x512 (m ((c : Thread nD τ).loc main_arg4) : Vec Ideal S512 .f32) shapeCasts_S512_S1x512 : Vec Ideal S1x512 .f32) := by
  unfold V
  simp only [hostOps0, hostOps0_1, hostOps0_2, List.flatten_cons, List.flatten_nil, List.cons_append, List.nil_append, List.append_nil]
  after_results_simp
  rfl

set_option maxHeartbeats 1000000 in
theorem V_v2 (c : Dev nD) : V m c main_v2
    = (shapeCast S1x512 (m ((c : Thread nD τ).loc main_arg5) : Vec Ideal S512 .f32) shapeCasts_S512_S1x512 : Vec Ideal S1x512 .f32) := by
  unfold V
  simp only [hostOps0, hostOps0_1, hostOps0_2, List.flatten_cons, List.flatten_nil, List.cons_append, List.nil_append, List.append_nil]
  after_results_simp
  rfl

theorem blk_6 (c : Dev nD) (t : Fin cfg0.N) (k : Fin 31) (q : Fin 512) :
    (iblk m c 6 t : Vec Ideal S32x512 .f32) (ix2 ⟨k.val, by omega⟩ q) = wA m c (ix2 k q) := by
  blk_simp [iblk]
  rw [show (win0_6.blk t).view.emb (ix2 (⟨k.val, by omega⟩ : Fin 32) q) = ix2 (⟨k.val, by omega⟩ : Fin 32) q by blk_ext [ix_6], V_v0 m c]
  pointwise []

theorem blk_7 (c : Dev nD) (t : Fin cfg0.N) (q : Fin 512) : (iblk m c 7 t : Vec Ideal S1x512 .f32) (ix2 (0 : Fin 1) q) = gV m c q := by
  blk_simp [iblk]
  rw [show (win0_7.blk t).view.emb (ix2 (0 : Fin 1) q) = ix2 (0 : Fin 1) q by blk_ext [ix_7], V_v1 m c]
  pointwise [gV]

theorem blk_8 (c : Dev nD) (t : Fin cfg0.N) (q : Fin 512) : (iblk m c 8 t : Vec Ideal S1x512 .f32) (ix2 (0 : Fin 1) q) = sV m c q := by
  blk_simp [iblk]
  rw [show (win0_8.blk t).view.emb (ix2 (0 : Fin 1) q) = ix2 (0 : Fin 1) q by blk_ext [ix_8], V_v2 m c]
  pointwise [sV]

theorem gR_eq (c : Dev nD) (t : Fin cfg0.N) : gR m c t = gV m c := funext fun q => blk_7 m c t q
theorem bR_eq (c : Dev nD) (t : Fin cfg0.N) : bR m c t = sV m c := funext fun q => blk_8 m c t q
theorem uR_eq (c : Dev nD) (t : Fin cfg0.N) (p : Fin 256) : uR m c t p.val = uRow m c (t.val * 256 + p.val) := by
  funext q
  unfold uR rowN uRow
  rw [dif_pos p.isLt, dif_pos (row t p).isLt]
  exact blk_2 m c t p q
theorem dR_eq (c : Dev nD) (t : Fin cfg0.N) (p : Fin 256) : dR m c t p.val = dRow m c (t.val * 256 + p.val) := by
  funext q
  unfold dR rowN dRow
  rw [dif_pos p.isLt, dif_pos (row t p).isLt]
  exact blk_4 m c t p q

/-- A row of the first scratch array is a padded row. -/
theorem rowsU_eq (c : Dev nD) (t : Fin cfg0.N) (n : ℕ) (hn : n < 286) (q : Fin 512) :
    at' (rowsU m c t) (2 + n) q = padded m c (n + t.val * 256) q := by
  have ht : t.val < 32 := t.isLt
  unfold at' rowsU rows padded
  rw [dif_pos (by omega), point]
  by_cases h32 : 2 + n < 32
  · rw [dif_pos h32]
    by_cases h0 : 0 < t.val
    · rw [if_pos h0, dif_pos (by omega), blk_1, blk_1]
      simp only [show (t.val * 8 - 1) * 32 + (2 + n) = n + t.val * 256 - 30 by omega]
    · rw [if_neg h0, dif_neg (by omega)]
  · rw [dif_neg h32, dif_pos (by omega), blk_0, blk_0]
    simp only [row, show t.val * 256 + (2 + n - 32) = n + t.val * 256 - 30 by omega]

/-- A row of the second is a row of the gradient. -/
theorem rowsG_eq (c : Dev nD) (t : Fin cfg0.N) (n : ℕ) (hn : n < 288) (q : Fin 512) :
    at' (rowsG m c t) n q = gradU m c (n + t.val * 256) q := by
  have ht : t.val < 32 := t.isLt
  have hg : (fun q : Fin 512 => (iblk m c 7 t : Vec Ideal S1x512 .f32) (ix2 0 q)) = gV m c := gR_eq m c t
  have hb : (fun q : Fin 512 => (iblk m c 8 t : Vec Ideal S1x512 .f32) (ix2 0 q)) = sV m c := bR_eq m c t
  unfold at' rowsG rowsD gradU
  rw [dif_pos hn, point, hg, hb]
  by_cases h : n < 256
  · rw [dif_pos h]
    refine congrArg₂ (fun a d => du a d _ _ q) (funext fun k => ?_) (funext fun k => ?_)
    · refine (blk_2 m c t _ k).trans ?_
      unfold uRow
      rw [dif_pos (by omega)]
      simp only [row, Nat.add_comm]
    · refine (blk_4 m c t _ k).trans ?_
      unfold dRow
      rw [dif_pos (by omega)]
      simp only [row, Nat.add_comm]
  · rw [dif_neg h]
    by_cases h31 : t.val < 31
    · refine congrArg₂ (fun a d => du a d _ _ q) (funext fun k => ?_) (funext fun k => ?_)
      · refine (blk_3 m c t _ k).trans ?_
        unfold uRow
        rw [dif_pos (by omega)]
        simp only [show min (t.val * 8 + 8) 255 * 32 + (n - 256) = n + t.val * 256 by omega]
      · rw [if_pos h31]
        refine (blk_5 m c t _ k).trans ?_
        unfold dRow
        rw [dif_pos (by omega)]
        simp only [show min (t.val * 8 + 8) 255 * 32 + (n - 256) = n + t.val * 256 by omega]
    · have e : dRow m c (n + t.val * 256) = fun _ => 0 := funext fun k => by
        unfold dRow
        rw [dif_neg (by omega)]
      rw [e, du_zero]
      simp only [if_neg h31, du_zero]

/-! ## The results -/

theorem addBeta_eq (c : Dev nD) (t : Fin cfg0.N) (q : Fin 512) :
    addBeta m c t q = ∑ p : Fin 256, (fun n : ℕ => gradZ m c n q) (t.val * 256 + p.val) := by
  unfold addBeta
  refine Finset.sum_congr rfl fun p _ => ?_
  rw [uR_eq, dR_eq, gR_eq, bR_eq]
  rfl

theorem lastBeta (c : Dev nD) (t : Fin cfg0.N) (ht : t.val + 1 = cfg0.N) (z : Fin 1) (q : Fin 512) :
    (outsAt0 m c t.val t.isLt).2.2.2.2 (ix2 z q) = resBeta m c (ix2 z q) := by
  have h := Pipeline.eq_sum_fin_of_reset_step_apply_last (N := cfg0.N) (fun n hn (j : Fin 1 × Fin 512) => (outsAt0 m c n hn).2.2.2.2 (ix2 j.1 j.2))
    32 (fun _ => (0 : EReal)) (fun t j => addBeta m c t j.2)
    (fun t h0 j => blkBeta_A m c t h0 j.1 j.2)
    (fun t h0 j => by
      obtain ⟨j0, j1⟩ := j
      obtain rfl : j0 = 0 := Subsingleton.elim _ _
      exact blkBeta_B m c t h0 0 j1)
    (le_of_eq N_0) t ht (z, q)
  refine h.trans ?_
  rw [zero_add]
  simp only [addBeta_eq]
  exact Fin.sum_mul_add_congr (S := 32) (n := 256) (fun _ _ _ => rfl)

theorem arr_13 (c : Dev nD) : (dats m 0 c).arrAt 13 cfg0.N = resBeta m c := by
  refine (dats m 0 c).arrAt_eq_of_after_last 13 tLast (by decide +kernel) _ fun j => ?_
  blk_simp
  rw [after0_13]
  idx_vars j
  exact lastBeta m c tLast N_0.symm j0 j1

theorem addGain_eq (c : Dev nD) (t : Fin cfg0.N) (q : Fin 512) :
    addGain m c t q = ∑ p : Fin 256, (fun n : ℕ => gradZ m c n q * xh (uRow m c n) q) (t.val * 256 + p.val) := by
  unfold addGain
  refine Finset.sum_congr rfl fun p _ => ?_
  rw [uR_eq, dR_eq, gR_eq, bR_eq]
  rfl

theorem lastGain (c : Dev nD) (t : Fin cfg0.N) (ht : t.val + 1 = cfg0.N) (z : Fin 1) (q : Fin 512) :
    (outsAt0 m c t.val t.isLt).2.2.2.1 (ix2 z q) = resGain m c (ix2 z q) := by
  have h := Pipeline.eq_sum_fin_of_reset_step_apply_last (N := cfg0.N) (fun n hn (j : Fin 1 × Fin 512) => (outsAt0 m c n hn).2.2.2.1 (ix2 j.1 j.2))
    32 (fun _ => (0 : EReal)) (fun t j => addGain m c t j.2)
    (fun t h0 j => blkGain_A m c t h0 j.1 j.2)
    (fun t h0 j => by
      obtain ⟨j0, j1⟩ := j
      obtain rfl : j0 = 0 := Subsingleton.elim _ _
      exact blkGain_B m c t h0 0 j1)
    (le_of_eq N_0) t ht (z, q)
  refine h.trans ?_
  rw [zero_add]
  simp only [addGain_eq]
  exact Fin.sum_mul_add_congr (S := 32) (n := 256) (fun _ _ _ => rfl)

theorem arr_12 (c : Dev nD) : (dats m 0 c).arrAt 12 cfg0.N = resGain m c := by
  refine (dats m 0 c).arrAt_eq_of_after_last 12 tLast (by decide +kernel) _ fun j => ?_
  blk_simp
  rw [after0_12]
  idx_vars j
  exact lastGain m c tLast N_0.symm j0 j1

theorem addBias_eq (c : Dev nD) (t : Fin cfg0.N) (q : Fin 512) :
    addBias m c t q = ∑ p : Fin 256, (fun n : ℕ => gradU m c n q) (t.val * 256 + p.val) := by
  unfold addBias
  refine Finset.sum_congr rfl fun p _ => ?_
  rw [uR_eq, dR_eq, gR_eq, bR_eq]
  rfl

theorem lastBias (c : Dev nD) (t : Fin cfg0.N) (ht : t.val + 1 = cfg0.N) (z : Fin 1) (q : Fin 512) :
    (outsAt0 m c t.val t.isLt).2.2.1 (ix2 z q) = resBias m c (ix2 z q) := by
  have h := Pipeline.eq_sum_fin_of_reset_step_apply_last (N := cfg0.N) (fun n hn (j : Fin 1 × Fin 512) => (outsAt0 m c n hn).2.2.1 (ix2 j.1 j.2))
    32 (fun _ => (0 : EReal)) (fun t j => addBias m c t j.2)
    (fun t h0 j => blkBias_A m c t h0 j.1 j.2)
    (fun t h0 j => by
      obtain ⟨j0, j1⟩ := j
      obtain rfl : j0 = 0 := Subsingleton.elim _ _
      exact blkBias_B m c t h0 0 j1)
    (le_of_eq N_0) t ht (z, q)
  refine h.trans ?_
  rw [zero_add]
  simp only [addBias_eq]
  exact Fin.sum_mul_add_congr (S := 32) (n := 256) (fun _ _ _ => rfl)

theorem arr_11 (c : Dev nD) : (dats m 0 c).arrAt 11 cfg0.N = resBias m c := by
  refine (dats m 0 c).arrAt_eq_of_after_last 11 tLast (by decide +kernel) _ fun j => ?_
  blk_simp
  rw [after0_11]
  idx_vars j
  exact lastBias m c tLast N_0.symm j0 j1

theorem addRow_eq (c : Dev nD) (t : Fin cfg0.N) (k : ℕ) (hk : k < 31) (q : Fin 512) :
    addRow (rowsG m c t) (rowsU m c t) k q
      = ∑ p : Fin 256, (fun n : ℕ => gradU m c n q * padded m c (k + n) q) (t.val * 256 + p.val) := by
  unfold addRow
  refine Finset.sum_congr rfl fun p _ => ?_
  rw [rowsG_eq m c t _ (by omega), show k + 2 + p.val = 2 + (k + p.val) by omega, rowsU_eq m c t _ (by omega),
    Nat.add_comm p.val, Nat.add_assoc, Nat.add_comm p.val]

/-- The row of padding of the weights' gradient gets nothing. -/
def addW (c : Dev nD) (t : Fin cfg0.N) (k : Fin 32) (q : Fin 512) : EReal := if k.val < 31 then addRow (rowsG m c t) (rowsU m c t) k.val q else 0

theorem lastW (c : Dev nD) (t : Fin cfg0.N) (ht : t.val + 1 = cfg0.N) (z : Fin 32) (q : Fin 512) :
    (outsAt0 m c t.val t.isLt).2.1 (ix2 z q) = resW m c (ix2 z q) := by
  have h := Pipeline.eq_sum_fin_of_reset_step_apply_last (N := cfg0.N) (fun n hn (j : Fin 32 × Fin 512) => (outsAt0 m c n hn).2.1 (ix2 j.1 j.2))
    32 (fun _ => (0 : EReal)) (fun t j => addW m c t j.1 j.2)
    (fun t h0 j => (blkRow_A m c t h0 j.1 j.2).trans (by unfold addW; split <;> simp))
    (fun t h0 j => (blkRow_B m c t h0 j.1 j.2).trans (by unfold addW; split <;> simp))
    (le_of_eq N_0) t ht (z, q)
  refine h.trans ?_
  rw [zero_add]
  unfold addW
  show _ = if z.val < 31 then ∑ r : Fin 8192, gradU m c r.val q * padded m c (z.val + r.val) q else 0
  by_cases hz : z.val < 31
  · simp only [if_pos hz, addRow_eq m c _ z.val hz]
    exact Fin.sum_mul_add_congr (S := 32) (n := 256) (fun _ _ _ => rfl)
  · simp only [if_neg hz, Finset.sum_const_zero]

theorem arr_10 (c : Dev nD) : (dats m 0 c).arrAt 10 cfg0.N = resW m c := by
  refine (dats m 0 c).arrAt_eq_of_after_last 10 tLast (by decide +kernel) _ fun j => ?_
  blk_simp
  rw [after0_10]
  idx_vars j
  exact lastW m c tLast N_0.symm j0 j1

theorem back_eq (c : Dev nD) (t : Fin cfg0.N) (p : Fin 256) (q : Fin 512) :
    back (iblk m c 6 t) (rowsG m c t) p.val q = backA m c (row t p).val q := by
  unfold back backA
  refine Finset.sum_congr rfl fun k _ => ?_
  rw [rowsG_eq m c t _ (by omega), show 30 - k.val + p.val + t.val * 256 = 30 - k.val + (row t p).val by simp only [row]; omega]
  exact congrArg (· * _) (blk_6 m c t k q)

theorem arr_9 (c : Dev nD) : (dats m 0 c).arrAt 9 cfg0.N = resIn m c := by
  refine (dats m 0 c).arrAt_eq_of_covers 9 _ (by decide +kernel) fun t hf y => ?_
  blk_simp
  rw [after0_9]
  idx_vars y
  rw [show (win0_9.blk t).view.emb (ix2 y0 y1) = ix2 (row t y0) y1 by blk_ext [ix_9]]
  have h : (outsAt0 m c t.val t.isLt).1 = daV (iblk m c 0 t) (iblk m c 6 t) (rowsG m c t) := by
    by_cases h0 : t.val % 32 = 0
    · exact blkIn_A m c t h0
    · exact blkIn_B m c t h0
  refine (congrFun h (ix2 y0 y1)).trans ?_
  have hx : ∀ k, (iblk m c 0 t : Vec Ideal S256x1024 .f32) (ix2 y0 k) = xA m c (ix2 (row t y0) k) := blk_0 m c t y0
  have hb := back_eq m c t y0
  unfold daV resIn
  by_cases hy : y1.val < 512
  · refine (dif_pos hy).trans (.trans ?_ (dif_pos hy).symm)
    exact congrArg₂ (fun b x => b * gate x) (hb _) (hx _)
  · refine (dif_neg hy).trans (.trans ?_ (dif_neg hy).symm)
    exact congrArg₂ (fun b s => b * gate s * (1 - gate s)) (congrArg₂ (· * ·) (hb _) (hx _)) (hx _)

end Cert.ConvBwdIdeal.Fwd

end
-- ==== Proof.Fwd.ConvBwd.lean ====
/-
  The reference's gradient of the mixer's convolution, and its equality with the kernel's five results.
-/
module

public import proofs.«01_k».proof.Defs
public import proofs.«01_k».proof.Proof.Gen.ConvBwdIdeal.Value
public import proofs.«01_k».proof.Proof.Shifted
public import proofs.«01_k».proof.Proof.LnGrad
public import proofs.«01_k».proof.Proof.Fwd.ConvBwdArrays
public import proofs.«01_k».proof.Proof.Gen.ConvBwdRefIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ConvBwdIdeal.Fwd

open Cert.ConvBwdIdeal Cert.ConvBwdIdeal.Gen Cert.Shifted Cert.LnGrad

/-! ## The reference's gate and norm -/

variable (m : (ℓ : Loc nD τ sig) → Buf (Elt Ideal) ℓ)

theorem uRow_fin (c : Dev nD) (r : Fin 8192) : uRow m c r.val = fun q => uA m c (ix2 r q) := by
  funext q
  unfold uRow
  rw [dif_pos r.isLt]
theorem dRow_fin (c : Dev nD) (r : Fin 8192) (q : Fin 512) : dRow m c r.val q = dA m c (ix2 r ⟨q.val, by omega⟩) := by
  unfold dRow
  rw [dif_pos r.isLt]

/-- The row that reaches the norm, as differentiation writes it. -/
def oRow (c : Dev nD) (n : ℕ) (q : Fin 512) : EReal := dzD (uRow m c n) (dRow m c n) (gV m c) (sV m c) q * gV m c q

theorem ref_mu (c : Dev nD) (V0) (e1 : V0 (Proc.devRef .tc ConvBwdRefIdeal.main_arg1) = uA m c) (r : Fin 8192) (z : Fin 1) :
    (ConvBwdRefIdeal.Value.res_main_v3 (F := Ideal) V0 : FVec Ideal ConvBwdRefIdeal.S8192x1 .f32) (ix2 r z) = mu (uRow m c r.val) := by
  unfold ConvBwdRefIdeal.Value.res_main_v3
  rw [e1]
  pointwise [mu, uRow_fin]

theorem ref_cen5 (c : Dev nD) (V0) (e1 : V0 (Proc.devRef .tc ConvBwdRefIdeal.main_arg1) = uA m c) (r : Fin 8192) (q : Fin 512) :
    (ConvBwdRefIdeal.Value.res_main_v5 (F := Ideal) V0 : FVec Ideal ConvBwdRefIdeal.S8192x512 .f32) (ix2 r q) = cen (uRow m c r.val) q := by
  have hmu := ref_mu m c V0 e1
  unfold ConvBwdRefIdeal.Value.res_main_v5
  generalize ConvBwdRefIdeal.Value.res_main_v3 V0 = Vmu at hmu ⊢
  rw [e1]
  pointwise [hmu, cen, uRow_fin]

theorem ref_cen (c : Dev nD) (V0) (e1 : V0 (Proc.devRef .tc ConvBwdRefIdeal.main_arg1) = uA m c) (r : Fin 8192) (q : Fin 512) :
    (ConvBwdRefIdeal.Value.res_main_v14 (F := Ideal) V0 : FVec Ideal ConvBwdRefIdeal.S8192x512 .f32) (ix2 r q) = cen (uRow m c r.val) q := by
  have hmu := ref_mu m c V0 e1
  unfold ConvBwdRefIdeal.Value.res_main_v14
  generalize ConvBwdRefIdeal.Value.res_main_v3 V0 = Vmu at hmu ⊢
  rw [e1]
  pointwise [hmu, cen, uRow_fin]

theorem ref_var (c : Dev nD) (V0) (e1 : V0 (Proc.devRef .tc ConvBwdRefIdeal.main_arg1) = uA m c) (r : Fin 8192) (z : Fin 1) :
    (ConvBwdRefIdeal.Value.res_main_v16 (F := Ideal) V0 : FVec Ideal ConvBwdRefIdeal.S8192x1 .f32) (ix2 r z) = var (uRow m c r.val) := by
  have hcen5 := ref_cen5 m c V0 e1
  unfold ConvBwdRefIdeal.Value.res_main_v16
  generalize ConvBwdRefIdeal.Value.res_main_v5 V0 = Vcen5 at hcen5 ⊢
  pointwise [hcen5, var, mu]

theorem ref_rs (c : Dev nD) (V0) (e1 : V0 (Proc.devRef .tc ConvBwdRefIdeal.main_arg1) = uA m c) (r : Fin 8192) (z : Fin 1) :
    (ConvBwdRefIdeal.Value.res_main_v17 (F := Ideal) V0 : FVec Ideal ConvBwdRefIdeal.S8192x1 .f32) (ix2 r z) = Ideal.rsqrt (var (uRow m c r.val)) := by
  have hvar := ref_var m c V0 e1
  unfold ConvBwdRefIdeal.Value.res_main_v17
  generalize ConvBwdRefIdeal.Value.res_main_v16 V0 = Vvar at hvar ⊢
  pointwise [hvar]

theorem ref_xh (c : Dev nD) (V0) (e1 : V0 (Proc.devRef .tc ConvBwdRefIdeal.main_arg1) = uA m c) (r : Fin 8192) (q : Fin 512) :
    (ConvBwdRefIdeal.Value.res_main_v22 (F := Ideal) V0 : FVec Ideal ConvBwdRefIdeal.S8192x512 .f32) (ix2 r q) = xh (uRow m c r.val) q := by
  have hcen := ref_cen m c V0 e1
  have hrs := ref_rs m c V0 e1
  unfold ConvBwdRefIdeal.Value.res_main_v22
  generalize ConvBwdRefIdeal.Value.res_main_v14 V0 = Vcen at hcen ⊢
  generalize ConvBwdRefIdeal.Value.res_main_v17 V0 = Vrs at hrs ⊢
  pointwise [hcen, hrs, xh]

theorem ref_g (c : Dev nD) (V0) (e4 : V0 (Proc.devRef .tc ConvBwdRefIdeal.main_arg4) = gA m c) (z : Fin 1) (q : Fin 512) :
    (ConvBwdRefIdeal.Value.res_main_v23 (F := Ideal) V0 : FVec Ideal ConvBwdRefIdeal.S1x512 .f32) (ix2 z q) = gV m c q := by
  unfold ConvBwdRefIdeal.Value.res_main_v23
  rw [e4]
  pointwise [gV]

theorem ref_zed (c : Dev nD) (V0) (e1 : V0 (Proc.devRef .tc ConvBwdRefIdeal.main_arg1) = uA m c) (e4 : V0 (Proc.devRef .tc ConvBwdRefIdeal.main_arg4) = gA m c) (e5 : V0 (Proc.devRef .tc ConvBwdRefIdeal.main_arg5) = sA m c) (r : Fin 8192) (q : Fin 512) :
    (ConvBwdRefIdeal.Value.res_main_v28 (F := Ideal) V0 : FVec Ideal ConvBwdRefIdeal.S8192x512 .f32) (ix2 r q) = zed (uRow m c r.val) (gV m c) (sV m c) q := by
  have hxh := ref_xh m c V0 e1
  have hg := ref_g m c V0 e4
  unfold ConvBwdRefIdeal.Value.res_main_v28
  generalize ConvBwdRefIdeal.Value.res_main_v22 V0 = Vxh at hxh ⊢
  generalize ConvBwdRefIdeal.Value.res_main_v23 V0 = Vg at hg ⊢
  rw [e5]
  pointwise [hxh, hg, zed, sV]

theorem ref_gate (c : Dev nD) (V0) (e1 : V0 (Proc.devRef .tc ConvBwdRefIdeal.main_arg1) = uA m c) (e4 : V0 (Proc.devRef .tc ConvBwdRefIdeal.main_arg4) = gA m c) (e5 : V0 (Proc.devRef .tc ConvBwdRefIdeal.main_arg5) = sA m c) (r : Fin 8192) (q : Fin 512) :
    (ConvBwdRefIdeal.Value.res_main_v29_2 (F := Ideal) V0 : FVec Ideal ConvBwdRefIdeal.S8192x512 .f32) (ix2 r q) = gate (zed (uRow m c r.val) (gV m c) (sV m c) q) := by
  have hzed := ref_zed m c V0 e1 e4 e5
  unfold ConvBwdRefIdeal.Value.res_main_v29_2
  generalize ConvBwdRefIdeal.Value.res_main_v28 V0 = Vzed at hzed ⊢
  pointwise [hzed, gate]

theorem ref_d (c : Dev nD) (V0) (e2 : V0 (Proc.devRef .tc ConvBwdRefIdeal.main_arg2) = dA m c) (r : Fin 8192) (q : Fin 512) :
    (ConvBwdRefIdeal.Value.res_main_v30 (F := Ideal) V0 : FVec Ideal ConvBwdRefIdeal.S8192x512 .f32) (ix2 r q) = dRow m c r.val q := by
  unfold ConvBwdRefIdeal.Value.res_main_v30
  rw [e2]
  pointwise [dRow_fin]

theorem ref_dz (c : Dev nD) (V0) (e1 : V0 (Proc.devRef .tc ConvBwdRefIdeal.main_arg1) = uA m c) (e2 : V0 (Proc.devRef .tc ConvBwdRefIdeal.main_arg2) = dA m c) (e4 : V0 (Proc.devRef .tc ConvBwdRefIdeal.main_arg4) = gA m c) (e5 : V0 (Proc.devRef .tc ConvBwdRefIdeal.main_arg5) = sA m c) (r : Fin 8192) (q : Fin 512) :
    (ConvBwdRefIdeal.Value.res_main_v31 (F := Ideal) V0 : FVec Ideal ConvBwdRefIdeal.S8192x512 .f32) (ix2 r q) = dzD (uRow m c r.val) (dRow m c r.val) (gV m c) (sV m c) q := by
  have hzed := ref_zed m c V0 e1 e4 e5
  have hgate := ref_gate m c V0 e1 e4 e5
  have hd := ref_d m c V0 e2
  unfold ConvBwdRefIdeal.Value.res_main_v31
  generalize ConvBwdRefIdeal.Value.res_main_v28 V0 = Vzed at hzed ⊢
  generalize ConvBwdRefIdeal.Value.res_main_v29_2 V0 = Vgate at hgate ⊢
  generalize ConvBwdRefIdeal.Value.res_main_v30 V0 = Vd at hd ⊢
  pointwise [hzed, hgate, hd, dzD]

theorem ref_o (c : Dev nD) (V0) (e1 : V0 (Proc.devRef .tc ConvBwdRefIdeal.main_arg1) = uA m c) (e2 : V0 (Proc.devRef .tc ConvBwdRefIdeal.main_arg2) = dA m c) (e4 : V0 (Proc.devRef .tc ConvBwdRefIdeal.main_arg4) = gA m c) (e5 : V0 (Proc.devRef .tc ConvBwdRefIdeal.main_arg5) = sA m c) (r : Fin 8192) (q : Fin 512) :
    (ConvBwdRefIdeal.Value.res_main_v39 (F := Ideal) V0 : FVec Ideal ConvBwdRefIdeal.S8192x512 .f32) (ix2 r q) = oRow m c r.val q := by
  have hdz := ref_dz m c V0 e1 e2 e4 e5
  have hg := ref_g m c V0 e4
  unfold ConvBwdRefIdeal.Value.res_main_v39
  generalize ConvBwdRefIdeal.Value.res_main_v31 V0 = Vdz at hdz ⊢
  generalize ConvBwdRefIdeal.Value.res_main_v23 V0 = Vg at hg ⊢
  pointwise [hdz, hg, oRow]

theorem ref_thru (c : Dev nD) (V0) (e1 : V0 (Proc.devRef .tc ConvBwdRefIdeal.main_arg1) = uA m c) (e2 : V0 (Proc.devRef .tc ConvBwdRefIdeal.main_arg2) = dA m c) (e4 : V0 (Proc.devRef .tc ConvBwdRefIdeal.main_arg4) = gA m c) (e5 : V0 (Proc.devRef .tc ConvBwdRefIdeal.main_arg5) = sA m c) (r : Fin 8192) (q : Fin 512) :
    (ConvBwdRefIdeal.Value.res_main_v45 (F := Ideal) V0 : FVec Ideal ConvBwdRefIdeal.S8192x512 .f32) (ix2 r q) = thru (uRow m c r.val) (oRow m c r.val) q := by
  have ho := ref_o m c V0 e1 e2 e4 e5
  have hrs := ref_rs m c V0 e1
  unfold ConvBwdRefIdeal.Value.res_main_v45
  generalize ConvBwdRefIdeal.Value.res_main_v39 V0 = Vo at ho ⊢
  generalize ConvBwdRefIdeal.Value.res_main_v17 V0 = Vrs at hrs ⊢
  pointwise [ho, hrs, thru]

theorem ref_scale (c : Dev nD) (V0) (e1 : V0 (Proc.devRef .tc ConvBwdRefIdeal.main_arg1) = uA m c) (e2 : V0 (Proc.devRef .tc ConvBwdRefIdeal.main_arg2) = dA m c) (e4 : V0 (Proc.devRef .tc ConvBwdRefIdeal.main_arg4) = gA m c) (e5 : V0 (Proc.devRef .tc ConvBwdRefIdeal.main_arg5) = sA m c) (r : Fin 8192) (q : Fin 512) :
    (ConvBwdRefIdeal.Value.res_main_v54 (F := Ideal) V0 : FVec Ideal ConvBwdRefIdeal.S8192x512 .f32) (ix2 r q) = scale (uRow m c r.val) (oRow m c r.val) q := by
  have hcen := ref_cen m c V0 e1
  have hcen5 := ref_cen5 m c V0 e1
  have ho := ref_o m c V0 e1 e2 e4 e5
  have hrs := ref_rs m c V0 e1
  have hvar := ref_var m c V0 e1
  unfold ConvBwdRefIdeal.Value.res_main_v54
  generalize ConvBwdRefIdeal.Value.res_main_v14 V0 = Vcen at hcen ⊢
  generalize ConvBwdRefIdeal.Value.res_main_v5 V0 = Vcen5 at hcen5 ⊢
  generalize ConvBwdRefIdeal.Value.res_main_v39 V0 = Vo at ho ⊢
  generalize ConvBwdRefIdeal.Value.res_main_v17 V0 = Vrs at hrs ⊢
  generalize ConvBwdRefIdeal.Value.res_main_v16 V0 = Vvar at hvar ⊢
  pointwise [hcen, hcen5, ho, hrs, hvar, scale]
  simp only [Fin.sum_univ_one]

theorem ref_du (c : Dev nD) (V0) (e1 : V0 (Proc.devRef .tc ConvBwdRefIdeal.main_arg1) = uA m c) (e2 : V0 (Proc.devRef .tc ConvBwdRefIdeal.main_arg2) = dA m c) (e4 : V0 (Proc.devRef .tc ConvBwdRefIdeal.main_arg4) = gA m c) (e5 : V0 (Proc.devRef .tc ConvBwdRefIdeal.main_arg5) = sA m c) (r : Fin 8192) (q : Fin 512) :
    (ConvBwdRefIdeal.Value.res_main_v64 (F := Ideal) V0 : FVec Ideal ConvBwdRefIdeal.S8192x512 .f32) (ix2 r q) = duD (uRow m c r.val) (oRow m c r.val) q := by
  have hthru := ref_thru m c V0 e1 e2 e4 e5
  have hscale := ref_scale m c V0 e1 e2 e4 e5
  unfold ConvBwdRefIdeal.Value.res_main_v64
  generalize ConvBwdRefIdeal.Value.res_main_v45 V0 = Vthru at hthru ⊢
  generalize ConvBwdRefIdeal.Value.res_main_v54 V0 = Vscale at hscale ⊢
  pointwise [hthru, hscale, duD]
  simp only [Fin.sum_univ_one]

theorem ref_padded (c : Dev nD) (V0) (e0 : V0 (Proc.devRef .tc ConvBwdRefIdeal.main_arg0) = xA m c) (n : Fin 8222) (q : Fin 512) :
    (ConvBwdRefIdeal.Value.res_main_v79 (F := Ideal) V0 : FVec Ideal ConvBwdRefIdeal.S8222x512 .f32) (ix2 n q) = padded m c n.val q := by
  unfold ConvBwdRefIdeal.Value.res_main_v79 ConvBwdRefIdeal.Value.res_main_v66 ConvBwdRefIdeal.Value.res_main_v73
  rw [e0]
  pointwise [padded, glu]
  simp [zero_sub, FloatOps.sitofp]
  have hn := n.isLt
  by_cases h : n.val < 30
  · rw [dif_pos h, dif_neg (by omega)]
  · rw [dif_neg h, dif_pos (by omega)]

/-! ## The taps -/

/-- One tap's term of the weight's gradient: a row put at its place among zeros. -/
theorem pad_row (k l : ℕ) (X : FVec Ideal ConvBwdRefIdeal.S512 .f32) (hb) (hp : ConvBwdRefIdeal.S1x512.Pads ![k, 0] ![l, 0] ![0, 0] ConvBwdRefIdeal.S31x512) (hz)
    (j : Fin 31) (q : Fin 512) :
    (pad ConvBwdRefIdeal.S31x512 ![k, 0] ![l, 0] ![0, 0] (broadcastInDim ConvBwdRefIdeal.S1x512 ![1] hb X) (constant ConvBwdRefIdeal.S_ .f32 0x00000000#32) hp hz
      : FVec Ideal ConvBwdRefIdeal.S31x512 .f32) (ix2 j q) = if j.val = k then X (ix1 q) else 0 := by
  pointwise
  by_cases h : j.val = k
  · rw [dif_pos (by omega), if_pos h]
  · rw [dif_neg (by omega), if_neg h]

/-- Sums over the rows of a product. -/
theorem sum_rows (X Y : FVec Ideal ConvBwdRefIdeal.S8192x512 .f32) (h1 : ConvBwdRefIdeal.S8192x512.ReducesTo [0] ConvBwdRefIdeal.S512) (h3 h4) (h5 : ConvBwdRefIdeal.S1x512.ReducesTo [0] ConvBwdRefIdeal.S512) (q : Fin 512) :
    (Host.reduceAdd (shapeCast ConvBwdRefIdeal.S1x512 (Host.reduceAdd (mulf X Y) (constant ConvBwdRefIdeal.S_ .f32 0x00000000#32) h1 h3) h4)
      (constant ConvBwdRefIdeal.S_ .f32 0x00000000#32) h5 h3 : FVec Ideal ConvBwdRefIdeal.S512 .f32) (ix1 q) = ∑ r : Fin 8192, X (ix2 r q) * Y (ix2 r q) := by
  pointwise
  simp only [Fin.sum_univ_one]

/-- One tap's term of the input's gradient: the rows put `k` rows down among zeros. -/
theorem pad_rows (k l : ℕ) (P : FVec Ideal ConvBwdRefIdeal.S8192x512 .f32) (W : FVec Ideal ConvBwdRefIdeal.S1x512 .f32) (hb)
    (hp : ConvBwdRefIdeal.S8192x512.Pads ![k, 0] ![l, 0] ![0, 0] ConvBwdRefIdeal.S8222x512) (hz) (n : Fin 8222) (q : Fin 512) :
    (pad ConvBwdRefIdeal.S8222x512 ![k, 0] ![l, 0] ![0, 0] (mulf P (broadcastInDim ConvBwdRefIdeal.S8192x512 ![0, 1] hb W)) (constant ConvBwdRefIdeal.S_ .f32 0x00000000#32) hp hz
      : FVec Ideal ConvBwdRefIdeal.S8222x512 .f32) (ix2 n q) = if h : k ≤ n.val ∧ n.val - k < 8192 then P (ix2 ⟨n.val - k, h.2⟩ q) * W (ix2 0 q) else 0 := by
  pointwise

/-- One tap's row of the weight. -/
theorem w_row (k : ℕ) (hk : k < 31) (W : FVec Ideal ConvBwdRefIdeal.S31x512 .f32) (hb) (hs : ConvBwdRefIdeal.S31x512.Slices ![k, 0] ConvBwdRefIdeal.S1x512) (hc) (q : Fin 512) :
    (broadcastInDim ConvBwdRefIdeal.S1x512 ![1] hb (shapeCast ConvBwdRefIdeal.S512 (extractStridedSlice ConvBwdRefIdeal.S1x512 ![k, 0] W hs) hc)
      : FVec Ideal ConvBwdRefIdeal.S1x512 .f32) (ix2 0 q) = W (ix2 ⟨k, hk⟩ q) := by
  pointwise

/-- One tap's rows of the gated input. -/
theorem rows_from (c : Dev nD) (k : ℕ) (hk : k < 31) (P : FVec Ideal ConvBwdRefIdeal.S8222x512 .f32) (hP : ∀ n q, P (ix2 n q) = padded m c n.val q)
    (hs : ConvBwdRefIdeal.S8222x512.Slices ![k, 0] ConvBwdRefIdeal.S8192x512) (r : Fin 8192) (q : Fin 512) :
    (extractStridedSlice ConvBwdRefIdeal.S8192x512 ![k, 0] P hs : FVec Ideal ConvBwdRefIdeal.S8192x512 .f32) (ix2 r q) = padded m c (k + r.val) q := by
  pointwise [hP]

theorem gradU_out (c : Dev nD) (n : ℕ) (hn : ¬ n < 8192) (q : Fin 512) : gradU m c n q = 0 := by
  unfold gradU
  rw [show dRow m c n = fun _ => 0 from funext fun k => by unfold dRow; rw [dif_neg hn]]
  exact du_zero _ _ _ _

/-- One tap's term of the input's gradient, at a row of the input. -/
theorem back_term (c : Dev nD) (k l : ℕ) (hk : k < 31) (P : FVec Ideal ConvBwdRefIdeal.S8192x512 .f32) (hP : ∀ r q, P (ix2 r q) = gradU m c r.val q)
    (W : FVec Ideal ConvBwdRefIdeal.S1x512 .f32) (hb) (hp : ConvBwdRefIdeal.S8192x512.Pads ![k, 0] ![l, 0] ![0, 0] ConvBwdRefIdeal.S8222x512) (hz) (r : Fin 8192) (q : Fin 512) :
    (pad ConvBwdRefIdeal.S8222x512 ![k, 0] ![l, 0] ![0, 0] (mulf P (broadcastInDim ConvBwdRefIdeal.S8192x512 ![0, 1] hb W)) (constant ConvBwdRefIdeal.S_ .f32 0x00000000#32) hp hz
      : FVec Ideal ConvBwdRefIdeal.S8222x512 .f32) (ix2 ⟨30 + r.val, by omega⟩ q) = W (ix2 0 q) * gradU m c (30 - k + r.val) q := by
  refine (pad_rows k l P W hb hp hz _ q).trans ?_
  have e : 30 + r.val - k = 30 - k + r.val := by omega
  by_cases h : k ≤ 30 + r.val ∧ 30 + r.val - k < 8192
  · rw [dif_pos h, hP, mul_comm]
    exact congrArg (fun n => _ * gradU m c n q) e
  · rw [dif_neg h, gradU_out m c _ (by omega), mul_zero]

/-- Terms added from the last to the first. -/
theorem sum_down (F : ℕ → EReal) : F 30 + F 29 + F 28 + F 27 + F 26 + F 25 + F 24 + F 23 + F 22 + F 21 + F 20 + F 19 + F 18 + F 17 + F 16 + F 15 + F 14 + F 13 + F 12 + F 11 + F 10 + F 9 + F 8 + F 7 + F 6 + F 5 + F 4 + F 3 + F 2 + F 1 + F 0 = ∑ k : Fin 31, F k.val := by
  rw [Fin.sum_univ_eq_sum_range F 31]
  simp only [Finset.sum_range_succ, Finset.sum_range_zero, zero_add]
  ac_rfl

theorem pick (F : ℕ → EReal) (j : ℕ) (hj : j < 31) : (if j = 30 then F 30 else 0) + (if j = 29 then F 29 else 0) + (if j = 28 then F 28 else 0) + (if j = 27 then F 27 else 0) + (if j = 26 then F 26 else 0) + (if j = 25 then F 25 else 0) + (if j = 24 then F 24 else 0) + (if j = 23 then F 23 else 0) + (if j = 22 then F 22 else 0) + (if j = 21 then F 21 else 0) + (if j = 20 then F 20 else 0) + (if j = 19 then F 19 else 0) + (if j = 18 then F 18 else 0) + (if j = 17 then F 17 else 0) + (if j = 16 then F 16 else 0) + (if j = 15 then F 15 else 0) + (if j = 14 then F 14 else 0) + (if j = 13 then F 13 else 0) + (if j = 12 then F 12 else 0) + (if j = 11 then F 11 else 0) + (if j = 10 then F 10 else 0) + (if j = 9 then F 9 else 0) + (if j = 8 then F 8 else 0) + (if j = 7 then F 7 else 0) + (if j = 6 then F 6 else 0) + (if j = 5 then F 5 else 0) + (if j = 4 then F 4 else 0) + (if j = 3 then F 3 else 0) + (if j = 2 then F 2 else 0) + (if j = 1 then F 1 else 0) + (if j = 0 then F 0 else 0) = F j := by
  refine (sum_down fun k => if j = k then F k else 0).trans ?_
  rw [Fin.sum_univ_eq_sum_range (fun k => if j = k then F k else 0) 31, Finset.sum_ite_eq, if_pos (Finset.mem_range.2 hj)]

/-- What reaches the gated rows is the sum over the taps. -/
theorem ref_back (c : Dev nD) (V0) (e3 : V0 (Proc.devRef .tc ConvBwdRefIdeal.main_arg3) = wA m c)
    (hu : ∀ r q, (ConvBwdRefIdeal.Value.res_main_v64 (F := Ideal) V0 : FVec Ideal ConvBwdRefIdeal.S8192x512 .f32) (ix2 r q) = gradU m c r.val q) (r : Fin 8192) (q : Fin 512) :
    (ConvBwdRefIdeal.Value.res_main_v643 (F := Ideal) V0 : FVec Ideal ConvBwdRefIdeal.S8192x512 .f32) (ix2 r q) = backA m c r.val q := by
  have h : (ConvBwdRefIdeal.Value.res_main_v641 (F := Ideal) V0 : FVec Ideal ConvBwdRefIdeal.S8222x512 .f32) (ix2 ⟨30 + r.val, by omega⟩ q) = backA m c r.val q := by
    unfold ConvBwdRefIdeal.Value.res_main_v641 ConvBwdRefIdeal.Value.res_main_v498
    generalize ConvBwdRefIdeal.Value.res_main_v64 V0 = P at hu ⊢
    simp only [addf_apply]
    simp only [fun k l hk => back_term m c k l hk P hu, Nat.reduceLT]
    unfold ConvBwdRefIdeal.Value.res_main_v84 ConvBwdRefIdeal.Value.res_main_v90 ConvBwdRefIdeal.Value.res_main_v97 ConvBwdRefIdeal.Value.res_main_v104 ConvBwdRefIdeal.Value.res_main_v111 ConvBwdRefIdeal.Value.res_main_v118 ConvBwdRefIdeal.Value.res_main_v125 ConvBwdRefIdeal.Value.res_main_v132 ConvBwdRefIdeal.Value.res_main_v139 ConvBwdRefIdeal.Value.res_main_v146 ConvBwdRefIdeal.Value.res_main_v153 ConvBwdRefIdeal.Value.res_main_v160 ConvBwdRefIdeal.Value.res_main_v167 ConvBwdRefIdeal.Value.res_main_v174 ConvBwdRefIdeal.Value.res_main_v181 ConvBwdRefIdeal.Value.res_main_v188 ConvBwdRefIdeal.Value.res_main_v195 ConvBwdRefIdeal.Value.res_main_v202 ConvBwdRefIdeal.Value.res_main_v209 ConvBwdRefIdeal.Value.res_main_v216 ConvBwdRefIdeal.Value.res_main_v223 ConvBwdRefIdeal.Value.res_main_v230 ConvBwdRefIdeal.Value.res_main_v237 ConvBwdRefIdeal.Value.res_main_v244 ConvBwdRefIdeal.Value.res_main_v251 ConvBwdRefIdeal.Value.res_main_v258 ConvBwdRefIdeal.Value.res_main_v265 ConvBwdRefIdeal.Value.res_main_v272 ConvBwdRefIdeal.Value.res_main_v279 ConvBwdRefIdeal.Value.res_main_v286 ConvBwdRefIdeal.Value.res_main_v293
    rw [e3]
    simp only [fun k hk => w_row k hk (wA m c), Nat.reduceLT]
    exact sum_down fun k => if h : k < 31 then wA m c (ix2 ⟨k, h⟩ q) * gradU m c (30 - k + r.val) q else 0
  unfold ConvBwdRefIdeal.Value.res_main_v643
  generalize ConvBwdRefIdeal.Value.res_main_v641 V0 = Q at h ⊢
  pointwise [h]

theorem ref_taps (c : Dev nD) (V0) (hP : ∀ n q, (ConvBwdRefIdeal.Value.res_main_v79 (F := Ideal) V0 : FVec Ideal ConvBwdRefIdeal.S8222x512 .f32) (ix2 n q) = padded m c n.val q)
    (hu : ∀ r q, (ConvBwdRefIdeal.Value.res_main_v64 (F := Ideal) V0 : FVec Ideal ConvBwdRefIdeal.S8192x512 .f32) (ix2 r q) = gradU m c r.val q) (j : Fin 31) (q : Fin 512)
    (T : FVec Ideal ConvBwdRefIdeal.S31x512 .f32) (hT : T (ix2 j q) = if j.val = 0 then ∑ r : Fin 8192, padded m c (0 + r.val) q * gradU m c r.val q else 0) :
    (addf (ConvBwdRefIdeal.Value.res_main_v628 (F := Ideal) V0) T : FVec Ideal ConvBwdRefIdeal.S31x512 .f32) (ix2 j q) = ∑ r : Fin 8192, gradU m c r.val q * padded m c (j.val + r.val) q := by
  unfold ConvBwdRefIdeal.Value.res_main_v628 ConvBwdRefIdeal.Value.res_main_v518 ConvBwdRefIdeal.Value.res_main_v408
  generalize ConvBwdRefIdeal.Value.res_main_v64 V0 = P at hu ⊢
  simp only [addf_apply, hT]
  simp only [fun k l X hb hp hz => pad_row k l X hb hp hz j q]
  simp only [fun X h1 h3 h4 h5 => sum_rows X P h1 h3 h4 h5 q, hu]
  unfold ConvBwdRefIdeal.Value.res_main_v87 ConvBwdRefIdeal.Value.res_main_v94 ConvBwdRefIdeal.Value.res_main_v101 ConvBwdRefIdeal.Value.res_main_v108 ConvBwdRefIdeal.Value.res_main_v115 ConvBwdRefIdeal.Value.res_main_v122 ConvBwdRefIdeal.Value.res_main_v129 ConvBwdRefIdeal.Value.res_main_v136 ConvBwdRefIdeal.Value.res_main_v143 ConvBwdRefIdeal.Value.res_main_v150 ConvBwdRefIdeal.Value.res_main_v157 ConvBwdRefIdeal.Value.res_main_v164 ConvBwdRefIdeal.Value.res_main_v171 ConvBwdRefIdeal.Value.res_main_v178 ConvBwdRefIdeal.Value.res_main_v185 ConvBwdRefIdeal.Value.res_main_v192 ConvBwdRefIdeal.Value.res_main_v199 ConvBwdRefIdeal.Value.res_main_v206 ConvBwdRefIdeal.Value.res_main_v213 ConvBwdRefIdeal.Value.res_main_v220 ConvBwdRefIdeal.Value.res_main_v227 ConvBwdRefIdeal.Value.res_main_v234 ConvBwdRefIdeal.Value.res_main_v241 ConvBwdRefIdeal.Value.res_main_v248 ConvBwdRefIdeal.Value.res_main_v255 ConvBwdRefIdeal.Value.res_main_v262 ConvBwdRefIdeal.Value.res_main_v269 ConvBwdRefIdeal.Value.res_main_v276 ConvBwdRefIdeal.Value.res_main_v283 ConvBwdRefIdeal.Value.res_main_v290
  generalize ConvBwdRefIdeal.Value.res_main_v79 V0 = G at hP ⊢
  simp only [fun k hk => rows_from m c k hk G hP, Nat.reduceLT]
  refine (pick (fun k => ∑ r : Fin 8192, padded m c (k + r.val) q * gradU m c r.val q) j.val j.isLt).trans ?_
  exact Finset.sum_congr rfl fun r _ => mul_comm _ _

/-! ## The results -/

/-- An extended real whose absolute value is below the top is a real. -/
theorem real_of_abs_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | coe r => exact ⟨r, rfl⟩
  | top => exact absurd h (by simp [Ideal.cmp, max_def])
  | bot => exact absurd h (by simp [Ideal.cmp, max_def])

theorem pre_facts : Pre_finite_norm.Facts := ⟨by decide, by decide, by decide⟩

/-- Sums over the rows. -/
theorem col_sum (X : FVec Ideal ConvBwdRefIdeal.S8192x512 .f32) (hb) (h1 : ConvBwdRefIdeal.S8192x512.ReducesTo [0] ConvBwdRefIdeal.S512) (h3 h4)
    (h5 : ConvBwdRefIdeal.S1x512.ReducesTo [0] ConvBwdRefIdeal.S512) (y : ConvBwdRefIdeal.S1x512.Idx) :
    (broadcastInDim ConvBwdRefIdeal.S1x512 ![1] hb (Host.reduceAdd (shapeCast ConvBwdRefIdeal.S1x512 (Host.reduceAdd X (constant ConvBwdRefIdeal.S_ .f32 0x00000000#32) h1 h3) h4)
      (constant ConvBwdRefIdeal.S_ .f32 0x00000000#32) h5 h3) : FVec Ideal ConvBwdRefIdeal.S1x512 .f32) y = ∑ r : Fin 8192, X (ix2 r (y 1)) := by
  idx_vars y
  pointwise
  simp only [Fin.sum_univ_one]

/-- The weight's gradient with a last row of zeros. -/
theorem last_row (Q : FVec Ideal ConvBwdRefIdeal.S31x512 .f32) (hp : ConvBwdRefIdeal.S31x512.Pads ![0, 0] ![1, 0] ![0, 0] ConvBwdRefIdeal.S32x512) (hz) (f : ℕ → Fin 512 → EReal)
    (hQ : ∀ j q, Q (ix2 j q) = f j.val q) (j : Fin 32) (q : Fin 512) :
    (pad ConvBwdRefIdeal.S32x512 ![0, 0] ![1, 0] ![0, 0] Q (sitofp .f32 (constantI ConvBwdRefIdeal.S_ 32 0#32)) hp hz : FVec Ideal ConvBwdRefIdeal.S32x512 .f32) (ix2 j q)
      = if j.val < 31 then f j.val q else 0 := by
  pointwise [hQ]
  simp [FloatOps.sitofp]

theorem algebraic : algebraic_ConvBwdIdeal_ConvBwdRefIdeal_pre_finite_norm (hConvBwdIdeal := Gen.facts) (hConvBwdRefIdeal := ConvBwdRefIdeal.Gen.facts)
    (hPre_finite_norm := pre_facts) := by
  intro m ρ m' ρ' hpre hag
  refine ⟨_, _, _, _, _, ConvBwdIdeal.Value.run_blocks m ρ, (θ_run _ _ _).mono (fun _ h c => ?_) (ConvBwdRefIdeal.Value.run (F := Ideal) m' ρ')⟩
  obtain ⟨h0, h1, h2, h3, h4, h⟩ := h c
  obtain ⟨g0, g1, g2, g3, g4, g5⟩ := hag c
  have hd : ∀ (r : Fin 8192) k, ∃ x : ℝ, dRow m c r.val k = (x : EReal) := fun r k => by
    rw [dRow_fin]
    have hp := congrFun (hpre c).1 (ix2 r k)
    clear h0 h1 h2 h3 h4 h
    clear * - hp
    refine real_of_abs_lt _ (.trans ?_ hp)
    pointwise [Pre_finite_norm.fn]
    rfl
  have hg : ∀ k, ∃ x : ℝ, gV m c k = (x : EReal) := fun k => real_of_abs_lt _ (congrFun (hpre c).2 (ix1 k))
  have hz : ∀ r q, (ConvBwdRefIdeal.Value.res_main_v31 (F := Ideal) (StableHlo.launchContents m' c) : FVec Ideal ConvBwdRefIdeal.S8192x512 .f32) (ix2 r q) = gradZ m c r.val q :=
    fun r q => (ref_dz m c _ g1 g2 g4 g5 r q).trans (dz_eq _ _ _ _ (hd r) hg q).symm
  have hu : ∀ r q, (ConvBwdRefIdeal.Value.res_main_v64 (F := Ideal) (StableHlo.launchContents m' c) : FVec Ideal ConvBwdRefIdeal.S8192x512 .f32) (ix2 r q) = gradU m c r.val q :=
    fun r q => (ref_du m c _ g1 g2 g4 g5 r q).trans (du_eq_duD _ _ _ _ (hd r) hg q).symm
  have hx := ref_xh m c (StableHlo.launchContents m' c) g1
  have hP := ref_padded m c (StableHlo.launchContents m' c) g0
  have hB := ref_back m c (StableHlo.launchContents m' c) g3 hu
  refine ⟨h0.trans (.trans ?_ (arr_9 m c).symm), h1.trans (.trans ?_ (arr_10 m c).symm), h2.trans (.trans ?_ (arr_11 m c).symm),
    h3.trans (.trans ?_ (arr_12 m c).symm), h4.trans (.trans ?_ (arr_13 m c).symm), h⟩ <;>
    clear h0 h1 h2 h3 h4 h
  · unfold ConvBwdRefIdeal.Value.res_main_v66 ConvBwdRefIdeal.Value.res_main_v73
    rw [show StableHlo.launchContents m' c (Proc.devRef .tc ConvBwdRefIdeal.main_arg0) = xA m c from g0]
    generalize ConvBwdRefIdeal.Value.res_main_v643 (StableHlo.launchContents m' c) = B at hB
    funext j
    idx_vars j
    pointwise [resIn, hB, gate]
    by_cases h : j1.val < 512
    · rw [dif_pos h, dif_pos h]
      simp only [Nat.add_comm 512]
    · rw [dif_neg h, dif_neg h]
      simp only [show 512 + (j1.val - 512) = j1.val by omega]
      rw [mul_comm (xA m c _) (backA m c _ _), mul_assoc (backA m c _ _ * _)]
  · have hT := fun j q => ref_taps m c (StableHlo.launchContents m' c) hP hu j q
    funext j
    idx_vars j
    have h81 : ∀ r q, (ConvBwdRefIdeal.Value.res_main_v81 (F := Ideal) (StableHlo.launchContents m' c) : FVec Ideal ConvBwdRefIdeal.S8192x512 .f32) (ix2 r q) = padded m c (0 + r.val) q :=
      fun r q => by unfold ConvBwdRefIdeal.Value.res_main_v81; exact rows_from m c 0 (by decide) _ hP _ r q
    clear * - hT h81 hu
    generalize hT0 : pad (s := ConvBwdRefIdeal.S1x512) ConvBwdRefIdeal.S31x512 ![0, 0] ![30, 0] ![0, 0] _ _ _ _ = T
    have hS := fun j q => hT j q T (by
      rw [← hT0]
      refine (pad_row 0 30 _ _ _ _ j q).trans ?_
      refine if_congr Iff.rfl ((sum_rows _ _ _ _ _ _ q).trans (Finset.sum_congr rfl fun r _ => ?_)) rfl
      exact congrArg₂ (fun a b : EReal => a * b) (h81 r q) (hu r q))
    clear hT0 hT
    generalize addf _ T = Q at hS ⊢
    exact last_row Q _ _ (fun n q => ∑ r : Fin 8192, gradU m c r.val q * padded m c (n + r.val) q) hS j0 j1
  · funext y
    exact (col_sum _ _ _ _ _ _ y).trans (Finset.sum_congr rfl fun r _ => hu r (y 1))
  · funext y
    refine (col_sum _ _ _ _ _ _ y).trans (Finset.sum_congr rfl fun r _ => ?_)
    exact (congrArg₂ (fun a b : EReal => a * b) (hx r (y 1)) (hz r (y 1))).trans (mul_comm _ _)
  · funext y
    exact (col_sum _ _ _ _ _ _ y).trans (Finset.sum_congr rfl fun r _ => hz r (y 1))

end Cert.ConvBwdIdeal.Fwd

end
-- ==== Proof.lean ====
/-
  The claims, call by call: the frame of the kernel, of its ideal reading and of the reference, the idealization (no
  rule), and the equality of the results at the extended reals.
-/
module

public import proofs.«01_k».proof.Defs
public import proofs.«01_k».proof.Proof.Gen.KernelIdeal.Value
public import proofs.«01_k».proof.Proof.Gen.ReferenceIdeal.Run
public import proofs.«01_k».proof.Proof.Gen.GradWUpIdeal.Value
public import proofs.«01_k».proof.Proof.Gen.GradWUpRefIdeal.Run
public import proofs.«01_k».proof.Proof.Gen.GradWDownIdeal.Value
public import proofs.«01_k».proof.Proof.Gen.GradWDownRefIdeal.Run
public import proofs.«01_k».proof.Proof.Gen.GradWOutIdeal.Value
public import proofs.«01_k».proof.Proof.Gen.GradWOutRefIdeal.Run
public import proofs.«01_k».proof.Proof.Gen.GradWInIdeal.Value
public import proofs.«01_k».proof.Proof.Gen.GradWInRefIdeal.Run
public import proofs.«01_k».proof.Proof.Gen.DActIdeal.Value
public import proofs.«01_k».proof.Proof.Gen.DActRefIdeal.Run
public import proofs.«01_k».proof.Proof.Gen.DCatIdeal.Value
public import proofs.«01_k».proof.Proof.Gen.DCatRefIdeal.Run
public import proofs.«01_k».proof.Proof.Gen.ProjBwdIdeal.Value
public import proofs.«01_k».proof.Proof.Gen.ProjBwdRefIdeal.Run
public import proofs.«01_k».proof.Proof.Gen.MixOutIdeal.Value
public import proofs.«01_k».proof.Proof.Gen.MixOutRefIdeal.Run
public import proofs.«01_k».proof.Proof.Gen.DownLossIdeal.Value
public import proofs.«01_k».proof.Proof.Gen.DownLossRefIdeal.Run
public import proofs.«01_k».proof.Proof.Gen.AdamWInIdeal.Value
public import proofs.«01_k».proof.Proof.Gen.AdamWInRefIdeal.Run
public import proofs.«01_k».proof.Proof.Gen.AdamWOutIdeal.Value
public import proofs.«01_k».proof.Proof.Gen.AdamWOutRefIdeal.Run
public import proofs.«01_k».proof.Proof.Gen.AdamWUpIdeal.Value
public import proofs.«01_k».proof.Proof.Gen.AdamWUpRefIdeal.Run
public import proofs.«01_k».proof.Proof.Gen.AdamWDownIdeal.Value
public import proofs.«01_k».proof.Proof.Gen.AdamWDownRefIdeal.Run
public import proofs.«01_k».proof.Proof.Gen.AdamSmallRefIdeal.Run
public import proofs.«01_k».proof.Proof.Gen.SumInRefIdeal.Run
public import proofs.«01_k».proof.Proof.Gen.SumOutIdeal.Value
public import proofs.«01_k».proof.Proof.Gen.SumOutRefIdeal.Run
public import proofs.«01_k».proof.Proof.Gen.SumUpRefIdeal.Run
public import proofs.«01_k».proof.Proof.Gen.SumDownIdeal.Value
public import proofs.«01_k».proof.Proof.Gen.SumDownRefIdeal.Run
public import proofs.«01_k».proof.Proof.Gen.SumSmallRefIdeal.Run
public import proofs.«01_k».proof.Proof.Gen.NormFwdIdeal.Value
public import proofs.«01_k».proof.Proof.Gen.NormFwdRefIdeal.Run
public import proofs.«01_k».proof.Proof.Gen.ProjFwdIdeal.Value
public import proofs.«01_k».proof.Proof.Gen.ProjFwdRefIdeal.Run
public import proofs.«01_k».proof.Proof.Gen.UpFwdActIdeal.Value
public import proofs.«01_k».proof.Proof.Gen.UpFwdActRefIdeal.Run
public import proofs.«01_k».proof.Proof.Gen.ConvFwdIdeal.Value
public import proofs.«01_k».proof.Proof.Gen.ConvFwdRefIdeal.Run
public import proofs.«01_k».proof.Proof.Gen.ConvBwdIdeal.Value
public import proofs.«01_k».proof.Proof.Gen.ConvBwdRefIdeal.Run
public import proofs.«01_k».proof.Proof.Gen.Kernel
public import proofs.«01_k».proof.Proof.Gen.Kernel.Frame
public import proofs.«01_k».proof.Proof.Gen.KernelIdeal.Frame
public import proofs.«01_k».proof.Proof.Gen.GradWUp
public import proofs.«01_k».proof.Proof.Gen.GradWUp.Frame
public import proofs.«01_k».proof.Proof.Gen.GradWUpIdeal.Frame
public import proofs.«01_k».proof.Proof.Gen.GradWDown
public import proofs.«01_k».proof.Proof.Gen.GradWDown.Frame
public import proofs.«01_k».proof.Proof.Gen.GradWDownIdeal.Frame
public import proofs.«01_k».proof.Proof.Gen.GradWOut
public import proofs.«01_k».proof.Proof.Gen.GradWOut.Frame
public import proofs.«01_k».proof.Proof.Gen.GradWOutIdeal.Frame
public import proofs.«01_k».proof.Proof.Gen.GradWIn
public import proofs.«01_k».proof.Proof.Gen.GradWIn.Frame
public import proofs.«01_k».proof.Proof.Gen.GradWInIdeal.Frame
public import proofs.«01_k».proof.Proof.Gen.DAct
public import proofs.«01_k».proof.Proof.Gen.DAct.Frame
public import proofs.«01_k».proof.Proof.Gen.DActIdeal.Frame
public import proofs.«01_k».proof.Proof.Gen.DCat
public import proofs.«01_k».proof.Proof.Gen.DCat.Frame
public import proofs.«01_k».proof.Proof.Gen.DCatIdeal.Frame
public import proofs.«01_k».proof.Proof.Gen.ProjBwd
public import proofs.«01_k».proof.Proof.Gen.ProjBwd.Frame
public import proofs.«01_k».proof.Proof.Gen.ProjBwdIdeal.Frame
public import proofs.«01_k».proof.Proof.Gen.MixOut
public import proofs.«01_k».proof.Proof.Gen.MixOut.Frame
public import proofs.«01_k».proof.Proof.Gen.MixOutIdeal.Frame
public import proofs.«01_k».proof.Proof.Gen.DownLoss
public import proofs.«01_k».proof.Proof.Gen.DownLoss.Frame
public import proofs.«01_k».proof.Proof.Gen.DownLossIdeal.Frame
public import proofs.«01_k».proof.Proof.Gen.AdamWIn
public import proofs.«01_k».proof.Proof.Gen.AdamWIn.Frame
public import proofs.«01_k».proof.Proof.Gen.AdamWInIdeal.Frame
public import proofs.«01_k».proof.Proof.Gen.AdamWOut
public import proofs.«01_k».proof.Proof.Gen.AdamWOut.Frame
public import proofs.«01_k».proof.Proof.Gen.AdamWOutIdeal.Frame
public import proofs.«01_k».proof.Proof.Gen.AdamWUp
public import proofs.«01_k».proof.Proof.Gen.AdamWUp.Frame
public import proofs.«01_k».proof.Proof.Gen.AdamWUpIdeal.Frame
public import proofs.«01_k».proof.Proof.Gen.AdamWDown
public import proofs.«01_k».proof.Proof.Gen.AdamWDown.Frame
public import proofs.«01_k».proof.Proof.Gen.AdamWDownIdeal.Frame
public import proofs.«01_k».proof.Proof.Gen.AdamSmall
public import proofs.«01_k».proof.Proof.Gen.AdamSmall.Frame
public import proofs.«01_k».proof.Proof.Gen.AdamSmallIdeal.Frame
public import proofs.«01_k».proof.Proof.Gen.SumIn
public import proofs.«01_k».proof.Proof.Gen.SumIn.Frame
public import proofs.«01_k».proof.Proof.Gen.SumInIdeal.Frame
public import proofs.«01_k».proof.Proof.Gen.SumOut
public import proofs.«01_k».proof.Proof.Gen.SumOut.Frame
public import proofs.«01_k».proof.Proof.Gen.SumOutIdeal.Frame
public import proofs.«01_k».proof.Proof.Gen.SumUp
public import proofs.«01_k».proof.Proof.Gen.SumUp.Frame
public import proofs.«01_k».proof.Proof.Gen.SumUpIdeal.Frame
public import proofs.«01_k».proof.Proof.Gen.SumDown
public import proofs.«01_k».proof.Proof.Gen.SumDown.Frame
public import proofs.«01_k».proof.Proof.Gen.SumDownIdeal.Frame
public import proofs.«01_k».proof.Proof.Gen.SumSmall
public import proofs.«01_k».proof.Proof.Gen.SumSmall.Frame
public import proofs.«01_k».proof.Proof.Gen.SumSmallIdeal.Frame
public import proofs.«01_k».proof.Proof.Gen.NormFwd
public import proofs.«01_k».proof.Proof.Gen.NormFwd.Frame
public import proofs.«01_k».proof.Proof.Gen.NormFwdIdeal.Frame
public import proofs.«01_k».proof.Proof.Gen.ProjFwd
public import proofs.«01_k».proof.Proof.Gen.ProjFwd.Frame
public import proofs.«01_k».proof.Proof.Gen.ProjFwdIdeal.Frame
public import proofs.«01_k».proof.Proof.Gen.UpFwdAct
public import proofs.«01_k».proof.Proof.Gen.UpFwdAct.Frame
public import proofs.«01_k».proof.Proof.Gen.UpFwdActIdeal.Frame
public import proofs.«01_k».proof.Proof.Gen.ConvFwd
public import proofs.«01_k».proof.Proof.Gen.ConvFwd.Frame
public import proofs.«01_k».proof.Proof.Gen.ConvFwdIdeal.Frame
public import proofs.«01_k».proof.Proof.Gen.ConvBwd
public import proofs.«01_k».proof.Proof.Gen.ConvBwd.Frame
public import proofs.«01_k».proof.Proof.Gen.ConvBwdIdeal.Frame
public import proofs.«01_k».proof.Proof.Up.Claim
public import proofs.«01_k».proof.Proof.Prod.GradWUp
public import proofs.«01_k».proof.Proof.Prod.GradWDown
public import proofs.«01_k».proof.Proof.Prod.GradWOut
public import proofs.«01_k».proof.Proof.Prod.GradWIn
public import proofs.«01_k».proof.Proof.Prod.DAct
public import proofs.«01_k».proof.Proof.Prod.DCat
public import proofs.«01_k».proof.Proof.Prod.ProjBwdClaim
public import proofs.«01_k».proof.Proof.Prod.MixOut
public import proofs.«01_k».proof.Proof.Prod.DownLoss
public import proofs.«01_k».proof.Proof.Opt.AdamWIn
public import proofs.«01_k».proof.Proof.Opt.AdamWOut
public import proofs.«01_k».proof.Proof.Opt.AdamWUp
public import proofs.«01_k».proof.Proof.Opt.AdamWDown
public import proofs.«01_k».proof.Proof.Opt.AdamSmallClaim
public import proofs.«01_k».proof.Proof.Opt.SumIn
public import proofs.«01_k».proof.Proof.Opt.SumOut
public import proofs.«01_k».proof.Proof.Opt.SumUp
public import proofs.«01_k».proof.Proof.Opt.SumDown
public import proofs.«01_k».proof.Proof.Opt.SumSmall
public import proofs.«01_k».proof.Proof.Fwd.NormFwd
public import proofs.«01_k».proof.Proof.Fwd.ProjFwd
public import proofs.«01_k».proof.Proof.Fwd.UpFwdAct
public import proofs.«01_k».proof.Proof.Fwd.ConvFwd
public import proofs.«01_k».proof.Proof.Fwd.ConvBwd
public import Idealize.ShloMosaic.Adequacy
public import Idealize.ShloMosaic.Init

@[expose] public section

noncomputable section

namespace Cert.Proof

open Idealize.ShloMosaic Idealize.ShloMosaic.TcCoe Idealize.SL.Sem

/-! ## The references' frames: each run leaves the arguments as they were -/

theorem frame_ReferenceIdeal : quiescent_ReferenceIdeal (hReferenceIdeal := ReferenceIdeal.Gen.facts) := fun m ρ _ =>
  (θ_run _ _ _).mono (fun r h => ⟨fun c => (h c).2.2.2, sem_eq_zero_of_no_sems (by decide) r.2⟩)
    (ReferenceIdeal.Value.run (F := Ideal) m ρ)
theorem frame_GradWUpRefIdeal : quiescent_GradWUpRefIdeal (hGradWUpRefIdeal := GradWUpRefIdeal.Gen.facts) := fun m ρ _ =>
  (θ_run _ _ _).mono (fun r h => ⟨fun c => (h c).2, sem_eq_zero_of_no_sems (by decide) r.2⟩)
    (GradWUpRefIdeal.Value.run (F := Ideal) m ρ)
theorem frame_GradWDownRefIdeal : quiescent_GradWDownRefIdeal (hGradWDownRefIdeal := GradWDownRefIdeal.Gen.facts) := fun m ρ _ =>
  (θ_run _ _ _).mono (fun r h => ⟨fun c => (h c).2, sem_eq_zero_of_no_sems (by decide) r.2⟩)
    (GradWDownRefIdeal.Value.run (F := Ideal) m ρ)
theorem frame_GradWOutRefIdeal : quiescent_GradWOutRefIdeal (hGradWOutRefIdeal := GradWOutRefIdeal.Gen.facts) := fun m ρ _ =>
  (θ_run _ _ _).mono (fun r h => ⟨fun c => (h c).2, sem_eq_zero_of_no_sems (by decide) r.2⟩)
    (GradWOutRefIdeal.Value.run (F := Ideal) m ρ)
theorem frame_GradWInRefIdeal : quiescent_GradWInRefIdeal (hGradWInRefIdeal := GradWInRefIdeal.Gen.facts) := fun m ρ _ =>
  (θ_run _ _ _).mono (fun r h => ⟨fun c => (h c).2, sem_eq_zero_of_no_sems (by decide) r.2⟩)
    (GradWInRefIdeal.Value.run (F := Ideal) m ρ)
theorem frame_DActRefIdeal : quiescent_DActRefIdeal (hDActRefIdeal := DActRefIdeal.Gen.facts) := fun m ρ _ =>
  (θ_run _ _ _).mono (fun r h => ⟨fun c => (h c).2, sem_eq_zero_of_no_sems (by decide) r.2⟩)
    (DActRefIdeal.Value.run (F := Ideal) m ρ)
theorem frame_DCatRefIdeal : quiescent_DCatRefIdeal (hDCatRefIdeal := DCatRefIdeal.Gen.facts) := fun m ρ _ =>
  (θ_run _ _ _).mono (fun r h => ⟨fun c => (h c).2, sem_eq_zero_of_no_sems (by decide) r.2⟩)
    (DCatRefIdeal.Value.run (F := Ideal) m ρ)
theorem frame_ProjBwdRefIdeal : quiescent_ProjBwdRefIdeal (hProjBwdRefIdeal := ProjBwdRefIdeal.Gen.facts) := fun m ρ _ =>
  (θ_run _ _ _).mono (fun r h => ⟨fun c => (h c).2.2, sem_eq_zero_of_no_sems (by decide) r.2⟩)
    (ProjBwdRefIdeal.Value.run (F := Ideal) m ρ)
theorem frame_MixOutRefIdeal : quiescent_MixOutRefIdeal (hMixOutRefIdeal := MixOutRefIdeal.Gen.facts) := fun m ρ _ =>
  (θ_run _ _ _).mono (fun r h => ⟨fun c => (h c).2.2, sem_eq_zero_of_no_sems (by decide) r.2⟩)
    (MixOutRefIdeal.Value.run (F := Ideal) m ρ)
theorem frame_DownLossRefIdeal : quiescent_DownLossRefIdeal (hDownLossRefIdeal := DownLossRefIdeal.Gen.facts) := fun m ρ _ =>
  (θ_run _ _ _).mono (fun r h => ⟨fun c => (h c).2.2.2, sem_eq_zero_of_no_sems (by decide) r.2⟩)
    (DownLossRefIdeal.Value.run (F := Ideal) m ρ)
theorem frame_AdamWInRefIdeal : quiescent_AdamWInRefIdeal (hAdamWInRefIdeal := AdamWInRefIdeal.Gen.facts) := fun m ρ _ =>
  (θ_run _ _ _).mono (fun r h => ⟨fun c => (h c).2.2.2, sem_eq_zero_of_no_sems (by decide) r.2⟩)
    (AdamWInRefIdeal.Value.run (F := Ideal) m ρ)
theorem frame_AdamWOutRefIdeal : quiescent_AdamWOutRefIdeal (hAdamWOutRefIdeal := AdamWOutRefIdeal.Gen.facts) := fun m ρ _ =>
  (θ_run _ _ _).mono (fun r h => ⟨fun c => (h c).2.2.2, sem_eq_zero_of_no_sems (by decide) r.2⟩)
    (AdamWOutRefIdeal.Value.run (F := Ideal) m ρ)
theorem frame_AdamWUpRefIdeal : quiescent_AdamWUpRefIdeal (hAdamWUpRefIdeal := AdamWUpRefIdeal.Gen.facts) := fun m ρ _ =>
  (θ_run _ _ _).mono (fun r h => ⟨fun c => (h c).2.2.2, sem_eq_zero_of_no_sems (by decide) r.2⟩)
    (AdamWUpRefIdeal.Value.run (F := Ideal) m ρ)
theorem frame_AdamWDownRefIdeal : quiescent_AdamWDownRefIdeal (hAdamWDownRefIdeal := AdamWDownRefIdeal.Gen.facts) := fun m ρ _ =>
  (θ_run _ _ _).mono (fun r h => ⟨fun c => (h c).2.2.2, sem_eq_zero_of_no_sems (by decide) r.2⟩)
    (AdamWDownRefIdeal.Value.run (F := Ideal) m ρ)
theorem frame_AdamSmallRefIdeal : quiescent_AdamSmallRefIdeal (hAdamSmallRefIdeal := AdamSmallRefIdeal.Gen.facts) := fun m ρ _ =>
  (θ_run _ _ _).mono (fun r h => ⟨fun c => (h c).2.2.2.2.2.2.2.2.2.2.2.2.2.2.2.2.2.2.2.2.2.2.2.2.2.2.2.2.2.2, sem_eq_zero_of_no_sems (by decide) r.2⟩)
    (AdamSmallRefIdeal.Value.run (F := Ideal) m ρ)
theorem frame_SumInRefIdeal : quiescent_SumInRefIdeal (hSumInRefIdeal := SumInRefIdeal.Gen.facts) := fun m ρ _ =>
  (θ_run _ _ _).mono (fun r h => ⟨fun c => (h c).2, sem_eq_zero_of_no_sems (by decide) r.2⟩)
    (SumInRefIdeal.Value.run (F := Ideal) m ρ)
theorem frame_SumOutRefIdeal : quiescent_SumOutRefIdeal (hSumOutRefIdeal := SumOutRefIdeal.Gen.facts) := fun m ρ _ =>
  (θ_run _ _ _).mono (fun r h => ⟨fun c => (h c).2, sem_eq_zero_of_no_sems (by decide) r.2⟩)
    (SumOutRefIdeal.Value.run (F := Ideal) m ρ)
theorem frame_SumUpRefIdeal : quiescent_SumUpRefIdeal (hSumUpRefIdeal := SumUpRefIdeal.Gen.facts) := fun m ρ _ =>
  (θ_run _ _ _).mono (fun r h => ⟨fun c => (h c).2, sem_eq_zero_of_no_sems (by decide) r.2⟩)
    (SumUpRefIdeal.Value.run (F := Ideal) m ρ)
theorem frame_SumDownRefIdeal : quiescent_SumDownRefIdeal (hSumDownRefIdeal := SumDownRefIdeal.Gen.facts) := fun m ρ _ =>
  (θ_run _ _ _).mono (fun r h => ⟨fun c => (h c).2, sem_eq_zero_of_no_sems (by decide) r.2⟩)
    (SumDownRefIdeal.Value.run (F := Ideal) m ρ)
theorem frame_SumSmallRefIdeal : quiescent_SumSmallRefIdeal (hSumSmallRefIdeal := SumSmallRefIdeal.Gen.facts) := fun m ρ _ =>
  (θ_run _ _ _).mono (fun r h => ⟨fun c => (h c).2.2.2.2.2.2.2.2.2.2.2, sem_eq_zero_of_no_sems (by decide) r.2⟩)
    (SumSmallRefIdeal.Value.run (F := Ideal) m ρ)
theorem frame_NormFwdRefIdeal : quiescent_NormFwdRefIdeal (hNormFwdRefIdeal := NormFwdRefIdeal.Gen.facts) := fun m ρ _ =>
  (θ_run _ _ _).mono (fun r h => ⟨fun c => (h c).2, sem_eq_zero_of_no_sems (by decide) r.2⟩)
    (NormFwdRefIdeal.Value.run (F := Ideal) m ρ)
theorem frame_ProjFwdRefIdeal : quiescent_ProjFwdRefIdeal (hProjFwdRefIdeal := ProjFwdRefIdeal.Gen.facts) := fun m ρ _ =>
  (θ_run _ _ _).mono (fun r h => ⟨fun c => (h c).2.2.2, sem_eq_zero_of_no_sems (by decide) r.2⟩)
    (ProjFwdRefIdeal.Value.run (F := Ideal) m ρ)
theorem frame_UpFwdActRefIdeal : quiescent_UpFwdActRefIdeal (hUpFwdActRefIdeal := UpFwdActRefIdeal.Gen.facts) := fun m ρ _ =>
  (θ_run _ _ _).mono (fun r h => ⟨fun c => (h c).2.2.2, sem_eq_zero_of_no_sems (by decide) r.2⟩)
    (UpFwdActRefIdeal.Value.run (F := Ideal) m ρ)
theorem frame_ConvFwdRefIdeal : quiescent_ConvFwdRefIdeal (hConvFwdRefIdeal := ConvFwdRefIdeal.Gen.facts) := fun m ρ _ =>
  (θ_run _ _ _).mono (fun r h => ⟨fun c => (h c).2.2, sem_eq_zero_of_no_sems (by decide) r.2⟩)
    (ConvFwdRefIdeal.Value.run (F := Ideal) m ρ)
theorem frame_ConvBwdRefIdeal : quiescent_ConvBwdRefIdeal (hConvBwdRefIdeal := ConvBwdRefIdeal.Gen.facts) := fun m ρ _ =>
  (θ_run _ _ _).mono (fun r h => ⟨fun c => (h c).2.2.2.2.2, sem_eq_zero_of_no_sems (by decide) r.2⟩)
    (ConvBwdRefIdeal.Value.run (F := Ideal) m ρ)

/-! ## All of them -/

theorem claim : Cert.Claim := ⟨
  Kernel.Gen.facts, KernelIdeal.Gen.facts, ReferenceIdeal.Gen.facts,
  GradWUp.Gen.facts, GradWUpIdeal.Gen.facts, GradWUpRefIdeal.Gen.facts,
  GradWDown.Gen.facts, GradWDownIdeal.Gen.facts, GradWDownRefIdeal.Gen.facts,
  GradWOut.Gen.facts, GradWOutIdeal.Gen.facts, GradWOutRefIdeal.Gen.facts,
  GradWIn.Gen.facts, GradWInIdeal.Gen.facts, GradWInRefIdeal.Gen.facts,
  DAct.Gen.facts, DActIdeal.Gen.facts, DActRefIdeal.Gen.facts,
  DCat.Gen.facts, DCatIdeal.Gen.facts, DCatRefIdeal.Gen.facts,
  ProjBwd.Gen.facts, ProjBwdIdeal.Gen.facts, ProjBwdRefIdeal.Gen.facts,
  MixOut.Gen.facts, MixOutIdeal.Gen.facts, MixOutRefIdeal.Gen.facts,
  DownLoss.Gen.facts, DownLossIdeal.Gen.facts, DownLossRefIdeal.Gen.facts,
  AdamWIn.Gen.facts, AdamWInIdeal.Gen.facts, AdamWInRefIdeal.Gen.facts,
  AdamWOut.Gen.facts, AdamWOutIdeal.Gen.facts, AdamWOutRefIdeal.Gen.facts,
  AdamWUp.Gen.facts, AdamWUpIdeal.Gen.facts, AdamWUpRefIdeal.Gen.facts,
  AdamWDown.Gen.facts, AdamWDownIdeal.Gen.facts, AdamWDownRefIdeal.Gen.facts,
  AdamSmall.Gen.facts, AdamSmallIdeal.Gen.facts, AdamSmallRefIdeal.Gen.facts,
  SumIn.Gen.facts, SumInIdeal.Gen.facts, SumInRefIdeal.Gen.facts,
  SumOut.Gen.facts, SumOutIdeal.Gen.facts, SumOutRefIdeal.Gen.facts,
  SumUp.Gen.facts, SumUpIdeal.Gen.facts, SumUpRefIdeal.Gen.facts,
  SumDown.Gen.facts, SumDownIdeal.Gen.facts, SumDownRefIdeal.Gen.facts,
  SumSmall.Gen.facts, SumSmallIdeal.Gen.facts, SumSmallRefIdeal.Gen.facts,
  NormFwd.Gen.facts, NormFwdIdeal.Gen.facts, NormFwdRefIdeal.Gen.facts,
  ProjFwd.Gen.facts, ProjFwdIdeal.Gen.facts, ProjFwdRefIdeal.Gen.facts,
  UpFwdAct.Gen.facts, UpFwdActIdeal.Gen.facts, UpFwdActRefIdeal.Gen.facts,
  ConvFwd.Gen.facts, ConvFwdIdeal.Gen.facts, ConvFwdRefIdeal.Gen.facts,
  ConvBwd.Gen.facts, ConvBwdIdeal.Gen.facts, ConvBwdRefIdeal.Gen.facts,
  ProjFwdIdeal.Fwd.pre_facts,
  ConvBwdIdeal.Fwd.pre_facts,
  fun m ρ _ => Kernel.Gen.frame m ρ, fun m ρ _ => KernelIdeal.Gen.frame m ρ, frame_ReferenceIdeal,
  fun m ρ _ => GradWUp.Gen.frame m ρ, fun m ρ _ => GradWUpIdeal.Gen.frame m ρ, frame_GradWUpRefIdeal,
  fun m ρ _ => GradWDown.Gen.frame m ρ, fun m ρ _ => GradWDownIdeal.Gen.frame m ρ, frame_GradWDownRefIdeal,
  fun m ρ _ => GradWOut.Gen.frame m ρ, fun m ρ _ => GradWOutIdeal.Gen.frame m ρ, frame_GradWOutRefIdeal,
  fun m ρ _ => GradWIn.Gen.frame m ρ, fun m ρ _ => GradWInIdeal.Gen.frame m ρ, frame_GradWInRefIdeal,
  fun m ρ _ => DAct.Gen.frame m ρ, fun m ρ _ => DActIdeal.Gen.frame m ρ, frame_DActRefIdeal,
  fun m ρ _ => DCat.Gen.frame m ρ, fun m ρ _ => DCatIdeal.Gen.frame m ρ, frame_DCatRefIdeal,
  fun m ρ _ => ProjBwd.Gen.frame m ρ, fun m ρ _ => ProjBwdIdeal.Gen.frame m ρ, frame_ProjBwdRefIdeal,
  fun m ρ _ => MixOut.Gen.frame m ρ, fun m ρ _ => MixOutIdeal.Gen.frame m ρ, frame_MixOutRefIdeal,
  fun m ρ _ => DownLoss.Gen.frame m ρ, fun m ρ _ => DownLossIdeal.Gen.frame m ρ, frame_DownLossRefIdeal,
  fun m ρ _ => AdamWIn.Gen.frame m ρ, fun m ρ _ => AdamWInIdeal.Gen.frame m ρ, frame_AdamWInRefIdeal,
  fun m ρ _ => AdamWOut.Gen.frame m ρ, fun m ρ _ => AdamWOutIdeal.Gen.frame m ρ, frame_AdamWOutRefIdeal,
  fun m ρ _ => AdamWUp.Gen.frame m ρ, fun m ρ _ => AdamWUpIdeal.Gen.frame m ρ, frame_AdamWUpRefIdeal,
  fun m ρ _ => AdamWDown.Gen.frame m ρ, fun m ρ _ => AdamWDownIdeal.Gen.frame m ρ, frame_AdamWDownRefIdeal,
  fun m ρ _ => AdamSmall.Gen.frame m ρ, fun m ρ _ => AdamSmallIdeal.Gen.frame m ρ, frame_AdamSmallRefIdeal,
  fun m ρ _ => SumIn.Gen.frame m ρ, fun m ρ _ => SumInIdeal.Gen.frame m ρ, frame_SumInRefIdeal,
  fun m ρ _ => SumOut.Gen.frame m ρ, fun m ρ _ => SumOutIdeal.Gen.frame m ρ, frame_SumOutRefIdeal,
  fun m ρ _ => SumUp.Gen.frame m ρ, fun m ρ _ => SumUpIdeal.Gen.frame m ρ, frame_SumUpRefIdeal,
  fun m ρ _ => SumDown.Gen.frame m ρ, fun m ρ _ => SumDownIdeal.Gen.frame m ρ, frame_SumDownRefIdeal,
  fun m ρ _ => SumSmall.Gen.frame m ρ, fun m ρ _ => SumSmallIdeal.Gen.frame m ρ, frame_SumSmallRefIdeal,
  fun m ρ _ => NormFwd.Gen.frame m ρ, fun m ρ _ => NormFwdIdeal.Gen.frame m ρ, frame_NormFwdRefIdeal,
  fun m ρ _ => ProjFwd.Gen.frame m ρ, fun m ρ _ => ProjFwdIdeal.Gen.frame m ρ, fun m ρ _ => ProjFwdIdeal.Gen.frame m ρ, frame_ProjFwdRefIdeal, fun m ρ _ => frame_ProjFwdRefIdeal m ρ trivial,
  fun m ρ _ => UpFwdAct.Gen.frame m ρ, fun m ρ _ => UpFwdActIdeal.Gen.frame m ρ, frame_UpFwdActRefIdeal,
  fun m ρ _ => ConvFwd.Gen.frame m ρ, fun m ρ _ => ConvFwdIdeal.Gen.frame m ρ, frame_ConvFwdRefIdeal,
  fun m ρ _ => ConvBwd.Gen.frame m ρ, fun m ρ _ => ConvBwdIdeal.Gen.frame m ρ, fun m ρ _ => ConvBwdIdeal.Gen.frame m ρ, frame_ConvBwdRefIdeal, fun m ρ _ => frame_ConvBwdRefIdeal m ρ trivial,
  trivial, Up.algebraic,
  trivial, GradWUpIdeal.Prod.algebraic,
  trivial, GradWDownIdeal.Prod.algebraic,
  trivial, GradWOutIdeal.Prod.algebraic,
  trivial, GradWInIdeal.Prod.algebraic,
  trivial, DActIdeal.Prod.algebraic,
  trivial, DCatIdeal.Prod.algebraic,
  trivial, ProjBwdRefIdeal.Prod.algebraic,
  trivial, MixOutIdeal.Prod.algebraic,
  trivial, DownLossIdeal.Prod.algebraic,
  trivial, AdamWInIdeal.Opt.algebraic,
  trivial, AdamWOutIdeal.Opt.algebraic,
  trivial, AdamWUpIdeal.Opt.algebraic,
  trivial, AdamWDownIdeal.Opt.algebraic,
  trivial, AdamSmallIdeal.Opt.algebraic,
  trivial, SumInIdeal.Opt.algebraic,
  trivial, SumOutIdeal.Opt.algebraic,
  trivial, SumUpIdeal.Opt.algebraic,
  trivial, SumDownIdeal.Opt.algebraic,
  trivial, SumSmallIdeal.Opt.algebraic,
  trivial, NormFwdIdeal.Fwd.algebraic,
  trivial, ProjFwdIdeal.Fwd.algebraic,
  trivial, UpFwdActIdeal.Fwd.algebraic,
  trivial, ConvFwdIdeal.Fwd.algebraic,
  trivial, ConvBwdIdeal.Fwd.algebraic⟩

end Cert.Proof

end
